-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn [hPre_finite_ffn : Cert.Pre_finite_ffn.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite_ffn.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn [hPre_finite_ffn : Cert.Pre_finite_ffn.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite_ffn.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_halo [hPre_finite_halo : Cert.Pre_finite_halo.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite_halo.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_halo [hPre_finite_halo : Cert.Pre_finite_halo.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite_halo.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_ffn [hKernel2Ideal : Cert.Kernel2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_ffn [hReference2Ideal : Cert.Reference2Ideal.Facts] [hPre_finite_ffn : Cert.Pre_finite_ffn.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_halo [hKernel3Ideal : Cert.Kernel3Ideal.Facts] [hPre_finite_halo : Cert.Pre_finite_halo.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_halo m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_halo [hReference3Ideal : Cert.Reference3Ideal.Facts] [hPre_finite_halo : Cert.Pre_finite_halo.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_halo m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)) (v2 : (c : Dev Cert.KernelIdeal.nD) → Buf (Elt Ideal) ((c.tc : Thread Cert.KernelIdeal.nD Cert.KernelIdeal.τ).loc Cert.KernelIdeal.main_v72_2)) (v3 : (c : Dev Cert.KernelIdeal.nD) → Buf (Elt Ideal) ((c.tc : Thread Cert.KernelIdeal.nD Cert.KernelIdeal.τ).loc Cert.KernelIdeal.main_v72_3)) (v4 : (c : Dev Cert.KernelIdeal.nD) → Buf (Elt Ideal) ((c.tc : Thread Cert.KernelIdeal.nD Cert.KernelIdeal.τ).loc Cert.KernelIdeal.main_v72_4)) (v5 : (c : Dev Cert.KernelIdeal.nD) → Buf (Elt Ideal) ((c.tc : Thread Cert.KernelIdeal.nD Cert.KernelIdeal.τ).loc Cert.KernelIdeal.main_v72_5)) (v6 : (c : Dev Cert.KernelIdeal.nD) → Buf (Elt Ideal) ((c.tc : Thread Cert.KernelIdeal.nD Cert.KernelIdeal.τ).loc Cert.KernelIdeal.main_v72_6)) (v7 : (c : Dev Cert.KernelIdeal.nD) → Buf (Elt Ideal) ((c.tc : Thread Cert.KernelIdeal.nD Cert.KernelIdeal.τ).loc Cert.KernelIdeal.main_v72_7)) (v8 : (c : Dev Cert.KernelIdeal.nD) → Buf (Elt Ideal) ((c.tc : Thread Cert.KernelIdeal.nD Cert.KernelIdeal.τ).loc Cert.KernelIdeal.main_v72_8)) (v9 : (c : Dev Cert.KernelIdeal.nD) → Buf (Elt Ideal) ((c.tc : Thread Cert.KernelIdeal.nD Cert.KernelIdeal.τ).loc Cert.KernelIdeal.main_v72_9)) (v10 : (c : Dev Cert.KernelIdeal.nD) → Buf (Elt Ideal) ((c.tc : Thread Cert.KernelIdeal.nD Cert.KernelIdeal.τ).loc Cert.KernelIdeal.main_v72_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_v72_2) = v2 c
          ∧ r.2.mem ((c.tc : Thread Cert.KernelIdeal.nD Cert.KernelIdeal.τ).loc Cert.KernelIdeal.main_v72_3) = v3 c
          ∧ r.2.mem ((c.tc : Thread Cert.KernelIdeal.nD Cert.KernelIdeal.τ).loc Cert.KernelIdeal.main_v72_4) = v4 c
          ∧ r.2.mem ((c.tc : Thread Cert.KernelIdeal.nD Cert.KernelIdeal.τ).loc Cert.KernelIdeal.main_v72_5) = v5 c
          ∧ r.2.mem ((c.tc : Thread Cert.KernelIdeal.nD Cert.KernelIdeal.τ).loc Cert.KernelIdeal.main_v72_6) = v6 c
          ∧ r.2.mem ((c.tc : Thread Cert.KernelIdeal.nD Cert.KernelIdeal.τ).loc Cert.KernelIdeal.main_v72_7) = v7 c
          ∧ r.2.mem ((c.tc : Thread Cert.KernelIdeal.nD Cert.KernelIdeal.τ).loc Cert.KernelIdeal.main_v72_8) = v8 c
          ∧ r.2.mem ((c.tc : Thread Cert.KernelIdeal.nD Cert.KernelIdeal.τ).loc Cert.KernelIdeal.main_v72_9) = v9 c
          ∧ r.2.mem ((c.tc : Thread Cert.KernelIdeal.nD Cert.KernelIdeal.τ).loc Cert.KernelIdeal.main_v72_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_v143) = v1 c
          ∧ r.2.mem ((c.tc : Thread Cert.ReferenceIdeal.nD Cert.ReferenceIdeal.τ).loc Cert.ReferenceIdeal.main_v147) = v2 c
          ∧ r.2.mem ((c.tc : Thread Cert.ReferenceIdeal.nD Cert.ReferenceIdeal.τ).loc Cert.ReferenceIdeal.main_v150) = v3 c
          ∧ r.2.mem ((c.tc : Thread Cert.ReferenceIdeal.nD Cert.ReferenceIdeal.τ).loc Cert.ReferenceIdeal.main_v154) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_v135) = v6 c
          ∧ r.2.mem ((c.tc : Thread Cert.ReferenceIdeal.nD Cert.ReferenceIdeal.τ).loc Cert.ReferenceIdeal.main_v126) = v7 c
          ∧ r.2.mem ((c.tc : Thread Cert.ReferenceIdeal.nD Cert.ReferenceIdeal.τ).loc Cert.ReferenceIdeal.main_v125) = v8 c
          ∧ r.2.mem ((c.tc : Thread Cert.ReferenceIdeal.nD Cert.ReferenceIdeal.τ).loc Cert.ReferenceIdeal.main_v130) = v9 c
          ∧ r.2.mem ((c.tc : Thread Cert.ReferenceIdeal.nD Cert.ReferenceIdeal.τ).loc Cert.ReferenceIdeal.main_v84) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite_ffn [hKernel2Ideal : Cert.Kernel2Ideal.Facts] [hReference2Ideal : Cert.Reference2Ideal.Facts] [hPre_finite_ffn : Cert.Pre_finite_ffn.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)) (v6 : (c : Dev Cert.Kernel2Ideal.nD) → Buf (Elt Ideal) ((c.tc : Thread Cert.Kernel2Ideal.nD Cert.Kernel2Ideal.τ).loc Cert.Kernel2Ideal.main_v13_6)) (v7 : (c : Dev Cert.Kernel2Ideal.nD) → Buf (Elt Ideal) ((c.tc : Thread Cert.Kernel2Ideal.nD Cert.Kernel2Ideal.τ).loc Cert.Kernel2Ideal.main_v13_7)) (v8 : (c : Dev Cert.Kernel2Ideal.nD) → Buf (Elt Ideal) ((c.tc : Thread Cert.Kernel2Ideal.nD Cert.Kernel2Ideal.τ).loc Cert.Kernel2Ideal.main_v13_8)) (v9 : (c : Dev Cert.Kernel2Ideal.nD) → Buf (Elt Ideal) ((c.tc : Thread Cert.Kernel2Ideal.nD Cert.Kernel2Ideal.τ).loc Cert.Kernel2Ideal.main_v13_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_v13_6) = v6 c
          ∧ r.2.mem ((c.tc : Thread Cert.Kernel2Ideal.nD Cert.Kernel2Ideal.τ).loc Cert.Kernel2Ideal.main_v13_7) = v7 c
          ∧ r.2.mem ((c.tc : Thread Cert.Kernel2Ideal.nD Cert.Kernel2Ideal.τ).loc Cert.Kernel2Ideal.main_v13_8) = v8 c
          ∧ r.2.mem ((c.tc : Thread Cert.Kernel2Ideal.nD Cert.Kernel2Ideal.τ).loc Cert.Kernel2Ideal.main_v13_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v117) = v0 c
          ∧ r.2.mem ((c.tc : Thread Cert.Reference2Ideal.nD Cert.Reference2Ideal.τ).loc Cert.Reference2Ideal.main_v121) = v1 c
          ∧ r.2.mem ((c.tc : Thread Cert.Reference2Ideal.nD Cert.Reference2Ideal.τ).loc Cert.Reference2Ideal.main_v125) = v2 c
          ∧ r.2.mem ((c.tc : Thread Cert.Reference2Ideal.nD Cert.Reference2Ideal.τ).loc Cert.Reference2Ideal.main_v129) = v3 c
          ∧ r.2.mem ((c.tc : Thread Cert.Reference2Ideal.nD Cert.Reference2Ideal.τ).loc Cert.Reference2Ideal.main_v133) = v4 c
          ∧ r.2.mem ((c.tc : Thread Cert.Reference2Ideal.nD Cert.Reference2Ideal.τ).loc Cert.Reference2Ideal.main_v137) = v5 c
          ∧ r.2.mem ((c.tc : Thread Cert.Reference2Ideal.nD Cert.Reference2Ideal.τ).loc Cert.Reference2Ideal.main_v141) = v6 c
          ∧ r.2.mem ((c.tc : Thread Cert.Reference2Ideal.nD Cert.Reference2Ideal.τ).loc Cert.Reference2Ideal.main_v142) = v7 c
          ∧ r.2.mem ((c.tc : Thread Cert.Reference2Ideal.nD Cert.Reference2Ideal.τ).loc Cert.Reference2Ideal.main_v114) = v8 c
          ∧ r.2.mem ((c.tc : Thread Cert.Reference2Ideal.nD Cert.Reference2Ideal.τ).loc Cert.Reference2Ideal.main_v143) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_halo [hKernel3Ideal : Cert.Kernel3Ideal.Facts] [hReference3Ideal : Cert.Reference3Ideal.Facts] [hPre_finite_halo : Cert.Pre_finite_halo.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_halo m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v43)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v44)) (v3 : (c : Dev Cert.Kernel3Ideal.nD) → Buf (Elt Ideal) ((c.tc : Thread Cert.Kernel3Ideal.nD Cert.Kernel3Ideal.τ).loc Cert.Kernel3Ideal.main_v45)) (v4 : (c : Dev Cert.Kernel3Ideal.nD) → Buf (Elt Ideal) ((c.tc : Thread Cert.Kernel3Ideal.nD Cert.Kernel3Ideal.τ).loc Cert.Kernel3Ideal.main_v42_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v44) = v2 c
          ∧ r.2.mem ((c.tc : Thread Cert.Kernel3Ideal.nD Cert.Kernel3Ideal.τ).loc Cert.Kernel3Ideal.main_v45) = v3 c
          ∧ r.2.mem ((c.tc : Thread Cert.Kernel3Ideal.nD Cert.Kernel3Ideal.τ).loc Cert.Kernel3Ideal.main_v42_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v221) = v0 c
          ∧ r.2.mem ((c.tc : Thread Cert.Reference3Ideal.nD Cert.Reference3Ideal.τ).loc Cert.Reference3Ideal.main_v222) = v1 c
          ∧ r.2.mem ((c.tc : Thread Cert.Reference3Ideal.nD Cert.Reference3Ideal.τ).loc Cert.Reference3Ideal.main_v218) = v2 c
          ∧ r.2.mem ((c.tc : Thread Cert.Reference3Ideal.nD Cert.Reference3Ideal.τ).loc Cert.Reference3Ideal.main_v223) = v3 c
          ∧ r.2.mem ((c.tc : Thread Cert.Reference3Ideal.nD Cert.Reference3Ideal.τ).loc Cert.Reference3Ideal.main_v217) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v18)) (v1 : (c : Dev Cert.Kernel5Ideal.nD) → Buf (Elt Ideal) ((c.tc : Thread Cert.Kernel5Ideal.nD Cert.Kernel5Ideal.τ).loc Cert.Kernel5Ideal.main_v19)) (v2 : (c : Dev Cert.Kernel5Ideal.nD) → Buf (Elt Ideal) ((c.tc : Thread Cert.Kernel5Ideal.nD Cert.Kernel5Ideal.τ).loc Cert.Kernel5Ideal.main_v20)) (v3 : (c : Dev Cert.Kernel5Ideal.nD) → Buf (Elt Ideal) ((c.tc : Thread Cert.Kernel5Ideal.nD Cert.Kernel5Ideal.τ).loc Cert.Kernel5Ideal.main_v21)) (v4 : (c : Dev Cert.Kernel5Ideal.nD) → Buf (Elt Ideal) ((c.tc : Thread Cert.Kernel5Ideal.nD Cert.Kernel5Ideal.τ).loc Cert.Kernel5Ideal.main_v22)) (v5 : (c : Dev Cert.Kernel5Ideal.nD) → Buf (Elt Ideal) ((c.tc : Thread Cert.Kernel5Ideal.nD Cert.Kernel5Ideal.τ).loc Cert.Kernel5Ideal.main_v23)) (v6 : (c : Dev Cert.Kernel5Ideal.nD) → Buf (Elt Ideal) ((c.tc : Thread Cert.Kernel5Ideal.nD Cert.Kernel5Ideal.τ).loc Cert.Kernel5Ideal.main_v24)) (v7 : (c : Dev Cert.Kernel5Ideal.nD) → Buf (Elt Ideal) ((c.tc : Thread Cert.Kernel5Ideal.nD Cert.Kernel5Ideal.τ).loc Cert.Kernel5Ideal.main_v25)) (v8 : (c : Dev Cert.Kernel5Ideal.nD) → Buf (Elt Ideal) ((c.tc : Thread Cert.Kernel5Ideal.nD Cert.Kernel5Ideal.τ).loc Cert.Kernel5Ideal.main_v26)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18) = v0 c
          ∧ r.2.mem ((c.tc : Thread Cert.Kernel5Ideal.nD Cert.Kernel5Ideal.τ).loc Cert.Kernel5Ideal.main_v19) = v1 c
          ∧ r.2.mem ((c.tc : Thread Cert.Kernel5Ideal.nD Cert.Kernel5Ideal.τ).loc Cert.Kernel5Ideal.main_v20) = v2 c
          ∧ r.2.mem ((c.tc : Thread Cert.Kernel5Ideal.nD Cert.Kernel5Ideal.τ).loc Cert.Kernel5Ideal.main_v21) = v3 c
          ∧ r.2.mem ((c.tc : Thread Cert.Kernel5Ideal.nD Cert.Kernel5Ideal.τ).loc Cert.Kernel5Ideal.main_v22) = v4 c
          ∧ r.2.mem ((c.tc : Thread Cert.Kernel5Ideal.nD Cert.Kernel5Ideal.τ).loc Cert.Kernel5Ideal.main_v23) = v5 c
          ∧ r.2.mem ((c.tc : Thread Cert.Kernel5Ideal.nD Cert.Kernel5Ideal.τ).loc Cert.Kernel5Ideal.main_v24) = v6 c
          ∧ r.2.mem ((c.tc : Thread Cert.Kernel5Ideal.nD Cert.Kernel5Ideal.τ).loc Cert.Kernel5Ideal.main_v25) = v7 c
          ∧ r.2.mem ((c.tc : Thread Cert.Kernel5Ideal.nD Cert.Kernel5Ideal.τ).loc Cert.Kernel5Ideal.main_v26) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v168) = v0 c
          ∧ r.2.mem ((c.tc : Thread Cert.Reference5Ideal.nD Cert.Reference5Ideal.τ).loc Cert.Reference5Ideal.main_v54) = v1 c
          ∧ r.2.mem ((c.tc : Thread Cert.Reference5Ideal.nD Cert.Reference5Ideal.τ).loc Cert.Reference5Ideal.main_v147) = v2 c
          ∧ r.2.mem ((c.tc : Thread Cert.Reference5Ideal.nD Cert.Reference5Ideal.τ).loc Cert.Reference5Ideal.main_v169) = v3 c
          ∧ r.2.mem ((c.tc : Thread Cert.Reference5Ideal.nD Cert.Reference5Ideal.τ).loc Cert.Reference5Ideal.main_v170) = v4 c
          ∧ r.2.mem ((c.tc : Thread Cert.Reference5Ideal.nD Cert.Reference5Ideal.τ).loc Cert.Reference5Ideal.main_v27) = v5 c
          ∧ r.2.mem ((c.tc : Thread Cert.Reference5Ideal.nD Cert.Reference5Ideal.τ).loc Cert.Reference5Ideal.main_v171) = v6 c
          ∧ r.2.mem ((c.tc : Thread Cert.Reference5Ideal.nD Cert.Reference5Ideal.τ).loc Cert.Reference5Ideal.main_v141) = v7 c
          ∧ r.2.mem ((c.tc : Thread Cert.Reference5Ideal.nD Cert.Reference5Ideal.τ).loc Cert.Reference5Ideal.main_v172) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_ffn : Cert.Pre_finite_ffn.Facts) (hPre_finite_halo : Cert.Pre_finite_halo.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_ffn (hKernel2Ideal := hKernel2Ideal) (hPre_finite_ffn := hPre_finite_ffn)
    ∧ quiescent_Reference2Ideal (hReference2Ideal := hReference2Ideal)
    ∧ quiescent_Reference2Ideal_pre_finite_ffn (hReference2Ideal := hReference2Ideal) (hPre_finite_ffn := hPre_finite_ffn)
    ∧ quiescent_Kernel3 (hKernel3 := hKernel3)
    ∧ quiescent_Kernel3Ideal (hKernel3Ideal := hKernel3Ideal)
    ∧ quiescent_Kernel3Ideal_pre_finite_halo (hKernel3Ideal := hKernel3Ideal) (hPre_finite_halo := hPre_finite_halo)
    ∧ quiescent_Reference3Ideal (hReference3Ideal := hReference3Ideal)
    ∧ quiescent_Reference3Ideal_pre_finite_halo (hReference3Ideal := hReference3Ideal) (hPre_finite_halo := hPre_finite_halo)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_ffn (hKernel2Ideal := hKernel2Ideal) (hReference2Ideal := hReference2Ideal) (hPre_finite_ffn := hPre_finite_ffn)
    ∧ preserves_Kernel3_Kernel3Ideal
    ∧ algebraic_Kernel3Ideal_Reference3Ideal_pre_finite_halo (hKernel3Ideal := hKernel3Ideal) (hReference3Ideal := hReference3Ideal) (hPre_finite_halo := hPre_finite_halo)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S1x4112x2048 : Shape := ⟨3, ![1, 4112, 2048]⟩
abbrev S1x4112x1024 : Shape := ⟨3, ![1, 4112, 1024]⟩
abbrev S1x2048 : Shape := ⟨2, ![1, 2048]⟩
abbrev S1x1024 : Shape := ⟨2, ![1, 1024]⟩
abbrev S1x1024x1024 : Shape := ⟨3, ![1, 1024, 1024]⟩
abbrev S1x4x256x256 : Shape := ⟨4, ![1, 4, 256, 256]⟩
abbrev S_ : Shape := ⟨0, ![]⟩

class Facts : Prop where
  bcast_S_S1x4112x1024 : S_.BroadcastsInDim S1x4112x1024 (![] : Fin 0 → Fin S1x4112x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S1x4112x2048 .f32) (main_arg1 : FVec F S1x4112x1024 .f32) (main_arg2 : FVec F S1x4112x1024 .f32) (main_arg3 : FVec F S1x2048 .f32) (main_arg4 : FVec F S1x1024 .f32) (main_arg5 : FVec F S1x1024 .f32) (main_arg6 : FVec F S1x1024 .f32) (main_arg7 : FVec F S1x1024 .f32) (main_arg8 : FVec F S1x1024x1024 .f32) (main_arg9 : FVec F S1x4x256x256 .f32) (main_arg10 : FVec F S1x1024x1024 .f32) (main_arg11 : FVec F S1x1024x1024 .f32) (main_arg12 : FVec F S1x4112x1024 .f32) : IVec S1x4112x1024 1 × IVec S1x1024 1 × IVec S1x1024 1 × IVec S1x1024x1024 1 × IVec S1x1024x1024 1 × IVec S1x4112x1024 1 :=
  let main_v0 : FVec F S1x4112x1024 .f32 := Host.absf main_arg1
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_v3 : FVec F S1x1024 .f32 := Host.absf main_arg4
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg5
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x1024 .f32 := Host.absf main_arg8
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S1x1024x1024 .f32 := Host.absf main_arg11
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x4112x1024 .f32 := Host.absf main_arg12
  let main_cst_4 : FVec F S_ .f32 := constant S_ .f32 0x7F800000#32
  let main_v16 : FVec F S1x4112x1024 .f32 := broadcastInDim S1x4112x1024 ![] bcast_S_S1x4112x1024 main_cst_4
  let main_v17 : IVec S1x4112x1024 1 := cmpf .olt main_v15 main_v16
  (main_v2, main_v5, main_v8, main_v11, main_v14, main_v17)
-- ==== Pre_finite_ffn.lean ====
abbrev S1x4112x1024 : Shape := ⟨3, ![1, 4112, 1024]⟩
abbrev S1x4096x1024 : Shape := ⟨3, ![1, 4096, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x4112x1024 : S_.BroadcastsInDim S1x4112x1024 (![] : Fin 0 → Fin S1x4112x1024.rank)
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1024 : S_.BroadcastsInDim S1024 (![] : Fin 0 → Fin S1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn_part1 {F : FTy → Type} [FloatOps F] (main_arg6 : FVec F S1x2816x1024 .f32) (main_v2 : IVec S1x4112x1024 1) (main_v5 : IVec S1x4096x1024 1) (main_v8 : IVec S1x1024 1) (main_v11 : IVec S1024 1) (main_v14 : IVec S1x1024x2816 1) (main_v17 : IVec S1x1024x2816 1) : IVec S1x4112x1024 1 × IVec S1x4096x1024 1 × IVec S1x1024 1 × IVec S1024 1 × IVec S1x1024x2816 1 × IVec S1x1024x2816 1 × IVec S1x2816x1024 1 :=
  let main_v18 : FVec F S1x2816x1024 .f32 := Host.absf main_arg6
  let main_cst_5 : FVec F S_ .f32 := constant S_ .f32 0x7F800000#32
  let main_v19 : FVec F S1x2816x1024 .f32 := broadcastInDim S1x2816x1024 ![] bcast_S_S1x2816x1024 main_cst_5
  let main_v20 : IVec S1x2816x1024 1 := cmpf .olt main_v18 main_v19
  (main_v2, main_v5, main_v8, main_v11, main_v14, main_v17, main_v20)

def fn {F : FTy → Type} [FloatOps F] (main_arg0 : FVec F S1x4112x1024 .f32) (main_arg1 : FVec F S1x4096x1024 .f32) (main_arg2 : FVec F S1x1024 .f32) (main_arg3 : FVec F S1024 .f32) (main_arg4 : FVec F S1x1024x2816 .f32) (main_arg5 : FVec F S1x1024x2816 .f32) (main_arg6 : FVec F S1x2816x1024 .f32) : IVec S1x4112x1024 1 × IVec S1x4096x1024 1 × IVec S1x1024 1 × IVec S1024 1 × IVec S1x1024x2816 1 × IVec S1x1024x2816 1 × IVec S1x2816x1024 1 :=
  let main_v0 : FVec F S1x4112x1024 .f32 := Host.absf main_arg0
  let main_cst : FVec F S_ .f32 := constant S_ .f32 0x7F800000#32
  let main_v1 : FVec F S1x4112x1024 .f32 := broadcastInDim S1x4112x1024 ![] bcast_S_S1x4112x1024 main_cst
  let main_v2 : IVec S1x4112x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x1024x2816 .f32 := Host.absf main_arg4
  let main_cst_3 : FVec F S_ .f32 := constant S_ .f32 0x7F800000#32
  let main_v13 : FVec F S1x1024x2816 .f32 := broadcastInDim S1x1024x2816 ![] bcast_S_S1x1024x2816 main_cst_3
  let main_v14 : IVec S1x1024x2816 1 := cmpf .olt main_v12 main_v13
  let main_v15 : FVec F S1x1024x2816 .f32 := Host.absf main_arg5
  let main_cst_4 : FVec F S_ .f32 := constant S_ .f32 0x7F800000#32
  let main_v16 : FVec F S1x1024x2816 .f32 := broadcastInDim S1x1024x2816 ![] bcast_S_S1x1024x2816 main_cst_4
  let main_v17 : IVec S1x1024x2816 1 := cmpf .olt main_v15 main_v16
  fn_part1 (F := F) main_arg6 main_v2 main_v5 main_v8 main_v11 main_v14 main_v17
-- ==== Pre_finite_halo.lean ====
abbrev S1x4096x1024 : Shape := ⟨3, ![1, 4096, 1024]⟩
abbrev S16x1024 : Shape := ⟨2, ![16, 1024]⟩
abbrev S1x1024 : Shape := ⟨2, ![1, 1024]⟩
abbrev S1x1024x5120 : Shape := ⟨3, ![1, 1024, 5120]⟩
abbrev S1x31x1024 : Shape := ⟨3, ![1, 31, 1024]⟩
abbrev S1x4112x1024 : Shape := ⟨3, ![1, 4112, 1024]⟩
abbrev S1x4112x2048 : Shape := ⟨3, ![1, 4112, 2048]⟩
abbrev S_ : Shape := ⟨0, ![]⟩

class Facts : Prop where
  bcast_S_S1x4096x1024 : S_.BroadcastsInDim S1x4096x1024 (![] : Fin 0 → Fin S1x4096x1024.rank)
  bcast_S_S16x1024 : S_.BroadcastsInDim S16x1024 (![] : Fin 0 → Fin S16x1024.rank)
  bcast_S_S1x1024 : S_.BroadcastsInDim S1x1024 (![] : Fin 0 → Fin S1x1024.rank)
  bcast_S_S1x1024x5120 : S_.BroadcastsInDim S1x1024x5120 (![] : Fin 0 → Fin S1x1024x5120.rank)
  bcast_S_S1x31x1024 : S_.BroadcastsInDim S1x31x1024 (![] : Fin 0 → Fin S1x31x1024.rank)
  bcast_S_S1x4112x1024 : S_.BroadcastsInDim S1x4112x1024 (![] : Fin 0 → Fin S1x4112x1024.rank)
  bcast_S_S1x4112x2048 : S_.BroadcastsInDim S1x4112x2048 (![] : Fin 0 → Fin S1x4112x2048.rank)

variable [Facts]

def fn_part1 {F : FTy → Type} [FloatOps F] (main_arg6 : FVec F S1x4112x1024 .f32) (main_arg7 : FVec F S1x4112x2048 .f32) (main_v2 : IVec S1x4096x1024 1) (main_v5 : IVec S16x1024 1) (main_v8 : IVec S1x1024 1) (main_v11 : IVec S1x1024x5120 1) (main_v14 : IVec S1x31x1024 1) (main_v17 : IVec S1x4112x1024 1) : IVec S1x4096x1024 1 × IVec S16x1024 1 × IVec S1x1024 1 × IVec S1x1024x5120 1 × IVec S1x31x1024 1 × IVec S1x4112x1024 1 × IVec S1x4112x1024 1 × IVec S1x4112x2048 1 :=
  let main_v18 : FVec F S1x4112x1024 .f32 := Host.absf main_arg6
  let main_cst_5 : FVec F S_ .f32 := constant S_ .f32 0x7F800000#32
  let main_v19 : FVec F S1x4112x1024 .f32 := broadcastInDim S1x4112x1024 ![] bcast_S_S1x4112x1024 main_cst_5
  let main_v20 : IVec S1x4112x1024 1 := cmpf .olt main_v18 main_v19
  let main_v21 : FVec F S1x4112x2048 .f32 := Host.absf main_arg7
  let main_cst_6 : FVec F S_ .f32 := constant S_ .f32 0x7F800000#32
  let main_v22 : FVec F S1x4112x2048 .f32 := broadcastInDim S1x4112x2048 ![] bcast_S_S1x4112x2048 main_cst_6
  let main_v23 : IVec S1x4112x2048 1 := cmpf .olt main_v21 main_v22
  (main_v2, main_v5, main_v8, main_v11, main_v14, main_v17, main_v20, main_v23)

def fn {F : FTy → Type} [FloatOps F] (main_arg0 : FVec F S1x4096x1024 .f32) (main_arg1 : FVec F S16x1024 .f32) (main_arg2 : FVec F S1x1024 .f32) (main_arg3 : FVec F S1x1024x5120 .f32) (main_arg4 : FVec F S1x31x1024 .f32) (main_arg5 : FVec F S1x4112x1024 .f32) (main_arg6 : FVec F S1x4112x1024 .f32) (main_arg7 : FVec F S1x4112x2048 .f32) (main_arg8 : FVec F S1x4112x1024 .f32) : IVec S1x4096x1024 1 × IVec S16x1024 1 × IVec S1x1024 1 × IVec S1x1024x5120 1 × IVec S1x31x1024 1 × IVec S1x4112x1024 1 × IVec S1x4112x1024 1 × IVec S1x4112x2048 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S16x1024 .f32 := Host.absf main_arg1
  let main_cst_0 : FVec F S_ .f32 := constant S_ .f32 0x7F800000#32
  let main_v4 : FVec F S16x1024 .f32 := broadcastInDim S16x1024 ![] bcast_S_S16x1024 main_cst_0
  let main_v5 : IVec S16x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x5120 .f32 := Host.absf main_arg3
  let main_cst_2 : FVec F S_ .f32 := constant S_ .f32 0x7F800000#32
  let main_v10 : FVec F S1x1024x5120 .f32 := broadcastInDim S1x1024x5120 ![] bcast_S_S1x1024x5120 main_cst_2
  let main_v11 : IVec S1x1024x5120 1 := cmpf .olt main_v9 main_v10
  let main_v12 : FVec F S1x31x1024 .f32 := Host.absf main_arg4
  let main_cst_3 : FVec F S_ .f32 := constant S_ .f32 0x7F800000#32
  let main_v13 : FVec F S1x31x1024 .f32 := broadcastInDim S1x31x1024 ![] bcast_S_S1x31x1024 main_cst_3
  let main_v14 : IVec S1x31x1024 1 := cmpf .olt main_v12 main_v13
  let main_v15 : FVec F S1x4112x1024 .f32 := Host.absf main_arg5
  let main_cst_4 : FVec F S_ .f32 := constant S_ .f32 0x7F800000#32
  let main_v16 : FVec F S1x4112x1024 .f32 := broadcastInDim S1x4112x1024 ![] bcast_S_S1x4112x1024 main_cst_4
  let main_v17 : IVec S1x4112x1024 1 := cmpf .olt main_v15 main_v16
  fn_part1 (F := F) main_arg6 main_arg7 main_v2 main_v5 main_v8 main_v11 main_v14 main_v17
-- ==== Kernel.lean ====
abbrev S1x4112x2048 : Shape := ⟨3, ![1, 4112, 2048]⟩
abbrev S1x4112x1024 : Shape := ⟨3, ![1, 4112, 1024]⟩
abbrev S1x2048 : Shape := ⟨2, ![1, 2048]⟩
abbrev S1x1024 : Shape := ⟨2, ![1, 1024]⟩
abbrev S1x1024x1024 : Shape := ⟨3, ![1, 1024, 1024]⟩
abbrev S1x4x256x256 : Shape := ⟨4, ![1, 4, 256, 256]⟩
abbrev S1024 : Shape := ⟨1, ![1024]⟩
abbrev S1x1x1024 : Shape := ⟨3, ![1, 1, 1024]⟩
abbrev S_ : Shape := ⟨0, ![]⟩
abbrev S1x4112 : Shape := ⟨2, ![1, 4112]⟩
abbrev S1x4112x1 : Shape := ⟨3, ![1, 4112, 1]⟩
abbrev S1024x1024 : Shape := ⟨2, ![1024, 1024]⟩
abbrev S1x4112x4x256 : Shape := ⟨4, ![1, 4112, 4, 256]⟩
abbrev S4x256x256 : Shape := ⟨3, ![4, 256, 256]⟩
abbrev S4x256x1x4112 : Shape := ⟨4, ![4, 256, 1, 4112]⟩
abbrev S4352x3072 : Shape := ⟨2, ![4352, 3072]⟩
abbrev S240x2048 : Shape := ⟨2, ![240, 2048]⟩
abbrev S4112x2048 : Shape := ⟨2, ![4112, 2048]⟩
abbrev S4352x2048 : Shape := ⟨2, ![4352, 2048]⟩
abbrev S4352x5120 : Shape := ⟨2, ![4352, 5120]⟩
abbrev S240x1024 : Shape := ⟨2, ![240, 1024]⟩
abbrev S4112x1024 : Shape := ⟨2, ![4112, 1024]⟩
abbrev S4352x1024 : Shape := ⟨2, ![4352, 1024]⟩
abbrev S8x128 : Shape := ⟨2, ![8, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 117
  | .vmem => 39
  | .smem => 0
  | _ => 0

abbrev bufTy : (tb : Table) → Fin (tcTables nBuf tb) → BufTy
  | .hbm, ⟨0, _⟩ => ⟨S1x4112x2048, .f32⟩
  | .hbm, ⟨1, _⟩ => ⟨S1x4112x1024, .f32⟩
  | .hbm, ⟨2, _⟩ => ⟨S1x4112x1024, .f32⟩
  | .hbm, ⟨3, _⟩ => ⟨S1x2048, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x4x256x256, .f32⟩
  | .hbm, ⟨10, _⟩ => ⟨S1x1024x1024, .f32⟩
  | .hbm, ⟨11, _⟩ => ⟨S1x1024x1024, .f32⟩
  | .hbm, ⟨12, _⟩ => ⟨S1x4112x1024, .f32⟩
  | .hbm, ⟨13, _⟩ => ⟨S1024, .f32⟩
  | .hbm, ⟨14, _⟩ => ⟨S1x1x1024, .f32⟩
  | .hbm, ⟨15, _⟩ => ⟨S1x4112x1024, .f32⟩
  | .hbm, ⟨16, _⟩ => ⟨S1x4112x1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1x4112, .f32⟩
  | .hbm, ⟨21, _⟩ => ⟨S1x4112x1, .f32⟩
  | .hbm, ⟨22, _⟩ => ⟨S_, .f32⟩
  | .hbm, ⟨23, _⟩ => ⟨S1x4112x1, .f32⟩
  | .hbm, ⟨24, _⟩ => ⟨S1x4112x1, .f32⟩
  | .hbm, ⟨25, _⟩ => ⟨S1x4112x1024, .f32⟩
  | .hbm, ⟨26, _⟩ => ⟨S1x4112x1024, .f32⟩
  | .hbm, ⟨27, _⟩ => ⟨S1x4112x1024, .f32⟩
  | .hbm, ⟨28, _⟩ => ⟨S_, .f32⟩
  | .hbm, ⟨29, _⟩ => ⟨S1x4112, .f32⟩
  | .hbm, ⟨30, _⟩ => ⟨S1x4112x1, .f32⟩
  | .hbm, ⟨31, _⟩ => ⟨S_, .f32⟩
  | .hbm, ⟨32, _⟩ => ⟨S1x4112x1, .f32⟩
  | .hbm, ⟨33, _⟩ => ⟨S1x4112x1, .f32⟩
  | .hbm, ⟨34, _⟩ => ⟨S_, .f32⟩
  | .hbm, ⟨35, _⟩ => ⟨S1x4112x1, .f32⟩
  | .hbm, ⟨36, _⟩ => ⟨S1x4112x1, .f32⟩
  | .hbm, ⟨37, _⟩ => ⟨S1x4112x1, .f32⟩
  | .hbm, ⟨38, _⟩ => ⟨S1x4112x1024, .f32⟩
  | .hbm, ⟨39, _⟩ => ⟨S1x4112x1024, .f32⟩
  | .hbm, ⟨40, _⟩ => ⟨S1x1x1024, .f32⟩
  | .hbm, ⟨41, _⟩ => ⟨S1x4112x1024, .f32⟩
  | .hbm, ⟨42, _⟩ => ⟨S1x4112x1024, .f32⟩
  | .hbm, ⟨43, _⟩ => ⟨S1x1x1024, .f32⟩
  | .hbm, ⟨44, _⟩ => ⟨S1x4112x1024, .f32⟩
  | .hbm, ⟨45, _⟩ => ⟨S1x4112x1024, .f32⟩
  | .hbm, ⟨46, _⟩ => ⟨S1x4112x1024, .f32⟩
  | .hbm, ⟨47, _⟩ => ⟨S1x4112x1024, .f32⟩
  | .hbm, ⟨48, _⟩ => ⟨S_, .f32⟩
  | .hbm, ⟨49, _⟩ => ⟨S1x4112x1024, .f32⟩
  | .hbm, ⟨50, _⟩ => ⟨S1x4112x1024, .f32⟩
  | .hbm, ⟨51, _⟩ => ⟨S_, .f32⟩
  | .hbm, ⟨52, _⟩ => ⟨S1x4112x1024, .f32⟩
  | .hbm, ⟨53, _⟩ => ⟨S1x4112x1024, .f32⟩
  | .hbm, ⟨54, _⟩ => ⟨S1x4112x1024, .f32⟩
  | .hbm, ⟨55, _⟩ => ⟨S1024x1024, .f32⟩
  | .hbm, ⟨56, _⟩ => ⟨S1x4112x1024, .f32⟩
  | .hbm, ⟨57, _⟩ => ⟨S1x4112x4x256, .f32⟩
  | .hbm, ⟨58, _⟩ => ⟨S4x256x256, .f32⟩
  | .hbm, ⟨59, _⟩ => ⟨S4x256x1x4112, .f32⟩
  | .hbm, ⟨60, _⟩ => ⟨S1x4112x4x256, .f32⟩
  | .hbm, ⟨61, _⟩ => ⟨S1x4112x1024, .f32⟩
  | .hbm, ⟨62, _⟩ => ⟨S1024, .f32⟩
  | .hbm, ⟨63, _⟩ => ⟨S1x1x1024, .f32⟩
  | .hbm, ⟨64, _⟩ => ⟨S1x4112x1024, .f32⟩
  | .hbm, ⟨65, _⟩ => ⟨S1x4112x1024, .f32⟩
  | .hbm, ⟨66, _⟩ => ⟨S1024x1024, .f32⟩
  | .hbm, ⟨67, _⟩ => ⟨S1x4112x1024, .f32⟩
  | .hbm, ⟨68, _⟩ => ⟨S_, .f32⟩
  | .hbm, ⟨69, _⟩ => ⟨S4352x3072, .f32⟩
  | .hbm, ⟨70, _⟩ => ⟨S_, .f32⟩
  | .hbm, ⟨71, _⟩ => ⟨S240x2048, .f32⟩
  | .hbm, ⟨72, _⟩ => ⟨S4112x2048, .f32⟩
  | .hbm, ⟨73, _⟩ => ⟨S4352x2048, .f32⟩
  | .hbm, ⟨74, _⟩ => ⟨S4352x5120, .f32⟩
  | .hbm, ⟨75, _⟩ => ⟨S_, .f32⟩
  | .hbm, ⟨76, _⟩ => ⟨S240x1024, .f32⟩
  | .hbm, ⟨77, _⟩ => ⟨S4112x1024, .f32⟩
  | .hbm, ⟨78, _⟩ => ⟨S4352x1024, .f32⟩
  | .hbm, ⟨79, _⟩ => ⟨S4352x1024, .bf16⟩
  | .hbm, ⟨80, _⟩ => ⟨S_, .f32⟩
  | .hbm, ⟨81, _⟩ => ⟨S240x1024, .f32⟩
  | .hbm, ⟨82, _⟩ => ⟨S4112x1024, .f32⟩
  | .hbm, ⟨83, _⟩ => ⟨S4352x1024, .f32⟩
  | .hbm, ⟨84, _⟩ => ⟨S_, .f32⟩
  | .hbm, ⟨85, _⟩ => ⟨S240x1024, .f32⟩
  | .hbm, ⟨86, _⟩ => ⟨S4112x1024, .f32⟩
  | .hbm, ⟨87, _⟩ => ⟨S4352x1024, .f32⟩
  | .hbm, ⟨88, _⟩ => ⟨S_, .f32⟩
  | .hbm, ⟨89, _⟩ => ⟨S240x1024, .f32⟩
  | .hbm, ⟨90, _⟩ => ⟨S4112x1024, .f32⟩
  | .hbm, ⟨91, _⟩ => ⟨S4352x1024, .f32⟩
  | .hbm, ⟨92, _⟩ => ⟨S_, .f32⟩
  | .hbm, ⟨93, _⟩ => ⟨S240x1024, .f32⟩
  | .hbm, ⟨94, _⟩ => ⟨S4112x1024, .f32⟩
  | .hbm, ⟨95, _⟩ => ⟨S4352x1024, .f32⟩
  | .hbm, ⟨96, _⟩ => ⟨S1024x1024, .f32⟩
  | .hbm, ⟨97, _⟩ => ⟨S1024x1024, .bf16⟩
  | .hbm, ⟨98, _⟩ => ⟨S1024x1024, .f32⟩
  | .hbm, ⟨99, _⟩ => ⟨S1024x1024, .bf16⟩
  | .hbm, ⟨100, _⟩ => ⟨S1024x1024, .f32⟩
  | .hbm, ⟨101, _⟩ => ⟨S1024x1024, .bf16⟩
  | .hbm, ⟨102, _⟩ => ⟨S4x256x256, .f32⟩
  | .hbm, ⟨103, _⟩ => ⟨S4x256x256, .bf16⟩
  | .hbm, ⟨104, _⟩ => ⟨S_, .f32⟩
  | .hbm, ⟨105, _⟩ => ⟨S8x128, .f32⟩
  | .hbm, ⟨106, _⟩ => ⟨S4352x1024, .bf16⟩
  | .hbm, ⟨107, _⟩ => ⟨S4352x1024, .bf16⟩
  | .hbm, ⟨108, _⟩ => ⟨S4352x2048, .bf16⟩
  | .hbm, ⟨109, _⟩ => ⟨S4352x1024, .f32⟩
  | .hbm, ⟨110, _⟩ => ⟨S4352x1024, .bf16⟩
  | .hbm, ⟨111, _⟩ => ⟨S4352x1024, .f32⟩
  | .hbm, ⟨112, _⟩ => ⟨S1x2048, .f32⟩
  | .hbm, ⟨113, _⟩ => ⟨S1x1024, .f32⟩
  | .hbm, ⟨114, _⟩ => ⟨S1x1024, .f32⟩
  | .hbm, ⟨115, _⟩ => ⟨S1x1024, .f32⟩
  | .hbm, ⟨116, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x2048, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S4x256x256, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x2048, .bf16⟩
  | .local _ .vmem, ⟨27, _⟩ => ⟨S256x2048, .bf16⟩
  | .local _ .vmem, ⟨28, _⟩ => ⟨S256x1024, .f32⟩
  | .local _ .vmem, ⟨29, _⟩ => ⟨S256x1024, .f32⟩
  | .local _ .vmem, ⟨30, _⟩ => ⟨S256x1024, .bf16⟩
  | .local _ .vmem, ⟨31, _⟩ => ⟨S256x1024, .bf16⟩
  | .local _ .vmem, ⟨32, _⟩ => ⟨S256x1024, .f32⟩
  | .local _ .vmem, ⟨33, _⟩ => ⟨S256x1024, .f32⟩
  | .local _ .vmem, ⟨34, _⟩ => ⟨S1x2048, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | _, _ => ⟨S1x4112x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_4 : Ref sig .tc := ⟨.hbm, 68, rfl⟩
abbrev main_v42 : Ref sig .tc := ⟨.hbm, 69, rfl⟩
abbrev main_cst_5 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_9 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_10 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72_0 : Ref sig .tc := ⟨.hbm, 106, rfl⟩
abbrev main_v72_1 : Ref sig .tc := ⟨.hbm, 107, rfl⟩
abbrev main_v72_2 : Ref sig .tc := ⟨.hbm, 108, rfl⟩
abbrev main_v72_3 : Ref sig .tc := ⟨.hbm, 109, rfl⟩
abbrev main_v72_4 : Ref sig .tc := ⟨.hbm, 110, rfl⟩
abbrev main_v72_5 : Ref sig .tc := ⟨.hbm, 111, rfl⟩
abbrev main_v72_6 : Ref sig .tc := ⟨.hbm, 112, rfl⟩
abbrev main_v72_7 : Ref sig .tc := ⟨.hbm, 113, rfl⟩
abbrev main_v72_8 : Ref sig .tc := ⟨.hbm, 114, rfl⟩
abbrev main_v72_9 : Ref sig .tc := ⟨.hbm, 115, rfl⟩
abbrev main_v72_10 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_stg24_0 : Ref sig .tc := ⟨.vmem, 37, rfl⟩
abbrev cc0_stg25_0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem22_0 : DmaSem sig := 35
abbrev cc0_sem23_0 : DmaSem sig := 36
abbrev cc0_sem24_0 : DmaSem sig := 37
abbrev cc0_sem25_0 : DmaSem sig := 38

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S1x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S1x4112x2048 : Shape := ⟨3, ![1, 4112, 2048]⟩
abbrev S1x4112x1024 : Shape := ⟨3, ![1, 4112, 1024]⟩
abbrev S1x2048 : Shape := ⟨2, ![1, 2048]⟩
abbrev S1x1024 : Shape := ⟨2, ![1, 1024]⟩
abbrev S1x1024x1024 : Shape := ⟨3, ![1, 1024, 1024]⟩
abbrev S1x4x256x256 : Shape := ⟨4, ![1, 4, 256, 256]⟩
abbrev S_ : Shape := ⟨0, ![]⟩
abbrev S2048 : Shape := ⟨1, ![2048]⟩
abbrev S1x1x2048 : Shape := ⟨3, ![1, 1, 2048]⟩
abbrev S1024 : Shape := ⟨1, ![1024]⟩
abbrev S1x1x1024 : Shape := ⟨3, ![1, 1, 1024]⟩
abbrev S1x4112 : Shape := ⟨2, ![1, 4112]⟩
abbrev S1x4112x1 : Shape := ⟨3, ![1, 4112, 1]⟩
abbrev S1024x1024 : Shape := ⟨2, ![1024, 1024]⟩
abbrev S1x4112x4x256 : Shape := ⟨4, ![1, 4112, 4, 256]⟩
abbrev S4x256x256 : Shape := ⟨3, ![4, 256, 256]⟩
abbrev S4x256x1x4112 : Shape := ⟨4, ![4, 256, 1, 4112]⟩
abbrev S4x1x4112x256 : Shape := ⟨4, ![4, 1, 4112, 256]⟩
abbrev S4112 : Shape := ⟨1, ![4112]⟩
abbrev S240x1024 : Shape := ⟨2, ![240, 1024]⟩
abbrev S4112x1024 : Shape := ⟨2, ![4112, 1024]⟩
abbrev S4352x1024 : Shape := ⟨2, ![4352, 1024]⟩
abbrev S240x2048 : Shape := ⟨2, ![240, 2048]⟩
abbrev S4112x2048 : Shape := ⟨2, ![4112, 2048]⟩
abbrev S4352x2048 : Shape := ⟨2, ![4352, 2048]⟩

abbrev nBuf : Space → Nat
  | .hbm => 220
  | .vmem => 0
  | .smem => 0
  | _ => 0

abbrev hbmTy0_0 (i : Nat) : BufTy := match i % 128 with
  | 0 => ⟨S1x4112x2048, .f32⟩
  | 1 => ⟨S1x4112x1024, .f32⟩
  | 2 => ⟨S1x4112x1024, .f32⟩
  | 3 => ⟨S1x2048, .f32⟩
  | 4 => ⟨S1x1024, .f32⟩
  | 5 => ⟨S1x1024, .f32⟩
  | 6 => ⟨S1x1024, .f32⟩
  | 7 => ⟨S1x1024, .f32⟩
  | 8 => ⟨S1x1024x1024, .f32⟩
  | 9 => ⟨S1x4x256x256, .f32⟩
  | 10 => ⟨S1x1024x1024, .f32⟩
  | 11 => ⟨S1x1024x1024, .f32⟩
  | 12 => ⟨S1x4112x1024, .f32⟩
  | 13 => ⟨S_, .f32⟩
  | 14 => ⟨S1x4112x1024, .f32⟩
  | 15 => ⟨S2048, .f32⟩
  | 16 => ⟨S1x1x2048, .f32⟩
  | 17 => ⟨S1x4112x2048, .f32⟩
  | 18 => ⟨S1x4112x2048, .f32⟩
  | 19 => ⟨S1x4112x2048, .f32⟩
  | 20 => ⟨S1x4112x2048, .f32⟩
  | 21 => ⟨S_, .f32⟩
  | 22 => ⟨S1x4112x2048, .f32⟩
  | 23 => ⟨S1x4112x2048, .f32⟩
  | 24 => ⟨S_, .f32⟩
  | 25 => ⟨S1x4112x2048, .f32⟩
  | 26 => ⟨S1x4112x2048, .f32⟩
  | 27 => ⟨S_, .f32⟩
  | 28 => ⟨S1x4112x2048, .f32⟩
  | 29 => ⟨S1x4112x2048, .f32⟩
  | 30 => ⟨S1x4112x2048, .f32⟩
  | 31 => ⟨S1024, .f32⟩
  | 32 => ⟨S1x1x1024, .f32⟩
  | 33 => ⟨S1x4112x1024, .f32⟩
  | 34 => ⟨S1x4112x1024, .f32⟩
  | 35 => ⟨S1024, .f32⟩
  | 36 => ⟨S1024, .f32⟩
  | 37 => ⟨S_, .f32⟩
  | 38 => ⟨S1x4112, .f32⟩
  | 39 => ⟨S1x4112x1, .f32⟩
  | 40 => ⟨S_, .f32⟩
  | 41 => ⟨S1x4112x1, .f32⟩
  | 42 => ⟨S1x4112x1, .f32⟩
  | 43 => ⟨S1x4112x1024, .f32⟩
  | 44 => ⟨S1x4112x1024, .f32⟩
  | 45 => ⟨S1x4112x1024, .f32⟩
  | 46 => ⟨S_, .f32⟩
  | 47 => ⟨S1x4112, .f32⟩
  | 48 => ⟨S1x4112x1, .f32⟩
  | 49 => ⟨S_, .f32⟩
  | 50 => ⟨S1x4112x1, .f32⟩
  | 51 => ⟨S1x4112x1, .f32⟩
  | 52 => ⟨S_, .f32⟩
  | 53 => ⟨S1x4112x1, .f32⟩
  | 54 => ⟨S1x4112x1, .f32⟩
  | 55 => ⟨S1x4112x1, .f32⟩
  | 56 => ⟨S1x4112x1, .f32⟩
  | 57 => ⟨S_, .f32⟩
  | 58 => ⟨S1x4112x1, .f32⟩
  | 59 => ⟨S1x4112x1, .f32⟩
  | 60 => ⟨S1x4112x1024, .f32⟩
  | 61 => ⟨S1x4112x1024, .f32⟩
  | 62 => ⟨S1x1x1024, .f32⟩
  | 63 => ⟨S1x4112x1024, .f32⟩
  | 64 => ⟨S1x4112x1024, .f32⟩
  | 65 => ⟨S1x1x1024, .f32⟩
  | 66 => ⟨S1x4112x1024, .f32⟩
  | 67 => ⟨S1x4112x1024, .f32⟩
  | 68 => ⟨S1x4112x1024, .f32⟩
  | 69 => ⟨S1x4112x1024, .f32⟩
  | 70 => ⟨S_, .f32⟩
  | 71 => ⟨S1x4112x1024, .f32⟩
  | 72 => ⟨S1x4112x1024, .f32⟩
  | 73 => ⟨S_, .f32⟩
  | 74 => ⟨S1x4112x1024, .f32⟩
  | 75 => ⟨S1x4112x1024, .f32⟩
  | 76 => ⟨S_, .f32⟩
  | 77 => ⟨S1x4112x1024, .f32⟩
  | 78 => ⟨S1x4112x1024, .f32⟩
  | 79 => ⟨S1x4112x1024, .f32⟩
  | 80 => ⟨S1x4112x1024, .f32⟩
  | 81 => ⟨S1024x1024, .f32⟩
  | 82 => ⟨S1x4112x1024, .f32⟩
  | 83 => ⟨S1x4112x1024, .f32⟩
  | 84 => ⟨S1x4112x4x256, .f32⟩
  | 85 => ⟨S4x256x256, .f32⟩
  | 86 => ⟨S4x256x1x4112, .f32⟩
  | 87 => ⟨S1x4112x4x256, .f32⟩
  | 88 => ⟨S1x4112x1024, .f32⟩
  | 89 => ⟨S1x4112x1024, .f32⟩
  | 90 => ⟨S1024, .f32⟩
  | 91 => ⟨S1x1x1024, .f32⟩
  | 92 => ⟨S1x4112x1024, .f32⟩
  | 93 => ⟨S1x4112x1024, .f32⟩
  | 94 => ⟨S1024x1024, .f32⟩
  | 95 => ⟨S1x4112x1024, .f32⟩
  | 96 => ⟨S1x4112x1024, .f32⟩
  | 97 => ⟨S1x4112x1024, .f32⟩
  | 98 => ⟨S1x4112x1024, .f32⟩
  | 99 => ⟨S1x4112x1024, .f32⟩
  | 100 => ⟨S1x4112x1024, .f32⟩
  | 101 => ⟨S1x4112x1024, .f32⟩
  | 102 => ⟨S1024x1024, .f32⟩
  | 103 => ⟨S1x4112x1024, .f32⟩
  | 104 => ⟨S1x4112x1024, .f32⟩
  | 105 => ⟨S1x4112x1024, .f32⟩
  | 106 => ⟨S1x4112x1024, .f32⟩
  | 107 => ⟨S_, .f32⟩
  | 108 => ⟨S1x4112x2048, .f32⟩
  | 109 => ⟨S1x4112x1024, .f32⟩
  | 110 => ⟨S1x4112x1024, .f32⟩
  | 111 => ⟨S_, .f32⟩
  | 112 => ⟨S1x4112x2048, .f32⟩
  | 113 => ⟨S1x4112x2048, .f32⟩
  | 114 => ⟨S1x4112x1024, .f32⟩
  | 115 => ⟨S1x4112x1024, .f32⟩
  | 116 => ⟨S_, .f32⟩
  | 117 => ⟨S1x1024, .f32⟩
  | 118 => ⟨S1x1x1024, .f32⟩
  | 119 => ⟨S1x4112x1024, .f32⟩
  | 120 => ⟨S1x4112x1024, .f32⟩
  | 121 => ⟨S_, .f32⟩
  | 122 => ⟨S1024, .f32⟩
  | 123 => ⟨S1x1024, .f32⟩
  | 124 => ⟨S1x4112x4x256, .f32⟩
  | 125 => ⟨S4x256x1x4112, .f32⟩
  | 126 => ⟨S4x1x4112x256, .f32⟩
  | 127 => ⟨S1x4112x4x256, .f32⟩
  | _ => ⟨S1x4112x2048, .f32⟩

abbrev hbmTy0_1 (i : Nat) : BufTy := match i % 128 with
  | 0 => ⟨S1x4112x1024, .f32⟩
  | 1 => ⟨S1x4112x1024, .f32⟩
  | 2 => ⟨S1x4112x1024, .f32⟩
  | 3 => ⟨S1x4112x1024, .f32⟩
  | 4 => ⟨S1x4112x1024, .f32⟩
  | 5 => ⟨S1x4112x1024, .f32⟩
  | 6 => ⟨S_, .f32⟩
  | 7 => ⟨S1x1024, .f32⟩
  | 8 => ⟨S1x1x1024, .f32⟩
  | 9 => ⟨S_, .f32⟩
  | 10 => ⟨S1024, .f32⟩
  | 11 => ⟨S1x4112x1024, .f32⟩
  | 12 => ⟨S_, .f32⟩
  | 13 => ⟨S1x1024, .f32⟩
  | 14 => ⟨S1x1x1024, .f32⟩
  | 15 => ⟨S1x4112x1024, .f32⟩
  | 16 => ⟨S1x4112x1024, .f32⟩
  | 17 => ⟨S_, .f32⟩
  | 18 => ⟨S1024, .f32⟩
  | 19 => ⟨S1x4112x1024, .f32⟩
  | 20 => ⟨S_, .f32⟩
  | 21 => ⟨S1x4112, .f32⟩
  | 22 => ⟨S1x4112x1, .f32⟩
  | 23 => ⟨S1x4112x1024, .f32⟩
  | 24 => ⟨S1x4112x1024, .f32⟩
  | 25 => ⟨S1x4112x1, .f32⟩
  | 26 => ⟨S_, .f32⟩
  | 27 => ⟨S1x4112x1, .f32⟩
  | 28 => ⟨S1x4112x1, .f32⟩
  | 29 => ⟨S_, .f32⟩
  | 30 => ⟨S4112, .f32⟩
  | 31 => ⟨S1x4112, .f32⟩
  | 32 => ⟨S1x4112x1024, .f32⟩
  | 33 => ⟨S1x4112x1024, .f32⟩
  | 34 => ⟨S1x4112x1024, .f32⟩
  | 35 => ⟨S1x4112x1024, .f32⟩
  | 36 => ⟨S1x4112x1024, .f32⟩
  | 37 => ⟨S1x4112x1024, .f32⟩
  | 38 => ⟨S_, .f32⟩
  | 39 => ⟨S1x4112, .f32⟩
  | 40 => ⟨S1x4112x1, .f32⟩
  | 41 => ⟨S_, .f32⟩
  | 42 => ⟨S1x4112x1, .f32⟩
  | 43 => ⟨S1x4112x1, .f32⟩
  | 44 => ⟨S_, .f32⟩
  | 45 => ⟨S4112, .f32⟩
  | 46 => ⟨S1x4112, .f32⟩
  | 47 => ⟨S1x4112x1024, .f32⟩
  | 48 => ⟨S1x4112x1024, .f32⟩
  | 49 => ⟨S1x1024, .f32⟩
  | 50 => ⟨S1x1024, .f32⟩
  | 51 => ⟨S_, .f32⟩
  | 52 => ⟨S1x1024, .f32⟩
  | 53 => ⟨S1x1x1024, .f32⟩
  | 54 => ⟨S_, .f32⟩
  | 55 => ⟨S1024, .f32⟩
  | 56 => ⟨S1x1024, .f32⟩
  | 57 => ⟨S1x4112x2048, .f32⟩
  | 58 => ⟨S_, .f32⟩
  | 59 => ⟨S1x2048, .f32⟩
  | 60 => ⟨S1x1x2048, .f32⟩
  | 61 => ⟨S_, .f32⟩
  | 62 => ⟨S2048, .f32⟩
  | 63 => ⟨S1x2048, .f32⟩
  | 64 => ⟨S_, .f32⟩
  | 65 => ⟨S240x1024, .f32⟩
  | 66 => ⟨S4112x1024, .f32⟩
  | 67 => ⟨S4352x1024, .f32⟩
  | 68 => ⟨S4352x1024, .bf16⟩
  | 69 => ⟨S_, .f32⟩
  | 70 => ⟨S240x1024, .f32⟩
  | 71 => ⟨S4112x1024, .f32⟩
  | 72 => ⟨S4352x1024, .f32⟩
  | 73 => ⟨S4352x1024, .bf16⟩
  | 74 => ⟨S_, .f32⟩
  | 75 => ⟨S240x2048, .f32⟩
  | 76 => ⟨S4112x2048, .f32⟩
  | 77 => ⟨S4352x2048, .f32⟩
  | 78 => ⟨S4352x2048, .bf16⟩
  | 79 => ⟨S_, .f32⟩
  | 80 => ⟨S240x1024, .f32⟩
  | 81 => ⟨S4112x1024, .f32⟩
  | 82 => ⟨S4352x1024, .f32⟩
  | 83 => ⟨S_, .f32⟩
  | 84 => ⟨S240x1024, .f32⟩
  | 85 => ⟨S4112x1024, .f32⟩
  | 86 => ⟨S4352x1024, .f32⟩
  | 87 => ⟨S4352x1024, .bf16⟩
  | 88 => ⟨S_, .f32⟩
  | 89 => ⟨S240x1024, .f32⟩
  | 90 => ⟨S4112x1024, .f32⟩
  | 91 => ⟨S4352x1024, .f32⟩
  | _ => ⟨S1x4112x2048, .f32⟩

abbrev hbmTy (i : Nat) : BufTy := match i / 128 with
  | 0 => hbmTy0_0 i
  | 1 => hbmTy0_1 i
  | _ => ⟨S1x4112x2048, .f32⟩

abbrev bufTy : (tb : Table) → Fin (tcTables nBuf tb) → BufTy
  | .hbm, ⟨i, _⟩ => hbmTy i
  | _, _ => ⟨S1x4112x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_cst_6 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_v45_2 : Ref sig .tc := ⟨.hbm, 75, rfl⟩
abbrev main_call0_cst_1 : Ref sig .tc := ⟨.hbm, 76, rfl⟩
abbrev main_call0_v6 : Ref sig .tc := ⟨.hbm, 77, rfl⟩
abbrev main_call0_v7 : Ref sig .tc := ⟨.hbm, 78, rfl⟩
abbrev main_v45_1 : Ref sig .tc := ⟨.hbm, 79, rfl⟩
abbrev main_v45_0 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_9 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_10 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_11 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_12 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v91 : Ref sig .tc := ⟨.hbm, 133, rfl⟩
abbrev main_cst_13 : Ref sig .tc := ⟨.hbm, 134, rfl⟩
abbrev main_v92 : Ref sig .tc := ⟨.hbm, 135, rfl⟩
abbrev main_v93 : Ref sig .tc := ⟨.hbm, 136, rfl⟩
abbrev main_cst_14 : Ref sig .tc := ⟨.hbm, 137, rfl⟩
abbrev main_v94 : Ref sig .tc := ⟨.hbm, 138, rfl⟩
abbrev main_v95 : Ref sig .tc := ⟨.hbm, 139, rfl⟩
abbrev main_cst_15 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_16 : Ref sig .tc := ⟨.hbm, 145, rfl⟩
abbrev main_v100 : Ref sig .tc := ⟨.hbm, 146, rfl⟩
abbrev main_v101 : Ref sig .tc := ⟨.hbm, 147, rfl⟩
abbrev main_cst_17 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_18 : Ref sig .tc := ⟨.hbm, 154, rfl⟩
abbrev main_v107 : Ref sig .tc := ⟨.hbm, 155, rfl⟩
abbrev main_v108 : Ref sig .tc := ⟨.hbm, 156, rfl⟩
abbrev main_cst_19 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_20 : Ref sig .tc := ⟨.hbm, 166, rfl⟩
abbrev main_v117 : Ref sig .tc := ⟨.hbm, 167, rfl⟩
abbrev main_v118 : Ref sig .tc := ⟨.hbm, 168, rfl⟩
abbrev main_cst_21 : Ref sig .tc := ⟨.hbm, 169, rfl⟩
abbrev main_v119 : Ref sig .tc := ⟨.hbm, 170, rfl⟩
abbrev main_v120 : Ref sig .tc := ⟨.hbm, 171, rfl⟩
abbrev main_cst_22 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_cst_23 : Ref sig .tc := ⟨.hbm, 179, rfl⟩
abbrev main_v127 : Ref sig .tc := ⟨.hbm, 180, rfl⟩
abbrev main_v128 : Ref sig .tc := ⟨.hbm, 181, rfl⟩
abbrev main_cst_24 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_25 : Ref sig .tc := ⟨.hbm, 186, rfl⟩
abbrev main_v132 : Ref sig .tc := ⟨.hbm, 187, rfl⟩
abbrev main_v133 : Ref sig .tc := ⟨.hbm, 188, rfl⟩
abbrev main_cst_26 : Ref sig .tc := ⟨.hbm, 189, rfl⟩
abbrev main_v134 : Ref sig .tc := ⟨.hbm, 190, rfl⟩
abbrev main_v135 : Ref sig .tc := ⟨.hbm, 191, rfl⟩
abbrev main_cst_27 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_cst_28 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_cst_29 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_cst_30 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_31 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_cst_32 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩

abbrev nD : Nat := 1
abbrev τ : Topo := Topo.v7x

variable {F : FTy → Type} [FloatOps F]
-- ==== Kernel2.lean ====
abbrev S1x4112x1024 : Shape := ⟨3, ![1, 4112, 1024]⟩
abbrev S1x4096x1024 : Shape := ⟨3, ![1, 4096, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S240x1024 : Shape := ⟨2, ![240, 1024]⟩
abbrev S4112x1024 : Shape := ⟨2, ![4112, 1024]⟩
abbrev S4352x1024 : Shape := ⟨2, ![4352, 1024]⟩
abbrev S4096x1024 : Shape := ⟨2, ![4096, 1024]⟩
abbrev S1024x2816 : Shape := ⟨2, ![1024, 2816]⟩
abbrev S2816x1024 : Shape := ⟨2, ![2816, 1024]⟩
abbrev S4352x2816 : Shape := ⟨2, ![4352, 2816]⟩
abbrev S1x1 : Shape := ⟨2, ![1, 1]⟩
abbrev S256x1024 : Shape := ⟨2, ![256, 1024]⟩
abbrev S256x2816 : Shape := ⟨2, ![256, 2816]⟩
abbrev S3 : Shape := ⟨1, ![3]⟩
abbrev S1 : Shape := ⟨1, ![1]⟩
abbrev S256 : Shape := ⟨1, ![256]⟩
abbrev S256x1 : Shape := ⟨2, ![256, 1]⟩
abbrev S1x256x1 : Shape := ⟨3, ![1, 256, 1]⟩
abbrev S1x1x1 : Shape := ⟨3, ![1, 1, 1]⟩

abbrev nBuf : Space → Nat
  | .hbm => 31
  | .vmem => 26
  | .smem => 0
  | _ => 0

abbrev bufTy : (tb : Table) → Fin (tcTables nBuf tb) → BufTy
  | .hbm, ⟨0, _⟩ => ⟨S1x4112x1024, .f32⟩
  | .hbm, ⟨1, _⟩ => ⟨S1x4096x1024, .f32⟩
  | .hbm, ⟨2, _⟩ => ⟨S1x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S_, .f32⟩
  | .hbm, ⟨8, _⟩ => ⟨S240x1024, .f32⟩
  | .hbm, ⟨9, _⟩ => ⟨S4112x1024, .f32⟩
  | .hbm, ⟨10, _⟩ => ⟨S4352x1024, .f32⟩
  | .hbm, ⟨11, _⟩ => ⟨S4096x1024, .f32⟩
  | .hbm, ⟨12, _⟩ => ⟨S1x1024, .f32⟩
  | .hbm, ⟨13, _⟩ => ⟨S1024x2816, .f32⟩
  | .hbm, ⟨14, _⟩ => ⟨S1024x2816, .bf16⟩
  | .hbm, ⟨15, _⟩ => ⟨S2816x1024, .bf16⟩
  | .hbm, ⟨16, _⟩ => ⟨S1024x2816, .f32⟩
  | .hbm, ⟨17, _⟩ => ⟨S1024x2816, .bf16⟩
  | .hbm, ⟨18, _⟩ => ⟨S2816x1024, .bf16⟩
  | .hbm, ⟨19, _⟩ => ⟨S2816x1024, .f32⟩
  | .hbm, ⟨20, _⟩ => ⟨S2816x1024, .bf16⟩
  | .hbm, ⟨21, _⟩ => ⟨S4352x1024, .f32⟩
  | .hbm, ⟨22, _⟩ => ⟨S4352x1024, .bf16⟩
  | .hbm, ⟨23, _⟩ => ⟨S4352x1024, .bf16⟩
  | .hbm, ⟨24, _⟩ => ⟨S4352x2816, .bf16⟩
  | .hbm, ⟨25, _⟩ => ⟨S4352x2816, .bf16⟩
  | .hbm, ⟨26, _⟩ => ⟨S4352x2816, .bf16⟩
  | .hbm, ⟨27, _⟩ => ⟨S4352x1024, .bf16⟩
  | .hbm, ⟨28, _⟩ => ⟨S1x1, .f32⟩
  | .hbm, ⟨29, _⟩ => ⟨S1x1024, .f32⟩
  | .hbm, ⟨30, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S1x1, .f32⟩
  | .local _ .vmem, ⟨21, _⟩ => ⟨S1x1024, .f32⟩
  | .local _ .vmem, ⟨22, _⟩ => ⟨S1x1024, .f32⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | _, _ => ⟨S1x4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v13_6 : Ref sig .tc := ⟨.hbm, 27, rfl⟩
abbrev main_v13_7 : Ref sig .tc := ⟨.hbm, 28, rfl⟩
abbrev main_v13_8 : Ref sig .tc := ⟨.hbm, 29, rfl⟩
abbrev main_v13_9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S1x4112x1024 : Shape := ⟨3, ![1, 4112, 1024]⟩
abbrev S1x4096x1024 : Shape := ⟨3, ![1, 4096, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S1x4112x2816 : Shape := ⟨3, ![1, 4112, 2816]⟩
abbrev S1x4112 : Shape := ⟨2, ![1, 4112]⟩
abbrev S1x4112x1 : Shape := ⟨3, ![1, 4112, 1]⟩
abbrev S1x1x1024 : Shape := ⟨3, ![1, 1, 1024]⟩
abbrev S1024x2816 : Shape := ⟨2, ![1024, 2816]⟩
abbrev S2816x1024 : Shape := ⟨2, ![2816, 1024]⟩
abbrev S1x4096 : Shape := ⟨2, ![1, 4096]⟩
abbrev S4112 : Shape := ⟨1, ![4112]⟩
abbrev S240x1024 : Shape := ⟨2, ![240, 1024]⟩
abbrev S4112x1024 : Shape := ⟨2, ![4112, 1024]⟩
abbrev S4352x1024 : Shape := ⟨2, ![4352, 1024]⟩
abbrev S240x2816 : Shape := ⟨2, ![240, 2816]⟩
abbrev S4112x2816 : Shape := ⟨2, ![4112, 2816]⟩
abbrev S4352x2816 : Shape := ⟨2, ![4352, 2816]⟩
abbrev S1x1 : Shape := ⟨2, ![1, 1]⟩

abbrev nBuf : Space → Nat
  | .hbm => 202
  | .vmem => 0
  | .smem => 0
  | _ => 0

abbrev hbmTy0_0 (i : Nat) : BufTy := match i % 128 with
  | 0 => ⟨S1x4112x1024, .f32⟩
  | 1 => ⟨S1x4096x1024, .f32⟩
  | 2 => ⟨S1x1024, .f32⟩
  | 3 => ⟨S1024, .f32⟩
  | 4 => ⟨S1x1024x2816, .f32⟩
  | 5 => ⟨S1x1024x2816, .f32⟩
  | 6 => ⟨S1x2816x1024, .f32⟩
  | 7 => ⟨S_, .f32⟩
  | 8 => ⟨S1x4112x2816, .f32⟩
  | 9 => ⟨S_, .f32⟩
  | 10 => ⟨S1x4112x1024, .f32⟩
  | 11 => ⟨S1024, .f32⟩
  | 12 => ⟨S1x4112x1024, .f32⟩
  | 13 => ⟨S_, .f32⟩
  | 14 => ⟨S1x4112, .f32⟩
  | 15 => ⟨S1x4112x1, .f32⟩
  | 16 => ⟨S_, .f32⟩
  | 17 => ⟨S1x4112x1, .f32⟩
  | 18 => ⟨S1x4112x1, .f32⟩
  | 19 => ⟨S_, .f32⟩
  | 20 => ⟨S1x4112x1, .f32⟩
  | 21 => ⟨S1x4112x1, .f32⟩
  | 22 => ⟨S1x4112x1, .f32⟩
  | 23 => ⟨S1x4112x1, .f32⟩
  | 24 => ⟨S_, .f32⟩
  | 25 => ⟨S1x4112x1, .f32⟩
  | 26 => ⟨S1x4112x1, .f32⟩
  | 27 => ⟨S1x4112x1024, .f32⟩
  | 28 => ⟨S1x4112x1024, .f32⟩
  | 29 => ⟨S1x1x1024, .f32⟩
  | 30 => ⟨S1x4112x1024, .f32⟩
  | 31 => ⟨S1x4112x1024, .f32⟩
  | 32 => ⟨S1024x2816, .f32⟩
  | 33 => ⟨S1x4112x2816, .f32⟩
  | 34 => ⟨S1x4112x2816, .f32⟩
  | 35 => ⟨S1x4112x2816, .f32⟩
  | 36 => ⟨S1x4112x2816, .f32⟩
  | 37 => ⟨S_, .f32⟩
  | 38 => ⟨S1x4112x2816, .f32⟩
  | 39 => ⟨S1x4112x2816, .f32⟩
  | 40 => ⟨S_, .f32⟩
  | 41 => ⟨S1x4112x2816, .f32⟩
  | 42 => ⟨S1x4112x2816, .f32⟩
  | 43 => ⟨S_, .f32⟩
  | 44 => ⟨S1x4112x2816, .f32⟩
  | 45 => ⟨S1x4112x2816, .f32⟩
  | 46 => ⟨S1x4112x2816, .f32⟩
  | 47 => ⟨S1x4112x2816, .f32⟩
  | 48 => ⟨S1024x2816, .f32⟩
  | 49 => ⟨S1x4112x2816, .f32⟩
  | 50 => ⟨S1x4112x2816, .f32⟩
  | 51 => ⟨S1x4112x2816, .f32⟩
  | 52 => ⟨S2816x1024, .f32⟩
  | 53 => ⟨S1x4112x1024, .f32⟩
  | 54 => ⟨S1x4112x1024, .f32⟩
  | 55 => ⟨S1x4112x1024, .f32⟩
  | 56 => ⟨S1x4112x1024, .f32⟩
  | 57 => ⟨S_, .f32⟩
  | 58 => ⟨S1x4112, .f32⟩
  | 59 => ⟨S1x4112x1, .f32⟩
  | 60 => ⟨S_, .f32⟩
  | 61 => ⟨S1x4112x1, .f32⟩
  | 62 => ⟨S1x4112x1, .f32⟩
  | 63 => ⟨S_, .f32⟩
  | 64 => ⟨S1x4112x1, .f32⟩
  | 65 => ⟨S1x4112x1, .f32⟩
  | 66 => ⟨S1x4112x1, .f32⟩
  | 67 => ⟨S1x4112x1, .f32⟩
  | 68 => ⟨S_, .f32⟩
  | 69 => ⟨S1x4112x1, .f32⟩
  | 70 => ⟨S1x4112x1, .f32⟩
  | 71 => ⟨S1x4112x1024, .f32⟩
  | 72 => ⟨S1x4112x1024, .f32⟩
  | 73 => ⟨S1x1x1024, .f32⟩
  | 74 => ⟨S1x4112x1024, .f32⟩
  | 75 => ⟨S1x4112x1024, .f32⟩
  | 76 => ⟨S1x4096x1024, .f32⟩
  | 77 => ⟨S1x4096x1024, .f32⟩
  | 78 => ⟨S1x4096x1024, .f32⟩
  | 79 => ⟨S_, .f32⟩
  | 80 => ⟨S1x4096x1024, .f32⟩
  | 81 => ⟨S1x4096x1024, .f32⟩
  | 82 => ⟨S_, .f32⟩
  | 83 => ⟨S1x4096, .f32⟩
  | 84 => ⟨S_, .f32⟩
  | 85 => ⟨S1x4096, .f32⟩
  | 86 => ⟨S1x4096, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S1x4096, .f32⟩
  | 95 => ⟨S_, .f32⟩
  | 96 => ⟨S1x4096, .f32⟩
  | 97 => ⟨S1x4096, .f32⟩
  | 98 => ⟨S1x4096x1024, .f32⟩
  | 99 => ⟨S1x4096x1024, .f32⟩
  | 100 => ⟨S_, .f32⟩
  | 101 => ⟨S1x4112x1024, .f32⟩
  | 102 => ⟨S1x4112x1024, .f32⟩
  | 103 => ⟨S_, .f32⟩
  | 104 => ⟨S1x1024, .f32⟩
  | 105 => ⟨S1x1x1024, .f32⟩
  | 106 => ⟨S1x4112x1024, .f32⟩
  | 107 => ⟨S1x4112x1024, .f32⟩
  | 108 => ⟨S_, .f32⟩
  | 109 => ⟨S1024, .f32⟩
  | 110 => ⟨S1x4112x1024, .f32⟩
  | 111 => ⟨S_, .f32⟩
  | 112 => ⟨S1x4112, .f32⟩
  | 113 => ⟨S1x4112x1, .f32⟩
  | 114 => ⟨S1x4112x1024, .f32⟩
  | 115 => ⟨S1x4112x1024, .f32⟩
  | 116 => ⟨S1x4112x1, .f32⟩
  | 117 => ⟨S_, .f32⟩
  | 118 => ⟨S1x4112x1, .f32⟩
  | 119 => ⟨S1x4112x1, .f32⟩
  | 120 => ⟨S_, .f32⟩
  | 121 => ⟨S4112, .f32⟩
  | 122 => ⟨S1x4112, .f32⟩
  | 123 => ⟨S1x4112x1024, .f32⟩
  | 124 => ⟨S1x4112x1024, .f32⟩
  | 125 => ⟨S1x4112x1024, .f32⟩
  | 126 => ⟨S1x4112x1024, .f32⟩
  | 127 => ⟨S1x4112x1024, .f32⟩
  | _ => ⟨S1x4112x1024, .f32⟩

abbrev hbmTy0_1 (i : Nat) : BufTy := match i % 128 with
  | 0 => ⟨S1x4112x2816, .f32⟩
  | 1 => ⟨S1x4112x2816, .f32⟩
  | 2 => ⟨S1x4112x2816, .f32⟩
  | 3 => ⟨S1x4112x1024, .f32⟩
  | 4 => ⟨S1x4112x2816, .f32⟩
  | 5 => ⟨S1x4112x2816, .f32⟩
  | 6 => ⟨S1x4112x2816, .f32⟩
  | 7 => ⟨S1x4112x2816, .f32⟩
  | 8 => ⟨S1x4112x1024, .f32⟩
  | 9 => ⟨S1x4112x1024, .f32⟩
  | 10 => ⟨S1x4112x1024, .f32⟩
  | 11 => ⟨S_, .f32⟩
  | 12 => ⟨S1x1024, .f32⟩
  | 13 => ⟨S1x1x1024, .f32⟩
  | 14 => ⟨S1x4112x1024, .f32⟩
  | 15 => ⟨S1x4112x1024, .f32⟩
  | 16 => ⟨S_, .f32⟩
  | 17 => ⟨S1024, .f32⟩
  | 18 => ⟨S1x4112x1024, .f32⟩
  | 19 => ⟨S_, .f32⟩
  | 20 => ⟨S1x4112, .f32⟩
  | 21 => ⟨S1x4112x1, .f32⟩
  | 22 => ⟨S1x4112x1024, .f32⟩
  | 23 => ⟨S1x4112x1024, .f32⟩
  | 24 => ⟨S1x4112x1024, .f32⟩
  | 25 => ⟨S1x4112x1, .f32⟩
  | 26 => ⟨S_, .f32⟩
  | 27 => ⟨S1x4112x1, .f32⟩
  | 28 => ⟨S1x4112x1, .f32⟩
  | 29 => ⟨S_, .f32⟩
  | 30 => ⟨S4112, .f32⟩
  | 31 => ⟨S1x4112, .f32⟩
  | 32 => ⟨S1x4112x1024, .f32⟩
  | 33 => ⟨S1x4112x1024, .f32⟩
  | 34 => ⟨S1x4112x1024, .f32⟩
  | 35 => ⟨S1x4112x1024, .f32⟩
  | 36 => ⟨S1x4112x1024, .f32⟩
  | 37 => ⟨S1x1024, .f32⟩
  | 38 => ⟨S_, .f32⟩
  | 39 => ⟨S240x1024, .f32⟩
  | 40 => ⟨S4112x1024, .f32⟩
  | 41 => ⟨S4352x1024, .f32⟩
  | 42 => ⟨S_, .f32⟩
  | 43 => ⟨S240x1024, .f32⟩
  | 44 => ⟨S4112x1024, .f32⟩
  | 45 => ⟨S4352x1024, .f32⟩
  | 46 => ⟨S4352x1024, .bf16⟩
  | 47 => ⟨S_, .f32⟩
  | 48 => ⟨S240x1024, .f32⟩
  | 49 => ⟨S4112x1024, .f32⟩
  | 50 => ⟨S4352x1024, .f32⟩
  | 51 => ⟨S4352x1024, .bf16⟩
  | 52 => ⟨S_, .f32⟩
  | 53 => ⟨S240x2816, .f32⟩
  | 54 => ⟨S4112x2816, .f32⟩
  | 55 => ⟨S4352x2816, .f32⟩
  | 56 => ⟨S4352x2816, .bf16⟩
  | 57 => ⟨S_, .f32⟩
  | 58 => ⟨S240x2816, .f32⟩
  | 59 => ⟨S4112x2816, .f32⟩
  | 60 => ⟨S4352x2816, .f32⟩
  | 61 => ⟨S4352x2816, .bf16⟩
  | 62 => ⟨S_, .f32⟩
  | 63 => ⟨S240x2816, .f32⟩
  | 64 => ⟨S4112x2816, .f32⟩
  | 65 => ⟨S4352x2816, .f32⟩
  | 66 => ⟨S4352x2816, .bf16⟩
  | 67 => ⟨S_, .f32⟩
  | 68 => ⟨S240x1024, .f32⟩
  | 69 => ⟨S4112x1024, .f32⟩
  | 70 => ⟨S4352x1024, .f32⟩
  | 71 => ⟨S4352x1024, .bf16⟩
  | 72 => ⟨S1x1, .f32⟩
  | 73 => ⟨S1x1024, .f32⟩
  | _ => ⟨S1x4112x1024, .f32⟩

abbrev hbmTy (i : Nat) : BufTy := match i / 128 with
  | 0 => hbmTy0_0 i
  | 1 => hbmTy0_1 i
  | _ => ⟨S1x4112x1024, .f32⟩

abbrev bufTy : (tb : Table) → Fin (tcTables nBuf tb) → BufTy
  | .hbm, ⟨i, _⟩ => hbmTy i
  | _, _ => ⟨S1x4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v22_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v22_1 : Ref sig .tc := ⟨.hbm, 46, rfl⟩
abbrev main_v22_0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_cst_12 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_cst_14 : Ref sig .tc := ⟨.hbm, 91, rfl⟩
abbrev main_cst_15 : Ref sig .tc := ⟨.hbm, 92, rfl⟩
abbrev main_v57 : Ref sig .tc := ⟨.hbm, 93, rfl⟩
abbrev main_v58 : Ref sig .tc := ⟨.hbm, 94, rfl⟩
abbrev main_cst_16 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_17 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_cst_20 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_21 : Ref sig .tc := ⟨.hbm, 117, rfl⟩
abbrev main_v76 : Ref sig .tc := ⟨.hbm, 118, rfl⟩
abbrev main_v77 : Ref sig .tc := ⟨.hbm, 119, rfl⟩
abbrev main_cst_22 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call1_v0 : Ref sig .tc := ⟨.hbm, 132, rfl⟩
abbrev main_call1_v1 : Ref sig .tc := ⟨.hbm, 133, rfl⟩
abbrev main_call1_v2 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_23 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_24 : Ref sig .tc := ⟨.hbm, 144, rfl⟩
abbrev main_v97 : Ref sig .tc := ⟨.hbm, 145, rfl⟩
abbrev main_v98 : Ref sig .tc := ⟨.hbm, 146, rfl⟩
abbrev main_cst_25 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_26 : Ref sig .tc := ⟨.hbm, 154, rfl⟩
abbrev main_v105 : Ref sig .tc := ⟨.hbm, 155, rfl⟩
abbrev main_v106 : Ref sig .tc := ⟨.hbm, 156, rfl⟩
abbrev main_cst_27 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_28 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_29 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_cst_30 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_31 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_cst_32 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_33 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_34 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩

abbrev nD : Nat := 1
abbrev τ : Topo := Topo.v7x

variable {F : FTy → Type} [FloatOps F]
-- ==== Kernel3.lean ====
abbrev S1x4096x1024 : Shape := ⟨3, ![1, 4096, 1024]⟩
abbrev S16x1024 : Shape := ⟨2, ![16, 1024]⟩
abbrev S1x1024 : Shape := ⟨2, ![1, 1024]⟩
abbrev S1x1024x5120 : Shape := ⟨3, ![1, 1024, 5120]⟩
abbrev S1x31x1024 : Shape := ⟨3, ![1, 31, 1024]⟩
abbrev S1x4112x1024 : Shape := ⟨3, ![1, 4112, 1024]⟩
abbrev S1x4112x2048 : Shape := ⟨3, ![1, 4112, 2048]⟩
abbrev S_ : Shape := ⟨0, ![]⟩
abbrev S240x1024 : Shape := ⟨2, ![240, 1024]⟩
abbrev S256x1024 : Shape := ⟨2, ![256, 1024]⟩
abbrev S4096x1024 : Shape := ⟨2, ![4096, 1024]⟩
abbrev S4352x1024 : Shape := ⟨2, ![4352, 1024]⟩
abbrev S1024 : Shape := ⟨1, ![1024]⟩
abbrev S4352 : Shape := ⟨1, ![4352]⟩
abbrev S4352x1 : Shape := ⟨2, ![4352, 1]⟩
abbrev S1024x5120 : Shape := ⟨2, ![1024, 5120]⟩
abbrev S4352x5120 : Shape := ⟨2, ![4352, 5120]⟩
abbrev S1024x4x1280 : Shape := ⟨3, ![1024, 4, 1280]⟩
abbrev S4x1024x1280 : Shape := ⟨3, ![4, 1024, 1280]⟩
abbrev S4112x1024 : Shape := ⟨2, ![4112, 1024]⟩
abbrev S240x2048 : Shape := ⟨2, ![240, 2048]⟩
abbrev S4112x2048 : Shape := ⟨2, ![4112, 2048]⟩
abbrev S4352x2048 : Shape := ⟨2, ![4352, 2048]⟩
abbrev S31x1024 : Shape := ⟨2, ![31, 1024]⟩
abbrev S32x1024 : Shape := ⟨2, ![32, 1024]⟩
abbrev S8x128 : Shape := ⟨2, ![8, 128]⟩
abbrev S16x2048 : Shape := ⟨2, ![16, 2048]⟩
abbrev S256x2048 : Shape := ⟨2, ![256, 2048]⟩
abbrev S256x5120 : Shape := ⟨2, ![256, 5120]⟩
abbrev S1 : Shape := ⟨1, ![1]⟩
abbrev S288x1024 : Shape := ⟨2, ![288, 1024]⟩
abbrev S8x280x128 : Shape := ⟨3, ![8, 280, 128]⟩
abbrev S32x8x1024 : Shape := ⟨3, ![32, 8, 1024]⟩
abbrev S280x128 : Shape := ⟨2, ![280, 128]⟩
abbrev S1x280x128 : Shape := ⟨3, ![1, 280, 128]⟩
abbrev S256x128 : Shape := ⟨2, ![256, 128]⟩
abbrev S1x128 : Shape := ⟨2, ![1, 128]⟩
abbrev S1x256x128 : Shape := ⟨3, ![1, 256, 128]⟩
abbrev S1x8x128 : Shape := ⟨3, ![1, 8, 128]⟩
abbrev S32x8x128 : Shape := ⟨3, ![32, 8, 128]⟩
abbrev S288x1 : Shape := ⟨2, ![288, 1]⟩
abbrev S288x256 : Shape := ⟨2, ![288, 256]⟩
abbrev S256x256 : Shape := ⟨2, ![256, 256]⟩
abbrev S256x1280 : Shape := ⟨2, ![256, 1280]⟩
abbrev S1x1024x1280 : Shape := ⟨3, ![1, 1024, 1280]⟩
abbrev S1024x1280 : Shape := ⟨2, ![1024, 1280]⟩
abbrev S256 : Shape := ⟨1, ![256]⟩
abbrev S256x1 : Shape := ⟨2, ![256, 1]⟩
abbrev S4112x5120 : Shape := ⟨2, ![4112, 5120]⟩

abbrev nBuf : Space → Nat
  | .hbm => 69
  | .vmem => 41
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x5120, .f32⟩
  | .hbm, ⟨4, _⟩ => ⟨S1x31x1024, .f32⟩
  | .hbm, ⟨5, _⟩ => ⟨S1x4112x1024, .f32⟩
  | .hbm, ⟨6, _⟩ => ⟨S1x4112x1024, .f32⟩
  | .hbm, ⟨7, _⟩ => ⟨S1x4112x2048, .f32⟩
  | .hbm, ⟨8, _⟩ => ⟨S1x4112x1024, .f32⟩
  | .hbm, ⟨9, _⟩ => ⟨S_, .f32⟩
  | .hbm, ⟨10, _⟩ => ⟨S240x1024, .f32⟩
  | .hbm, ⟨11, _⟩ => ⟨S256x1024, .f32⟩
  | .hbm, ⟨12, _⟩ => ⟨S4096x1024, .f32⟩
  | .hbm, ⟨13, _⟩ => ⟨S4352x1024, .f32⟩
  | .hbm, ⟨14, _⟩ => ⟨S1024, .f32⟩
  | .hbm, ⟨15, _⟩ => ⟨S4352x1024, .f32⟩
  | .hbm, ⟨16, _⟩ => ⟨S_, .f32⟩
  | .hbm, ⟨17, _⟩ => ⟨S4352, .f32⟩
  | .hbm, ⟨18, _⟩ => ⟨S4352x1, .f32⟩
  | .hbm, ⟨19, _⟩ => ⟨S_, .f32⟩
  | .hbm, ⟨20, _⟩ => ⟨S4352x1, .f32⟩
  | .hbm, ⟨21, _⟩ => ⟨S4352x1, .f32⟩
  | .hbm, ⟨22, _⟩ => ⟨S_, .f32⟩
  | .hbm, ⟨23, _⟩ => ⟨S4352x1, .f32⟩
  | .hbm, ⟨24, _⟩ => ⟨S4352x1, .f32⟩
  | .hbm, ⟨25, _⟩ => ⟨S4352x1, .f32⟩
  | .hbm, ⟨26, _⟩ => ⟨S4352x1024, .f32⟩
  | .hbm, ⟨27, _⟩ => ⟨S4352x1024, .f32⟩
  | .hbm, ⟨28, _⟩ => ⟨S1x1024, .f32⟩
  | .hbm, ⟨29, _⟩ => ⟨S4352x1024, .f32⟩
  | .hbm, ⟨30, _⟩ => ⟨S4352x1024, .f32⟩
  | .hbm, ⟨31, _⟩ => ⟨S1024x5120, .f32⟩
  | .hbm, ⟨32, _⟩ => ⟨S4352x5120, .f32⟩
  | .hbm, ⟨33, _⟩ => ⟨S1024x5120, .f32⟩
  | .hbm, ⟨34, _⟩ => ⟨S1024x4x1280, .f32⟩
  | .hbm, ⟨35, _⟩ => ⟨S4x1024x1280, .f32⟩
  | .hbm, ⟨36, _⟩ => ⟨S4x1024x1280, .bf16⟩
  | .hbm, ⟨37, _⟩ => ⟨S_, .f32⟩
  | .hbm, ⟨38, _⟩ => ⟨S240x1024, .f32⟩
  | .hbm, ⟨39, _⟩ => ⟨S4112x1024, .f32⟩
  | .hbm, ⟨40, _⟩ => ⟨S4352x1024, .f32⟩
  | .hbm, ⟨41, _⟩ => ⟨S_, .f32⟩
  | .hbm, ⟨42, _⟩ => ⟨S240x1024, .f32⟩
  | .hbm, ⟨43, _⟩ => ⟨S4112x1024, .f32⟩
  | .hbm, ⟨44, _⟩ => ⟨S4352x1024, .f32⟩
  | .hbm, ⟨45, _⟩ => ⟨S_, .f32⟩
  | .hbm, ⟨46, _⟩ => ⟨S240x2048, .f32⟩
  | .hbm, ⟨47, _⟩ => ⟨S4112x2048, .f32⟩
  | .hbm, ⟨48, _⟩ => ⟨S4352x2048, .f32⟩
  | .hbm, ⟨49, _⟩ => ⟨S4352x2048, .bf16⟩
  | .hbm, ⟨50, _⟩ => ⟨S31x1024, .f32⟩
  | .hbm, ⟨51, _⟩ => ⟨S_, .f32⟩
  | .hbm, ⟨52, _⟩ => ⟨S1x1024, .f32⟩
  | .hbm, ⟨53, _⟩ => ⟨S32x1024, .f32⟩
  | .hbm, ⟨54, _⟩ => ⟨S4096x1024, .f32⟩
  | .hbm, ⟨55, _⟩ => ⟨S_, .f32⟩
  | .hbm, ⟨56, _⟩ => ⟨S240x1024, .f32⟩
  | .hbm, ⟨57, _⟩ => ⟨S4112x1024, .f32⟩
  | .hbm, ⟨58, _⟩ => ⟨S4352x1024, .f32⟩
  | .hbm, ⟨59, _⟩ => ⟨S_, .f32⟩
  | .hbm, ⟨60, _⟩ => ⟨S8x128, .f32⟩
  | .hbm, ⟨61, _⟩ => ⟨S4352x5120, .bf16⟩
  | .hbm, ⟨62, _⟩ => ⟨S4096x1024, .f32⟩
  | .hbm, ⟨63, _⟩ => ⟨S256x1024, .f32⟩
  | .hbm, ⟨64, _⟩ => ⟨S32x1024, .f32⟩
  | .hbm, ⟨65, _⟩ => ⟨S1x1024, .f32⟩
  | .hbm, ⟨66, _⟩ => ⟨S4112x5120, .bf16⟩
  | .hbm, ⟨67, _⟩ => ⟨S16x1024, .f32⟩
  | .hbm, ⟨68, _⟩ => ⟨S31x1024, .f32⟩
  | .local _ .vmem, ⟨0, _⟩ => ⟨S16x1024, .f32⟩
  | .local _ .vmem, ⟨1, _⟩ => ⟨S16x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S256x1024, .f32⟩
  | .local _ .vmem, ⟨9, _⟩ => ⟨S256x1024, .f32⟩
  | .local _ .vmem, ⟨10, _⟩ => ⟨S16x1024, .f32⟩
  | .local _ .vmem, ⟨11, _⟩ => ⟨S16x1024, .f32⟩
  | .local _ .vmem, ⟨12, _⟩ => ⟨S16x2048, .f32⟩
  | .local _ .vmem, ⟨13, _⟩ => ⟨S16x2048, .f32⟩
  | .local _ .vmem, ⟨14, _⟩ => ⟨S256x2048, .f32⟩
  | .local _ .vmem, ⟨15, _⟩ => ⟨S256x2048, .f32⟩
  | .local _ .vmem, ⟨16, _⟩ => ⟨S16x2048, .f32⟩
  | .local _ .vmem, ⟨17, _⟩ => ⟨S16x2048, .f32⟩
  | .local _ .vmem, ⟨18, _⟩ => ⟨S256x2048, .bf16⟩
  | .local _ .vmem, ⟨19, _⟩ => ⟨S256x2048, .bf16⟩
  | .local _ .vmem, ⟨20, _⟩ => ⟨S32x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S256x1024, .f32⟩
  | .local _ .vmem, ⟨26, _⟩ => ⟨S256x1024, .f32⟩
  | .local _ .vmem, ⟨27, _⟩ => ⟨S256x5120, .bf16⟩
  | .local _ .vmem, ⟨28, _⟩ => ⟨S256x5120, .bf16⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | .local _ .vmem, ⟨32, _⟩ => ⟨S32x1024, .f32⟩
  | .local _ .vmem, ⟨33, _⟩ => ⟨S1x1024, .f32⟩
  | .local _ .vmem, ⟨34, _⟩ => ⟨S4x1024x1280, .bf16⟩
  | .local _ .vmem, ⟨35, _⟩ => ⟨S288x1024, .f32⟩
  | .local _ .vmem, ⟨36, _⟩ => ⟨S288x1024, .f32⟩
  | .local _ .vmem, ⟨37, _⟩ => ⟨S288x1024, .f32⟩
  | .local _ .vmem, ⟨38, _⟩ => ⟨S256x1024, .f32⟩
  | .local _ .vmem, ⟨39, _⟩ => ⟨S8x280x128, .f32⟩
  | .local _ .vmem, ⟨40, _⟩ => ⟨S32x8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev main_v42_2 : Ref sig .tc := ⟨.hbm, 63, rfl⟩
abbrev main_v42_3 : Ref sig .tc := ⟨.hbm, 64, rfl⟩
abbrev main_v42_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_scratch0 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_58 : BitVec 32 := 0#32
  let c8_i32 : BitVec 32 := 8#32
  let v96 : BitVec 32 := Scalar.addi c0_i32_58 c8_i32
  let c1_i32 : BitVec 32 := 1#32
  ⟨c0_i32_58, v96, c1_i32⟩
def k0_mult1 (k0_t1 : Fin k0_t1_loop.trips) : BitVec 32 :=
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  v360
def k0_off1 (k0_t1 : Fin k0_t1_loop.trips) : Fin 2 → Nat :=
  let c1_213 : Index := 1#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v362 : Index := Scalar.indexCast v361
  ![1, v362.toNat]
def k0_off2 (k0_t1 : Fin k0_t1_loop.trips) : Fin 2 → Nat :=
  let c2_217 : Index := 2#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v367 : Index := Scalar.indexCast v361
  ![2, v367.toNat]
def k0_off3 (k0_t1 : Fin k0_t1_loop.trips) : Fin 2 → Nat :=
  let c3_221 : Index := 3#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v372 : Index := Scalar.indexCast v361
  ![3, v372.toNat]
def k0_off4 (k0_t1 : Fin k0_t1_loop.trips) : Fin 2 → Nat :=
  let c4 : Index := 4#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v377 : Index := Scalar.indexCast v361
  ![4, v377.toNat]
def k0_off5 (k0_t1 : Fin k0_t1_loop.trips) : Fin 2 → Nat :=
  let c5 : Index := 5#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v382 : Index := Scalar.indexCast v361
  ![5, v382.toNat]
def k0_off6 (k0_t1 : Fin k0_t1_loop.trips) : Fin 2 → Nat :=
  let c6 : Index := 6#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v387 : Index := Scalar.indexCast v361
  ![6, v387.toNat]
def k0_off7 (k0_t1 : Fin k0_t1_loop.trips) : Fin 2 → Nat :=
  let c7 : Index := 7#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v392 : Index := Scalar.indexCast v361
  ![7, v392.toNat]
def k0_off8 (k0_t1 : Fin k0_t1_loop.trips) : Fin 2 → Nat :=
  let c0_238 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v398 : Index := Scalar.indexCast v361
  ![0, v398.toNat]
def k0_off9 (k0_t1 : Fin k0_t1_loop.trips) : Fin 2 → Nat :=
  let c1_242 : Index := 1#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v406 : Index := Scalar.indexCast v361
  ![1, v406.toNat]
def k0_off10 (k0_t1 : Fin k0_t1_loop.trips) : Fin 2 → Nat :=
  let c2_246 : Index := 2#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v414 : Index := Scalar.indexCast v361
  ![2, v414.toNat]
def k0_off11 (k0_t1 : Fin k0_t1_loop.trips) : Fin 2 → Nat :=
  let c3_250 : Index := 3#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v422 : Index := Scalar.indexCast v361
  ![3, v422.toNat]
def k0_off12 (k0_t1 : Fin k0_t1_loop.trips) : Fin 2 → Nat :=
  let c4_254 : Index := 4#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v430 : Index := Scalar.indexCast v361
  ![4, v430.toNat]
def k0_off13 (k0_t1 : Fin k0_t1_loop.trips) : Fin 2 → Nat :=
  let c5_258 : Index := 5#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v438 : Index := Scalar.indexCast v361
  ![5, v438.toNat]
def k0_off14 (k0_t1 : Fin k0_t1_loop.trips) : Fin 2 → Nat :=
  let c6_262 : Index := 6#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v446 : Index := Scalar.indexCast v361
  ![6, v446.toNat]
def k0_off15 (k0_t1 : Fin k0_t1_loop.trips) : Fin 2 → Nat :=
  let c7_266 : Index := 7#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v454 : Index := Scalar.indexCast v361
  ![7, v454.toNat]
def k0_off16 (k0_t1 : Fin k0_t1_loop.trips) : Fin 2 → Nat :=
  let c24_267 : Index := 24#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v457 : Index := Scalar.indexCast v361
  ![24, v457.toNat]
def k0_off17 (k0_t1 : Fin k0_t1_loop.trips) : Fin 2 → Nat :=
  let c8 : Index := 8#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v462 : Index := Scalar.indexCast v361
  ![8, v462.toNat]
def k0_off18 (k0_t1 : Fin k0_t1_loop.trips) : Fin 2 → Nat :=
  let c9_271 : Index := 9#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v470 : Index := Scalar.indexCast v361
  ![9, v470.toNat]
def k0_off19 (k0_t1 : Fin k0_t1_loop.trips) : Fin 2 → Nat :=
  let c10_275 : Index := 10#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v478 : Index := Scalar.indexCast v361
  ![10, v478.toNat]
def k0_off20 (k0_t1 : Fin k0_t1_loop.trips) : Fin 2 → Nat :=
  let c11_279 : Index := 11#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v486 : Index := Scalar.indexCast v361
  ![11, v486.toNat]
def k0_off21 (k0_t1 : Fin k0_t1_loop.trips) : Fin 2 → Nat :=
  let c12_283 : Index := 12#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v494 : Index := Scalar.indexCast v361
  ![12, v494.toNat]
def k0_off22 (k0_t1 : Fin k0_t1_loop.trips) : Fin 2 → Nat :=
  let c13_287 : Index := 13#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v502 : Index := Scalar.indexCast v361
  ![13, v502.toNat]
def k0_off23 (k0_t1 : Fin k0_t1_loop.trips) : Fin 2 → Nat :=
  let c14_291 : Index := 14#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v510 : Index := Scalar.indexCast v361
  ![14, v510.toNat]
def k0_off24 (k0_t1 : Fin k0_t1_loop.trips) : Fin 2 → Nat :=
  let c15_295 : Index := 15#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v518 : Index := Scalar.indexCast v361
  ![15, v518.toNat]
def k0_off25 (k0_t1 : Fin k0_t1_loop.trips) : Fin 2 → Nat :=
  let c16_296 : Index := 16#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v521 : Index := Scalar.indexCast v361
  ![16, v521.toNat]
def k0_off26 (k0_t1 : Fin k0_t1_loop.trips) : Fin 2 → Nat :=
  let c16_297 : Index := 16#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v526 : Index := Scalar.indexCast v361
  ![16, v526.toNat]
def k0_off27 (k0_t1 : Fin k0_t1_loop.trips) : Fin 2 → Nat :=
  let c17_301 : Index := 17#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v534 : Index := Scalar.indexCast v361
  ![17, v534.toNat]
def k0_off28 (k0_t1 : Fin k0_t1_loop.trips) : Fin 2 → Nat :=
  let c18_305 : Index := 18#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v542 : Index := Scalar.indexCast v361
  ![18, v542.toNat]
def k0_off29 (k0_t1 : Fin k0_t1_loop.trips) : Fin 2 → Nat :=
  let c19_309 : Index := 19#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v550 : Index := Scalar.indexCast v361
  ![19, v550.toNat]
def k0_off30 (k0_t1 : Fin k0_t1_loop.trips) : Fin 2 → Nat :=
  let c20_313 : Index := 20#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v558 : Index := Scalar.indexCast v361
  ![20, v558.toNat]
def k0_off31 (k0_t1 : Fin k0_t1_loop.trips) : Fin 2 → Nat :=
  let c21_317 : Index := 21#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v566 : Index := Scalar.indexCast v361
  ![21, v566.toNat]
def k0_off32 (k0_t1 : Fin k0_t1_loop.trips) : Fin 2 → Nat :=
  let c22_321 : Index := 22#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v574 : Index := Scalar.indexCast v361
  ![22, v574.toNat]
def k0_off33 (k0_t1 : Fin k0_t1_loop.trips) : Fin 2 → Nat :=
  let c23_325 : Index := 23#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v582 : Index := Scalar.indexCast v361
  ![23, v582.toNat]
def k0_off34 (k0_t1 : Fin k0_t1_loop.trips) : Fin 2 → Nat :=
  let c8_326 : Index := 8#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v585 : Index := Scalar.indexCast v361
  ![8, v585.toNat]
def k0_off35 (k0_t1 : Fin k0_t1_loop.trips) : Fin 2 → Nat :=
  let c24_327 : Index := 24#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v590 : Index := Scalar.indexCast v361
  ![24, v590.toNat]
def k0_off36 (k0_t1 : Fin k0_t1_loop.trips) : Fin 2 → Nat :=
  let c25 : Index := 25#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v598 : Index := Scalar.indexCast v361
  ![25, v598.toNat]
def k0_off37 (k0_t1 : Fin k0_t1_loop.trips) : Fin 2 → Nat :=
  let c26 : Index := 26#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v606 : Index := Scalar.indexCast v361
  ![26, v606.toNat]
def k0_off38 (k0_t1 : Fin k0_t1_loop.trips) : Fin 2 → Nat :=
  let c27 : Index := 27#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v614 : Index := Scalar.indexCast v361
  ![27, v614.toNat]
def k0_off39 (k0_t1 : Fin k0_t1_loop.trips) : Fin 2 → Nat :=
  let c28 : Index := 28#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v622 : Index := Scalar.indexCast v361
  ![28, v622.toNat]
def k0_off40 (k0_t1 : Fin k0_t1_loop.trips) : Fin 2 → Nat :=
  let c29 : Index := 29#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v630 : Index := Scalar.indexCast v361
  ![29, v630.toNat]
def k0_off41 (k0_t1 : Fin k0_t1_loop.trips) : Fin 2 → Nat :=
  let c30 : Index := 30#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v638 : Index := Scalar.indexCast v361
  ![30, v638.toNat]
def k0_off42 (k0_t1 : Fin k0_t1_loop.trips) : Fin 2 → Nat :=
  let c0_349 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v646 : Index := Scalar.indexCast v361
  ![0, v646.toNat]
def k0_off43 (k0_t1 : Fin k0_t1_loop.trips) : Fin 3 → Nat :=
  let c0_382 : Index := 0#32
  let c0_383 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v690 : Index := Scalar.indexCast v361
  ![0, 0, v690.toNat]
def k0_off44 (k0_t1 : Fin k0_t1_loop.trips) : Fin 3 → Nat :=
  let c1_390 : Index := 1#32
  let c0_391 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v703 : Index := Scalar.indexCast v361
  ![1, 0, v703.toNat]
def k0_off45 (k0_t1 : Fin k0_t1_loop.trips) : Fin 3 → Nat :=
  let c2_398 : Index := 2#32
  let c0_399 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v716 : Index := Scalar.indexCast v361
  ![2, 0, v716.toNat]
def k0_off46 (k0_t1 : Fin k0_t1_loop.trips) : Fin 3 → Nat :=
  let c3_406 : Index := 3#32
  let c0_407 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v729 : Index := Scalar.indexCast v361
  ![3, 0, v729.toNat]
def k0_off47 (k0_t1 : Fin k0_t1_loop.trips) : Fin 3 → Nat :=
  let c4_414 : Index := 4#32
  let c0_415 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v742 : Index := Scalar.indexCast v361
  ![4, 0, v742.toNat]
def k0_off48 (k0_t1 : Fin k0_t1_loop.trips) : Fin 3 → Nat :=
  let c5_422 : Index := 5#32
  let c0_423 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v755 : Index := Scalar.indexCast v361
  ![5, 0, v755.toNat]
def k0_off49 (k0_t1 : Fin k0_t1_loop.trips) : Fin 3 → Nat :=
  let c6_430 : Index := 6#32
  let c0_431 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v768 : Index := Scalar.indexCast v361
  ![6, 0, v768.toNat]
def k0_off50 (k0_t1 : Fin k0_t1_loop.trips) : Fin 3 → Nat :=
  let c7_436 : Index := 7#32
  let c0_437 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v781 : Index := Scalar.indexCast v361
  ![7, 0, v781.toNat]
def k0_off51 (k0_t1 : Fin k0_t1_loop.trips) : Fin 3 → Nat :=
  let c8_444 : Index := 8#32
  let c0_445 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v794 : Index := Scalar.indexCast v361
  ![8, 0, v794.toNat]
def k0_off52 (k0_t1 : Fin k0_t1_loop.trips) : Fin 3 → Nat :=
  let c9_452 : Index := 9#32
  let c0_453 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v807 : Index := Scalar.indexCast v361
  ![9, 0, v807.toNat]
def k0_off53 (k0_t1 : Fin k0_t1_loop.trips) : Fin 3 → Nat :=
  let c10_460 : Index := 10#32
  let c0_461 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v820 : Index := Scalar.indexCast v361
  ![10, 0, v820.toNat]
def k0_off54 (k0_t1 : Fin k0_t1_loop.trips) : Fin 3 → Nat :=
  let c11_468 : Index := 11#32
  let c0_469 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v833 : Index := Scalar.indexCast v361
  ![11, 0, v833.toNat]
def k0_off55 (k0_t1 : Fin k0_t1_loop.trips) : Fin 3 → Nat :=
  let c12_476 : Index := 12#32
  let c0_477 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v846 : Index := Scalar.indexCast v361
  ![12, 0, v846.toNat]
def k0_off56 (k0_t1 : Fin k0_t1_loop.trips) : Fin 3 → Nat :=
  let c13_484 : Index := 13#32
  let c0_485 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v859 : Index := Scalar.indexCast v361
  ![13, 0, v859.toNat]
def k0_off57 (k0_t1 : Fin k0_t1_loop.trips) : Fin 3 → Nat :=
  let c14_492 : Index := 14#32
  let c0_493 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v872 : Index := Scalar.indexCast v361
  ![14, 0, v872.toNat]
def k0_off58 (k0_t1 : Fin k0_t1_loop.trips) : Fin 3 → Nat :=
  let c15_498 : Index := 15#32
  let c0_499 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v885 : Index := Scalar.indexCast v361
  ![15, 0, v885.toNat]
def k0_off59 (k0_t1 : Fin k0_t1_loop.trips) : Fin 3 → Nat :=
  let c16_506 : Index := 16#32
  let c0_507 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v898 : Index := Scalar.indexCast v361
  ![16, 0, v898.toNat]
def k0_off60 (k0_t1 : Fin k0_t1_loop.trips) : Fin 3 → Nat :=
  let c17_514 : Index := 17#32
  let c0_515 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v911 : Index := Scalar.indexCast v361
  ![17, 0, v911.toNat]
def k0_off61 (k0_t1 : Fin k0_t1_loop.trips) : Fin 3 → Nat :=
  let c18_522 : Index := 18#32
  let c0_523 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v924 : Index := Scalar.indexCast v361
  ![18, 0, v924.toNat]
def k0_off62 (k0_t1 : Fin k0_t1_loop.trips) : Fin 3 → Nat :=
  let c19_530 : Index := 19#32
  let c0_531 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v937 : Index := Scalar.indexCast v361
  ![19, 0, v937.toNat]
def k0_off63 (k0_t1 : Fin k0_t1_loop.trips) : Fin 3 → Nat :=
  let c20_538 : Index := 20#32
  let c0_539 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v950 : Index := Scalar.indexCast v361
  ![20, 0, v950.toNat]
def k0_off64 (k0_t1 : Fin k0_t1_loop.trips) : Fin 3 → Nat :=
  let c21_546 : Index := 21#32
  let c0_547 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v963 : Index := Scalar.indexCast v361
  ![21, 0, v963.toNat]
def k0_off65 (k0_t1 : Fin k0_t1_loop.trips) : Fin 3 → Nat :=
  let c22_554 : Index := 22#32
  let c0_555 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v976 : Index := Scalar.indexCast v361
  ![22, 0, v976.toNat]
def k0_off66 (k0_t1 : Fin k0_t1_loop.trips) : Fin 3 → Nat :=
  let c23_560 : Index := 23#32
  let c0_561 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v989 : Index := Scalar.indexCast v361
  ![23, 0, v989.toNat]
def k0_off67 (k0_t1 : Fin k0_t1_loop.trips) : Fin 3 → Nat :=
  let c24_568 : Index := 24#32
  let c0_569 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1002 : Index := Scalar.indexCast v361
  ![24, 0, v1002.toNat]
def k0_off68 (k0_t1 : Fin k0_t1_loop.trips) : Fin 3 → Nat :=
  let c25_576 : Index := 25#32
  let c0_577 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1015 : Index := Scalar.indexCast v361
  ![25, 0, v1015.toNat]
def k0_off69 (k0_t1 : Fin k0_t1_loop.trips) : Fin 3 → Nat :=
  let c26_584 : Index := 26#32
  let c0_585 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1028 : Index := Scalar.indexCast v361
  ![26, 0, v1028.toNat]
def k0_off70 (k0_t1 : Fin k0_t1_loop.trips) : Fin 3 → Nat :=
  let c27_592 : Index := 27#32
  let c0_593 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1041 : Index := Scalar.indexCast v361
  ![27, 0, v1041.toNat]
def k0_off71 (k0_t1 : Fin k0_t1_loop.trips) : Fin 3 → Nat :=
  let c28_600 : Index := 28#32
  let c0_601 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1054 : Index := Scalar.indexCast v361
  ![28, 0, v1054.toNat]
def k0_off72 (k0_t1 : Fin k0_t1_loop.trips) : Fin 3 → Nat :=
  let c29_608 : Index := 29#32
  let c0_609 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1067 : Index := Scalar.indexCast v361
  ![29, 0, v1067.toNat]
def k0_off73 (k0_t1 : Fin k0_t1_loop.trips) : Fin 3 → Nat :=
  let c30_616 : Index := 30#32
  let c0_617 : Index := 0#32
  let c0_i32_58 : BitVec 32 := 0#32
  let c1_i32 : BitVec 32 := 1#32
  let arg31 : BitVec 32 := Scf.iv c0_i32_58 c1_i32 k0_t1
  let c128_i32 : BitVec 32 := 128#32
  let v360 : BitVec 32 := Scalar.muli arg31 c128_i32
  let v361 : BitVec 32 := v360
  let v1080 : Index := Scalar.indexCast v361
  ![30, 0, v1080.toNat]
def k0_cond3 (i : grid0.Coords) : BitVec 1 :=
  let arg0 : BitVec 32 := BitVec.ofNat 32 (i 0).val
  let c0_i32_211 : BitVec 32 := 0#32
  let v357 : BitVec 1 := Scalar.cmpi .eq arg0 c0_i32_211
  let v358 : BitVec 32 := Scalar.extui v357
  let c0_i32_212 : BitVec 32 := 0#32
  let v359 : BitVec 1 := Scalar.cmpi .ne v358 c0_i32_212
  v359

def k0_cond2 (i : grid0.Coords) : BitVec 1 :=
  let arg0 : BitVec 32 := BitVec.ofNat 32 (i 0).val
  let c16_i32_60 : BitVec 32 := 16#32
  let v97 : BitVec 1 := Scalar.cmpi .eq arg0 c16_i32_60
  let v98 : BitVec 32 := Scalar.extui v97
  let c0_i32_61 : BitVec 32 := 0#32
  let v99 : BitVec 1 := Scalar.cmpi .ne v98 c0_i32_61
  v99

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x5120 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S256x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Reference3Ideal.lean ====
abbrev S1x4096x1024 : Shape := ⟨3, ![1, 4096, 1024]⟩
abbrev S16x1024 : Shape := ⟨2, ![16, 1024]⟩
abbrev S1x1024 : Shape := ⟨2, ![1, 1024]⟩
abbrev S1x1024x5120 : Shape := ⟨3, ![1, 1024, 5120]⟩
abbrev S1x31x1024 : Shape := ⟨3, ![1, 31, 1024]⟩
abbrev S1x4112x1024 : Shape := ⟨3, ![1, 4112, 1024]⟩
abbrev S1x4112x2048 : Shape := ⟨3, ![1, 4112, 2048]⟩
abbrev S_ : Shape := ⟨0, ![]⟩
abbrev S4112x5120 : Shape := ⟨2, ![4112, 5120]⟩
abbrev S4096x1024 : Shape := ⟨2, ![4096, 1024]⟩
abbrev S4112x1024 : Shape := ⟨2, ![4112, 1024]⟩
abbrev S1024 : Shape := ⟨1, ![1024]⟩
abbrev S4112 : Shape := ⟨1, ![4112]⟩
abbrev S4112x1 : Shape := ⟨2, ![4112, 1]⟩
abbrev S1024x5120 : Shape := ⟨2, ![1024, 5120]⟩
abbrev S31x4112x4112 : Shape := ⟨3, ![31, 4112, 4112]⟩
abbrev S31x4112x1024 : Shape := ⟨3, ![31, 4112, 1024]⟩
abbrev S31x1024 : Shape := ⟨2, ![31, 1024]⟩
abbrev S31x1x1024 : Shape := ⟨3, ![31, 1, 1024]⟩
abbrev S4112x256 : Shape := ⟨2, ![4112, 256]⟩
abbrev S4112x4112 : Shape := ⟨2, ![4112, 4112]⟩
abbrev S4112x2048 : Shape := ⟨2, ![4112, 2048]⟩
abbrev S256x4112 : Shape := ⟨2, ![256, 4112]⟩
abbrev S1024x4112 : Shape := ⟨2, ![1024, 4112]⟩

abbrev nBuf : Space → Nat
  | .hbm => 278
  | .vmem => 0
  | .smem => 0
  | _ => 0

abbrev hbmTy0_0 (i : Nat) : BufTy := match i % 128 with
  | 0 => ⟨S1x4096x1024, .f32⟩
  | 1 => ⟨S16x1024, .f32⟩
  | 2 => ⟨S1x1024, .f32⟩
  | 3 => ⟨S1x1024x5120, .f32⟩
  | 4 => ⟨S1x31x1024, .f32⟩
  | 5 => ⟨S1x4112x1024, .f32⟩
  | 6 => ⟨S1x4112x1024, .f32⟩
  | 7 => ⟨S1x4112x2048, .f32⟩
  | 8 => ⟨S1x4112x1024, .f32⟩
  | 9 => ⟨S_, .f32⟩
  | 10 => ⟨S4112x5120, .f32⟩
  | 11 => ⟨S4096x1024, .f32⟩
  | 12 => ⟨S4112x1024, .f32⟩
  | 13 => ⟨S1024, .f32⟩
  | 14 => ⟨S4112x1024, .f32⟩
  | 15 => ⟨S_, .f32⟩
  | 16 => ⟨S4112, .f32⟩
  | 17 => ⟨S4112x1, .f32⟩
  | 18 => ⟨S_, .f32⟩
  | 19 => ⟨S4112x1, .f32⟩
  | 20 => ⟨S4112x1, .f32⟩
  | 21 => ⟨S_, .f32⟩
  | 22 => ⟨S4112x1, .f32⟩
  | 23 => ⟨S4112x1, .f32⟩
  | 24 => ⟨S4112x1, .f32⟩
  | 25 => ⟨S4112x1, .f32⟩
  | 26 => ⟨S_, .f32⟩
  | 27 => ⟨S4112x1, .f32⟩
  | 28 => ⟨S4112x1, .f32⟩
  | 29 => ⟨S4112x1024, .f32⟩
  | 30 => ⟨S4112x1024, .f32⟩
  | 31 => ⟨S1x1024, .f32⟩
  | 32 => ⟨S4112x1024, .f32⟩
  | 33 => ⟨S4112x1024, .f32⟩
  | 34 => ⟨S1024x5120, .f32⟩
  | 35 => ⟨S4112x5120, .f32⟩
  | 36 => ⟨S4112x5120, .f32⟩
  | 37 => ⟨S4112x1024, .f32⟩
  | 38 => ⟨S4112x1024, .f32⟩
  | 39 => ⟨S4112x1024, .f32⟩
  | 40 => ⟨S4112x1024, .f32⟩
  | 41 => ⟨S_, .f32⟩
  | 42 => ⟨S4112x1024, .f32⟩
  | 43 => ⟨S4112x1024, .f32⟩
  | 44 => ⟨S_, .f32⟩
  | 45 => ⟨S4112x1024, .f32⟩
  | 46 => ⟨S4112x1024, .f32⟩
  | 47 => ⟨S_, .f32⟩
  | 48 => ⟨S4112x1024, .f32⟩
  | 49 => ⟨S4112x1024, .f32⟩
  | 50 => ⟨S4112x1024, .f32⟩
  | 51 => ⟨S4112x1024, .f32⟩
  | 52 => ⟨S31x4112x4112, .i32⟩
  | 53 => ⟨S31x4112x4112, .i32⟩
  | 54 => ⟨S31x4112x4112, .i32⟩
  | 55 => ⟨S31x4112x4112, .i32⟩
  | 56 => ⟨S_, .i32⟩
  | 57 => ⟨S31x4112x4112, .i32⟩
  | 58 => ⟨S31x4112x4112, .i32⟩
  | 59 => ⟨S31x4112x4112, .i1⟩
  | 60 => ⟨S31x4112x4112, .f32⟩
  | 61 => ⟨S31x4112x1024, .f32⟩
  | 62 => ⟨S31x1024, .f32⟩
  | 63 => ⟨S31x1x1024, .f32⟩
  | 64 => ⟨S31x4112x1024, .f32⟩
  | 65 => ⟨S31x4112x1024, .f32⟩
  | 66 => ⟨S_, .f32⟩
  | 67 => ⟨S4112x1024, .f32⟩
  | 68 => ⟨S4112x1024, .f32⟩
  | 69 => ⟨S4112x256, .f32⟩
  | 70 => ⟨S4112x4112, .i32⟩
  | 71 => ⟨S4112x4112, .i32⟩
  | 72 => ⟨S_, .i32⟩
  | 73 => ⟨S4112x4112, .i32⟩
  | 74 => ⟨S4112x4112, .i32⟩
  | 75 => ⟨S4112x4112, .i1⟩
  | 76 => ⟨S_, .i32⟩
  | 77 => ⟨S4112x4112, .i32⟩
  | 78 => ⟨S4112x4112, .i32⟩
  | 79 => ⟨S_, .i32⟩
  | 80 => ⟨S4112x4112, .i32⟩
  | 81 => ⟨S4112x4112, .i32⟩
  | 82 => ⟨S4112x4112, .i1⟩
  | 83 => ⟨S4112x4112, .i1⟩
  | 84 => ⟨S4112x4112, .f32⟩
  | 85 => ⟨S4112x256, .f32⟩
  | 86 => ⟨S_, .f32⟩
  | 87 => ⟨S4112, .f32⟩
  | 88 => ⟨S4112x1, .f32⟩
  | 89 => ⟨S4112x256, .f32⟩
  | 90 => ⟨S4112x256, .f32⟩
  | 91 => ⟨S4112x256, .f32⟩
  | 92 => ⟨S4112x256, .f32⟩
  | 93 => ⟨S4112x256, .f32⟩
  | 94 => ⟨S4112x4112, .i32⟩
  | 95 => ⟨S4112x4112, .i32⟩
  | 96 => ⟨S_, .i32⟩
  | 97 => ⟨S4112x4112, .i32⟩
  | 98 => ⟨S4112x4112, .i32⟩
  | 99 => ⟨S4112x4112, .i1⟩
  | 100 => ⟨S_, .i32⟩
  | 101 => ⟨S4112x4112, .i32⟩
  | 102 => ⟨S4112x4112, .i32⟩
  | 103 => ⟨S_, .i32⟩
  | 104 => ⟨S4112x4112, .i32⟩
  | 105 => ⟨S4112x4112, .i32⟩
  | 106 => ⟨S4112x4112, .i1⟩
  | 107 => ⟨S4112x4112, .i1⟩
  | 108 => ⟨S4112x4112, .f32⟩
  | 109 => ⟨S4112x256, .f32⟩
  | 110 => ⟨S_, .f32⟩
  | 111 => ⟨S4112, .f32⟩
  | 112 => ⟨S4112x1, .f32⟩
  | 113 => ⟨S4112x256, .f32⟩
  | 114 => ⟨S4112x256, .f32⟩
  | 115 => ⟨S4112x256, .f32⟩
  | 116 => ⟨S4112x256, .f32⟩
  | 117 => ⟨S4112x256, .f32⟩
  | 118 => ⟨S4112x4112, .i32⟩
  | 119 => ⟨S4112x4112, .i32⟩
  | 120 => ⟨S_, .i32⟩
  | 121 => ⟨S4112x4112, .i32⟩
  | 122 => ⟨S4112x4112, .i32⟩
  | 123 => ⟨S4112x4112, .i1⟩
  | 124 => ⟨S_, .i32⟩
  | 125 => ⟨S4112x4112, .i32⟩
  | 126 => ⟨S4112x4112, .i32⟩
  | 127 => ⟨S_, .i32⟩
  | _ => ⟨S1x4096x1024, .f32⟩

abbrev hbmTy0_1 (i : Nat) : BufTy := match i % 128 with
  | 0 => ⟨S4112x4112, .i32⟩
  | 1 => ⟨S4112x4112, .i32⟩
  | 2 => ⟨S4112x4112, .i1⟩
  | 3 => ⟨S4112x4112, .i1⟩
  | 4 => ⟨S4112x4112, .f32⟩
  | 5 => ⟨S4112x256, .f32⟩
  | 6 => ⟨S_, .f32⟩
  | 7 => ⟨S4112, .f32⟩
  | 8 => ⟨S4112x1, .f32⟩
  | 9 => ⟨S4112x256, .f32⟩
  | 10 => ⟨S4112x256, .f32⟩
  | 11 => ⟨S4112x256, .f32⟩
  | 12 => ⟨S4112x256, .f32⟩
  | 13 => ⟨S4112x256, .f32⟩
  | 14 => ⟨S4112x4112, .i32⟩
  | 15 => ⟨S4112x4112, .i32⟩
  | 16 => ⟨S_, .i32⟩
  | 17 => ⟨S4112x4112, .i32⟩
  | 18 => ⟨S4112x4112, .i32⟩
  | 19 => ⟨S4112x4112, .i1⟩
  | 20 => ⟨S_, .i32⟩
  | 21 => ⟨S4112x4112, .i32⟩
  | 22 => ⟨S4112x4112, .i32⟩
  | 23 => ⟨S_, .i32⟩
  | 24 => ⟨S4112x4112, .i32⟩
  | 25 => ⟨S4112x4112, .i32⟩
  | 26 => ⟨S4112x4112, .i1⟩
  | 27 => ⟨S4112x4112, .i1⟩
  | 28 => ⟨S4112x4112, .f32⟩
  | 29 => ⟨S4112x256, .f32⟩
  | 30 => ⟨S_, .f32⟩
  | 31 => ⟨S4112, .f32⟩
  | 32 => ⟨S4112x1, .f32⟩
  | 33 => ⟨S4112x256, .f32⟩
  | 34 => ⟨S4112x256, .f32⟩
  | 35 => ⟨S4112x256, .f32⟩
  | 36 => ⟨S4112x256, .f32⟩
  | 37 => ⟨S4112x1024, .f32⟩
  | 38 => ⟨S4112x2048, .f32⟩
  | 39 => ⟨S4112x1024, .f32⟩
  | 40 => ⟨S4112x1024, .f32⟩
  | 41 => ⟨S4112x2048, .f32⟩
  | 42 => ⟨S4112x1024, .f32⟩
  | 43 => ⟨S_, .f32⟩
  | 44 => ⟨S4112x5120, .f32⟩
  | 45 => ⟨S4112x256, .f32⟩
  | 46 => ⟨S4112x256, .f32⟩
  | 47 => ⟨S4112x256, .f32⟩
  | 48 => ⟨S4112x256, .f32⟩
  | 49 => ⟨S4112x256, .f32⟩
  | 50 => ⟨S_, .f32⟩
  | 51 => ⟨S4112x1024, .f32⟩
  | 52 => ⟨S4112x256, .f32⟩
  | 53 => ⟨S4112x256, .f32⟩
  | 54 => ⟨S256x4112, .f32⟩
  | 55 => ⟨S4112x256, .f32⟩
  | 56 => ⟨S_, .f32⟩
  | 57 => ⟨S4112x1024, .f32⟩
  | 58 => ⟨S4112x1024, .f32⟩
  | 59 => ⟨S4112x256, .f32⟩
  | 60 => ⟨S_, .f32⟩
  | 61 => ⟨S4112x1024, .f32⟩
  | 62 => ⟨S4112x1024, .f32⟩
  | 63 => ⟨S4112x256, .f32⟩
  | 64 => ⟨S4112x256, .f32⟩
  | 65 => ⟨S256x4112, .f32⟩
  | 66 => ⟨S4112x256, .f32⟩
  | 67 => ⟨S_, .f32⟩
  | 68 => ⟨S4112x1024, .f32⟩
  | 69 => ⟨S4112x1024, .f32⟩
  | 70 => ⟨S4112x256, .f32⟩
  | 71 => ⟨S_, .f32⟩
  | 72 => ⟨S4112x1024, .f32⟩
  | 73 => ⟨S4112x1024, .f32⟩
  | 74 => ⟨S4112x256, .f32⟩
  | 75 => ⟨S4112x256, .f32⟩
  | 76 => ⟨S256x4112, .f32⟩
  | 77 => ⟨S4112x256, .f32⟩
  | 78 => ⟨S_, .f32⟩
  | 79 => ⟨S4112x1024, .f32⟩
  | 80 => ⟨S4112x1024, .f32⟩
  | 81 => ⟨S4112x256, .f32⟩
  | 82 => ⟨S_, .f32⟩
  | 83 => ⟨S4112x1024, .f32⟩
  | 84 => ⟨S4112x1024, .f32⟩
  | 85 => ⟨S4112x256, .f32⟩
  | 86 => ⟨S4112x256, .f32⟩
  | 87 => ⟨S256x4112, .f32⟩
  | 88 => ⟨S4112x256, .f32⟩
  | 89 => ⟨S_, .f32⟩
  | 90 => ⟨S4112x1024, .f32⟩
  | 91 => ⟨S4112x1024, .f32⟩
  | 92 => ⟨S_, .f32⟩
  | 93 => ⟨S4112x5120, .f32⟩
  | 94 => ⟨S4112x5120, .f32⟩
  | 95 => ⟨S31x4112x1024, .f32⟩
  | 96 => ⟨S31x4112x1024, .f32⟩
  | 97 => ⟨S_, .f32⟩
  | 98 => ⟨S31x1024, .f32⟩
  | 99 => ⟨S31x1x1024, .f32⟩
  | 100 => ⟨S31x4112x1024, .f32⟩
  | 101 => ⟨S31x4112x1024, .f32⟩
  | 102 => ⟨S_, .f32⟩
  | 103 => ⟨S31x1024, .f32⟩
  | 104 => ⟨S1x31x1024, .f32⟩
  | 105 => ⟨S1024x4112, .f32⟩
  | 106 => ⟨S4112x1024, .f32⟩
  | 107 => ⟨S4112x1024, .f32⟩
  | 108 => ⟨S4112x1024, .f32⟩
  | 109 => ⟨S4112x1024, .f32⟩
  | 110 => ⟨S_, .f32⟩
  | 111 => ⟨S4112x5120, .f32⟩
  | 112 => ⟨S4112x5120, .f32⟩
  | 113 => ⟨S_, .f32⟩
  | 114 => ⟨S4112x5120, .f32⟩
  | 115 => ⟨S4112x5120, .f32⟩
  | 116 => ⟨S4112x1024, .f32⟩
  | 117 => ⟨S4112x1024, .f32⟩
  | 118 => ⟨S_, .f32⟩
  | 119 => ⟨S1024, .f32⟩
  | 120 => ⟨S1x1024, .f32⟩
  | 121 => ⟨S4112x1024, .f32⟩
  | 122 => ⟨S4112x1024, .f32⟩
  | 123 => ⟨S_, .f32⟩
  | 124 => ⟨S1024, .f32⟩
  | 125 => ⟨S4112x1024, .f32⟩
  | 126 => ⟨S_, .f32⟩
  | 127 => ⟨S4112, .f32⟩
  | _ => ⟨S1x4096x1024, .f32⟩

abbrev hbmTy0_2 (i : Nat) : BufTy := match i % 128 with
  | 0 => ⟨S4112x1, .f32⟩
  | 1 => ⟨S4112x1024, .f32⟩
  | 2 => ⟨S4112x1024, .f32⟩
  | 3 => ⟨S4112x1024, .f32⟩
  | 4 => ⟨S4112x1, .f32⟩
  | 5 => ⟨S_, .f32⟩
  | 6 => ⟨S4112x1, .f32⟩
  | 7 => ⟨S4112x1, .f32⟩
  | 8 => ⟨S_, .f32⟩
  | 9 => ⟨S4112, .f32⟩
  | 10 => ⟨S4112x1024, .f32⟩
  | 11 => ⟨S4112x1024, .f32⟩
  | 12 => ⟨S4112x1024, .f32⟩
  | 13 => ⟨S4112x1024, .f32⟩
  | 14 => ⟨S4112x1024, .f32⟩
  | 15 => ⟨S1x1024, .f32⟩
  | 16 => ⟨S16x1024, .f32⟩
  | 17 => ⟨S4096x1024, .f32⟩
  | 18 => ⟨S1x4096x1024, .f32⟩
  | 19 => ⟨S4112x5120, .bf16⟩
  | 20 => ⟨S4096x1024, .f32⟩
  | 21 => ⟨S31x1024, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_7 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_8 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_c_12 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_13 : Ref sig .tc := ⟨.hbm, 100, rfl⟩
abbrev main_v76 : Ref sig .tc := ⟨.hbm, 101, rfl⟩
abbrev main_v77 : Ref sig .tc := ⟨.hbm, 102, rfl⟩
abbrev main_c_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_15 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_c_16 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_c_17 : Ref sig .tc := ⟨.hbm, 124, rfl⟩
abbrev main_v96 : Ref sig .tc := ⟨.hbm, 125, rfl⟩
abbrev main_v97 : Ref sig .tc := ⟨.hbm, 126, rfl⟩
abbrev main_c_18 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_19 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_c_20 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_c_21 : Ref sig .tc := ⟨.hbm, 148, rfl⟩
abbrev main_v116 : Ref sig .tc := ⟨.hbm, 149, rfl⟩
abbrev main_v117 : Ref sig .tc := ⟨.hbm, 150, rfl⟩
abbrev main_c_22 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_cst_23 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_cst_24 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_25 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_26 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_cst_27 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_cst_28 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_29 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_cst_30 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_31 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_32 : Ref sig .tc := ⟨.hbm, 217, rfl⟩
abbrev main_v174 : Ref sig .tc := ⟨.hbm, 218, rfl⟩
abbrev main_v175 : Ref sig .tc := ⟨.hbm, 219, rfl⟩
abbrev main_cst_33 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_34 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_cst_35 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_cst_36 : Ref sig .tc := ⟨.hbm, 238, rfl⟩
abbrev main_v191 : Ref sig .tc := ⟨.hbm, 239, rfl⟩
abbrev main_v192 : Ref sig .tc := ⟨.hbm, 240, rfl⟩
abbrev main_cst_37 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_cst_38 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_cst_39 : Ref sig .tc := ⟨.hbm, 251, rfl⟩
abbrev main_v201 : Ref sig .tc := ⟨.hbm, 252, rfl⟩
abbrev main_v202 : Ref sig .tc := ⟨.hbm, 253, rfl⟩
abbrev main_cst_40 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_cst_41 : Ref sig .tc := ⟨.hbm, 261, rfl⟩
abbrev main_v209 : Ref sig .tc := ⟨.hbm, 262, rfl⟩
abbrev main_v210 : Ref sig .tc := ⟨.hbm, 263, rfl⟩
abbrev main_cst_42 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩

abbrev nD : Nat := 1
abbrev τ : Topo := Topo.v7x

variable {F : FTy → Type} [FloatOps F]
-- ==== Kernel4.lean ====
abbrev S1x4096x1024 : Shape := ⟨3, ![1, 4096, 1024]⟩
abbrev S16x1024 : Shape := ⟨2, ![16, 1024]⟩
abbrev S1x1024 : Shape := ⟨2, ![1, 1024]⟩
abbrev S_ : Shape := ⟨0, ![]⟩
abbrev S240x1024 : Shape := ⟨2, ![240, 1024]⟩
abbrev S256x1024 : Shape := ⟨2, ![256, 1024]⟩
abbrev S4096x1024 : Shape := ⟨2, ![4096, 1024]⟩
abbrev S4352x1024 : Shape := ⟨2, ![4352, 1024]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S_, .f32⟩
  | .hbm, ⟨4, _⟩ => ⟨S240x1024, .f32⟩
  | .hbm, ⟨5, _⟩ => ⟨S256x1024, .f32⟩
  | .hbm, ⟨6, _⟩ => ⟨S4096x1024, .f32⟩
  | .hbm, ⟨7, _⟩ => ⟨S4352x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S1x4096x1024 : Shape := ⟨3, ![1, 4096, 1024]⟩
abbrev S16x1024 : Shape := ⟨2, ![16, 1024]⟩
abbrev S1x1024 : Shape := ⟨2, ![1, 1024]⟩
abbrev S1x16x1024 : Shape := ⟨3, ![1, 16, 1024]⟩
abbrev S1x4112x1024 : Shape := ⟨3, ![1, 4112, 1024]⟩
abbrev S1024 : Shape := ⟨1, ![1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S240x1024 : Shape := ⟨2, ![240, 1024]⟩
abbrev S4112x1024 : Shape := ⟨2, ![4112, 1024]⟩
abbrev S4352x1024 : Shape := ⟨2, ![4352, 1024]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x16x1024, .f32⟩
  | .hbm, ⟨4, _⟩ => ⟨S1x4112x1024, .f32⟩
  | .hbm, ⟨5, _⟩ => ⟨S1024, .f32⟩
  | .hbm, ⟨6, _⟩ => ⟨S1x4112x1024, .f32⟩
  | .hbm, ⟨7, _⟩ => ⟨S_, .f32⟩
  | .hbm, ⟨8, _⟩ => ⟨S1x4112, .f32⟩
  | .hbm, ⟨9, _⟩ => ⟨S1x4112x1, .f32⟩
  | .hbm, ⟨10, _⟩ => ⟨S_, .f32⟩
  | .hbm, ⟨11, _⟩ => ⟨S1x4112x1, .f32⟩
  | .hbm, ⟨12, _⟩ => ⟨S1x4112x1, .f32⟩
  | .hbm, ⟨13, _⟩ => ⟨S_, .f32⟩
  | .hbm, ⟨14, _⟩ => ⟨S1x4112x1, .f32⟩
  | .hbm, ⟨15, _⟩ => ⟨S1x4112x1, .f32⟩
  | .hbm, ⟨16, _⟩ => ⟨S1x4112x1, .f32⟩
  | .hbm, ⟨17, _⟩ => ⟨S1x4112x1024, .f32⟩
  | .hbm, ⟨18, _⟩ => ⟨S1x4112x1024, .f32⟩
  | .hbm, ⟨19, _⟩ => ⟨S1x1x1024, .f32⟩
  | .hbm, ⟨20, _⟩ => ⟨S1x4112x1024, .f32⟩
  | .hbm, ⟨21, _⟩ => ⟨S1x4112x1024, .f32⟩
  | .hbm, ⟨22, _⟩ => ⟨S_, .f32⟩
  | .hbm, ⟨23, _⟩ => ⟨S240x1024, .f32⟩
  | .hbm, ⟨24, _⟩ => ⟨S4112x1024, .f32⟩
  | .hbm, ⟨25, _⟩ => ⟨S4352x1024, .f32⟩
  | .hbm, ⟨26, _⟩ => ⟨S4352x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S1x4112x5120 : Shape := ⟨3, ![1, 4112, 5120]⟩
abbrev S1x4096x1024 : Shape := ⟨3, ![1, 4096, 1024]⟩
abbrev S16x1024 : Shape := ⟨2, ![16, 1024]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S1x4x256x256 : Shape := ⟨4, ![1, 4, 256, 256]⟩
abbrev S_ : Shape := ⟨0, ![]⟩
abbrev S240x1024 : Shape := ⟨2, ![240, 1024]⟩
abbrev S256x1024 : Shape := ⟨2, ![256, 1024]⟩
abbrev S240x5120 : Shape := ⟨2, ![240, 5120]⟩
abbrev S4112x5120 : Shape := ⟨2, ![4112, 5120]⟩
abbrev S4352x5120 : Shape := ⟨2, ![4352, 5120]⟩
abbrev S4096x1024 : Shape := ⟨2, ![4096, 1024]⟩
abbrev S31x1024 : Shape := ⟨2, ![31, 1024]⟩
abbrev S32x1024 : Shape := ⟨2, ![32, 1024]⟩
abbrev S1024x1024 : Shape := ⟨2, ![1024, 1024]⟩
abbrev S4x256x256 : Shape := ⟨3, ![4, 256, 256]⟩
abbrev S4352x1024 : Shape := ⟨2, ![4352, 1024]⟩
abbrev S16x3072 : Shape := ⟨2, ![16, 3072]⟩
abbrev S256x5120 : Shape := ⟨2, ![256, 5120]⟩
abbrev S288x1024 : Shape := ⟨2, ![288, 1024]⟩
abbrev S8x280x128 : Shape := ⟨3, ![8, 280, 128]⟩
abbrev S280x128 : Shape := ⟨2, ![280, 128]⟩
abbrev S1x280x128 : Shape := ⟨3, ![1, 280, 128]⟩
abbrev S1x128 : Shape := ⟨2, ![1, 128]⟩
abbrev S256x128 : Shape := ⟨2, ![256, 128]⟩
abbrev S1x256x128 : Shape := ⟨3, ![1, 256, 128]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩
abbrev S4112x1024 : Shape := ⟨2, ![4112, 1024]⟩

abbrev nBuf : Space → Nat
  | .hbm => 51
  | .vmem => 40
  | .smem => 0
  | _ => 0

abbrev bufTy : (tb : Table) → Fin (tcTables nBuf tb) → BufTy
  | .hbm, ⟨0, _⟩ => ⟨S1x4112x5120, .f32⟩
  | .hbm, ⟨1, _⟩ => ⟨S1x4096x1024, .f32⟩
  | .hbm, ⟨2, _⟩ => ⟨S16x1024, .f32⟩
  | .hbm, ⟨3, _⟩ => ⟨S1x2048, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x4x256x256, .f32⟩
  | .hbm, ⟨11, _⟩ => ⟨S1x1024x1024, .f32⟩
  | .hbm, ⟨12, _⟩ => ⟨S1x1024x1024, .f32⟩
  | .hbm, ⟨13, _⟩ => ⟨S_, .f32⟩
  | .hbm, ⟨14, _⟩ => ⟨S240x1024, .f32⟩
  | .hbm, ⟨15, _⟩ => ⟨S256x1024, .f32⟩
  | .hbm, ⟨16, _⟩ => ⟨S_, .f32⟩
  | .hbm, ⟨17, _⟩ => ⟨S240x5120, .f32⟩
  | .hbm, ⟨18, _⟩ => ⟨S4112x5120, .f32⟩
  | .hbm, ⟨19, _⟩ => ⟨S4352x5120, .f32⟩
  | .hbm, ⟨20, _⟩ => ⟨S4096x1024, .f32⟩
  | .hbm, ⟨21, _⟩ => ⟨S31x1024, .f32⟩
  | .hbm, ⟨22, _⟩ => ⟨S_, .f32⟩
  | .hbm, ⟨23, _⟩ => ⟨S1x1024, .f32⟩
  | .hbm, ⟨24, _⟩ => ⟨S32x1024, .f32⟩
  | .hbm, ⟨25, _⟩ => ⟨S1024x1024, .f32⟩
  | .hbm, ⟨26, _⟩ => ⟨S1024x1024, .bf16⟩
  | .hbm, ⟨27, _⟩ => ⟨S4x256x256, .f32⟩
  | .hbm, ⟨28, _⟩ => ⟨S4x256x256, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S4352x1024, .f32⟩
  | .hbm, ⟨34, _⟩ => ⟨S4352x1024, .f32⟩
  | .hbm, ⟨35, _⟩ => ⟨S4352x1024, .f32⟩
  | .hbm, ⟨36, _⟩ => ⟨S4352x1024, .bf16⟩
  | .hbm, ⟨37, _⟩ => ⟨S4352x1024, .bf16⟩
  | .hbm, ⟨38, _⟩ => ⟨S4352x1024, .f32⟩
  | .hbm, ⟨39, _⟩ => ⟨S4352x1024, .bf16⟩
  | .hbm, ⟨40, _⟩ => ⟨S4352x1024, .f32⟩
  | .hbm, ⟨41, _⟩ => ⟨S4352x1024, .bf16⟩
  | .hbm, ⟨42, _⟩ => ⟨S4112x1024, .f32⟩
  | .hbm, ⟨43, _⟩ => ⟨S4112x1024, .f32⟩
  | .hbm, ⟨44, _⟩ => ⟨S4112x1024, .f32⟩
  | .hbm, ⟨45, _⟩ => ⟨S4112x1024, .bf16⟩
  | .hbm, ⟨46, _⟩ => ⟨S4112x1024, .bf16⟩
  | .hbm, ⟨47, _⟩ => ⟨S4112x1024, .f32⟩
  | .hbm, ⟨48, _⟩ => ⟨S4112x1024, .bf16⟩
  | .hbm, ⟨49, _⟩ => ⟨S4112x1024, .f32⟩
  | .hbm, ⟨50, _⟩ => ⟨S4112x1024, .bf16⟩
  | .local _ .vmem, ⟨0, _⟩ => ⟨S16x3072, .f32⟩
  | .local _ .vmem, ⟨1, _⟩ => ⟨S16x3072, .f32⟩
  | .local _ .vmem, ⟨2, _⟩ => ⟨S256x5120, .f32⟩
  | .local _ .vmem, ⟨3, _⟩ => ⟨S256x5120, .f32⟩
  | .local _ .vmem, ⟨4, _⟩ => ⟨S16x3072, .f32⟩
  | .local _ .vmem, ⟨5, _⟩ => ⟨S16x3072, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x2048, .f32⟩
  | .local _ .vmem, ⟨10, _⟩ => ⟨S32x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S4x256x256, .bf16⟩
  | .local _ .vmem, ⟨17, _⟩ => ⟨S1024x1024, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .f32⟩
  | .local _ .vmem, ⟨30, _⟩ => ⟨S256x1024, .f32⟩
  | .local _ .vmem, ⟨31, _⟩ => ⟨S256x1024, .bf16⟩
  | .local _ .vmem, ⟨32, _⟩ => ⟨S256x1024, .bf16⟩
  | .local _ .vmem, ⟨33, _⟩ => ⟨S256x1024, .f32⟩
  | .local _ .vmem, ⟨34, _⟩ => ⟨S256x1024, .f32⟩
  | .local _ .vmem, ⟨35, _⟩ => ⟨S256x1024, .bf16⟩
  | .local _ .vmem, ⟨36, _⟩ => ⟨S256x1024, .bf16⟩
  | .local _ .vmem, ⟨37, _⟩ => ⟨S288x1024, .f32⟩
  | .local _ .vmem, ⟨38, _⟩ => ⟨S288x1024, .f32⟩
  | .local _ .vmem, ⟨39, _⟩ => ⟨S8x280x128, .f32⟩
  | _, _ => ⟨S1x4112x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev main_v17_5 : Ref sig .tc := ⟨.hbm, 38, rfl⟩
abbrev main_v17_6 : Ref sig .tc := ⟨.hbm, 39, rfl⟩
abbrev main_v17_7 : Ref sig .tc := ⟨.hbm, 40, rfl⟩
abbrev main_v17_8 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![17], ![false]⟩

@[reducible] def k0_t1_loop : Scf.Loop 32 :=
  let c0_i32_39 : BitVec 32 := 0#32
  let c8_i32 : BitVec 32 := 8#32
  let v72 : BitVec 32 := Scalar.addi c0_i32_39 c8_i32
  let c1_i32 : BitVec 32 := 1#32
  ⟨c0_i32_39, v72, c1_i32⟩
def k0_mult1 (k0_t1 : Fin k0_t1_loop.trips) : BitVec 32 :=
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  v336
def k0_off1 (k0_t1 : Fin k0_t1_loop.trips) : Fin 2 → Nat :=
  let c1_204 : Index := 1#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v338 : Index := Scalar.indexCast v337
  ![1, v338.toNat]
def k0_off2 (k0_t1 : Fin k0_t1_loop.trips) : Fin 2 → Nat :=
  let c2_208 : Index := 2#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v343 : Index := Scalar.indexCast v337
  ![2, v343.toNat]
def k0_off3 (k0_t1 : Fin k0_t1_loop.trips) : Fin 2 → Nat :=
  let c3_212 : Index := 3#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v348 : Index := Scalar.indexCast v337
  ![3, v348.toNat]
def k0_off4 (k0_t1 : Fin k0_t1_loop.trips) : Fin 2 → Nat :=
  let c4 : Index := 4#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v353 : Index := Scalar.indexCast v337
  ![4, v353.toNat]
def k0_off5 (k0_t1 : Fin k0_t1_loop.trips) : Fin 2 → Nat :=
  let c5 : Index := 5#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v358 : Index := Scalar.indexCast v337
  ![5, v358.toNat]
def k0_off6 (k0_t1 : Fin k0_t1_loop.trips) : Fin 2 → Nat :=
  let c6 : Index := 6#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v363 : Index := Scalar.indexCast v337
  ![6, v363.toNat]
def k0_off7 (k0_t1 : Fin k0_t1_loop.trips) : Fin 2 → Nat :=
  let c7 : Index := 7#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v368 : Index := Scalar.indexCast v337
  ![7, v368.toNat]
def k0_off8 (k0_t1 : Fin k0_t1_loop.trips) : Fin 2 → Nat :=
  let c0_228 : Index := 0#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v373 : Index := Scalar.indexCast v337
  ![0, v373.toNat]
def k0_off9 (k0_t1 : Fin k0_t1_loop.trips) : Fin 2 → Nat :=
  let c0_229 : Index := 0#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v377 : Index := Scalar.indexCast v337
  ![0, v377.toNat]
def k0_off10 (k0_t1 : Fin k0_t1_loop.trips) : Fin 2 → Nat :=
  let c1_233 : Index := 1#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v385 : Index := Scalar.indexCast v337
  ![1, v385.toNat]
def k0_off11 (k0_t1 : Fin k0_t1_loop.trips) : Fin 2 → Nat :=
  let c2_237 : Index := 2#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v393 : Index := Scalar.indexCast v337
  ![2, v393.toNat]
def k0_off12 (k0_t1 : Fin k0_t1_loop.trips) : Fin 2 → Nat :=
  let c3_241 : Index := 3#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v401 : Index := Scalar.indexCast v337
  ![3, v401.toNat]
def k0_off13 (k0_t1 : Fin k0_t1_loop.trips) : Fin 2 → Nat :=
  let c4_245 : Index := 4#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v409 : Index := Scalar.indexCast v337
  ![4, v409.toNat]
def k0_off14 (k0_t1 : Fin k0_t1_loop.trips) : Fin 2 → Nat :=
  let c5_249 : Index := 5#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v417 : Index := Scalar.indexCast v337
  ![5, v417.toNat]
def k0_off15 (k0_t1 : Fin k0_t1_loop.trips) : Fin 2 → Nat :=
  let c6_253 : Index := 6#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v425 : Index := Scalar.indexCast v337
  ![6, v425.toNat]
def k0_off16 (k0_t1 : Fin k0_t1_loop.trips) : Fin 2 → Nat :=
  let c7_257 : Index := 7#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v433 : Index := Scalar.indexCast v337
  ![7, v433.toNat]
def k0_off17 (k0_t1 : Fin k0_t1_loop.trips) : Fin 2 → Nat :=
  let c8_258 : Index := 8#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v436 : Index := Scalar.indexCast v337
  ![8, v436.toNat]
def k0_off18 (k0_t1 : Fin k0_t1_loop.trips) : Fin 2 → Nat :=
  let c8_259 : Index := 8#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v441 : Index := Scalar.indexCast v337
  ![8, v441.toNat]
def k0_off19 (k0_t1 : Fin k0_t1_loop.trips) : Fin 2 → Nat :=
  let c9_263 : Index := 9#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v449 : Index := Scalar.indexCast v337
  ![9, v449.toNat]
def k0_off20 (k0_t1 : Fin k0_t1_loop.trips) : Fin 2 → Nat :=
  let c10_267 : Index := 10#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v457 : Index := Scalar.indexCast v337
  ![10, v457.toNat]
def k0_off21 (k0_t1 : Fin k0_t1_loop.trips) : Fin 2 → Nat :=
  let c11_271 : Index := 11#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v465 : Index := Scalar.indexCast v337
  ![11, v465.toNat]
def k0_off22 (k0_t1 : Fin k0_t1_loop.trips) : Fin 2 → Nat :=
  let c12_275 : Index := 12#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v473 : Index := Scalar.indexCast v337
  ![12, v473.toNat]
def k0_off23 (k0_t1 : Fin k0_t1_loop.trips) : Fin 2 → Nat :=
  let c13_279 : Index := 13#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v481 : Index := Scalar.indexCast v337
  ![13, v481.toNat]
def k0_off24 (k0_t1 : Fin k0_t1_loop.trips) : Fin 2 → Nat :=
  let c14_283 : Index := 14#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v489 : Index := Scalar.indexCast v337
  ![14, v489.toNat]
def k0_off25 (k0_t1 : Fin k0_t1_loop.trips) : Fin 2 → Nat :=
  let c15_287 : Index := 15#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v497 : Index := Scalar.indexCast v337
  ![15, v497.toNat]
def k0_off26 (k0_t1 : Fin k0_t1_loop.trips) : Fin 2 → Nat :=
  let c16_288 : Index := 16#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v500 : Index := Scalar.indexCast v337
  ![16, v500.toNat]
def k0_off27 (k0_t1 : Fin k0_t1_loop.trips) : Fin 2 → Nat :=
  let c16_289 : Index := 16#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v505 : Index := Scalar.indexCast v337
  ![16, v505.toNat]
def k0_off28 (k0_t1 : Fin k0_t1_loop.trips) : Fin 2 → Nat :=
  let c17_293 : Index := 17#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v513 : Index := Scalar.indexCast v337
  ![17, v513.toNat]
def k0_off29 (k0_t1 : Fin k0_t1_loop.trips) : Fin 2 → Nat :=
  let c18_297 : Index := 18#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v521 : Index := Scalar.indexCast v337
  ![18, v521.toNat]
def k0_off30 (k0_t1 : Fin k0_t1_loop.trips) : Fin 2 → Nat :=
  let c19_301 : Index := 19#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v529 : Index := Scalar.indexCast v337
  ![19, v529.toNat]
def k0_off31 (k0_t1 : Fin k0_t1_loop.trips) : Fin 2 → Nat :=
  let c20_305 : Index := 20#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v537 : Index := Scalar.indexCast v337
  ![20, v537.toNat]
def k0_off32 (k0_t1 : Fin k0_t1_loop.trips) : Fin 2 → Nat :=
  let c21_309 : Index := 21#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v545 : Index := Scalar.indexCast v337
  ![21, v545.toNat]
def k0_off33 (k0_t1 : Fin k0_t1_loop.trips) : Fin 2 → Nat :=
  let c22_313 : Index := 22#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v553 : Index := Scalar.indexCast v337
  ![22, v553.toNat]
def k0_off34 (k0_t1 : Fin k0_t1_loop.trips) : Fin 2 → Nat :=
  let c23_317 : Index := 23#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v561 : Index := Scalar.indexCast v337
  ![23, v561.toNat]
def k0_off35 (k0_t1 : Fin k0_t1_loop.trips) : Fin 2 → Nat :=
  let c24 : Index := 24#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v564 : Index := Scalar.indexCast v337
  ![24, v564.toNat]
def k0_off36 (k0_t1 : Fin k0_t1_loop.trips) : Fin 2 → Nat :=
  let c24_318 : Index := 24#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v569 : Index := Scalar.indexCast v337
  ![24, v569.toNat]
def k0_off37 (k0_t1 : Fin k0_t1_loop.trips) : Fin 2 → Nat :=
  let c25 : Index := 25#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v577 : Index := Scalar.indexCast v337
  ![25, v577.toNat]
def k0_off38 (k0_t1 : Fin k0_t1_loop.trips) : Fin 2 → Nat :=
  let c26 : Index := 26#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v585 : Index := Scalar.indexCast v337
  ![26, v585.toNat]
def k0_off39 (k0_t1 : Fin k0_t1_loop.trips) : Fin 2 → Nat :=
  let c27 : Index := 27#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v593 : Index := Scalar.indexCast v337
  ![27, v593.toNat]
def k0_off40 (k0_t1 : Fin k0_t1_loop.trips) : Fin 2 → Nat :=
  let c28 : Index := 28#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v601 : Index := Scalar.indexCast v337
  ![28, v601.toNat]
def k0_off41 (k0_t1 : Fin k0_t1_loop.trips) : Fin 2 → Nat :=
  let c29 : Index := 29#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v609 : Index := Scalar.indexCast v337
  ![29, v609.toNat]
def k0_off42 (k0_t1 : Fin k0_t1_loop.trips) : Fin 2 → Nat :=
  let c30 : Index := 30#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v617 : Index := Scalar.indexCast v337
  ![30, v617.toNat]
def k0_off43 (k0_t1 : Fin k0_t1_loop.trips) : Fin 2 → Nat :=
  let c0_340 : Index := 0#32
  let c0_i32_39 : BitVec 32 := 0#32
  let c1_i32 : BitVec 32 := 1#32
  let arg28 : BitVec 32 := Scf.iv c0_i32_39 c1_i32 k0_t1
  let c128_i32 : BitVec 32 := 128#32
  let v336 : BitVec 32 := Scalar.muli arg28 c128_i32
  let v337 : BitVec 32 := v336
  let v625 : Index := Scalar.indexCast v337
  ![0, v625.toNat]
def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c271_i32 : BitVec 32 := 271#32
  let v2 : BitVec 32 := Scalar.minsi v1 c271_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference5Ideal.lean ====
abbrev S1x4112x5120 : Shape := ⟨3, ![1, 4112, 5120]⟩
abbrev S1x4096x1024 : Shape := ⟨3, ![1, 4096, 1024]⟩
abbrev S16x1024 : Shape := ⟨2, ![16, 1024]⟩
abbrev S1x2048 : Shape := ⟨2, ![1, 2048]⟩
abbrev S1x31x1024 : Shape := ⟨3, ![1, 31, 1024]⟩
abbrev S1x1024 : Shape := ⟨2, ![1, 1024]⟩
abbrev S1x1024x1024 : Shape := ⟨3, ![1, 1024, 1024]⟩
abbrev S1x4x256x256 : Shape := ⟨4, ![1, 4, 256, 256]⟩
abbrev S4112x5120 : Shape := ⟨2, ![4112, 5120]⟩
abbrev S4112x1024 : Shape := ⟨2, ![4112, 1024]⟩
abbrev S_ : Shape := ⟨0, ![]⟩
abbrev S31x4112x4112 : Shape := ⟨3, ![31, 4112, 4112]⟩
abbrev S31x4112x1024 : Shape := ⟨3, ![31, 4112, 1024]⟩
abbrev S31x1024 : Shape := ⟨2, ![31, 1024]⟩
abbrev S31x1x1024 : Shape := ⟨3, ![31, 1, 1024]⟩
abbrev S1024 : Shape := ⟨1, ![1024]⟩
abbrev S4112 : Shape := ⟨1, ![4112]⟩
abbrev S4112x1 : Shape := ⟨2, ![4112, 1]⟩
abbrev S1024x1024 : Shape := ⟨2, ![1024, 1024]⟩
abbrev S4112x256 : Shape := ⟨2, ![4112, 256]⟩
abbrev S4112x4112 : Shape := ⟨2, ![4112, 4112]⟩
abbrev S4112x4x256 : Shape := ⟨3, ![4112, 4, 256]⟩
abbrev S4x256x256 : Shape := ⟨3, ![4, 256, 256]⟩
abbrev S4x256x4112 : Shape := ⟨3, ![4, 256, 4112]⟩
abbrev S4112x2048 : Shape := ⟨2, ![4112, 2048]⟩
abbrev S2048 : Shape := ⟨1, ![2048]⟩
abbrev S4096x1024 : Shape := ⟨2, ![4096, 1024]⟩

abbrev nBuf : Space → Nat
  | .hbm => 221
  | .vmem => 0
  | .smem => 0
  | _ => 0

abbrev hbmTy0_0 (i : Nat) : BufTy := match i % 128 with
  | 0 => ⟨S1x4112x5120, .f32⟩
  | 1 => ⟨S1x4096x1024, .f32⟩
  | 2 => ⟨S16x1024, .f32⟩
  | 3 => ⟨S1x2048, .f32⟩
  | 4 => ⟨S1x31x1024, .f32⟩
  | 5 => ⟨S1x1024, .f32⟩
  | 6 => ⟨S1x1024, .f32⟩
  | 7 => ⟨S1x1024, .f32⟩
  | 8 => ⟨S1x1024, .f32⟩
  | 9 => ⟨S1x1024x1024, .f32⟩
  | 10 => ⟨S1x4x256x256, .f32⟩
  | 11 => ⟨S1x1024x1024, .f32⟩
  | 12 => ⟨S1x1024x1024, .f32⟩
  | 13 => ⟨S4112x5120, .f32⟩
  | 14 => ⟨S4112x1024, .f32⟩
  | 15 => ⟨S4112x1024, .f32⟩
  | 16 => ⟨S4112x1024, .f32⟩
  | 17 => ⟨S4112x1024, .f32⟩
  | 18 => ⟨S_, .f32⟩
  | 19 => ⟨S4112x1024, .f32⟩
  | 20 => ⟨S4112x1024, .f32⟩
  | 21 => ⟨S_, .f32⟩
  | 22 => ⟨S4112x1024, .f32⟩
  | 23 => ⟨S4112x1024, .f32⟩
  | 24 => ⟨S4112x1024, .f32⟩
  | 25 => ⟨S31x4112x4112, .i32⟩
  | 26 => ⟨S31x4112x4112, .i32⟩
  | 27 => ⟨S31x4112x4112, .i32⟩
  | 28 => ⟨S31x4112x4112, .i32⟩
  | 29 => ⟨S_, .i32⟩
  | 30 => ⟨S31x4112x4112, .i32⟩
  | 31 => ⟨S31x4112x4112, .i32⟩
  | 32 => ⟨S31x4112x4112, .i1⟩
  | 33 => ⟨S31x4112x4112, .f32⟩
  | 34 => ⟨S31x4112x1024, .f32⟩
  | 35 => ⟨S31x1024, .f32⟩
  | 36 => ⟨S31x1x1024, .f32⟩
  | 37 => ⟨S31x4112x1024, .f32⟩
  | 38 => ⟨S31x4112x1024, .f32⟩
  | 39 => ⟨S_, .f32⟩
  | 40 => ⟨S4112x1024, .f32⟩
  | 41 => ⟨S1024, .f32⟩
  | 42 => ⟨S1x1024, .f32⟩
  | 43 => ⟨S4112x1024, .f32⟩
  | 44 => ⟨S4112x1024, .f32⟩
  | 45 => ⟨S1024, .f32⟩
  | 46 => ⟨S1024, .f32⟩
  | 47 => ⟨S_, .f32⟩
  | 48 => ⟨S4112, .f32⟩
  | 49 => ⟨S4112x1, .f32⟩
  | 50 => ⟨S_, .f32⟩
  | 51 => ⟨S4112x1, .f32⟩
  | 52 => ⟨S4112x1, .f32⟩
  | 53 => ⟨S4112x1024, .f32⟩
  | 54 => ⟨S4112x1024, .f32⟩
  | 55 => ⟨S4112x1024, .f32⟩
  | 56 => ⟨S_, .f32⟩
  | 57 => ⟨S4112, .f32⟩
  | 58 => ⟨S4112x1, .f32⟩
  | 59 => ⟨S_, .f32⟩
  | 60 => ⟨S4112x1, .f32⟩
  | 61 => ⟨S4112x1, .f32⟩
  | 62 => ⟨S_, .f32⟩
  | 63 => ⟨S4112x1, .f32⟩
  | 64 => ⟨S4112x1, .f32⟩
  | 65 => ⟨S4112x1, .f32⟩
  | 66 => ⟨S4112x1024, .f32⟩
  | 67 => ⟨S4112x1024, .f32⟩
  | 68 => ⟨S1x1024, .f32⟩
  | 69 => ⟨S4112x1024, .f32⟩
  | 70 => ⟨S4112x1024, .f32⟩
  | 71 => ⟨S1x1024, .f32⟩
  | 72 => ⟨S4112x1024, .f32⟩
  | 73 => ⟨S4112x1024, .f32⟩
  | 74 => ⟨S4112x1024, .f32⟩
  | 75 => ⟨S4112x1024, .f32⟩
  | 76 => ⟨S_, .f32⟩
  | 77 => ⟨S4112x1024, .f32⟩
  | 78 => ⟨S4112x1024, .f32⟩
  | 79 => ⟨S_, .f32⟩
  | 80 => ⟨S4112x1024, .f32⟩
  | 81 => ⟨S4112x1024, .f32⟩
  | 82 => ⟨S4112x1024, .f32⟩
  | 83 => ⟨S1024x1024, .f32⟩
  | 84 => ⟨S4112x1024, .f32⟩
  | 85 => ⟨S4112x1024, .f32⟩
  | 86 => ⟨S4112x256, .f32⟩
  | 87 => ⟨S4112x4112, .i32⟩
  | 88 => ⟨S4112x4112, .i32⟩
  | 89 => ⟨S_, .i32⟩
  | 90 => ⟨S4112x4112, .i32⟩
  | 91 => ⟨S4112x4112, .i32⟩
  | 92 => ⟨S4112x4112, .i1⟩
  | 93 => ⟨S_, .i32⟩
  | 94 => ⟨S4112x4112, .i32⟩
  | 95 => ⟨S4112x4112, .i32⟩
  | 96 => ⟨S_, .i32⟩
  | 97 => ⟨S4112x4112, .i32⟩
  | 98 => ⟨S4112x4112, .i32⟩
  | 99 => ⟨S4112x4112, .i1⟩
  | 100 => ⟨S4112x4112, .i1⟩
  | 101 => ⟨S4112x4112, .f32⟩
  | 102 => ⟨S4112x256, .f32⟩
  | 103 => ⟨S_, .f32⟩
  | 104 => ⟨S4112, .f32⟩
  | 105 => ⟨S4112x1, .f32⟩
  | 106 => ⟨S4112x256, .f32⟩
  | 107 => ⟨S4112x256, .f32⟩
  | 108 => ⟨S4112x256, .f32⟩
  | 109 => ⟨S4112x256, .f32⟩
  | 110 => ⟨S4112x256, .f32⟩
  | 111 => ⟨S4112x4112, .i32⟩
  | 112 => ⟨S4112x4112, .i32⟩
  | 113 => ⟨S_, .i32⟩
  | 114 => ⟨S4112x4112, .i32⟩
  | 115 => ⟨S4112x4112, .i32⟩
  | 116 => ⟨S4112x4112, .i1⟩
  | 117 => ⟨S_, .i32⟩
  | 118 => ⟨S4112x4112, .i32⟩
  | 119 => ⟨S4112x4112, .i32⟩
  | 120 => ⟨S_, .i32⟩
  | 121 => ⟨S4112x4112, .i32⟩
  | 122 => ⟨S4112x4112, .i32⟩
  | 123 => ⟨S4112x4112, .i1⟩
  | 124 => ⟨S4112x4112, .i1⟩
  | 125 => ⟨S4112x4112, .f32⟩
  | 126 => ⟨S4112x256, .f32⟩
  | 127 => ⟨S_, .f32⟩
  | _ => ⟨S1x4112x5120, .f32⟩

abbrev hbmTy0_1 (i : Nat) : BufTy := match i % 128 with
  | 0 => ⟨S4112, .f32⟩
  | 1 => ⟨S4112x1, .f32⟩
  | 2 => ⟨S4112x256, .f32⟩
  | 3 => ⟨S4112x256, .f32⟩
  | 4 => ⟨S4112x256, .f32⟩
  | 5 => ⟨S4112x256, .f32⟩
  | 6 => ⟨S4112x256, .f32⟩
  | 7 => ⟨S4112x4112, .i32⟩
  | 8 => ⟨S4112x4112, .i32⟩
  | 9 => ⟨S_, .i32⟩
  | 10 => ⟨S4112x4112, .i32⟩
  | 11 => ⟨S4112x4112, .i32⟩
  | 12 => ⟨S4112x4112, .i1⟩
  | 13 => ⟨S_, .i32⟩
  | 14 => ⟨S4112x4112, .i32⟩
  | 15 => ⟨S4112x4112, .i32⟩
  | 16 => ⟨S_, .i32⟩
  | 17 => ⟨S4112x4112, .i32⟩
  | 18 => ⟨S4112x4112, .i32⟩
  | 19 => ⟨S4112x4112, .i1⟩
  | 20 => ⟨S4112x4112, .i1⟩
  | 21 => ⟨S4112x4112, .f32⟩
  | 22 => ⟨S4112x256, .f32⟩
  | 23 => ⟨S_, .f32⟩
  | 24 => ⟨S4112, .f32⟩
  | 25 => ⟨S4112x1, .f32⟩
  | 26 => ⟨S4112x256, .f32⟩
  | 27 => ⟨S4112x256, .f32⟩
  | 28 => ⟨S4112x256, .f32⟩
  | 29 => ⟨S4112x256, .f32⟩
  | 30 => ⟨S4112x256, .f32⟩
  | 31 => ⟨S4112x4112, .i32⟩
  | 32 => ⟨S4112x4112, .i32⟩
  | 33 => ⟨S_, .i32⟩
  | 34 => ⟨S4112x4112, .i32⟩
  | 35 => ⟨S4112x4112, .i32⟩
  | 36 => ⟨S4112x4112, .i1⟩
  | 37 => ⟨S_, .i32⟩
  | 38 => ⟨S4112x4112, .i32⟩
  | 39 => ⟨S4112x4112, .i32⟩
  | 40 => ⟨S_, .i32⟩
  | 41 => ⟨S4112x4112, .i32⟩
  | 42 => ⟨S4112x4112, .i32⟩
  | 43 => ⟨S4112x4112, .i1⟩
  | 44 => ⟨S4112x4112, .i1⟩
  | 45 => ⟨S4112x4112, .f32⟩
  | 46 => ⟨S4112x256, .f32⟩
  | 47 => ⟨S_, .f32⟩
  | 48 => ⟨S4112, .f32⟩
  | 49 => ⟨S4112x1, .f32⟩
  | 50 => ⟨S4112x256, .f32⟩
  | 51 => ⟨S4112x256, .f32⟩
  | 52 => ⟨S4112x256, .f32⟩
  | 53 => ⟨S4112x256, .f32⟩
  | 54 => ⟨S4112x1024, .f32⟩
  | 55 => ⟨S4112x4x256, .f32⟩
  | 56 => ⟨S4x256x256, .f32⟩
  | 57 => ⟨S4x256x4112, .f32⟩
  | 58 => ⟨S4112x4x256, .f32⟩
  | 59 => ⟨S4112x1024, .f32⟩
  | 60 => ⟨S1024, .f32⟩
  | 61 => ⟨S1x1024, .f32⟩
  | 62 => ⟨S4112x1024, .f32⟩
  | 63 => ⟨S4112x1024, .f32⟩
  | 64 => ⟨S1024x1024, .f32⟩
  | 65 => ⟨S4112x1024, .f32⟩
  | 66 => ⟨S4112x2048, .f32⟩
  | 67 => ⟨S2048, .f32⟩
  | 68 => ⟨S1x2048, .f32⟩
  | 69 => ⟨S4112x2048, .f32⟩
  | 70 => ⟨S4112x2048, .f32⟩
  | 71 => ⟨S4112x2048, .f32⟩
  | 72 => ⟨S4112x2048, .f32⟩
  | 73 => ⟨S_, .f32⟩
  | 74 => ⟨S4112x2048, .f32⟩
  | 75 => ⟨S4112x2048, .f32⟩
  | 76 => ⟨S_, .f32⟩
  | 77 => ⟨S4112x2048, .f32⟩
  | 78 => ⟨S4112x2048, .f32⟩
  | 79 => ⟨S4112x1024, .f32⟩
  | 80 => ⟨S4112x1024, .f32⟩
  | 81 => ⟨S4112x1024, .f32⟩
  | 82 => ⟨S4112x1024, .f32⟩
  | 83 => ⟨S4112x1024, .f32⟩
  | 84 => ⟨S4096x1024, .f32⟩
  | 85 => ⟨S4112x1024, .f32⟩
  | 86 => ⟨S1024x1024, .f32⟩
  | 87 => ⟨S4112x1024, .f32⟩
  | 88 => ⟨S4112x1024, .f32⟩
  | 89 => ⟨S4112x1024, .bf16⟩
  | 90 => ⟨S4112x1024, .bf16⟩
  | 91 => ⟨S4112x1024, .bf16⟩
  | 92 => ⟨S4112x1024, .bf16⟩
  | _ => ⟨S1x4112x5120, .f32⟩

abbrev hbmTy (i : Nat) : BufTy := match i / 128 with
  | 0 => hbmTy0_0 i
  | 1 => hbmTy0_1 i
  | _ => ⟨S1x4112x5120, .f32⟩

abbrev bufTy : (tb : Table) → Fin (tcTables nBuf tb) → BufTy
  | .hbm, ⟨i, _⟩ => hbmTy i
  | _, _ => ⟨S1x4112x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_1 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_call0_v0 : Ref sig .tc := ⟨.hbm, 74, rfl⟩
abbrev main_call0_v1 : Ref sig .tc := ⟨.hbm, 75, rfl⟩
abbrev main_call0_cst : Ref sig .tc := ⟨.hbm, 76, rfl⟩
abbrev main_call0_v2 : Ref sig .tc := ⟨.hbm, 77, rfl⟩
abbrev main_call0_v3 : Ref sig .tc := ⟨.hbm, 78, rfl⟩
abbrev main_call0_cst_0 : Ref sig .tc := ⟨.hbm, 79, rfl⟩
abbrev main_call0_v4 : Ref sig .tc := ⟨.hbm, 80, rfl⟩
abbrev main_call0_v5 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_7 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_8 : Ref sig .tc := ⟨.hbm, 93, rfl⟩
abbrev main_v62 : Ref sig .tc := ⟨.hbm, 94, rfl⟩
abbrev main_v63 : Ref sig .tc := ⟨.hbm, 95, rfl⟩
abbrev main_c_9 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_11 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_c_12 : Ref sig .tc := ⟨.hbm, 117, rfl⟩
abbrev main_v82 : Ref sig .tc := ⟨.hbm, 118, rfl⟩
abbrev main_v83 : Ref sig .tc := ⟨.hbm, 119, rfl⟩
abbrev main_c_13 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_14 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_15 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_16 : Ref sig .tc := ⟨.hbm, 141, rfl⟩
abbrev main_v102 : Ref sig .tc := ⟨.hbm, 142, rfl⟩
abbrev main_v103 : Ref sig .tc := ⟨.hbm, 143, rfl⟩
abbrev main_c_17 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_18 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_c_19 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_c_20 : Ref sig .tc := ⟨.hbm, 165, rfl⟩
abbrev main_v122 : Ref sig .tc := ⟨.hbm, 166, rfl⟩
abbrev main_v123 : Ref sig .tc := ⟨.hbm, 167, rfl⟩
abbrev main_c_21 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_cst_22 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_23 : Ref sig .tc := ⟨.hbm, 201, rfl⟩
abbrev main_v155 : Ref sig .tc := ⟨.hbm, 202, rfl⟩
abbrev main_v156 : Ref sig .tc := ⟨.hbm, 203, rfl⟩
abbrev main_cst_24 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩

abbrev nD : Nat := 1
abbrev τ : Topo := Topo.v7x

variable {F : FTy → Type} [FloatOps F]
-- ==== Proof.Step.Scalars.lean ====
/-
  Facts about single extended reals and about one row of 1024 reals, used by every value proof of this directory:
  literals, the logistic function and its two spellings, the derivative of `x · logistic x`, and the normalisation of a
  row to mean 0 and variance 1 with its gradient in two spellings.
-/
module

public import Idealize.ShloMosaic.Lib.Pointwise
public import Idealize.ShloMosaic.Lib.IdealHost
public import Mathlib.Analysis.SpecialFunctions.Trigonometric.DerivHyp

@[expose] public section

noncomputable section

namespace Cert.Scalars

open Idealize.ShloMosaic

/-! ## Literals -/

theorem lit_half : Ideal.ofBits .f32 0x3F000000#32 = ((1 / 2 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul, -EReal.coe_neg]; norm_num

theorem lit_width : Ideal.ofBits .f32 0x44800000#32 = ((1024 : ℝ) : EReal) := by
  simp [Ideal.ofBits, Ideal.ieee, -EReal.coe_mul, -EReal.coe_neg]; norm_num

theorem lit_inf : Ideal.ofBits .f32 0x7F800000#32 = (⊤ : EReal) := by
  simp [Ideal.ofBits, Ideal.ieee]

/-- The layer norm's epsilon. -/
def lnEps : ℝ := (Ideal.ofBits .f32 0x3727C5AC#32 : EReal).toReal

theorem lit_ln_eps : Ideal.ofBits .f32 0x3727C5AC#32 = ((lnEps : ℝ) : EReal) ∧ 0 < lnEps := by
  have h : Ideal.ofBits .f32 0x3727C5AC#32 = ((2748779 / 274877906944 : ℝ) : EReal) := by
    simp [Ideal.ofBits, Ideal.ieee, -EReal.coe_mul, -EReal.coe_neg]; norm_num
  unfold lnEps
  rw [h, EReal.toReal_coe]
  norm_num

/-! ## Reals inside the extended reals -/

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (a : ℝ) {b : ℝ} (hb : b ≠ 0) : Ideal.div (a : EReal) (b : EReal) = ((a / b : ℝ) : EReal) := by
  rw [Ideal.div_coe hb, ← EReal.coe_mul, mul_one_div]

theorem rsqrt_real {a : ℝ} (ha : 0 < a) : Ideal.rsqrt (a : EReal) = (((Real.sqrt a)⁻¹ : ℝ) : EReal) := by
  rw [Ideal.rsqrt_coe, if_neg ha.not_gt, if_neg ha.ne']

/-- A number below `+∞` in absolute value is a real. -/
theorem real_of_abs_lt {x : EReal} (h : x ≠ ⊤) (h' : x ≠ ⊥) : ∃ r : ℝ, x = r := ⟨x.toReal, (EReal.coe_toReal h h').symm⟩

/-! ## The logistic function -/

/-- The logistic function as the host writes it. -/
def sig (x : EReal) : EReal := Ideal.div 1 (1 + Ideal.exp (-x))

/-- Its value, a real at every extended real. -/
def sgr (x : EReal) : ℝ := (sig x).toReal

theorem sig_real (x : ℝ) : sig x = ((1 / (1 + Real.exp (-x)) : ℝ) : EReal) := by
  have h : (1 + Real.exp (-x)) ≠ 0 := by positivity
  unfold sig
  rw [← EReal.coe_neg, Ideal.exp_coe, ← EReal.coe_one, ← EReal.coe_add, div_real _ h]

theorem sig_top : sig ⊤ = 1 := by
  unfold sig Ideal.div
  rw [EReal.neg_top, Ideal.exp_bot]
  simp

theorem sig_bot : sig ⊥ = 0 := by
  unfold sig Ideal.div
  rw [EReal.neg_bot, Ideal.exp_top, EReal.add_top_of_ne_bot (by decide)]
  simp

theorem sig_eq (x : EReal) : sig x = ((sgr x : ℝ) : EReal) := by
  unfold sgr
  induction x using EReal.rec with
  | bot => simp [sig_bot]
  | coe r => rw [sig_real, EReal.toReal_coe]
  | top => simp [sig_top]

theorem half_tanh_real (x : ℝ) : 1 / 2 * Real.tanh (1 / 2 * x) + 1 / 2 = 1 / (1 + Real.exp (-x)) := by
  have e1 : Real.exp (-x) = Real.exp (-(1 / 2 * x)) * Real.exp (-(1 / 2 * x)) := by rw [← Real.exp_add]; ring_nf
  have e2 : Real.exp (1 / 2 * x) * Real.exp (-(1 / 2 * x)) = 1 := by rw [← Real.exp_add]; simp
  rw [Real.tanh_eq_sinh_div_cosh, Real.sinh_eq, Real.cosh_eq, e1]
  set a := Real.exp (1 / 2 * x)
  set b := Real.exp (-(1 / 2 * x))
  have ha : 0 < a := Real.exp_pos _
  have hb : 0 < b := Real.exp_pos _
  have : 1 + b * b = b * (a + b) := by rw [mul_add, mul_comm b a, e2]
  rw [this]
  field_simp
  linarith [e2, mul_comm a b]

/-- The logistic function by the hyperbolic tangent: the same at every extended real. -/
theorem half_tanh (x : EReal) :
    ((1 / 2 : ℝ) : EReal) * Ideal.tanh (((1 / 2 : ℝ) : EReal) * x) + ((1 / 2 : ℝ) : EReal) = ((sgr x : ℝ) : EReal) := by
  rw [← sig_eq]
  induction x using EReal.rec with
  | bot =>
    rw [EReal.coe_mul_bot_of_pos (by norm_num), sig_bot]
    show ((1 / 2 : ℝ) : EReal) * (-1) + _ = _
    rw [show (-1 : EReal) = ((-1 : ℝ) : EReal) from rfl, ← EReal.coe_mul, ← EReal.coe_add]
    norm_num
  | coe r =>
    rw [← EReal.coe_mul, Ideal.tanh_coe, ← EReal.coe_mul, ← EReal.coe_add, sig_real, half_tanh_real]
  | top =>
    rw [EReal.coe_mul_top_of_pos (by norm_num), sig_top]
    show ((1 / 2 : ℝ) : EReal) * 1 + _ = _
    rw [mul_one, ← EReal.coe_add]
    norm_num

/-- The gradient of `x · logistic x` at `x` times the cotangent `d`: one real number. -/
def dsilu (x : EReal) (d : ℝ) : ℝ := ((d : EReal) * (sig x * (1 + x * (1 - sig x)))).toReal

theorem one_sub_real (r : ℝ) : (1 : EReal) - (r : EReal) = ((1 - r : ℝ) : EReal) := by
  rw [EReal.coe_sub, EReal.coe_one]

/-- Factored, as the kernel writes it. -/
theorem dsilu_factored (x : EReal) (d : ℝ) :
    (d : EReal) * (((sgr x : ℝ) : EReal) * (1 + x * (1 - ((sgr x : ℝ) : EReal)))) = ((dsilu x d : ℝ) : EReal) := by
  unfold dsilu
  rw [sig_eq]
  induction x using EReal.rec with
  | bot => rw [← sig_eq, sig_bot]; simp
  | coe r =>
    generalize sgr (r : EReal) = s
    rw [one_sub_real, ← EReal.coe_mul, ← EReal.coe_one, ← EReal.coe_add, ← EReal.coe_mul, ← EReal.coe_mul, EReal.toReal_coe]
  | top =>
    rw [← sig_eq, sig_top, show (1 : EReal) - 1 = 0 from by rw [← EReal.coe_one, ← EReal.coe_sub]; simp]
    simp

/-- Summed over the product's two factors, as the chain rule writes it. -/
theorem dsilu_summed (x : EReal) (d : ℝ) :
    (d : EReal) * ((sgr x : ℝ) : EReal) + x * (d : EReal) * (((sgr x : ℝ) : EReal) * (1 - ((sgr x : ℝ) : EReal)))
      = ((dsilu x d : ℝ) : EReal) := by
  rw [← dsilu_factored]
  induction x using EReal.rec with
  | bot => rw [← sig_eq, sig_bot]; simp
  | coe r =>
    generalize sgr (r : EReal) = s
    rw [one_sub_real, ← EReal.coe_one]
    simp only [← EReal.coe_mul, ← EReal.coe_add]
    congr 1; ring
  | top =>
    rw [← sig_eq, sig_top, show (1 : EReal) - 1 = 0 from by rw [← EReal.coe_one, ← EReal.coe_sub]; simp]
    simp

/-! ## A row normalised to mean 0 and variance 1 -/

def mean (x : Fin 1024 → ℝ) : ℝ := (∑ j, x j) / 1024

def cen (x : Fin 1024 → ℝ) (j : Fin 1024) : ℝ := x j - mean x

/-- The variance with the epsilon added. -/
def spread (x : Fin 1024 → ℝ) : ℝ := mean (fun j => cen x j * cen x j) + lnEps

def rstd (x : Fin 1024 → ℝ) : ℝ := (Real.sqrt (spread x))⁻¹

def xhat (x : Fin 1024 → ℝ) (j : Fin 1024) : ℝ := cen x j * rstd x

/-- The gradient of the normalisation, `d` being the cotangent of the normalised row. -/
def dnorm (x d : Fin 1024 → ℝ) (j : Fin 1024) : ℝ :=
  rstd x * (d j - mean d - xhat x j * mean (fun k => d k * xhat x k))

theorem spread_pos (x : Fin 1024 → ℝ) : 0 < spread x := by
  have : 0 ≤ mean (fun j => cen x j * cen x j) :=
    div_nonneg (Finset.sum_nonneg fun j _ => mul_self_nonneg _) (by norm_num)
  exact add_pos_of_nonneg_of_pos this lit_ln_eps.2

theorem sum_cen (x : Fin 1024 → ℝ) : ∑ j, cen x j = 0 := by
  simp only [cen, mean, Finset.sum_sub_distrib, Finset.sum_const, Finset.card_univ, Fintype.card_fin]
  simp; ring

theorem rstd_sq (x : Fin 1024 → ℝ) : rstd x * rstd x = 1 / spread x := by
  unfold rstd
  rw [← mul_inv, Real.mul_self_sqrt (spread_pos x).le, one_div]

/-- What reaches the centred row: through the product and, twice, through the variance. -/
def chain (x d : Fin 1024 → ℝ) (j : Fin 1024) : ℝ :=
  d j * rstd x + cen x j * ((∑ k, cen x k * d k) * (-(1 / 2) * (rstd x / spread x)) / 1024)
    + (∑ k, cen x k * d k) * (-(1 / 2) * (rstd x / spread x)) / 1024 * cen x j

/-- The chain rule's result is the closed form. -/
theorem chain_eq (x d : Fin 1024 → ℝ) (j : Fin 1024) : chain x d j + (∑ k, -chain x d k) / 1024 = dnorm x d j := by
  have hs := sum_cen x
  have hq := rstd_sq x
  have hp := spread_pos x
  have e : ∀ k, chain x d k = rstd x * d k - cen x k * ((∑ k, cen x k * d k) * (rstd x * (rstd x * rstd x)) / 1024) := by
    intro k; rw [hq]; unfold chain; field_simp; ring
  have e2 : mean (fun k => d k * xhat x k) = rstd x * (∑ k, cen x k * d k) / 1024 := by
    unfold mean xhat
    rw [Finset.mul_sum]
    congr 1
    exact Finset.sum_congr rfl fun k _ => by ring
  have e3 : ∑ k, -chain x d k = -(rstd x * ∑ k, d k) := by
    simp only [e, neg_sub, Finset.sum_sub_distrib, ← Finset.sum_mul, ← Finset.mul_sum, hs]
    ring
  rw [e3, e]
  unfold dnorm
  rw [e2]
  unfold mean xhat
  ring

/-- A zero cotangent gives a zero gradient. -/
theorem dnorm_zero (x : Fin 1024 → ℝ) (j : Fin 1024) : dnorm x (fun _ => 0) j = 0 := by
  simp [dnorm, mean]

end Cert.Scalars

end
-- ==== Proof.Step.Bounds.lean ====
module

public import proofs.«01_k».proof.Proof.Step.Scalars

/-!
# Finite arrays

What the preconditions say: an array whose magnitudes all lie below plus infinity holds real numbers.
-/

@[expose] public section

noncomputable section

namespace Cert.Scalars

open Idealize.ShloMosaic

/-- A comparison with plus infinity that holds everywhere leaves real numbers only. -/
theorem real_of_below {s : Shape} {x : FVec Ideal s .f32} {b : FVec Ideal s .f32} (hb : ∀ i, b i = (⊤ : EReal))
    (h : cmpf .olt (Host.absf x) b = fun _ => 1#1) (i : s.Idx) : ∃ r : ℝ, (x i : EReal) = r := by
  have e := congrFun h i
  change Ideal.cmp .olt (max (x i : EReal) (-(x i : EReal))) (b i) = 1#1 at e
  rw [hb] at e
  refine real_of_abs_lt (fun ht => ?_) (fun ht => ?_) <;> (rw [ht] at e; simp [Ideal.cmp] at e)

theorem infinity {s : Shape} (h : (⟨0, ![]⟩ : Shape).BroadcastsInDim s ![]) (i : s.Idx) :
    (broadcastInDim s ![] h (constant (F := Ideal) ⟨0, ![]⟩ .f32 0x7F800000#32) i : EReal) = ⊤ := by
  show Ideal.ofBits .f32 0x7F800000#32 = ⊤
  simp [Ideal.ofBits, Ideal.ieee]

end Cert.Scalars
-- ==== Proof.Rows.Point.lean ====
module

public import proofs.«01_k».proof.Proof.Gen.KernelIdeal.Frame.Runs
public import Idealize.ShloMosaic.Lib.Pipeline.ValueKit
public import Idealize.ShloMosaic.Lib.VecWindow

/-!
# The rows' backward body at one point

What the body stores as functions of the blocks it reads and of the row sums so far, and its run: at the first point,
where the sums start from zero, and at a later one, where they go on from what the point before left.
-/

@[expose] public section

set_option maxRecDepth 16384

noncomputable section

namespace Cert.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The blocks a point reads. -/
structure Ins (F : FTy → Type) where
  dh : Vec F S256x1024 .bf16
  yc : Vec F S256x1024 .f32
  yp : Vec F S256x1024 .f32
  za : Vec F S256x1024 .f32
  zb : Vec F S256x1024 .f32
  bg : Vec F S1x2048 .f32
  cpre : Vec F S256x1024 .f32
  lng : Vec F S1x1024 .f32
  lnb : Vec F S1x1024 .f32
  mw : Vec F S256x1024 .f32
  ps : Vec F S1x1024 .f32
  wo : Vec F S1024x1024 .bf16
  wco : Vec F S1024x1024 .bf16
  wpo : Vec F S1024x1024 .bf16
  wpool : Vec F S4x256x256 .bf16

/-- The sums over rows that the points carry on. -/
structure Accs (F : FTy → Type) where
  bg : Vec F S1x2048 .f32
  lng : Vec F S1x1024 .f32
  lnb : Vec F S1x1024 .f32
  bdw : Vec F S1x1024 .f32
  ps : Vec F S1x1024 .f32

/-- The two halves of a row of 2048 lanes, -/
abbrev laneA : Rect S1x2048 := Rect.unit (s := S1x2048) ![0, 0] S1x1024.size inb_S1x2048_S1x1024_0_0
abbrev laneB : Rect S1x2048 := Rect.unit (s := S1x2048) ![0, 1024] S1x1024.size inb_S1x2048_S1x1024_0_1024
/-- and of a block of 256 such rows; -/
abbrev halfA : Rect S256x2048 := Rect.unit (s := S256x2048) ![0, 0] S256x1024.size inb_S256x2048_S256x1024_0_0
abbrev halfB : Rect S256x2048 := Rect.unit (s := S256x2048) ![0, 1024] S256x1024.size inb_S256x2048_S256x1024_0_1024
/-- the four pool groups' lanes of a block of 256 rows. -/
abbrev grp0 : Rect S256x1024 := Rect.unit (s := S256x1024) ![0, 0] S256x256.size inb_S256x1024_S256x256_0_0
abbrev grp1 : Rect S256x1024 := Rect.unit (s := S256x1024) ![0, 256] S256x256.size inb_S256x1024_S256x256_0_256
abbrev grp2 : Rect S256x1024 := Rect.unit (s := S256x1024) ![0, 512] S256x256.size inb_S256x1024_S256x256_0_512
abbrev grp3 : Rect S256x1024 := Rect.unit (s := S256x1024) ![0, 768] S256x256.size inb_S256x1024_S256x256_0_768
/-- The four groups' pool matrices in the array that holds them. -/
abbrev mat0 : Rect S4x256x256 := Rect.unit (s := S4x256x256) ![0, 0, 0] S1x256x256.size inb_S4x256x256_S1x256x256_0_0_0
abbrev mat1 : Rect S4x256x256 := Rect.unit (s := S4x256x256) ![1, 0, 0] S1x256x256.size inb_S4x256x256_S1x256x256_1_0_0
abbrev mat2 : Rect S4x256x256 := Rect.unit (s := S4x256x256) ![2, 0, 0] S1x256x256.size inb_S4x256x256_S1x256x256_2_0_0
abbrev mat3 : Rect S4x256x256 := Rect.unit (s := S4x256x256) ![3, 0, 0] S1x256x256.size inb_S4x256x256_S1x256x256_3_0_0

namespace Ins

variable (x : Ins F)

/-- The gradient at the mixed rows, and the two gates. -/
def dmg : Vec F S256x1024 .f32 := k0_pay8 x.dh x.wo
def sa : Vec F S256x1024 .f32 := k0_pay9 x.za (View.ld x.bg laneA)
def sb : Vec F S256x1024 .f32 := k0_pay10 x.zb (View.ld x.bg laneB)
/-- The gradients at the two branches' outputs, -/
def dyc : Vec F S256x1024 .bf16 := k0_pay11 x.dh x.wo x.za (View.ld x.bg laneA)
def dyp : Vec F S256x1024 .bf16 := k0_pay12 x.dh x.wo x.zb (View.ld x.bg laneB)
/-- at the gates' logits, -/
def dzg : Vec F S256x2048 .bf16 :=
  View.canon [⟨halfB, k0_pay16 x.dmg x.sb x.yp⟩, ⟨halfA, k0_pay15 x.dmg x.sa x.yc⟩]
/-- at the activation of the normalised convolution, and that activation's own slope, -/
def dca : Vec F S256x1024 .f32 := k0_pay19 x.dyc x.wco
def slope : Vec F S256x1024 .f32 := k0_pay23 x.cpre x.lng x.lnb
/-- at the convolution, -/
def dconv : Vec F S256x1024 .f32 := k0_pay27 x.dca (k0_pay21 x.cpre) (k0_pay22 x.cpre) x.slope x.lng
/-- at the pool's mix and at the pool's means. -/
def dmw : Vec F S256x1024 .bf16 := k0_pay32 x.dyp x.wpo x.ps
def dm : Vec F S256x1024 .f32 :=
  View.canon [⟨grp3, k0_pay2 x.dmw (View.ld x.wpool mat3)⟩, ⟨grp2, k0_pay1 x.dmw (View.ld x.wpool mat2)⟩,
    ⟨grp1, k0_pay34 x.dyp x.wpo x.ps (View.ld x.wpool mat1)⟩, ⟨grp0, k0_pay33 x.dyp x.wpo x.ps (View.ld x.wpool mat0)⟩]

/-- The sums after the point, from those before it. -/
def next (a : Accs F) : Accs F where
  bg := View.canon [⟨laneB, k0_pay18 x.dmg x.sb x.yp (View.ld a.bg laneB)⟩,
    ⟨laneA, k0_pay17 x.dmg x.sa x.yc (View.ld a.bg laneA)⟩]
  lng := k0_pay25 x.dca (k0_pay22 x.cpre) x.slope a.lng
  lnb := k0_pay26 x.dca x.slope a.lnb
  bdw := k0_pay29 x.dconv (k0_pay28 a.bdw)
  ps := k0_pay31 x.dyp x.wpo a.ps x.mw

end Ins

/-- The sums before the first point. -/
def Accs.start : Accs F := ⟨k0_pay3, k0_pay4, k0_pay5, k0_pay6, k0_pay7⟩

/-- A load of a whole block held at `X` reads `X`. -/
theorem readAt_block {Val : EltTy → Type} {κ : Kind} {sp : Space} {s : Shape} {e : EltTy} {arg : Memref sig κ sp s e}
    (h : arg.IsWhole) (X : s.Idx → Val e) (r : Rect s) :
    View.readAt Val arg.view r.toLoadRect (h.unread X) = View.ld X r := by
  rw [View.readAt_eq_ld, h.read_unread]

/-- A block held at the contents that read `X` is owned at `X`. -/
theorem owns_unread {κ : Kind} {sp : Space} {s : Shape} {e : EltTy} (c : Dev nD) {arg : Memref sig .tc sp s e}
    (h : arg.IsWhole) (X : s.Idx → Elt F e) :
    iprop(arg.view.loc (c : Thread nD τ) ↦[arg.view.set]{fullShare} h.unread X)
      ⊢ (owns (c : Thread nD τ) arg fullShare X : sProp 𝕄) := by
  unfold owns
  iintro H
  iexists _; isplitr
  · ipureintro; exact h.read_unread X
  iexact H

theorem cover_lane (u v : S1x1024.Idx → Elt F .f32) (y : S1x2048.Idx) :
    ∃ p ∈ ([⟨laneB, u⟩, ⟨laneA, v⟩] : List (View.Piece (Elt F) S1x2048 .f32)), y ∈ p.1.set :=
  View.cover_of_tiledL (s := S1x2048) _ S1x1024.size (by sl_kernel_rfl) y

/-- Both halves of a row stored over anything leave what the two stores hold. -/
theorem read_lanes {κ : Kind} {sp : Space} (v : View sig κ sp S1x2048 .f32) (f : v.ty.Contents (Elt F))
    (u w : S1x1024.Idx → Elt F .f32) (L : List (View.Piece (Elt F) S1x2048 .f32)) :
    v.read (Elt F) (v.writes (Elt F) f (⟨laneB, u⟩ :: ⟨laneA, w⟩ :: L)) = View.canon [⟨laneB, u⟩, ⟨laneA, w⟩] := by
  rw [show (⟨laneB, u⟩ :: ⟨laneA, w⟩ :: L : List (View.Piece (Elt F) S1x2048 .f32))
    = [⟨laneB, u⟩, ⟨laneA, w⟩] ++ L from rfl, View.writes_append]
  exact View.read_writes_eq_canon _ _ _ (cover_lane u w)

/-- A load of part of a row just filled reads the filling. -/
theorem readCov_init {κ : Kind} {sp : Space} (v : View sig κ sp S1x2048 .f32) (z : S1x2048.Idx → Elt F .f32) (r : Rect S1x2048) :
    v.readCov [⟨Rect.unit (s := S1x2048) ![0, 0] S1x2048.size inb_S1x2048_S1x2048_0_0, z⟩] r.toLoadRect = View.ld z r := by
  show View.ld (v.read (Elt F) (v.writes (Elt F) _ _)) r = _
  rw [View.read_writes_full]

/-- A load of the second half of a row sees nothing of a store into the first. -/
theorem readCov_other {κ : Kind} {sp : Space} (v : View sig κ sp S1x2048 .f32) (z : S1x2048.Idx → Elt F .f32)
    (u : S1x1024.Idx → Elt F .f32) :
    v.readCov [⟨laneA, u⟩, ⟨Rect.unit (s := S1x2048) ![0, 0] S1x2048.size inb_S1x2048_S1x2048_0_0, z⟩] laneB.toLoadRect
      = View.ld z laneB := by
  funext j
  show v.read (Elt F) (v.writes (Elt F) _ (⟨laneA, u⟩ :: _)) (laneB.emb j) = z (laneB.emb j)
  rw [View.read_writes_cons_miss_of_axis _ _ _ _ _ 1 0 1024 rfl rfl rfl
    (.inr (by rw [Rect.emb_apply]; show 0 + 1024 ≤ 1024 + 1 * (j 1).val; omega))]
  rw [View.read_writes_full]

theorem cover_half (u v : S256x1024.Idx → Elt F .bf16) (y : S256x2048.Idx) :
    ∃ p ∈ ([⟨halfB, u⟩, ⟨halfA, v⟩] : List (View.Piece (Elt F) S256x2048 .bf16)), y ∈ p.1.set :=
  View.cover_of_tiledL (s := S256x2048) _ S256x1024.size (by sl_kernel_rfl) y

theorem cover_grp (u v w z : S256x256.Idx → Elt F .f32) (y : S256x1024.Idx) :
    ∃ p ∈ ([⟨grp3, u⟩, ⟨grp2, v⟩, ⟨grp1, w⟩, ⟨grp0, z⟩] : List (View.Piece (Elt F) S256x1024 .f32)), y ∈ p.1.set :=
  View.cover_of_tiledL (s := S256x1024) _ S256x256.size (by sl_kernel_rfl) y

end Cert.Rows
-- ==== Proof.Rows.First.lean ====
module

public import proofs.«01_k».proof.Proof.Rows.Point

/-! # The run of the rows' backward body at the first point -/

@[expose] public section

set_option maxRecDepth 16384

noncomputable section

namespace Cert.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at the first point: the sums start from zero. -/
theorem run_first (c : Dev nD) (i : grid0.Coords) (arg1 : Memref sig .tc .vmem S256x1024 .bf16) (harg1 : arg1.IsWhole) (arg2 : Memref sig .tc .vmem S256x1024
    .f32) (harg2 : arg2.IsWhole) (arg3 : Memref sig .tc .vmem S256x1024 .f32) (harg3 : arg3.IsWhole) (arg4 : Memref
    sig .tc .vmem S256x1024 .f32) (harg4 : arg4.IsWhole) (arg5 : Memref sig .tc .vmem S256x1024 .f32) (harg5 :
    arg5.IsWhole) (arg6 : Memref sig .tc .vmem S1x2048 .f32) (harg6 : arg6.IsWhole) (arg7 : Memref sig .tc .vmem
    S256x1024 .f32) (harg7 : arg7.IsWhole) (arg8 : Memref sig .tc .vmem S1x1024 .f32) (harg8 : arg8.IsWhole) (arg9 :
    Memref sig .tc .vmem S1x1024 .f32) (harg9 : arg9.IsWhole) (arg10 : Memref sig .tc .vmem S256x1024 .f32) (harg10
    : arg10.IsWhole) (arg11 : Memref sig .tc .vmem S1x1024 .f32) (harg11 : arg11.IsWhole) (arg12 : Memref sig .tc
    .vmem S1024x1024 .bf16) (harg12 : arg12.IsWhole) (arg13 : Memref sig .tc .vmem S1024x1024 .bf16) (harg13 :
    arg13.IsWhole) (arg14 : Memref sig .tc .vmem S1024x1024 .bf16) (harg14 : arg14.IsWhole) (arg15 : Memref sig .tc
    .vmem S4x256x256 .bf16) (harg15 : arg15.IsWhole) (arg16 : Memref sig .tc .hbm S8x128 .f32) (harg16 :
    arg16.IsWhole) (arg17 : Memref sig .tc .vmem S256x1024 .bf16) (harg17 : arg17.IsWhole) (arg18 : Memref sig .tc
    .vmem S256x1024 .bf16) (harg18 : arg18.IsWhole) (arg19 : Memref sig .tc .vmem S256x2048 .bf16) (harg19 :
    arg19.IsWhole) (arg20 : Memref sig .tc .vmem S256x1024 .f32) (harg20 : arg20.IsWhole) (arg21 : Memref sig .tc
    .vmem S256x1024 .bf16) (harg21 : arg21.IsWhole) (arg22 : Memref sig .tc .vmem S256x1024 .f32) (harg22 :
    arg22.IsWhole) (arg23 : Memref sig .tc .vmem S1x2048 .f32) (harg23 : arg23.IsWhole) (arg24 : Memref sig .tc
    .vmem S1x1024 .f32) (harg24 : arg24.IsWhole) (arg25 : Memref sig .tc .vmem S1x1024 .f32) (harg25 :
    arg25.IsWhole) (arg26 : Memref sig .tc .vmem S1x1024 .f32) (harg26 : arg26.IsWhole) (arg27 : Memref sig .tc
    .vmem S1x1024 .f32) (harg27 : arg27.IsWhole)
    (hc0 : cond0_0 i) (x : Ins F) (E : Set ℕ) (K : PUnit → sProp 𝕄) :
    iprop(owns (c : Thread nD τ) arg1 fullShare x.dh ∗ owns (c : Thread nD τ) arg2 fullShare x.yc ∗ owns (c : Thread nD τ)
    arg3 fullShare x.yp ∗ owns (c : Thread nD τ) arg4 fullShare x.za ∗ owns (c : Thread nD τ) arg5 fullShare x.zb ∗
    owns (c : Thread nD τ) arg6 fullShare x.bg ∗ owns (c : Thread nD τ) arg7 fullShare x.cpre ∗ owns (c : Thread nD
    τ) arg8 fullShare x.lng ∗ owns (c : Thread nD τ) arg9 fullShare x.lnb ∗ owns (c : Thread nD τ) arg10 fullShare
    x.mw ∗ owns (c : Thread nD τ) arg11 fullShare x.ps ∗ owns (c : Thread nD τ) arg12 fullShare x.wo ∗ owns (c :
    Thread nD τ) arg13 fullShare x.wco ∗ owns (c : Thread nD τ) arg14 fullShare x.wpo ∗ owns (c : Thread nD τ) arg15
    fullShare x.wpool
      ∗ (∃ d, owns (c : Thread nD τ) arg17 fullShare d) ∗ (∃ d, owns (c : Thread nD τ) arg18 fullShare d) ∗ (∃ d, owns
    (c : Thread nD τ) arg19 fullShare d) ∗ (∃ d, owns (c : Thread nD τ) arg20 fullShare d) ∗ (∃ d, owns (c : Thread
    nD τ) arg21 fullShare d) ∗ (∃ d, owns (c : Thread nD τ) arg22 fullShare d) ∗ (∃ d, owns (c : Thread nD τ) arg23
    fullShare d) ∗ (∃ d, owns (c : Thread nD τ) arg24 fullShare d) ∗ (∃ d, owns (c : Thread nD τ) arg25 fullShare d)
    ∗ (∃ d, owns (c : Thread nD τ) arg26 fullShare d) ∗ (∃ d, owns (c : Thread nD τ) arg27 fullShare d)
      ∗ (iprop(owns (c : Thread nD τ) arg1 fullShare x.dh ∗ owns (c : Thread nD τ) arg2 fullShare x.yc ∗ owns (c : Thread nD τ)
    arg3 fullShare x.yp ∗ owns (c : Thread nD τ) arg4 fullShare x.za ∗ owns (c : Thread nD τ) arg5 fullShare x.zb ∗
    owns (c : Thread nD τ) arg6 fullShare x.bg ∗ owns (c : Thread nD τ) arg7 fullShare x.cpre ∗ owns (c : Thread nD
    τ) arg8 fullShare x.lng ∗ owns (c : Thread nD τ) arg9 fullShare x.lnb ∗ owns (c : Thread nD τ) arg10 fullShare
    x.mw ∗ owns (c : Thread nD τ) arg11 fullShare x.ps ∗ owns (c : Thread nD τ) arg12 fullShare x.wo ∗ owns (c :
    Thread nD τ) arg13 fullShare x.wco ∗ owns (c : Thread nD τ) arg14 fullShare x.wpo ∗ owns (c : Thread nD τ) arg15
    fullShare x.wpool
        ∗ owns (c : Thread nD τ) arg17 fullShare x.dyc ∗ owns (c : Thread nD τ) arg18 fullShare x.dyp ∗ owns (c : Thread
    nD τ) arg19 fullShare x.dzg ∗ owns (c : Thread nD τ) arg20 fullShare x.dconv ∗ owns (c : Thread nD τ) arg21
    fullShare x.dmw ∗ owns (c : Thread nD τ) arg22 fullShare x.dm ∗ owns (c : Thread nD τ) arg23 fullShare (x.next
    .start).bg ∗ owns (c : Thread nD τ) arg24 fullShare (x.next .start).lng ∗ owns (c : Thread nD τ) arg25 fullShare
    (x.next .start).lnb ∗ owns (c : Thread nD τ) arg26 fullShare (x.next .start).bdw ∗ owns (c : Thread nD τ) arg27
    fullShare (x.next .start).ps)
          -∗ K ⟨⟩))
    ⊢ wp frame (wpE (defs₀ (F := F)) Variants.none c none) E
        (cc0_mixers_bwd_rows i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27) K := by
  simp only [cc0_mixers_bwd_rows_eq_skeleton]; unfold cc0_mixers_bwd_rows_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%f7, %hf7, H7⟩, ⟨%f8, %hf8, H8⟩, ⟨%f9, %hf9, H9⟩, ⟨%f10, %hf10, H10⟩, ⟨%f11, %hf11, H11⟩, ⟨%f12,
    %hf12, H12⟩, ⟨%f13, %hf13, H13⟩, ⟨%f14, %hf14, H14⟩,
    ⟨%d15, %f15, %hf15, H15⟩, ⟨%d16, %f16, %hf16, H16⟩, ⟨%d17, %f17, %hf17, H17⟩, ⟨%d18, %f18, %hf18, H18⟩, ⟨%d19,
    %f19, %hf19, H19⟩, ⟨%d20, %f20, %hf20, H20⟩, ⟨%d21, %f21, %hf21, H21⟩, ⟨%d22, %f22, %hf22, H22⟩, ⟨%d23, %f23,
    %hf23, H23⟩, ⟨%d24, %f24, %hf24, H24⟩, ⟨%d25, %f25, %hf25, H25⟩, Hk⟩
  obtain rfl := harg1.eq_unread hf0; obtain rfl := harg2.eq_unread hf1; obtain rfl := harg3.eq_unread hf2; obtain
  rfl := harg4.eq_unread hf3; obtain rfl := harg5.eq_unread hf4; obtain rfl := harg6.eq_unread hf5; obtain rfl :=
  harg7.eq_unread hf6; obtain rfl := harg8.eq_unread hf7; obtain rfl := harg9.eq_unread hf8; obtain rfl :=
  harg10.eq_unread hf9; obtain rfl := harg11.eq_unread hf10; obtain rfl := harg12.eq_unread hf11; obtain rfl :=
  harg13.eq_unread hf12; obtain rfl := harg14.eq_unread hf13; obtain rfl := harg15.eq_unread hf14
  sl_exec (disch := first | sl_exact hc0)
  sl_step
  iapply Hk
  isplitl [H0]; · iexists _; isplitr; swap; (iexact H0); ipureintro; exact harg1.read_unread _
  isplitl [H1]; · iexists _; isplitr; swap; (iexact H1); ipureintro; exact harg2.read_unread _
  isplitl [H2]; · iexists _; isplitr; swap; (iexact H2); ipureintro; exact harg3.read_unread _
  isplitl [H3]; · iexists _; isplitr; swap; (iexact H3); ipureintro; exact harg4.read_unread _
  isplitl [H4]; · iexists _; isplitr; swap; (iexact H4); ipureintro; exact harg5.read_unread _
  isplitl [H5]; · iexists _; isplitr; swap; (iexact H5); ipureintro; exact harg6.read_unread _
  isplitl [H6]; · iexists _; isplitr; swap; (iexact H6); ipureintro; exact harg7.read_unread _
  isplitl [H7]; · iexists _; isplitr; swap; (iexact H7); ipureintro; exact harg8.read_unread _
  isplitl [H8]; · iexists _; isplitr; swap; (iexact H8); ipureintro; exact harg9.read_unread _
  isplitl [H9]; · iexists _; isplitr; swap; (iexact H9); ipureintro; exact harg10.read_unread _
  isplitl [H10]; · iexists _; isplitr; swap; (iexact H10); ipureintro; exact harg11.read_unread _
  isplitl [H11]; · iexists _; isplitr; swap; (iexact H11); ipureintro; exact harg12.read_unread _
  isplitl [H12]; · iexists _; isplitr; swap; (iexact H12); ipureintro; exact harg13.read_unread _
  isplitl [H13]; · iexists _; isplitr; swap; (iexact H13); ipureintro; exact harg14.read_unread _
  isplitl [H14]; · iexists _; isplitr; swap; (iexact H14); ipureintro; exact harg15.read_unread _
  isplitl [H15]
  · iexists _; isplitr
    swap; · iexact H15
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H16]
  · iexists _; isplitr
    swap; · iexact H16
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H17]
  · iexists _; isplitr
    swap; · iexact H17
    ipureintro
    refine (View.read_writes_eq_canon _ _ _ (cover_half _ _)).trans ?_; frame_open; simp (disch := decide) only [View.ld_unit_lit', View.readCov_unit_lit', View.readCov_cons_unit_lit', View.readAt_eq_ld,
      Memref.IsWhole.read_unread]; rfl
  isplitl [H18]
  · iexists _; isplitr
    swap; · iexact H18
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H19]
  · iexists _; isplitr
    swap; · iexact H19
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H20]
  · iexists _; isplitr
    swap; · iexact H20
    ipureintro
    refine (View.read_writes_eq_canon _ _ _ (cover_grp _ _ _ _)).trans ?_; frame_open; simp (disch := decide) only [View.ld_unit_lit', View.readCov_unit_lit', View.readCov_cons_unit_lit', View.readAt_eq_ld,
      Memref.IsWhole.read_unread]; rfl
  isplitl [H21]
  · iexists _; isplitr
    swap; · iexact H21
    ipureintro
    refine (read_lanes _ _ _ _ _).trans ?_; frame_open; rw [readCov_other, readCov_init]; simp (disch := decide) only [View.ld_unit_lit', View.readCov_unit_lit', View.readCov_cons_unit_lit', View.readAt_eq_ld,
      Memref.IsWhole.read_unread]; rfl
  isplitl [H22]
  · iexists _; isplitr
    swap; · iexact H22
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H23]
  · iexists _; isplitr
    swap; · iexact H23
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H24]
  · iexists _; isplitr
    swap; · iexact H24
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  iexists _; isplitr
  swap; · iexact H25
  ipureintro
  refine (View.read_writes_full _ _ _ _ _).trans ?_; frame_open; simp (disch := decide) only [View.ld_unit_lit', View.readCov_unit_lit', View.readCov_cons_unit_lit', View.readAt_eq_ld,
      Memref.IsWhole.read_unread]; rfl

end Cert.Rows
-- ==== Proof.Rows.Next.lean ====
module

public import proofs.«01_k».proof.Proof.Rows.First

/-! # The run of the rows' backward body at a later point -/

@[expose] public section

set_option maxRecDepth 16384

noncomputable section

namespace Cert.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at a later point, the sums before it being `a`. -/
theorem run_next (c : Dev nD) (i : grid0.Coords) (arg1 : Memref sig .tc .vmem S256x1024 .bf16) (harg1 : arg1.IsWhole) (arg2 : Memref sig .tc .vmem S256x1024
    .f32) (harg2 : arg2.IsWhole) (arg3 : Memref sig .tc .vmem S256x1024 .f32) (harg3 : arg3.IsWhole) (arg4 : Memref
    sig .tc .vmem S256x1024 .f32) (harg4 : arg4.IsWhole) (arg5 : Memref sig .tc .vmem S256x1024 .f32) (harg5 :
    arg5.IsWhole) (arg6 : Memref sig .tc .vmem S1x2048 .f32) (harg6 : arg6.IsWhole) (arg7 : Memref sig .tc .vmem
    S256x1024 .f32) (harg7 : arg7.IsWhole) (arg8 : Memref sig .tc .vmem S1x1024 .f32) (harg8 : arg8.IsWhole) (arg9 :
    Memref sig .tc .vmem S1x1024 .f32) (harg9 : arg9.IsWhole) (arg10 : Memref sig .tc .vmem S256x1024 .f32) (harg10
    : arg10.IsWhole) (arg11 : Memref sig .tc .vmem S1x1024 .f32) (harg11 : arg11.IsWhole) (arg12 : Memref sig .tc
    .vmem S1024x1024 .bf16) (harg12 : arg12.IsWhole) (arg13 : Memref sig .tc .vmem S1024x1024 .bf16) (harg13 :
    arg13.IsWhole) (arg14 : Memref sig .tc .vmem S1024x1024 .bf16) (harg14 : arg14.IsWhole) (arg15 : Memref sig .tc
    .vmem S4x256x256 .bf16) (harg15 : arg15.IsWhole) (arg16 : Memref sig .tc .hbm S8x128 .f32) (harg16 :
    arg16.IsWhole) (arg17 : Memref sig .tc .vmem S256x1024 .bf16) (harg17 : arg17.IsWhole) (arg18 : Memref sig .tc
    .vmem S256x1024 .bf16) (harg18 : arg18.IsWhole) (arg19 : Memref sig .tc .vmem S256x2048 .bf16) (harg19 :
    arg19.IsWhole) (arg20 : Memref sig .tc .vmem S256x1024 .f32) (harg20 : arg20.IsWhole) (arg21 : Memref sig .tc
    .vmem S256x1024 .bf16) (harg21 : arg21.IsWhole) (arg22 : Memref sig .tc .vmem S256x1024 .f32) (harg22 :
    arg22.IsWhole) (arg23 : Memref sig .tc .vmem S1x2048 .f32) (harg23 : arg23.IsWhole) (arg24 : Memref sig .tc
    .vmem S1x1024 .f32) (harg24 : arg24.IsWhole) (arg25 : Memref sig .tc .vmem S1x1024 .f32) (harg25 :
    arg25.IsWhole) (arg26 : Memref sig .tc .vmem S1x1024 .f32) (harg26 : arg26.IsWhole) (arg27 : Memref sig .tc
    .vmem S1x1024 .f32) (harg27 : arg27.IsWhole)
    (hc0 : ¬cond0_0 i) (x : Ins F) (a : Accs F) (E : Set ℕ) (K : PUnit → sProp 𝕄) :
    iprop(owns (c : Thread nD τ) arg1 fullShare x.dh ∗ owns (c : Thread nD τ) arg2 fullShare x.yc ∗ owns (c : Thread nD τ)
    arg3 fullShare x.yp ∗ owns (c : Thread nD τ) arg4 fullShare x.za ∗ owns (c : Thread nD τ) arg5 fullShare x.zb ∗
    owns (c : Thread nD τ) arg6 fullShare x.bg ∗ owns (c : Thread nD τ) arg7 fullShare x.cpre ∗ owns (c : Thread nD
    τ) arg8 fullShare x.lng ∗ owns (c : Thread nD τ) arg9 fullShare x.lnb ∗ owns (c : Thread nD τ) arg10 fullShare
    x.mw ∗ owns (c : Thread nD τ) arg11 fullShare x.ps ∗ owns (c : Thread nD τ) arg12 fullShare x.wo ∗ owns (c :
    Thread nD τ) arg13 fullShare x.wco ∗ owns (c : Thread nD τ) arg14 fullShare x.wpo ∗ owns (c : Thread nD τ) arg15
    fullShare x.wpool
      ∗ (∃ d, owns (c : Thread nD τ) arg17 fullShare d) ∗ (∃ d, owns (c : Thread nD τ) arg18 fullShare d) ∗ (∃ d, owns
    (c : Thread nD τ) arg19 fullShare d) ∗ (∃ d, owns (c : Thread nD τ) arg20 fullShare d) ∗ (∃ d, owns (c : Thread
    nD τ) arg21 fullShare d) ∗ (∃ d, owns (c : Thread nD τ) arg22 fullShare d) ∗ owns (c : Thread nD τ) arg23
    fullShare a.bg ∗ owns (c : Thread nD τ) arg24 fullShare a.lng ∗ owns (c : Thread nD τ) arg25 fullShare a.lnb ∗
    owns (c : Thread nD τ) arg26 fullShare a.bdw ∗ owns (c : Thread nD τ) arg27 fullShare a.ps
      ∗ (iprop(owns (c : Thread nD τ) arg1 fullShare x.dh ∗ owns (c : Thread nD τ) arg2 fullShare x.yc ∗ owns (c : Thread nD τ)
    arg3 fullShare x.yp ∗ owns (c : Thread nD τ) arg4 fullShare x.za ∗ owns (c : Thread nD τ) arg5 fullShare x.zb ∗
    owns (c : Thread nD τ) arg6 fullShare x.bg ∗ owns (c : Thread nD τ) arg7 fullShare x.cpre ∗ owns (c : Thread nD
    τ) arg8 fullShare x.lng ∗ owns (c : Thread nD τ) arg9 fullShare x.lnb ∗ owns (c : Thread nD τ) arg10 fullShare
    x.mw ∗ owns (c : Thread nD τ) arg11 fullShare x.ps ∗ owns (c : Thread nD τ) arg12 fullShare x.wo ∗ owns (c :
    Thread nD τ) arg13 fullShare x.wco ∗ owns (c : Thread nD τ) arg14 fullShare x.wpo ∗ owns (c : Thread nD τ) arg15
    fullShare x.wpool
        ∗ owns (c : Thread nD τ) arg17 fullShare x.dyc ∗ owns (c : Thread nD τ) arg18 fullShare x.dyp ∗ owns (c : Thread
    nD τ) arg19 fullShare x.dzg ∗ owns (c : Thread nD τ) arg20 fullShare x.dconv ∗ owns (c : Thread nD τ) arg21
    fullShare x.dmw ∗ owns (c : Thread nD τ) arg22 fullShare x.dm ∗ owns (c : Thread nD τ) arg23 fullShare (x.next
    a).bg ∗ owns (c : Thread nD τ) arg24 fullShare (x.next a).lng ∗ owns (c : Thread nD τ) arg25 fullShare (x.next
    a).lnb ∗ owns (c : Thread nD τ) arg26 fullShare (x.next a).bdw ∗ owns (c : Thread nD τ) arg27 fullShare (x.next
    a).ps)
          -∗ K ⟨⟩))
    ⊢ wp frame (wpE (defs₀ (F := F)) Variants.none c none) E
        (cc0_mixers_bwd_rows i arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19
    harg19 arg20 harg20 arg21 harg21 arg22 harg22 arg23 harg23 arg24 harg24 arg25 harg25 arg26 harg26 arg27 harg27) K := by
  simp only [cc0_mixers_bwd_rows_eq_skeleton]; unfold cc0_mixers_bwd_rows_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6,
    %hf6, H6⟩, ⟨%f7, %hf7, H7⟩, ⟨%f8, %hf8, H8⟩, ⟨%f9, %hf9, H9⟩, ⟨%f10, %hf10, H10⟩, ⟨%f11, %hf11, H11⟩, ⟨%f12,
    %hf12, H12⟩, ⟨%f13, %hf13, H13⟩, ⟨%f14, %hf14, H14⟩,
    ⟨%d15, %f15, %hf15, H15⟩, ⟨%d16, %f16, %hf16, H16⟩, ⟨%d17, %f17, %hf17, H17⟩, ⟨%d18, %f18, %hf18, H18⟩, ⟨%d19,
    %f19, %hf19, H19⟩, ⟨%d20, %f20, %hf20, H20⟩, ⟨%f21, %hf21, H21⟩, ⟨%f22, %hf22, H22⟩, ⟨%f23, %hf23, H23⟩, ⟨%f24,
    %hf24, H24⟩, ⟨%f25, %hf25, H25⟩, Hk⟩
  obtain rfl := harg1.eq_unread hf0; obtain rfl := harg2.eq_unread hf1; obtain rfl := harg3.eq_unread hf2; obtain
  rfl := harg4.eq_unread hf3; obtain rfl := harg5.eq_unread hf4; obtain rfl := harg6.eq_unread hf5; obtain rfl :=
  harg7.eq_unread hf6; obtain rfl := harg8.eq_unread hf7; obtain rfl := harg9.eq_unread hf8; obtain rfl :=
  harg10.eq_unread hf9; obtain rfl := harg11.eq_unread hf10; obtain rfl := harg12.eq_unread hf11; obtain rfl :=
  harg13.eq_unread hf12; obtain rfl := harg14.eq_unread hf13; obtain rfl := harg15.eq_unread hf14; obtain rfl :=
  harg23.eq_unread hf21; obtain rfl := harg24.eq_unread hf22; obtain rfl := harg25.eq_unread hf23; obtain rfl :=
  harg26.eq_unread hf24; obtain rfl := harg27.eq_unread hf25
  sl_exec (disch := first | sl_exact hc0)
  sl_step
  iapply Hk
  isplitl [H0]; · iexists _; isplitr; swap; (iexact H0); ipureintro; exact harg1.read_unread _
  isplitl [H1]; · iexists _; isplitr; swap; (iexact H1); ipureintro; exact harg2.read_unread _
  isplitl [H2]; · iexists _; isplitr; swap; (iexact H2); ipureintro; exact harg3.read_unread _
  isplitl [H3]; · iexists _; isplitr; swap; (iexact H3); ipureintro; exact harg4.read_unread _
  isplitl [H4]; · iexists _; isplitr; swap; (iexact H4); ipureintro; exact harg5.read_unread _
  isplitl [H5]; · iexists _; isplitr; swap; (iexact H5); ipureintro; exact harg6.read_unread _
  isplitl [H6]; · iexists _; isplitr; swap; (iexact H6); ipureintro; exact harg7.read_unread _
  isplitl [H7]; · iexists _; isplitr; swap; (iexact H7); ipureintro; exact harg8.read_unread _
  isplitl [H8]; · iexists _; isplitr; swap; (iexact H8); ipureintro; exact harg9.read_unread _
  isplitl [H9]; · iexists _; isplitr; swap; (iexact H9); ipureintro; exact harg10.read_unread _
  isplitl [H10]; · iexists _; isplitr; swap; (iexact H10); ipureintro; exact harg11.read_unread _
  isplitl [H11]; · iexists _; isplitr; swap; (iexact H11); ipureintro; exact harg12.read_unread _
  isplitl [H12]; · iexists _; isplitr; swap; (iexact H12); ipureintro; exact harg13.read_unread _
  isplitl [H13]; · iexists _; isplitr; swap; (iexact H13); ipureintro; exact harg14.read_unread _
  isplitl [H14]; · iexists _; isplitr; swap; (iexact H14); ipureintro; exact harg15.read_unread _
  isplitl [H15]
  · iexists _; isplitr
    swap; · iexact H15
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H16]
  · iexists _; isplitr
    swap; · iexact H16
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H17]
  · iexists _; isplitr
    swap; · iexact H17
    ipureintro
    refine (View.read_writes_eq_canon _ _ _ (cover_half _ _)).trans ?_; frame_open; simp (disch := decide) only [View.ld_unit_lit', View.readCov_unit_lit', View.readCov_cons_unit_lit', View.readAt_eq_ld,
      Memref.IsWhole.read_unread]; rfl
  isplitl [H18]
  · iexists _; isplitr
    swap; · iexact H18
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H19]
  · iexists _; isplitr
    swap; · iexact H19
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H20]
  · iexists _; isplitr
    swap; · iexact H20
    ipureintro
    refine (View.read_writes_eq_canon _ _ _ (cover_grp _ _ _ _)).trans ?_; frame_open; simp (disch := decide) only [View.ld_unit_lit', View.readCov_unit_lit', View.readCov_cons_unit_lit', View.readAt_eq_ld,
      Memref.IsWhole.read_unread]; rfl
  isplitl [H21]
  · iexists _; isplitr
    swap; · iexact H21
    ipureintro
    refine (View.read_writes_eq_canon _ _ _ (cover_lane _ _)).trans ?_; frame_open; simp (disch := decide) only [View.ld_unit_lit', View.readCov_unit_lit', View.readCov_cons_unit_lit', View.readAt_eq_ld,
      Memref.IsWhole.read_unread]; rfl
  isplitl [H22]
  · iexists _; isplitr
    swap; · iexact H22
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H23]
  · iexists _; isplitr
    swap; · iexact H23
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  isplitl [H24]
  · iexists _; isplitr
    swap; · iexact H24
    ipureintro
    refine (View.read_writes_full _ _ _ _ _).trans ?_; frame_open; simp (disch := decide) only [View.ld_unit_lit', View.readCov_unit_lit', View.readCov_cons_unit_lit', View.readAt_eq_ld,
      Memref.IsWhole.read_unread]; rfl
  iexists _; isplitr
  swap; · iexact H25
  ipureintro
  refine (View.read_writes_full _ _ _ _ _).trans ?_; frame_open; simp (disch := decide) only [View.ld_unit_lit', View.readCov_unit_lit', View.readCov_cons_unit_lit', View.readAt_eq_ld,
      Memref.IsWhole.read_unread]; rfl

end Cert.Rows
-- ==== Proof.Rows.Body.lean ====
module

public import proofs.«01_k».proof.Proof.Rows.Next

/-!
# The rows' body at every point

The contents of every staging buffer after each point, and the body's triple from the two runs of `First` and `Next`.
-/

@[expose] public section

set_option maxRecDepth 16384

noncomputable section

namespace Cert.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of point `t`. -/
def ins (c : Dev nD) (t : Fin cfg0.N) : Ins F where
  dh := iblk m c 0 t
  yc := iblk m c 1 t
  yp := iblk m c 2 t
  za := iblk m c 3 t
  zb := iblk m c 4 t
  bg := iblk m c 5 t
  cpre := iblk m c 6 t
  lng := iblk m c 7 t
  lnb := iblk m c 8 t
  mw := iblk m c 9 t
  ps := iblk m c 10 t
  wo := iblk m c 11 t
  wco := iblk m c 12 t
  wpo := iblk m c 13 t
  wpool := iblk m c 14 t

/-- The sums after point `n`. -/
def sums (c : Dev nD) : (n : ℕ) → n < cfg0.N → Accs F
  | 0, h => (ins m c ⟨0, h⟩).next .start
  | n + 1, h => (ins m c ⟨n + 1, h⟩).next (sums c n (Nat.lt_of_succ_lt h))

theorem sums_first (c : Dev nD) (t : Fin cfg0.N) (h : t.val % 17 = 0) :
    sums m c t.val t.isLt = (ins m c t).next .start := by
  have hN : t.val < 17 := lt_of_lt_of_eq t.isLt (show cfg0.N = 17 from N_0)
  obtain ⟨n, hn⟩ := t
  cases n with
  | zero => rfl
  | succ n => exact absurd h (by dsimp only at hN ⊢; omega)

theorem sums_next (c : Dev nD) (t : Fin cfg0.N) (h : ¬t.val % 17 = 0) :
    sums m c t.val t.isLt
      = (ins m c t).next (sums m c (t.val - 1) (Nat.lt_of_le_of_lt (Nat.sub_le _ _) t.isLt)) := by
  obtain ⟨n, hn⟩ := t
  cases n with
  | zero => exact absurd (Nat.zero_mod 17) h
  | succ n => rfl

/-- The contents the proof goes by: the arrays as the region finds them; after a point each input's buffer at its block,
    each result's at what the body stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (ins m c t).dyc
    | ⟨16, _⟩ => (ins m c t).dyp
    | ⟨17, _⟩ => (ins m c t).dzg
    | ⟨18, _⟩ => (ins m c t).dconv
    | ⟨19, _⟩ => (ins m c t).dmw
    | ⟨20, _⟩ => (ins m c t).dm
    | ⟨21, _⟩ => (sums m c t.val t.isLt).bg
    | ⟨22, _⟩ => (sums m c t.val t.isLt).lng
    | ⟨23, _⟩ => (sums m c t.val t.isLt).lnb
    | ⟨24, _⟩ => (sums m c t.val t.isLt).bdw
    | ⟨25, _⟩ => (sums m c t.val t.isLt).ps
    | ⟨_ + 26, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (ins m c t).dyc := by dsimp only [dats]
theorem after16 (c : Dev nD) (t : Fin cfg0.N) : (dats m 0 c).after 16 t = (ins m c t).dyp := by dsimp only [dats]
theorem after17 (c : Dev nD) (t : Fin cfg0.N) : (dats m 0 c).after 17 t = (ins m c t).dzg := by dsimp only [dats]
theorem after18 (c : Dev nD) (t : Fin cfg0.N) : (dats m 0 c).after 18 t = (ins m c t).dconv := by dsimp only [dats]
theorem after19 (c : Dev nD) (t : Fin cfg0.N) : (dats m 0 c).after 19 t = (ins m c t).dmw := by dsimp only [dats]
theorem after20 (c : Dev nD) (t : Fin cfg0.N) : (dats m 0 c).after 20 t = (ins m c t).dm := by dsimp only [dats]
theorem after21 (c : Dev nD) (t : Fin cfg0.N) : (dats m 0 c).after 21 t = (sums m c t.val t.isLt).bg := by dsimp only [dats]
theorem after22 (c : Dev nD) (t : Fin cfg0.N) : (dats m 0 c).after 22 t = (sums m c t.val t.isLt).lng := by dsimp only [dats]
theorem after23 (c : Dev nD) (t : Fin cfg0.N) : (dats m 0 c).after 23 t = (sums m c t.val t.isLt).lnb := by dsimp only [dats]
theorem after24 (c : Dev nD) (t : Fin cfg0.N) : (dats m 0 c).after 24 t = (sums m c t.val t.isLt).bdw := by dsimp only [dats]
theorem after25 (c : Dev nD) (t : Fin cfg0.N) : (dats m 0 c).after 25 t = (sums m c t.val t.isLt).ps := by dsimp only [dats]

/-- An input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- A sum's buffer holds, at a later point, what the point before left. -/
theorem before21 (c : Dev nD) (t : Fin cfg0.N) (h : ¬t.val % 17 = 0) (d) :
    (dats m 0 c).before 21 t d = (sums m c (t.val - 1) (Nat.lt_of_le_of_lt (Nat.sub_le _ _) t.isLt)).bg := by
  have hN : t.val < 17 := lt_of_lt_of_eq t.isLt (show cfg0.N = 17 from N_0)
  rw [Dat.before_out_kept _ 21 rfl t (by omega)
    (Bool.eq_false_iff.mpr fun h => by have := (flush0_21 _).mp h; dsimp only at this; omega) (fun _ => rfl) (fun _ _ => rfl)]
  dsimp only [dats]
theorem before22 (c : Dev nD) (t : Fin cfg0.N) (h : ¬t.val % 17 = 0) (d) :
    (dats m 0 c).before 22 t d = (sums m c (t.val - 1) (Nat.lt_of_le_of_lt (Nat.sub_le _ _) t.isLt)).lng := by
  have hN : t.val < 17 := lt_of_lt_of_eq t.isLt (show cfg0.N = 17 from N_0)
  rw [Dat.before_out_kept _ 22 rfl t (by omega)
    (Bool.eq_false_iff.mpr fun h => by have := (flush0_22 _).mp h; dsimp only at this; omega) (fun _ => rfl) (fun _ _ => rfl)]
  dsimp only [dats]
theorem before23 (c : Dev nD) (t : Fin cfg0.N) (h : ¬t.val % 17 = 0) (d) :
    (dats m 0 c).before 23 t d = (sums m c (t.val - 1) (Nat.lt_of_le_of_lt (Nat.sub_le _ _) t.isLt)).lnb := by
  have hN : t.val < 17 := lt_of_lt_of_eq t.isLt (show cfg0.N = 17 from N_0)
  rw [Dat.before_out_kept _ 23 rfl t (by omega)
    (Bool.eq_false_iff.mpr fun h => by have := (flush0_23 _).mp h; dsimp only at this; omega) (fun _ => rfl) (fun _ _ => rfl)]
  dsimp only [dats]
theorem before24 (c : Dev nD) (t : Fin cfg0.N) (h : ¬t.val % 17 = 0) (d) :
    (dats m 0 c).before 24 t d = (sums m c (t.val - 1) (Nat.lt_of_le_of_lt (Nat.sub_le _ _) t.isLt)).bdw := by
  have hN : t.val < 17 := lt_of_lt_of_eq t.isLt (show cfg0.N = 17 from N_0)
  rw [Dat.before_out_kept _ 24 rfl t (by omega)
    (Bool.eq_false_iff.mpr fun h => by have := (flush0_24 _).mp h; dsimp only at this; omega) (fun _ => rfl) (fun _ _ => rfl)]
  dsimp only [dats]
theorem before25 (c : Dev nD) (t : Fin cfg0.N) (h : ¬t.val % 17 = 0) (d) :
    (dats m 0 c).before 25 t d = (sums m c (t.val - 1) (Nat.lt_of_le_of_lt (Nat.sub_le _ _) t.isLt)).ps := by
  have hN : t.val < 17 := lt_of_lt_of_eq t.isLt (show cfg0.N = 17 from N_0)
  rw [Dat.before_out_kept _ 25 rfl t (by omega)
    (Bool.eq_false_iff.mpr fun h => by have := (flush0_25 _).mp h; dsimp only at this; omega) (fun _ => rfl) (fun _ _ => rfl)]
  dsimp only [dats]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ)
    (ms0_1 t) fullShare ((dats m 0 c).before 1 t d)) ∗ (∃ d, owns (c : Thread nD τ) (ms0_2 t) fullShare ((dats m 0
    c).before 2 t d)) ∗ (∃ d, owns (c : Thread nD τ) (ms0_3 t) fullShare ((dats m 0 c).before 3 t d)) ∗ (∃ d, owns
    (c : Thread nD τ) (ms0_4 t) fullShare ((dats m 0 c).before 4 t d)) ∗ (∃ d, owns (c : Thread nD τ) (ms0_5 t)
    fullShare ((dats m 0 c).before 5 t d)) ∗ (∃ d, owns (c : Thread nD τ) (ms0_6 t) fullShare ((dats m 0 c).before 6
    t d)) ∗ (∃ d, owns (c : Thread nD τ) (ms0_7 t) fullShare ((dats m 0 c).before 7 t d)) ∗ (∃ d, owns (c : Thread
    nD τ) (ms0_8 t) fullShare ((dats m 0 c).before 8 t d)) ∗ (∃ d, owns (c : Thread nD τ) (ms0_9 t) fullShare ((dats
    m 0 c).before 9 t d)) ∗ (∃ d, owns (c : Thread nD τ) (ms0_10 t) fullShare ((dats m 0 c).before 10 t d)) ∗ (∃ d,
    owns (c : Thread nD τ) (ms0_11 t) fullShare ((dats m 0 c).before 11 t d)) ∗ (∃ d, owns (c : Thread nD τ) (ms0_12
    t) fullShare ((dats m 0 c).before 12 t d)) ∗ (∃ d, owns (c : Thread nD τ) (ms0_13 t) fullShare ((dats m 0
    c).before 13 t d)) ∗ (∃ d, owns (c : Thread nD τ) (ms0_14 t) fullShare ((dats m 0 c).before 14 t d)) ∗ (∃ d,
    owns (c : Thread nD τ) (ms0_15 t) fullShare ((dats m 0 c).before 15 t d)) ∗ (∃ d, owns (c : Thread nD τ) (ms0_16
    t) fullShare ((dats m 0 c).before 16 t d)) ∗ (∃ d, owns (c : Thread nD τ) (ms0_17 t) fullShare ((dats m 0
    c).before 17 t d)) ∗ (∃ d, owns (c : Thread nD τ) (ms0_18 t) fullShare ((dats m 0 c).before 18 t d)) ∗ (∃ d,
    owns (c : Thread nD τ) (ms0_19 t) fullShare ((dats m 0 c).before 19 t d)) ∗ (∃ d, owns (c : Thread nD τ) (ms0_20
    t) fullShare ((dats m 0 c).before 20 t d)) ∗ (∃ d, owns (c : Thread nD τ) (ms0_21 t) fullShare ((dats m 0
    c).before 21 t d)) ∗ (∃ d, owns (c : Thread nD τ) (ms0_22 t) fullShare ((dats m 0 c).before 22 t d)) ∗ (∃ d,
    owns (c : Thread nD τ) (ms0_23 t) fullShare ((dats m 0 c).before 23 t d)) ∗ (∃ d, owns (c : Thread nD τ) (ms0_24
    t) fullShare ((dats m 0 c).before 24 t d)) ∗ (∃ d, owns (c : Thread nD τ) (ms0_25 t) fullShare ((dats m 0
    c).before 25 t d)))

def bodyPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare
    ((dats m 0 c).after 1 t) ∗ owns (c : Thread nD τ) (ms0_2 t) fullShare ((dats m 0 c).after 2 t) ∗ owns (c :
    Thread nD τ) (ms0_3 t) fullShare ((dats m 0 c).after 3 t) ∗ owns (c : Thread nD τ) (ms0_4 t) fullShare ((dats m
    0 c).after 4 t) ∗ owns (c : Thread nD τ) (ms0_5 t) fullShare ((dats m 0 c).after 5 t) ∗ owns (c : Thread nD τ)
    (ms0_6 t) fullShare ((dats m 0 c).after 6 t) ∗ owns (c : Thread nD τ) (ms0_7 t) fullShare ((dats m 0 c).after 7
    t) ∗ owns (c : Thread nD τ) (ms0_8 t) fullShare ((dats m 0 c).after 8 t) ∗ owns (c : Thread nD τ) (ms0_9 t)
    fullShare ((dats m 0 c).after 9 t) ∗ owns (c : Thread nD τ) (ms0_10 t) fullShare ((dats m 0 c).after 10 t) ∗
    owns (c : Thread nD τ) (ms0_11 t) fullShare ((dats m 0 c).after 11 t) ∗ owns (c : Thread nD τ) (ms0_12 t)
    fullShare ((dats m 0 c).after 12 t) ∗ owns (c : Thread nD τ) (ms0_13 t) fullShare ((dats m 0 c).after 13 t) ∗
    owns (c : Thread nD τ) (ms0_14 t) fullShare ((dats m 0 c).after 14 t) ∗ owns (c : Thread nD τ) (ms0_15 t)
    fullShare ((dats m 0 c).after 15 t) ∗ owns (c : Thread nD τ) (ms0_16 t) fullShare ((dats m 0 c).after 16 t) ∗
    owns (c : Thread nD τ) (ms0_17 t) fullShare ((dats m 0 c).after 17 t) ∗ owns (c : Thread nD τ) (ms0_18 t)
    fullShare ((dats m 0 c).after 18 t) ∗ owns (c : Thread nD τ) (ms0_19 t) fullShare ((dats m 0 c).after 19 t) ∗
    owns (c : Thread nD τ) (ms0_20 t) fullShare ((dats m 0 c).after 20 t) ∗ owns (c : Thread nD τ) (ms0_21 t)
    fullShare ((dats m 0 c).after 21 t) ∗ owns (c : Thread nD τ) (ms0_22 t) fullShare ((dats m 0 c).after 22 t) ∗
    owns (c : Thread nD τ) (ms0_23 t) fullShare ((dats m 0 c).after 23 t) ∗ owns (c : Thread nD τ) (ms0_24 t)
    fullShare ((dats m 0 c).after 24 t) ∗ owns (c : Thread nD τ) (ms0_25 t) fullShare ((dats m 0 c).after 25 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11,
    before12, before13, before14]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12,
    after13, after14, after15, after16, after17, after18, after19, after20, after21, after22, after23, after24,
    after25]
  by_cases h0 : t.val % 17 = 0
  · rw [sums_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18,
      H18⟩, ⟨%d19, H19⟩, ⟨%d20, H20⟩, ⟨%d21, H21⟩, ⟨%d22, H22⟩, ⟨%d23, H23⟩, ⟨%d24, H24⟩, ⟨%d25, H25⟩⟩
    iapply (run_first c (grid0.coords t) _ _ _ _ _ _ _ _ _ _ _ _ _ _ _ _ _ _ _ _ _ _ _ _ _ _ _ _ _ _ _ _ _ _ _ _ _ _ _ _ _ _ _ _ _ _ _ _ _ _ _ _ _ _
      ((hcond0_0 t).mpr h0) (ins m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    iintro ⟨H0, H1, H2, H3, H4, H5, H6, H7, H8, H9, H10, H11, H12, H13, H14, H15, H16, H17, H18, H19, H20, H21, H22, H23,
      H24, H25⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  · rw [sums_next m c t h0]
    simp only [before21 m c t h0, before22 m c t h0, before23 m c t h0, before24 m c t h0, before25 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
      ⟨%d10, H10⟩, ⟨%d11, H11⟩, ⟨%d12, H12⟩, ⟨%d13, H13⟩, ⟨%d14, H14⟩, ⟨%d15, H15⟩, ⟨%d16, H16⟩, ⟨%d17, H17⟩, ⟨%d18,
      H18⟩, ⟨%d19, H19⟩, ⟨%d20, H20⟩, ⟨%d21, H21⟩, ⟨%d22, H22⟩, ⟨%d23, H23⟩, ⟨%d24, H24⟩, ⟨%d25, H25⟩⟩
    iapply (run_next c (grid0.coords t) _ _ _ _ _ _ _ _ _ _ _ _ _ _ _ _ _ _ _ _ _ _ _ _ _ _ _ _ _ _ _ _ _ _ _ _ _ _ _ _ _ _ _ _ _ _ _ _ _ _ _ _ _ _
      (fun h => h0 ((hcond0_0 t).mp h)) (ins m c t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexact H21
    isplitl [H22]; · iexact H22
    isplitl [H23]; · iexact H23
    isplitl [H24]; · iexact H24
    isplitl [H25]; · iexact H25
    iintro ⟨H0, H1, H2, H3, H4, H5, H6, H7, H8, H9, H10, H11, H12, H13, H14, H15, H16, H17, H18, H19, H20, H21, H22, H23,
      H24, H25⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25

end Cert.Rows
-- ==== Proof.Rows.Run.lean ====
module

public import proofs.«01_k».proof.Proof.Rows.Body

/-!
# The run of the rows' backward program

The body's obligation and the run of the whole program: it terminates, its arrays hold what the points write back, the arguments are unchanged
and no counter is left raised.
-/

@[expose] public section

set_option maxRecDepth 16384

noncomputable section

namespace Cert.Rows

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every final state holds the arrays the points wrote and no counter raised. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_arrays : θ_run defs (onTc (τ := τ) (main (F := F))) (s₀ m ρ)
    (Pipeline.FramePost cfgs (dats m) 0 (V m)) :=
  (θ_run defs _ _).mono (fun _ h => h.1) (run_quiescent m ρ)

/-- The frame of the program at any values: the arguments unchanged, no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_arrays m ρ)) ((θ_run defs _ _).mono (fun _ h => h.2) (run_quiescent m ρ))

end Cert.Rows
-- ==== Proof.Rows.Spec.lean ====
/-
  The gradients of the two mixers' gated sum, row by row, as formulas over the thirteen arguments: what both programs of
  `kernel` and `reference` are shown to compute. A row with a real cotangent, real weights and a real convolution output
  has real gradients of the layer norm, written as reals; everything else stays in the extended reals.
-/
module

public import proofs.«01_k».proof.Proof.Step.Scalars

@[expose] public section

noncomputable section

namespace Cert.Rows

open Idealize.ShloMosaic Cert.Scalars

/-- The arguments, as functions of their coordinates. -/
structure Args where
  zg : Fin 4112 → Fin 2048 → EReal
  conv : Fin 4112 → Fin 1024 → EReal
  m : Fin 4112 → Fin 1024 → EReal
  bg : Fin 2048 → EReal
  bdw : Fin 1024 → EReal
  lng : Fin 1024 → EReal
  lnb : Fin 1024 → EReal
  ps : Fin 1024 → EReal
  wco : Fin 1024 → Fin 1024 → EReal
  wpool : Fin 4 → Fin 256 → Fin 256 → EReal
  wpo : Fin 1024 → Fin 1024 → EReal
  wo : Fin 1024 → Fin 1024 → EReal
  ct : Fin 4112 → Fin 1024 → EReal

/-- Rows behind 240 rows of zeros. -/
def padded {n : Nat} (f : Fin 4112 → Fin n → EReal) (r : Fin 4352) (c : Fin n) : EReal :=
  if h : r.val < 240 then 0 else f ⟨r.val - 240, by omega⟩ c

/-- The sum of a column over the rows. -/
def total {n : Nat} (f : Fin 4112 → Fin n → EReal) (c : Fin n) : EReal := ∑ i, f i c

/-- The arguments that must be finite: their values are reals. -/
structure Args.Finite (a : Args) : Prop where
  conv : ∀ i j, ∃ r : ℝ, a.conv i j = r
  bdw : ∀ j, ∃ r : ℝ, a.bdw j = r
  lng : ∀ j, ∃ r : ℝ, a.lng j = r
  wco : ∀ k j, ∃ r : ℝ, a.wco k j = r
  wo : ∀ k j, ∃ r : ℝ, a.wo k j = r
  ct : ∀ i j, ∃ r : ℝ, a.ct i j = r

/-- Column `256 g + c`. -/
def col (g : Fin 4) (c : Fin 256) : Fin 1024 := ⟨g.val * 256 + c.val, by omega⟩

/-- The group of a column and its place in the group. -/
def grp (j : Fin 1024) : Fin 4 := ⟨j.val / 256, by omega⟩
def off (j : Fin 1024) : Fin 256 := ⟨j.val % 256, by omega⟩

/-- The left and the right half of the gate's columns. -/
def lo (j : Fin 1024) : Fin 2048 := ⟨j.val, by omega⟩
def hi (j : Fin 1024) : Fin 2048 := ⟨j.val + 1024, by omega⟩

namespace Args

variable (a : Args) (i : Fin 4112) (j : Fin 1024)

/-! The forward lines. -/

def gate (c : Fin 2048) : ℝ := sgr (a.zg i c + a.bg c)
def cpre : EReal := a.conv i j + a.bdw j
/-- The convolution output of a row, as reals. -/
def row : Fin 1024 → ℝ := fun k => (a.cpre i k).toReal
def rawLn : EReal :=
  (a.cpre i j - Ideal.div (∑ k, a.cpre i k) (Ideal.ofBits .f32 1149239296#32))
    * Ideal.rsqrt (Ideal.div (∑ l, (a.cpre i l - Ideal.div (∑ k, a.cpre i k) (Ideal.ofBits .f32 1149239296#32))
        * (a.cpre i l - Ideal.div (∑ k, a.cpre i k) (Ideal.ofBits .f32 1149239296#32))) (Ideal.ofBits .f32 1149239296#32)
      + Ideal.ofBits .f32 925353388#32) * a.lng j + a.lnb j
def ln : EReal := ((xhat (a.row i) j : ℝ) : EReal) * a.lng j + a.lnb j
def yc : EReal := ∑ k, a.ln i k * ((sgr (a.ln i k) : ℝ) : EReal) * a.wco k j
def mw : EReal := ∑ c, a.wpool (grp j) c (off j) * a.m i (col (grp j) c)
def yp : EReal := ∑ k, a.mw i k * a.ps k * a.wpo k j

/-! The gradients. -/

def dmg : EReal := ∑ k, a.ct i k * a.wo j k
def dyc : EReal := ((a.gate i (lo j) : ℝ) : EReal) * a.dmg i j
def dyp : EReal := ((a.gate i (hi j) : ℝ) : EReal) * a.dmg i j
def slope (c : Fin 2048) : EReal := ((a.gate i c : ℝ) : EReal) * (1 - ((a.gate i c : ℝ) : EReal))
def dza : EReal := a.dmg i j * a.yc i j * a.slope i (lo j)
def dzb : EReal := a.dmg i j * a.yp i j * a.slope i (hi j)
def dm2 : EReal := ∑ k, a.dyp i k * a.wpo j k
def dmw : EReal := a.dm2 i j * a.ps j
def dm : EReal := ∑ d, a.dmw i (col (grp j) d) * a.wpool (grp j) (off j) d
def dca : EReal := ∑ k, a.dyc i k * a.wco j k
/-- The cotangent of the layer norm's output. -/
def dln : ℝ := dsilu (a.ln i j) (a.dca i j).toReal
/-- The cotangent of the normalised row. -/
def dxh : ℝ := a.dln i j * (a.lng j).toReal
/-- The cotangent of the convolution output. -/
def dconv : ℝ := dnorm (a.row i) (a.dxh i) j

/-! The gate's two halves side by side. -/

def dzg (c : Fin 2048) : EReal :=
  if h : c.val < 1024 then a.dza i ⟨c.val, h⟩ else a.dzb i ⟨c.val - 1024, by omega⟩

section
variable {a} (h : a.Finite)
include h

theorem real_cpre : a.cpre i j = ((a.row i j : ℝ) : EReal) := by
  obtain ⟨x, hx⟩ := h.conv i j
  obtain ⟨y, hy⟩ := h.bdw j
  unfold row cpre
  rw [hx, hy, ← EReal.coe_add, EReal.toReal_coe]

/-- The layer norm's output spelled with the quotients and the root. -/
theorem rawLn_eq : a.rawLn i j = a.ln i j := by
  unfold rawLn ln xhat
  simp only [real_cpre _ _ h]
  rw [sum_coe, lit_width, div_real _ (by norm_num)]
  simp only [← EReal.coe_sub, ← EReal.coe_mul]
  rw [sum_coe, div_real _ (by norm_num), lit_ln_eps.1, ← EReal.coe_add]
  erw [rsqrt_real (spread_pos (a.row i))]
  rw [← EReal.coe_mul]; rfl

theorem real_lng : a.lng j = (((a.lng j).toReal : ℝ) : EReal) := by
  obtain ⟨x, hx⟩ := h.lng j
  rw [hx, EReal.toReal_coe]

theorem real_dxh : ((a.dln i j : ℝ) : EReal) * a.lng j = ((a.dxh i j : ℝ) : EReal) := by
  rw [real_lng _ h, ← EReal.coe_mul]; rfl

theorem real_dmg : ∃ r : ℝ, a.dmg i j = r := by
  choose x hx using h.ct
  choose y hy using h.wo
  refine ⟨∑ k, x i k * y j k, ?_⟩
  unfold dmg
  rw [← sum_coe]
  exact Finset.sum_congr rfl fun k _ => by rw [hx, hy, EReal.coe_mul]

theorem real_dca : a.dca i j = (((a.dca i j).toReal : ℝ) : EReal) := by
  choose x hx using fun k => real_dmg (a := a) i k h
  choose y hy using h.wco
  have : a.dca i j = ((∑ k, a.gate i (lo k) * x k * y j k : ℝ) : EReal) := by
    unfold dca dyc
    rw [← sum_coe]
    exact Finset.sum_congr rfl fun k _ => by rw [hx, hy, EReal.coe_mul, EReal.coe_mul]
  rw [this, EReal.toReal_coe]

end

end Args

end Cert.Rows

end
-- ==== Proof.Rows.Entry.lean ====
module

public import proofs.«01_k».proof.Proof.Rows.Spec
public import proofs.«01_k».proof.Proof.Gen.KernelIdeal.Frame.Runs
public import Idealize.ShloMosaic.Lib.Pointwise
public import Idealize.ShloMosaic.Lib.Pipeline.ValueKit
public import Idealize.ShloMosaic.Lib.Claim
public import Idealize.ShloMosaic.Lib.StableHlo.ReadAt
public import Idealize.ShloMosaic.Lib.Tactic.CleanTypes

/-!
# What the rows' program is handed

Each block of each input at an index, as the formula of `Cert.Rows.Args` the host lines put there.
-/

@[expose] public section

set_option maxRecDepth 16384

noncomputable section

namespace Cert.Rows

open Cert.KernelIdeal Cert.KernelIdeal.Gen Cert.Scalars
open Idealize.ShloMosaic Idealize.ShloMosaic.TcCoe Idealize.SL.Sem Idealize.ShloMosaic.StableHlo

variable (m : (ℓ : Loc nD τ sig) → Buf (Elt Ideal) ℓ) (c : Dev nD) (t : Fin cfg0.N) (q : Fin 256) (j : Fin 1024)

/-- The arguments the program is launched with. -/
def args : Args where
  zg i k := m ((c : Thread nD τ).loc main_arg0) (ix3 0 i k)
  conv i j := m ((c : Thread nD τ).loc main_arg1) (ix3 0 i j)
  m i j := m ((c : Thread nD τ).loc main_arg2) (ix3 0 i j)
  bg k := m ((c : Thread nD τ).loc main_arg3) (ix2 0 k)
  bdw j := m ((c : Thread nD τ).loc main_arg4) (ix2 0 j)
  lng j := m ((c : Thread nD τ).loc main_arg5) (ix2 0 j)
  lnb j := m ((c : Thread nD τ).loc main_arg6) (ix2 0 j)
  ps j := m ((c : Thread nD τ).loc main_arg7) (ix2 0 j)
  wco k j := m ((c : Thread nD τ).loc main_arg8) (ix3 0 k j)
  wpool g k d := m ((c : Thread nD τ).loc main_arg9) (ix4 0 g k d)
  wpo k j := m ((c : Thread nD τ).loc main_arg10) (ix3 0 k j)
  wo k j := m ((c : Thread nD τ).loc main_arg11) (ix3 0 k j)
  ct i j := m ((c : Thread nD τ).loc main_arg12) (ix3 0 i j)

/-- The array's row that is row `q` of the blocks of point `t`. -/
def at_ (t : Fin cfg0.N) (q : Fin 256) : Fin 4352 :=
  ⟨256 * t.val + q.val, by have := lt_of_lt_of_eq t.isLt (show cfg0.N = 17 from N_0); omega⟩

theorem idx_dh : ∀ t : Fin cfg0.N, win0_0.index t 0 = t.val ∧ win0_0.index t 1 = 0 := by decide +kernel
theorem idx_yc : ∀ t : Fin cfg0.N, win0_1.index t 0 = t.val ∧ win0_1.index t 1 = 0 := by decide +kernel
theorem idx_yp : ∀ t : Fin cfg0.N, win0_2.index t 0 = t.val ∧ win0_2.index t 1 = 0 := by decide +kernel
theorem idx_za : ∀ t : Fin cfg0.N, win0_3.index t 0 = t.val ∧ win0_3.index t 1 = 3 := by decide +kernel
theorem idx_zb : ∀ t : Fin cfg0.N, win0_4.index t 0 = t.val ∧ win0_4.index t 1 = 4 := by decide +kernel
theorem idx_bg : ∀ t : Fin cfg0.N, win0_5.index t 0 = 0 ∧ win0_5.index t 1 = 0 := by decide +kernel
theorem idx_cpre : ∀ t : Fin cfg0.N, win0_6.index t 0 = t.val ∧ win0_6.index t 1 = 0 := by decide +kernel
theorem idx_lng : ∀ t : Fin cfg0.N, win0_7.index t 0 = 0 ∧ win0_7.index t 1 = 0 := by decide +kernel
theorem idx_lnb : ∀ t : Fin cfg0.N, win0_8.index t 0 = 0 ∧ win0_8.index t 1 = 0 := by decide +kernel
theorem idx_mw : ∀ t : Fin cfg0.N, win0_9.index t 0 = t.val ∧ win0_9.index t 1 = 0 := by decide +kernel
theorem idx_ps : ∀ t : Fin cfg0.N, win0_10.index t 0 = 0 ∧ win0_10.index t 1 = 0 := by decide +kernel
theorem idx_wo : ∀ t : Fin cfg0.N, win0_11.index t 0 = 0 ∧ win0_11.index t 1 = 0 := by decide +kernel
theorem idx_wco : ∀ t : Fin cfg0.N, win0_12.index t 0 = 0 ∧ win0_12.index t 1 = 0 := by decide +kernel
theorem idx_wpo : ∀ t : Fin cfg0.N, win0_13.index t 0 = 0 ∧ win0_13.index t 1 = 0 := by decide +kernel
theorem idx_wpool : ∀ t : Fin cfg0.N, win0_14.index t 0 = 0 ∧ win0_14.index t 1 = 0 ∧ win0_14.index t 2 = 0 := by decide +kernel

theorem host_dh (r : Fin 4352) : V m c main_v50 (ix2 r j) = padded (args m c).ct r j := by
  unfold V; after_reads_at
  unfold padded
  split
  · after_reads_at
  · after_reads_at; rfl

theorem host_yc (h : (args m c).Finite) (r : Fin 4352) : V m c main_v53 (ix2 r j) = padded (args m c).yc r j := by
  unfold V; after_reads_at
  unfold padded
  split
  · rfl
  refine Finset.sum_congr rfl fun k _ => ?_
  change (args m c).rawLn _ k * Ideal.div 1 (1 + Ideal.exp (-(args m c).rawLn _ k)) * (args m c).wco k j = _
  rw [Args.rawLn_eq _ _ h]
  exact congrArg (· * _) (congrArg (_ * ·) (sig_eq _))

theorem host_yp (r : Fin 4352) : V m c main_v56 (ix2 r j) = padded (args m c).yp r j := by
  unfold V; after_reads_at
  rfl

theorem host_za (r : Fin 4352) : V m c main_v46 (ix2 r ⟨3072 + j.val, by omega⟩) = padded (args m c).zg r (lo j) := by
  unfold V; after_reads_at
  unfold padded
  split
  · after_reads_at
  · after_reads_at; rfl

theorem host_zb (r : Fin 4352) : V m c main_v46 (ix2 r ⟨4096 + j.val, by omega⟩) = padded (args m c).zg r (hi j) := by
  unfold V; after_reads_at
  rw [dif_neg (by omega)]
  unfold padded
  split
  · after_reads_at
  · after_reads_at
    exact congrArg (fun z : Fin 2048 => (args m c).zg _ z) (Fin.ext (by simp only [hi]; omega))

theorem host_cpre (r : Fin 4352) : V m c main_v59 (ix2 r j) = padded (args m c).cpre r j := by
  unfold V; after_reads_at
  rfl

theorem host_mw (r : Fin 4352) : V m c main_v62 (ix2 r j) = padded (args m c).mw r j := by
  unfold V; after_reads_at
  rfl

theorem host_wo (k : Fin 1024) : V m c main_v64 (ix2 k j) = (args m c).wo k j := by
  unfold V; after_reads_at
  rfl

theorem host_wco (k : Fin 1024) : V m c main_v66 (ix2 k j) = (args m c).wco k j := by
  unfold V; after_reads_at
  rfl

theorem host_wpo (k : Fin 1024) : V m c main_v68 (ix2 k j) = (args m c).wpo k j := by
  unfold V; after_reads_at
  rfl

theorem host_wpool (g : Fin 4) (k d : Fin 256) : V m c main_v70 (ix3 g k d) = (args m c).wpool g k d := by
  unfold V; after_reads_at
  rfl

theorem blk_dh : iblk m c 0 t (ix2 q j) = padded (args m c).ct (at_ t q) j := by
  rw [← host_dh]; blk_ext [iblk, at_, idx_dh t]
theorem blk_yc (h : (args m c).Finite) : iblk m c 1 t (ix2 q j) = padded (args m c).yc (at_ t q) j := by
  rw [← host_yc _ _ _ h]; blk_ext [iblk, at_, idx_yc t]
theorem blk_yp : iblk m c 2 t (ix2 q j) = padded (args m c).yp (at_ t q) j := by
  rw [← host_yp]; blk_ext [iblk, at_, idx_yp t]
theorem blk_za : iblk m c 3 t (ix2 q j) = padded (args m c).zg (at_ t q) (lo j) := by
  rw [← host_za]; blk_ext [iblk, at_, idx_za t]
theorem blk_zb : iblk m c 4 t (ix2 q j) = padded (args m c).zg (at_ t q) (hi j) := by
  rw [← host_zb]; blk_ext [iblk, at_, idx_zb t]
theorem blk_bg (k : Fin 2048) : iblk m c 5 t (ix2 0 k) = (args m c).bg k := by
  have e : (args m c).bg k = V m c main_arg3 (ix2 0 k) := by rw [V_main_arg3]; rfl
  rw [e]; blk_ext [iblk, idx_bg t]
theorem blk_cpre : iblk m c 6 t (ix2 q j) = padded (args m c).cpre (at_ t q) j := by
  rw [← host_cpre]; blk_ext [iblk, at_, idx_cpre t]
theorem blk_lng (k : Fin 1024) : iblk m c 7 t (ix2 0 k) = (args m c).lng k := by
  have e : (args m c).lng k = V m c main_arg5 (ix2 0 k) := by rw [V_main_arg5]; rfl
  rw [e]; blk_ext [iblk, idx_lng t]
theorem blk_lnb (k : Fin 1024) : iblk m c 8 t (ix2 0 k) = (args m c).lnb k := by
  have e : (args m c).lnb k = V m c main_arg6 (ix2 0 k) := by rw [V_main_arg6]; rfl
  rw [e]; blk_ext [iblk, idx_lnb t]
theorem blk_mw : iblk m c 9 t (ix2 q j) = padded (args m c).mw (at_ t q) j := by
  rw [← host_mw]; blk_ext [iblk, at_, idx_mw t]
theorem blk_ps (k : Fin 1024) : iblk m c 10 t (ix2 0 k) = (args m c).ps k := by
  have e : (args m c).ps k = V m c main_arg7 (ix2 0 k) := by rw [V_main_arg7]; rfl
  rw [e]; blk_ext [iblk, idx_ps t]
theorem blk_wo (k : Fin 1024) : iblk m c 11 t (ix2 k j) = (args m c).wo k j := by
  rw [← host_wo]; blk_ext [iblk, idx_wo t]
theorem blk_wco (k : Fin 1024) : iblk m c 12 t (ix2 k j) = (args m c).wco k j := by
  rw [← host_wco]; blk_ext [iblk, idx_wco t]
theorem blk_wpo (k : Fin 1024) : iblk m c 13 t (ix2 k j) = (args m c).wpo k j := by
  rw [← host_wpo]; blk_ext [iblk, idx_wpo t]
theorem blk_wpool (g : Fin 4) (k d : Fin 256) : iblk m c 14 t (ix3 g k d) = (args m c).wpool g k d := by
  rw [← host_wpool]; blk_ext [iblk, idx_wpool t]

end Cert.Rows

end
-- ==== Proof.Step.Reduce.lean ====
/-
  Indices of matrices, and the sums that leave one axis and run over axes of length 1.
-/
module

public import Idealize.ShloMosaic.Lib.Pointwise
public import Idealize.ShloMosaic.Lib.IdealHost

@[expose] public section

noncomputable section

namespace Cert.Reduce

open Idealize.ShloMosaic

theorem pair_ix2 {a b : Nat} (y : (⟨2, ![a, b]⟩ : Shape).Idx) : ∃ r c, y = ix2 r c :=
  ⟨y 0, y 1, by funext k; match k with | ⟨0, _⟩ => rfl | ⟨1, _⟩ => rfl⟩

/-- A sum over the two outer axes of one column: what is there, at each row. -/
theorem reduce_ends {n : Nat} (hs : (⟨3, ![1, n, 1]⟩ : Shape).ReducesTo [0, 2] ⟨1, ![n]⟩) (v : (⟨3, ![1, n, 1]⟩ : Shape).Idx → EReal) (init : EReal) (q : Fin n) :
    Ideal.hostReduceAdd hs v init (ix1 q) = init + v (ix3 0 q 0) := by
  unfold Ideal.hostReduceAdd
  rw [Finset.sum_eq_single_of_mem (ix3 0 q 0)]
  · refine Finset.mem_filter.mpr ⟨Finset.mem_univ _, ?_⟩
    funext b
    match b with
    | ⟨0, _⟩ => rfl
  · intro y hy hne
    refine absurd ?_ hne
    have e := congrFun (Finset.mem_filter.mp hy).2 0
    funext a
    match a with
    | ⟨0, _⟩ => exact Subsingleton.elim (α := Fin 1) _ _
    | ⟨1, _⟩ => exact Fin.ext (congrArg Fin.val e)
    | ⟨2, _⟩ => exact Subsingleton.elim (α := Fin 1) _ _

theorem reduce_heads {n : Nat} (hs : (⟨3, ![1, 1, n]⟩ : Shape).ReducesTo [0, 1] ⟨1, ![n]⟩) (v : (⟨3, ![1, 1, n]⟩ : Shape).Idx → EReal) (init : EReal) (q : Fin n) :
    Ideal.hostReduceAdd hs v init (ix1 q) = init + v (ix3 0 0 q) := by
  unfold Ideal.hostReduceAdd
  rw [Finset.sum_eq_single_of_mem (ix3 0 0 q)]
  · refine Finset.mem_filter.mpr ⟨Finset.mem_univ _, ?_⟩
    funext b
    match b with
    | ⟨0, _⟩ => rfl
  · intro y hy hne
    refine absurd ?_ hne
    have e := congrFun (Finset.mem_filter.mp hy).2 0
    funext a
    match a with
    | ⟨0, _⟩ => exact Subsingleton.elim (α := Fin 1) _ _
    | ⟨1, _⟩ => exact Subsingleton.elim (α := Fin 1) _ _
    | ⟨2, _⟩ => exact Fin.ext (congrArg Fin.val e)

end Cert.Reduce

end
-- ==== Proof.Rows.Values.lean ====
module

public import proofs.«01_k».proof.Proof.Step.Reduce
public import proofs.«01_k».proof.Proof.Rows.Spec
public import proofs.«01_k».proof.Proof.Rows.Point
public import Idealize.ShloMosaic.Lib.Pointwise
public import Idealize.ShloMosaic.Lib.Pipeline.ValueKit
public import Idealize.ShloMosaic.Lib.Tactic.CleanTypes

/-!
# What one point computes, entry by entry

Row `q` of the blocks a point leaves, over the extended reals, when row `q` of its inputs is row `i` of the arguments `a`.
-/

@[expose] public section

set_option maxRecDepth 16384

noncomputable section

namespace Cert.Rows

open Cert.KernelIdeal Cert.KernelIdeal.Gen Cert.Scalars Cert.Reduce
open Idealize.ShloMosaic Idealize.ShloMosaic.TcCoe Idealize.SL.Sem

/-- Row `q` of the blocks is row `i` of the arguments. -/
structure IsRow (x : Ins Ideal) (q : Fin 256) (a : Args) (i : Fin 4112) : Prop where
  dh : ∀ j : Fin 1024, x.dh (ix2 q j) = a.ct i j
  za : ∀ j : Fin 1024, x.za (ix2 q j) = a.zg i (lo j)
  zb : ∀ j : Fin 1024, x.zb (ix2 q j) = a.zg i (hi j)
  cpre : ∀ j : Fin 1024, x.cpre (ix2 q j) = a.cpre i j
  bg : ∀ k : Fin 2048, x.bg (ix2 0 k) = a.bg k
  lng : ∀ j : Fin 1024, x.lng (ix2 0 j) = a.lng j
  lnb : ∀ j : Fin 1024, x.lnb (ix2 0 j) = a.lnb j
  ps : ∀ j : Fin 1024, x.ps (ix2 0 j) = a.ps j
  wo : ∀ k j : Fin 1024, x.wo (ix2 k j) = a.wo k j
  wco : ∀ k j : Fin 1024, x.wco (ix2 k j) = a.wco k j
  wpo : ∀ k j : Fin 1024, x.wpo (ix2 k j) = a.wpo k j
  wpool : ∀ (g : Fin 4) (k d : Fin 256), x.wpool (ix3 g k d) = a.wpool g k d

section
variable {x : Ins Ideal} {q : Fin 256} {a : Args} {i : Fin 4112} (w : IsRow x q a i) (j : Fin 1024)
include w

theorem row_dmg : x.dmg (ix2 q j) = a.dmg i j := by
  unfold Ins.dmg k0_pay8; clean_types; pointwise
  simp only [w.dh, w.wo]; rfl

theorem row_sa : x.sa (ix2 q j) = ((a.gate i (lo j) : ℝ) : EReal) := by
  unfold Ins.sa k0_pay9; clean_types; pointwise
  rw [w.za, w.bg, lit_half]
  exact half_tanh _

theorem row_sb : x.sb (ix2 q j) = ((a.gate i (hi j) : ℝ) : EReal) := by
  unfold Ins.sb k0_pay10; clean_types; pointwise
  have e : (⟨1024 + j.val, by omega⟩ : Fin 2048) = hi j := Fin.ext (Nat.add_comm _ _)
  rw [w.zb, w.bg, lit_half, e]
  exact half_tanh _

theorem row_dyc : x.dyc (ix2 q j) = a.dyc i j := by
  have e : x.dyc (ix2 q j) = x.dmg (ix2 q j) * x.sa (ix2 q j) := by
    unfold Ins.dyc Ins.dmg Ins.sa k0_pay11; clean_types; pointwise
  rw [e, row_dmg w, row_sa w, mul_comm]; rfl

theorem row_dyp : x.dyp (ix2 q j) = a.dyp i j := by
  have e : x.dyp (ix2 q j) = x.dmg (ix2 q j) * x.sb (ix2 q j) := by
    unfold Ins.dyp Ins.dmg Ins.sb k0_pay12; clean_types; pointwise
  rw [e, row_dmg w, row_sb w, mul_comm]; rfl

theorem row_dca : x.dca (ix2 q j) = a.dca i j := by
  unfold Ins.dca k0_pay19; clean_types; pointwise
  simp only [row_dyc w, w.wco]; rfl

theorem row_dm2 : k0_pay30 x.dyp x.wpo (ix2 q j) = a.dm2 i j := by
  unfold k0_pay30; clean_types; pointwise
  simp only [row_dyp w, w.wpo]; rfl

theorem row_dmw : x.dmw (ix2 q j) = a.dmw i j := by
  unfold Ins.dmw k0_pay32; clean_types; pointwise
  rw [row_dm2 w, w.ps]; rfl

theorem row_dza : k0_pay13 x.dmg x.sa x.yc (ix2 q j) = a.dmg i j * x.yc (ix2 q j) * a.slope i (lo j) := by
  unfold k0_pay13; clean_types; pointwise
  rw [row_dmg w, row_sa w]; rfl

theorem row_dzb : k0_pay14 x.dmg x.sb x.yp (ix2 q j) = a.dmg i j * x.yp (ix2 q j) * a.slope i (hi j) := by
  unfold k0_pay14; clean_types; pointwise
  rw [row_dmg w, row_sb w]; rfl

variable (h : a.Finite)
include h

theorem row_cen : k0_pay20 x.cpre (ix2 q j) = ((cen (a.row i) j : ℝ) : EReal) := by
  unfold k0_pay20; clean_types; pointwise
  simp only [w.cpre, Args.real_cpre _ _ h]
  rw [sum_coe, lit_width, div_real _ (by norm_num), ← EReal.coe_sub]; rfl

theorem row_rstd : k0_pay21 x.cpre (ix2 q 0) = ((rstd (a.row i) : ℝ) : EReal) := by
  unfold k0_pay21; clean_types; pointwise
  simp only [row_cen w _ h, ← EReal.coe_mul]
  rw [sum_coe, lit_width, div_real _ (by norm_num), lit_ln_eps.1, ← EReal.coe_add]
  exact rsqrt_real (spread_pos (a.row i))

theorem row_xhat : k0_pay22 x.cpre (ix2 q j) = ((xhat (a.row i) j : ℝ) : EReal) := by
  unfold k0_pay22; clean_types; pointwise
  rw [row_cen w _ h, row_rstd w h, ← EReal.coe_mul]; rfl

theorem row_slope : x.slope (ix2 q j) = ((sgr (a.ln i j) : ℝ) : EReal) * (1 + a.ln i j * (1 - ((sgr (a.ln i j) : ℝ) : EReal))) := by
  unfold Ins.slope k0_pay23; clean_types; pointwise
  simp only [row_xhat w _ h, w.lng, w.lnb, lit_half, half_tanh]
  rfl

theorem row_dln : k0_pay24 (F := Ideal) x.dca x.slope (ix2 q j) = ((a.dln i j : ℝ) : EReal) := by
  unfold k0_pay24; clean_types; pointwise
  rw [row_dca w, row_slope w _ h, Args.real_dca _ _ h]
  exact dsilu_factored _ _

theorem row_dconv : x.dconv (ix2 q j) = ((a.dconv i j : ℝ) : EReal) := by
  unfold Ins.dconv k0_pay27; clean_types; pointwise
  simp only [row_dln w _ h, row_xhat w _ h, row_rstd w h, w.lng, Args.real_dxh _ _ h]
  simp only [← EReal.coe_mul]
  rw [sum_coe, sum_coe, lit_width, div_real _ (by norm_num), div_real _ (by norm_num)]
  simp only [← EReal.coe_mul, ← EReal.coe_sub]; rfl

end

section
variable (x : Ins Ideal) (q : Fin 256)

theorem dzg_left (j : Fin 1024) : x.dzg (ix2 q (lo j)) = k0_pay13 (F := Ideal) x.dmg x.sa x.yc (ix2 q j) := by
  unfold Ins.dzg
  canon_tiles y hy
  all_goals obtain ⟨r, c, rfl⟩ := pair_ix2 y; change q.val = r.val at hy0; obtain rfl := Fin.ext hy0
  · change j.val = 1024 + c.val at hy1; omega
  · change j.val = c.val at hy1; obtain rfl := Fin.ext hy1; rfl

theorem dzg_right (j : Fin 1024) : x.dzg (ix2 q (hi j)) = k0_pay14 (F := Ideal) x.dmg x.sb x.yp (ix2 q j) := by
  unfold Ins.dzg
  canon_tiles y hy
  all_goals obtain ⟨r, c, rfl⟩ := pair_ix2 y; change q.val = r.val at hy0; obtain rfl := Fin.ext hy0
  · change j.val + 1024 = 1024 + c.val at hy1; obtain rfl : j = c := Fin.ext (by omega); rfl
  · change j.val + 1024 = c.val at hy1; omega

theorem dm_at (g : Fin 4) (d : Fin 256) : x.dm (ix2 q (col g d)) = ∑ k, (x.dmw (ix2 q (col g k)) * x.wpool (ix3 g d k) : EReal) := by
  unfold Ins.dm
  canon_tiles y hy
  all_goals obtain ⟨r, c, rfl⟩ := pair_ix2 y; change q.val = r.val at hy0; obtain rfl := Fin.ext hy0
  · change g.val * 256 + d.val = 768 + c.val at hy1
    obtain rfl : g = 3 := Fin.ext (by show g.val = 3; omega)
    obtain rfl : d = c := Fin.ext (by change 3 * 256 + d.val = _ at hy1; omega)
    unfold k0_pay2; clean_types; pointwise
    rfl
  · change g.val * 256 + d.val = 512 + c.val at hy1
    obtain rfl : g = 2 := Fin.ext (by show g.val = 2; omega)
    obtain rfl : d = c := Fin.ext (by change 2 * 256 + d.val = _ at hy1; omega)
    unfold k0_pay1; clean_types; pointwise
    rfl
  · change g.val * 256 + d.val = 256 + c.val at hy1
    obtain rfl : g = 1 := Fin.ext (by show g.val = 1; omega)
    obtain rfl : d = c := Fin.ext (by change 1 * 256 + d.val = _ at hy1; omega)
    unfold k0_pay34; clean_types; pointwise
    rfl
  · change g.val * 256 + d.val = c.val at hy1
    obtain rfl : g = 0 := Fin.ext (by show g.val = 0; omega)
    obtain rfl : d = c := Fin.ext (by change 0 * 256 + d.val = _ at hy1; omega)
    unfold k0_pay33; clean_types; pointwise
    refine Finset.sum_congr rfl fun k _ => ?_
    have e : (⟨k.val, by omega⟩ : Fin 1024) = col 0 k := Fin.ext (by show k.val = 0 * 256 + k.val; omega)
    rw [e]; rfl

theorem dzg_at (c : Fin 2048) : x.dzg (ix2 q c)
    = if h : c.val < 1024 then k0_pay13 (F := Ideal) x.dmg x.sa x.yc (ix2 q ⟨c.val, h⟩)
      else k0_pay14 (F := Ideal) x.dmg x.sb x.yp (ix2 q ⟨c.val - 1024, by omega⟩) := by
  split
  · exact dzg_left x q ⟨c.val, by assumption⟩
  · rw [← dzg_right]
    exact congrArg (fun k => x.dzg (ix2 q k)) (Fin.ext (by simp only [hi]; omega))

theorem row_dm {a : Args} {i : Fin 4112} (w : IsRow x q a i) (j : Fin 1024) : x.dm (ix2 q j) = a.dm i j := by
  have e : j = col (grp j) (off j) := Fin.ext (by simp only [col, grp, off]; omega)
  conv_lhs => rw [e]
  rw [dm_at]
  simp only [row_dmw w, w.wpool]; rfl

variable (s : Accs Ideal)

theorem next_bg_left (j : Fin 1024) : (x.next s).bg (ix2 0 (lo j)) = s.bg (ix2 0 (lo j)) + (∑ q, k0_pay13 (F := Ideal) x.dmg x.sa x.yc (ix2 q j) : EReal) := by
  unfold Ins.next
  canon_tiles y hy
  all_goals obtain ⟨r, c, rfl⟩ := pair_ix2 y; obtain rfl := Subsingleton.elim (α := Fin 1) r 0
  · change j.val = 1024 + c.val at hy1; omega
  · change j.val = c.val at hy1; obtain rfl := Fin.ext hy1
    unfold k0_pay17; clean_types; pointwise
    rfl

theorem next_bg_right (j : Fin 1024) : (x.next s).bg (ix2 0 (hi j)) = s.bg (ix2 0 (hi j)) + (∑ q, k0_pay14 (F := Ideal) x.dmg x.sb x.yp (ix2 q j) : EReal) := by
  unfold Ins.next
  canon_tiles y hy
  all_goals obtain ⟨r, c, rfl⟩ := pair_ix2 y; obtain rfl := Subsingleton.elim (α := Fin 1) r 0
  · change j.val + 1024 = 1024 + c.val at hy1; obtain rfl : j = c := Fin.ext (by omega)
    unfold k0_pay18; clean_types; pointwise
    have e : (⟨1024 + j.val, by omega⟩ : Fin 2048) = hi j := Fin.ext (Nat.add_comm _ _)
    rw [e]
  · change j.val + 1024 = c.val at hy1; omega

theorem next_bg (c : Fin 2048) : (x.next s).bg (ix2 0 c) = s.bg (ix2 0 c) + (∑ q, x.dzg (ix2 q c) : EReal) := by
  by_cases h : c.val < 1024
  · have e := next_bg_left x s ⟨c.val, h⟩
    simp only [← dzg_left] at e
    exact e
  · have e := next_bg_right x s ⟨c.val - 1024, by omega⟩
    have e' : hi ⟨c.val - 1024, by omega⟩ = c := Fin.ext (by simp only [hi]; omega)
    simp only [← dzg_right, e'] at e
    exact e

theorem next_lng (j : Fin 1024) : (x.next s).lng (ix2 0 j) = s.lng (ix2 0 j) + (∑ q, k0_pay24 (F := Ideal) x.dca x.slope (ix2 q j) * k0_pay22 (F := Ideal) x.cpre (ix2 q j) : EReal) := by
  unfold Ins.next k0_pay25; clean_types; pointwise

theorem next_lnb (j : Fin 1024) : (x.next s).lnb (ix2 0 j) = s.lnb (ix2 0 j) + (∑ q, k0_pay24 (F := Ideal) x.dca x.slope (ix2 q j) : EReal) := by
  unfold Ins.next k0_pay26; clean_types; pointwise

theorem next_bdw (j : Fin 1024) : (x.next s).bdw (ix2 0 j) = s.bdw (ix2 0 j) + (∑ q, x.dconv (ix2 q j) : EReal) := by
  unfold Ins.next k0_pay29 k0_pay28; clean_types; pointwise

theorem next_ps (j : Fin 1024) : (x.next s).ps (ix2 0 j) = s.ps (ix2 0 j) + (∑ q, k0_pay30 (F := Ideal) x.dyp x.wpo (ix2 q j) * x.mw (ix2 q j) : EReal) := by
  unfold Ins.next k0_pay31; clean_types; pointwise

end

end Cert.Rows

end
-- ==== Proof.Rows.Padded.lean ====
module

public import proofs.«01_k».proof.Proof.Rows.Spec
public import Idealize.ShloMosaic.Lib.Pointwise

/-!
# The rows in front

The program's arrays have 240 rows in front of the 4112 that matter. A row in front is a row of arguments whose
cotangent and gate logits are zero and whose convolution output cancels its bias: every gradient of it is zero.
-/

@[expose] public section

noncomputable section

namespace Cert.Rows

open Idealize.ShloMosaic Cert.Scalars

/-- The arguments a row in front is a row of. -/
def pad (a : Args) : Args := { a with zg := fun _ _ => 0, conv := fun _ j => -a.bdw j, ct := fun _ _ => 0 }

variable (a : Args) (i : Fin 4112) (j : Fin 1024)

theorem pad_finite (h : a.Finite) : (pad a).Finite :=
  { h with
    conv := fun _ j => by
      obtain ⟨r, e⟩ := h.bdw j
      exact ⟨-r, by show -a.bdw j = _; rw [e, EReal.coe_neg]⟩
    ct := fun _ _ => ⟨0, rfl⟩ }

theorem pad_cpre (h : a.Finite) : (pad a).cpre i j = 0 := by
  obtain ⟨r, e⟩ := h.bdw j
  show -a.bdw j + a.bdw j = 0
  rw [e, ← EReal.coe_neg, ← EReal.coe_add, neg_add_cancel]; rfl

theorem pad_dmg : (pad a).dmg i j = 0 :=
  Finset.sum_eq_zero fun k _ => zero_mul _
theorem pad_dyc : (pad a).dyc i j = 0 := by unfold Args.dyc; rw [pad_dmg, mul_zero]
theorem pad_dyp : (pad a).dyp i j = 0 := by unfold Args.dyp; rw [pad_dmg, mul_zero]
theorem pad_dm2 : (pad a).dm2 i j = 0 :=
  Finset.sum_eq_zero fun k _ => by rw [pad_dyp, zero_mul]
theorem pad_dmw : (pad a).dmw i j = 0 := by unfold Args.dmw; rw [pad_dm2, zero_mul]
theorem pad_dm : (pad a).dm i j = 0 :=
  Finset.sum_eq_zero fun k _ => by rw [pad_dmw, zero_mul]
theorem pad_dca : (pad a).dca i j = 0 :=
  Finset.sum_eq_zero fun k _ => by rw [pad_dyc, zero_mul]
theorem pad_dln : (pad a).dln i j = 0 := by
  unfold Args.dln; rw [pad_dca, EReal.toReal_zero]; simp [dsilu]
theorem pad_dconv : (pad a).dconv i j = 0 := by
  unfold Args.dconv
  have e : (pad a).dxh i = fun _ => 0 := funext fun k => by unfold Args.dxh; rw [pad_dln, zero_mul]
  rw [e]; exact dnorm_zero _ _

/-- The contribution of array row `r`, zero at a row in front. -/
theorem padded_in {n : Nat} (f : Fin 4112 → Fin n → EReal) {r : Fin 4352} (h : r.val < 240) (k : Fin n) : padded f r k = 0 :=
  dif_pos h
theorem padded_at {n : Nat} (f : Fin 4112 → Fin n → EReal) {r : Fin 4352} (h : ¬r.val < 240) (k : Fin n) :
    padded f r k = f ⟨r.val - 240, by omega⟩ k :=
  dif_neg h

/-- Seventeen points' sums of 256 rows each, accumulated, are the sum over the 4112 rows. -/
theorem total_of_steps {n : Nat} (g : Fin 4112 → Fin n → EReal) (k : Fin n) (N : ℕ) (hN : N = 17) (S : (t : ℕ) → t < N → EReal)
    (f : (t : ℕ) → t < N → Fin 256 → EReal)
    (hf : ∀ t (h : t < N) (q : Fin 256), f t h q = padded g ⟨256 * t + q.val, by omega⟩ k)
    (h0 : ∀ h, S 0 h = 0 + ∑ q, f 0 h q) (hs : ∀ t h, S (t + 1) h = S t (Nat.lt_of_succ_lt h) + ∑ q, f (t + 1) h q)
    (h : 16 < N) : S 16 h = total g k := by
  let F : ℕ → EReal := fun r => if e : r < 4352 then padded g ⟨r, e⟩ k else 0
  have hF : ∀ t (h : t < N), ∑ q, f t h q = ∑ x ∈ Finset.range 256, F (256 * t + x) := fun t h => by
    rw [Finset.sum_range]
    refine Finset.sum_congr rfl fun q _ => ?_
    have e : F (256 * t + q.val) = padded g ⟨256 * t + q.val, by omega⟩ k := dif_pos (by omega)
    rw [hf, e]
  have key : ∀ t (h : t < N), S t h = ∑ r ∈ Finset.range (256 * (t + 1)), F r := by
    intro t
    induction t with
    | zero => intro h; rw [h0, zero_add, hF]; simp only [Nat.mul_zero, Nat.zero_add, Nat.mul_one]
    | succ t ih =>
      intro h
      rw [hs, ih, hF, Nat.mul_succ 256 (t + 1), Finset.sum_range_add]
  rw [key]
  show ∑ r ∈ Finset.range (240 + 4112), F r = _
  rw [Finset.sum_range_add, Finset.sum_eq_zero, zero_add, Finset.sum_range]
  · refine Finset.sum_congr rfl fun i _ => ?_
    show F (240 + i.val) = g i k
    have e : F (240 + i.val) = padded g ⟨240 + i.val, by omega⟩ k := dif_pos (by omega)
    rw [e, padded_at g (by show ¬240 + i.val < 240; omega)]
    exact congrArg (g · k) (Fin.ext (Nat.add_sub_cancel_left 240 i.val))
  · intro x hx
    have hx := Finset.mem_range.mp hx
    have e : F x = padded g ⟨x, by omega⟩ k := dif_pos (by omega)
    rw [e]; exact padded_in g hx k

end Cert.Rows

end
-- ==== Proof.Rows.Result.lean ====
module

public import proofs.«01_k».proof.Proof.Rows.Entry
public import proofs.«01_k».proof.Proof.Rows.Values
public import proofs.«01_k».proof.Proof.Rows.Padded
public import proofs.«01_k».proof.Proof.Rows.Body

/-!
# What the rows' program leaves in its results

Row `q` of a point's blocks is one of the 4112 rows or a row in front; so each block of a row-wise result holds the
formula's rows, and the sums over the points are the sums over the rows.
-/

@[expose] public section

set_option maxRecDepth 16384

noncomputable section

namespace Cert.Rows

open Cert.KernelIdeal Cert.KernelIdeal.Gen Cert.Scalars Cert.Reduce
open Idealize.ShloMosaic Idealize.ShloMosaic.TcCoe Idealize.SL.Sem

variable (m : (ℓ : Loc nD τ sig) → Buf (Elt Ideal) ℓ) (c : Dev nD)

section
variable (t : Fin cfg0.N) (q : Fin 256)

set_option maxHeartbeats 4000000 in
theorem isRow (hr : ¬(at_ t q).val < 240) :
    IsRow (ins m c t) q (args m c) ⟨(at_ t q).val - 240, by omega⟩ where
  dh j := (blk_dh m c t q j).trans (padded_at _ hr j)
  za j := (blk_za m c t q j).trans (padded_at _ hr _)
  zb j := (blk_zb m c t q j).trans (padded_at _ hr _)
  cpre j := (blk_cpre m c t q j).trans (padded_at _ hr j)
  bg := blk_bg m c t
  lng := blk_lng m c t
  lnb := blk_lnb m c t
  ps := blk_ps m c t
  wo k j := blk_wo m c t j k
  wco k j := blk_wco m c t j k
  wpo k j := blk_wpo m c t j k
  wpool := blk_wpool m c t

variable (h : (args m c).Finite)

set_option maxHeartbeats 4000000 in
include h in
theorem isPad (hr : (at_ t q).val < 240) : IsRow (ins m c t) q (pad (args m c)) 0 where
  dh j := (blk_dh m c t q j).trans (padded_in _ hr j)
  za j := (blk_za m c t q j).trans (padded_in _ hr _)
  zb j := (blk_zb m c t q j).trans (padded_in _ hr _)
  cpre j := ((blk_cpre m c t q j).trans (padded_in _ hr j)).trans (pad_cpre _ 0 j h).symm
  bg := blk_bg m c t
  lng := blk_lng m c t
  lnb := blk_lnb m c t
  ps := blk_ps m c t
  wo k j := blk_wo m c t j k
  wco k j := blk_wco m c t j k
  wpo k j := blk_wpo m c t j k
  wpool := blk_wpool m c t

variable (j : Fin 1024)
include h

theorem at_dyc : (ins m c t).dyc (ix2 q j) = padded (args m c).dyc (at_ t q) j := by
  by_cases hr : (at_ t q).val < 240
  · rw [padded_in _ hr, row_dyc (isPad m c t q h hr), pad_dyc]
  · rw [padded_at _ hr, row_dyc (isRow m c t q hr)]

theorem at_dyp : (ins m c t).dyp (ix2 q j) = padded (args m c).dyp (at_ t q) j := by
  by_cases hr : (at_ t q).val < 240
  · rw [padded_in _ hr, row_dyp (isPad m c t q h hr), pad_dyp]
  · rw [padded_at _ hr, row_dyp (isRow m c t q hr)]

theorem at_dmw : (ins m c t).dmw (ix2 q j) = padded (args m c).dmw (at_ t q) j := by
  by_cases hr : (at_ t q).val < 240
  · rw [padded_in _ hr, row_dmw (isPad m c t q h hr), pad_dmw]
  · rw [padded_at _ hr, row_dmw (isRow m c t q hr)]

theorem at_dm : (ins m c t).dm (ix2 q j) = padded (args m c).dm (at_ t q) j := by
  by_cases hr : (at_ t q).val < 240
  · rw [padded_in _ hr, row_dm _ _ (isPad m c t q h hr), pad_dm]
  · rw [padded_at _ hr, row_dm _ _ (isRow m c t q hr)]

theorem at_dconv : (ins m c t).dconv (ix2 q j)
    = padded (fun i j => (((args m c).dconv i j : ℝ) : EReal)) (at_ t q) j := by
  by_cases hr : (at_ t q).val < 240
  · rw [padded_in _ hr, row_dconv (isPad m c t q h hr) _ (pad_finite _ h), pad_dconv]; rfl
  · rw [padded_at _ hr, row_dconv (isRow m c t q hr) _ h]

theorem at_dln : k0_pay24 (F := Ideal) (ins m c t).dca (ins m c t).slope (ix2 q j)
    = padded (fun i j => (((args m c).dln i j : ℝ) : EReal)) (at_ t q) j := by
  by_cases hr : (at_ t q).val < 240
  · rw [padded_in _ hr, row_dln (isPad m c t q h hr) _ (pad_finite _ h), pad_dln]; rfl
  · rw [padded_at _ hr, row_dln (isRow m c t q hr) _ h]

theorem at_dlng : (k0_pay24 (F := Ideal) (ins m c t).dca (ins m c t).slope (ix2 q j) * k0_pay22 (F := Ideal) (ins m c t).cpre (ix2 q j) : EReal)
    = padded (fun i j => ((xhat ((args m c).row i) j : ℝ) : EReal) * (((args m c).dln i j : ℝ) : EReal)) (at_ t q) j := by
  rw [at_dln m c t q h]
  by_cases hr : (at_ t q).val < 240
  · rw [padded_in _ hr, padded_in _ hr, zero_mul]
  · rw [padded_at _ hr, padded_at _ hr, row_xhat (isRow m c t q hr) _ h, mul_comm]

theorem at_dps : (k0_pay30 (F := Ideal) (ins m c t).dyp (ins m c t).wpo (ix2 q j) * (ins m c t).mw (ix2 q j) : EReal)
    = padded (fun i j => (args m c).mw i j * (args m c).dm2 i j) (at_ t q) j := by
  have e : (ins m c t).mw (ix2 q j) = padded (args m c).mw (at_ t q) j := blk_mw m c t q j
  by_cases hr : (at_ t q).val < 240
  · rw [padded_in _ hr, row_dm2 (isPad m c t q h hr), pad_dm2, zero_mul]
  · rw [padded_at _ hr, row_dm2 (isRow m c t q hr), e, padded_at _ hr, mul_comm]

set_option maxHeartbeats 4000000 in
theorem at_dzg (k : Fin 2048) : (ins m c t).dzg (ix2 q k) = padded (args m c).dzg (at_ t q) k := by
  have ec : ∀ j, (ins m c t).yc (ix2 q j) = padded (args m c).yc (at_ t q) j := fun j => blk_yc m c t q j h
  have ep : ∀ j, (ins m c t).yp (ix2 q j) = padded (args m c).yp (at_ t q) j := fun j => blk_yp m c t q j
  rw [dzg_at]
  by_cases hr : (at_ t q).val < 240
  · rw [padded_in _ hr]
    split
    · rw [row_dza (isPad m c t q h hr), pad_dmg, zero_mul, zero_mul]
    · rw [row_dzb (isPad m c t q h hr), pad_dmg, zero_mul, zero_mul]
  · rw [padded_at _ hr]
    unfold Args.dzg
    split
    · rw [row_dza (isRow m c t q hr), ec, padded_at _ hr]; rfl
    · rw [row_dzb (isRow m c t q hr), ep, padded_at _ hr]; rfl

end

/-! ## The sums -/

section
variable (h : (args m c).Finite) (hN : 16 < cfg0.N) (j : Fin 1024)
include h

theorem sum_bg (k : Fin 2048) : (sums m c 16 hN).bg (ix2 0 k) = total (args m c).dzg k :=
  total_of_steps _ k cfg0.N N_0 (fun t ht => (sums m c t ht).bg (ix2 0 k)) (fun t ht q => (ins m c ⟨t, ht⟩).dzg (ix2 q k))
    (fun t ht q => at_dzg m c ⟨t, ht⟩ q h k)
    (fun ht => (next_bg _ _ k).trans (congrArg (· + _) (by unfold Accs.start k0_pay3; clean_types; pointwise)))
    (fun t ht => next_bg _ _ k) hN

theorem sum_lng : (sums m c 16 hN).lng (ix2 0 j)
    = total (fun i j => ((xhat ((args m c).row i) j : ℝ) : EReal) * (((args m c).dln i j : ℝ) : EReal)) j :=
  total_of_steps _ j cfg0.N N_0 (fun t ht => (sums m c t ht).lng (ix2 0 j)) _
    (fun t ht q => at_dlng m c ⟨t, ht⟩ q h j)
    (fun ht => (next_lng _ _ j).trans (congrArg (· + _) (by unfold Accs.start k0_pay4; clean_types; pointwise)))
    (fun t ht => next_lng _ _ j) hN

theorem sum_lnb : (sums m c 16 hN).lnb (ix2 0 j) = total (fun i j => (((args m c).dln i j : ℝ) : EReal)) j :=
  total_of_steps _ j cfg0.N N_0 (fun t ht => (sums m c t ht).lnb (ix2 0 j)) _
    (fun t ht q => at_dln m c ⟨t, ht⟩ q h j)
    (fun ht => (next_lnb _ _ j).trans (congrArg (· + _) (by unfold Accs.start k0_pay5; clean_types; pointwise)))
    (fun t ht => next_lnb _ _ j) hN

theorem sum_bdw : (sums m c 16 hN).bdw (ix2 0 j) = total (fun i j => (((args m c).dconv i j : ℝ) : EReal)) j :=
  total_of_steps _ j cfg0.N N_0 (fun t ht => (sums m c t ht).bdw (ix2 0 j)) _
    (fun t ht q => at_dconv m c ⟨t, ht⟩ q h j)
    (fun ht => (next_bdw _ _ j).trans (congrArg (· + _) (by unfold Accs.start k0_pay6; clean_types; pointwise)))
    (fun t ht => next_bdw _ _ j) hN

theorem sum_ps : (sums m c 16 hN).ps (ix2 0 j) = total (fun i j => (args m c).mw i j * (args m c).dm2 i j) j :=
  total_of_steps _ j cfg0.N N_0 (fun t ht => (sums m c t ht).ps (ix2 0 j)) _
    (fun t ht q => at_dps m c ⟨t, ht⟩ q h j)
    (fun ht => (next_ps _ _ j).trans (congrArg (· + _) (by unfold Accs.start k0_pay7; clean_types; pointwise)))
    (fun t ht => next_ps _ _ j) hN

end

/-! ## The arrays -/

theorem idx_15 : ∀ t : Fin cfg0.N, win0_15.index t 0 = t.val ∧ win0_15.index t 1 = 0 := by decide +kernel
theorem idx_16 : ∀ t : Fin cfg0.N, win0_16.index t 0 = t.val ∧ win0_16.index t 1 = 0 := by decide +kernel
theorem idx_17 : ∀ t : Fin cfg0.N, win0_17.index t 0 = t.val ∧ win0_17.index t 1 = 0 := by decide +kernel
theorem idx_18 : ∀ t : Fin cfg0.N, win0_18.index t 0 = t.val ∧ win0_18.index t 1 = 0 := by decide +kernel
theorem idx_19 : ∀ t : Fin cfg0.N, win0_19.index t 0 = t.val ∧ win0_19.index t 1 = 0 := by decide +kernel
theorem idx_20 : ∀ t : Fin cfg0.N, win0_20.index t 0 = t.val ∧ win0_20.index t 1 = 0 := by decide +kernel

section
variable (t : Fin cfg0.N) (q : Fin 256)

theorem emb_15 (j : Fin 1024) : (win0_15.blk t).view.emb (ix2 q j) = ix2 (at_ t q) j := by blk_ext [at_, idx_15 t]
theorem emb_16 (j : Fin 1024) : (win0_16.blk t).view.emb (ix2 q j) = ix2 (at_ t q) j := by blk_ext [at_, idx_16 t]
theorem emb_17 (j : Fin 2048) : (win0_17.blk t).view.emb (ix2 q j) = ix2 (at_ t q) j := by blk_ext [at_, idx_17 t]
theorem emb_18 (j : Fin 1024) : (win0_18.blk t).view.emb (ix2 q j) = ix2 (at_ t q) j := by blk_ext [at_, idx_18 t]
theorem emb_19 (j : Fin 1024) : (win0_19.blk t).view.emb (ix2 q j) = ix2 (at_ t q) j := by blk_ext [at_, idx_19 t]
theorem emb_20 (j : Fin 1024) : (win0_20.blk t).view.emb (ix2 q j) = ix2 (at_ t q) j := by blk_ext [at_, idx_20 t]

end

section
variable (h : (args m c).Finite)
include h

theorem arr_dyc : (dats m 0 c).arrAt 15 cfg0.N = fun y => padded (args m c).dyc (y 0) (y 1) := by
  refine (dats m 0 c).arrAt_eq_of_covers 15 _ (by decide +kernel) fun t hf y => ?_
  blk_simp
  obtain ⟨q, j, rfl⟩ := pair_ix2 y
  rw [after15, emb_15]
  exact at_dyc m c t q h j

theorem arr_dyp : (dats m 0 c).arrAt 16 cfg0.N = fun y => padded (args m c).dyp (y 0) (y 1) := by
  refine (dats m 0 c).arrAt_eq_of_covers 16 _ (by decide +kernel) fun t hf y => ?_
  blk_simp
  obtain ⟨q, j, rfl⟩ := pair_ix2 y
  rw [after16, emb_16]
  exact at_dyp m c t q h j

theorem arr_dzg : (dats m 0 c).arrAt 17 cfg0.N = fun y => padded (args m c).dzg (y 0) (y 1) := by
  refine (dats m 0 c).arrAt_eq_of_covers 17 _ (by decide +kernel) fun t hf y => ?_
  blk_simp
  obtain ⟨q, j, rfl⟩ := pair_ix2 y
  rw [after17, emb_17]
  exact at_dzg m c t q h j

theorem arr_dconv : (dats m 0 c).arrAt 18 cfg0.N = fun y => padded (fun i j => (((args m c).dconv i j : ℝ) : EReal)) (y 0) (y 1) := by
  refine (dats m 0 c).arrAt_eq_of_covers 18 _ (by decide +kernel) fun t hf y => ?_
  blk_simp
  obtain ⟨q, j, rfl⟩ := pair_ix2 y
  rw [after18, emb_18]
  exact at_dconv m c t q h j

theorem arr_dmw : (dats m 0 c).arrAt 19 cfg0.N = fun y => padded (args m c).dmw (y 0) (y 1) := by
  refine (dats m 0 c).arrAt_eq_of_covers 19 _ (by decide +kernel) fun t hf y => ?_
  blk_simp
  obtain ⟨q, j, rfl⟩ := pair_ix2 y
  rw [after19, emb_19]
  exact at_dmw m c t q h j

theorem arr_dm : (dats m 0 c).arrAt 20 cfg0.N = fun y => padded (args m c).dm (y 0) (y 1) := by
  refine (dats m 0 c).arrAt_eq_of_covers 20 _ (by decide +kernel) fun t hf y => ?_
  blk_simp
  obtain ⟨q, j, rfl⟩ := pair_ix2 y
  rw [after20, emb_20]
  exact at_dm m c t q h j

theorem arr_bg : (dats m 0 c).arrAt 21 cfg0.N = fun y => total (args m c).dzg (y 1) := by
  refine (dats m 0 c).arrAt_eq_of_after_last 21 ⟨16, by decide +kernel⟩ (by decide +kernel) _ fun y => ?_
  obtain ⟨z, k, rfl⟩ := pair_ix2 y
  obtain rfl := Subsingleton.elim z 0
  rw [after21]
  blk_simp
  exact sum_bg m c h _ k

theorem arr_lng : (dats m 0 c).arrAt 22 cfg0.N = fun y => total (fun i j => ((xhat ((args m c).row i) j : ℝ) : EReal) * (((args m c).dln i j : ℝ) : EReal)) (y 1) := by
  refine (dats m 0 c).arrAt_eq_of_after_last 22 ⟨16, by decide +kernel⟩ (by decide +kernel) _ fun y => ?_
  obtain ⟨z, k, rfl⟩ := pair_ix2 y
  obtain rfl := Subsingleton.elim z 0
  rw [after22]
  blk_simp
  exact sum_lng m c h _ k

theorem arr_lnb : (dats m 0 c).arrAt 23 cfg0.N = fun y => total (fun i j => (((args m c).dln i j : ℝ) : EReal)) (y 1) := by
  refine (dats m 0 c).arrAt_eq_of_after_last 23 ⟨16, by decide +kernel⟩ (by decide +kernel) _ fun y => ?_
  obtain ⟨z, k, rfl⟩ := pair_ix2 y
  obtain rfl := Subsingleton.elim z 0
  rw [after23]
  blk_simp
  exact sum_lnb m c h _ k

theorem arr_bdw : (dats m 0 c).arrAt 24 cfg0.N = fun y => total (fun i j => (((args m c).dconv i j : ℝ) : EReal)) (y 1) := by
  refine (dats m 0 c).arrAt_eq_of_after_last 24 ⟨16, by decide +kernel⟩ (by decide +kernel) _ fun y => ?_
  obtain ⟨z, k, rfl⟩ := pair_ix2 y
  obtain rfl := Subsingleton.elim z 0
  rw [after24]
  blk_simp
  exact sum_bdw m c h _ k

theorem arr_ps : (dats m 0 c).arrAt 25 cfg0.N = fun y => total (fun i j => (args m c).mw i j * (args m c).dm2 i j) (y 1) := by
  refine (dats m 0 c).arrAt_eq_of_after_last 25 ⟨16, by decide +kernel⟩ (by decide +kernel) _ fun y => ?_
  obtain ⟨z, k, rfl⟩ := pair_ix2 y
  obtain rfl := Subsingleton.elim z 0
  rw [after25]
  blk_simp
  exact sum_ps m c h _ k

end

end Cert.Rows
-- ==== Proof.Rows.Reference.lean ====
module

public import proofs.«01_k».proof.Proof.Rows.Spec
public import proofs.«01_k».proof.Proof.Step.Reduce
public import proofs.«01_k».proof.Proof.Gen.ReferenceIdeal.Run
public import Idealize.ShloMosaic.Lib.Pointwise
public import Idealize.ShloMosaic.Lib.Pipeline.ValueKit
public import Idealize.ShloMosaic.Lib.Tactic.CleanTypes

/-!
# The rows' reference, entry by entry

Every stage of the reference's run at an index, as the formula of `Cert.Rows.Args` it is.
-/

@[expose] public section

set_option maxRecDepth 16384

noncomputable section

namespace Cert.Rows.Ref

open Cert.ReferenceIdeal Cert.ReferenceIdeal.Gen Cert.ReferenceIdeal.Value Cert.Scalars Cert.Rows Cert.Reduce
open Idealize.ShloMosaic Idealize.ShloMosaic.TcCoe Idealize.SL.Sem Idealize.ShloMosaic.StableHlo

variable (V : Valuation τ sig (Elt Ideal)) (i : Fin 4112) (j : Fin 1024)

/-- The arguments the reference is launched with. -/
def args : Args where
  zg i c := V (Proc.devRef .tc main_arg0) (ix3 0 i c)
  conv i j := V (Proc.devRef .tc main_arg1) (ix3 0 i j)
  m i j := V (Proc.devRef .tc main_arg2) (ix3 0 i j)
  bg c := V (Proc.devRef .tc main_arg3) (ix2 0 c)
  bdw j := V (Proc.devRef .tc main_arg4) (ix2 0 j)
  lng j := V (Proc.devRef .tc main_arg5) (ix2 0 j)
  lnb j := V (Proc.devRef .tc main_arg6) (ix2 0 j)
  ps j := V (Proc.devRef .tc main_arg7) (ix2 0 j)
  wco k j := V (Proc.devRef .tc main_arg8) (ix3 0 k j)
  wpool g c d := V (Proc.devRef .tc main_arg9) (ix4 0 g c d)
  wpo k j := V (Proc.devRef .tc main_arg10) (ix3 0 k j)
  wo k j := V (Proc.devRef .tc main_arg11) (ix3 0 k j)
  ct i j := V (Proc.devRef .tc main_arg12) (ix3 0 i j)

theorem at_none : res_main_v0 V (ix3 0 i j) = (0 : EReal) := by
  unfold res_main_v0; clean_types; pointwise

theorem at_gate (c : Fin 2048) : res_main_v10 V (ix3 0 i c) = (((args V).gate i c : ℝ) : EReal) := by
  unfold res_main_v10; clean_types; pointwise
  exact sig_eq _

theorem at_cpre : res_main_v17 V (ix3 0 i j) = (args V).cpre i j := by
  unfold res_main_v17; clean_types; pointwise
  rfl

theorem at_lng : res_main_v39 V (ix3 0 0 j) = (args V).lng j := by
  unfold res_main_v39; clean_types; pointwise
  rfl

theorem at_wco (k : Fin 1024) : res_main_v46 V (ix2 k j) = (args V).wco k j := by
  unfold res_main_v46; clean_types; pointwise
  rfl

theorem at_wpool (g : Fin 4) (c d : Fin 256) : res_main_v50 V (ix3 g c d) = (args V).wpool g c d := by
  unfold res_main_v50; clean_types; pointwise
  rfl

theorem at_mw : res_main_v54 V (ix3 0 i j) = (args V).mw i j := by
  unfold res_main_v54; clean_types; pointwise
  simp only [at_wpool, at_none, add_zero]; rfl

theorem at_ps : res_main_v56 V (ix3 0 0 j) = (args V).ps j := by
  unfold res_main_v56; clean_types; pointwise
  rfl

theorem at_wpo (k : Fin 1024) : res_main_v59 V (ix2 k j) = (args V).wpo k j := by
  unfold res_main_v59; clean_types; pointwise
  rfl

theorem at_yp : res_main_v61 V (ix3 0 i j) = (args V).yp i j := by
  unfold res_main_v61; clean_types; pointwise
  simp only [at_mw, at_ps, at_wpo, at_none, add_zero]; rfl

theorem at_gate_lo : res_main_v62 V (ix3 0 i j) = (((args V).gate i (lo j) : ℝ) : EReal) := by
  unfold res_main_v62; clean_types; pointwise
  exact at_gate V i _

theorem at_gate_hi : res_main_v64 V (ix3 0 i j) = (((args V).gate i (hi j) : ℝ) : EReal) := by
  unfold res_main_v64; clean_types; pointwise
  rw [at_gate]; simp only [hi, add_comm]

theorem at_wo (k : Fin 1024) : res_main_v67 V (ix2 k j) = (args V).wo k j := by
  unfold res_main_v67; clean_types; pointwise
  rfl

theorem at_dmg : res_main_v69 V (ix3 0 i j) = (args V).dmg i j := by
  unfold res_main_v69; clean_types; pointwise
  simp only [at_wo]; rfl

theorem at_dyp : res_main_v70 V (ix3 0 i j) = (args V).dyp i j := by
  unfold res_main_v70; clean_types; pointwise
  rw [at_gate_hi, at_dmg]; rfl

theorem at_dyc : res_main_v73 V (ix3 0 i j) = (args V).dyc i j := by
  unfold res_main_v73; clean_types; pointwise
  rw [at_gate_lo, at_dmg]; rfl

theorem at_dm2 : res_main_v77 V (ix3 0 i j) = (args V).dm2 i j := by
  unfold res_main_v77; clean_types; pointwise
  simp only [at_dyp, at_wpo]; rfl

theorem at_dmw : res_main_v82 V (ix3 0 i j) = (args V).dmw i j := by
  unfold res_main_v82; clean_types; pointwise
  rw [at_dm2, at_ps]; rfl

theorem at_dca : res_main_v90 V (ix3 0 i j) = (args V).dca i j := by
  unfold res_main_v90; clean_types; pointwise
  simp only [at_dyc, at_wco]; rfl

section
variable {V} (h : (args V).Finite)
include h

theorem at_cen : res_main_v25 V (ix3 0 i j) = ((cen ((args V).row i) j : ℝ) : EReal) := by
  unfold res_main_v25; clean_types; pointwise
  simp only [at_cpre, Args.real_cpre _ _ h]
  rw [sum_coe, lit_width, div_real _ (by norm_num), ← EReal.coe_sub]; rfl

theorem at_spread : res_main_v32 V (ix3 0 i 0) = ((spread ((args V).row i) : ℝ) : EReal) := by
  unfold res_main_v32; clean_types; pointwise
  simp only [at_cen _ _ h, ← EReal.coe_mul]
  rw [sum_coe, lit_width, div_real _ (by norm_num), lit_ln_eps.1, ← EReal.coe_add]; rfl

theorem at_rstd : res_main_v33 V (ix3 0 i 0) = ((rstd ((args V).row i) : ℝ) : EReal) := by
  unfold res_main_v33; clean_types; pointwise
  rw [at_spread _ h, rsqrt_real (spread_pos _)]; rfl

theorem at_xhat : res_main_v38 V (ix3 0 i j) = ((xhat ((args V).row i) j : ℝ) : EReal) := by
  unfold res_main_v38; clean_types; pointwise
  rw [at_cen _ _ h, at_rstd _ h, ← EReal.coe_mul]; rfl

theorem at_ln : res_main_v44 V (ix3 0 i j) = (args V).ln i j := by
  unfold res_main_v44; clean_types; pointwise
  rw [at_xhat _ _ h, at_lng]; rfl

theorem at_silu : res_main_v45_2 V (ix3 0 i j) = ((sgr ((args V).ln i j) : ℝ) : EReal) := by
  unfold res_main_v45_2; clean_types; pointwise
  rw [at_ln _ _ h]; exact sig_eq _

theorem at_yc : res_main_v48 V (ix3 0 i j) = (args V).yc i j := by
  unfold res_main_v48; clean_types; pointwise
  simp only [at_ln _ _ h, at_silu _ _ h, at_wco, at_none, add_zero]; rfl

theorem at_dln : res_main_v91 V (ix3 0 i j) = (((args V).dln i j : ℝ) : EReal) := by
  unfold res_main_v91; clean_types; pointwise
  rw [at_ln _ _ h, at_silu _ _ h, at_dca, Args.real_dca _ _ h]
  exact dsilu_summed _ _

theorem at_dxh : res_main_v99 V (ix3 0 i j) = (((args V).dxh i j : ℝ) : EReal) := by
  unfold res_main_v99; clean_types; pointwise
  rw [at_dln _ _ h, at_lng, Args.real_lng _ h, ← EReal.coe_mul]; rfl

theorem at_pull : res_main_v111 V (ix3 0 i j) =
    (((∑ k, cen ((args V).row i) k * (args V).dxh i k)
      * (-(1 / 2) * (rstd ((args V).row i) / spread ((args V).row i))) / 1024 : ℝ) : EReal) := by
  unfold res_main_v111; clean_types; pointwise [reduce_ends]
  simp only [at_cen _ _ h, at_dxh _ _ h, at_rstd _ h, at_spread _ h]
  rw [lit_neg_half, lit_width, div_real _ (spread_pos _).ne']
  simp only [← EReal.coe_mul]
  rw [sum_coe, ← EReal.coe_mul, div_real _ (by norm_num)]

theorem at_chain : res_main_v115 V (ix3 0 i j) = ((chain ((args V).row i) ((args V).dxh i) j : ℝ) : EReal) := by
  unfold res_main_v115; clean_types; pointwise
  rw [at_cen _ _ h, at_dxh _ _ h, at_rstd _ h, at_pull _ _ h]
  simp only [← EReal.coe_mul, ← EReal.coe_add]; rfl

theorem at_dconv : res_main_v124 V (ix3 0 i j) = (((args V).dconv i j : ℝ) : EReal) := by
  unfold res_main_v124; clean_types; pointwise [reduce_ends]
  simp only [at_chain _ _ h]
  simp only [← EReal.coe_neg]
  rw [sum_coe, lit_width, div_real _ (by norm_num), ← EReal.coe_add]
  exact congrArg _ (chain_eq _ _ _)

theorem at_dzg (c : Fin 2048) : res_main_v131 V (ix3 0 i c) = (args V).dzg i c := by
  unfold res_main_v131; clean_types; pointwise
  simp only [at_gate, at_yp, at_yc _ _ h, at_dmg]
  unfold Args.dzg
  split <;> split <;> first | omega | skip
  · rename_i h1 h2
    have e : c = hi ⟨c.val - 1024, h1.2⟩ := Fin.ext (by simp only [hi]; omega)
    rw [add_zero]
    exact congrArg (fun k => (args V).dmg i _ * (args V).yp i _ * (args V).slope i k) e
  · rw [zero_add]; rfl

/-! The eleven results. -/

theorem out_dyc : truncf (F := Ideal) .bf16 (concatenate S4352x1024 0 [⟨S240x1024, (broadcastInDim S240x1024 ![] bcast_S_S240x1024 (constant (F := Ideal) S_ .f32 0x00000000#32))⟩, ⟨S4112x1024, (shapeCast _ (res_main_v73 V) shapeCasts_S1x4112x1024_S4112x1024)⟩] concatenates_S240x1024_S4112x1024_S4352x1024_d0) bitsLt_bf16_f32
    = fun y => padded (args V).dyc (y 0) (y 1) := by
  funext y
  obtain ⟨r, c, rfl⟩ := pair_ix2 y
  clean_types; pointwise
  unfold padded
  simp only [at_dyc]

theorem out_dyp : truncf (F := Ideal) .bf16 (concatenate S4352x1024 0 [⟨S240x1024, (broadcastInDim S240x1024 ![] bcast_S_S240x1024 (constant (F := Ideal) S_ .f32 0x00000000#32))⟩, ⟨S4112x1024, (shapeCast _ (res_main_v70 V) shapeCasts_S1x4112x1024_S4112x1024)⟩] concatenates_S240x1024_S4112x1024_S4352x1024_d0) bitsLt_bf16_f32
    = fun y => padded (args V).dyp (y 0) (y 1) := by
  funext y
  obtain ⟨r, c, rfl⟩ := pair_ix2 y
  clean_types; pointwise
  unfold padded
  simp only [at_dyp]

theorem out_dzg : truncf (F := Ideal) .bf16 (concatenate S4352x2048 0 [⟨S240x2048, (broadcastInDim S240x2048 ![] bcast_S_S240x2048 (constant (F := Ideal) S_ .f32 0x00000000#32))⟩, ⟨S4112x2048, (shapeCast _ (res_main_v131 V) shapeCasts_S1x4112x2048_S4112x2048)⟩] concatenates_S240x2048_S4112x2048_S4352x2048_d0) bitsLt_bf16_f32
    = fun y => padded (args V).dzg (y 0) (y 1) := by
  funext y
  obtain ⟨r, c, rfl⟩ := pair_ix2 y
  clean_types; pointwise
  unfold padded
  simp only [at_dzg _ h]

theorem out_dconv : concatenate S4352x1024 0 [⟨S240x1024, (broadcastInDim S240x1024 ![] bcast_S_S240x1024 (constant (F := Ideal) S_ .f32 0x00000000#32))⟩, ⟨S4112x1024, (shapeCast _ (res_main_v124 V) shapeCasts_S1x4112x1024_S4112x1024)⟩] concatenates_S240x1024_S4112x1024_S4352x1024_d0
    = fun y => padded (fun i j => (((args V).dconv i j : ℝ) : EReal)) (y 0) (y 1) := by
  funext y
  obtain ⟨r, c, rfl⟩ := pair_ix2 y
  clean_types; pointwise
  unfold padded
  simp only [at_dconv _ _ h]

theorem out_dmw : truncf (F := Ideal) .bf16 (concatenate S4352x1024 0 [⟨S240x1024, (broadcastInDim S240x1024 ![] bcast_S_S240x1024 (constant (F := Ideal) S_ .f32 0x00000000#32))⟩, ⟨S4112x1024, (shapeCast _ (res_main_v82 V) shapeCasts_S1x4112x1024_S4112x1024)⟩] concatenates_S240x1024_S4112x1024_S4352x1024_d0) bitsLt_bf16_f32
    = fun y => padded (args V).dmw (y 0) (y 1) := by
  funext y
  obtain ⟨r, c, rfl⟩ := pair_ix2 y
  clean_types; pointwise
  unfold padded
  simp only [at_dmw]

theorem out_dm : concatenate S4352x1024 0 [⟨S240x1024, (broadcastInDim S240x1024 ![] bcast_S_S240x1024 (constant (F := Ideal) S_ .f32 0x00000000#32))⟩, ⟨S4112x1024, (shapeCast _ (shapeCast _ (transpose S1x4112x4x256 [1, 2, 0, 3] (Host.dotGeneral (F := Ideal) (φ₁ := .f32) (φ₂ := .f32) dot_S4x256x1x4112_S4x256x256_S4x1x4112x256_1_2_23_1_0_0 none (transpose S4x256x1x4112 [2, 3, 0, 1] (shapeCast _ (res_main_v82 V) shapeCasts_S1x4112x1024_S1x4112x4x256) transposes_S1x4112x4x256_S4x256x1x4112_2_3_0_1) (res_main_v50 V)) transposes_S4x1x4112x256_S1x4112x4x256_1_2_0_3) shapeCasts_S1x4112x4x256_S1x4112x1024) shapeCasts_S1x4112x1024_S4112x1024)⟩] concatenates_S240x1024_S4112x1024_S4352x1024_d0
    = fun y => padded (args V).dm (y 0) (y 1) := by
  funext y
  obtain ⟨r, c, rfl⟩ := pair_ix2 y
  clean_types; pointwise
  unfold padded
  simp only [at_dmw, at_wpool]
  rfl

theorem out_dbg : broadcastInDim S1x2048 ![1] bcast_S2048_S1x2048_1 (Host.reduceAdd (F := Ideal) (φ := .f32) (shapeCast _ (Host.reduceAdd (F := Ideal) (φ := .f32) (res_main_v131 V) (constant (F := Ideal) S_ .f32 0x00000000#32) reducesTo_S1x4112x2048_S1x2048_d1 h_S_) shapeCasts_S1x2048_S1x1x2048) (constant (F := Ideal) S_ .f32 0x00000000#32) reducesTo_S1x1x2048_S2048_d0_1 h_S_)
    = fun y => total (fun i j => (args V).dzg i j) (y 1) := by
  funext y
  obtain ⟨r, c, rfl⟩ := pair_ix2 y
  clean_types; pointwise [reduce_heads]
  simp only [at_dzg _ h]
  rfl

theorem out_dlng : broadcastInDim S1x1024 ![1] bcast_S1024_S1x1024_1 (Host.reduceAdd (F := Ideal) (φ := .f32) (shapeCast _ (Host.reduceAdd (F := Ideal) (φ := .f32) (mulf (res_main_v38 V) (res_main_v91 V)) (constant (F := Ideal) S_ .f32 0x00000000#32) reducesTo_S1x4112x1024_S1x1024_d1 h_S_) shapeCasts_S1x1024_S1x1x1024) (constant (F := Ideal) S_ .f32 0x00000000#32) reducesTo_S1x1x1024_S1024_d0_1 h_S_)
    = fun y => total (fun i j => ((xhat ((args V).row i) j : ℝ) : EReal) * (((args V).dln i j : ℝ) : EReal)) (y 1) := by
  funext y
  obtain ⟨r, c, rfl⟩ := pair_ix2 y
  clean_types; pointwise [reduce_heads]
  simp only [at_xhat _ _ h, at_dln _ _ h]
  rfl

theorem out_dlnb : broadcastInDim S1x1024 ![1] bcast_S1024_S1x1024_1 (Host.reduceAdd (F := Ideal) (φ := .f32) (shapeCast _ (Host.reduceAdd (F := Ideal) (φ := .f32) (res_main_v91 V) (constant (F := Ideal) S_ .f32 0x00000000#32) reducesTo_S1x4112x1024_S1x1024_d1 h_S_) shapeCasts_S1x1024_S1x1x1024) (constant (F := Ideal) S_ .f32 0x00000000#32) reducesTo_S1x1x1024_S1024_d0_1 h_S_)
    = fun y => total (fun i j => (((args V).dln i j : ℝ) : EReal)) (y 1) := by
  funext y
  obtain ⟨r, c, rfl⟩ := pair_ix2 y
  clean_types; pointwise [reduce_heads]
  simp only [at_dln _ _ h]
  rfl

theorem out_dbdw : broadcastInDim S1x1024 ![1] bcast_S1024_S1x1024_1 (Host.reduceAdd (F := Ideal) (φ := .f32) (shapeCast _ (Host.reduceAdd (F := Ideal) (φ := .f32) (res_main_v124 V) (constant (F := Ideal) S_ .f32 0x00000000#32) reducesTo_S1x4112x1024_S1x1024_d1 h_S_) shapeCasts_S1x1024_S1x1x1024) (constant (F := Ideal) S_ .f32 0x00000000#32) reducesTo_S1x1x1024_S1024_d0_1 h_S_)
    = fun y => total (fun i j => (((args V).dconv i j : ℝ) : EReal)) (y 1) := by
  funext y
  obtain ⟨r, c, rfl⟩ := pair_ix2 y
  clean_types; pointwise [reduce_heads]
  simp only [at_dconv _ _ h]
  rfl

theorem out_dps : broadcastInDim S1x1024 ![1] bcast_S1024_S1x1024_1 (Host.reduceAdd (F := Ideal) (φ := .f32) (shapeCast _ (Host.reduceAdd (F := Ideal) (φ := .f32) (mulf (res_main_v54 V) (res_main_v77 V)) (constant (F := Ideal) S_ .f32 0x00000000#32) reducesTo_S1x4112x1024_S1x1024_d1 h_S_) shapeCasts_S1x1024_S1x1x1024) (constant (F := Ideal) S_ .f32 0x00000000#32) reducesTo_S1x1x1024_S1024_d0_1 h_S_)
    = fun y => total (fun i j => (args V).mw i j * (args V).dm2 i j) (y 1) := by
  funext y
  obtain ⟨r, c, rfl⟩ := pair_ix2 y
  clean_types; pointwise [reduce_heads]
  simp only [at_mw, at_dm2]
  rfl

end

end Cert.Rows.Ref
-- ==== Proof.Rows.Claims.lean ====
module

public import proofs.«01_k».proof.Defs
public import proofs.«01_k».proof.Proof.Step.Bounds
public import proofs.«01_k».proof.Proof.Rows.Run
public import proofs.«01_k».proof.Proof.Rows.Result
public import proofs.«01_k».proof.Proof.Rows.Reference
public import proofs.«01_k».proof.Proof.Gen.Kernel
public import proofs.«01_k».proof.Proof.Gen.Pre_finite

/-!
# The claims about the rows' backward call

The frames of the three programs, and the equality of the call's eleven results with the gradients that the reference
takes, where the arguments named in the precondition are finite.
-/

@[expose] public section

set_option maxRecDepth 16384

noncomputable section

namespace Cert.Rows

open Cert.Scalars
open Idealize.ShloMosaic Idealize.ShloMosaic.TcCoe Idealize.SL.Sem

theorem frame_kernel : Cert.quiescent_Kernel := fun m ρ _ => by
  refine Eq.mp ?_ (frame (F := Bits) m ρ)
  sl_kernel_rfl

theorem frame_ideal : Cert.quiescent_KernelIdeal := fun m ρ _ => frame (F := Ideal) m ρ

theorem frame_reference : Cert.quiescent_ReferenceIdeal := fun m ρ _ =>
  (θ_run Cert.ReferenceIdeal.defs _ _).mono (fun r h => ⟨fun c => (h c).2.2.2.2.2.2.2.2.2.2.2,
      sem_eq_zero_of_no_sems (by decide) r.2⟩)
    (Cert.ReferenceIdeal.Value.run (F := Ideal) m ρ)

theorem finite_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : (args m c).Finite := by
  obtain ⟨h0, h1, h2, h3, h4, h5⟩ := h c
  exact {
    conv := fun i j => real_of_below (infinity _) h0 (ix3 0 i j)
    bdw := fun j => real_of_below (infinity _) h1 (ix2 0 j)
    lng := fun j => real_of_below (infinity _) h2 (ix2 0 j)
    wco := fun k j => real_of_below (infinity _) h3 (ix3 0 k j)
    wo := fun k j => real_of_below (infinity _) h4 (ix3 0 k j)
    ct := fun i j => real_of_below (infinity _) h5 (ix3 0 i j) }

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Ref.args (StableHlo.launchContents m' c) = args m c := by
  obtain ⟨e0, e1, e2, e3, e4, e5, e6, e7, e8, e9, e10, e11, e12⟩ := h
  unfold Ref.args args
  congr 1
  · exact funext fun k => funext fun j => congrFun e0 (ix3 0 k j)
  · exact funext fun k => funext fun j => congrFun e1 (ix3 0 k j)
  · exact funext fun k => funext fun j => congrFun e2 (ix3 0 k j)
  · exact funext fun j => congrFun e3 (ix2 0 j)
  · exact funext fun j => congrFun e4 (ix2 0 j)
  · exact funext fun j => congrFun e5 (ix2 0 j)
  · exact funext fun j => congrFun e6 (ix2 0 j)
  · exact funext fun j => congrFun e7 (ix2 0 j)
  · exact funext fun k => funext fun j => congrFun e8 (ix3 0 k j)
  · exact funext fun g => funext fun k => funext fun d => congrFun e9 (ix4 0 g k d)
  · exact funext fun k => funext fun j => congrFun e10 (ix3 0 k j)
  · exact funext fun k => funext fun j => congrFun e11 (ix3 0 k j)
  · exact funext fun k => funext fun j => congrFun e12 (ix3 0 k j)

set_option maxHeartbeats 4000000 in
/-- The kernel's results and the reference's are the same formulas of the same arguments. -/
theorem algebraic : Cert.algebraic_KernelIdeal_ReferenceIdeal_pre_finite := by
  intro m g m' g' hpre hargs
  refine ⟨fun c => (dats (F := Ideal) m 0 c).arrAt 15 Cert.KernelIdeal.cfg0.N,
    fun c => (dats (F := Ideal) m 0 c).arrAt 16 Cert.KernelIdeal.cfg0.N,
    fun c => (dats (F := Ideal) m 0 c).arrAt 17 Cert.KernelIdeal.cfg0.N,
    fun c => (dats (F := Ideal) m 0 c).arrAt 18 Cert.KernelIdeal.cfg0.N,
    fun c => (dats (F := Ideal) m 0 c).arrAt 19 Cert.KernelIdeal.cfg0.N,
    fun c => (dats (F := Ideal) m 0 c).arrAt 20 Cert.KernelIdeal.cfg0.N,
    fun c => (dats (F := Ideal) m 0 c).arrAt 21 Cert.KernelIdeal.cfg0.N,
    fun c => (dats (F := Ideal) m 0 c).arrAt 22 Cert.KernelIdeal.cfg0.N,
    fun c => (dats (F := Ideal) m 0 c).arrAt 23 Cert.KernelIdeal.cfg0.N,
    fun c => (dats (F := Ideal) m 0 c).arrAt 24 Cert.KernelIdeal.cfg0.N,
    fun c => (dats (F := Ideal) m 0 c).arrAt 25 Cert.KernelIdeal.cfg0.N,
    ?_, ?_⟩
  · exact (θ_run Cert.KernelIdeal.defs _ _).mono
      (fun r h c => ⟨(h.1 c).1 15, (h.1 c).1 16, (h.1 c).1 17, (h.1 c).1 18, (h.1 c).1 19, (h.1 c).1 20, (h.1 c).1 21, (h.1 c).1 22, (h.1 c).1 23, (h.1 c).1 24, (h.1 c).1 25, h.2.1 c⟩)
      (θ_run_and (run_arrays m g) (frame m g))
  · refine (θ_run Cert.ReferenceIdeal.defs _ _).mono (fun r k c => ?_) (Cert.ReferenceIdeal.Value.run (F := Ideal) m' g')
    have e := args_eq m m' c (hargs c)
    have hf := finite_of_pre m hpre c
    have h : (Ref.args (StableHlo.launchContents m' c)).Finite := e ▸ hf
    obtain ⟨k0, k1, k2, k3, k4, k5, k6, k7, k8, k9, k10, rest⟩ := k c
    refine ⟨?_, ?_, ?_, ?_, ?_, ?_, ?_, ?_, ?_, ?_, ?_, rest⟩
    · exact k0.trans ((Ref.out_dyc h).trans ((congrArg (fun a : Args => fun y : (⟨2, ![4352, 1024]⟩ : Shape).Idx => padded a.dyc (y 0) (y 1)) e).trans (arr_dyc m c hf).symm))
    · exact k1.trans ((Ref.out_dyp h).trans ((congrArg (fun a : Args => fun y : (⟨2, ![4352, 1024]⟩ : Shape).Idx => padded a.dyp (y 0) (y 1)) e).trans (arr_dyp m c hf).symm))
    · exact k2.trans ((Ref.out_dzg h).trans ((congrArg (fun a : Args => fun y : (⟨2, ![4352, 2048]⟩ : Shape).Idx => padded a.dzg (y 0) (y 1)) e).trans (arr_dzg m c hf).symm))
    · exact k3.trans ((Ref.out_dconv h).trans ((congrArg (fun a : Args => fun y : (⟨2, ![4352, 1024]⟩ : Shape).Idx => padded (fun i j => ((a.dconv i j : ℝ) : EReal)) (y 0) (y 1)) e).trans (arr_dconv m c hf).symm))
    · exact k4.trans ((Ref.out_dmw h).trans ((congrArg (fun a : Args => fun y : (⟨2, ![4352, 1024]⟩ : Shape).Idx => padded a.dmw (y 0) (y 1)) e).trans (arr_dmw m c hf).symm))
    · exact k5.trans ((Ref.out_dm h).trans ((congrArg (fun a : Args => fun y : (⟨2, ![4352, 1024]⟩ : Shape).Idx => padded a.dm (y 0) (y 1)) e).trans (arr_dm m c hf).symm))
    · exact k6.trans ((Ref.out_dbg h).trans ((congrArg (fun a : Args => fun y : (⟨2, ![1, 2048]⟩ : Shape).Idx => total a.dzg (y 1)) e).trans (arr_bg m c hf).symm))
    · exact k7.trans ((Ref.out_dlng h).trans ((congrArg (fun a : Args => fun y : (⟨2, ![1, 1024]⟩ : Shape).Idx => total (fun i j => ((xhat (a.row i) j : ℝ) : EReal) * ((a.dln i j : ℝ) : EReal)) (y 1)) e).trans (arr_lng m c hf).symm))
    · exact k8.trans ((Ref.out_dlnb h).trans ((congrArg (fun a : Args => fun y : (⟨2, ![1, 1024]⟩ : Shape).Idx => total (fun i j => ((a.dln i j : ℝ) : EReal)) (y 1)) e).trans (arr_lnb m c hf).symm))
    · exact k9.trans ((Ref.out_dbdw h).trans ((congrArg (fun a : Args => fun y : (⟨2, ![1, 1024]⟩ : Shape).Idx => total (fun i j => ((a.dconv i j : ℝ) : EReal)) (y 1)) e).trans (arr_bdw m c hf).symm))
    · exact k10.trans ((Ref.out_dps h).trans ((congrArg (fun a : Args => fun y : (⟨2, ![1, 1024]⟩ : Shape).Idx => total (fun i j => a.mw i j * a.dm2 i j) (y 1)) e).trans (arr_ps m c hf).symm))

end Cert.Rows
-- ==== Proof.Ffn.Point.lean ====
module

public import proofs.«01_k».proof.Proof.Gen.Kernel2Ideal.Frame.Runs
public import Idealize.ShloMosaic.Lib.Pipeline.ValueKit
public import Idealize.ShloMosaic.Lib.VecWindow

/-!
# The feed-forward body at one point

What the body stores as functions of the blocks it reads, of the three weights it keeps and of the sums so far.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The blocks a point reads, and the three weights. -/
structure Ins (F : FTy → Type) where
  h : Vec F S256x1024 .f32
  tgt : Vec F S256x1024 .f32
  gf : Vec F S1x1024 .f32
  gfin : Vec F S1x1024 .f32
  wg : Vec F S2816x1024 .bf16
  wu : Vec F S2816x1024 .bf16
  wd : Vec F S2816x1024 .bf16

/-- The sums over rows that the points carry on: the loss and the two norms' scales. -/
structure Accs (F : FTy → Type) where
  loss : Vec F S1x1 .f32
  dgf : Vec F S1x1024 .f32
  dgfin : Vec F S1x1024 .f32

namespace Ins

variable (x : Ins F) (i : BitVec 32)

/-- The layer forward: the normalised row, the two branches, the gate and their product. -/
def row : Vec F S256x1024 .f32 := k0_pay8 x.h
def inv1 : Vec F S256x1 .f32 := k0_pay9 x.h
def hat1 : Vec F S256x1024 .f32 := k0_pay10 x.h
def v : Vec F S256x1024 .bf16 := k0_pay11 x.h x.gf
def gate : Vec F S256x2816 .f32 := k0_pay12 x.h x.gf x.wg
def up : Vec F S256x2816 .f32 := k0_pay13 x.h x.gf x.wu
def logi : Vec F S256x2816 .f32 := k0_pay14 x.h x.gf x.wg
def silu : Vec F S256x2816 .f32 := k0_pay15 x.h x.gf x.wg
def f : Vec F S256x2816 .bf16 := k0_pay16 x.h x.gf x.wg x.wu
/-- The last norm and the distance to the target, zero at the first point. -/
def inv2 : Vec F S256x1 .f32 := k0_pay18 x.row x.f x.wd
def hat2 : Vec F S256x1024 .f32 := k0_pay19 x.row x.f x.wd
def diff : Vec F S256x1024 .f32 := k0_pay20 i x.row x.f x.wd x.gfin x.tgt
/-- The gradients at the layer's sum, at the two branches and at the row. -/
def dh2 : Vec F S256x1024 .f32 := k0_pay24 x.inv2 x.hat2 (x.diff i) x.gfin
def dh2b : Vec F S256x1024 .bf16 := k0_pay25 x.inv2 x.hat2 (x.diff i) x.gfin
def dup : Vec F S256x2816 .bf16 := k0_pay27 x.silu x.inv2 x.hat2 (x.diff i) x.gfin x.wd
def dgate : Vec F S256x2816 .bf16 := k0_pay28 x.gate x.up x.logi x.inv2 x.hat2 (x.diff i) x.gfin x.wd
def dh1 : Vec F S256x1024 .f32 := k0_pay3 x.inv1 x.hat1 (x.dh2 i) (x.dup i) (x.dgate i) x.wg x.wu x.gf
def dh1b : Vec F S256x1024 .bf16 := k0_pay4 x.inv1 x.hat1 (x.dh2 i) (x.dup i) (x.dgate i) x.wg x.wu x.gf

/-- The sums after the point, from those before it. -/
def next (a : Accs F) : Accs F where
  loss := k0_pay21 i x.row x.f x.wd x.gfin x.tgt a.loss
  dgf := k0_pay2 x.hat1 (x.dup i) (x.dgate i) x.wg x.wu a.dgf
  dgfin := k0_pay23 x.hat2 (x.diff i) a.dgfin

end Ins

/-- The sums before the first point. -/
def Accs.start : Accs F := ⟨k0_pay5, k0_pay6, k0_pay7⟩

/-- A load of a weight just fetched reads what was fetched. -/
theorem readCov_fetched {κ : Kind} {sp : Space} (v : View sig κ sp S2816x1024 .bf16) (u : S2816x1024.Idx → Elt F .bf16) :
    v.readCov [(⟨Rect.whole (no_index S2816x1024), u⟩ : View.Piece (Elt F) S2816x1024 .bf16)]
      (Rect.unit (s := S2816x1024) ![0, 0] (no_index S2816x1024.size) inb_S2816x1024_S2816x1024_0_0).toLoadRect = u := by
  show View.ld (v.read (Elt F) (v.writes (Elt F) _ _)) _ = _
  rw [View.read_writes_whole]
  exact View.ld_unit_lit' _ _ (by decide)

/-- The grid's coordinate as the body's word. -/
abbrev word (i : grid0.Coords) : BitVec 32 := BitVec.ofNat 32 (i 0).val

end Cert.Ffn
-- ==== Proof.Ffn.First.lean ====
module

public import proofs.«01_k».proof.Proof.Ffn.Point

/-! # The run of the feed-forward body at the first point -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- The body at the first point: the weights are fetched and the sums start from zero. -/
theorem run_first (c : Dev nD) (i : grid0.Coords) (arg1 : Memref sig .tc .vmem S256x1024 .f32) (harg1 : arg1.IsWhole)
    (arg2 : Memref sig .tc .vmem S256x1024 .f32) (harg2 : arg2.IsWhole) (arg3 : Memref sig .tc .vmem S1x1024 .f32)
    (harg3 : arg3.IsWhole) (arg4 : Memref sig .tc .vmem S1x1024 .f32) (harg4 : arg4.IsWhole) (arg8 : Memref sig .tc
    .vmem S256x1024 .f32) (harg8 : arg8.IsWhole) (arg9 : Memref sig .tc .vmem S256x1024 .bf16) (harg9 : arg9.IsWhole)
    (arg10 : Memref sig .tc .vmem S256x1024 .bf16) (harg10 : arg10.IsWhole) (arg11 : Memref sig .tc .vmem S256x2816
    .bf16) (harg11 : arg11.IsWhole) (arg12 : Memref sig .tc .vmem S256x2816 .bf16) (harg12 : arg12.IsWhole) (arg13 :
    Memref sig .tc .vmem S256x2816 .bf16) (harg13 : arg13.IsWhole) (arg14 : Memref sig .tc .vmem S256x1024 .bf16)
    (harg14 : arg14.IsWhole) (arg15 : Memref sig .tc .vmem S1x1 .f32) (harg15 : arg15.IsWhole) (arg16 : Memref sig .tc
    .vmem S1x1024 .f32) (harg16 : arg16.IsWhole) (arg17 : Memref sig .tc .vmem S1x1024 .f32) (harg17 : arg17.IsWhole)
    (arg18 : Memref sig .tc .vmem S2816x1024 .bf16) (harg18 : arg18.IsWhole) (arg19 : Memref sig .tc .vmem S2816x1024
    .bf16) (harg19 : arg19.IsWhole) (arg20 : Memref sig .tc .vmem S2816x1024 .bf16) (harg20 : arg20.IsWhole) (hc0 :
    cond0_0 i) (x : Ins F) (fh0 : HbBuf0 (F := F) c hbM0_0) (fh1 : HbBuf0 (F := F) c hbM0_1) (fh2 : HbBuf0 (F := F) c
    hbM0_2) (hwg : fh0 = x.wg) (hwu : fh1 = x.wu) (hwd : fh2 = x.wd) (W : Waits sig Unit) (K : PUnit → sProp 𝕄) :
    iprop(owns (c : Thread nD τ) arg1 fullShare x.h ∗ owns (c : Thread nD τ) arg2 fullShare x.tgt ∗ owns (c : Thread nD τ)
      arg3 fullShare x.gf ∗ owns (c : Thread nD τ) arg4 fullShare x.gfin ∗ (∃ d, owns (c : Thread nD τ) arg8 fullShare
      d) ∗ (∃ d, owns (c : Thread nD τ) arg9 fullShare d) ∗ (∃ d, owns (c : Thread nD τ) arg10 fullShare d) ∗ (∃ d,
      owns (c : Thread nD τ) arg11 fullShare d) ∗ (∃ d, owns (c : Thread nD τ) arg12 fullShare d) ∗ (∃ d, owns (c :
      Thread nD τ) arg13 fullShare d) ∗ (∃ d, owns (c : Thread nD τ) arg14 fullShare d) ∗ (∃ d, owns (c : Thread nD τ)
      arg15 fullShare d) ∗ (∃ d, owns (c : Thread nD τ) arg16 fullShare d) ∗ (∃ d, owns (c : Thread nD τ) arg17
      fullShare d) ∗ (∃ d, owns (c : Thread nD τ) arg18 fullShare d) ∗ (∃ d, owns (c : Thread nD τ) arg19 fullShare d)
      ∗ (∃ d, owns (c : Thread nD τ) arg20 fullShare d) ∗ semVal ((c : Thread nD τ), SemLoc.dma 23) 0 ∗ semVal ((c :
      Thread nD τ), SemLoc.dma 24) 0 ∗ semVal ((c : Thread nD τ), SemLoc.dma 25) 0 ∗ hbPt0 c hbM0_0 fh0 ∗ hbPt0 c
      hbM0_1 fh1 ∗ hbPt0 c hbM0_2 fh2 ∗ owes (c : Thread nD τ) 0 W ∗ (iprop(owns (c : Thread nD τ) arg1 fullShare x.h
      ∗ owns (c : Thread nD τ) arg2 fullShare x.tgt ∗ owns (c : Thread nD τ) arg3 fullShare x.gf ∗ owns (c : Thread nD
      τ) arg4 fullShare x.gfin ∗ owns (c : Thread nD τ) arg8 fullShare (x.dh1 (word i)) ∗ owns (c : Thread nD τ) arg9
      fullShare (x.dh1b (word i)) ∗ owns (c : Thread nD τ) arg10 fullShare x.v ∗ owns (c : Thread nD τ) arg11
      fullShare x.f ∗ owns (c : Thread nD τ) arg12 fullShare (x.dgate (word i)) ∗ owns (c : Thread nD τ) arg13
      fullShare (x.dup (word i)) ∗ owns (c : Thread nD τ) arg14 fullShare (x.dh2b (word i)) ∗ owns (c : Thread nD τ)
      arg15 fullShare (x.next (word i) .start).loss ∗ owns (c : Thread nD τ) arg16 fullShare (x.next (word i)
      .start).dgf ∗ owns (c : Thread nD τ) arg17 fullShare (x.next (word i) .start).dgfin ∗ owns (c : Thread nD τ)
      arg18 fullShare x.wg ∗ owns (c : Thread nD τ) arg19 fullShare x.wu ∗ owns (c : Thread nD τ) arg20 fullShare x.wd
      ∗ semVal ((c : Thread nD τ), SemLoc.dma 23) 0 ∗ semVal ((c : Thread nD τ), SemLoc.dma 24) 0 ∗ semVal ((c :
      Thread nD τ), SemLoc.dma 25) 0 ∗ hbPt0 c hbM0_0 fh0 ∗ hbPt0 c hbM0_1 fh1 ∗ hbPt0 c hbM0_2 fh2 ∗ (∃ W', owes (c :
      Thread nD τ) 0 W')) -∗ K ⟨⟩))
      ⊢ wp frame (wpE (defs₀ (F := F)) Variants.none c none) Set.univ (cc0_ffn_fwd_bwd i arg1 harg1 arg2 harg2 arg3 harg3 arg4
        harg4 (Memref.whole main_v7) (Memref.isWhole_whole _) (Memref.whole main_v10) (Memref.isWhole_whole _)
        (Memref.whole main_v12) (Memref.isWhole_whole _) arg8 harg8 arg9 harg9 arg10 harg10 arg11 harg11 arg12 harg12
        arg13 harg13 arg14 harg14 arg15 harg15 arg16 harg16 arg17 harg17 arg18 harg18 arg19 harg19 arg20 harg20
        cc0_scratch3) K := by
  simp only [cc0_ffn_fwd_bwd_eq_skeleton]; unfold cc0_ffn_fwd_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%d6, %f6, -, H6⟩, ⟨%d7, %f7, -, H7⟩, ⟨%d8, %f8, -, H8⟩, ⟨%d9, %f9, -, H9⟩, ⟨%d10, %f10, -, H10⟩, ⟨%d11, %f11, -,
    H11⟩, ⟨%d12, %f12, -, H12⟩, ⟨%d13, %f13, -, H13⟩, ⟨%ds0, %fs0, -, HS0⟩, ⟨%ds1, %fs1, -, HS1⟩, ⟨%ds2, %fs2, -,
    HS2⟩, Hq0, Hq1, Hq2, Hh0, Hh1, Hh2, HW, Hk⟩
  obtain rfl := harg1.eq_unread hf0; obtain rfl := harg2.eq_unread hf1
  obtain rfl := harg3.eq_unread hf2; obtain rfl := harg4.eq_unread hf3
  sl_exec (disch := first | sl_exact hc0)
  sl_step
  iapply Hk
  isplitl [H0]; · iexists _; isplitr; swap; (iexact H0); ipureintro; exact harg1.read_unread _
  isplitl [H1]; · iexists _; isplitr; swap; (iexact H1); ipureintro; exact harg2.read_unread _
  isplitl [H2]; · iexists _; isplitr; swap; (iexact H2); ipureintro; exact harg3.read_unread _
  isplitl [H3]; · iexists _; isplitr; swap; (iexact H3); ipureintro; exact harg4.read_unread _
  isplitl [H4]
  · iexists _; isplitr
    swap; · iexact H4
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H5]
  · iexists _; isplitr
    swap; · iexact H5
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H6]
  · iexists _; isplitr
    swap; · iexact H6
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H7]
  · iexists _; isplitr
    swap; · iexact H7
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H8]
  · iexists _; isplitr
    swap; · iexact H8
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H9]
  · iexists _; isplitr
    swap; · iexact H9
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H10]
  · iexists _; isplitr
    swap; · iexact H10
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H11]
  · iexists _; isplitr
    swap; · iexact H11
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H12]
  · iexists _; isplitr
    swap; · iexact H12
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [H13]
  · iexists _; isplitr
    swap; · iexact H13
    ipureintro
    refine (View.read_writes_full _ _ _ _ _).trans ?_; frame_open; simp (disch := decide) only [readCov_fetched, View.ld_unit_lit', View.readCov_unit_lit',
      View.readCov_cons_unit_lit', View.readAt_eq_ld, Memref.IsWhole.read_unread]; subst hwg hwu hwd; rfl
  isplitl [HS0]
  · iexists _; isplitr
    swap; · iexact HS0
    ipureintro
    refine (View.read_writes_whole _ _ _).trans ?_; subst hwg hwu hwd; rfl
  isplitl [HS1]
  · iexists _; isplitr
    swap; · iexact HS1
    ipureintro
    refine (View.read_writes_whole _ _ _).trans ?_; subst hwg hwu hwd; rfl
  isplitl [HS2]
  · iexists _; isplitr
    swap; · iexact HS2
    ipureintro
    refine (View.read_writes_whole _ _ _).trans ?_; subst hwg hwu hwd; rfl
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  iexists _; iexact HW

end Cert.Ffn
-- ==== Proof.Ffn.Next.lean ====
module

public import proofs.«01_k».proof.Proof.Ffn.First

/-! # The run of the feed-forward body at a later point -/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- The body at a later point: the sums go on from `a`. -/
theorem run_next (c : Dev nD) (i : grid0.Coords) (arg1 : Memref sig .tc .vmem S256x1024 .f32) (harg1 : arg1.IsWhole)
    (arg2 : Memref sig .tc .vmem S256x1024 .f32) (harg2 : arg2.IsWhole) (arg3 : Memref sig .tc .vmem S1x1024 .f32)
    (harg3 : arg3.IsWhole) (arg4 : Memref sig .tc .vmem S1x1024 .f32) (harg4 : arg4.IsWhole) (arg8 : Memref sig .tc
    .vmem S256x1024 .f32) (harg8 : arg8.IsWhole) (arg9 : Memref sig .tc .vmem S256x1024 .bf16) (harg9 : arg9.IsWhole)
    (arg10 : Memref sig .tc .vmem S256x1024 .bf16) (harg10 : arg10.IsWhole) (arg11 : Memref sig .tc .vmem S256x2816
    .bf16) (harg11 : arg11.IsWhole) (arg12 : Memref sig .tc .vmem S256x2816 .bf16) (harg12 : arg12.IsWhole) (arg13 :
    Memref sig .tc .vmem S256x2816 .bf16) (harg13 : arg13.IsWhole) (arg14 : Memref sig .tc .vmem S256x1024 .bf16)
    (harg14 : arg14.IsWhole) (arg15 : Memref sig .tc .vmem S1x1 .f32) (harg15 : arg15.IsWhole) (arg16 : Memref sig .tc
    .vmem S1x1024 .f32) (harg16 : arg16.IsWhole) (arg17 : Memref sig .tc .vmem S1x1024 .f32) (harg17 : arg17.IsWhole)
    (arg18 : Memref sig .tc .vmem S2816x1024 .bf16) (harg18 : arg18.IsWhole) (arg19 : Memref sig .tc .vmem S2816x1024
    .bf16) (harg19 : arg19.IsWhole) (arg20 : Memref sig .tc .vmem S2816x1024 .bf16) (harg20 : arg20.IsWhole) (hc0 :
    ¬cond0_0 i) (x : Ins F) (a : Accs F) (fh0 : HbBuf0 (F := F) c hbM0_0) (fh1 : HbBuf0 (F := F) c hbM0_1) (fh2 :
    HbBuf0 (F := F) c hbM0_2)  (W : Waits sig Unit) (K : PUnit → sProp 𝕄) :
    iprop(owns (c : Thread nD τ) arg1 fullShare x.h ∗ owns (c : Thread nD τ) arg2 fullShare x.tgt ∗ owns (c : Thread nD τ)
      arg3 fullShare x.gf ∗ owns (c : Thread nD τ) arg4 fullShare x.gfin ∗ (∃ d, owns (c : Thread nD τ) arg8 fullShare
      d) ∗ (∃ d, owns (c : Thread nD τ) arg9 fullShare d) ∗ (∃ d, owns (c : Thread nD τ) arg10 fullShare d) ∗ (∃ d,
      owns (c : Thread nD τ) arg11 fullShare d) ∗ (∃ d, owns (c : Thread nD τ) arg12 fullShare d) ∗ (∃ d, owns (c :
      Thread nD τ) arg13 fullShare d) ∗ (∃ d, owns (c : Thread nD τ) arg14 fullShare d) ∗ owns (c : Thread nD τ) arg15
      fullShare a.loss ∗ owns (c : Thread nD τ) arg16 fullShare a.dgf ∗ owns (c : Thread nD τ) arg17 fullShare a.dgfin
      ∗ owns (c : Thread nD τ) arg18 fullShare x.wg ∗ owns (c : Thread nD τ) arg19 fullShare x.wu ∗ owns (c : Thread
      nD τ) arg20 fullShare x.wd ∗ semVal ((c : Thread nD τ), SemLoc.dma 23) 0 ∗ semVal ((c : Thread nD τ), SemLoc.dma
      24) 0 ∗ semVal ((c : Thread nD τ), SemLoc.dma 25) 0 ∗ hbPt0 c hbM0_0 fh0 ∗ hbPt0 c hbM0_1 fh1 ∗ hbPt0 c hbM0_2
      fh2 ∗ owes (c : Thread nD τ) 0 W ∗ (iprop(owns (c : Thread nD τ) arg1 fullShare x.h ∗ owns (c : Thread nD τ)
      arg2 fullShare x.tgt ∗ owns (c : Thread nD τ) arg3 fullShare x.gf ∗ owns (c : Thread nD τ) arg4 fullShare x.gfin
      ∗ owns (c : Thread nD τ) arg8 fullShare (x.dh1 (word i)) ∗ owns (c : Thread nD τ) arg9 fullShare (x.dh1b (word
      i)) ∗ owns (c : Thread nD τ) arg10 fullShare x.v ∗ owns (c : Thread nD τ) arg11 fullShare x.f ∗ owns (c : Thread
      nD τ) arg12 fullShare (x.dgate (word i)) ∗ owns (c : Thread nD τ) arg13 fullShare (x.dup (word i)) ∗ owns (c :
      Thread nD τ) arg14 fullShare (x.dh2b (word i)) ∗ owns (c : Thread nD τ) arg15 fullShare (x.next (word i) a).loss
      ∗ owns (c : Thread nD τ) arg16 fullShare (x.next (word i) a).dgf ∗ owns (c : Thread nD τ) arg17 fullShare
      (x.next (word i) a).dgfin ∗ owns (c : Thread nD τ) arg18 fullShare x.wg ∗ owns (c : Thread nD τ) arg19 fullShare
      x.wu ∗ owns (c : Thread nD τ) arg20 fullShare x.wd ∗ semVal ((c : Thread nD τ), SemLoc.dma 23) 0 ∗ semVal ((c :
      Thread nD τ), SemLoc.dma 24) 0 ∗ semVal ((c : Thread nD τ), SemLoc.dma 25) 0 ∗ hbPt0 c hbM0_0 fh0 ∗ hbPt0 c
      hbM0_1 fh1 ∗ hbPt0 c hbM0_2 fh2 ∗ (∃ W', owes (c : Thread nD τ) 0 W')) -∗ K ⟨⟩))
      ⊢ wp frame (wpE (defs₀ (F := F)) Variants.none c none) Set.univ (cc0_ffn_fwd_bwd i arg1 harg1 arg2 harg2 arg3 harg3 arg4
        harg4 (Memref.whole main_v7) (Memref.isWhole_whole _) (Memref.whole main_v10) (Memref.isWhole_whole _)
        (Memref.whole main_v12) (Memref.isWhole_whole _) arg8 harg8 arg9 harg9 arg10 harg10 arg11 harg11 arg12 harg12
        arg13 harg13 arg14 harg14 arg15 harg15 arg16 harg16 arg17 harg17 arg18 harg18 arg19 harg19 arg20 harg20
        cc0_scratch3) K := by
  simp only [cc0_ffn_fwd_bwd_eq_skeleton]; unfold cc0_ffn_fwd_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩,
    ⟨%d6, %f6, -, H6⟩, ⟨%d7, %f7, -, H7⟩, ⟨%d8, %f8, -, H8⟩, ⟨%d9, %f9, -, H9⟩, ⟨%d10, %f10, -, H10⟩, ⟨%f11, %hf11,
    H11⟩, ⟨%f12, %hf12, H12⟩, ⟨%f13, %hf13, H13⟩, ⟨%fs0, %hfs0, HS0⟩, ⟨%fs1, %hfs1, HS1⟩, ⟨%fs2, %hfs2, HS2⟩, Hq0,
    Hq1, Hq2, Hh0, Hh1, Hh2, HW, Hk⟩
  obtain rfl := harg1.eq_unread hf0; obtain rfl := harg2.eq_unread hf1
  obtain rfl := harg3.eq_unread hf2; obtain rfl := harg4.eq_unread hf3
  obtain rfl := harg15.eq_unread hf11; obtain rfl := harg16.eq_unread hf12
  obtain rfl := harg17.eq_unread hf13; obtain rfl := harg18.eq_unread hfs0
  obtain rfl := harg19.eq_unread hfs1; obtain rfl := harg20.eq_unread hfs2
  sl_exec (disch := first | sl_exact hc0)
  sl_step
  iapply Hk
  isplitl [H0]; · iexists _; isplitr; swap; (iexact H0); ipureintro; exact harg1.read_unread _
  isplitl [H1]; · iexists _; isplitr; swap; (iexact H1); ipureintro; exact harg2.read_unread _
  isplitl [H2]; · iexists _; isplitr; swap; (iexact H2); ipureintro; exact harg3.read_unread _
  isplitl [H3]; · iexists _; isplitr; swap; (iexact H3); ipureintro; exact harg4.read_unread _
  isplitl [H4]
  · iexists _; isplitr
    swap; · iexact H4
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H5]
  · iexists _; isplitr
    swap; · iexact H5
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H6]
  · iexists _; isplitr
    swap; · iexact H6
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H7]
  · iexists _; isplitr
    swap; · iexact H7
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H8]
  · iexists _; isplitr
    swap; · iexact H8
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H9]
  · iexists _; isplitr
    swap; · iexact H9
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H10]
  · iexists _; isplitr
    swap; · iexact H10
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H11]
  · iexists _; isplitr
    swap; · iexact H11
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H12]
  · iexists _; isplitr
    swap; · iexact H12
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [H13]
  · iexists _; isplitr
    swap; · iexact H13
    ipureintro
    refine (View.read_writes_full _ _ _ _ _).trans ?_; frame_open; simp (disch := decide) only [View.ld_unit_lit', View.readCov_unit_lit',
      View.readCov_cons_unit_lit', View.readAt_eq_ld, Memref.IsWhole.read_unread]; rfl
  isplitl [HS0]; · iexists _; isplitr; swap; (iexact HS0); ipureintro; exact harg18.read_unread _
  isplitl [HS1]; · iexists _; isplitr; swap; (iexact HS1); ipureintro; exact harg19.read_unread _
  isplitl [HS2]; · iexists _; isplitr; swap; (iexact HS2); ipureintro; exact harg20.read_unread _
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  iexists _; iexact HW

end Cert.Ffn
-- ==== Proof.Ffn.Body.lean ====
module

public import proofs.«01_k».proof.Proof.Ffn.Next

/-!
# The feed-forward body at every point

The contents of every buffer after each point, and the body's triple from the two runs of `First` and `Next`.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The blocks of point `t` and the weights. -/
def ins (c : Dev nD) (t : Fin cfg0.N) : Ins F where
  h := iblk m c 0 t
  tgt := iblk m c 1 t
  gf := iblk m c 2 t
  gfin := iblk m c 3 t
  wg := V m c main_v7
  wu := V m c main_v10
  wd := V m c main_v12

/-- The sums after point `n`. -/
def sums (c : Dev nD) : (n : ℕ) → n < cfg0.N → Accs F
  | 0, h => (ins m c ⟨0, h⟩).next (word (grid0.coords ⟨0, h⟩)) .start
  | n + 1, h => (ins m c ⟨n + 1, h⟩).next (word (grid0.coords ⟨n + 1, h⟩)) (sums c n (Nat.lt_of_succ_lt h))

theorem sums_first (c : Dev nD) (t : Fin cfg0.N) (h : t.val % 17 = 0) :
    sums m c t.val t.isLt = (ins m c t).next (word (grid0.coords t)) .start := by
  have hN : t.val < 17 := lt_of_lt_of_eq t.isLt (show cfg0.N = 17 from N_0)
  obtain ⟨n, hn⟩ := t
  cases n with
  | zero => rfl
  | succ n => exact absurd h (by dsimp only at hN ⊢; omega)

theorem sums_next (c : Dev nD) (t : Fin cfg0.N) (h : ¬t.val % 17 = 0) :
    sums m c t.val t.isLt = (ins m c t).next (word (grid0.coords t))
      (sums m c (t.val - 1) (Nat.lt_of_le_of_lt (Nat.sub_le _ _) t.isLt)) := by
  obtain ⟨n, hn⟩ := t
  cases n with
  | zero => exact absurd (Nat.zero_mod 17) h
  | succ n => rfl

/-- The scratch after a point: the weights; the generator's register, the counters and the weights' arrays as they were. -/
def kept (c : Dev nD) : sProp 𝕄 :=
  iprop(iprop(owns (c : Thread nD τ) scM0_0 fullShare (V m c main_v7) ∗ owns (c : Thread nD τ) scM0_1 fullShare (V m c
    main_v10) ∗ owns (c : Thread nD τ) scM0_2 fullShare (V m c main_v12)) ∗ (∃ r, prngReg c r) ∗ iprop(semVal ((c :
    Thread nD τ), SemLoc.dma 23) 0 ∗ semVal ((c : Thread nD τ), SemLoc.dma 24) 0 ∗ semVal ((c : Thread nD τ),
    SemLoc.dma 25) 0) ∗ iprop(hbPt0 c hbM0_0 (V m c main_v7) ∗ hbPt0 c hbM0_1 (V m c main_v10) ∗ hbPt0 c hbM0_2 (V m c
    main_v12)))

/-- The invariant: before the first point what the launch hands over, afterwards `kept`. -/
def inv (c : Dev nD) (n : ℕ) : sProp 𝕄 := if n = 0 then Pipeline.ΦD osem0 spec0 H0 (V m) c else kept m c

theorem inv_start (c : Dev nD) {n : ℕ} (h : n = 0) : inv m c n = Pipeline.ΦD osem0 spec0 H0 (V m) c := if_pos h

theorem inv_later (c : Dev nD) {n : ℕ} (h : ¬n = 0) : inv m c n = kept m c := if_neg h

/-- The contents the proof goes by: the arrays as the region finds them; after a point each input's buffer at its block,
    each result's at what the body stored. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (ins m c t).dh1 (word (grid0.coords t))
    | ⟨5, _⟩ => (ins m c t).dh1b (word (grid0.coords t))
    | ⟨6, _⟩ => (ins m c t).v
    | ⟨7, _⟩ => (ins m c t).f
    | ⟨8, _⟩ => (ins m c t).dgate (word (grid0.coords t))
    | ⟨9, _⟩ => (ins m c t).dup (word (grid0.coords t))
    | ⟨10, _⟩ => (ins m c t).dh2b (word (grid0.coords t))
    | ⟨11, _⟩ => (sums m c t.val t.isLt).loss
    | ⟨12, _⟩ => (sums m c t.val t.isLt).dgf
    | ⟨13, _⟩ => (sums m c t.val t.isLt).dgfin
    | ⟨_ + 14, h⟩ => absurd h (Nat.not_lt.2 (Nat.le_add_left _ _))
  Φ t := inv m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (ins m c t).dh1 (word (grid0.coords t)) := by
    dsimp only [dats]
theorem after5 (c : Dev nD) (t : Fin cfg0.N) : (dats m 0 c).after 5 t = (ins m c t).dh1b (word (grid0.coords t)) := by
    dsimp only [dats]
theorem after6 (c : Dev nD) (t : Fin cfg0.N) : (dats m 0 c).after 6 t = (ins m c t).v := by dsimp only [dats]
theorem after7 (c : Dev nD) (t : Fin cfg0.N) : (dats m 0 c).after 7 t = (ins m c t).f := by dsimp only [dats]
theorem after8 (c : Dev nD) (t : Fin cfg0.N) : (dats m 0 c).after 8 t = (ins m c t).dgate (word (grid0.coords t)) :=
    by dsimp only [dats]
theorem after9 (c : Dev nD) (t : Fin cfg0.N) : (dats m 0 c).after 9 t = (ins m c t).dup (word (grid0.coords t)) := by
    dsimp only [dats]
theorem after10 (c : Dev nD) (t : Fin cfg0.N) : (dats m 0 c).after 10 t = (ins m c t).dh2b (word (grid0.coords t)) :=
    by dsimp only [dats]
theorem after11 (c : Dev nD) (t : Fin cfg0.N) : (dats m 0 c).after 11 t = (sums m c t.val t.isLt).loss := by dsimp
    only [dats]
theorem after12 (c : Dev nD) (t : Fin cfg0.N) : (dats m 0 c).after 12 t = (sums m c t.val t.isLt).dgf := by dsimp only
    [dats]
theorem after13 (c : Dev nD) (t : Fin cfg0.N) : (dats m 0 c).after 13 t = (sums m c t.val t.isLt).dgfin := by dsimp
    only [dats]

/-- An input's buffer holds its block at every point. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- A sum's buffer holds, at a later point, what the point before left. -/
theorem before11 (c : Dev nD) (t : Fin cfg0.N) (h : ¬t.val % 17 = 0) (d) :
    (dats m 0 c).before 11 t d = (sums m c (t.val - 1) (Nat.lt_of_le_of_lt (Nat.sub_le _ _) t.isLt)).loss := by
  have hN : t.val < 17 := lt_of_lt_of_eq t.isLt (show cfg0.N = 17 from N_0)
  rw [Dat.before_out_kept _ 11 rfl t (by omega)
    (Bool.eq_false_iff.mpr fun h => by have := (flush0_11 _).mp h; dsimp only at this; omega) (fun _ => rfl) (fun _ _ => rfl)]
  dsimp only [dats]
theorem before12 (c : Dev nD) (t : Fin cfg0.N) (h : ¬t.val % 17 = 0) (d) :
    (dats m 0 c).before 12 t d = (sums m c (t.val - 1) (Nat.lt_of_le_of_lt (Nat.sub_le _ _) t.isLt)).dgf := by
  have hN : t.val < 17 := lt_of_lt_of_eq t.isLt (show cfg0.N = 17 from N_0)
  rw [Dat.before_out_kept _ 12 rfl t (by omega)
    (Bool.eq_false_iff.mpr fun h => by have := (flush0_12 _).mp h; dsimp only at this; omega) (fun _ => rfl) (fun _ _ => rfl)]
  dsimp only [dats]
theorem before13 (c : Dev nD) (t : Fin cfg0.N) (h : ¬t.val % 17 = 0) (d) :
    (dats m 0 c).before 13 t d = (sums m c (t.val - 1) (Nat.lt_of_le_of_lt (Nat.sub_le _ _) t.isLt)).dgfin := by
  have hN : t.val < 17 := lt_of_lt_of_eq t.isLt (show cfg0.N = 17 from N_0)
  rw [Dat.before_out_kept _ 13 rfl t (by omega)
    (Bool.eq_false_iff.mpr fun h => by have := (flush0_13 _).mp h; dsimp only at this; omega) (fun _ => rfl) (fun _ _ => rfl)]
  dsimp only [dats]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0_0 t) fullShare
    ((dats m 0 c).before 0 t d)) ∗ (∃ d, owns (c : Thread nD τ) (ms0_1 t) fullShare ((dats m 0 c).before 1 t d)) ∗ (∃
    d, owns (c : Thread nD τ) (ms0_2 t) fullShare ((dats m 0 c).before 2 t d)) ∗ (∃ d, owns (c : Thread nD τ) (ms0_3
    t) fullShare ((dats m 0 c).before 3 t d)) ∗ (∃ d, owns (c : Thread nD τ) (ms0_4 t) fullShare ((dats m 0 c).before
    4 t d)) ∗ (∃ d, owns (c : Thread nD τ) (ms0_5 t) fullShare ((dats m 0 c).before 5 t d)) ∗ (∃ d, owns (c : Thread
    nD τ) (ms0_6 t) fullShare ((dats m 0 c).before 6 t d)) ∗ (∃ d, owns (c : Thread nD τ) (ms0_7 t) fullShare ((dats m
    0 c).before 7 t d)) ∗ (∃ d, owns (c : Thread nD τ) (ms0_8 t) fullShare ((dats m 0 c).before 8 t d)) ∗ (∃ d, owns
    (c : Thread nD τ) (ms0_9 t) fullShare ((dats m 0 c).before 9 t d)) ∗ (∃ d, owns (c : Thread nD τ) (ms0_10 t)
    fullShare ((dats m 0 c).before 10 t d)) ∗ (∃ d, owns (c : Thread nD τ) (ms0_11 t) fullShare ((dats m 0 c).before
    11 t d)) ∗ (∃ d, owns (c : Thread nD τ) (ms0_12 t) fullShare ((dats m 0 c).before 12 t d)) ∗ (∃ d, owns (c :
    Thread nD τ) (ms0_13 t) fullShare ((dats m 0 c).before 13 t d)))

def bodyPost (c : Dev nD) (t : Fin cfg0.N) : sProp 𝕄 :=
  iprop((dats m 0 c).Φ t.succ ∗ (dats m 0 c).owesAt () t.succ ∗ owns (c : Thread nD τ) (ms0_0 t) fullShare ((dats m 0
    c).after 0 t) ∗ owns (c : Thread nD τ) (ms0_1 t) fullShare ((dats m 0 c).after 1 t) ∗ owns (c : Thread nD τ)
    (ms0_2 t) fullShare ((dats m 0 c).after 2 t) ∗ owns (c : Thread nD τ) (ms0_3 t) fullShare ((dats m 0 c).after 3 t)
    ∗ owns (c : Thread nD τ) (ms0_4 t) fullShare ((dats m 0 c).after 4 t) ∗ owns (c : Thread nD τ) (ms0_5 t) fullShare
    ((dats m 0 c).after 5 t) ∗ owns (c : Thread nD τ) (ms0_6 t) fullShare ((dats m 0 c).after 6 t) ∗ owns (c : Thread
    nD τ) (ms0_7 t) fullShare ((dats m 0 c).after 7 t) ∗ owns (c : Thread nD τ) (ms0_8 t) fullShare ((dats m 0
    c).after 8 t) ∗ owns (c : Thread nD τ) (ms0_9 t) fullShare ((dats m 0 c).after 9 t) ∗ owns (c : Thread nD τ)
    (ms0_10 t) fullShare ((dats m 0 c).after 10 t) ∗ owns (c : Thread nD τ) (ms0_11 t) fullShare ((dats m 0 c).after
    11 t) ∗ owns (c : Thread nD τ) (ms0_12 t) fullShare ((dats m 0 c).after 12 t) ∗ owns (c : Thread nD τ) (ms0_13 t)
    fullShare ((dats m 0 c).after 13 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = kept m c from inv_later m c (Nat.succ_ne_zero t.val),
    after0, after1, after2, after3, after4, after5, after6, after7, after8, after9, after10, after11, after12, after13]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · rw [show (dats m 0 c).Φ t.castSucc = Pipeline.ΦD osem0 spec0 H0 (V m) c from inv_start m c (show t.val = 0 by omega), PhiD0_eq,
      sums_first m c t h0]
    unfold kept
    iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3,
      H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
      ⟨%d13, H13⟩⟩
    iapply (run_first c (grid0.coords t) _ _ _ _ _ _ _ _ _ _ _ _ _ _ _ _ _ _ _ _ _ _ _ _ _ _ _ _ _ _ _ _ _ _
      ((hcond0_0 t).mpr h0) (ins m c t) (V m c main_v7) (V m c main_v10) (V m c main_v12) rfl rfl rfl W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, H13, HS0, HS1, HS2, Hq0, Hq1, Hq2, Hh0, Hh1, Hh2, ⟨%W',
      HW'⟩⟩
    isplitl [HS0 HS1 HS2 Hg Hq0 Hq1 Hq2 Hh0 Hh1 Hh2]
    · isplitl [HS0 HS1 HS2]
      · isplitl [HS0]; · iexact HS0
        isplitl [HS1]; · iexact HS1
        iexact HS2
      isplitl [Hg]; · iexact Hg
      isplitl [Hq0 Hq1 Hq2]
      · isplitl [Hq0]; · iexact Hq0
        isplitl [Hq1]; · iexact Hq1
        iexact Hq2
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show (dats m 0 c).Φ t.castSucc = kept m c from inv_later m c (show ¬t.val = 0 by omega), sums_next m c t h0]
    simp only [before11 m c t h0, before12 m c t h0, before13 m c t h0]
    unfold kept
    iintro ⟨⟨⟨HS0, HS1, HS2⟩, Hg, ⟨Hq0, Hq1, Hq2⟩, ⟨Hh0, Hh1, Hh2⟩⟩, ⟨%W, -, HW⟩, ⟨%d0, H0⟩, ⟨%d1, H1⟩, ⟨%d2, H2⟩, ⟨%d3,
      H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩,
      ⟨%d13, H13⟩⟩
    iapply (run_next c (grid0.coords t) _ _ _ _ _ _ _ _ _ _ _ _ _ _ _ _ _ _ _ _ _ _ _ _ _ _ _ _ _ _ _ _ _ _
      (fun h => h0 ((hcond0_0 t).mp h)) (ins m c t) _ (V m c main_v7) (V m c main_v10) (V m c main_v12) W _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexact H11
    isplitl [H12]; · iexact H12
    isplitl [H13]; · iexact H13
    isplitl [HS0]; · iexact HS0
    isplitl [HS1]; · iexact HS1
    isplitl [HS2]; · iexact HS2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [HW]; · iexact HW
    iintro ⟨H0, H1, H2, H3, H4, H5, H6, H7, H8, H9, H10, H11, H12, H13, HS0, HS1, HS2, Hq0, Hq1, Hq2, Hh0, Hh1, Hh2, ⟨%W',
      HW'⟩⟩
    isplitl [HS0 HS1 HS2 Hg Hq0 Hq1 Hq2 Hh0 Hh1 Hh2]
    · isplitl [HS0 HS1 HS2]
      · isplitl [HS0]; · iexact HS0
        isplitl [HS1]; · iexact HS1
        iexact HS2
      isplitl [Hg]; · iexact Hg
      isplitl [Hq0 Hq1 Hq2]
      · isplitl [Hq0]; · iexact Hq0
        isplitl [Hq1]; · iexact Hq1
        iexact Hq2
      isplitl [Hh0]; · iexact Hh0
      isplitl [Hh1]; · iexact Hh1
      iexact Hh2
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

end Cert.Ffn
-- ==== Proof.Ffn.Run.lean ====
module

public import proofs.«01_k».proof.Proof.Ffn.Body

/-!
# The run of the feed-forward program

It terminates, its arrays hold what the points write back, the arguments are unchanged and no counter is left raised.
-/

@[expose] public section

set_option maxRecDepth 16384

noncomputable section

namespace Cert.Ffn

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point, -/
theorem inv_in (c : Dev nD) : Pipeline.ΦD osem0 spec0 H0 (V m) c ⊢ (dats m 0 c).Φ 0 := by
  rw [show (dats m 0 c).Φ 0 = Pipeline.ΦD osem0 spec0 H0 (V m) c from inv_start m c rfl]

/-- and what the last point leaves can be handed back. -/
theorem inv_out (c : Dev nD) : (dats m 0 c).Φ (Fin.last cfg0.N) ⊢ Pipeline.ΦD osem0 spec0 H0 (V m) c := by
  rw [show (dats m 0 c).Φ (Fin.last cfg0.N) = kept m c from
    inv_later m c (n := (Fin.last cfg0.N).val) (by rw [Fin.val_last]; have : cfg0.N = 17 := N_0; omega), PhiD0_eq]
  unfold kept
  iintro ⟨⟨HS0, HS1, HS2⟩, Hg, Hq, Hh⟩
  isplitl [HS0 HS1 HS2]
  · isplitl [HS0]; · iexists _; iexact HS0
    isplitl [HS1]; · iexists _; iexact HS1
    iexists _; iexact HS2
  isplitl [Hg]; · iexact Hg
  isplitl [Hq]; · iexact Hq
  iexact Hh

set_option backward.isDefEq.respectTransparency.types false in
/-- The program's run: every final state holds the arrays the points wrote and no counter raised. -/
theorem run_quiescent : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ
    main (hbody := fun c => (body_obligation m c).loose) (hshare := fun c => (dats m 0 c).share_full fun _ => rfl)
    (howed := fun _ _ => rfl) (V := V m) (hmain := hmain m Variants.none) (hA := A_eq m) (hin := inv_in m)
    (hout := inv_out m)

theorem run_arrays : θ_run defs (onTc (τ := τ) (main (F := F))) (s₀ m ρ)
    (Pipeline.FramePost cfgs (dats m) 0 (V m)) :=
  (θ_run defs _ _).mono (fun _ h => h.1) (run_quiescent m ρ)

/-- The frame of the program at any values: the arguments unchanged, no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_quiescent m ρ))

end Cert.Ffn
-- ==== Proof.Step.Rms.lean ====
/-
  One row of 1024 reals divided by its root mean square, and the gradient of that in two spellings.
-/
module

public import proofs.«01_k».proof.Proof.Step.Scalars

@[expose] public section

noncomputable section

namespace Cert.Scalars

open Idealize.ShloMosaic

/-- The epsilon of the root mean square. -/
def rmsEps : ℝ := (Ideal.ofBits .f32 0x358637BD#32 : EReal).toReal

theorem lit_rms_eps : Ideal.ofBits .f32 0x358637BD#32 = ((rmsEps : ℝ) : EReal) ∧ 0 < rmsEps := by
  have h : Ideal.ofBits .f32 0x358637BD#32 = ((8796093 / 8796093022208 : ℝ) : EReal) := by
    simp [Ideal.ofBits, Ideal.ieee, -EReal.coe_mul, -EReal.coe_neg]; norm_num
  unfold rmsEps
  rw [h, EReal.toReal_coe]
  norm_num

theorem lit_one : Ideal.ofBits .f32 0x3F800000#32 = ((1 : ℝ) : EReal) := by
  simp [Ideal.ofBits, Ideal.ieee, -EReal.coe_mul]; norm_num

theorem lit_two : Ideal.ofBits .f32 0x40000000#32 = ((2 : ℝ) : EReal) := by
  simp [Ideal.ofBits, Ideal.ieee, -EReal.coe_mul]; norm_num

theorem lit_inv_width : Ideal.ofBits .f32 0x3A800000#32 = ((1 / 1024 : ℝ) : EReal) := by
  simp [Ideal.ofBits, Ideal.ieee, -EReal.coe_mul]; norm_num

/-- The mean square with the epsilon added. -/
def power (x : Fin 1024 → ℝ) : ℝ := (∑ j, x j * x j) / 1024 + rmsEps

def rrms (x : Fin 1024 → ℝ) : ℝ := (Real.sqrt (power x))⁻¹

def unit (x : Fin 1024 → ℝ) (j : Fin 1024) : ℝ := x j * rrms x

/-- The gradient of `unit`, `d` being the cotangent of its result. -/
def dunit (x d : Fin 1024 → ℝ) (j : Fin 1024) : ℝ :=
  rrms x * (d j - unit x j * ((∑ k, unit x k * d k) / 1024))

theorem power_pos (x : Fin 1024 → ℝ) : 0 < power x :=
  add_pos_of_nonneg_of_pos (div_nonneg (Finset.sum_nonneg fun j _ => mul_self_nonneg _) (by norm_num)) lit_rms_eps.2

theorem rrms_sq (x : Fin 1024 → ℝ) : rrms x * rrms x = 1 / power x := by
  unfold rrms
  rw [← mul_inv, Real.mul_self_sqrt (power_pos x).le, one_div]

/-- What reaches a row through its mean square. -/
def spill (x d : Fin 1024 → ℝ) : ℝ := (∑ k, x k * d k) * (-(1 / 2) * (rrms x / power x)) / 1024

/-- The chain rule's result: through the product and, twice, through the mean square. -/
theorem dunit_chain (x d : Fin 1024 → ℝ) (j : Fin 1024) :
    d j * rrms x + x j * spill x d + spill x d * x j = dunit x d j := by
  have hq := rrms_sq x
  have hp := (power_pos x).ne'
  have e : (∑ k, unit x k * d k) = rrms x * ∑ k, x k * d k := by
    rw [Finset.mul_sum]
    exact Finset.sum_congr rfl fun k _ => by unfold unit; ring
  have e2 : rrms x / power x = rrms x * (rrms x * rrms x) := by rw [hq]; field_simp
  unfold dunit spill
  rw [e, e2]
  unfold unit
  ring

theorem unit_zero (j : Fin 1024) : unit (fun _ => 0) j = 0 := zero_mul _

theorem dunit_zero (x : Fin 1024 → ℝ) (j : Fin 1024) : dunit x (fun _ => 0) j = 0 := by
  simp [dunit]

end Cert.Scalars

end
-- ==== Proof.Ffn.Spec.lean ====
/-
  The feed-forward layer of one row with the last norm and the loss, forward and backward, as formulas over the reals:
  what both programs of `kernel2` and `reference2` are shown to compute. `Raw` holds the arguments, extended reals, as the
  programs are given them; where they are finite, `Raw.row` is a row of them with the weights, in the reals.
-/
module

public import proofs.«01_k».proof.Proof.Step.Rms

@[expose] public section

noncomputable section

namespace Cert.Ffn

open Idealize.ShloMosaic Cert.Scalars

/-- A row, its target, whether it counts in the loss, and the weights it meets. -/
structure Row where
  x : Fin 1024 → ℝ
  y : Fin 1024 → ℝ
  on : Bool
  gf : Fin 1024 → ℝ
  gfin : Fin 1024 → ℝ
  wg : Fin 1024 → Fin 2816 → ℝ
  wu : Fin 1024 → Fin 2816 → ℝ
  wd : Fin 2816 → Fin 1024 → ℝ

namespace Row

variable (r : Row) (j : Fin 1024) (c : Fin 2816)

/-! The layer and the loss. -/

def v : ℝ := unit r.x j * r.gf j
def gate : ℝ := ∑ k, r.v k * r.wg k c
def up : ℝ := ∑ k, r.v k * r.wu k c
def logi : ℝ := sgr ((r.gate c : ℝ) : EReal)
def silu : ℝ := r.gate c * r.logi c
def f : ℝ := r.silu c * r.up c
def h2 : ℝ := r.x j + ∑ c, r.f c * r.wd c j
def hat2 : ℝ := unit r.h2 j
def diff : ℝ := if r.on then r.hat2 j * r.gfin j - r.y j else 0
/-- The row's share of the loss. -/
def cost : ℝ := 1 / 2 * ((∑ j, r.diff j * r.diff j) / 1024)

/-! The gradients of the loss. -/

def dy : ℝ := r.diff j * (1 / 1024)
def dh2 : ℝ := dunit r.h2 (fun k => r.dy k * r.gfin k) j
def df : ℝ := ∑ j, r.dh2 j * r.wd c j
def dup : ℝ := r.df c * r.silu c
def dgate : ℝ := dsilu ((r.gate c : ℝ) : EReal) (r.df c * r.up c)
def dv : ℝ := (∑ c, r.dgate c * r.wg j c) + ∑ c, r.dup c * r.wu j c
def dh1 : ℝ := r.dh2 j + dunit r.x (fun k => r.dv k * r.gf k) j

/-! A row of zeros outside the loss gives zeros throughout. -/

section
variable {r} (hx : r.x = fun _ => 0) (ho : r.on = false)

include hx in
theorem v_zero : r.v j = 0 := by unfold v; rw [hx, unit_zero, zero_mul]
include hx in
theorem f_zero : r.f c = 0 := by
  have e : r.gate c = 0 := Finset.sum_eq_zero fun k _ => by rw [v_zero k hx, zero_mul]
  unfold f silu; rw [e, zero_mul, zero_mul]
include ho in
theorem dy_zero : r.dy j = 0 := by unfold dy diff; rw [ho]; simp
include ho in
theorem cost_zero : r.cost = 0 := by unfold cost diff; rw [ho]; simp
include ho in
theorem dh2_zero : r.dh2 j = 0 := by
  unfold dh2
  rw [show (fun k => r.dy k * r.gfin k) = fun _ => 0 from funext fun k => by rw [dy_zero k ho, zero_mul], dunit_zero]
include ho in
theorem df_zero : r.df c = 0 := Finset.sum_eq_zero fun k _ => by rw [dh2_zero k ho, zero_mul]
include ho in
theorem dup_zero : r.dup c = 0 := by unfold dup; rw [df_zero c ho, zero_mul]
include ho in
theorem dgate_zero : r.dgate c = 0 := by unfold dgate; rw [df_zero c ho, zero_mul]; simp [dsilu]
include ho in
theorem dv_zero : r.dv j = 0 := by
  unfold dv
  rw [Finset.sum_eq_zero fun c _ => by rw [dgate_zero c ho, zero_mul],
    Finset.sum_eq_zero fun c _ => by rw [dup_zero c ho, zero_mul], add_zero]
include ho in
theorem dh1_zero : r.dh1 j = 0 := by
  unfold dh1
  rw [show (fun k => r.dv k * r.gf k) = fun _ => 0 from funext fun k => by rw [dv_zero k ho, zero_mul], dunit_zero,
    dh2_zero j ho, add_zero]

end

/-- The gradient of the gate by the chain rule. -/
theorem dgate_summed : ((r.df c * r.up c : ℝ) : EReal) * ((r.logi c : ℝ) : EReal)
    + ((r.gate c : ℝ) : EReal) * ((r.df c * r.up c : ℝ) : EReal) * (((r.logi c : ℝ) : EReal) * (1 - ((r.logi c : ℝ) : EReal)))
      = ((r.dgate c : ℝ) : EReal) := dsilu_summed _ _

end Row

/-- The arguments, as functions of their coordinates. -/
structure Raw where
  h : Fin 4112 → Fin 1024 → EReal
  tgt : Fin 4096 → Fin 1024 → EReal
  gf : Fin 1024 → EReal
  gfin : Fin 1024 → EReal
  wg : Fin 1024 → Fin 2816 → EReal
  wu : Fin 1024 → Fin 2816 → EReal
  wd : Fin 2816 → Fin 1024 → EReal

/-- The arguments are real numbers. -/
structure Raw.Finite (a : Raw) : Prop where
  h : ∀ i j, ∃ r : ℝ, a.h i j = r
  tgt : ∀ i j, ∃ r : ℝ, a.tgt i j = r
  gf : ∀ j, ∃ r : ℝ, a.gf j = r
  gfin : ∀ j, ∃ r : ℝ, a.gfin j = r
  wg : ∀ k c, ∃ r : ℝ, a.wg k c = r
  wu : ∀ k c, ∃ r : ℝ, a.wu k c = r
  wd : ∀ c j, ∃ r : ℝ, a.wd c j = r

/-- A real is its real part. -/
theorem back {x : EReal} (h : ∃ r : ℝ, x = r) : x = ((x.toReal : ℝ) : EReal) := by
  obtain ⟨r, rfl⟩ := h
  rw [EReal.toReal_coe]

/-- Row `i` of the arguments; the sixteen rows in front of the target's have no part in the loss. -/
def Raw.row (a : Raw) (i : Fin 4112) : Row where
  x j := (a.h i j).toReal
  y j := if e : 16 ≤ i.val then (a.tgt ⟨i.val - 16, by omega⟩ j).toReal else 0
  on := decide (16 ≤ i.val)
  gf j := (a.gf j).toReal
  gfin j := (a.gfin j).toReal
  wg k c := (a.wg k c).toReal
  wu k c := (a.wu k c).toReal
  wd c j := (a.wd c j).toReal

theorem Raw.row_y (a : Raw) (k : Fin 4096) (j : Fin 1024) : (a.row ⟨k.val + 16, by omega⟩).y j = (a.tgt k j).toReal := by
  show (if e : 16 ≤ k.val + 16 then (a.tgt ⟨k.val + 16 - 16, by omega⟩ j).toReal else 0) = _
  rw [dif_pos (Nat.le_add_left 16 k.val)]
  exact congrArg (fun z => (a.tgt z j).toReal) (Fin.ext (Nat.add_sub_cancel _ _))

theorem Raw.row_on (a : Raw) {i : Fin 4112} (h : 16 ≤ i.val) : (a.row i).on = true := decide_eq_true h
theorem Raw.row_off (a : Raw) {i : Fin 4112} (h : ¬16 ≤ i.val) : (a.row i).on = false := decide_eq_false h

/-- A row of zeros that has no part in the loss. -/
def Raw.void (a : Raw) : Row := { a.row 0 with x := fun _ => 0, on := false }

/-- A row's formula, at every row of the arguments. -/
def shown {n : Nat} (a : Raw) (P : Row → Fin n → ℝ) (i : Fin 4112) (k : Fin n) : EReal := ((P (a.row i) k : ℝ) : EReal)

/-! What a row adds to the loss and to the gradients of the two norms' scales. -/

def costs (r : Row) (_ : Fin 1) : ℝ := r.cost
def scale1 (r : Row) (j : Fin 1024) : ℝ := r.dv j * unit r.x j
def scale2 (r : Row) (j : Fin 1024) : ℝ := r.dy j * r.hat2 j

end Cert.Ffn

end
-- ==== Proof.Ffn.Entry.lean ====
module

public import proofs.«01_k».proof.Proof.Ffn.Spec
public import proofs.«01_k».proof.Proof.Rows.Padded
public import proofs.«01_k».proof.Proof.Step.Reduce
public import proofs.«01_k».proof.Proof.Gen.Kernel2Ideal.Frame.Runs
public import Idealize.ShloMosaic.Lib.Pointwise
public import Idealize.ShloMosaic.Lib.Pipeline.ValueKit
public import Idealize.ShloMosaic.Lib.Claim
public import Idealize.ShloMosaic.Lib.StableHlo.ReadAt
public import Idealize.ShloMosaic.Lib.Tactic.CleanTypes

/-!
# What the feed-forward program is handed

Each block of each input at an index, and each weight, as the argument the host lines put there.
-/

@[expose] public section

set_option maxRecDepth 16384

noncomputable section

namespace Cert.Ffn

open Cert.Kernel2Ideal Cert.Kernel2Ideal.Gen Cert.Scalars Cert.Reduce
open Cert.Rows (padded total padded_in padded_at total_of_steps)
open Idealize.ShloMosaic Idealize.ShloMosaic.TcCoe Idealize.SL.Sem Idealize.ShloMosaic.StableHlo

variable (m : (ℓ : Loc nD τ sig) → Buf (Elt Ideal) ℓ) (c : Dev nD) (t : Fin cfg0.N) (q : Fin 256) (j : Fin 1024)

/-- The arguments the program is launched with. -/
def raw : Raw where
  h i j := m ((c : Thread nD τ).loc main_arg0) (ix3 0 i j)
  tgt i j := m ((c : Thread nD τ).loc main_arg1) (ix3 0 i j)
  gf j := m ((c : Thread nD τ).loc main_arg2) (ix2 0 j)
  gfin j := m ((c : Thread nD τ).loc main_arg3) (ix1 j)
  wg k f := m ((c : Thread nD τ).loc main_arg4) (ix3 0 k f)
  wu k f := m ((c : Thread nD τ).loc main_arg5) (ix3 0 k f)
  wd f j := m ((c : Thread nD τ).loc main_arg6) (ix3 0 f j)

theorem point_lt : t.val < 17 := lt_of_lt_of_eq t.isLt (show cfg0.N = 17 from N_0)

/-- The array's row that is row `q` of the blocks of point `t`. -/
def at_ : Fin 4352 := ⟨256 * t.val + q.val, by have := point_lt t; omega⟩

theorem idx_h : ∀ t : Fin cfg0.N, win0_0.index t 0 = t.val ∧ win0_0.index t 1 = 0 := by decide +kernel
theorem idx_tgt : ∀ t : Fin cfg0.N, win0_1.index t 0 = t.val - 1 ∧ win0_1.index t 1 = 0 := by decide +kernel
theorem idx_gf : ∀ t : Fin cfg0.N, win0_2.index t 0 = 0 ∧ win0_2.index t 1 = 0 := by decide +kernel
theorem idx_gfin : ∀ t : Fin cfg0.N, win0_3.index t 0 = 0 ∧ win0_3.index t 1 = 0 := by decide +kernel

theorem host_h (r : Fin 4352) : V m c main_v2 (ix2 r j) = padded (raw m c).h r j := by
  unfold V; after_reads_at
  unfold padded
  split
  · rfl
  · rfl

theorem host_tgt (r : Fin 4096) : V m c main_v3 (ix2 r j) = (raw m c).tgt r j := by
  unfold V; after_reads_at
  rfl

theorem host_gfin : V m c main_v4 (ix2 0 j) = (raw m c).gfin j := by
  unfold V; after_reads_at
  rfl

theorem host_wg (f : Fin 2816) : V m c main_v7 (ix2 f j) = (raw m c).wg j f := by
  unfold V; after_reads_at
  rfl

theorem host_wu (f : Fin 2816) : V m c main_v10 (ix2 f j) = (raw m c).wu j f := by
  unfold V; after_reads_at
  rfl

theorem host_wd (f : Fin 2816) : V m c main_v12 (ix2 f j) = (raw m c).wd f j := by
  unfold V; after_reads_at
  rfl

theorem blk_h : iblk m c 0 t (ix2 q j) = padded (raw m c).h (at_ t q) j := by
  rw [← host_h]; blk_ext [iblk, at_, idx_h t]
theorem blk_tgt : iblk m c 1 t (ix2 q j) = (raw m c).tgt ⟨256 * (t.val - 1) + q.val, by have := point_lt t; omega⟩ j := by
  rw [← host_tgt]; blk_ext [iblk, idx_tgt t]
theorem blk_gf : iblk m c 2 t (ix2 0 j) = (raw m c).gf j := by
  have e : (raw m c).gf j = V m c main_arg2 (ix2 0 j) := by rw [V_main_arg2]; rfl
  rw [e]; blk_ext [iblk, idx_gf t]
theorem blk_gfin : iblk m c 3 t (ix2 0 j) = (raw m c).gfin j := by
  rw [← host_gfin]; blk_ext [iblk, idx_gfin t]

end Cert.Ffn

end
-- ==== Proof.Ffn.Values.lean ====
module

public import proofs.«01_k».proof.Proof.Ffn.Spec
public import proofs.«01_k».proof.Proof.Ffn.Point
public import proofs.«01_k».proof.Proof.Step.Reduce
public import Idealize.ShloMosaic.Lib.Pointwise
public import Idealize.ShloMosaic.Lib.Pipeline.ValueKit
public import Idealize.ShloMosaic.Lib.Tactic.CleanTypes

/-!
# What one point computes, entry by entry

Row `q` of the blocks a point leaves, over the extended reals, when row `q` of its inputs is the row `r`.
-/

@[expose] public section

set_option maxRecDepth 16384

noncomputable section

namespace Cert.Ffn

open Cert.Kernel2Ideal Cert.Kernel2Ideal.Gen Cert.Scalars
open Idealize.ShloMosaic Idealize.ShloMosaic.TcCoe Idealize.SL.Sem

/-- Row `q` of the blocks is the row `r`. -/
structure IsRow (x : Ins Ideal) (i : BitVec 32) (q : Fin 256) (r : Row) : Prop where
  h : ∀ j : Fin 1024, x.h (ix2 q j) = ((r.x j : ℝ) : EReal)
  tgt : r.on = true → ∀ j : Fin 1024, x.tgt (ix2 q j) = ((r.y j : ℝ) : EReal)
  on : Scalar.cmpi .sgt i 0#32 = if r.on then 1#1 else 0#1
  gf : ∀ j : Fin 1024, x.gf (ix2 0 j) = ((r.gf j : ℝ) : EReal)
  gfin : ∀ j : Fin 1024, x.gfin (ix2 0 j) = ((r.gfin j : ℝ) : EReal)
  wg : ∀ (c : Fin 2816) (k : Fin 1024), x.wg (ix2 c k) = ((r.wg k c : ℝ) : EReal)
  wu : ∀ (c : Fin 2816) (k : Fin 1024), x.wu (ix2 c k) = ((r.wu k c : ℝ) : EReal)
  wd : ∀ (c : Fin 2816) (j : Fin 1024), x.wd (ix2 c j) = ((r.wd c j : ℝ) : EReal)

section
variable {x : Ins Ideal} {i : BitVec 32} {q : Fin 256} {r : Row} (w : IsRow x i q r) (j : Fin 1024) (c : Fin 2816)
include w

theorem row_inv1 : x.inv1 (ix2 q 0) = ((rrms r.x : ℝ) : EReal) := by
  unfold Ins.inv1 k0_pay9 k0_pay8; clean_types; pointwise
  simp only [w.h, ← EReal.coe_mul]
  rw [sum_coe, lit_width, div_real _ (by norm_num), lit_rms_eps.1, ← EReal.coe_add]
  exact rsqrt_real (power_pos r.x)

theorem row_hat1 : x.hat1 (ix2 q j) = ((unit r.x j : ℝ) : EReal) := by
  have e : k0_pay9 (F := Ideal) x.h (ix2 q 0) = ((rrms r.x : ℝ) : EReal) := row_inv1 w
  unfold Ins.hat1 k0_pay10 k0_pay8; clean_types; pointwise
  rw [w.h, e, ← EReal.coe_mul]; rfl

theorem row_v : x.v (ix2 q j) = ((r.v j : ℝ) : EReal) := by
  have e : k0_pay10 (F := Ideal) x.h (ix2 q j) = ((unit r.x j : ℝ) : EReal) := row_hat1 w j
  unfold Ins.v k0_pay11; clean_types; pointwise
  rw [e, w.gf, ← EReal.coe_mul]; rfl

theorem row_gate : x.gate (ix2 q c) = ((r.gate c : ℝ) : EReal) := by
  have e : ∀ k, k0_pay11 (F := Ideal) x.h x.gf (ix2 q k) = ((r.v k : ℝ) : EReal) := row_v w
  unfold Ins.gate k0_pay12; clean_types; pointwise
  simp only [e, w.wg, ← EReal.coe_mul]
  rw [sum_coe]; rfl

theorem row_up : x.up (ix2 q c) = ((r.up c : ℝ) : EReal) := by
  have e : ∀ k, k0_pay11 (F := Ideal) x.h x.gf (ix2 q k) = ((r.v k : ℝ) : EReal) := row_v w
  unfold Ins.up k0_pay13; clean_types; pointwise
  simp only [e, w.wu, ← EReal.coe_mul]
  rw [sum_coe]; rfl

theorem row_logi : x.logi (ix2 q c) = ((r.logi c : ℝ) : EReal) := by
  have e : k0_pay12 (F := Ideal) x.h x.gf x.wg (ix2 q c) = ((r.gate c : ℝ) : EReal) := row_gate w c
  unfold Ins.logi k0_pay14; clean_types; pointwise
  rw [e, lit_half]
  exact half_tanh _

theorem row_silu : x.silu (ix2 q c) = ((r.silu c : ℝ) : EReal) := by
  have e : k0_pay12 (F := Ideal) x.h x.gf x.wg (ix2 q c) = ((r.gate c : ℝ) : EReal) := row_gate w c
  have e' : k0_pay14 (F := Ideal) x.h x.gf x.wg (ix2 q c) = ((r.logi c : ℝ) : EReal) := row_logi w c
  unfold Ins.silu k0_pay15; clean_types; pointwise
  rw [e, e', ← EReal.coe_mul]; rfl

theorem row_f : x.f (ix2 q c) = ((r.f c : ℝ) : EReal) := by
  have e : k0_pay15 (F := Ideal) x.h x.gf x.wg (ix2 q c) = ((r.silu c : ℝ) : EReal) := row_silu w c
  have e' : k0_pay13 (F := Ideal) x.h x.gf x.wu (ix2 q c) = ((r.up c : ℝ) : EReal) := row_up w c
  unfold Ins.f k0_pay16; clean_types; pointwise
  rw [e, e', ← EReal.coe_mul]; rfl

theorem row_h2 : k0_pay17 (F := Ideal) x.row x.f x.wd (ix2 q j) = ((r.h2 j : ℝ) : EReal) := by
  unfold k0_pay17 Ins.row k0_pay8; clean_types; pointwise
  simp only [row_f w, w.h, w.wd, ← EReal.coe_mul]
  rw [sum_coe, ← EReal.coe_add]; rfl

theorem row_inv2 : x.inv2 (ix2 q 0) = ((rrms r.h2 : ℝ) : EReal) := by
  unfold Ins.inv2 k0_pay18; clean_types; pointwise
  simp only [row_h2 w, ← EReal.coe_mul]
  rw [sum_coe, lit_width, div_real _ (by norm_num), lit_rms_eps.1, ← EReal.coe_add]
  exact rsqrt_real (power_pos r.h2)

theorem row_hat2 : x.hat2 (ix2 q j) = ((r.hat2 j : ℝ) : EReal) := by
  have e : k0_pay18 (F := Ideal) x.row x.f x.wd (ix2 q 0) = ((rrms r.h2 : ℝ) : EReal) := row_inv2 w
  unfold Ins.hat2 k0_pay19; clean_types; pointwise
  rw [row_h2 w, e, ← EReal.coe_mul]; rfl

theorem row_diff : x.diff i (ix2 q j) = ((r.diff j : ℝ) : EReal) := by
  have e : k0_pay19 (F := Ideal) x.row x.f x.wd (ix2 q j) = ((r.hat2 j : ℝ) : EReal) := row_hat2 w j
  unfold Ins.diff k0_pay20
  rw [w.on]
  cases ho : r.on
  · unfold Row.diff; rw [ho]
    clean_types; pointwise
    rfl
  · unfold Row.diff; rw [ho]
    clean_types; pointwise
    rw [e, w.gfin, w.tgt ho, ← EReal.coe_mul, ← EReal.coe_sub]

theorem row_dy : k0_pay22 (F := Ideal) (x.diff i) (ix2 q j) = ((r.dy j : ℝ) : EReal) := by
  unfold k0_pay22; clean_types; pointwise
  rw [row_diff w, lit_inv_width, ← EReal.coe_mul]; rfl

theorem row_dh2 : x.dh2 i (ix2 q j) = ((r.dh2 j : ℝ) : EReal) := by
  unfold Ins.dh2 k0_pay24; clean_types; pointwise
  simp only [row_dy w, row_hat2 w, row_inv2 w, w.gfin, ← EReal.coe_mul]
  rw [sum_coe, lit_width, div_real _ (by norm_num)]
  simp only [← EReal.coe_mul, ← EReal.coe_sub]; rfl

theorem row_dh2b : x.dh2b i (ix2 q j) = ((r.dh2 j : ℝ) : EReal) := row_dh2 w j

theorem row_df : k0_pay26 (F := Ideal) x.inv2 x.hat2 (x.diff i) x.gfin x.wd (ix2 q c) = ((r.df c : ℝ) : EReal) := by
  have e : ∀ k, k0_pay25 (F := Ideal) x.inv2 x.hat2 (x.diff i) x.gfin (ix2 q k) = ((r.dh2 k : ℝ) : EReal) := row_dh2b w
  unfold k0_pay26; clean_types; pointwise
  simp only [e, w.wd, ← EReal.coe_mul]
  rw [sum_coe]; rfl

theorem row_dup : x.dup i (ix2 q c) = ((r.dup c : ℝ) : EReal) := by
  unfold Ins.dup k0_pay27; clean_types; pointwise
  rw [row_df w, row_silu w, ← EReal.coe_mul]; rfl

theorem row_dgate : x.dgate i (ix2 q c) = ((r.dgate c : ℝ) : EReal) := by
  unfold Ins.dgate k0_pay28; clean_types; pointwise
  rw [row_df w, row_up w, row_gate w, row_logi w, ← EReal.coe_mul]
  exact dsilu_factored _ _

theorem row_dv : k0_pay1 (F := Ideal) (x.dup i) (x.dgate i) x.wg x.wu (ix2 q j) = ((r.dv j : ℝ) : EReal) := by
  unfold k0_pay1; clean_types; pointwise
  simp only [row_dgate w, row_dup w, w.wg, w.wu, ← EReal.coe_mul]
  rw [sum_coe, sum_coe, ← EReal.coe_add]; rfl

theorem row_dh1 : x.dh1 i (ix2 q j) = ((r.dh1 j : ℝ) : EReal) := by
  unfold Ins.dh1 k0_pay3; clean_types; pointwise
  simp only [row_dv w, row_hat1 w, row_inv1 w, row_dh2 w, w.gf, ← EReal.coe_mul]
  rw [sum_coe, lit_width, div_real _ (by norm_num)]
  simp only [← EReal.coe_mul, ← EReal.coe_sub, ← EReal.coe_add]; rfl

theorem row_dh1b : x.dh1b i (ix2 q j) = ((r.dh1 j : ℝ) : EReal) := row_dh1 w j

end

/-! ## The sums -/

section
variable (x : Ins Ideal) (i : BitVec 32) (s : Accs Ideal) (j : Fin 1024)

theorem next_dgf : (x.next i s).dgf (ix2 0 j) = s.dgf (ix2 0 j)
    + (∑ q, k0_pay1 (F := Ideal) (x.dup i) (x.dgate i) x.wg x.wu (ix2 q j) * x.hat1 (ix2 q j) : EReal) := by
  unfold Ins.next k0_pay2; clean_types; pointwise

theorem next_dgfin : (x.next i s).dgfin (ix2 0 j) = s.dgfin (ix2 0 j)
    + (∑ q, k0_pay22 (F := Ideal) (x.diff i) (ix2 q j) * x.hat2 (ix2 q j) : EReal) := by
  unfold Ins.next k0_pay23; clean_types; pointwise

/-- The mean of a row's squared distances. -/
def sq (q : Fin 256) : EReal :=
  Ideal.div (∑ j, (x.diff i (ix2 q j) * x.diff i (ix2 q j) : EReal)) (Ideal.ofBits .f32 0x44800000#32)

theorem next_loss : (x.next i s).loss (ix2 0 0) = s.loss (ix2 0 0) + (Ideal.ofBits .f32 0x3F000000#32 * ∑ q, sq x i q : EReal) := by
  unfold Ins.next k0_pay21 sq; clean_types; pointwise
  simp only [Finset.univ_unique, Finset.sum_singleton]
  rfl

end

end Cert.Ffn

end
-- ==== Proof.Ffn.Result.lean ====
module

public import proofs.«01_k».proof.Proof.Ffn.Entry
public import proofs.«01_k».proof.Proof.Ffn.Values
public import proofs.«01_k».proof.Proof.Ffn.Body

/-!
# What the feed-forward program leaves in its results

Row `q` of a point's blocks is one of the 4112 rows or a row in front; so each block of a row-wise result holds the
formula's rows, and the sums over the points are the sums over the rows.
-/

@[expose] public section

set_option maxRecDepth 16384

noncomputable section

namespace Cert.Ffn

open Cert.Kernel2Ideal Cert.Kernel2Ideal.Gen Cert.Scalars Cert.Reduce
open Cert.Rows (padded total padded_in padded_at total_of_steps)
open Idealize.ShloMosaic Idealize.ShloMosaic.TcCoe Idealize.SL.Sem Idealize.ShloMosaic.StableHlo

variable (m : (ℓ : Loc nD τ sig) → Buf (Elt Ideal) ℓ) (c : Dev nD)

section
variable (t : Fin cfg0.N) (q : Fin 256) (h : (raw m c).Finite)

theorem point_on : ∀ t : Fin cfg0.N, Scalar.cmpi .sgt (word (grid0.coords t)) 0#32 = if 0 < t.val then 1#1 else 0#1 := by
  decide +kernel

set_option maxHeartbeats 4000000 in
include h in
theorem isRow (hr : ¬(at_ t q).val < 240) :
    IsRow (ins m c t) (word (grid0.coords t)) q ((raw m c).row ⟨(at_ t q).val - 240, by omega⟩) where
  h j := ((blk_h m c t q j).trans (padded_at _ hr j)).trans (back (h.h _ j))
  tgt ho j := by
    have ho : 16 ≤ (at_ t q).val - 240 := of_decide_eq_true ho
    have hv : (at_ t q).val = 256 * t.val + q.val := rfl
    have e := Raw.row_y (raw m c) ⟨256 * (t.val - 1) + q.val, by have := point_lt t; omega⟩ j
    have e' : (⟨256 * (t.val - 1) + q.val + 16, by have := point_lt t; omega⟩ : Fin 4112) = ⟨(at_ t q).val - 240, by omega⟩ :=
      Fin.ext (by simp only; omega)
    simp only [e'] at e
    rw [e]
    exact (blk_tgt m c t q j).trans (back (h.tgt _ j))
  on := by
    have hv : (at_ t q).val = 256 * t.val + q.val := rfl
    rw [point_on]
    by_cases h16 : 16 ≤ (at_ t q).val - 240
    · rw [Raw.row_on _ h16, if_pos (by omega), if_pos rfl]
    · rw [Raw.row_off _ h16, if_neg (by omega), if_neg (by decide)]
  gf j := (blk_gf m c t j).trans (back (h.gf j))
  gfin j := (blk_gfin m c t j).trans (back (h.gfin j))
  wg f k := (host_wg m c k f).trans (back (h.wg k f))
  wu f k := (host_wu m c k f).trans (back (h.wu k f))
  wd f j := (host_wd m c j f).trans (back (h.wd f j))

set_option maxHeartbeats 4000000 in
include h in
theorem isVoid (hr : (at_ t q).val < 240) : IsRow (ins m c t) (word (grid0.coords t)) q (raw m c).void where
  h j := (blk_h m c t q j).trans (padded_in _ hr j)
  tgt ho := absurd ho Bool.false_ne_true
  on := by
    have hv : (at_ t q).val = 256 * t.val + q.val := rfl
    rw [point_on, if_neg (by omega)]; rfl
  gf j := (blk_gf m c t j).trans (back (h.gf j))
  gfin j := (blk_gfin m c t j).trans (back (h.gfin j))
  wg f k := (host_wg m c k f).trans (back (h.wg k f))
  wu f k := (host_wu m c k f).trans (back (h.wu k f))
  wd f j := (host_wd m c j f).trans (back (h.wd f j))

end

/-- What a point computes of each of its rows by `P` is, row by row, the arguments' rows behind the rows of zeros. -/
theorem at_padded {n : Nat} (P : Row → Fin n → ℝ) (hP : ∀ (r : Row) k, r.x = (fun _ => 0) → r.on = false → P r k = 0)
    (h : (raw m c).Finite) (t : Fin cfg0.N) (q : Fin 256) (k : Fin n) (e : EReal)
    (he : ∀ r, IsRow (ins m c t) (word (grid0.coords t)) q r → e = ((P r k : ℝ) : EReal)) :
    e = padded (shown (raw m c) P) (at_ t q) k := by
  by_cases hr : (at_ t q).val < 240
  · rw [padded_in _ hr, he _ (isVoid m c t q h hr), hP _ k rfl rfl]; rfl
  · rw [padded_at _ hr, he _ (isRow m c t q h hr)]; rfl

/-! ## The sums -/

section
variable (h : (raw m c).Finite) (hN : 16 < cfg0.N) (j : Fin 1024)
include h

theorem at_cost (t : Fin cfg0.N) (q : Fin 256) :
    (Ideal.ofBits .f32 0x3F000000#32 * sq (ins m c t) (word (grid0.coords t)) q : EReal)
      = padded (shown (raw m c) costs) (at_ t q) 0 :=
  at_padded m c costs (fun r _ _ ho => Row.cost_zero ho) h t q 0 _ fun r w => by
    unfold sq
    simp only [row_diff w, ← EReal.coe_mul]
    rw [sum_coe, lit_width, div_real _ (by norm_num), lit_half, ← EReal.coe_mul]; rfl

theorem step_cost (t : Fin cfg0.N) (s : Accs Ideal) : ((ins m c t).next (word (grid0.coords t)) s).loss (ix2 0 0)
    = s.loss (ix2 0 0) + (∑ q, Ideal.ofBits .f32 0x3F000000#32 * sq (ins m c t) (word (grid0.coords t)) q : EReal) := by
  have hs : ∀ q, ∃ r : ℝ, sq (ins m c t) (word (grid0.coords t)) q = r := fun q => by
    have key : ∀ r, IsRow (ins m c t) (word (grid0.coords t)) q r → ∃ r : ℝ, sq (ins m c t) (word (grid0.coords t)) q = r := fun r w => by
      unfold sq
      simp only [row_diff w, ← EReal.coe_mul]
      rw [sum_coe, lit_width, div_real _ (by norm_num)]; exact ⟨_, rfl⟩
    by_cases hr : (at_ t q).val < 240
    · exact key _ (isVoid m c t q h hr)
    · exact key _ (isRow m c t q h hr)
  choose s hs using hs
  rw [next_loss, lit_half]
  simp only [hs, ← EReal.coe_mul]
  rw [sum_coe, sum_coe, ← EReal.coe_mul, Finset.mul_sum]

set_option maxHeartbeats 4000000 in
theorem sum_loss : (sums m c 16 hN).loss (ix2 0 0) = total (shown (raw m c) costs) 0 :=
  total_of_steps _ 0 cfg0.N N_0 (fun t ht => (sums m c t ht).loss (ix2 0 0)) _
    (fun t ht q => at_cost m c h ⟨t, ht⟩ q)
    (fun ht => (step_cost m c h ⟨0, ht⟩ _).trans (congrArg (· + _) (by unfold Accs.start k0_pay5; clean_types; pointwise)))
    (fun t ht => step_cost m c h ⟨t + 1, ht⟩ _) hN

theorem step_dgf (t : Fin cfg0.N) (s : Accs Ideal) : (((ins m c t).next (word (grid0.coords t)) s).dgf (ix2 0 j) : EReal)
    = s.dgf (ix2 0 j) + ∑ q, padded (shown (raw m c) scale1) (at_ t q) j :=
  (next_dgf _ _ _ j).trans (congrArg (_ + ·) (Finset.sum_congr rfl fun q _ =>
    at_padded m c scale1 (fun r k _ ho => by unfold scale1; rw [Row.dv_zero k ho, zero_mul]) h t q j _
      fun r w => by rw [row_dv w, row_hat1 w, ← EReal.coe_mul]; rfl))

theorem sum_dgf : (sums m c 16 hN).dgf (ix2 0 j) = total (shown (raw m c) scale1) j :=
  total_of_steps _ j cfg0.N N_0 (fun t ht => (sums m c t ht).dgf (ix2 0 j))
    (fun t ht q => padded (shown (raw m c) scale1) (at_ ⟨t, ht⟩ q) j) (fun t ht q => rfl)
    (fun ht => (step_dgf m c h j ⟨0, ht⟩ _).trans (congrArg (· + _) (by unfold Accs.start k0_pay6; clean_types; pointwise)))
    (fun t ht => step_dgf m c h j ⟨t + 1, ht⟩ _) hN

theorem step_dgfin (t : Fin cfg0.N) (s : Accs Ideal) : (((ins m c t).next (word (grid0.coords t)) s).dgfin (ix2 0 j) : EReal)
    = s.dgfin (ix2 0 j) + ∑ q, padded (shown (raw m c) scale2) (at_ t q) j :=
  (next_dgfin _ _ _ j).trans (congrArg (_ + ·) (Finset.sum_congr rfl fun q _ =>
    at_padded m c scale2 (fun r k _ ho => by unfold scale2; rw [Row.dy_zero k ho, zero_mul]) h t q j _
      fun r w => by rw [row_dy w, row_hat2 w, ← EReal.coe_mul]; rfl))

theorem sum_dgfin : (sums m c 16 hN).dgfin (ix2 0 j) = total (shown (raw m c) scale2) j :=
  total_of_steps _ j cfg0.N N_0 (fun t ht => (sums m c t ht).dgfin (ix2 0 j))
    (fun t ht q => padded (shown (raw m c) scale2) (at_ ⟨t, ht⟩ q) j) (fun t ht q => rfl)
    (fun ht => (step_dgfin m c h j ⟨0, ht⟩ _).trans (congrArg (· + _) (by unfold Accs.start k0_pay7; clean_types; pointwise)))
    (fun t ht => step_dgfin m c h j ⟨t + 1, ht⟩ _) hN

end

/-! ## The arrays -/

theorem idx_4 : ∀ t : Fin cfg0.N, win0_4.index t 0 = t.val ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 0 := by decide +kernel
theorem idx_7 : ∀ t : Fin cfg0.N, win0_7.index t 0 = t.val ∧ win0_7.index t 1 = 0 := by decide +kernel
theorem idx_8 : ∀ t : Fin cfg0.N, win0_8.index t 0 = t.val ∧ win0_8.index t 1 = 0 := by decide +kernel
theorem idx_9 : ∀ t : Fin cfg0.N, win0_9.index t 0 = t.val ∧ win0_9.index t 1 = 0 := by decide +kernel
theorem idx_10 : ∀ t : Fin cfg0.N, win0_10.index t 0 = t.val ∧ win0_10.index t 1 = 0 := by decide +kernel

section
variable (t : Fin cfg0.N) (q : Fin 256)

theorem emb_4 (j : Fin 1024) : (win0_4.blk t).view.emb (ix2 q j) = ix2 (at_ t q) j := by blk_ext [at_, idx_4 t]
theorem emb_5 (j : Fin 1024) : (win0_5.blk t).view.emb (ix2 q j) = ix2 (at_ t q) j := by blk_ext [at_, idx_5 t]
theorem emb_6 (j : Fin 1024) : (win0_6.blk t).view.emb (ix2 q j) = ix2 (at_ t q) j := by blk_ext [at_, idx_6 t]
theorem emb_7 (j : Fin 2816) : (win0_7.blk t).view.emb (ix2 q j) = ix2 (at_ t q) j := by blk_ext [at_, idx_7 t]
theorem emb_8 (j : Fin 2816) : (win0_8.blk t).view.emb (ix2 q j) = ix2 (at_ t q) j := by blk_ext [at_, idx_8 t]
theorem emb_9 (j : Fin 2816) : (win0_9.blk t).view.emb (ix2 q j) = ix2 (at_ t q) j := by blk_ext [at_, idx_9 t]
theorem emb_10 (j : Fin 1024) : (win0_10.blk t).view.emb (ix2 q j) = ix2 (at_ t q) j := by blk_ext [at_, idx_10 t]

end

section
variable (h : (raw m c).Finite)
include h

theorem arr_dh1 : (dats m 0 c).arrAt 4 cfg0.N = fun y => padded (shown (raw m c) Row.dh1) (y 0) (y 1) := by
  refine (dats m 0 c).arrAt_eq_of_covers 4 _ (by decide +kernel) fun t hf y => ?_
  blk_simp
  obtain ⟨q, j, rfl⟩ := pair_ix2 y
  rw [after4, emb_4]
  exact at_padded m c Row.dh1 (fun r k _ ho => Row.dh1_zero k ho) h t q j _ fun r w => row_dh1 w j

theorem arr_dh1b : (dats m 0 c).arrAt 5 cfg0.N = fun y => padded (shown (raw m c) Row.dh1) (y 0) (y 1) := by
  refine (dats m 0 c).arrAt_eq_of_covers 5 _ (by decide +kernel) fun t hf y => ?_
  blk_simp
  obtain ⟨q, j, rfl⟩ := pair_ix2 y
  rw [after5, emb_5]
  exact at_padded m c Row.dh1 (fun r k _ ho => Row.dh1_zero k ho) h t q j _ fun r w => row_dh1b w j

theorem arr_v : (dats m 0 c).arrAt 6 cfg0.N = fun y => padded (shown (raw m c) Row.v) (y 0) (y 1) := by
  refine (dats m 0 c).arrAt_eq_of_covers 6 _ (by decide +kernel) fun t hf y => ?_
  blk_simp
  obtain ⟨q, j, rfl⟩ := pair_ix2 y
  rw [after6, emb_6]
  exact at_padded m c Row.v (fun r k hx _ => Row.v_zero k hx) h t q j _ fun r w => row_v w j

theorem arr_f : (dats m 0 c).arrAt 7 cfg0.N = fun y => padded (shown (raw m c) Row.f) (y 0) (y 1) := by
  refine (dats m 0 c).arrAt_eq_of_covers 7 _ (by decide +kernel) fun t hf y => ?_
  blk_simp
  obtain ⟨q, j, rfl⟩ := pair_ix2 y
  rw [after7, emb_7]
  exact at_padded m c Row.f (fun r k hx _ => Row.f_zero k hx) h t q j _ fun r w => row_f w j

theorem arr_dgate : (dats m 0 c).arrAt 8 cfg0.N = fun y => padded (shown (raw m c) Row.dgate) (y 0) (y 1) := by
  refine (dats m 0 c).arrAt_eq_of_covers 8 _ (by decide +kernel) fun t hf y => ?_
  blk_simp
  obtain ⟨q, j, rfl⟩ := pair_ix2 y
  rw [after8, emb_8]
  exact at_padded m c Row.dgate (fun r k _ ho => Row.dgate_zero k ho) h t q j _ fun r w => row_dgate w j

theorem arr_dup : (dats m 0 c).arrAt 9 cfg0.N = fun y => padded (shown (raw m c) Row.dup) (y 0) (y 1) := by
  refine (dats m 0 c).arrAt_eq_of_covers 9 _ (by decide +kernel) fun t hf y => ?_
  blk_simp
  obtain ⟨q, j, rfl⟩ := pair_ix2 y
  rw [after9, emb_9]
  exact at_padded m c Row.dup (fun r k _ ho => Row.dup_zero k ho) h t q j _ fun r w => row_dup w j

theorem arr_dh2b : (dats m 0 c).arrAt 10 cfg0.N = fun y => padded (shown (raw m c) Row.dh2) (y 0) (y 1) := by
  refine (dats m 0 c).arrAt_eq_of_covers 10 _ (by decide +kernel) fun t hf y => ?_
  blk_simp
  obtain ⟨q, j, rfl⟩ := pair_ix2 y
  rw [after10, emb_10]
  exact at_padded m c Row.dh2 (fun r k _ ho => Row.dh2_zero k ho) h t q j _ fun r w => row_dh2b w j

theorem arr_loss : (dats m 0 c).arrAt 11 cfg0.N = fun y => total (shown (raw m c) costs) (y 1) := by
  refine (dats m 0 c).arrAt_eq_of_after_last 11 ⟨16, by decide +kernel⟩ (by decide +kernel) _ fun y => ?_
  obtain ⟨z, k, rfl⟩ := pair_ix2 y
  obtain rfl := Subsingleton.elim z 0
  obtain rfl := Subsingleton.elim k 0
  rw [after11]
  blk_simp
  exact sum_loss m c h _

theorem arr_dgf : (dats m 0 c).arrAt 12 cfg0.N = fun y => total (shown (raw m c) scale1) (y 1) := by
  refine (dats m 0 c).arrAt_eq_of_after_last 12 ⟨16, by decide +kernel⟩ (by decide +kernel) _ fun y => ?_
  obtain ⟨z, k, rfl⟩ := pair_ix2 y
  obtain rfl := Subsingleton.elim z 0
  rw [after12]
  blk_simp
  exact sum_dgf m c h _ k

theorem arr_dgfin : (dats m 0 c).arrAt 13 cfg0.N = fun y => total (shown (raw m c) scale2) (y 1) := by
  refine (dats m 0 c).arrAt_eq_of_after_last 13 ⟨16, by decide +kernel⟩ (by decide +kernel) _ fun y => ?_
  obtain ⟨z, k, rfl⟩ := pair_ix2 y
  obtain rfl := Subsingleton.elim z 0
  rw [after13]
  blk_simp
  exact sum_dgfin m c h _ k

end

end Cert.Ffn
-- ==== Proof.Ffn.Reference.lean ====
module

public import proofs.«01_k».proof.Proof.Ffn.Spec
public import proofs.«01_k».proof.Proof.Rows.Padded
public import proofs.«01_k».proof.Proof.Step.Reduce
public import proofs.«01_k».proof.Proof.Gen.Reference2Ideal.Run
public import Idealize.ShloMosaic.Lib.Pointwise
public import Idealize.ShloMosaic.Lib.Pipeline.ValueKit
public import Idealize.ShloMosaic.Lib.Tactic.CleanTypes

/-!
# The feed-forward reference, entry by entry

Every stage of the reference's run at an index, as the formula of `Cert.Ffn.Row` it is.
-/

@[expose] public section

set_option maxRecDepth 16384

noncomputable section

namespace Cert.Ffn.Ref

open Cert.Reference2Ideal Cert.Reference2Ideal.Gen Cert.Reference2Ideal.Value Cert.Scalars Cert.Ffn Cert.Reduce
open Cert.Rows (padded total)
open Idealize.ShloMosaic Idealize.ShloMosaic.TcCoe Idealize.SL.Sem Idealize.ShloMosaic.StableHlo

variable (V : Valuation τ sig (Elt Ideal)) (i : Fin 4112) (j : Fin 1024) (c : Fin 2816)

/-- The arguments the reference is launched with. -/
def raw : Raw where
  h i j := V (Proc.devRef .tc main_arg0) (ix3 0 i j)
  tgt i j := V (Proc.devRef .tc main_arg1) (ix3 0 i j)
  gf j := V (Proc.devRef .tc main_arg2) (ix2 0 j)
  gfin j := V (Proc.devRef .tc main_arg3) (ix1 j)
  wg k c := V (Proc.devRef .tc main_arg4) (ix3 0 k c)
  wu k c := V (Proc.devRef .tc main_arg5) (ix3 0 k c)
  wd c j := V (Proc.devRef .tc main_arg6) (ix3 0 c j)

theorem at_none : res_main_v0 V (ix3 0 i c) = (0 : EReal) := by
  unfold res_main_v0; clean_types; pointwise

section
variable {V} (h : (raw V).Finite)
include h

theorem real_h : (V (Proc.devRef .tc main_arg0) (ix3 0 i j) : EReal) = ((((raw V).row i).x j : ℝ) : EReal) := back (h.h i j)

theorem real_tgt (k : Fin 4096) : (V (Proc.devRef .tc main_arg1) (ix3 0 k j) : EReal)
    = ((((raw V).row ⟨k.val + 16, by omega⟩).y j : ℝ) : EReal) := by
  rw [Raw.row_y]; exact back (h.tgt k j)

theorem at_power : res_main_v9 V (ix3 0 i 0) = ((power ((raw V).row i).x : ℝ) : EReal) := by
  unfold res_main_v9; clean_types; pointwise
  simp only [real_h _ _ h, ← EReal.coe_mul]
  rw [sum_coe, lit_width, div_real _ (by norm_num), lit_rms_eps.1, ← EReal.coe_add]; rfl

theorem at_rrms : res_main_v10 V (ix3 0 i 0) = ((rrms ((raw V).row i).x : ℝ) : EReal) := by
  unfold res_main_v10; clean_types; pointwise
  rw [at_power _ h, rsqrt_real (power_pos _)]; rfl

theorem at_hat1 : res_main_v15 V (ix3 0 i j) = ((unit ((raw V).row i).x j : ℝ) : EReal) := by
  unfold res_main_v15; clean_types; pointwise
  rw [at_rrms _ h, real_h _ _ h, ← EReal.coe_mul]; rfl

theorem at_gf : res_main_v16 V (ix3 0 0 j) = ((((raw V).row i).gf j : ℝ) : EReal) := by
  unfold res_main_v16; clean_types; pointwise
  exact back (h.gf j)

theorem at_v : res_main_v18 V (ix3 0 i j) = ((((raw V).row i).v j : ℝ) : EReal) := by
  unfold res_main_v18; clean_types; pointwise
  rw [at_hat1 _ _ h, at_gf i _ h, ← EReal.coe_mul]; rfl

theorem at_wg : res_main_v19 V (ix2 j c) = ((((raw V).row i).wg j c : ℝ) : EReal) := by
  unfold res_main_v19; clean_types; pointwise
  exact back (h.wg j c)

theorem at_wu : res_main_v23 V (ix2 j c) = ((((raw V).row i).wu j c : ℝ) : EReal) := by
  unfold res_main_v23; clean_types; pointwise
  exact back (h.wu j c)

theorem at_wd : res_main_v27 V (ix2 c j) = ((((raw V).row i).wd c j : ℝ) : EReal) := by
  unfold res_main_v27; clean_types; pointwise
  exact back (h.wd c j)

theorem at_gate : res_main_v21 V (ix3 0 i c) = ((((raw V).row i).gate c : ℝ) : EReal) := by
  unfold res_main_v21; clean_types; pointwise
  simp only [at_v _ _ h, at_wg i _ _ h, at_none, add_zero, ← EReal.coe_mul]
  rw [sum_coe]; rfl

theorem at_logi : res_main_v22_2 V (ix3 0 i c) = ((((raw V).row i).logi c : ℝ) : EReal) := by
  unfold res_main_v22_2; clean_types; pointwise
  rw [at_gate _ _ h]; exact sig_eq _

theorem at_silu : res_main_v22_0 V (ix3 0 i c) = ((((raw V).row i).silu c : ℝ) : EReal) := by
  unfold res_main_v22_0; clean_types; pointwise
  rw [at_gate _ _ h, at_logi _ _ h, ← EReal.coe_mul]; rfl

theorem at_up : res_main_v25 V (ix3 0 i c) = ((((raw V).row i).up c : ℝ) : EReal) := by
  unfold res_main_v25; clean_types; pointwise
  simp only [at_v _ _ h, at_wu i _ _ h, at_none, add_zero, ← EReal.coe_mul]
  rw [sum_coe]; rfl

theorem at_f : res_main_v26 V (ix3 0 i c) = ((((raw V).row i).f c : ℝ) : EReal) := by
  unfold res_main_v26; clean_types; pointwise
  rw [at_silu _ _ h, at_up _ _ h, ← EReal.coe_mul]; rfl

theorem at_h2 : res_main_v30 V (ix3 0 i j) = ((((raw V).row i).h2 j : ℝ) : EReal) := by
  unfold res_main_v30; clean_types; pointwise
  simp only [at_f _ _ h, at_wd i _ _ h, real_h _ _ h, add_zero, ← EReal.coe_mul]
  rw [sum_coe, ← EReal.coe_add]; rfl

theorem at_power2 : res_main_v37 V (ix3 0 i 0) = ((power ((raw V).row i).h2 : ℝ) : EReal) := by
  unfold res_main_v37; clean_types; pointwise
  simp only [at_h2 _ _ h, ← EReal.coe_mul]
  rw [sum_coe, lit_width, div_real _ (by norm_num), lit_rms_eps.1, ← EReal.coe_add]; rfl

theorem at_rrms2 : res_main_v38 V (ix3 0 i 0) = ((rrms ((raw V).row i).h2 : ℝ) : EReal) := by
  unfold res_main_v38; clean_types; pointwise
  rw [at_power2 _ h, rsqrt_real (power_pos _)]; rfl

theorem at_hat2 : res_main_v43 V (ix3 0 i j) = ((((raw V).row i).hat2 j : ℝ) : EReal) := by
  unfold res_main_v43; clean_types; pointwise
  rw [at_h2 _ _ h, at_rrms2 _ h, ← EReal.coe_mul]; rfl

theorem at_gfin : res_main_v44 V (ix3 0 0 j) = ((((raw V).row i).gfin j : ℝ) : EReal) := by
  unfold res_main_v44; clean_types; pointwise
  exact back (h.gfin j)

theorem at_diff (k : Fin 4096) : res_main_v48 V (ix3 0 k j) = ((((raw V).row ⟨k.val + 16, by omega⟩).diff j : ℝ) : EReal) := by
  have e : (⟨16 + k.val, by omega⟩ : Fin 4112) = ⟨k.val + 16, by omega⟩ := Fin.ext (Nat.add_comm _ _)
  unfold res_main_v48; clean_types; pointwise
  rw [e, at_hat2 _ _ h, at_gfin ⟨k.val + 16, by omega⟩ _ h, real_tgt _ h, ← EReal.coe_mul, ← EReal.coe_sub]
  unfold Row.diff; rw [if_pos (Raw.row_on _ (Nat.le_add_left _ _))]

theorem at_dy : res_main_v63 V (ix3 0 i j) = ((((raw V).row i).dy j : ℝ) : EReal) := by
  unfold res_main_v63; clean_types; pointwise
  by_cases hi : 16 ≤ i.val
  · rw [dif_pos ⟨hi, by omega⟩, at_diff _ h]
    have e : (⟨(⟨i.val - 16, by omega⟩ : Fin 4096).val + 16, by simp only; omega⟩ : Fin 4112) = i :=
      Fin.ext (Nat.sub_add_cancel hi)
    rw [e, lit_half, lit_two, lit_width, div_real _ (by norm_num)]
    simp only [← EReal.coe_mul]
    exact congrArg _ (by unfold Row.dy; ring)
  · rw [dif_neg fun k => hi k.1, Row.dy_zero j (Raw.row_off _ hi)]; rfl

theorem at_gd : res_main_v68 V (ix3 0 i j) = ((((raw V).row i).dy j * ((raw V).row i).gfin j : ℝ) : EReal) := by
  unfold res_main_v68; clean_types; pointwise
  rw [at_dy _ _ h, at_gfin i _ h, ← EReal.coe_mul]

theorem at_spill2 : res_main_v80 V (ix3 0 i j)
    = ((spill ((raw V).row i).h2 (fun k => ((raw V).row i).dy k * ((raw V).row i).gfin k) : ℝ) : EReal) := by
  unfold res_main_v80; clean_types; pointwise [reduce_ends]
  simp only [at_h2 _ _ h, at_gd _ _ h, at_rrms2 _ h, at_power2 _ h]
  rw [lit_neg_half, lit_width, div_real _ (power_pos _).ne']
  simp only [← EReal.coe_mul]
  rw [sum_coe, ← EReal.coe_mul, div_real _ (by norm_num)]; rfl

theorem at_dh2 : res_main_v84 V (ix3 0 i j) = ((((raw V).row i).dh2 j : ℝ) : EReal) := by
  unfold res_main_v84; clean_types; pointwise
  rw [at_gd _ _ h, at_rrms2 _ h, at_h2 _ _ h, at_spill2 _ _ h]
  simp only [← EReal.coe_mul, ← EReal.coe_add]
  exact congrArg _ (dunit_chain _ (fun k => ((raw V).row i).dy k * ((raw V).row i).gfin k) j)

theorem at_df : res_main_v85 V (ix3 0 i c) = ((((raw V).row i).df c : ℝ) : EReal) := by
  unfold res_main_v85; clean_types; pointwise
  simp only [at_dh2 _ _ h, at_wd i _ _ h, ← EReal.coe_mul]
  rw [sum_coe]; rfl

theorem at_dup : res_main_v86 V (ix3 0 i c) = ((((raw V).row i).dup c : ℝ) : EReal) := by
  unfold res_main_v86; clean_types; pointwise
  rw [at_silu _ _ h, at_df _ _ h, ← EReal.coe_mul, mul_comm]; rfl

theorem at_dsilu : res_main_v87 V (ix3 0 i c) = ((((raw V).row i).df c * ((raw V).row i).up c : ℝ) : EReal) := by
  unfold res_main_v87; clean_types; pointwise
  rw [at_df _ _ h, at_up _ _ h, ← EReal.coe_mul]

theorem at_dgate : res_main_v89 V (ix3 0 i c) = ((((raw V).row i).dgate c : ℝ) : EReal) := by
  unfold res_main_v89; clean_types; pointwise
  rw [at_gate _ _ h, at_logi _ _ h, at_dsilu _ _ h]
  exact Row.dgate_summed _ _

theorem at_dv : res_main_v91 V (ix3 0 i j) = ((((raw V).row i).dv j : ℝ) : EReal) := by
  unfold res_main_v91; clean_types; pointwise
  simp only [at_dup _ _ h, at_dgate _ _ h, at_wg i _ _ h, at_wu i _ _ h, ← EReal.coe_mul]
  rw [sum_coe, sum_coe, ← EReal.coe_add, add_comm]; rfl

theorem at_gd1 : res_main_v96 V (ix3 0 i j) = ((((raw V).row i).dv j * ((raw V).row i).gf j : ℝ) : EReal) := by
  unfold res_main_v96; clean_types; pointwise
  rw [at_dv _ _ h, at_gf i _ h, ← EReal.coe_mul]

theorem at_spill1 : res_main_v109 V (ix3 0 i j)
    = ((spill ((raw V).row i).x (fun k => ((raw V).row i).dv k * ((raw V).row i).gf k) : ℝ) : EReal) := by
  unfold res_main_v109; clean_types; pointwise [reduce_ends]
  simp only [real_h _ _ h, at_gd1 _ _ h, at_rrms _ h, at_power _ h]
  rw [lit_neg_half, lit_width, div_real _ (power_pos _).ne']
  simp only [← EReal.coe_mul]
  rw [sum_coe, ← EReal.coe_mul, div_real _ (by norm_num)]; rfl

theorem at_dh1 : res_main_v113 V (ix3 0 i j) = ((((raw V).row i).dh1 j : ℝ) : EReal) := by
  unfold res_main_v113; clean_types; pointwise
  rw [at_dh2 _ _ h, at_gd1 _ _ h, at_rrms _ h, real_h _ _ h, at_spill1 _ _ h]
  simp only [← EReal.coe_mul, ← EReal.coe_add]
  unfold Row.dh1
  rw [← dunit_chain]
  exact congrArg _ (by ring)

/-! The ten results. -/

theorem out_dh1 : concatenate S4352x1024 0 [⟨S240x1024, (broadcastInDim S240x1024 ![] bcast_S_S240x1024 (constant (F := Ideal) S_ .f32 0x00000000#32))⟩, ⟨S4112x1024, (shapeCast _ (res_main_v113 V) shapeCasts_S1x4112x1024_S4112x1024)⟩] concatenates_S240x1024_S4112x1024_S4352x1024_d0
    = fun y => padded (shown (raw V) Row.dh1) (y 0) (y 1) := by
  funext y
  obtain ⟨r, k, rfl⟩ := pair_ix2 y
  clean_types; pointwise
  unfold padded
  simp only [at_dh1 _ _ h]
  rfl

theorem out_dh1b : truncf (F := Ideal) .bf16 (concatenate S4352x1024 0 [⟨S240x1024, (broadcastInDim S240x1024 ![] bcast_S_S240x1024 (constant (F := Ideal) S_ .f32 0x00000000#32))⟩, ⟨S4112x1024, (shapeCast _ (res_main_v113 V) shapeCasts_S1x4112x1024_S4112x1024)⟩] concatenates_S240x1024_S4112x1024_S4352x1024_d0) bitsLt_bf16_f32
    = fun y => padded (shown (raw V) Row.dh1) (y 0) (y 1) := by
  funext y
  obtain ⟨r, k, rfl⟩ := pair_ix2 y
  clean_types; pointwise
  unfold padded
  simp only [at_dh1 _ _ h]
  rfl

theorem out_v : truncf (F := Ideal) .bf16 (concatenate S4352x1024 0 [⟨S240x1024, (broadcastInDim S240x1024 ![] bcast_S_S240x1024 (constant (F := Ideal) S_ .f32 0x00000000#32))⟩, ⟨S4112x1024, (shapeCast _ (res_main_v18 V) shapeCasts_S1x4112x1024_S4112x1024)⟩] concatenates_S240x1024_S4112x1024_S4352x1024_d0) bitsLt_bf16_f32
    = fun y => padded (shown (raw V) Row.v) (y 0) (y 1) := by
  funext y
  obtain ⟨r, k, rfl⟩ := pair_ix2 y
  clean_types; pointwise
  unfold padded
  simp only [at_v _ _ h]
  rfl

theorem out_f : truncf (F := Ideal) .bf16 (concatenate S4352x2816 0 [⟨S240x2816, (broadcastInDim S240x2816 ![] bcast_S_S240x2816 (constant (F := Ideal) S_ .f32 0x00000000#32))⟩, ⟨S4112x2816, (shapeCast _ (res_main_v26 V) shapeCasts_S1x4112x2816_S4112x2816)⟩] concatenates_S240x2816_S4112x2816_S4352x2816_d0) bitsLt_bf16_f32
    = fun y => padded (shown (raw V) Row.f) (y 0) (y 1) := by
  funext y
  obtain ⟨r, k, rfl⟩ := pair_ix2 y
  clean_types; pointwise
  unfold padded
  simp only [at_f _ _ h]
  rfl

theorem out_dgate : truncf (F := Ideal) .bf16 (concatenate S4352x2816 0 [⟨S240x2816, (broadcastInDim S240x2816 ![] bcast_S_S240x2816 (constant (F := Ideal) S_ .f32 0x00000000#32))⟩, ⟨S4112x2816, (shapeCast _ (res_main_v89 V) shapeCasts_S1x4112x2816_S4112x2816)⟩] concatenates_S240x2816_S4112x2816_S4352x2816_d0) bitsLt_bf16_f32
    = fun y => padded (shown (raw V) Row.dgate) (y 0) (y 1) := by
  funext y
  obtain ⟨r, k, rfl⟩ := pair_ix2 y
  clean_types; pointwise
  unfold padded
  simp only [at_dgate _ _ h]
  rfl

theorem out_dup : truncf (F := Ideal) .bf16 (concatenate S4352x2816 0 [⟨S240x2816, (broadcastInDim S240x2816 ![] bcast_S_S240x2816 (constant (F := Ideal) S_ .f32 0x00000000#32))⟩, ⟨S4112x2816, (shapeCast _ (res_main_v86 V) shapeCasts_S1x4112x2816_S4112x2816)⟩] concatenates_S240x2816_S4112x2816_S4352x2816_d0) bitsLt_bf16_f32
    = fun y => padded (shown (raw V) Row.dup) (y 0) (y 1) := by
  funext y
  obtain ⟨r, k, rfl⟩ := pair_ix2 y
  clean_types; pointwise
  unfold padded
  simp only [at_dup _ _ h]
  rfl

theorem out_dh2b : truncf (F := Ideal) .bf16 (concatenate S4352x1024 0 [⟨S240x1024, (broadcastInDim S240x1024 ![] bcast_S_S240x1024 (constant (F := Ideal) S_ .f32 0x00000000#32))⟩, ⟨S4112x1024, (shapeCast _ (res_main_v84 V) shapeCasts_S1x4112x1024_S4112x1024)⟩] concatenates_S240x1024_S4112x1024_S4352x1024_d0) bitsLt_bf16_f32
    = fun y => padded (shown (raw V) Row.dh2) (y 0) (y 1) := by
  funext y
  obtain ⟨r, k, rfl⟩ := pair_ix2 y
  clean_types; pointwise
  unfold padded
  simp only [at_dh2 _ _ h]
  rfl

theorem out_loss : shapeCast S1x1 (mulf (F := Ideal) (constant (F := Ideal) S_ .f32 0x3F000000#32) (Host.reduceAdd (F := Ideal) (φ := .f32) (Host.divf (F := Ideal) (Host.reduceAdd (F := Ideal) (φ := .f32) (mulf (F := Ideal) (res_main_v48 V) (res_main_v48 V)) (constant (F := Ideal) S_ .f32 0x00000000#32) reducesTo_S1x4096x1024_S1x4096_d2 h_S_) (broadcastInDim S1x4096 ![] bcast_S_S1x4096 (constant (F := Ideal) S_ .f32 0x44800000#32))) (constant (F := Ideal) S_ .f32 0x00000000#32) reducesTo_S1x4096_S_d0_1 h_S_)) shapeCasts_S_S1x1
    = fun y => total (shown (raw V) costs) (y 1) := by
  funext y
  obtain ⟨r, k, rfl⟩ := pair_ix2 y
  obtain rfl := Subsingleton.elim r 0
  obtain rfl := Subsingleton.elim k 0
  clean_types; pointwise
  have late : (∑ i, ((raw V).row i).cost) = ∑ k : Fin 4096, ((raw V).row ⟨k.val + 16, by omega⟩).cost := by
    have e := Fin.sum_univ_add (a := 16) (b := 4096) fun i : Fin (16 + 4096) => ((raw V).row i).cost
    have front : (∑ i : Fin 16, ((raw V).row (Fin.castAdd 4096 i)).cost) = 0 :=
      Finset.sum_eq_zero fun i _ => Row.cost_zero (Raw.row_off _ (by show ¬16 ≤ i.val; omega))
    exact e.trans ((congrArg (· + _) front).trans ((zero_add _).trans <|Finset.sum_congr rfl fun k _ => congrArg (fun i => ((raw V).row i).cost) (Fin.ext (Nat.add_comm _ _))))
  have right : total (shown (raw V) costs) 0 = ((∑ i, ((raw V).row i).cost : ℝ) : EReal) := sum_coe Finset.univ fun i => ((raw V).row i).cost
  rw [right, late, Finset.univ_unique, Finset.sum_singleton]
  simp only [at_diff _ h, ← EReal.coe_mul, sum_coe, lit_width, lit_half]
  simp only [div_real _ (by norm_num : (1024 : ℝ) ≠ 0), sum_coe, ← EReal.coe_mul, Finset.mul_sum]
  rfl

theorem out_dgf : broadcastInDim S1x1024 ![1] bcast_S1024_S1x1024_1 (Host.reduceAdd (F := Ideal) (φ := .f32) (shapeCast _ (Host.reduceAdd (F := Ideal) (φ := .f32) (mulf (F := Ideal) (res_main_v15 V) (res_main_v91 V)) (constant (F := Ideal) S_ .f32 0x00000000#32) reducesTo_S1x4112x1024_S1x1024_d1 h_S_) shapeCasts_S1x1024_S1x1x1024) (constant (F := Ideal) S_ .f32 0x00000000#32) reducesTo_S1x1x1024_S1024_d0_1 h_S_)
    = fun y => total (shown (raw V) scale1) (y 1) := by
  funext y
  obtain ⟨r, k, rfl⟩ := pair_ix2 y
  clean_types; pointwise [reduce_heads]
  simp only [at_hat1 _ _ h, at_dv _ _ h, ← EReal.coe_mul]
  exact Finset.sum_congr rfl fun i _ => congrArg _ (mul_comm _ _)

theorem out_dgfin : shapeCast S1x1024 (Host.reduceAdd (F := Ideal) (φ := .f32) (shapeCast _ (Host.reduceAdd (F := Ideal) (φ := .f32) (mulf (F := Ideal) (res_main_v43 V) (res_main_v63 V)) (constant (F := Ideal) S_ .f32 0x00000000#32) reducesTo_S1x4112x1024_S1x1024_d1 h_S_) shapeCasts_S1x1024_S1x1x1024) (constant (F := Ideal) S_ .f32 0x00000000#32) reducesTo_S1x1x1024_S1024_d0_1 h_S_) shapeCasts_S1024_S1x1024
    = fun y => total (shown (raw V) scale2) (y 1) := by
  funext y
  obtain ⟨r, k, rfl⟩ := pair_ix2 y
  obtain rfl := Subsingleton.elim r 0
  clean_types; pointwise [reduce_heads]
  simp only [at_hat2 _ _ h, at_dy _ _ h, ← EReal.coe_mul]
  exact Finset.sum_congr rfl fun i _ => congrArg _ (mul_comm _ _)

end

end Cert.Ffn.Ref
-- ==== Proof.Ffn.Claims.lean ====
module

public import proofs.«01_k».proof.Defs
public import proofs.«01_k».proof.Proof.Step.Bounds
public import proofs.«01_k».proof.Proof.Ffn.Run
public import proofs.«01_k».proof.Proof.Ffn.Result
public import proofs.«01_k».proof.Proof.Ffn.Reference
public import proofs.«01_k».proof.Proof.Gen.Kernel2
public import proofs.«01_k».proof.Proof.Gen.Pre_finite_ffn

/-!
# The claims about the feed-forward call

The frames of the three programs, and the equality of the call's ten results with what the reference computes and
takes the gradient of, where the arguments are finite.
-/

@[expose] public section

set_option maxRecDepth 16384

noncomputable section

namespace Cert.Ffn

open Cert.Scalars
open Cert.Rows (padded total)
open Idealize.ShloMosaic Idealize.ShloMosaic.TcCoe Idealize.SL.Sem

theorem frame_kernel : Cert.quiescent_Kernel2 := fun m ρ _ => by
  refine Eq.mp ?_ (frame (F := Bits) m ρ)
  sl_kernel_rfl

theorem frame_ideal : Cert.quiescent_Kernel2Ideal := fun m ρ _ => frame (F := Ideal) m ρ

theorem frame_reference : Cert.quiescent_Reference2Ideal := fun m ρ _ =>
  (θ_run Cert.Reference2Ideal.defs _ _).mono (fun r h => ⟨fun c => (h c).2.2.2.2.2.2.2.2.2.2,
      sem_eq_zero_of_no_sems (by decide) r.2⟩)
    (Cert.Reference2Ideal.Value.run (F := Ideal) m ρ)

theorem finite_of_pre (m : (ℓ : Loc Cert.Kernel2Ideal.nD Cert.Kernel2Ideal.τ Cert.Kernel2Ideal.sig) → Buf (Elt Ideal) ℓ)
    (h : Cert.Pre_Kernel2Ideal_finite_ffn m) (c : Dev Cert.Kernel2Ideal.nD) : (raw m c).Finite := by
  obtain ⟨h0, h1, h2, h3, h4, h5, h6⟩ := h c
  exact {
    h := fun i j => real_of_below (infinity _) h0 (ix3 0 i j)
    tgt := fun i j => real_of_below (infinity _) h1 (ix3 0 i j)
    gf := fun j => real_of_below (infinity _) h2 (ix2 0 j)
    gfin := fun j => real_of_below (infinity _) h3 (ix1 j)
    wg := fun k f => real_of_below (infinity _) h4 (ix3 0 k f)
    wu := fun k f => real_of_below (infinity _) h5 (ix3 0 k f)
    wd := fun f j => real_of_below (infinity _) h6 (ix3 0 f j) }

theorem raw_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ)
    (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧
      m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧
      m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧
      m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧
      m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4) ∧
      m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5) ∧
      m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Ref.raw (StableHlo.launchContents m' c) = raw m c := by
  obtain ⟨e0, e1, e2, e3, e4, e5, e6⟩ := h
  unfold Ref.raw raw
  congr 1
  · exact funext fun i => funext fun j => congrFun e0 (ix3 0 i j)
  · exact funext fun i => funext fun j => congrFun e1 (ix3 0 i j)
  · exact funext fun j => congrFun e2 (ix2 0 j)
  · exact funext fun j => congrFun e3 (ix1 j)
  · exact funext fun k => funext fun f => congrFun e4 (ix3 0 k f)
  · exact funext fun k => funext fun f => congrFun e5 (ix3 0 k f)
  · exact funext fun f => funext fun j => congrFun e6 (ix3 0 f j)

set_option maxHeartbeats 4000000 in
/-- The kernel's results and the reference's are the same formulas of the same arguments. -/
theorem algebraic : Cert.algebraic_Kernel2Ideal_Reference2Ideal_pre_finite_ffn := by
  intro m g m' g' hpre hargs
  refine ⟨fun c => (dats (F := Ideal) m 0 c).arrAt 4 Cert.Kernel2Ideal.cfg0.N,
    fun c => (dats (F := Ideal) m 0 c).arrAt 5 Cert.Kernel2Ideal.cfg0.N,
    fun c => (dats (F := Ideal) m 0 c).arrAt 6 Cert.Kernel2Ideal.cfg0.N,
    fun c => (dats (F := Ideal) m 0 c).arrAt 7 Cert.Kernel2Ideal.cfg0.N,
    fun c => (dats (F := Ideal) m 0 c).arrAt 8 Cert.Kernel2Ideal.cfg0.N,
    fun c => (dats (F := Ideal) m 0 c).arrAt 9 Cert.Kernel2Ideal.cfg0.N,
    fun c => (dats (F := Ideal) m 0 c).arrAt 10 Cert.Kernel2Ideal.cfg0.N,
    fun c => (dats (F := Ideal) m 0 c).arrAt 11 Cert.Kernel2Ideal.cfg0.N,
    fun c => (dats (F := Ideal) m 0 c).arrAt 12 Cert.Kernel2Ideal.cfg0.N,
    fun c => (dats (F := Ideal) m 0 c).arrAt 13 Cert.Kernel2Ideal.cfg0.N,
    ?_, ?_⟩
  · exact (θ_run Cert.Kernel2Ideal.defs _ _).mono
      (fun r h c => ⟨(h.1 c).1 4, (h.1 c).1 5, (h.1 c).1 6, (h.1 c).1 7, (h.1 c).1 8, (h.1 c).1 9, (h.1 c).1 10, (h.1 c).1 11, (h.1 c).1 12, (h.1 c).1 13, h.2.1 c⟩)
      (θ_run_and (run_arrays m g) (frame m g))
  · refine (θ_run Cert.Reference2Ideal.defs _ _).mono (fun r k c => ?_) (Cert.Reference2Ideal.Value.run (F := Ideal) m' g')
    have e := raw_eq m m' c (hargs c)
    have hf := finite_of_pre m hpre c
    have h : (Ref.raw (StableHlo.launchContents m' c)).Finite := e ▸ hf
    obtain ⟨k0, k1, k2, k3, k4, k5, k6, k7, k8, k9, rest⟩ := k c
    refine ⟨?_, ?_, ?_, ?_, ?_, ?_, ?_, ?_, ?_, ?_, rest⟩
    · exact k0.trans ((Ref.out_dh1 h).trans ((congrArg (fun a : Raw => fun y : (⟨2, ![4352, 1024]⟩ : Shape).Idx => padded (shown a Row.dh1) (y 0) (y 1)) e).trans (arr_dh1 m c hf).symm))
    · exact k1.trans ((Ref.out_dh1b h).trans ((congrArg (fun a : Raw => fun y : (⟨2, ![4352, 1024]⟩ : Shape).Idx => padded (shown a Row.dh1) (y 0) (y 1)) e).trans (arr_dh1b m c hf).symm))
    · exact k2.trans ((Ref.out_v h).trans ((congrArg (fun a : Raw => fun y : (⟨2, ![4352, 1024]⟩ : Shape).Idx => padded (shown a Row.v) (y 0) (y 1)) e).trans (arr_v m c hf).symm))
    · exact k3.trans ((Ref.out_f h).trans ((congrArg (fun a : Raw => fun y : (⟨2, ![4352, 2816]⟩ : Shape).Idx => padded (shown a Row.f) (y 0) (y 1)) e).trans (arr_f m c hf).symm))
    · exact k4.trans ((Ref.out_dgate h).trans ((congrArg (fun a : Raw => fun y : (⟨2, ![4352, 2816]⟩ : Shape).Idx => padded (shown a Row.dgate) (y 0) (y 1)) e).trans (arr_dgate m c hf).symm))
    · exact k5.trans ((Ref.out_dup h).trans ((congrArg (fun a : Raw => fun y : (⟨2, ![4352, 2816]⟩ : Shape).Idx => padded (shown a Row.dup) (y 0) (y 1)) e).trans (arr_dup m c hf).symm))
    · exact k6.trans ((Ref.out_dh2b h).trans ((congrArg (fun a : Raw => fun y : (⟨2, ![4352, 1024]⟩ : Shape).Idx => padded (shown a Row.dh2) (y 0) (y 1)) e).trans (arr_dh2b m c hf).symm))
    · exact k7.trans ((Ref.out_loss h).trans ((congrArg (fun a : Raw => fun y : (⟨2, ![1, 1]⟩ : Shape).Idx => total (shown a costs) (y 1)) e).trans (arr_loss m c hf).symm))
    · exact k8.trans ((Ref.out_dgf h).trans ((congrArg (fun a : Raw => fun y : (⟨2, ![1, 1024]⟩ : Shape).Idx => total (shown a scale1) (y 1)) e).trans (arr_dgf m c hf).symm))
    · exact k9.trans ((Ref.out_dgfin h).trans ((congrArg (fun a : Raw => fun y : (⟨2, ![1, 1024]⟩ : Shape).Idx => total (shown a scale2) (y 1)) e).trans (arr_dgfin m c hf).symm))

end Cert.Ffn
-- ==== Proof.Halo.Taps.lean ====
module

public import proofs.«01_k».proof.Proof.Gen.Kernel3Ideal.Skeleton
public import Idealize.ShloMosaic.Lib.Pointwise
public import Idealize.ShloMosaic.Lib.Pipeline.ValueKit
public import Idealize.ShloMosaic.Lib.Pipeline.ReadBack
public import Idealize.ShloMosaic.Lib.WritesUnit

/-!
# The taps of the depthwise filter

What one strip of 128 columns of the halo kernel computes: the filter's transpose on the extended rows of its
cotangent, and the products of the two extended arrays that the filter's own gradient adds up.  The kernel
keeps seven copies of the rows, each moved by one row, so that every load starts at a multiple of eight; the
lemmas here read such a copy as the rows themselves.
-/

@[expose] public section

set_option maxRecDepth 16384

noncomputable section

namespace Cert.Halo

open Cert.Kernel3Ideal Cert.Kernel3Ideal.Gen
open Idealize.ShloMosaic Idealize.ShloMosaic.TcCoe Idealize.SL.Sem

variable {F : FTy → Type} [FloatOps F]

/-- Row `n` of the filter on strip `k`. -/
def coef (w : Vec F S32x1024 .f32) (n k : ℕ) : Vec F S1x128 .f32 :=
  fun y => w (ix2 (Fin.ofNat 32 n) (Fin.ofNat 1024 (128 * k + (y 1).val)))

/-- 256 rows of an extended array from row `o` on, on strip `k`. -/
def tap (a : Vec F S288x1024 .f32) (o k : ℕ) : Vec F S256x128 .f32 :=
  fun y => a (ix2 (Fin.ofNat 288 (o + (y 0).val)) (Fin.ofNat 1024 (128 * k + (y 1).val)))

/-- 280 rows of an extended array from row `o` on, on strip `k`. -/
def band (a : Vec F S288x1024 .f32) (o k : ℕ) : Vec F S280x128 .f32 :=
  fun y => a (ix2 (Fin.ofNat 288 (o + (y 0).val)) (Fin.ofNat 1024 (128 * k + (y 1).val)))

/-- Rows `o` on of one of the moved copies. -/
def slab (w : Vec F S1x280x128 .f32) (o : ℕ) : Vec F S1x256x128 .f32 :=
  fun y => w (ix3 0 (Fin.ofNat 280 (o + (y 1).val)) (y 2))

/-- The filter's transpose after `n` taps. -/
def acc (w : Vec F S32x1024 .f32) (d : Vec F S288x1024 .f32) (k : ℕ) : ℕ → Vec F S256x128 .f32
  | 0 => broadcast S256x128 (Scalar.ofBits .f32 0x00000000#32 : F .f32)
  | n + 1 => addf (acc w d k n) (mulf (broadcastTo S256x128 (coef w n k) broadcasts_S1x128_S256x128) (tap d (31 - n) k))

/-- One tap of the filter's gradient, added onto what is there, eight rows apart. -/
def dwStep (a d : Vec F S256x128 .f32) (old : Vec F S1x8x128 .f32) : Vec F S1x8x128 .f32 :=
  shapeCast S1x8x128 (addf (shapeCast S8x128 old shapeCasts_S1x8x128_S8x128)
    (multiReduction .add [0] S8x128 (shapeCast S32x8x128 (mulf a d) shapeCasts_S256x128_S32x8x128) 0x00000000#32
      reduces_S32x8x128_S8x128 (.inl rfl) rfl)) shapeCasts_S8x128_S1x8x128

/-! ## Loads -/

variable {sig' : RefSig} {κ : Kind} {sp : Space}

theorem readAt_coef {off : Fin 2 → ℕ} {n k : ℕ} (e : off = ![n, 128 * k]) (hn : n < 32) (hk : k < 8)
    (v : View sig' κ sp S32x1024 .f32) (h : ∀ a, off a + S1x128.size a ≤ S32x1024.size a) (f : v.ty.Contents (Elt F)) :
    v.readAt (Elt F) (Rect.unit (s := S32x1024) off S1x128.size h).toLoadRect f = coef (v.read (Elt F) f) n k := by
  subst e
  funext y
  refine congrArg (v.read (Elt F) f) (Shape.idx_ext₂ ?_ ?_)
  · have h0 : (y 0).val < 1 := (y 0).isLt
    show n + 1 * (y 0).val = n % 32
    omega
  · have h1 : (y 1).val < 128 := (y 1).isLt
    show 128 * k + 1 * (y 1).val = (128 * k + (y 1).val) % 1024
    omega

theorem readAt_tap {off : Fin 2 → ℕ} {n k : ℕ} (e : off = ![n, 128 * k]) (hn : n ≤ 32) (hk : k < 8)
    (v : View sig' κ sp S288x1024 .f32) (h : ∀ a, off a + S256x128.size a ≤ S288x1024.size a) (f : v.ty.Contents (Elt F)) :
    v.readAt (Elt F) (Rect.unit (s := S288x1024) off S256x128.size h).toLoadRect f = tap (v.read (Elt F) f) n k := by
  subst e
  funext y
  refine congrArg (v.read (Elt F) f) (Shape.idx_ext₂ ?_ ?_)
  · have h0 : (y 0).val < 256 := (y 0).isLt
    show n + 1 * (y 0).val = (n + (y 0).val) % 288
    omega
  · have h1 : (y 1).val < 128 := (y 1).isLt
    show 128 * k + 1 * (y 1).val = (128 * k + (y 1).val) % 1024
    omega

theorem readAt_band {off : Fin 2 → ℕ} {n k : ℕ} (e : off = ![n, 128 * k]) (hn : n ≤ 8) (hk : k < 8)
    (v : View sig' κ sp S288x1024 .f32) (h : ∀ a, off a + S280x128.size a ≤ S288x1024.size a) (f : v.ty.Contents (Elt F)) :
    v.readAt (Elt F) (Rect.unit (s := S288x1024) off S280x128.size h).toLoadRect f = band (v.read (Elt F) f) n k := by
  subst e
  funext y
  refine congrArg (v.read (Elt F) f) (Shape.idx_ext₂ ?_ ?_)
  · have h0 : (y 0).val < 280 := (y 0).isLt
    show n + 1 * (y 0).val = (n + (y 0).val) % 288
    omega
  · have h1 : (y 1).val < 128 := (y 1).isLt
    show 128 * k + 1 * (y 1).val = (128 * k + (y 1).val) % 1024
    omega

/-- The copy a load names, when it is the one written last. -/
theorem cov_hit (v : View sig' κ sp S8x280x128 .f32) {a o : ℕ} (h : ∀ b, (![a, 0, 0] : Fin 3 → ℕ) b + (![1, 280, 128] : Fin 3 → ℕ) b ≤ S8x280x128.size b)
    (w : Vec F S1x280x128 .f32) (L : List (View.Piece (Elt F) S8x280x128 .f32))
    (h' : ∀ b, (![a, o, 0] : Fin 3 → ℕ) b + (![1, 256, 128] : Fin 3 → ℕ) b ≤ S8x280x128.size b) :
    v.readCov ((⟨Rect.unit (s := S8x280x128) ![a, 0, 0] ![1, 280, 128] h, w⟩ : View.Piece (Elt F) S8x280x128 .f32) :: L)
      (Rect.unit (s := S8x280x128) ![a, o, 0] ![1, 256, 128] h').toLoadRect = slab w o := by
  have ho : o + 256 ≤ 280 := h' 1
  rw [View.readCov_eq_canon']
  funext y
  have h0 : (y 0).val < 1 := (y 0).isLt
  have h1 : (y 1).val < 256 := (y 1).isLt
  have e : (Rect.unit (s := S8x280x128) ![a, o, 0] ![1, 256, 128] h').toLoadRect.idx y
      = (Rect.unit (s := S8x280x128) ![a, 0, 0] ![1, 280, 128] h).emb (ix3 0 (Fin.ofNat 280 (o + (y 1).val)) (y 2)) := by
    funext b
    refine Fin.ext ?_
    match b with
    | ⟨0, _⟩ => show a + 1 * (y 0).val = a + 1 * 0; omega
    | ⟨1, _⟩ => show o + 1 * (y 1).val = 0 + 1 * ((o + (y 1).val) % 280); omega
    | ⟨2, _⟩ => rfl
  rw [e, View.canon_cons_emb]
  rfl

/-- And when it is another. -/
theorem cov_skip (v : View sig' κ sp S8x280x128 .f32) {a b o : ℕ} (hab : a ≠ b)
    (h : ∀ c, (![b, 0, 0] : Fin 3 → ℕ) c + (![1, 280, 128] : Fin 3 → ℕ) c ≤ S8x280x128.size c)
    (w : Vec F S1x280x128 .f32) (L : List (View.Piece (Elt F) S8x280x128 .f32))
    (h' : ∀ c, (![a, o, 0] : Fin 3 → ℕ) c + (![1, 256, 128] : Fin 3 → ℕ) c ≤ S8x280x128.size c) :
    v.readCov ((⟨Rect.unit (s := S8x280x128) ![b, 0, 0] ![1, 280, 128] h, w⟩ : View.Piece (Elt F) S8x280x128 .f32) :: L)
      (Rect.unit (s := S8x280x128) ![a, o, 0] ![1, 256, 128] h').toLoadRect
      = v.readCov L (Rect.unit (s := S8x280x128) ![a, o, 0] ![1, 256, 128] h').toLoadRect := by
  rw [View.readCov_eq_canon', View.readCov_eq_canon']
  funext y
  refine View.canon_cons_of_not_mem _ _ fun hm => ?_
  have h0 : (y 0).val < 1 := (y 0).isLt
  have hm' := (Rect.mem_set_unit (inb := h)).mp hm 0
  have e1 : b ≤ a + 1 * (y 0).val := hm'.1
  have e2 : a + 1 * (y 0).val < b + 1 := hm'.2
  omega

/-- A copy moved by `r` rows, read from row `o` on, is the rows from `r + o` on. -/
theorem slab_band (a : Vec F S288x1024 .f32) (r o k : ℕ) (ho : o ≤ 24) (hr : r ≤ 8) :
    shapeCast (α := F .f32) S256x128 (slab (F := F) (shapeCast (α := F .f32) S1x280x128 (band a r k) shapeCasts_S280x128_S1x280x128) o)
      shapeCasts_S1x256x128_S256x128 = tap a (r + o) k := by
  funext y
  have h0 : (y 0).val < 256 := (y 0).isLt
  refine (shapeCast_dropUnit_apply _ _ _ y).trans ?_
  refine (shapeCast_addUnit_apply _ _ _ _).trans ?_
  refine congrArg a (Shape.idx_ext₂ ?_ rfl)
  show (r + (o + (y 0).val) % 280) % 288 = (r + o + (y 0).val) % 288
  omega

end Cert.Halo

end
-- ==== Proof.Halo.Trip.lean ====
module

public import proofs.«01_k».proof.Proof.Halo.Taps
public import Idealize.ShloMosaic.Lib.Exec
public import Idealize.ShloMosaic.Lib.Tactic
public import Idealize.ShloMosaic.Lib.Pipeline.Frame

/-!
# The loop over strips of columns

One trip takes 128 columns: it leaves the filter's transpose on them, and adds the strip's products onto the
filter's gradient.
-/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Strip `k` of the filter's gradient, tap `n`, as one trip leaves it. -/
def dwStrip (a d : Vec F S288x1024 .f32) (old : Vec F S32x8x1024 .f32) (n k : ℕ) : Vec F S1x8x128 .f32 :=
  dwStep (tap a (n + 1) k) (tap d 16 k)
    (fun y => old (ix3 (Fin.ofNat 32 n) (y 1) (Fin.ofNat 1024 (128 * k + (y 2).val))))

/-- The rows of the filter's transpose after `n` trips, from what was there. -/
def daUpto (w : Vec F S32x1024 .f32) (d : Vec F S288x1024 .f32) (g : Vec F S256x1024 .f32) (n : ℕ) : Vec F S256x1024 .f32 :=
  fun y => if (y 1).val / 128 < n then acc w d ((y 1).val / 128) 31 (ix2 (y 0) (Fin.ofNat 128 (y 1).val)) else g y

/-- The filter's gradient after `n` trips, from what was there. -/
def dwUpto (a d : Vec F S288x1024 .f32) (g : Vec F S32x8x1024 .f32) (n : ℕ) : Vec F S32x8x1024 .f32 :=
  fun y => if (y 2).val / 128 < n ∧ (y 0).val < 31 then
    dwStrip a d g (y 0).val ((y 2).val / 128) (ix3 0 (y 1) (Fin.ofNat 128 (y 2).val)) else g y

/-- The same, `g` itself before the first trip. -/
@[reducible] def daAfter (w : Vec F S32x1024 .f32) (d : Vec F S288x1024 .f32) (g : Vec F S256x1024 .f32) : ℕ → Vec F S256x1024 .f32
  | 0 => g
  | n + 1 => daUpto w d g (n + 1)

@[reducible] def dwAfter (a d : Vec F S288x1024 .f32) (g : Vec F S32x8x1024 .f32) : ℕ → Vec F S32x8x1024 .f32
  | 0 => g
  | n + 1 => dwUpto a d g (n + 1)

theorem daAfter_eq (w : Vec F S32x1024 .f32) (d : Vec F S288x1024 .f32) (g : Vec F S256x1024 .f32) (n : ℕ) :
    daAfter w d g n = daUpto w d g n := by
  cases n with
  | zero => funext y; exact (if_neg (Nat.not_lt_zero _)).symm
  | succ n => rfl

theorem dwAfter_eq (a d : Vec F S288x1024 .f32) (g : Vec F S32x8x1024 .f32) (n : ℕ) :
    dwAfter a d g n = dwUpto a d g n := by
  cases n with
  | zero => funext y; exact (if_neg fun h => Nat.not_lt_zero _ h.1).symm
  | succ n => rfl

variable {sig' : RefSig} {κ : Kind} {sp : Space}

/-- One trip's store of the filter's transpose. -/
theorem daAfter_succ {w : Vec F S32x1024 .f32} {d : Vec F S288x1024 .f32} {g : Vec F S256x1024 .f32} {k : ℕ}
    (v : View sig' κ sp S256x1024 .f32) {f : v.ty.Contents (Elt F)} (hf : v.read (Elt F) f = daAfter w d g k)
    {off : Fin 2 → ℕ} (e : off = ![0, 128 * k]) (h : ∀ a, off a + S256x128.size a ≤ S256x1024.size a)
    {u : Vec F S256x128 .f32} (hu : u = acc w d k 31) :
    v.read (Elt F) (v.writes (Elt F) f [(⟨Rect.unit (s := S256x1024) off S256x128.size h, u⟩ : View.Piece (Elt F) S256x1024 .f32)])
      = daAfter w d g (k + 1) := by
  rw [daAfter_eq] at hf ⊢
  funext y
  have h0 : (y 0).val < 256 := (y 0).isLt
  rw [View.read_writes_cons_unit v f h u [] y e]
  by_cases hy : (y 1).val / 128 = k
  · have hin : ∀ a : Fin 2, (![0, 128 * k] : Fin 2 → ℕ) a ≤ (y a).val ∧ (y a).val < (![0, 128 * k] : Fin 2 → ℕ) a + S256x128.size a := by
      intro a
      match a with
      | ⟨0, _⟩ => exact ⟨Nat.zero_le _, by show (y 0).val < 0 + 256; omega⟩
      | ⟨1, _⟩ => exact ⟨by show 128 * k ≤ (y 1).val; omega, by show (y 1).val < 128 * k + 128; omega⟩
    rw [dif_pos hin]
    unfold daUpto
    rw [if_pos (by omega), hu, hy]
    refine congrArg (acc w d k 31) (Shape.idx_ext₂ ?_ ?_)
    · show (y 0).val - 0 = (y 0).val; omega
    · show (y 1).val - 128 * k = (y 1).val % 128; omega
  · have hout : ¬ ∀ a : Fin 2, (![0, 128 * k] : Fin 2 → ℕ) a ≤ (y a).val ∧ (y a).val < (![0, 128 * k] : Fin 2 → ℕ) a + S256x128.size a := by
      intro hin
      have a1 : 128 * k ≤ (y 1).val := (hin 1).1
      have a2 : (y 1).val < 128 * k + 128 := (hin 1).2
      omega
    rw [dif_neg hout]
    show v.read (Elt F) f y = _
    rw [hf]
    unfold daUpto
    by_cases hlt : (y 1).val / 128 < k
    · rw [if_pos hlt, if_pos (by omega)]
    · rw [if_neg hlt, if_neg (by omega)]

/-- A tap's old sums on a strip no trip has reached yet. -/
theorem readAt_old {a d : Vec F S288x1024 .f32} {g : Vec F S32x8x1024 .f32} {n k : ℕ} {off : Fin 3 → ℕ}
    (e : off = ![n, 0, 128 * k]) (hn : n < 32) (hk : k < 8) (v : View sig' κ sp S32x8x1024 .f32) {f : v.ty.Contents (Elt F)}
    (hf : v.read (Elt F) f = dwAfter a d g k) (h : ∀ a, off a + S1x8x128.size a ≤ S32x8x1024.size a) :
    v.readAt (Elt F) (Rect.unit (s := S32x8x1024) off S1x8x128.size h).toLoadRect f
      = fun y => g (ix3 (Fin.ofNat 32 n) (y 1) (Fin.ofNat 1024 (128 * k + (y 2).val))) := by
  subst e
  funext y
  have h0 : (y 0).val < 1 := (y 0).isLt
  have h1 : (y 1).val < 8 := (y 1).isLt
  have h2 : (y 2).val < 128 := (y 2).isLt
  have e : (Rect.unit (s := S32x8x1024) ![n, 0, 128 * k] S1x8x128.size h).toLoadRect.idx y
      = ix3 (Fin.ofNat 32 n) (y 1) (Fin.ofNat 1024 (128 * k + (y 2).val)) := by
    funext b
    refine Fin.ext ?_
    match b with
    | ⟨0, _⟩ => show n + 1 * (y 0).val = n % 32; omega
    | ⟨1, _⟩ => show 0 + 1 * (y 1).val = (y 1).val; omega
    | ⟨2, _⟩ => show 128 * k + 1 * (y 2).val = (128 * k + (y 2).val) % 1024; omega
  rw [View.readAt_apply, e, hf, dwAfter_eq]
  unfold dwUpto
  refine if_neg ?_
  rintro ⟨hlt, -⟩
  have : (128 * k + (y 2).val) % 1024 / 128 < k := hlt
  omega

/-- The stores of the first `m` taps on strip `k`. -/
def Upto (a d : Vec F S288x1024 .f32) (g : Vec F S32x8x1024 .f32) (k : ℕ) (v : View sig' κ sp S32x8x1024 .f32)
    (f : v.ty.Contents (Elt F)) (m : ℕ) (L : List (View.Piece (Elt F) S32x8x1024 .f32)) : Prop :=
  ∀ y : S32x8x1024.Idx, v.read (Elt F) (v.writes (Elt F) f L) y
    = if (y 2).val / 128 = k ∧ (y 0).val < m then dwStrip a d g (y 0).val k (ix3 0 (y 1) (Fin.ofNat 128 (y 2).val))
      else v.read (Elt F) f y

theorem Upto.zero {a d : Vec F S288x1024 .f32} {g : Vec F S32x8x1024 .f32} {k : ℕ} {v : View sig' κ sp S32x8x1024 .f32}
    {f : v.ty.Contents (Elt F)} : Upto a d g k v f 0 [] := fun y => by
  rw [if_neg (by omega)]; rfl

theorem Upto.succ {a d : Vec F S288x1024 .f32} {g : Vec F S32x8x1024 .f32} {k : ℕ} {v : View sig' κ sp S32x8x1024 .f32}
    {f : v.ty.Contents (Elt F)} (m : ℕ) {L : List (View.Piece (Elt F) S32x8x1024 .f32)} {off : Fin 3 → ℕ}
    (e : off = ![m, 0, 128 * k]) (h : ∀ a, off a + S1x8x128.size a ≤ S32x8x1024.size a)
    {u : Vec F S1x8x128 .f32} (hu : u = dwStrip a d g m k) (hL : Upto a d g k v f m L) :
    Upto a d g k v f (m + 1) ((⟨Rect.unit (s := S32x8x1024) off S1x8x128.size h, u⟩ : View.Piece (Elt F) S32x8x1024 .f32) :: L) := by
  intro y
  have h1 : (y 1).val < 8 := (y 1).isLt
  rw [View.read_writes_cons_unit v f h u L y e]
  by_cases hy : (y 2).val / 128 = k ∧ (y 0).val = m
  · have hin : ∀ a : Fin 3, (![m, 0, 128 * k] : Fin 3 → ℕ) a ≤ (y a).val ∧ (y a).val < (![m, 0, 128 * k] : Fin 3 → ℕ) a + S1x8x128.size a := by
      intro a
      match a with
      | ⟨0, _⟩ => exact ⟨by show m ≤ (y 0).val; omega, by show (y 0).val < m + 1; omega⟩
      | ⟨1, _⟩ => exact ⟨Nat.zero_le _, by show (y 1).val < 0 + 8; omega⟩
      | ⟨2, _⟩ => exact ⟨by show 128 * k ≤ (y 2).val; omega, by show (y 2).val < 128 * k + 128; omega⟩
    rw [dif_pos hin, if_pos ⟨hy.1, by omega⟩, hu, hy.2]
    refine congrArg (dwStrip a d g m k) ?_
    funext b
    refine Fin.ext ?_
    match b with
    | ⟨0, _⟩ => show (y 0).val - m = 0; omega
    | ⟨1, _⟩ => show (y 1).val - 0 = (y 1).val; omega
    | ⟨2, _⟩ => show (y 2).val - 128 * k = (y 2).val % 128; omega
  · have hout : ¬ ∀ a : Fin 3, (![m, 0, 128 * k] : Fin 3 → ℕ) a ≤ (y a).val ∧ (y a).val < (![m, 0, 128 * k] : Fin 3 → ℕ) a + S1x8x128.size a := by
      intro hin
      have a1 : m ≤ (y 0).val := (hin 0).1
      have a2 : (y 0).val < m + 1 := (hin 0).2
      have b1 : 128 * k ≤ (y 2).val := (hin 2).1
      have b2 : (y 2).val < 128 * k + 128 := (hin 2).2
      omega
    rw [dif_neg hout, hL y]
    by_cases hlt : (y 2).val / 128 = k ∧ (y 0).val < m
    · rw [if_pos hlt, if_pos ⟨hlt.1, by omega⟩]
    · rw [if_neg hlt, if_neg (by omega)]

theorem Upto.all {a d : Vec F S288x1024 .f32} {g : Vec F S32x8x1024 .f32} {k : ℕ} {v : View sig' κ sp S32x8x1024 .f32}
    {f : v.ty.Contents (Elt F)} (hf : v.read (Elt F) f = dwAfter a d g k) {L : List (View.Piece (Elt F) S32x8x1024 .f32)}
    (hL : Upto a d g k v f 31 L) : v.read (Elt F) (v.writes (Elt F) f L) = dwAfter a d g (k + 1) := by
  rw [dwAfter_eq] at hf ⊢
  funext y
  rw [hL y, hf]
  unfold dwUpto
  by_cases h0 : (y 0).val < 31
  · by_cases hk : (y 2).val / 128 = k
    · rw [if_pos ⟨hk, h0⟩, if_pos ⟨by omega, h0⟩, hk]
    · rw [if_neg (fun h => hk h.1)]
      by_cases hlt : (y 2).val / 128 < k
      · rw [if_pos ⟨hlt, h0⟩, if_pos ⟨by omega, h0⟩]
      · rw [if_neg (fun h => hlt h.1), if_neg (fun h => by have := h.1; omega)]
  · rw [if_neg (fun h => h0 h.2), if_neg (fun h => h0 h.2), if_neg (fun h => h0 h.2)]

set_option warn.classDefReducibility false in
set_option maxHeartbeats 4000000 in
/-- The loop by what the trips before leave. -/
@[sl_loop] def strips (𝒱 : Variants) (c : Dev nD) (bd : Option 𝒱.V) (E : Set ℕ) (i : grid0.Coords) (arg1 : Memref sig .tc .vmem S16x1024 .f32) (harg1 : arg1.IsWhole) (arg2 : Memref sig .tc .vmem S256x1024 .f32) (harg2 : arg2.IsWhole) (arg3 : Memref sig .tc .vmem S16x1024 .f32) (harg3 : arg3.IsWhole) (arg4 : Memref sig .tc .vmem S16x1024 .f32) (harg4 : arg4.IsWhole) (arg5 : Memref sig .tc .vmem S256x1024 .f32) (harg5 : arg5.IsWhole) (arg6 : Memref sig .tc .vmem S16x1024 .f32) (harg6 : arg6.IsWhole) (arg7 : Memref sig .tc .vmem S16x2048 .f32) (harg7 : arg7.IsWhole) (arg8 : Memref sig .tc .vmem S256x2048 .f32) (harg8 : arg8.IsWhole) (arg9 : Memref sig .tc .vmem S16x2048 .f32) (harg9 : arg9.IsWhole) (arg10 : Memref sig .tc .vmem S256x2048 .bf16) (harg10 : arg10.IsWhole) (arg11 : Memref sig .tc .vmem S32x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S1x1024 .f32) (harg14 : arg14.IsWhole) (arg15 : Memref sig .tc .vmem S256x1024 .f32) (harg15 : arg15.IsWhole) (arg16 : Memref sig .tc .hbm S4x1024x1280 .bf16) (harg16 : arg16.IsWhole) (arg17 : Memref sig .tc .hbm S8x128 .f32) (harg17 : arg17.IsWhole) (arg18 : Memref sig .tc .vmem S256x5120 .bf16) (harg18 : arg18.IsWhole) (arg19 : Memref sig .tc .vmem S256x1024 .f32) (harg19 : arg19.IsWhole) (arg20 : Memref sig .tc .vmem S256x1024 .f32) (harg20 : arg20.IsWhole) (arg21 : Memref sig .tc .vmem S32x1024 .f32) (harg21 : arg21.IsWhole) (arg22 : Memref sig .tc .vmem S1x1024 .f32) (harg22 : arg22.IsWhole) (arg23 : Memref sig .tc .vmem S4x1024x1280 .bf16) (harg23 : arg23.IsWhole) (arg24 : DmaSems sig S1) (arg25 : Memref sig .tc .vmem S288x1024 .f32) (harg25 : arg25.IsWhole) (arg26 : Memref sig .tc .vmem S288x1024 .f32) (harg26 : arg26.IsWhole) (arg27 : Memref sig .tc .vmem S288x1024 .f32) (harg27 : arg27.IsWhole) (arg28 : Memref sig .tc .vmem S256x1024 .f32) (harg28 : arg28.IsWhole) (arg29 : Memref sig .tc .vmem S8x280x128 .f32) (harg29 : arg29.IsWhole) (arg30 : Memref sig .tc .vmem S32x8x1024 .f32) (harg30 : arg30.IsWhole) (arg0 : BitVec 32) (v59 : FVec F S16x1024 .f32) (v68 : FVec F S256x1024 .f32) {X_arg11 : BufTy.Contents (Elt F) arg11.view.ty} {X_arg25 : BufTy.Contents (Elt F) arg25.view.ty} {X_arg26 : BufTy.Contents (Elt F) arg26.view.ty} {G_arg28 : BufTy.Contents (Elt F) arg28.view.ty} {G_arg30 : BufTy.Contents (Elt F) arg30.view.ty} :
    Idealize.ShloMosaic.LoopInv (M := MT nD τ sig Unit (Elt F) ℕ (Pipeline.UD sig nD τ) ℕ) Idealize.ShloMosaic.frame
    (wpE (defs₀ (F := F)) 𝒱 (c : Thread nD τ) bd) E k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg25 harg25 arg26 harg26 arg27 harg27 arg28 harg28 arg29 harg29 arg30 harg30 arg0 v59 v68) where
  inv n _ := iprop((arg11.view.loc (c : Thread nD τ) ↦[arg11.view.set]{fullShare} X_arg11)
    ∗ (arg25.view.loc (c : Thread nD τ) ↦[arg25.view.set]{fullShare} X_arg25)
    ∗ (arg26.view.loc (c : Thread nD τ) ↦[arg26.view.set]{fullShare} X_arg26)
    ∗ (∃ f, (arg28.view.loc (c : Thread nD τ) ↦[arg28.view.set]{fullShare} f)
        ∗ ⌜arg28.view.read (Elt F) f = daAfter (arg11.view.read (Elt F) X_arg11) (arg26.view.read (Elt F) X_arg26) (arg28.view.read (Elt F) G_arg28) n⌝)
    ∗ (∃ f, (arg29.view.loc (c : Thread nD τ) ↦[arg29.view.set]{fullShare} f))
    ∗ (∃ f, (arg30.view.loc (c : Thread nD τ) ↦[arg30.view.set]{fullShare} f)
        ∗ ⌜arg30.view.read (Elt F) f = dwAfter (arg25.view.read (Elt F) X_arg25) (arg26.view.read (Elt F) X_arg26) (arg30.view.read (Elt F) G_arg30) n⌝))
  step k acc := by
    have hk : k.val < 8 := Nat.lt_of_lt_of_le k.isLt k0_t1_abs.2.1
    unfold k0_t1_body
    iintro ⟨HR_arg11, HR_arg25, HR_arg26, ⟨%f_arg28, HW_arg28, %h_arg28⟩, ⟨%f_arg29, HW_arg29⟩, ⟨%f_arg30, HW_arg30, %h_arg30⟩⟩
    sl_exec
    sl_step
    sl_unfold_run_names
    isplitl [HR_arg11]; · iexact HR_arg11
    isplitl [HR_arg25]; · iexact HR_arg25
    isplitl [HR_arg26]; · iexact HR_arg26
    isplitl [HW_arg28]
    · iexists _; isplitl [HW_arg28]; · iexact HW_arg28
      ipureintro
      refine daAfter_succ _ h_arg28 (k0_off42_eq k) _ ?_
      simp (disch := decide) only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay88, shapeCast_self, cov_hit, cov_skip,
        readAt_band (k0_off1_eq k) (by decide) hk,
        readAt_band (k0_off2_eq k) (by decide) hk,
        readAt_band (k0_off3_eq k) (by decide) hk,
        readAt_band (k0_off4_eq k) (by decide) hk,
        readAt_band (k0_off5_eq k) (by decide) hk,
        readAt_band (k0_off6_eq k) (by decide) hk,
        readAt_band (k0_off7_eq k) (by decide) hk,
        readAt_coef (k0_off8_eq k) (by decide) hk,
        readAt_coef (k0_off9_eq k) (by decide) hk,
        readAt_coef (k0_off10_eq k) (by decide) hk,
        readAt_coef (k0_off11_eq k) (by decide) hk,
        readAt_coef (k0_off12_eq k) (by decide) hk,
        readAt_coef (k0_off13_eq k) (by decide) hk,
        readAt_coef (k0_off14_eq k) (by decide) hk,
        readAt_coef (k0_off15_eq k) (by decide) hk,
        readAt_coef (k0_off17_eq k) (by decide) hk,
        readAt_coef (k0_off18_eq k) (by decide) hk,
        readAt_coef (k0_off19_eq k) (by decide) hk,
        readAt_coef (k0_off20_eq k) (by decide) hk,
        readAt_coef (k0_off21_eq k) (by decide) hk,
        readAt_coef (k0_off22_eq k) (by decide) hk,
        readAt_coef (k0_off23_eq k) (by decide) hk,
        readAt_coef (k0_off24_eq k) (by decide) hk,
        readAt_coef (k0_off26_eq k) (by decide) hk,
        readAt_coef (k0_off27_eq k) (by decide) hk,
        readAt_coef (k0_off28_eq k) (by decide) hk,
        readAt_coef (k0_off29_eq k) (by decide) hk,
        readAt_coef (k0_off30_eq k) (by decide) hk,
        readAt_coef (k0_off31_eq k) (by decide) hk,
        readAt_coef (k0_off32_eq k) (by decide) hk,
        readAt_coef (k0_off33_eq k) (by decide) hk,
        readAt_coef (k0_off35_eq k) (by decide) hk,
        readAt_coef (k0_off36_eq k) (by decide) hk,
        readAt_coef (k0_off37_eq k) (by decide) hk,
        readAt_coef (k0_off38_eq k) (by decide) hk,
        readAt_coef (k0_off39_eq k) (by decide) hk,
        readAt_coef (k0_off40_eq k) (by decide) hk,
        readAt_coef (k0_off41_eq k) (by decide) hk,
        readAt_tap (k0_off16_eq k) (by decide) hk,
        readAt_tap (k0_off25_eq k) (by decide) hk,
        readAt_tap (k0_off34_eq k) (by decide) hk,
        slab_band]
      rfl
    isplitl [HW_arg29]
    · iexists _; iexact HW_arg29
    iexists _; isplitl [HW_arg30]; · iexact HW_arg30
    ipureintro
    refine Upto.all h_arg30 ?_
    refine (Upto.succ 30 (k0_off73_eq k) _ ?_ (Upto.succ 29 (k0_off72_eq k) _ ?_ (Upto.succ 28 (k0_off71_eq k) _ ?_ (Upto.succ 27 (k0_off70_eq k) _ ?_ (Upto.succ 26 (k0_off69_eq k) _ ?_ (Upto.succ 25 (k0_off68_eq k) _ ?_ (Upto.succ 24 (k0_off67_eq k) _ ?_ (Upto.succ 23 (k0_off66_eq k) _ ?_ (Upto.succ 22 (k0_off65_eq k) _ ?_ (Upto.succ 21 (k0_off64_eq k) _ ?_ (Upto.succ 20 (k0_off63_eq k) _ ?_ (Upto.succ 19 (k0_off62_eq k) _ ?_ (Upto.succ 18 (k0_off61_eq k) _ ?_ (Upto.succ 17 (k0_off60_eq k) _ ?_ (Upto.succ 16 (k0_off59_eq k) _ ?_ (Upto.succ 15 (k0_off58_eq k) _ ?_ (Upto.succ 14 (k0_off57_eq k) _ ?_ (Upto.succ 13 (k0_off56_eq k) _ ?_ (Upto.succ 12 (k0_off55_eq k) _ ?_ (Upto.succ 11 (k0_off54_eq k) _ ?_ (Upto.succ 10 (k0_off53_eq k) _ ?_ (Upto.succ 9 (k0_off52_eq k) _ ?_ (Upto.succ 8 (k0_off51_eq k) _ ?_ (Upto.succ 7 (k0_off50_eq k) _ ?_ (Upto.succ 6 (k0_off49_eq k) _ ?_ (Upto.succ 5 (k0_off48_eq k) _ ?_ (Upto.succ 4 (k0_off47_eq k) _ ?_ (Upto.succ 3 (k0_off46_eq k) _ ?_ (Upto.succ 2 (k0_off45_eq k) _ ?_ (Upto.succ 1 (k0_off44_eq k) _ ?_ (Upto.succ 0 (k0_off43_eq k) _ ?_ Upto.zero)))))))))))))))))))))))))))))))
    all_goals
      simp (disch := decide) only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay88, shapeCast_self, cov_hit, cov_skip,
        readAt_band (k0_off1_eq k) (by decide) hk,
        readAt_band (k0_off2_eq k) (by decide) hk,
        readAt_band (k0_off3_eq k) (by decide) hk,
        readAt_band (k0_off4_eq k) (by decide) hk,
        readAt_band (k0_off5_eq k) (by decide) hk,
        readAt_band (k0_off6_eq k) (by decide) hk,
        readAt_band (k0_off7_eq k) (by decide) hk,
        readAt_tap (k0_off16_eq k) (by decide) hk,
        readAt_tap (k0_off25_eq k) (by decide) hk,
        readAt_tap (k0_off34_eq k) (by decide) hk,
        slab_band,
        readAt_old (k0_off43_eq k) (by decide) hk _ h_arg30,
        readAt_old (k0_off44_eq k) (by decide) hk _ h_arg30,
        readAt_old (k0_off45_eq k) (by decide) hk _ h_arg30,
        readAt_old (k0_off46_eq k) (by decide) hk _ h_arg30,
        readAt_old (k0_off47_eq k) (by decide) hk _ h_arg30,
        readAt_old (k0_off48_eq k) (by decide) hk _ h_arg30,
        readAt_old (k0_off49_eq k) (by decide) hk _ h_arg30,
        readAt_old (k0_off50_eq k) (by decide) hk _ h_arg30,
        readAt_old (k0_off51_eq k) (by decide) hk _ h_arg30,
        readAt_old (k0_off52_eq k) (by decide) hk _ h_arg30,
        readAt_old (k0_off53_eq k) (by decide) hk _ h_arg30,
        readAt_old (k0_off54_eq k) (by decide) hk _ h_arg30,
        readAt_old (k0_off55_eq k) (by decide) hk _ h_arg30,
        readAt_old (k0_off56_eq k) (by decide) hk _ h_arg30,
        readAt_old (k0_off57_eq k) (by decide) hk _ h_arg30,
        readAt_old (k0_off58_eq k) (by decide) hk _ h_arg30,
        readAt_old (k0_off59_eq k) (by decide) hk _ h_arg30,
        readAt_old (k0_off60_eq k) (by decide) hk _ h_arg30,
        readAt_old (k0_off61_eq k) (by decide) hk _ h_arg30,
        readAt_old (k0_off62_eq k) (by decide) hk _ h_arg30,
        readAt_old (k0_off63_eq k) (by decide) hk _ h_arg30,
        readAt_old (k0_off64_eq k) (by decide) hk _ h_arg30,
        readAt_old (k0_off65_eq k) (by decide) hk _ h_arg30,
        readAt_old (k0_off66_eq k) (by decide) hk _ h_arg30,
        readAt_old (k0_off67_eq k) (by decide) hk _ h_arg30,
        readAt_old (k0_off68_eq k) (by decide) hk _ h_arg30,
        readAt_old (k0_off69_eq k) (by decide) hk _ h_arg30,
        readAt_old (k0_off70_eq k) (by decide) hk _ h_arg30,
        readAt_old (k0_off71_eq k) (by decide) hk _ h_arg30,
        readAt_old (k0_off72_eq k) (by decide) hk _ h_arg30,
        readAt_old (k0_off73_eq k) (by decide) hk _ h_arg30]
      rfl

end Cert.Halo

end
-- ==== Proof.Halo.Point.lean ====
module

public import proofs.«01_k».proof.Proof.Halo.Trip
public import proofs.«01_k».proof.Proof.Gen.Kernel3Ideal.Frame
public import Idealize.ShloMosaic.Lib.VecWindow

/-! # What the runs of the halo body are stated over -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Conditions, buffers and counters -/

/-- The first point, by the grid's coordinate. -/
abbrev first (i : grid0.Coords) : Prop :=
  (Scalar.cmpi .ne (Scalar.extui (Scalar.cmpi .eq (BitVec.ofNat 32 (i 0).val) 0#32)) 0#32) = 1#1

theorem first_iff : ∀ t : Fin cfg0.N, first (grid0.coords t) ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [first, e0]
    word_cmp
   : ∀ t : Fin grid0.N, first (grid0.coords t) ↔ t.val % 17 = 0)

theorem opens_iff : ∀ t : Fin cfg0.N, k0_cond3 (grid0.coords t) = 1#1 ↔ t.val % 17 = 0 :=
  (fun t => by
    have ht : t.val < 17 := Nat.lt_of_lt_of_eq t.isLt N_0
    have e0 : (grid0.coords t 0).val = t.val / 1 % 17 := Pipeline.Grid.coords_val t 0 (by decide) rfl
    simp only [k0_cond3, e0]
    word_cmp
   : ∀ t : Fin grid0.N, k0_cond3 (grid0.coords t) = 1#1 ↔ t.val % 17 = 0)

theorem closes_iff : ∀ t : Fin cfg0.N, k0_cond2 (grid0.coords t) = 1#1 ↔ t.val % 17 = 16 :=
  (fun t => by
    have ht : t.val < 17 := Nat.lt_of_lt_of_eq t.isLt N_0
    have e0 : (grid0.coords t 0).val = t.val / 1 % 17 := Pipeline.Grid.coords_val t 0 (by decide) rfl
    simp only [k0_cond2, e0]
    word_cmp
   : ∀ t : Fin grid0.N, k0_cond2 (grid0.coords t) = 1#1 ↔ t.val % 17 = 16)

/-- Each window's buffer at a point, as the body is called with it. -/
abbrev ms0 (t : Fin cfg0.N) : Memref sig .tc .vmem S16x1024 .f32 := win0_0.stage (cfg0.slots t 0)
abbrev ms1 (t : Fin cfg0.N) : Memref sig .tc .vmem S256x1024 .f32 := win0_1.stage (cfg0.slots t 1)
abbrev ms2 (t : Fin cfg0.N) : Memref sig .tc .vmem S16x1024 .f32 := win0_2.stage (cfg0.slots t 2)
abbrev ms3 (t : Fin cfg0.N) : Memref sig .tc .vmem S16x1024 .f32 := win0_3.stage (cfg0.slots t 3)
abbrev ms4 (t : Fin cfg0.N) : Memref sig .tc .vmem S256x1024 .f32 := win0_4.stage (cfg0.slots t 4)
abbrev ms5 (t : Fin cfg0.N) : Memref sig .tc .vmem S16x1024 .f32 := win0_5.stage (cfg0.slots t 5)
abbrev ms6 (t : Fin cfg0.N) : Memref sig .tc .vmem S16x2048 .f32 := win0_6.stage (cfg0.slots t 6)
abbrev ms7 (t : Fin cfg0.N) : Memref sig .tc .vmem S256x2048 .f32 := win0_7.stage (cfg0.slots t 7)
abbrev ms8 (t : Fin cfg0.N) : Memref sig .tc .vmem S16x2048 .f32 := win0_8.stage (cfg0.slots t 8)
abbrev ms9 (t : Fin cfg0.N) : Memref sig .tc .vmem S256x2048 .bf16 := win0_9.stage (cfg0.slots t 9)
abbrev ms10 (t : Fin cfg0.N) : Memref sig .tc .vmem S32x1024 .f32 := win0_10.stage (cfg0.slots t 10)
abbrev ms11 (t : Fin cfg0.N) : Memref sig .tc .vmem S256x1024 .f32 := win0_11.stage (cfg0.slots t 11)
abbrev ms12 (t : Fin cfg0.N) : Memref sig .tc .vmem S256x1024 .f32 := win0_12.stage (cfg0.slots t 12)
abbrev ms13 (t : Fin cfg0.N) : Memref sig .tc .vmem S1x1024 .f32 := win0_13.stage (cfg0.slots t 13)
abbrev ms14 (t : Fin cfg0.N) : Memref sig .tc .vmem S256x1024 .f32 := win0_14.stage (cfg0.slots t 14)
abbrev ms15 (t : Fin cfg0.N) : Memref sig .tc .vmem S256x5120 .bf16 := win0_15.stage (cfg0.slots t 15)
abbrev ms16 (t : Fin cfg0.N) : Memref sig .tc .vmem S256x1024 .f32 := win0_16.stage (cfg0.slots t 16)
abbrev ms17 (t : Fin cfg0.N) : Memref sig .tc .vmem S256x1024 .f32 := win0_17.stage (cfg0.slots t 17)
abbrev ms18 (t : Fin cfg0.N) : Memref sig .tc .vmem S32x1024 .f32 := win0_18.stage (cfg0.slots t 18)
abbrev ms19 (t : Fin cfg0.N) : Memref sig .tc .vmem S1x1024 .f32 := win0_19.stage (cfg0.slots t 19)
/-- The scratch. -/
abbrev scM0 : Memref sig .tc .vmem S4x1024x1280 .bf16 := Memref.whole cc0_scratch0
abbrev scM2 : Memref sig .tc .vmem S288x1024 .f32 := Memref.whole cc0_scratch2
abbrev scM3 : Memref sig .tc .vmem S288x1024 .f32 := Memref.whole cc0_scratch3
abbrev scM4 : Memref sig .tc .vmem S288x1024 .f32 := Memref.whole cc0_scratch4
abbrev scM5 : Memref sig .tc .vmem S256x1024 .f32 := Memref.whole cc0_scratch5
abbrev scM6 : Memref sig .tc .vmem S8x280x128 .f32 := Memref.whole cc0_scratch6
abbrev scM7 : Memref sig .tc .vmem S32x8x1024 .f32 := Memref.whole cc0_scratch7
/-- The weight the body fetches itself. -/
abbrev hbM : Memref sig .tc .hbm S4x1024x1280 .bf16 := Memref.whole main_v23
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The counter of that fetch. -/
abbrev osem : Fin 1 → SemLoc sig := fun j => (![SemLoc.dma 34] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 34) 0) := by
  rw [Pipeline.ownSems0_eq_of_list c osem [0] (by decide) (by decide)]; rfl
/-- The array it fetches from. -/
def H0 : Finset (Ref sig .tc) := {main_v23}
theorem H0_sub : H0 ⊆ Pipeline.restRefs sig spec0 := by decide

variable (m : (ℓ : Loc nD τ sig) → Buf (Elt F) ℓ)

theorem hbmPts_eq (c : Dev nD) :
    (bigSep H0 (fun b => ((c : Thread nD τ).loc b) ↦{fullShare} V m c b) : sProp 𝕄) = iprop(hbPt c hbM (V m c main_v23)) := by
  rw [BI.bigSep_eq_bigSepL_of_eq [main_v23] (by decide) (by decide)]; rfl

/-- What the launch hands the body beside the windows' buffers. -/
theorem PhiD_eq (c : Dev nD) :
    (Pipeline.ΦD osem spec0 H0 (V m) c : sProp 𝕄)
      = iprop(iprop((∃ d, owns (c : Thread nD τ) scM0 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d) ∗ (∃ d, owns (c : Thread nD τ) scM6 fullShare d) ∗ (∃ d, owns (c : Thread nD τ) scM7 fullShare d)) ∗ (∃ r, prngReg c r) ∗ iprop(semVal ((c : Thread nD τ), SemLoc.dma 34) 0) ∗ iprop(hbPt c hbM (V m c main_v23))) := by
  rw [Pipeline.ΦD_eq, scopedRest0_eq, ownSems_eq, hbmPts_eq]; simp only [scM0, scM2, scM3, scM4, scM5, scM6, scM7, owns_whole]; try rfl

/-- The grid's coordinate as the body's word. -/
abbrev word (i : grid0.Coords) : BitVec 32 := BitVec.ofNat 32 (i 0).val

end Cert.Halo
-- ==== Proof.Halo.Boxes.lean ====
module

public import proofs.«01_k».proof.Proof.Halo.Taps
public import Idealize.ShloMosaic.Lib.VecWindow

/-! # Loads and stores of the halo body beside the loop -/

@[expose] public section

set_option maxRecDepth 16384

noncomputable section

namespace Cert.Halo

open Cert.Kernel3Ideal Cert.Kernel3Ideal.Gen
open Idealize.ShloMosaic Idealize.ShloMosaic.TcCoe Idealize.ShloMosaic.Tactic

variable {F : FTy → Type} [FloatOps F]

/-! ## Boxes of an array -/

/-- The columns of a border. -/
def half16 (b : ℕ) (a : Vec F S16x2048 .f32) : Vec F S16x1024 .f32 := fun y => a (ix2 (y 0) (Fin.ofNat 2048 (b + (y 1).val)))
/-- The columns of a block. -/
def half (b : ℕ) (a : Vec F S256x2048 .f32) : Vec F S256x1024 .f32 := fun y => a (ix2 (y 0) (Fin.ofNat 2048 (b + (y 1).val)))
/-- The 256 columns of a block. -/
def group (b : ℕ) (a : Vec F S256x1024 .f32) : Vec F S256x256 .f32 := fun y => a (ix2 (y 0) (Fin.ofNat 1024 (b + (y 1).val)))
/-- The 256 columns of an extended array. -/
def strip (b : ℕ) (a : Vec F S288x1024 .f32) : Vec F S288x256 .f32 := fun y => a (ix2 (y 0) (Fin.ofNat 1024 (b + (y 1).val)))
/-- The 256 rows and columns of an extended array. -/
def box (r b : ℕ) (a : Vec F S288x1024 .f32) : Vec F S256x256 .f32 := fun y => a (ix2 (Fin.ofNat 288 (r + (y 0).val)) (Fin.ofNat 1024 (b + (y 1).val)))
/-- The 1280 columns of the projection gradient. -/
def quarter (b : ℕ) (a : Vec F S256x5120 .bf16) : Vec F S256x1280 .bf16 := fun y => a (ix2 (y 0) (Fin.ofNat 5120 (b + (y 1).val)))
/-- One slab of the weight. -/
def sheet (s : ℕ) (a : Vec F S4x1024x1280 .bf16) : Vec F S1x1024x1280 .bf16 := fun y => a (ix3 (Fin.ofNat 4 s) (y 1) (y 2))

/-- Rows of 256 scaled columns. -/
def rows (r : ℕ) (a : Vec F S288x256 .f32) : Vec F S256x256 .f32 := fun y => a (ix2 (Fin.ofNat 288 (r + (y 0).val)) (y 1))

/-- A block between its borders. -/
def ext (a : Vec F S16x1024 .f32) (b : Vec F S256x1024 .f32) (c : Vec F S16x1024 .f32) : Vec F S288x1024 .f32 := fun y =>
  if (y 0).val < 16 then a (ix2 (Fin.ofNat 16 (y 0).val) (y 1))
  else if (y 0).val < 272 then b (ix2 (Fin.ofNat 256 ((y 0).val - 16)) (y 1))
  else c (ix2 (Fin.ofNat 16 ((y 0).val - 272)) (y 1))

/-- The array with 256 of its columns replaced. -/
def over (g : ℕ) (u : Vec F S288x256 .f32) (a : Vec F S288x1024 .f32) : Vec F S288x1024 .f32 := fun y =>
  if (y 1).val / 256 = g then u (ix2 (y 0) (Fin.ofNat 256 (y 1).val)) else a y

/-- The projection gradient, from what is stored in its columns. -/
def joined (a b : Vec F S256x1024 .bf16) (p0 p1 p2 p3 : Vec F S256x256 .bf16) (z : Vec F S256x2048 .bf16) : Vec F S256x5120 .bf16 := fun y =>
  if (y 1).val < 1024 then a (ix2 (y 0) (Fin.ofNat 1024 (y 1).val))
  else if (y 1).val < 2048 then b (ix2 (y 0) (Fin.ofNat 1024 ((y 1).val - 1024)))
  else if (y 1).val < 2304 then p0 (ix2 (y 0) (Fin.ofNat 256 ((y 1).val - 2048)))
  else if (y 1).val < 2560 then p1 (ix2 (y 0) (Fin.ofNat 256 ((y 1).val - 2304)))
  else if (y 1).val < 2816 then p2 (ix2 (y 0) (Fin.ofNat 256 ((y 1).val - 2560)))
  else if (y 1).val < 3072 then p3 (ix2 (y 0) (Fin.ofNat 256 ((y 1).val - 2816)))
  else z (ix2 (y 0) (Fin.ofNat 2048 ((y 1).val - 3072)))

theorem strip_over {b g : ℕ} (h : b / 256 ≠ g) (hb : b % 256 = 0 ∧ b < 1024) (u : Vec F S288x256 .f32) (a : Vec F S288x1024 .f32) :
    strip b (over g u a) = strip b a := by
  funext y
  have h1 : (y 1).val < 256 := (y 1).isLt
  refine if_neg ?_
  show ¬ (b + (y 1).val) % 1024 / 256 = g
  omega

theorem box_over {b g r : ℕ} (h : b / 256 ≠ g) (hb : b % 256 = 0 ∧ b < 1024) (u : Vec F S288x256 .f32) (a : Vec F S288x1024 .f32) :
    box r b (over g u a) = box r b a := by
  funext y
  have h1 : (y 1).val < 256 := (y 1).isLt
  refine if_neg ?_
  show ¬ (b + (y 1).val) % 1024 / 256 = g
  omega

theorem box_over_self {b g r : ℕ} (h : b = 256 * g ∧ g < 4) (u : Vec F S288x256 .f32) (a : Vec F S288x1024 .f32) :
    box r b (over g u a) = rows r u := by
  funext y
  have h1 : (y 1).val < 256 := (y 1).isLt
  refine (if_pos ?_).trans (congrArg u (Shape.idx_ext₂ rfl ?_))
  · show (b + (y 1).val) % 1024 / 256 = g
    omega
  · show (b + (y 1).val) % 1024 % 256 = (y 1).val
    omega

/-! ## Loads -/

variable {sig' : RefSig} {κ : Kind} {sp : Space}

theorem readAt_half16 {b : ℕ} (v : View sig' κ sp S16x2048 .f32) (h : ∀ a, (![0, b] : Fin 2 → ℕ) a + (![16, 1024] : Fin 2 → ℕ) a ≤ S16x2048.size a) (f : v.ty.Contents (Elt F)) :
    v.readAt (Elt F) (Rect.unit (s := S16x2048) ![0, b] ![16, 1024] h).toLoadRect f = half16 b (v.read (Elt F) f) := by
  have hb : b + 1024 ≤ 2048 := h 1
  funext y
  have h0 : (y 0).val < 16 := (y 0).isLt
  have h1 : (y 1).val < 1024 := (y 1).isLt
  refine congrArg (v.read (Elt F) f) (Shape.idx_ext₂ ?_ ?_)
  · show 0 + 1 * (y 0).val = (y 0).val
    omega
  · show b + 1 * (y 1).val = (b + (y 1).val) % 2048
    omega

theorem readCov_half16 {b : ℕ} (v : View sig' κ sp S16x2048 .f32) (h : ∀ a, (![0, b] : Fin 2 → ℕ) a + (![16, 1024] : Fin 2 → ℕ) a ≤ S16x2048.size a) (L : List (View.Piece (Elt F) S16x2048 .f32)) :
    v.readCov L (Rect.unit (s := S16x2048) ![0, b] ![16, 1024] h).toLoadRect = half16 b (v.read (Elt F) (v.writes (Elt F) v.junk L)) :=
  readAt_half16 v h _

theorem readAt_half {b : ℕ} (v : View sig' κ sp S256x2048 .f32) (h : ∀ a, (![0, b] : Fin 2 → ℕ) a + (![256, 1024] : Fin 2 → ℕ) a ≤ S256x2048.size a) (f : v.ty.Contents (Elt F)) :
    v.readAt (Elt F) (Rect.unit (s := S256x2048) ![0, b] ![256, 1024] h).toLoadRect f = half b (v.read (Elt F) f) := by
  have hb : b + 1024 ≤ 2048 := h 1
  funext y
  have h0 : (y 0).val < 256 := (y 0).isLt
  have h1 : (y 1).val < 1024 := (y 1).isLt
  refine congrArg (v.read (Elt F) f) (Shape.idx_ext₂ ?_ ?_)
  · show 0 + 1 * (y 0).val = (y 0).val
    omega
  · show b + 1 * (y 1).val = (b + (y 1).val) % 2048
    omega

theorem readCov_half {b : ℕ} (v : View sig' κ sp S256x2048 .f32) (h : ∀ a, (![0, b] : Fin 2 → ℕ) a + (![256, 1024] : Fin 2 → ℕ) a ≤ S256x2048.size a) (L : List (View.Piece (Elt F) S256x2048 .f32)) :
    v.readCov L (Rect.unit (s := S256x2048) ![0, b] ![256, 1024] h).toLoadRect = half b (v.read (Elt F) (v.writes (Elt F) v.junk L)) :=
  readAt_half v h _

theorem readAt_group {b : ℕ} (v : View sig' κ sp S256x1024 .f32) (h : ∀ a, (![0, b] : Fin 2 → ℕ) a + (![256, 256] : Fin 2 → ℕ) a ≤ S256x1024.size a) (f : v.ty.Contents (Elt F)) :
    v.readAt (Elt F) (Rect.unit (s := S256x1024) ![0, b] ![256, 256] h).toLoadRect f = group b (v.read (Elt F) f) := by
  have hb : b + 256 ≤ 1024 := h 1
  funext y
  have h0 : (y 0).val < 256 := (y 0).isLt
  have h1 : (y 1).val < 256 := (y 1).isLt
  refine congrArg (v.read (Elt F) f) (Shape.idx_ext₂ ?_ ?_)
  · show 0 + 1 * (y 0).val = (y 0).val
    omega
  · show b + 1 * (y 1).val = (b + (y 1).val) % 1024
    omega

theorem readCov_group {b : ℕ} (v : View sig' κ sp S256x1024 .f32) (h : ∀ a, (![0, b] : Fin 2 → ℕ) a + (![256, 256] : Fin 2 → ℕ) a ≤ S256x1024.size a) (L : List (View.Piece (Elt F) S256x1024 .f32)) :
    v.readCov L (Rect.unit (s := S256x1024) ![0, b] ![256, 256] h).toLoadRect = group b (v.read (Elt F) (v.writes (Elt F) v.junk L)) :=
  readAt_group v h _

theorem readAt_strip {b : ℕ} (v : View sig' κ sp S288x1024 .f32) (h : ∀ a, (![0, b] : Fin 2 → ℕ) a + (![288, 256] : Fin 2 → ℕ) a ≤ S288x1024.size a) (f : v.ty.Contents (Elt F)) :
    v.readAt (Elt F) (Rect.unit (s := S288x1024) ![0, b] ![288, 256] h).toLoadRect f = strip b (v.read (Elt F) f) := by
  have hb : b + 256 ≤ 1024 := h 1
  funext y
  have h0 : (y 0).val < 288 := (y 0).isLt
  have h1 : (y 1).val < 256 := (y 1).isLt
  refine congrArg (v.read (Elt F) f) (Shape.idx_ext₂ ?_ ?_)
  · show 0 + 1 * (y 0).val = (y 0).val
    omega
  · show b + 1 * (y 1).val = (b + (y 1).val) % 1024
    omega

theorem readCov_strip {b : ℕ} (v : View sig' κ sp S288x1024 .f32) (h : ∀ a, (![0, b] : Fin 2 → ℕ) a + (![288, 256] : Fin 2 → ℕ) a ≤ S288x1024.size a) (L : List (View.Piece (Elt F) S288x1024 .f32)) :
    v.readCov L (Rect.unit (s := S288x1024) ![0, b] ![288, 256] h).toLoadRect = strip b (v.read (Elt F) (v.writes (Elt F) v.junk L)) :=
  readAt_strip v h _

theorem readAt_box {r b : ℕ} (v : View sig' κ sp S288x1024 .f32) (h : ∀ a, (![r, b] : Fin 2 → ℕ) a + (![256, 256] : Fin 2 → ℕ) a ≤ S288x1024.size a) (f : v.ty.Contents (Elt F)) :
    v.readAt (Elt F) (Rect.unit (s := S288x1024) ![r, b] ![256, 256] h).toLoadRect f = box r b (v.read (Elt F) f) := by
  have hb : b + 256 ≤ 1024 := h 1
  have hr : r + 256 ≤ 288 := h 0
  funext y
  have h0 : (y 0).val < 256 := (y 0).isLt
  have h1 : (y 1).val < 256 := (y 1).isLt
  refine congrArg (v.read (Elt F) f) (Shape.idx_ext₂ ?_ ?_)
  · show r + 1 * (y 0).val = (r + (y 0).val) % 288
    omega
  · show b + 1 * (y 1).val = (b + (y 1).val) % 1024
    omega

theorem readCov_box {r b : ℕ} (v : View sig' κ sp S288x1024 .f32) (h : ∀ a, (![r, b] : Fin 2 → ℕ) a + (![256, 256] : Fin 2 → ℕ) a ≤ S288x1024.size a) (L : List (View.Piece (Elt F) S288x1024 .f32)) :
    v.readCov L (Rect.unit (s := S288x1024) ![r, b] ![256, 256] h).toLoadRect = box r b (v.read (Elt F) (v.writes (Elt F) v.junk L)) :=
  readAt_box v h _

theorem readAt_quarter {b : ℕ} (v : View sig' κ sp S256x5120 .bf16) (h : ∀ a, (![0, b] : Fin 2 → ℕ) a + (![256, 1280] : Fin 2 → ℕ) a ≤ S256x5120.size a) (f : v.ty.Contents (Elt F)) :
    v.readAt (Elt F) (Rect.unit (s := S256x5120) ![0, b] ![256, 1280] h).toLoadRect f = quarter b (v.read (Elt F) f) := by
  have hb : b + 1280 ≤ 5120 := h 1
  funext y
  have h0 : (y 0).val < 256 := (y 0).isLt
  have h1 : (y 1).val < 1280 := (y 1).isLt
  refine congrArg (v.read (Elt F) f) (Shape.idx_ext₂ ?_ ?_)
  · show 0 + 1 * (y 0).val = (y 0).val
    omega
  · show b + 1 * (y 1).val = (b + (y 1).val) % 5120
    omega

theorem readCov_quarter {b : ℕ} (v : View sig' κ sp S256x5120 .bf16) (h : ∀ a, (![0, b] : Fin 2 → ℕ) a + (![256, 1280] : Fin 2 → ℕ) a ≤ S256x5120.size a) (L : List (View.Piece (Elt F) S256x5120 .bf16)) :
    v.readCov L (Rect.unit (s := S256x5120) ![0, b] ![256, 1280] h).toLoadRect = quarter b (v.read (Elt F) (v.writes (Elt F) v.junk L)) :=
  readAt_quarter v h _

theorem readAt_sheet {s : ℕ} (v : View sig' κ sp S4x1024x1280 .bf16)
    (h : ∀ a, (![s, 0, 0] : Fin 3 → ℕ) a + (![1, 1024, 1280] : Fin 3 → ℕ) a ≤ S4x1024x1280.size a) (f : v.ty.Contents (Elt F)) :
    v.readAt (Elt F) (Rect.unit (s := S4x1024x1280) ![s, 0, 0] ![1, 1024, 1280] h).toLoadRect f = sheet s (v.read (Elt F) f) := by
  have hs : s + 1 ≤ 4 := h 0
  funext y
  have h0 : (y 0).val < 1 := (y 0).isLt
  refine congrArg (v.read (Elt F) f) (funext fun b => Fin.ext ?_)
  match b with
  | ⟨0, _⟩ => show s + 1 * (y 0).val = s % 4; omega
  | ⟨1, _⟩ => show 0 + 1 * (y 1).val = (y 1).val; omega
  | ⟨2, _⟩ => show 0 + 1 * (y 2).val = (y 2).val; omega

theorem readCov_sheet {s : ℕ} (v : View sig' κ sp S4x1024x1280 .bf16)
    (h : ∀ a, (![s, 0, 0] : Fin 3 → ℕ) a + (![1, 1024, 1280] : Fin 3 → ℕ) a ≤ S4x1024x1280.size a)
    (L : List (View.Piece (Elt F) S4x1024x1280 .bf16)) :
    v.readCov L (Rect.unit (s := S4x1024x1280) ![s, 0, 0] ![1, 1024, 1280] h).toLoadRect
      = sheet s (v.read (Elt F) (v.writes (Elt F) v.junk L)) :=
  readAt_sheet v h _

/-! ## Stores -/

/-- A store of 256 columns. -/
theorem read_over {b : ℕ} (v : View sig' κ sp S288x1024 .f32) (f : v.ty.Contents (Elt F))
    (h : ∀ a, (![0, b] : Fin 2 → ℕ) a + (![288, 256] : Fin 2 → ℕ) a ≤ S288x1024.size a) (hb : b % 256 = 0)
    (u : Vec F S288x256 .f32) (L : List (View.Piece (Elt F) S288x1024 .f32)) :
    v.read (Elt F) (v.writes (Elt F) f ((⟨Rect.unit (s := S288x1024) ![0, b] ![288, 256] h, u⟩ : View.Piece (Elt F) S288x1024 .f32) :: L))
      = over (b / 256) u (v.read (Elt F) (v.writes (Elt F) f L)) := by
  have hb' : b + 256 ≤ 1024 := h 1
  funext y
  have h0 : (y 0).val < 288 := (y 0).isLt
  rw [View.read_writes_cons_unit v f h u L y rfl]
  unfold over
  by_cases hy : (y 1).val / 256 = b / 256
  · have hin : ∀ a : Fin 2, (![0, b] : Fin 2 → ℕ) a ≤ (y a).val ∧ (y a).val < (![0, b] : Fin 2 → ℕ) a + (![288, 256] : Fin 2 → ℕ) a := by
      intro a
      match a with
      | ⟨0, _⟩ => exact ⟨Nat.zero_le _, by show (y 0).val < 0 + 288; omega⟩
      | ⟨1, _⟩ => exact ⟨by show b ≤ (y 1).val; omega, by show (y 1).val < b + 256; omega⟩
    rw [dif_pos hin, if_pos hy]
    refine congrArg u (Shape.idx_ext₂ ?_ ?_)
    · show (y 0).val - 0 = (y 0).val; omega
    · show (y 1).val - b = (y 1).val % 256; omega
  · have hout : ¬ ∀ a : Fin 2, (![0, b] : Fin 2 → ℕ) a ≤ (y a).val ∧ (y a).val < (![0, b] : Fin 2 → ℕ) a + (![288, 256] : Fin 2 → ℕ) a := by
      intro hin
      have a1 : b ≤ (y 1).val := (hin 1).1
      have a2 : (y 1).val < b + 256 := (hin 1).2
      omega
    rw [dif_neg hout, if_neg hy]

/-- One more store of whole rows, and one of whole columns, at a point inside it and at one beside it. -/
theorem read_box_in {s : Shape} {e : EltTy} (v : View sig' κ sp s e) (f : v.ty.Contents (Elt F)) {off size : Fin s.rank → ℕ}
    (h : ∀ a, off a + size a ≤ s.size a) (u : (Rect.unit off size h).shape.Idx → Elt F e) (L : List (View.Piece (Elt F) s e))
    (y : s.Idx) (x : (Rect.unit off size h).shape.Idx) (hx : ∀ a, (y a).val = off a + (x a).val) :
    v.read (Elt F) (v.writes (Elt F) f ((⟨Rect.unit off size h, u⟩ : View.Piece (Elt F) s e) :: L)) y = u x :=
  View.read_writes_cons_unit_of_mem v f h u L y x rfl hx

theorem read_box_out {s : Shape} {e : EltTy} (v : View sig' κ sp s e) (f : v.ty.Contents (Elt F)) {off size : Fin s.rank → ℕ}
    (h : ∀ a, off a + size a ≤ s.size a) (u : (Rect.unit off size h).shape.Idx → Elt F e) (L : List (View.Piece (Elt F) s e))
    (y : s.Idx) (a : Fin s.rank) (ha : (y a).val < off a ∨ off a + size a ≤ (y a).val) :
    v.read (Elt F) (v.writes (Elt F) f ((⟨Rect.unit off size h, u⟩ : View.Piece (Elt F) s e) :: L)) y
      = v.read (Elt F) (v.writes (Elt F) f L) y :=
  View.read_writes_cons_unit_of_not_mem v f h u L y rfl a ha

/-- The three stores of an extended array. -/
theorem read_ext (v : View sig' κ sp S288x1024 .f32) (f : v.ty.Contents (Elt F))
    (h3 : ∀ a, (![272, 0] : Fin 2 → ℕ) a + (![16, 1024] : Fin 2 → ℕ) a ≤ S288x1024.size a)
    (h2 : ∀ a, (![16, 0] : Fin 2 → ℕ) a + (![256, 1024] : Fin 2 → ℕ) a ≤ S288x1024.size a)
    (h1 : ∀ a, (![0, 0] : Fin 2 → ℕ) a + (![16, 1024] : Fin 2 → ℕ) a ≤ S288x1024.size a)
    (a : Vec F S16x1024 .f32) (b : Vec F S256x1024 .f32) (c : Vec F S16x1024 .f32) :
    v.read (Elt F) (v.writes (Elt F) f [(⟨Rect.unit (s := S288x1024) ![272, 0] ![16, 1024] h3, c⟩ : View.Piece (Elt F) S288x1024 .f32),
      (⟨Rect.unit (s := S288x1024) ![16, 0] ![256, 1024] h2, b⟩ : View.Piece (Elt F) S288x1024 .f32),
      (⟨Rect.unit (s := S288x1024) ![0, 0] ![16, 1024] h1, a⟩ : View.Piece (Elt F) S288x1024 .f32)])
      = ext a b c := by
  funext y
  have h0 : (y 0).val < 288 := (y 0).isLt
  unfold ext
  by_cases k1 : (y 0).val < 16
  · rw [if_pos k1]
    refine (read_box_out v f h3 _ _ y 0 (.inl ?_)).trans ((read_box_out v f h2 _ _ y 0 (.inl ?_)).trans
      (read_box_in v f h1 _ _ y (ix2 (Fin.ofNat 16 (y 0).val) (y 1)) fun d => ?_))
    · show (y 0).val < 272; omega
    · show (y 0).val < 16; omega
    · match d with
      | ⟨0, _⟩ => show (y 0).val = 0 + (y 0).val % 16; omega
      | ⟨1, _⟩ => show (y 1).val = 0 + (y 1).val; omega
  · rw [if_neg k1]
    by_cases k2 : (y 0).val < 272
    · rw [if_pos k2]
      refine (read_box_out v f h3 _ _ y 0 (.inl ?_)).trans
        (read_box_in v f h2 _ _ y (ix2 (Fin.ofNat 256 ((y 0).val - 16)) (y 1)) fun d => ?_)
      · show (y 0).val < 272; omega
      · match d with
        | ⟨0, _⟩ => show (y 0).val = 16 + ((y 0).val - 16) % 256; omega
        | ⟨1, _⟩ => show (y 1).val = 0 + (y 1).val; omega
    · rw [if_neg k2]
      refine read_box_in v f h3 _ _ y (ix2 (Fin.ofNat 16 ((y 0).val - 272)) (y 1)) fun d => ?_
      match d with
      | ⟨0, _⟩ => show (y 0).val = 272 + ((y 0).val - 272) % 16; omega
      | ⟨1, _⟩ => show (y 1).val = 0 + (y 1).val; omega

/-- The seven stores of the projection gradient. -/
theorem read_joined (v : View sig' κ sp S256x5120 .bf16) (f : v.ty.Contents (Elt F))
    (h7 : ∀ a, (![0, 3072] : Fin 2 → ℕ) a + (![256, 2048] : Fin 2 → ℕ) a ≤ S256x5120.size a)
    (h6 : ∀ a, (![0, 2816] : Fin 2 → ℕ) a + (![256, 256] : Fin 2 → ℕ) a ≤ S256x5120.size a)
    (h5 : ∀ a, (![0, 2560] : Fin 2 → ℕ) a + (![256, 256] : Fin 2 → ℕ) a ≤ S256x5120.size a)
    (h4 : ∀ a, (![0, 2304] : Fin 2 → ℕ) a + (![256, 256] : Fin 2 → ℕ) a ≤ S256x5120.size a)
    (h3 : ∀ a, (![0, 2048] : Fin 2 → ℕ) a + (![256, 256] : Fin 2 → ℕ) a ≤ S256x5120.size a)
    (h2 : ∀ a, (![0, 1024] : Fin 2 → ℕ) a + (![256, 1024] : Fin 2 → ℕ) a ≤ S256x5120.size a)
    (h1 : ∀ a, (![0, 0] : Fin 2 → ℕ) a + (![256, 1024] : Fin 2 → ℕ) a ≤ S256x5120.size a)
    (a b : Vec F S256x1024 .bf16) (p0 p1 p2 p3 : Vec F S256x256 .bf16) (z : Vec F S256x2048 .bf16) :
    v.read (Elt F) (v.writes (Elt F) f [(⟨Rect.unit (s := S256x5120) ![0, 3072] ![256, 2048] h7, z⟩ : View.Piece (Elt F) S256x5120 .bf16),
      (⟨Rect.unit (s := S256x5120) ![0, 2816] ![256, 256] h6, p3⟩ : View.Piece (Elt F) S256x5120 .bf16),
      (⟨Rect.unit (s := S256x5120) ![0, 2560] ![256, 256] h5, p2⟩ : View.Piece (Elt F) S256x5120 .bf16),
      (⟨Rect.unit (s := S256x5120) ![0, 2304] ![256, 256] h4, p1⟩ : View.Piece (Elt F) S256x5120 .bf16),
      (⟨Rect.unit (s := S256x5120) ![0, 2048] ![256, 256] h3, p0⟩ : View.Piece (Elt F) S256x5120 .bf16),
      (⟨Rect.unit (s := S256x5120) ![0, 1024] ![256, 1024] h2, b⟩ : View.Piece (Elt F) S256x5120 .bf16),
      (⟨Rect.unit (s := S256x5120) ![0, 0] ![256, 1024] h1, a⟩ : View.Piece (Elt F) S256x5120 .bf16)])
      = joined a b p0 p1 p2 p3 z := by
  funext y
  have h0 : (y 1).val < 5120 := (y 1).isLt
  unfold joined
  by_cases k0 : (y 1).val < 1024
  · rw [if_pos k0]
    refine (read_box_out v f h7 _ _ y 1 (.inl (by show (y 1).val < 3072; omega))).trans ((read_box_out v f h6 _ _ y 1 (.inl (by show (y 1).val < 2816; omega))).trans ((read_box_out v f h5 _ _ y 1 (.inl (by show (y 1).val < 2560; omega))).trans ((read_box_out v f h4 _ _ y 1 (.inl (by show (y 1).val < 2304; omega))).trans ((read_box_out v f h3 _ _ y 1 (.inl (by show (y 1).val < 2048; omega))).trans ((read_box_out v f h2 _ _ y 1 (.inl (by show (y 1).val < 1024; omega))).trans (read_box_in v f h1 _ _ y (ix2 (y 0) (Fin.ofNat 1024 (y 1).val)) fun d => ?_))))))
    match d with
    | ⟨0, _⟩ => show (y 0).val = 0 + (y 0).val; omega
    | ⟨1, _⟩ => show (y 1).val = 0 + (y 1).val % 1024; omega
  · rw [if_neg k0]
    by_cases k1 : (y 1).val < 2048
    · rw [if_pos k1]
      refine (read_box_out v f h7 _ _ y 1 (.inl (by show (y 1).val < 3072; omega))).trans ((read_box_out v f h6 _ _ y 1 (.inl (by show (y 1).val < 2816; omega))).trans ((read_box_out v f h5 _ _ y 1 (.inl (by show (y 1).val < 2560; omega))).trans ((read_box_out v f h4 _ _ y 1 (.inl (by show (y 1).val < 2304; omega))).trans ((read_box_out v f h3 _ _ y 1 (.inl (by show (y 1).val < 2048; omega))).trans (read_box_in v f h2 _ _ y (ix2 (y 0) (Fin.ofNat 1024 ((y 1).val - 1024))) fun d => ?_)))))
      match d with
      | ⟨0, _⟩ => show (y 0).val = 0 + (y 0).val; omega
      | ⟨1, _⟩ => show (y 1).val = 1024 + ((y 1).val - 1024) % 1024; omega
    · rw [if_neg k1]
      by_cases k2 : (y 1).val < 2304
      · rw [if_pos k2]
        refine (read_box_out v f h7 _ _ y 1 (.inl (by show (y 1).val < 3072; omega))).trans ((read_box_out v f h6 _ _ y 1 (.inl (by show (y 1).val < 2816; omega))).trans ((read_box_out v f h5 _ _ y 1 (.inl (by show (y 1).val < 2560; omega))).trans ((read_box_out v f h4 _ _ y 1 (.inl (by show (y 1).val < 2304; omega))).trans (read_box_in v f h3 _ _ y (ix2 (y 0) (Fin.ofNat 256 ((y 1).val - 2048))) fun d => ?_))))
        match d with
        | ⟨0, _⟩ => show (y 0).val = 0 + (y 0).val; omega
        | ⟨1, _⟩ => show (y 1).val = 2048 + ((y 1).val - 2048) % 256; omega
      · rw [if_neg k2]
        by_cases k3 : (y 1).val < 2560
        · rw [if_pos k3]
          refine (read_box_out v f h7 _ _ y 1 (.inl (by show (y 1).val < 3072; omega))).trans ((read_box_out v f h6 _ _ y 1 (.inl (by show (y 1).val < 2816; omega))).trans ((read_box_out v f h5 _ _ y 1 (.inl (by show (y 1).val < 2560; omega))).trans (read_box_in v f h4 _ _ y (ix2 (y 0) (Fin.ofNat 256 ((y 1).val - 2304))) fun d => ?_)))
          match d with
          | ⟨0, _⟩ => show (y 0).val = 0 + (y 0).val; omega
          | ⟨1, _⟩ => show (y 1).val = 2304 + ((y 1).val - 2304) % 256; omega
        · rw [if_neg k3]
          by_cases k4 : (y 1).val < 2816
          · rw [if_pos k4]
            refine (read_box_out v f h7 _ _ y 1 (.inl (by show (y 1).val < 3072; omega))).trans ((read_box_out v f h6 _ _ y 1 (.inl (by show (y 1).val < 2816; omega))).trans (read_box_in v f h5 _ _ y (ix2 (y 0) (Fin.ofNat 256 ((y 1).val - 2560))) fun d => ?_))
            match d with
            | ⟨0, _⟩ => show (y 0).val = 0 + (y 0).val; omega
            | ⟨1, _⟩ => show (y 1).val = 2560 + ((y 1).val - 2560) % 256; omega
          · rw [if_neg k4]
            by_cases k5 : (y 1).val < 3072
            · rw [if_pos k5]
              refine (read_box_out v f h7 _ _ y 1 (.inl (by show (y 1).val < 3072; omega))).trans (read_box_in v f h6 _ _ y (ix2 (y 0) (Fin.ofNat 256 ((y 1).val - 2816))) fun d => ?_)
              match d with
              | ⟨0, _⟩ => show (y 0).val = 0 + (y 0).val; omega
              | ⟨1, _⟩ => show (y 1).val = 2816 + ((y 1).val - 2816) % 256; omega
            · rw [if_neg k5]
              refine read_box_in v f h7 _ _ y (ix2 (y 0) (Fin.ofNat 2048 ((y 1).val - 3072))) fun d => ?_
              match d with
              | ⟨0, _⟩ => show (y 0).val = 0 + (y 0).val; omega
              | ⟨1, _⟩ => show (y 1).val = 3072 + ((y 1).val - 3072) % 2048; omega

end Cert.Halo
-- ==== Proof.Halo.Step.lean ====
module

public import proofs.«01_k».proof.Proof.Halo.Point
public import proofs.«01_k».proof.Proof.Halo.Boxes

/-! # The halo body at one point

What the body stores as functions of the blocks it reads, of the weight it keeps and of the sums so far. -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The blocks a point reads, and the weight. -/
structure Ins (F : FTy → Type) where
  dcp : Vec F S16x1024 .f32
  dcc : Vec F S256x1024 .f32
  dcn : Vec F S16x1024 .f32
  dmp : Vec F S16x1024 .f32
  dmc : Vec F S256x1024 .f32
  dmn : Vec F S16x1024 .f32
  zp : Vec F S16x2048 .f32
  zc : Vec F S256x2048 .f32
  zn : Vec F S16x2048 .f32
  dzg : Vec F S256x2048 .bf16
  wdw : Vec F S32x1024 .f32
  head : Vec F S256x1024 .f32
  x : Vec F S256x1024 .f32
  g : Vec F S1x1024 .f32
  dh1 : Vec F S256x1024 .f32
  w : Vec F S4x1024x1280 .bf16

/-- The sums over rows that the points carry on: the filter's, eight rows apart, and the norm's scale. -/
structure Accs (F : FTy → Type) where
  dwp : Vec F S32x8x1024 .f32
  dgmix : Vec F S1x1024 .f32

/-- The sums before the first point. -/
def Accs.start : Accs F := ⟨k0_pay71, k0_pay72⟩

namespace Ins

variable (x : Ins F) (i : BitVec 32)

/-- The gate's logistic, and the gated rows with 16 rows of either neighbour. -/
def sig : Vec F S256x1024 .f32 := k0_pay73 (half 1024 x.zc)
def aext : Vec F S288x1024 .f32 := ext (k0_pay78 i (k0_pay74 (half16 0 x.zp) (half16 1024 x.zp)))
  (k0_pay79 (k0_pay75 (half 1024 x.zc) (half 0 x.zc))) (k0_pay80 i (k0_pay76 (half16 0 x.zn)) (k0_pay77 (half16 1024 x.zn)))
/-- The two incoming gradients with 16 rows of either neighbour. -/
def dext : Vec F S288x1024 .f32 := ext (k0_pay82 i x.dcp) (k0_pay83 x.dcc) (k0_pay84 i (k0_pay81 x.dcn))
def qext : Vec F S288x1024 .f32 := ext (k0_pay85 i x.dmp) (k0_pay86 x.dmc) (k0_pay87 i x.dmn)
/-- The filter's transpose. -/
def da : Vec F S256x1024 .f32 := fun y => acc x.wdw (x.dext i) ((y 1).val / 128) 31 (ix2 (y 0) (Fin.ofNat 128 (y 1).val))
/-- The four groups of columns, each over the number of rows in its window. -/
def s0 : Vec F S288x256 .f32 := k0_pay96 (strip 0 (x.qext i)) (k0_pay93 i) (k0_pay94 i) k0_pay95
def s1 : Vec F S288x256 .f32 := k0_pay99 (strip 256 (x.qext i)) (k0_pay98 (k0_pay92 i))
def s2 : Vec F S288x256 .f32 := k0_pay103 (strip 512 (x.qext i)) (k0_pay101 (k0_pay92 i)) k0_pay102
def s3 : Vec F S288x256 .f32 := k0_pay107 (k0_pay92 i) (strip 768 (x.qext i)) (k0_pay105 (k0_pay92 i)) 4112#32 k0_pay106
/-- The windows' transposes. -/
def p0 : Vec F S256x256 .bf16 := k0_pay97 (rows 16 (x.s0 i)) (rows 17 (x.s0 i)) (group 0 x.dmc)
def p1 : Vec F S256x256 .bf16 := k0_pay100 (rows 15 (x.s1 i)) (rows 16 (x.s1 i)) (rows 17 (x.s1 i)) (rows 18 (x.s1 i)) (group 256 x.dmc)
def p2 : Vec F S256x256 .bf16 := k0_pay104 (rows 13 (x.s2 i)) (rows 14 (x.s2 i)) (rows 15 (x.s2 i)) (rows 16 (x.s2 i)) (rows 17 (x.s2 i)) (rows 18 (x.s2 i))
    (rows 19 (x.s2 i)) (rows 20 (x.s2 i)) (group 512 x.dmc)
def p3 : Vec F S256x256 .bf16 := k0_pay109 (k0_pay108 (rows 9 (x.s3 i)) (rows 10 (x.s3 i)) (rows 11 (x.s3 i)) (rows 12 (x.s3 i)) (rows 13 (x.s3 i)) (rows 14 (x.s3 i)) (rows
    15 (x.s3 i)) (rows 16 (x.s3 i)))
  (rows 17 (x.s3 i)) (rows 18 (x.s3 i)) (rows 19 (x.s3 i)) (rows 20 (x.s3 i)) (rows 21 (x.s3 i)) (rows 22 (x.s3 i))
    (rows 23 (x.s3 i)) (rows 24 (x.s3 i)) (group 768 x.dmc)
/-- The gradients at the projection and at the normalised row. -/
def dz : Vec F S256x5120 .bf16 := joined (k0_pay90 x.sig (x.da i)) (k0_pay91 x.sig (x.da i) (half 0 x.zc)) (x.p0 i) (x.p1 i) (x.p2 i) (x.p3 i)
  (k0_pay110 x.dzg)
def du : Vec F S256x1024 .f32 := k0_pay112 (k0_pay111 (quarter 0 (x.dz i)) (sheet 0 x.w)) (quarter 1280 (x.dz i)) (sheet 1 x.w)
  (quarter 2560 (x.dz i)) (sheet 2 x.w) (quarter 3840 (x.dz i)) (sheet 3 x.w)
/-- The gradient at the row. -/
def dh0 : Vec F S256x1024 .f32 := k0_pay2 (x.du i) (k0_pay114 i x.head x.x) (k0_pay115 i x.head x.x) x.g x.dh1

/-- The sums after the point, from those before it. -/
def next (a : Accs F) : Accs F where
  dwp := dwUpto (x.aext i) (x.dext i) a.dwp 8
  dgmix := k0_pay1 (x.du i) (k0_pay115 i x.head x.x) a.dgmix

theorem da_of_trips (g : Vec F S256x1024 .f32) : daUpto x.wdw (x.dext i) g 8 = x.da i := by
  funext y
  have h1 : (y 1).val < 1024 := (y 1).isLt
  exact if_pos (by omega)

end Ins

/-- The filter's gradient from the eight rows. -/
def Accs.dwdw (a : Accs F) : Vec F S32x1024 .f32 := k0_pay89 a.dwp

theorem trips_eq : Scf.trips k0_t1_loop.lb k0_t1_loop.ub k0_t1_loop.st = 8 := by decide

/-- A load of a whole array. -/
theorem load_whole {s : Shape} {e : EltTy} {κ : Kind} {sp : Space} {sig' : RefSig} (v : View sig' κ sp s e)
    {off : Fin s.rank → ℕ} (h : ∀ a, off a + s.size a ≤ s.size a) (ho : ∀ a, off a = 0) (f : v.ty.Contents (Elt F)) :
    v.readAt (Elt F) (Rect.unit (s := s) off (no_index s.size) h).toLoadRect f = v.read (Elt F) f := by
  funext y
  refine congrArg (v.read (Elt F) f) (funext fun a => Fin.ext ?_)
  show off a + 1 * (y a).val = (y a).val
  rw [ho a, Nat.zero_add, Nat.one_mul]

end Cert.Halo
-- ==== Proof.Halo.First.lean ====
module

public import proofs.«01_k».proof.Proof.Halo.Step

/-! # The run of the halo body at the first point -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- The body at the first point. -/
theorem run_first (c : Dev nD) (i : grid0.Coords) (arg1 : Memref sig .tc .vmem S16x1024 .f32) (harg1 : arg1.IsWhole)
    (arg2 : Memref sig .tc .vmem S256x1024 .f32) (harg2 : arg2.IsWhole) (arg3 : Memref sig .tc .vmem S16x1024 .f32)
    (harg3 : arg3.IsWhole) (arg4 : Memref sig .tc .vmem S16x1024 .f32) (harg4 : arg4.IsWhole) (arg5 : Memref sig .tc
    .vmem S256x1024 .f32) (harg5 : arg5.IsWhole) (arg6 : Memref sig .tc .vmem S16x1024 .f32) (harg6 : arg6.IsWhole)
    (arg7 : Memref sig .tc .vmem S16x2048 .f32) (harg7 : arg7.IsWhole) (arg8 : Memref sig .tc .vmem S256x2048 .f32)
    (harg8 : arg8.IsWhole) (arg9 : Memref sig .tc .vmem S16x2048 .f32) (harg9 : arg9.IsWhole) (arg10 : Memref sig .tc
    .vmem S256x2048 .bf16) (harg10 : arg10.IsWhole) (arg11 : Memref sig .tc .vmem S32x1024 .f32) (harg11 :
    arg11.IsWhole) (arg12 : Memref sig .tc .vmem S256x1024 .f32) (harg12 : arg12.IsWhole) (arg13 : Memref sig .tc
    .vmem S256x1024 .f32) (harg13 : arg13.IsWhole) (arg14 : Memref sig .tc .vmem S1x1024 .f32) (harg14 :
    arg14.IsWhole) (arg15 : Memref sig .tc .vmem S256x1024 .f32) (harg15 : arg15.IsWhole) (arg18 : Memref sig .tc
    .vmem S256x5120 .bf16) (harg18 : arg18.IsWhole) (arg19 : Memref sig .tc .vmem S256x1024 .f32) (harg19 :
    arg19.IsWhole) (arg20 : Memref sig .tc .vmem S256x1024 .f32) (harg20 : arg20.IsWhole) (arg21 : Memref sig .tc
    .vmem S32x1024 .f32) (harg21 : arg21.IsWhole) (arg22 : Memref sig .tc .vmem S1x1024 .f32) (harg22 : arg22.IsWhole)
    (arg23 : Memref sig .tc .vmem S4x1024x1280 .bf16) (harg23 : arg23.IsWhole) (arg25 : Memref sig .tc .vmem S288x1024
    .f32) (harg25 : arg25.IsWhole) (arg26 : Memref sig .tc .vmem S288x1024 .f32) (harg26 : arg26.IsWhole) (arg27 :
    Memref sig .tc .vmem S288x1024 .f32) (harg27 : arg27.IsWhole) (arg28 : Memref sig .tc .vmem S256x1024 .f32)
    (harg28 : arg28.IsWhole) (arg29 : Memref sig .tc .vmem S8x280x128 .f32) (harg29 : arg29.IsWhole) (arg30 : Memref
    sig .tc .vmem S32x8x1024 .f32) (harg30 : arg30.IsWhole) (h1 : first i) (h2 : ¬k0_cond2 i = 1#1) (h3 : k0_cond3 i =
    1#1) (x : Ins F) (o21 : Vec F S32x1024 .f32) (fh : HbBuf (F := F) c hbM) (hw : fh = x.w) (W : Waits sig Unit) (K :
    PUnit → sProp 𝕄) :
    iprop(owns (c : Thread nD τ) arg1 fullShare x.dcp ∗ owns (c : Thread nD τ) arg2 fullShare x.dcc ∗ owns (c : Thread
      nD τ) arg3 fullShare x.dcn ∗ owns (c : Thread nD τ) arg4 fullShare x.dmp ∗ owns (c : Thread nD τ) arg5 fullShare
      x.dmc ∗ owns (c : Thread nD τ) arg6 fullShare x.dmn ∗ owns (c : Thread nD τ) arg7 fullShare x.zp ∗ owns (c :
      Thread nD τ) arg8 fullShare x.zc ∗ owns (c : Thread nD τ) arg9 fullShare x.zn ∗ owns (c : Thread nD τ) arg10
      fullShare x.dzg ∗ owns (c : Thread nD τ) arg11 fullShare x.wdw ∗ owns (c : Thread nD τ) arg12 fullShare x.head ∗
      owns (c : Thread nD τ) arg13 fullShare x.x ∗ owns (c : Thread nD τ) arg14 fullShare x.g ∗ owns (c : Thread nD τ)
      arg15 fullShare x.dh1 ∗ (∃ d, owns (c : Thread nD τ) arg18 fullShare d) ∗ (∃ d, owns (c : Thread nD τ) arg19
      fullShare d) ∗ (∃ d, owns (c : Thread nD τ) arg20 fullShare d) ∗ owns (c : Thread nD τ) arg21 fullShare o21 ∗ (∃
      d, owns (c : Thread nD τ) arg22 fullShare d) ∗ (∃ d, owns (c : Thread nD τ) arg23 fullShare d) ∗ (∃ d, owns (c :
      Thread nD τ) arg25 fullShare d) ∗ (∃ d, owns (c : Thread nD τ) arg26 fullShare d) ∗ (∃ d, owns (c : Thread nD τ)
      arg27 fullShare d) ∗ (∃ d, owns (c : Thread nD τ) arg28 fullShare d) ∗ (∃ d, owns (c : Thread nD τ) arg29
      fullShare d) ∗ (∃ d, owns (c : Thread nD τ) arg30 fullShare d) ∗ semVal ((c : Thread nD τ), SemLoc.dma 34) 0 ∗
      hbPt c hbM fh ∗ owes (c : Thread nD τ) 0 W ∗ (iprop(owns (c : Thread nD τ) arg1 fullShare x.dcp ∗ owns (c :
      Thread nD τ) arg2 fullShare x.dcc ∗ owns (c : Thread nD τ) arg3 fullShare x.dcn ∗ owns (c : Thread nD τ) arg4
      fullShare x.dmp ∗ owns (c : Thread nD τ) arg5 fullShare x.dmc ∗ owns (c : Thread nD τ) arg6 fullShare x.dmn ∗
      owns (c : Thread nD τ) arg7 fullShare x.zp ∗ owns (c : Thread nD τ) arg8 fullShare x.zc ∗ owns (c : Thread nD τ)
      arg9 fullShare x.zn ∗ owns (c : Thread nD τ) arg10 fullShare x.dzg ∗ owns (c : Thread nD τ) arg11 fullShare
      x.wdw ∗ owns (c : Thread nD τ) arg12 fullShare x.head ∗ owns (c : Thread nD τ) arg13 fullShare x.x ∗ owns (c :
      Thread nD τ) arg14 fullShare x.g ∗ owns (c : Thread nD τ) arg15 fullShare x.dh1 ∗ owns (c : Thread nD τ) arg18
      fullShare (x.dz (word i)) ∗ owns (c : Thread nD τ) arg19 fullShare (x.dh0 (word i)) ∗ owns (c : Thread nD τ)
      arg20 fullShare (x.dh0 (word i)) ∗ owns (c : Thread nD τ) arg21 fullShare o21 ∗ owns (c : Thread nD τ) arg22
      fullShare (x.next (word i) .start).dgmix ∗ owns (c : Thread nD τ) arg23 fullShare x.w ∗ (∃ d, owns (c : Thread
      nD τ) arg25 fullShare d) ∗ (∃ d, owns (c : Thread nD τ) arg26 fullShare d) ∗ (∃ d, owns (c : Thread nD τ) arg27
      fullShare d) ∗ (∃ d, owns (c : Thread nD τ) arg28 fullShare d) ∗ (∃ d, owns (c : Thread nD τ) arg29 fullShare d)
      ∗ owns (c : Thread nD τ) arg30 fullShare (x.next (word i) .start).dwp ∗ semVal ((c : Thread nD τ), SemLoc.dma
      34) 0 ∗ hbPt c hbM fh ∗ (∃ W', owes (c : Thread nD τ) 0 W')) -∗ K ⟨⟩))
      ⊢ wp frame (wpE (defs₀ (F := F)) Variants.none c none) Set.univ (cc0_mixers_bwd_halo i arg1 harg1 arg2 harg2
        arg3 harg3 arg4 harg4 arg5 harg5 arg6 harg6 arg7 harg7 arg8 harg8 arg9 harg9 arg10 harg10 arg11 harg11 arg12
        harg12 arg13 harg13 arg14 harg14 arg15 harg15 (Memref.whole main_v23) (Memref.isWhole_whole _) (Memref.whole
        main_v41) (Memref.isWhole_whole _) arg18 harg18 arg19 harg19 arg20 harg20 arg21 harg21 arg22 harg22 arg23
        harg23 cc0_scratch1 arg25 harg25 arg26 harg26 arg27 harg27 arg28 harg28 arg29 harg29 arg30 harg30) K := by
  simp only [cc0_mixers_bwd_halo_eq_skeleton]; unfold cc0_mixers_bwd_halo_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7,
    %hf7, H7⟩, ⟨%f8, %hf8, H8⟩, ⟨%f9, %hf9, H9⟩, ⟨%f10, %hf10, H10⟩, ⟨%f11, %hf11, H11⟩, ⟨%f12, %hf12, H12⟩, ⟨%f13,
    %hf13, H13⟩, ⟨%f14, %hf14, H14⟩, ⟨%f15, %hf15, H15⟩, ⟨%d18, %f18, -, H18⟩, ⟨%d19, %f19, -, H19⟩, ⟨%d20, %f20, -,
    H20⟩, ⟨%f21, %hf21, H21⟩, ⟨%d22, %f22, -, H22⟩, ⟨%d23, %f23, -, H23⟩, ⟨%d25, %f25, -, H25⟩, ⟨%d26, %f26, -, H26⟩,
    ⟨%d27, %f27, -, H27⟩, ⟨%d28, %f28, -, H28⟩, ⟨%d29, %f29, -, H29⟩, ⟨%d30, %f30, -, H30⟩, Hq, Hh, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | sl_exact h1 | sl_exact h2 | sl_exact h3)
  sl_step
  have hda : View.read (Elt F) arg28.view fL0 = x.da (word i) := by
    refine hL4.trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread]
    rw [trips_eq, daAfter_eq]
    exact x.da_of_trips (word i) _
  have hdw : View.read (Elt F) arg30.view fL2 = (x.next (word i) .start).dwp := by
    refine hL7.trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread]
    rw [trips_eq, dwAfter_eq]
    rw [View.read_writes_full]
    rfl
  iapply Hk
  isplitl [H1]; · iexists _; isplitr; swap; (iexact H1); ipureintro; exact harg1.read_unread _
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]; · iexists _; isplitr; swap; (iexact H5); ipureintro; exact harg5.read_unread _
  isplitl [H6]; · iexists _; isplitr; swap; (iexact H6); ipureintro; exact harg6.read_unread _
  isplitl [H7]; · iexists _; isplitr; swap; (iexact H7); ipureintro; exact harg7.read_unread _
  isplitl [H8]; · iexists _; isplitr; swap; (iexact H8); ipureintro; exact harg8.read_unread _
  isplitl [H9]; · iexists _; isplitr; swap; (iexact H9); ipureintro; exact harg9.read_unread _
  isplitl [H10]; · iexists _; isplitr; swap; (iexact H10); ipureintro; exact harg10.read_unread _
  isplitl [H11]; · iexists _; isplitr; swap; (iexact H11); ipureintro; exact harg11.read_unread _
  isplitl [H12]; · iexists _; isplitr; swap; (iexact H12); ipureintro; exact harg12.read_unread _
  isplitl [H13]; · iexists _; isplitr; swap; (iexact H13); ipureintro; exact harg13.read_unread _
  isplitl [H14]; · iexists _; isplitr; swap; (iexact H14); ipureintro; exact harg14.read_unread _
  isplitl [H15]; · iexists _; isplitr; swap; (iexact H15); ipureintro; exact harg15.read_unread _
  isplitl [H18]
  · iexists _; isplitr
    swap; · iexact H18
    ipureintro
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    subst hw
    rfl
  isplitl [H19]
  · iexists _; isplitr
    swap; · iexact H19
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    subst hw
    rfl
  isplitl [H20]
  · iexists _; isplitr
    swap; · iexact H20
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    subst hw
    rfl
  isplitl [H21]; · iexists _; isplitr; swap; (iexact H21); ipureintro; exact hf21
  isplitl [H22]
  · iexists _; isplitr
    swap; · iexact H22
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    subst hw
    rfl
  isplitl [H23]
  · iexists _; isplitr
    swap; · iexact H23
    ipureintro
    refine (View.read_writes_whole _ _ _).trans ?_; subst hw; rfl
  isplitl [H25]; · iexists _; iexists _; isplitr; swap; (iexact H25); ipureintro; rfl
  isplitl [H26]; · iexists _; iexists _; isplitr; swap; (iexact H26); ipureintro; rfl
  isplitl [H27]; · iexists _; iexists _; isplitr; swap; (iexact H27); ipureintro; rfl
  isplitl [H28]; · iexists _; iexists _; isplitr; swap; (iexact H28); ipureintro; rfl
  isplitl [H29]; · iexists _; iexists _; isplitr; swap; (iexact H29); ipureintro; rfl
  isplitl [H30]
  · iexists _; isplitr
    swap; · iexact H30
    ipureintro
    exact hdw
  isplitl [Hq]; · iexact Hq
  isplitl [Hh]; · iexact Hh
  iexists _; iexact HW

end Cert.Halo
-- ==== Proof.Halo.Middle.lean ====
module

public import proofs.«01_k».proof.Proof.Halo.Step

/-! # The run of the halo body at a point between -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- The body at a point between. -/
theorem run_middle (c : Dev nD) (i : grid0.Coords) (arg1 : Memref sig .tc .vmem S16x1024 .f32) (harg1 : arg1.IsWhole)
    (arg2 : Memref sig .tc .vmem S256x1024 .f32) (harg2 : arg2.IsWhole) (arg3 : Memref sig .tc .vmem S16x1024 .f32)
    (harg3 : arg3.IsWhole) (arg4 : Memref sig .tc .vmem S16x1024 .f32) (harg4 : arg4.IsWhole) (arg5 : Memref sig .tc
    .vmem S256x1024 .f32) (harg5 : arg5.IsWhole) (arg6 : Memref sig .tc .vmem S16x1024 .f32) (harg6 : arg6.IsWhole)
    (arg7 : Memref sig .tc .vmem S16x2048 .f32) (harg7 : arg7.IsWhole) (arg8 : Memref sig .tc .vmem S256x2048 .f32)
    (harg8 : arg8.IsWhole) (arg9 : Memref sig .tc .vmem S16x2048 .f32) (harg9 : arg9.IsWhole) (arg10 : Memref sig .tc
    .vmem S256x2048 .bf16) (harg10 : arg10.IsWhole) (arg11 : Memref sig .tc .vmem S32x1024 .f32) (harg11 :
    arg11.IsWhole) (arg12 : Memref sig .tc .vmem S256x1024 .f32) (harg12 : arg12.IsWhole) (arg13 : Memref sig .tc
    .vmem S256x1024 .f32) (harg13 : arg13.IsWhole) (arg14 : Memref sig .tc .vmem S1x1024 .f32) (harg14 :
    arg14.IsWhole) (arg15 : Memref sig .tc .vmem S256x1024 .f32) (harg15 : arg15.IsWhole) (arg18 : Memref sig .tc
    .vmem S256x5120 .bf16) (harg18 : arg18.IsWhole) (arg19 : Memref sig .tc .vmem S256x1024 .f32) (harg19 :
    arg19.IsWhole) (arg20 : Memref sig .tc .vmem S256x1024 .f32) (harg20 : arg20.IsWhole) (arg21 : Memref sig .tc
    .vmem S32x1024 .f32) (harg21 : arg21.IsWhole) (arg22 : Memref sig .tc .vmem S1x1024 .f32) (harg22 : arg22.IsWhole)
    (arg23 : Memref sig .tc .vmem S4x1024x1280 .bf16) (harg23 : arg23.IsWhole) (arg25 : Memref sig .tc .vmem S288x1024
    .f32) (harg25 : arg25.IsWhole) (arg26 : Memref sig .tc .vmem S288x1024 .f32) (harg26 : arg26.IsWhole) (arg27 :
    Memref sig .tc .vmem S288x1024 .f32) (harg27 : arg27.IsWhole) (arg28 : Memref sig .tc .vmem S256x1024 .f32)
    (harg28 : arg28.IsWhole) (arg29 : Memref sig .tc .vmem S8x280x128 .f32) (harg29 : arg29.IsWhole) (arg30 : Memref
    sig .tc .vmem S32x8x1024 .f32) (harg30 : arg30.IsWhole) (h1 : ¬first i) (h2 : ¬k0_cond2 i = 1#1) (h3 : ¬k0_cond3 i
    = 1#1) (x : Ins F) (a : Accs F) (o20 : Vec F S256x1024 .f32) (o21 : Vec F S32x1024 .f32) (fh : HbBuf (F := F) c
    hbM) (W : Waits sig Unit) (K : PUnit → sProp 𝕄) :
    iprop(owns (c : Thread nD τ) arg1 fullShare x.dcp ∗ owns (c : Thread nD τ) arg2 fullShare x.dcc ∗ owns (c : Thread
      nD τ) arg3 fullShare x.dcn ∗ owns (c : Thread nD τ) arg4 fullShare x.dmp ∗ owns (c : Thread nD τ) arg5 fullShare
      x.dmc ∗ owns (c : Thread nD τ) arg6 fullShare x.dmn ∗ owns (c : Thread nD τ) arg7 fullShare x.zp ∗ owns (c :
      Thread nD τ) arg8 fullShare x.zc ∗ owns (c : Thread nD τ) arg9 fullShare x.zn ∗ owns (c : Thread nD τ) arg10
      fullShare x.dzg ∗ owns (c : Thread nD τ) arg11 fullShare x.wdw ∗ owns (c : Thread nD τ) arg12 fullShare x.head ∗
      owns (c : Thread nD τ) arg13 fullShare x.x ∗ owns (c : Thread nD τ) arg14 fullShare x.g ∗ owns (c : Thread nD τ)
      arg15 fullShare x.dh1 ∗ (∃ d, owns (c : Thread nD τ) arg18 fullShare d) ∗ (∃ d, owns (c : Thread nD τ) arg19
      fullShare d) ∗ owns (c : Thread nD τ) arg20 fullShare o20 ∗ owns (c : Thread nD τ) arg21 fullShare o21 ∗ owns (c
      : Thread nD τ) arg22 fullShare a.dgmix ∗ owns (c : Thread nD τ) arg23 fullShare x.w ∗ (∃ d, owns (c : Thread nD
      τ) arg25 fullShare d) ∗ (∃ d, owns (c : Thread nD τ) arg26 fullShare d) ∗ (∃ d, owns (c : Thread nD τ) arg27
      fullShare d) ∗ (∃ d, owns (c : Thread nD τ) arg28 fullShare d) ∗ (∃ d, owns (c : Thread nD τ) arg29 fullShare d)
      ∗ owns (c : Thread nD τ) arg30 fullShare a.dwp ∗ semVal ((c : Thread nD τ), SemLoc.dma 34) 0 ∗ hbPt c hbM fh ∗
      owes (c : Thread nD τ) 0 W ∗ (iprop(owns (c : Thread nD τ) arg1 fullShare x.dcp ∗ owns (c : Thread nD τ) arg2
      fullShare x.dcc ∗ owns (c : Thread nD τ) arg3 fullShare x.dcn ∗ owns (c : Thread nD τ) arg4 fullShare x.dmp ∗
      owns (c : Thread nD τ) arg5 fullShare x.dmc ∗ owns (c : Thread nD τ) arg6 fullShare x.dmn ∗ owns (c : Thread nD
      τ) arg7 fullShare x.zp ∗ owns (c : Thread nD τ) arg8 fullShare x.zc ∗ owns (c : Thread nD τ) arg9 fullShare x.zn
      ∗ owns (c : Thread nD τ) arg10 fullShare x.dzg ∗ owns (c : Thread nD τ) arg11 fullShare x.wdw ∗ owns (c : Thread
      nD τ) arg12 fullShare x.head ∗ owns (c : Thread nD τ) arg13 fullShare x.x ∗ owns (c : Thread nD τ) arg14
      fullShare x.g ∗ owns (c : Thread nD τ) arg15 fullShare x.dh1 ∗ owns (c : Thread nD τ) arg18 fullShare (x.dz
      (word i)) ∗ owns (c : Thread nD τ) arg19 fullShare (x.dh0 (word i)) ∗ owns (c : Thread nD τ) arg20 fullShare o20
      ∗ owns (c : Thread nD τ) arg21 fullShare o21 ∗ owns (c : Thread nD τ) arg22 fullShare (x.next (word i) a).dgmix
      ∗ owns (c : Thread nD τ) arg23 fullShare x.w ∗ (∃ d, owns (c : Thread nD τ) arg25 fullShare d) ∗ (∃ d, owns (c :
      Thread nD τ) arg26 fullShare d) ∗ (∃ d, owns (c : Thread nD τ) arg27 fullShare d) ∗ (∃ d, owns (c : Thread nD τ)
      arg28 fullShare d) ∗ (∃ d, owns (c : Thread nD τ) arg29 fullShare d) ∗ owns (c : Thread nD τ) arg30 fullShare
      (x.next (word i) a).dwp ∗ semVal ((c : Thread nD τ), SemLoc.dma 34) 0 ∗ hbPt c hbM fh ∗ (∃ W', owes (c : Thread
      nD τ) 0 W')) -∗ K ⟨⟩))
      ⊢ wp frame (wpE (defs₀ (F := F)) Variants.none c none) Set.univ (cc0_mixers_bwd_halo i arg1 harg1 arg2 harg2
        arg3 harg3 arg4 harg4 arg5 harg5 arg6 harg6 arg7 harg7 arg8 harg8 arg9 harg9 arg10 harg10 arg11 harg11 arg12
        harg12 arg13 harg13 arg14 harg14 arg15 harg15 (Memref.whole main_v23) (Memref.isWhole_whole _) (Memref.whole
        main_v41) (Memref.isWhole_whole _) arg18 harg18 arg19 harg19 arg20 harg20 arg21 harg21 arg22 harg22 arg23
        harg23 cc0_scratch1 arg25 harg25 arg26 harg26 arg27 harg27 arg28 harg28 arg29 harg29 arg30 harg30) K := by
  simp only [cc0_mixers_bwd_halo_eq_skeleton]; unfold cc0_mixers_bwd_halo_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7,
    %hf7, H7⟩, ⟨%f8, %hf8, H8⟩, ⟨%f9, %hf9, H9⟩, ⟨%f10, %hf10, H10⟩, ⟨%f11, %hf11, H11⟩, ⟨%f12, %hf12, H12⟩, ⟨%f13,
    %hf13, H13⟩, ⟨%f14, %hf14, H14⟩, ⟨%f15, %hf15, H15⟩, ⟨%d18, %f18, -, H18⟩, ⟨%d19, %f19, -, H19⟩, ⟨%f20, %hf20,
    H20⟩, ⟨%f21, %hf21, H21⟩, ⟨%f22, %hf22, H22⟩, ⟨%f23, %hf23, H23⟩, ⟨%d25, %f25, -, H25⟩, ⟨%d26, %f26, -, H26⟩,
    ⟨%d27, %f27, -, H27⟩, ⟨%d28, %f28, -, H28⟩, ⟨%d29, %f29, -, H29⟩, ⟨%f30, %hf30, H30⟩, Hq, Hh, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg22.eq_unread hf22
  obtain rfl := harg23.eq_unread hf23
  obtain rfl := harg30.eq_unread hf30
  sl_exec (disch := first | sl_exact h1 | sl_exact h2 | sl_exact h3)
  sl_step
  have hda : View.read (Elt F) arg28.view fL0 = x.da (word i) := by
    refine hL4.trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread]
    rw [trips_eq, daAfter_eq]
    exact x.da_of_trips (word i) _
  have hdw : View.read (Elt F) arg30.view fL2 = (x.next (word i) a).dwp := by
    refine hL7.trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread]
    rw [trips_eq, dwAfter_eq]
    rfl
  iapply Hk
  isplitl [H1]; · iexists _; isplitr; swap; (iexact H1); ipureintro; exact harg1.read_unread _
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]; · iexists _; isplitr; swap; (iexact H5); ipureintro; exact harg5.read_unread _
  isplitl [H6]; · iexists _; isplitr; swap; (iexact H6); ipureintro; exact harg6.read_unread _
  isplitl [H7]; · iexists _; isplitr; swap; (iexact H7); ipureintro; exact harg7.read_unread _
  isplitl [H8]; · iexists _; isplitr; swap; (iexact H8); ipureintro; exact harg8.read_unread _
  isplitl [H9]; · iexists _; isplitr; swap; (iexact H9); ipureintro; exact harg9.read_unread _
  isplitl [H10]; · iexists _; isplitr; swap; (iexact H10); ipureintro; exact harg10.read_unread _
  isplitl [H11]; · iexists _; isplitr; swap; (iexact H11); ipureintro; exact harg11.read_unread _
  isplitl [H12]; · iexists _; isplitr; swap; (iexact H12); ipureintro; exact harg12.read_unread _
  isplitl [H13]; · iexists _; isplitr; swap; (iexact H13); ipureintro; exact harg13.read_unread _
  isplitl [H14]; · iexists _; isplitr; swap; (iexact H14); ipureintro; exact harg14.read_unread _
  isplitl [H15]; · iexists _; isplitr; swap; (iexact H15); ipureintro; exact harg15.read_unread _
  isplitl [H18]
  · iexists _; isplitr
    swap; · iexact H18
    ipureintro
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H19]
  · iexists _; isplitr
    swap; · iexact H19
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H20]; · iexists _; isplitr; swap; (iexact H20); ipureintro; exact hf20
  isplitl [H21]; · iexists _; isplitr; swap; (iexact H21); ipureintro; exact hf21
  isplitl [H22]
  · iexists _; isplitr
    swap; · iexact H22
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H23]; · iexists _; isplitr; swap; (iexact H23); ipureintro; exact harg23.read_unread _
  isplitl [H25]; · iexists _; iexists _; isplitr; swap; (iexact H25); ipureintro; rfl
  isplitl [H26]; · iexists _; iexists _; isplitr; swap; (iexact H26); ipureintro; rfl
  isplitl [H27]; · iexists _; iexists _; isplitr; swap; (iexact H27); ipureintro; rfl
  isplitl [H28]; · iexists _; iexists _; isplitr; swap; (iexact H28); ipureintro; rfl
  isplitl [H29]; · iexists _; iexists _; isplitr; swap; (iexact H29); ipureintro; rfl
  isplitl [H30]
  · iexists _; isplitr
    swap; · iexact H30
    ipureintro
    exact hdw
  isplitl [Hq]; · iexact Hq
  isplitl [Hh]; · iexact Hh
  iexists _; iexact HW

end Cert.Halo
-- ==== Proof.Halo.Last.lean ====
module

public import proofs.«01_k».proof.Proof.Halo.Step

/-! # The run of the halo body at the last point -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 20000000 in
/-- The body at the last point. -/
theorem run_last (c : Dev nD) (i : grid0.Coords) (arg1 : Memref sig .tc .vmem S16x1024 .f32) (harg1 : arg1.IsWhole)
    (arg2 : Memref sig .tc .vmem S256x1024 .f32) (harg2 : arg2.IsWhole) (arg3 : Memref sig .tc .vmem S16x1024 .f32)
    (harg3 : arg3.IsWhole) (arg4 : Memref sig .tc .vmem S16x1024 .f32) (harg4 : arg4.IsWhole) (arg5 : Memref sig .tc
    .vmem S256x1024 .f32) (harg5 : arg5.IsWhole) (arg6 : Memref sig .tc .vmem S16x1024 .f32) (harg6 : arg6.IsWhole)
    (arg7 : Memref sig .tc .vmem S16x2048 .f32) (harg7 : arg7.IsWhole) (arg8 : Memref sig .tc .vmem S256x2048 .f32)
    (harg8 : arg8.IsWhole) (arg9 : Memref sig .tc .vmem S16x2048 .f32) (harg9 : arg9.IsWhole) (arg10 : Memref sig .tc
    .vmem S256x2048 .bf16) (harg10 : arg10.IsWhole) (arg11 : Memref sig .tc .vmem S32x1024 .f32) (harg11 :
    arg11.IsWhole) (arg12 : Memref sig .tc .vmem S256x1024 .f32) (harg12 : arg12.IsWhole) (arg13 : Memref sig .tc
    .vmem S256x1024 .f32) (harg13 : arg13.IsWhole) (arg14 : Memref sig .tc .vmem S1x1024 .f32) (harg14 :
    arg14.IsWhole) (arg15 : Memref sig .tc .vmem S256x1024 .f32) (harg15 : arg15.IsWhole) (arg18 : Memref sig .tc
    .vmem S256x5120 .bf16) (harg18 : arg18.IsWhole) (arg19 : Memref sig .tc .vmem S256x1024 .f32) (harg19 :
    arg19.IsWhole) (arg20 : Memref sig .tc .vmem S256x1024 .f32) (harg20 : arg20.IsWhole) (arg21 : Memref sig .tc
    .vmem S32x1024 .f32) (harg21 : arg21.IsWhole) (arg22 : Memref sig .tc .vmem S1x1024 .f32) (harg22 : arg22.IsWhole)
    (arg23 : Memref sig .tc .vmem S4x1024x1280 .bf16) (harg23 : arg23.IsWhole) (arg25 : Memref sig .tc .vmem S288x1024
    .f32) (harg25 : arg25.IsWhole) (arg26 : Memref sig .tc .vmem S288x1024 .f32) (harg26 : arg26.IsWhole) (arg27 :
    Memref sig .tc .vmem S288x1024 .f32) (harg27 : arg27.IsWhole) (arg28 : Memref sig .tc .vmem S256x1024 .f32)
    (harg28 : arg28.IsWhole) (arg29 : Memref sig .tc .vmem S8x280x128 .f32) (harg29 : arg29.IsWhole) (arg30 : Memref
    sig .tc .vmem S32x8x1024 .f32) (harg30 : arg30.IsWhole) (h1 : ¬first i) (h2 : k0_cond2 i = 1#1) (h3 : ¬k0_cond3 i
    = 1#1) (x : Ins F) (a : Accs F) (o20 : Vec F S256x1024 .f32) (fh : HbBuf (F := F) c hbM) (W : Waits sig Unit) (K :
    PUnit → sProp 𝕄) :
    iprop(owns (c : Thread nD τ) arg1 fullShare x.dcp ∗ owns (c : Thread nD τ) arg2 fullShare x.dcc ∗ owns (c : Thread
      nD τ) arg3 fullShare x.dcn ∗ owns (c : Thread nD τ) arg4 fullShare x.dmp ∗ owns (c : Thread nD τ) arg5 fullShare
      x.dmc ∗ owns (c : Thread nD τ) arg6 fullShare x.dmn ∗ owns (c : Thread nD τ) arg7 fullShare x.zp ∗ owns (c :
      Thread nD τ) arg8 fullShare x.zc ∗ owns (c : Thread nD τ) arg9 fullShare x.zn ∗ owns (c : Thread nD τ) arg10
      fullShare x.dzg ∗ owns (c : Thread nD τ) arg11 fullShare x.wdw ∗ owns (c : Thread nD τ) arg12 fullShare x.head ∗
      owns (c : Thread nD τ) arg13 fullShare x.x ∗ owns (c : Thread nD τ) arg14 fullShare x.g ∗ owns (c : Thread nD τ)
      arg15 fullShare x.dh1 ∗ (∃ d, owns (c : Thread nD τ) arg18 fullShare d) ∗ (∃ d, owns (c : Thread nD τ) arg19
      fullShare d) ∗ owns (c : Thread nD τ) arg20 fullShare o20 ∗ (∃ d, owns (c : Thread nD τ) arg21 fullShare d) ∗
      owns (c : Thread nD τ) arg22 fullShare a.dgmix ∗ owns (c : Thread nD τ) arg23 fullShare x.w ∗ (∃ d, owns (c :
      Thread nD τ) arg25 fullShare d) ∗ (∃ d, owns (c : Thread nD τ) arg26 fullShare d) ∗ (∃ d, owns (c : Thread nD τ)
      arg27 fullShare d) ∗ (∃ d, owns (c : Thread nD τ) arg28 fullShare d) ∗ (∃ d, owns (c : Thread nD τ) arg29
      fullShare d) ∗ owns (c : Thread nD τ) arg30 fullShare a.dwp ∗ semVal ((c : Thread nD τ), SemLoc.dma 34) 0 ∗ hbPt
      c hbM fh ∗ owes (c : Thread nD τ) 0 W ∗ (iprop(owns (c : Thread nD τ) arg1 fullShare x.dcp ∗ owns (c : Thread nD
      τ) arg2 fullShare x.dcc ∗ owns (c : Thread nD τ) arg3 fullShare x.dcn ∗ owns (c : Thread nD τ) arg4 fullShare
      x.dmp ∗ owns (c : Thread nD τ) arg5 fullShare x.dmc ∗ owns (c : Thread nD τ) arg6 fullShare x.dmn ∗ owns (c :
      Thread nD τ) arg7 fullShare x.zp ∗ owns (c : Thread nD τ) arg8 fullShare x.zc ∗ owns (c : Thread nD τ) arg9
      fullShare x.zn ∗ owns (c : Thread nD τ) arg10 fullShare x.dzg ∗ owns (c : Thread nD τ) arg11 fullShare x.wdw ∗
      owns (c : Thread nD τ) arg12 fullShare x.head ∗ owns (c : Thread nD τ) arg13 fullShare x.x ∗ owns (c : Thread nD
      τ) arg14 fullShare x.g ∗ owns (c : Thread nD τ) arg15 fullShare x.dh1 ∗ owns (c : Thread nD τ) arg18 fullShare
      (x.dz (word i)) ∗ owns (c : Thread nD τ) arg19 fullShare (x.dh0 (word i)) ∗ owns (c : Thread nD τ) arg20
      fullShare o20 ∗ owns (c : Thread nD τ) arg21 fullShare (x.next (word i) a).dwdw ∗ owns (c : Thread nD τ) arg22
      fullShare (x.next (word i) a).dgmix ∗ owns (c : Thread nD τ) arg23 fullShare x.w ∗ (∃ d, owns (c : Thread nD τ)
      arg25 fullShare d) ∗ (∃ d, owns (c : Thread nD τ) arg26 fullShare d) ∗ (∃ d, owns (c : Thread nD τ) arg27
      fullShare d) ∗ (∃ d, owns (c : Thread nD τ) arg28 fullShare d) ∗ (∃ d, owns (c : Thread nD τ) arg29 fullShare d)
      ∗ owns (c : Thread nD τ) arg30 fullShare (x.next (word i) a).dwp ∗ semVal ((c : Thread nD τ), SemLoc.dma 34) 0 ∗
      hbPt c hbM fh ∗ (∃ W', owes (c : Thread nD τ) 0 W')) -∗ K ⟨⟩))
      ⊢ wp frame (wpE (defs₀ (F := F)) Variants.none c none) Set.univ (cc0_mixers_bwd_halo i arg1 harg1 arg2 harg2
        arg3 harg3 arg4 harg4 arg5 harg5 arg6 harg6 arg7 harg7 arg8 harg8 arg9 harg9 arg10 harg10 arg11 harg11 arg12
        harg12 arg13 harg13 arg14 harg14 arg15 harg15 (Memref.whole main_v23) (Memref.isWhole_whole _) (Memref.whole
        main_v41) (Memref.isWhole_whole _) arg18 harg18 arg19 harg19 arg20 harg20 arg21 harg21 arg22 harg22 arg23
        harg23 cc0_scratch1 arg25 harg25 arg26 harg26 arg27 harg27 arg28 harg28 arg29 harg29 arg30 harg30) K := by
  simp only [cc0_mixers_bwd_halo_eq_skeleton]; unfold cc0_mixers_bwd_halo_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7,
    %hf7, H7⟩, ⟨%f8, %hf8, H8⟩, ⟨%f9, %hf9, H9⟩, ⟨%f10, %hf10, H10⟩, ⟨%f11, %hf11, H11⟩, ⟨%f12, %hf12, H12⟩, ⟨%f13,
    %hf13, H13⟩, ⟨%f14, %hf14, H14⟩, ⟨%f15, %hf15, H15⟩, ⟨%d18, %f18, -, H18⟩, ⟨%d19, %f19, -, H19⟩, ⟨%f20, %hf20,
    H20⟩, ⟨%d21, %f21, -, H21⟩, ⟨%f22, %hf22, H22⟩, ⟨%f23, %hf23, H23⟩, ⟨%d25, %f25, -, H25⟩, ⟨%d26, %f26, -, H26⟩,
    ⟨%d27, %f27, -, H27⟩, ⟨%d28, %f28, -, H28⟩, ⟨%d29, %f29, -, H29⟩, ⟨%f30, %hf30, H30⟩, Hq, Hh, HW, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  obtain rfl := harg22.eq_unread hf22
  obtain rfl := harg23.eq_unread hf23
  obtain rfl := harg30.eq_unread hf30
  sl_exec (disch := first | sl_exact h1 | sl_exact h2 | sl_exact h3)
  sl_step
  have hda : View.read (Elt F) arg28.view fL0 = x.da (word i) := by
    refine hL4.trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread]
    rw [trips_eq, daAfter_eq]
    exact x.da_of_trips (word i) _
  have hdw : View.read (Elt F) arg30.view fL2 = (x.next (word i) a).dwp := by
    refine hL7.trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread]
    rw [trips_eq, dwAfter_eq]
    rfl
  iapply Hk
  isplitl [H1]; · iexists _; isplitr; swap; (iexact H1); ipureintro; exact harg1.read_unread _
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]; · iexists _; isplitr; swap; (iexact H5); ipureintro; exact harg5.read_unread _
  isplitl [H6]; · iexists _; isplitr; swap; (iexact H6); ipureintro; exact harg6.read_unread _
  isplitl [H7]; · iexists _; isplitr; swap; (iexact H7); ipureintro; exact harg7.read_unread _
  isplitl [H8]; · iexists _; isplitr; swap; (iexact H8); ipureintro; exact harg8.read_unread _
  isplitl [H9]; · iexists _; isplitr; swap; (iexact H9); ipureintro; exact harg9.read_unread _
  isplitl [H10]; · iexists _; isplitr; swap; (iexact H10); ipureintro; exact harg10.read_unread _
  isplitl [H11]; · iexists _; isplitr; swap; (iexact H11); ipureintro; exact harg11.read_unread _
  isplitl [H12]; · iexists _; isplitr; swap; (iexact H12); ipureintro; exact harg12.read_unread _
  isplitl [H13]; · iexists _; isplitr; swap; (iexact H13); ipureintro; exact harg13.read_unread _
  isplitl [H14]; · iexists _; isplitr; swap; (iexact H14); ipureintro; exact harg14.read_unread _
  isplitl [H15]; · iexists _; isplitr; swap; (iexact H15); ipureintro; exact harg15.read_unread _
  isplitl [H18]
  · iexists _; isplitr
    swap; · iexact H18
    ipureintro
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H19]
  · iexists _; isplitr
    swap; · iexact H19
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H20]; · iexists _; isplitr; swap; (iexact H20); ipureintro; exact hf20
  isplitl [H21]
  · iexists _; isplitr
    swap; · iexact H21
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H22]
  · iexists _; isplitr
    swap; · iexact H22
    ipureintro
    refine (View.read_writes_full _ _ _ _ _).trans ?_
    frame_open
    simp (disch := decide) only [readAt_half16, readAt_half, readAt_group, readAt_strip, readAt_box, readAt_quarter,
      readAt_sheet, readCov_half16, readCov_half, readCov_group, readCov_strip, readCov_box, readCov_quarter,
      readCov_sheet, Memref.IsWhole.read_unread, read_ext, read_over, read_joined, strip_over, box_over,
      box_over_self]
    simp (disch := decide) only [View.read_writes_whole, View.ld_unit_lit', View.readCov_unit_lit',
      View.readCov_cons_unit_lit', View.readAt_eq_ld, Memref.IsWhole.read_unread, hda, hdw]
    rfl
  isplitl [H23]; · iexists _; isplitr; swap; (iexact H23); ipureintro; exact harg23.read_unread _
  isplitl [H25]; · iexists _; iexists _; isplitr; swap; (iexact H25); ipureintro; rfl
  isplitl [H26]; · iexists _; iexists _; isplitr; swap; (iexact H26); ipureintro; rfl
  isplitl [H27]; · iexists _; iexists _; isplitr; swap; (iexact H27); ipureintro; rfl
  isplitl [H28]; · iexists _; iexists _; isplitr; swap; (iexact H28); ipureintro; rfl
  isplitl [H29]; · iexists _; iexists _; isplitr; swap; (iexact H29); ipureintro; rfl
  isplitl [H30]
  · iexists _; isplitr
    swap; · iexact H30
    ipureintro
    exact hdw
  isplitl [Hq]; · iexact Hq
  isplitl [Hh]; · iexact Hh
  iexists _; iexact HW

end Cert.Halo
-- ==== Proof.Halo.Body.lean ====
module

public import proofs.«01_k».proof.Proof.Halo.First
public import proofs.«01_k».proof.Proof.Halo.Middle
public import proofs.«01_k».proof.Proof.Halo.Last

/-! # The halo body at every point

The contents of every buffer after each point, and the body's triple from the three runs. Two results' buffers are
stored into at one point only and written back at the last: between, they hold what was stored. -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The blocks of point `t` and the weight. -/
def ins (c : Dev nD) (t : Fin cfg0.N) : Ins F where
  dcp := iblk m c 0 t
  dcc := iblk m c 1 t
  dcn := iblk m c 2 t
  dmp := iblk m c 3 t
  dmc := iblk m c 4 t
  dmn := iblk m c 5 t
  zp := X0_6 m c t
  zc := X0_7 m c t
  zn := X0_8 m c t
  dzg := iblk m c 9 t
  wdw := iblk m c 10 t
  head := iblk m c 11 t
  x := iblk m c 12 t
  g := iblk m c 13 t
  dh1 := iblk m c 14 t
  w := V m c main_v23

/-- Point `n`. -/
def pt (n : ℕ) : Fin cfg0.N := ⟨n % 17, lt_of_lt_of_eq (Nat.mod_lt _ (by decide)) (N_0.symm : 17 = cfg0.N)⟩

theorem pt_val (t : Fin cfg0.N) : pt t.val = t :=
  Fin.ext (Nat.mod_eq_of_lt (lt_of_lt_of_eq t.isLt (show cfg0.N = 17 from N_0)))

/-- The sums after point `n`. -/
def sums (c : Dev nD) : ℕ → Accs F
  | 0 => (ins m c (pt 0)).next (word (grid0.coords (pt 0))) .start
  | n + 1 => (ins m c (pt (n + 1))).next (word (grid0.coords (pt (n + 1)))) (sums c n)

theorem sums_first (c : Dev nD) (t : Fin cfg0.N) (h : t.val % 17 = 0) :
    sums m c t.val = (ins m c t).next (word (grid0.coords t)) .start := by
  have hN : t.val < 17 := lt_of_lt_of_eq t.isLt (show cfg0.N = 17 from N_0)
  have h0 : t.val = 0 := by omega
  have e := pt_val t
  rw [h0] at e ⊢
  rw [sums, e]

theorem sums_next (c : Dev nD) (t : Fin cfg0.N) (h : ¬t.val % 17 = 0) :
    sums m c t.val = (ins m c t).next (word (grid0.coords t)) (sums m c (t.val - 1)) := by
  obtain ⟨n, hn⟩ : ∃ n, t.val = n + 1 := ⟨t.val - 1, by omega⟩
  have e := pt_val t
  rw [hn] at e ⊢
  rw [sums, e, Nat.add_sub_cancel]

/-- The scratch after a point: the weight, the filter's sums, the rest at anything; the generator's register, the counter
    and the weight's array as they were. -/
def kept (c : Dev nD) (s : Vec F S32x8x1024 .f32) : sProp 𝕄 :=
  iprop(iprop(owns (c : Thread nD τ) scM0 fullShare (V m c main_v23) ∗ (∃ d, owns (c : Thread nD τ) scM2 fullShare d)
    ∗ (∃ d, owns (c : Thread nD τ) scM3 fullShare d) ∗ (∃ d, owns (c : Thread nD τ) scM4 fullShare d) ∗ (∃ d, owns (c
    : Thread nD τ) scM5 fullShare d) ∗ (∃ d, owns (c : Thread nD τ) scM6 fullShare d) ∗ owns (c : Thread nD τ) scM7
    fullShare s) ∗ (∃ r, prngReg c r) ∗ iprop(semVal ((c : Thread nD τ), SemLoc.dma 34) 0) ∗ iprop(hbPt c hbM (V m c
    main_v23)))

/-- The invariant: before the first point what the launch hands over, afterwards `kept`. -/
def inv (c : Dev nD) (n : ℕ) : sProp 𝕄 :=
  if n = 0 then Pipeline.ΦD osem spec0 H0 (V m) c else kept m c (sums m c (n - 1)).dwp

theorem inv_start (c : Dev nD) {n : ℕ} (h : n = 0) : inv m c n = Pipeline.ΦD osem spec0 H0 (V m) c := if_pos h

theorem inv_later (c : Dev nD) {n : ℕ} (h : ¬n = 0) : inv m c n = kept m c (sums m c (n - 1)).dwp := if_neg h

/-- What the first point stores at the meta rows. -/
def metaRows (c : Dev nD) : Vec F S256x1024 .f32 := (ins m c (pt 0)).dh0 (word (grid0.coords (pt 0)))

/-- The contents the proof goes by: the arrays as the region finds them; after a point each input's buffer at its block,
    each result's at what the body stored. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => X0_6 m c t
    | ⟨7, _⟩ => X0_7 m c t
    | ⟨8, _⟩ => X0_8 m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (ins m c t).dz (word (grid0.coords t))
    | ⟨16, _⟩ => (ins m c t).dh0 (word (grid0.coords t))
    | ⟨17, _⟩ => metaRows m c
    | ⟨18, _⟩ => (sums m c t.val).dwdw
    | ⟨19, _⟩ => (sums m c t.val).dgmix
    | ⟨_ + 20, h⟩ => absurd h (Nat.not_lt.2 (Nat.le_add_left _ _))
  Φ t := inv m c t.val
  q := Pipeline.shareOf spec0
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = X0_6 m c t := by dsimp only [dats]
theorem after7 (c : Dev nD) (t : Fin cfg0.N) : (dats m 0 c).after 7 t = X0_7 m c t := by dsimp only [dats]
theorem after8 (c : Dev nD) (t : Fin cfg0.N) : (dats m 0 c).after 8 t = X0_8 m c t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (ins m c t).dz (word (grid0.coords t)) := by dsimp only [dats]
theorem after16 (c : Dev nD) (t : Fin cfg0.N) : (dats m 0 c).after 16 t = (ins m c t).dh0 (word (grid0.coords t)) := by dsimp only [dats]
theorem after17 (c : Dev nD) (t : Fin cfg0.N) : (dats m 0 c).after 17 t = metaRows m c := by dsimp only [dats]
theorem after18 (c : Dev nD) (t : Fin cfg0.N) : (dats m 0 c).after 18 t = (sums m c t.val).dwdw := by dsimp only [dats]
theorem after19 (c : Dev nD) (t : Fin cfg0.N) : (dats m 0 c).after 19 t = (sums m c t.val).dgmix := by dsimp only [dats]

/-- An input's buffer holds its block at every point. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans (by unfold Dat.fetched Dat.blockOf iblk; rw [A_eq]; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]) t d).trans (by unfold Dat.fetched Dat.blockOf iblk; rw [A_eq]; rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]) t d).trans (by unfold Dat.fetched Dat.blockOf iblk; rw [A_eq]; rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]) t d).trans (by unfold Dat.fetched Dat.blockOf iblk; rw [A_eq]; rfl)
theorem before6 (c : Dev nD) (t : Fin cfg0.N) (d) : (dats m 0 c).before 6 t d = X0_6 m c t :=
  ((dats m 0 c).before_in_eq_fetched 6 rfl (fun _ => rfl)
    (fun t t' h => funext fun a => congrArg (fun n => Pipeline.Clip.of n ((cfg0.win 6).size a) (S4352x5120.size a)) (congrFun h a))
    (fun t => by rw [after6]; unfold X0_6; rw [Pipeline.Window.cut_fill]; unfold Dat.blockOf iblk; rw [A_eq]) t d).trans
    (by unfold Dat.fetched X0_6; rw [fill0_6 t d dflt0_6]; unfold Dat.blockOf iblk; rw [A_eq])
theorem before7 (c : Dev nD) (t : Fin cfg0.N) (d) : (dats m 0 c).before 7 t d = X0_7 m c t :=
  ((dats m 0 c).before_in_eq_fetched 7 rfl (fun _ => rfl)
    (fun t t' h => funext fun a => congrArg (fun n => Pipeline.Clip.of n ((cfg0.win 7).size a) (S4352x5120.size a)) (congrFun h a))
    (fun t => by rw [after7]; unfold X0_7; rw [Pipeline.Window.cut_fill]; unfold Dat.blockOf iblk; rw [A_eq]) t d).trans
    (by unfold Dat.fetched X0_7; rw [fill0_7 t d dflt0_7]; unfold Dat.blockOf iblk; rw [A_eq])
theorem before8 (c : Dev nD) (t : Fin cfg0.N) (d) : (dats m 0 c).before 8 t d = X0_8 m c t :=
  ((dats m 0 c).before_in_eq_fetched 8 rfl (fun _ => rfl)
    (fun t t' h => funext fun a => congrArg (fun n => Pipeline.Clip.of n ((cfg0.win 8).size a) (S4352x5120.size a)) (congrFun h a))
    (fun t => by rw [after8]; unfold X0_8; rw [Pipeline.Window.cut_fill]; unfold Dat.blockOf iblk; rw [A_eq]) t d).trans
    (by unfold Dat.fetched X0_8; rw [fill0_8 t d dflt0_8]; unfold Dat.blockOf iblk; rw [A_eq])
theorem before9 (c : Dev nD) (t : Fin cfg0.N) (d) : (dats m 0 c).before 9 t d = iblk m c 9 t :=
  ((dats m 0 c).before_in_eq_fetched 9 rfl (fun _ => rfl) (fun _ _ _ => rfl)
    (fun t => by rw [after9]; unfold Dat.blockOf iblk; rw [A_eq]) t d).trans (by unfold Dat.fetched Dat.blockOf iblk; rw [A_eq]; rfl)
theorem before10 (c : Dev nD) (t : Fin cfg0.N) (d) : (dats m 0 c).before 10 t d = iblk m c 10 t :=
  ((dats m 0 c).before_in_eq_fetched 10 rfl (fun _ => rfl) (fun _ _ _ => rfl)
    (fun t => by rw [after10]; unfold Dat.blockOf iblk; rw [A_eq]) t d).trans (by unfold Dat.fetched Dat.blockOf iblk; rw [A_eq]; rfl)
theorem before11 (c : Dev nD) (t : Fin cfg0.N) (d) : (dats m 0 c).before 11 t d = iblk m c 11 t :=
  ((dats m 0 c).before_in_eq_fetched 11 rfl (fun _ => rfl) (fun _ _ _ => rfl)
    (fun t => by rw [after11]; unfold Dat.blockOf iblk; rw [A_eq]) t d).trans (by unfold Dat.fetched Dat.blockOf iblk; rw [A_eq]; rfl)
theorem before12 (c : Dev nD) (t : Fin cfg0.N) (d) : (dats m 0 c).before 12 t d = iblk m c 12 t :=
  ((dats m 0 c).before_in_eq_fetched 12 rfl (fun _ => rfl) (fun _ _ _ => rfl)
    (fun t => by rw [after12]; unfold Dat.blockOf iblk; rw [A_eq]) t d).trans (by unfold Dat.fetched Dat.blockOf iblk; rw [A_eq]; rfl)
theorem before13 (c : Dev nD) (t : Fin cfg0.N) (d) : (dats m 0 c).before 13 t d = iblk m c 13 t :=
  ((dats m 0 c).before_in_eq_fetched 13 rfl (fun _ => rfl) (fun _ _ _ => rfl)
    (fun t => by rw [after13]; unfold Dat.blockOf iblk; rw [A_eq]) t d).trans (by unfold Dat.fetched Dat.blockOf iblk; rw [A_eq]; rfl)
theorem before14 (c : Dev nD) (t : Fin cfg0.N) (d) : (dats m 0 c).before 14 t d = iblk m c 14 t :=
  ((dats m 0 c).before_in_eq_fetched 14 rfl (fun _ => rfl) (fun _ _ _ => rfl)
    (fun t => by rw [after14]; unfold Dat.blockOf iblk; rw [A_eq]) t d).trans (by unfold Dat.fetched Dat.blockOf iblk; rw [A_eq]; rfl)

/-- The scale's sum holds, at a later point, what the point before left. -/
theorem before19 (c : Dev nD) (t : Fin cfg0.N) (h : ¬t.val % 17 = 0) (d) :
    (dats m 0 c).before 19 t d = (sums m c (t.val - 1)).dgmix := by
  have hN : t.val < 17 := lt_of_lt_of_eq t.isLt (show cfg0.N = 17 from N_0)
  rw [Dat.before_out_kept _ 19 rfl t (by omega)
    (Bool.eq_false_iff.mpr fun h => by have := (flush0_19 _).mp h; dsimp only at this; omega) (fun _ => rfl) (fun _ _ => rfl)]
  dsimp only [dats]

/-! ## The two results stored at one point -/

theorem idle17_at (t : Fin cfg0.N) (h : t.val % 17 = 0) : cfg0.idle 17 (cfg0.grid.coords t) = false := by
  show (!(k0_cond3 (grid0.coords t) == 1#1)) = false
  rw [(opens_iff t).mpr h]; rfl

theorem idle17_off (t : Fin cfg0.N) (h : ¬t.val % 17 = 0) : cfg0.idle 17 (cfg0.grid.coords t) = true := by
  show (!(k0_cond3 (grid0.coords t) == 1#1)) = true
  rw [Bool.not_eq_true', beq_eq_false_iff_ne]
  exact fun e => h ((opens_iff t).mp e)

theorem idle18_at (t : Fin cfg0.N) (h : t.val % 17 = 16) : cfg0.idle 18 (cfg0.grid.coords t) = false := by
  show (!(k0_cond2 (grid0.coords t) == 1#1)) = false
  rw [(closes_iff t).mpr h]; rfl

theorem idle18_off (t : Fin cfg0.N) (h : ¬t.val % 17 = 16) : cfg0.idle 18 (cfg0.grid.coords t) = true := by
  show (!(k0_cond2 (grid0.coords t) == 1#1)) = true
  rw [Bool.not_eq_true', beq_eq_false_iff_ne]
  exact fun e => h ((closes_iff t).mp e)

/-- From the second point on the meta rows' buffer holds what the first stored. -/
theorem before17 (c : Dev nD) (d) : ∀ (n : ℕ) (hn : n + 1 < cfg0.N), (dats m 0 c).before 17 ⟨n + 1, hn⟩ d = metaRows m c
  | 0, hn => by
    rw [Dat.before_of_pos _ 17 _ (Nat.succ_ne_zero _) rfl,
      if_neg (fun h => by have := (flush0_17 _).mp h; dsimp only at this; omega)]
    unfold Dat.left
    rw [idle17_at _ (show (0 + 1 - 1) % 17 = 0 from rfl)]
    exact after17 m c _
  | n + 1, hn => by
    have hN : n + 1 + 1 < 17 := lt_of_lt_of_eq hn (show cfg0.N = 17 from N_0)
    rw [Dat.before_of_pos _ 17 _ (Nat.succ_ne_zero _) rfl,
      if_neg (fun h => by have := (flush0_17 _).mp h; dsimp only at this; omega)]
    unfold Dat.left
    rw [idle17_off _ (by show ¬(n + 1 + 1 - 1) % 17 = 0; omega)]
    exact before17 c d n (Nat.lt_of_succ_lt hn)

theorem leaves17_at (c : Dev nD) (t : Fin cfg0.N) (h : t.val % 17 = 0 ∨ t.val % 17 = 16) :
    (dats m 0 c).leavesExact 17 t = (owns (c : Thread nD τ) (ms17 t) fullShare (metaRows m c) : sProp 𝕄) := by
  unfold Dat.leavesExact
  rcases h with h | h
  · rw [idle17_at t h]; dsimp only; rw [after17]
  · rw [idle17_off t (by omega), (flush0_17 t).mpr h]; dsimp only; rw [after17]

theorem leaves17_off (c : Dev nD) (t : Fin cfg0.N) (h : ¬t.val % 17 = 0) (h' : ¬t.val % 17 = 16) :
    (dats m 0 c).leavesExact 17 t = (iprop(∃ d, owns (c : Thread nD τ) (ms17 t) fullShare ((dats m 0 c).before 17 t d)) : sProp 𝕄) := by
  unfold Dat.leavesExact
  rw [idle17_off t h, show (cfg0.win 17).flush t = false from Bool.eq_false_iff.mpr fun e => h' ((flush0_17 t).mp e)]

theorem leaves18_at (c : Dev nD) (t : Fin cfg0.N) (h : t.val % 17 = 16) :
    (dats m 0 c).leavesExact 18 t = (owns (c : Thread nD τ) (ms18 t) fullShare (sums m c t.val).dwdw : sProp 𝕄) := by
  unfold Dat.leavesExact
  rw [idle18_at t h]; dsimp only; rw [after18]

theorem leaves18_off (c : Dev nD) (t : Fin cfg0.N) (h : ¬t.val % 17 = 16) :
    (dats m 0 c).leavesExact 18 t = (iprop(∃ d, owns (c : Thread nD τ) (ms18 t) fullShare ((dats m 0 c).before 18 t d)) : sProp 𝕄) := by
  unfold Dat.leavesExact
  rw [idle18_off t h, show (cfg0.win 18).flush t = false from Bool.eq_false_iff.mpr fun e => h ((flush0_18 t).mp e)]

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (ms0 t) fullShare
    ((dats m 0 c).before 0 t d)) ∗ (∃ d, owns (c : Thread nD τ) (ms1 t) fullShare ((dats m 0 c).before 1 t d)) ∗ (∃ d,
    owns (c : Thread nD τ) (ms2 t) fullShare ((dats m 0 c).before 2 t d)) ∗ (∃ d, owns (c : Thread nD τ) (ms3 t)
    fullShare ((dats m 0 c).before 3 t d)) ∗ (∃ d, owns (c : Thread nD τ) (ms4 t) fullShare ((dats m 0 c).before 4 t
    d)) ∗ (∃ d, owns (c : Thread nD τ) (ms5 t) fullShare ((dats m 0 c).before 5 t d)) ∗ (∃ d, owns (c : Thread nD τ)
    (ms6 t) fullShare ((dats m 0 c).before 6 t d)) ∗ (∃ d, owns (c : Thread nD τ) (ms7 t) fullShare ((dats m 0
    c).before 7 t d)) ∗ (∃ d, owns (c : Thread nD τ) (ms8 t) fullShare ((dats m 0 c).before 8 t d)) ∗ (∃ d, owns (c :
    Thread nD τ) (ms9 t) fullShare ((dats m 0 c).before 9 t d)) ∗ (∃ d, owns (c : Thread nD τ) (ms10 t) fullShare
    ((dats m 0 c).before 10 t d)) ∗ (∃ d, owns (c : Thread nD τ) (ms11 t) fullShare ((dats m 0 c).before 11 t d)) ∗ (∃
    d, owns (c : Thread nD τ) (ms12 t) fullShare ((dats m 0 c).before 12 t d)) ∗ (∃ d, owns (c : Thread nD τ) (ms13 t)
    fullShare ((dats m 0 c).before 13 t d)) ∗ (∃ d, owns (c : Thread nD τ) (ms14 t) fullShare ((dats m 0 c).before 14
    t d)) ∗ (∃ d, owns (c : Thread nD τ) (ms15 t) fullShare ((dats m 0 c).before 15 t d)) ∗ (∃ d, owns (c : Thread nD
    τ) (ms16 t) fullShare ((dats m 0 c).before 16 t d)) ∗ (∃ d, owns (c : Thread nD τ) (ms17 t) fullShare ((dats m 0
    c).before 17 t d)) ∗ (∃ d, owns (c : Thread nD τ) (ms18 t) fullShare ((dats m 0 c).before 18 t d)) ∗ (∃ d, owns (c
    : Thread nD τ) (ms19 t) fullShare ((dats m 0 c).before 19 t d)))

def bodyPost (c : Dev nD) (t : Fin cfg0.N) : sProp 𝕄 :=
  iprop((dats m 0 c).Φ t.succ ∗ (dats m 0 c).owesAt () t.succ ∗ owns (c : Thread nD τ) (ms0 t) fullShare ((dats m 0
    c).after 0 t) ∗ owns (c : Thread nD τ) (ms1 t) fullShare ((dats m 0 c).after 1 t) ∗ owns (c : Thread nD τ) (ms2 t)
    fullShare ((dats m 0 c).after 2 t) ∗ owns (c : Thread nD τ) (ms3 t) fullShare ((dats m 0 c).after 3 t) ∗ owns (c :
    Thread nD τ) (ms4 t) fullShare ((dats m 0 c).after 4 t) ∗ owns (c : Thread nD τ) (ms5 t) fullShare ((dats m 0
    c).after 5 t) ∗ owns (c : Thread nD τ) (ms6 t) fullShare ((dats m 0 c).after 6 t) ∗ owns (c : Thread nD τ) (ms7 t)
    fullShare ((dats m 0 c).after 7 t) ∗ owns (c : Thread nD τ) (ms8 t) fullShare ((dats m 0 c).after 8 t) ∗ owns (c :
    Thread nD τ) (ms9 t) fullShare ((dats m 0 c).after 9 t) ∗ owns (c : Thread nD τ) (ms10 t) fullShare ((dats m 0
    c).after 10 t) ∗ owns (c : Thread nD τ) (ms11 t) fullShare ((dats m 0 c).after 11 t) ∗ owns (c : Thread nD τ)
    (ms12 t) fullShare ((dats m 0 c).after 12 t) ∗ owns (c : Thread nD τ) (ms13 t) fullShare ((dats m 0 c).after 13 t)
    ∗ owns (c : Thread nD τ) (ms14 t) fullShare ((dats m 0 c).after 14 t) ∗ owns (c : Thread nD τ) (ms15 t) fullShare
    ((dats m 0 c).after 15 t) ∗ owns (c : Thread nD τ) (ms16 t) fullShare ((dats m 0 c).after 16 t) ∗ (dats m 0
    c).leavesExact 17 t ∗ (dats m 0 c).leavesExact 18 t ∗ owns (c : Thread nD τ) (ms19 t) fullShare ((dats m 0
    c).after 19 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10,
    before11, before12, before13, before14]
  rw [show (dats m 0 c).Φ t.succ = kept m c (sums m c t.val).dwp from inv_later m c (Nat.succ_ne_zero t.val), after0,
    after1, after2, after3, after4, after5, after6, after7, after8, after9, after10, after11, after12, after13,
    after14, after15, after16, after19]
  unfold Dat.owesAt Pipeline.owesWithin
  rw [show (dats m 0 c).owed t.castSucc = 0 from rfl, show (dats m 0 c).owed t.succ = 0 from rfl]
  have hN : t.val < 17 := lt_of_lt_of_eq t.isLt (show cfg0.N = 17 from N_0)
  by_cases h0 : t.val % 17 = 0
  · rw [show (dats m 0 c).Φ t.castSucc = Pipeline.ΦD osem spec0 H0 (V m) c from inv_start m c (show t.val = 0 by omega), PhiD_eq,
      sums_first m c t h0, leaves17_at m c t (.inl h0), leaves18_off m c t (by omega)]
    have e0 : metaRows m c = (ins m c t).dh0 (word (grid0.coords t)) := by
      have e := pt_val t
      rw [show t.val = 0 by omega] at e
      unfold metaRows; rw [e]
    rw [e0]
    unfold kept
    iintro ⟨⟨⟨⟨%ds0, HS0⟩, ⟨%ds2, HS2⟩, ⟨%ds3, HS3⟩, ⟨%ds4, HS4⟩, ⟨%ds5, HS5⟩, ⟨%ds6, HS6⟩, ⟨%ds7, HS7⟩⟩, Hg, Hq, Hh⟩,
      ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩,
      ⟨%d9, H9⟩, ⟨%d10, H10⟩, ⟨%d11, H11⟩, ⟨%d12, H12⟩, ⟨%d13, H13⟩, ⟨%d14, H14⟩, ⟨%d15, H15⟩, ⟨%d16, H16⟩, ⟨%d17,
      H17⟩, ⟨%d18, H18⟩, ⟨%d19, H19⟩⟩
    iapply (run_first c (grid0.coords t) _ _ _ _ _ _ _ _ _ _ _ _ _ _ _ _ _ _ _ _ _ _ _ _ _ _ _ _ _ _ _ _ _ _ _ _ _ _ _
      _ _ _ _ _ _ _ _ _ _ _ _ _ _ _ ((first_iff t).mpr h0) (fun h => by have := (closes_iff t).mp h; omega)
      ((opens_iff t).mpr h0) (ins m c t) _ (V m c main_v23) rfl W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [H18]; · iexact H18
    isplitl [H19]; · iexists _; iexact H19
    isplitl [HS0]; · iexists _; iexact HS0
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq]; · iexact Hq
    isplitl [Hh]; · iexact Hh
    isplitl [HW]; · iexact HW
    iintro ⟨H0, H1, H2, H3, H4, H5, H6, H7, H8, H9, H10, H11, H12, H13, H14, H15, H16, H17, H18, H19, HS0, ⟨%e2, HS2⟩,
      ⟨%e3, HS3⟩, ⟨%e4, HS4⟩, ⟨%e5, HS5⟩, ⟨%e6, HS6⟩, HS7, Hq, Hh, ⟨%W', HW'⟩⟩
    isplitl [HS0 HS2 HS3 HS4 HS5 HS6 HS7 Hg Hq Hh]
    · isplitl [HS0 HS2 HS3 HS4 HS5 HS6 HS7]
      · isplitl [HS0]; · iexact HS0
        isplitl [HS2]; · iexists _; iexact HS2
        isplitl [HS3]; · iexists _; iexact HS3
        isplitl [HS4]; · iexists _; iexact HS4
        isplitl [HS5]; · iexists _; iexact HS5
        isplitl [HS6]; · iexists _; iexact HS6
        iexact HS7
      isplitl [Hg]; · iexact Hg
      isplitl [Hq]; · iexact Hq
      iexact Hh
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    iexact H19
  · by_cases h1 : t.val % 17 = 16
    · rw [show (dats m 0 c).Φ t.castSucc = kept m c (sums m c (t.val - 1)).dwp from inv_later m c (show ¬t.val = 0 by omega), sums_next m c t h0,
        leaves17_at m c t (.inr h1), leaves18_at m c t h1, sums_next m c t h0]
      simp only [before19 m c t h0]
      have e0 : ∀ d, (dats m 0 c).before 17 t d = metaRows m c := fun d => by
        obtain ⟨n, hn⟩ := t
        cases n with
        | zero => exact absurd (Nat.zero_mod 17) h0
        | succ n => exact before17 m c d n hn
      simp only [e0]
      unfold kept
      iintro ⟨⟨⟨HS0, ⟨%ds2, HS2⟩, ⟨%ds3, HS3⟩, ⟨%ds4, HS4⟩, ⟨%ds5, HS5⟩, ⟨%ds6, HS6⟩, HS7⟩, Hg, Hq, Hh⟩, ⟨%W, -, HW⟩,
        ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
        ⟨%d10, H10⟩, ⟨%d11, H11⟩, ⟨%d12, H12⟩, ⟨%d13, H13⟩, ⟨%d14, H14⟩, ⟨%d15, H15⟩, ⟨%d16, H16⟩, ⟨%d17, H17⟩, ⟨%d18,
        H18⟩, ⟨%d19, H19⟩⟩
      iapply (run_last c (grid0.coords t) _ _ _ _ _ _ _ _ _ _ _ _ _ _ _ _ _ _ _ _ _ _ _ _ _ _ _ _ _ _ _ _ _ _ _ _ _ _ _
        _ _ _ _ _ _ _ _ _ _ _ _ _ _ _ (fun h => h0 ((first_iff t).mp h)) ((closes_iff t).mpr h1) (fun h => h0
        ((opens_iff t).mp h)) (ins m c t) (sums m c (t.val - 1)) _ (V m c main_v23) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexact H17
      isplitl [H18]; · iexists _; iexact H18
      isplitl [H19]; · iexact H19
      isplitl [HS0]; · iexact HS0
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexact HS7
      isplitl [Hq]; · iexact Hq
      isplitl [Hh]; · iexact Hh
      isplitl [HW]; · iexact HW
      iintro ⟨H0, H1, H2, H3, H4, H5, H6, H7, H8, H9, H10, H11, H12, H13, H14, H15, H16, H17, H18, H19, HS0, ⟨%e2, HS2⟩,
        ⟨%e3, HS3⟩, ⟨%e4, HS4⟩, ⟨%e5, HS5⟩, ⟨%e6, HS6⟩, HS7, Hq, Hh, ⟨%W', HW'⟩⟩
      isplitl [HS0 HS2 HS3 HS4 HS5 HS6 HS7 Hg Hq Hh]
      · isplitl [HS0 HS2 HS3 HS4 HS5 HS6 HS7]
        · isplitl [HS0]; · iexact HS0
          isplitl [HS2]; · iexists _; iexact HS2
          isplitl [HS3]; · iexists _; iexact HS3
          isplitl [HS4]; · iexists _; iexact HS4
          isplitl [HS5]; · iexists _; iexact HS5
          isplitl [HS6]; · iexists _; iexact HS6
          iexact HS7
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · rw [show (dats m 0 c).Φ t.castSucc = kept m c (sums m c (t.val - 1)).dwp from inv_later m c (show ¬t.val = 0 by omega), sums_next m c t h0,
        leaves17_off m c t h0 h1, leaves18_off m c t h1]
      simp only [before19 m c t h0]
      unfold kept
      iintro ⟨⟨⟨HS0, ⟨%ds2, HS2⟩, ⟨%ds3, HS3⟩, ⟨%ds4, HS4⟩, ⟨%ds5, HS5⟩, ⟨%ds6, HS6⟩, HS7⟩, Hg, Hq, Hh⟩, ⟨%W, -, HW⟩,
        ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩,
        ⟨%d10, H10⟩, ⟨%d11, H11⟩, ⟨%d12, H12⟩, ⟨%d13, H13⟩, ⟨%d14, H14⟩, ⟨%d15, H15⟩, ⟨%d16, H16⟩, ⟨%d17, H17⟩, ⟨%d18,
        H18⟩, ⟨%d19, H19⟩⟩
      iapply (run_middle c (grid0.coords t) _ _ _ _ _ _ _ _ _ _ _ _ _ _ _ _ _ _ _ _ _ _ _ _ _ _ _ _ _ _ _ _ _ _ _ _ _ _
        _ _ _ _ _ _ _ _ _ _ _ _ _ _ _ _ (fun h => h0 ((first_iff t).mp h)) (fun h => h1 ((closes_iff t).mp h)) (fun h =>
        h0 ((opens_iff t).mp h)) (ins m c t) (sums m c (t.val - 1)) _ _ (V m c main_v23) W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [H17]; · iexact H17
      isplitl [H18]; · iexact H18
      isplitl [H19]; · iexact H19
      isplitl [HS0]; · iexact HS0
      isplitl [HS2]; · iexists _; iexact HS2
      isplitl [HS3]; · iexists _; iexact HS3
      isplitl [HS4]; · iexists _; iexact HS4
      isplitl [HS5]; · iexists _; iexact HS5
      isplitl [HS6]; · iexists _; iexact HS6
      isplitl [HS7]; · iexact HS7
      isplitl [Hq]; · iexact Hq
      isplitl [Hh]; · iexact Hh
      isplitl [HW]; · iexact HW
      iintro ⟨H0, H1, H2, H3, H4, H5, H6, H7, H8, H9, H10, H11, H12, H13, H14, H15, H16, H17, H18, H19, HS0, ⟨%e2, HS2⟩,
        ⟨%e3, HS3⟩, ⟨%e4, HS4⟩, ⟨%e5, HS5⟩, ⟨%e6, HS6⟩, HS7, Hq, Hh, ⟨%W', HW'⟩⟩
      isplitl [HS0 HS2 HS3 HS4 HS5 HS6 HS7 Hg Hq Hh]
      · isplitl [HS0 HS2 HS3 HS4 HS5 HS6 HS7]
        · isplitl [HS0]; · iexact HS0
          isplitl [HS2]; · iexists _; iexact HS2
          isplitl [HS3]; · iexists _; iexact HS3
          isplitl [HS4]; · iexists _; iexact HS4
          isplitl [HS5]; · iexists _; iexact HS5
          isplitl [HS6]; · iexists _; iexact HS6
          iexact HS7
        isplitl [Hg]; · iexact Hg
        isplitl [Hq]; · iexact Hq
        iexact Hh
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [H18]; · iexists _; iexact H18
      iexact H19

end Cert.Halo
-- ==== Proof.Halo.Run.lean ====
module

public import proofs.«01_k».proof.Proof.Halo.Body

/-! # The run of the halo program

It terminates, its arrays hold what the points write back, the arguments are unchanged and no counter is left raised. -/

@[expose] public section

set_option maxRecDepth 16384

noncomputable section

namespace Cert.Halo

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point, -/
theorem inv_in (c : Dev nD) : Pipeline.ΦD osem spec0 H0 (V m) c ⊢ (dats m 0 c).Φ 0 := by
  rw [show (dats m 0 c).Φ 0 = Pipeline.ΦD osem spec0 H0 (V m) c from inv_start m c rfl]

/-- and what the last point leaves can be handed back. -/
theorem inv_out (c : Dev nD) : (dats m 0 c).Φ (Fin.last cfg0.N) ⊢ Pipeline.ΦD osem spec0 H0 (V m) c := by
  rw [show (dats m 0 c).Φ (Fin.last cfg0.N) = kept m c (sums m c ((Fin.last cfg0.N).val - 1)).dwp from
    inv_later m c (n := (Fin.last cfg0.N).val) (by rw [Fin.val_last]; have : cfg0.N = 17 := N_0; omega), PhiD_eq]
  unfold kept
  iintro ⟨⟨HS0, HS2, HS3, HS4, HS5, HS6, HS7⟩, Hg, Hq, Hh⟩
  isplitl [HS0 HS2 HS3 HS4 HS5 HS6 HS7]
  · isplitl [HS0]; · iexists _; iexact HS0
    isplitl [HS2]; · iexact HS2
    isplitl [HS3]; · iexact HS3
    isplitl [HS4]; · iexact HS4
    isplitl [HS5]; · iexact HS5
    isplitl [HS6]; · iexact HS6
    iexists _; iexact HS7
  isplitl [Hg]; · iexact Hg
  isplitl [Hq]; · iexact Hq
  iexact Hh

/-- The lines after the region touch the pipeline's arrays and other buffers, but not the weight's. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [Finset.mem_singleton.mp hb]
  simp only [hostOps1, List.mem_cons, List.mem_nil_iff, or_false] at hop
  rcases hop with rfl | rfl | rfl
  all_goals
    intro hm
    rcases Finset.mem_insert.mp hm with h | h
    · exact StableHlo.devRef_ne_of_ne (by decide) h
    · exact StableHlo.devRef_ne_of_ne (by decide) (Finset.mem_singleton.mp h)

set_option maxHeartbeats 800000 in
theorem main_around : Pipeline.HMainK (Ix := Unit) (Name := ℕ) (U := Pipeline.UD sig nD τ) (Lvl := ℕ) cfgs 0 defs₀ Variants.none m
    (main (F := F)) (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What every buffer holds at the end, beside the arrays. -/
abbrev tail (c : Dev nD) (b : Ref sig .tc) : Buf (Elt F) ((c : Thread nD τ).loc b) :=
  Pipeline.afterTail₀ cfgs (dats m) 0 (V0 m) [hostOps1] c b

set_option backward.isDefEq.respectTransparency.types false in
/-- The program's run: every final state holds the arrays the points wrote and no counter raised. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_dma_around_shared (Q' := _) cfgs (dats m) (0 : Fin 1) launch₀0 osem defs₀ Variants.none ownSemFacts H0 H0_sub m ρ
    main (hbody := fun c => (body_obligation m c).loose) (hq := fun _ _ _ => rfl)
    (howed := fun _ _ => rfl) (V₀ := V0 m) (opss := [hostOps1]) (hsub := tail_sub) (hfresh := sfx_fresh) (hkeep := sfx_keeps)
    (hmain := main_around m) (hA := A_eq m) (hin := inv_in m) (hout := inv_out m)

theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- A buffer that no array is and no later line writes keeps its contents. -/
theorem tail_kept (c : Dev nD) (b : Ref sig .tc) (h1 : ∀ op ∈ (hostOps1 : List (HloOp τ sig (Elt F))), Proc.devRef .tc b ∉ op.writes)
    (h2 : ∀ w, Pipeline.arrRef spec0 w ≠ b) : Pipeline.afterTail₀ cfgs (dats m) 0 (V0 m) [hostOps1] c b = V m c b := by
  unfold Pipeline.afterTail₀
  rw [StableHlo.after_of_forall_not_mem (b := Proc.devRef .tc b) _ _ (by
      simpa only [List.flatten_cons, List.flatten_nil, List.append_nil] using h1),
    Pipeline.withArrays_of_ne _ c (V0 m c) _ b h2]

theorem arg_unwritten {b : Ref sig .tc} (h : b ≠ main_v43 ∧ b ≠ main_v44 ∧ b ≠ main_v45) :
    ∀ op ∈ (hostOps1 : List (HloOp τ sig (Elt F))), Proc.devRef .tc b ∉ op.writes := by
  intro op hop
  simp only [hostOps1, List.mem_cons, List.mem_nil_iff, or_false] at hop
  rcases hop with rfl | rfl | rfl
  · exact fun hm => StableHlo.devRef_ne_of_ne h.1 (Finset.mem_singleton.mp hm)
  · exact fun hm => StableHlo.devRef_ne_of_ne h.2.1 (Finset.mem_singleton.mp hm)
  · exact fun hm => StableHlo.devRef_ne_of_ne h.2.2 (Finset.mem_singleton.mp hm)

/-- The frame of the program at any values: the arguments unchanged, no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩) (run_quiescent m ρ)
  have rest : ∀ b : Ref sig .tc, b ∈ Pipeline.restRefs sig spec0 → (b ≠ main_v43 ∧ b ≠ main_v44 ∧ b ≠ main_v45) →
      (∀ w, Pipeline.arrRef spec0 w ≠ b) → r.2.mem ((c.tc : Thread nD τ).loc b) = V m c b := fun b hb hw ha =>
    ((h.1 c).2 b hb).trans (tail_kept m c b (arg_unwritten hw) ha)
  refine ⟨(rest main_arg0 (Pipeline.mem_restRefs_of main_arg0 (by decide) (by decide)) (by decide) (by decide)).trans (V_main_arg0 m c),
    (rest main_arg1 (Pipeline.mem_restRefs_of main_arg1 (by decide) (by decide)) (by decide) (by decide)).trans (V_main_arg1 m c),
    ((h.1 c).1 13).trans (((dats m 0 c).arrAt_in 13 rfl _).trans ((A_eq m c 13).trans (V_main_arg2 m c))),
    (rest main_arg3 (Pipeline.mem_restRefs_of main_arg3 (by decide) (by decide)) (by decide) (by decide)).trans (V_main_arg3 m c),
    (rest main_arg4 (Pipeline.mem_restRefs_of main_arg4 (by decide) (by decide)) (by decide) (by decide)).trans (V_main_arg4 m c),
    (rest main_arg5 (Pipeline.mem_restRefs_of main_arg5 (by decide) (by decide)) (by decide) (by decide)).trans (V_main_arg5 m c),
    (rest main_arg6 (Pipeline.mem_restRefs_of main_arg6 (by decide) (by decide)) (by decide) (by decide)).trans (V_main_arg6 m c),
    (rest main_arg7 (Pipeline.mem_restRefs_of main_arg7 (by decide) (by decide)) (by decide) (by decide)).trans (V_main_arg7 m c),
    (rest main_arg8 (Pipeline.mem_restRefs_of main_arg8 (by decide) (by decide)) (by decide) (by decide)).trans (V_main_arg8 m c)⟩

end Cert.Halo
-- ==== Proof.Halo.Spec.lean ====
module

public import proofs.«01_k».proof.Proof.Step.Rms

/-!
# The mixers' backward pass over the real numbers

Rows are counted from 256 rows in front of the first: row `256 + i` is row `i` of the arguments, and every array is
zero at the other rows. So a row's neighbours are at most 16 rows away without leaving the natural numbers.
-/

@[expose] public section

noncomputable section

namespace Cert.Mixer

open Idealize.ShloMosaic Cert.Scalars

/-- The arguments: real numbers, but for those that are only added to a result. -/
structure Args where
  h : Fin 4112 → Fin 1024 → ℝ
  g : Fin 1024 → ℝ
  w : Fin 1024 → Fin 5120 → ℝ
  wd : Fin 31 → Fin 1024 → ℝ
  dc : Fin 4112 → Fin 1024 → ℝ
  dm : Fin 4112 → Fin 1024 → ℝ
  dzg : Fin 4112 → Fin 2048 → ℝ
  dh : Fin 4112 → Fin 1024 → EReal

/-- Row `r` of an array, zero where the array has none. -/
def lay {α : Type} [Zero α] {n : ℕ} (f : Fin 4112 → Fin n → α) (r : ℕ) (j : Fin n) : α :=
  if e : 256 ≤ r ∧ r < 4368 then f ⟨r - 256, by omega⟩ j else 0

theorem lay_in {α : Type} [Zero α] {n : ℕ} (f : Fin 4112 → Fin n → α) (i : Fin 4112) {r : ℕ} (hr : r = i.val + 256) (j : Fin n) : lay f r j = f i j := by
  subst hr
  rw [lay, dif_pos ⟨by omega, by omega⟩]
  exact congrArg (f · j) (Fin.ext (Nat.add_sub_cancel _ _))

theorem lay_out {α : Type} [Zero α] {n : ℕ} (f : Fin 4112 → Fin n → α) {r : ℕ} (hr : r < 256 ∨ 4368 ≤ r) (j : Fin n) : lay f r j = 0 :=
  dif_neg (by omega)

/-- The first 1024 columns, and the next, of the projection. -/
def lo (c : Fin 1024) : Fin 5120 := ⟨c.val, by omega⟩
def hi (c : Fin 1024) : Fin 5120 := ⟨1024 + c.val, by omega⟩

/-- Half the width of the window a column is averaged over: 1, 2, 4 or 8. -/
def reach (c : Fin 1024) : ℕ := 2 ^ (c.val / 256)

/-- How many of the rows `r - u` up to `r + u - 1` there are. -/
def count (u r : ℕ) : ℝ := ((min 4368 (r + u) - max 256 (r - u) : ℕ) : ℝ)

namespace Args

variable (a : Args) (r : ℕ)

/-- The projection of a normalised row. -/
def z (c : Fin 5120) : ℝ := ∑ j, unit (lay a.h r) j * a.g j * a.w j c
def gate (c : Fin 1024) : ℝ := sgr ((a.z r (hi c) : ℝ) : EReal)
def act (c : Fin 1024) : ℝ := a.z r (lo c) * a.gate r c

/-- The filter's transpose, and its gradient. -/
def da (c : Fin 1024) : ℝ := ∑ k : Fin 31, a.wd k c * lay a.dc (r + 15 - k.val) c
def dw (k : Fin 31) (c : Fin 1024) : ℝ := ∑ i : Fin 4112, a.act (i.val + 256 + k.val - 15) c * a.dc i c

/-- The averages' transpose. -/
def share (u : ℕ) (c : Fin 1024) : ℝ := lay a.dm r c / count u r
def dpool (c : Fin 1024) : ℝ := (∑ d ∈ Finset.range (2 * reach c), a.share (r + 1 - reach c + d) (reach c) c) - lay a.dm r c

/-- The gradient at the projection. -/
def dz (c : Fin 5120) : ℝ :=
  if e : c.val < 1024 then a.da r ⟨c.val, e⟩ * a.gate r ⟨c.val, e⟩
  else if e : c.val < 2048 then
    a.da r ⟨c.val - 1024, by omega⟩ * a.z r ⟨c.val - 1024, by omega⟩
      * (a.gate r ⟨c.val - 1024, by omega⟩ * (1 - a.gate r ⟨c.val - 1024, by omega⟩))
  else if e : c.val < 3072 then a.dpool r ⟨c.val - 2048, by omega⟩
  else lay a.dzg r ⟨c.val - 3072, by omega⟩

theorem dz_lo {d : Fin 5120} (h : d.val < 1024) : a.dz r d = a.da r ⟨d.val, h⟩ * a.gate r ⟨d.val, h⟩ := dif_pos h
theorem dz_hi {d : Fin 5120} (h : 1024 ≤ d.val ∧ d.val - 1024 < 1024) :
    a.dz r d = a.da r ⟨d.val - 1024, h.2⟩ * a.z r (lo ⟨d.val - 1024, h.2⟩)
      * (a.gate r ⟨d.val - 1024, h.2⟩ * (1 - a.gate r ⟨d.val - 1024, h.2⟩)) :=
  (dif_neg (by omega)).trans (dif_pos (by omega))
theorem dz_mid {d : Fin 5120} (h : 2048 ≤ d.val ∧ d.val - 2048 < 1024) : a.dz r d = a.dpool r ⟨d.val - 2048, h.2⟩ :=
  (dif_neg (by omega)).trans ((dif_neg (by omega)).trans (dif_pos (by omega)))
theorem dz_end {d : Fin 5120} (h : 3072 ≤ d.val ∧ d.val - 3072 < 2048) : a.dz r d = lay a.dzg r ⟨d.val - 3072, h.2⟩ :=
  (dif_neg (by omega)).trans ((dif_neg (by omega)).trans (dif_neg (by omega)))

/-- The gradient at the normalised row, and at the row. -/
def du (j : Fin 1024) : ℝ := ∑ c, a.dz r c * a.w j c
def dh0 (j : Fin 1024) : EReal := lay a.dh r j + ((dunit (lay a.h r) (fun k => a.du r k * a.g k) j : ℝ) : EReal)

/-- The gradient of the norm's scale. -/
def dg (j : Fin 1024) : ℝ := ∑ i : Fin 4112, a.du (i.val + 256) j * unit (a.h i) j

variable {r}

/-- There is no projection at a row that is not there. -/
theorem lay_void (hr : r < 256 ∨ 4368 ≤ r) : lay a.h r = fun _ => 0 := funext fun j => lay_out _ hr j

theorem z_out (hr : r < 256 ∨ 4368 ≤ r) (c : Fin 5120) : a.z r c = 0 := by
  unfold z
  rw [a.lay_void hr]
  exact Finset.sum_eq_zero fun j _ => by rw [unit_zero, zero_mul, zero_mul]

theorem act_out (hr : r < 256 ∨ 4368 ≤ r) (c : Fin 1024) : a.act r c = 0 := by
  unfold act; rw [a.z_out hr, zero_mul]

theorem lay_row (i : Fin 4112) : lay a.h (i.val + 256) = a.h i := funext fun j => lay_in _ i rfl j

end Args

/-! ## The arguments as the programs have them -/

/-- A real is its real part. -/
theorem back {x : EReal} (h : ∃ r : ℝ, x = r) : x = ((x.toReal : ℝ) : EReal) := by
  obtain ⟨r, rfl⟩ := h
  rw [EReal.toReal_coe]

structure Raw where
  x : Fin 4096 → Fin 1024 → EReal
  head : Fin 16 → Fin 1024 → EReal
  g : Fin 1024 → EReal
  w : Fin 1024 → Fin 5120 → EReal
  wd : Fin 31 → Fin 1024 → EReal
  dc : Fin 4112 → Fin 1024 → EReal
  dm : Fin 4112 → Fin 1024 → EReal
  dzg : Fin 4112 → Fin 2048 → EReal
  dh : Fin 4112 → Fin 1024 → EReal

/-- The arguments are real numbers, but for those that are only added to a result. -/
structure Raw.Finite (a : Raw) : Prop where
  x : ∀ i j, ∃ r : ℝ, a.x i j = r
  head : ∀ i j, ∃ r : ℝ, a.head i j = r
  g : ∀ j, ∃ r : ℝ, a.g j = r
  w : ∀ j c, ∃ r : ℝ, a.w j c = r
  wd : ∀ k c, ∃ r : ℝ, a.wd k c = r
  dc : ∀ i j, ∃ r : ℝ, a.dc i j = r
  dm : ∀ i j, ∃ r : ℝ, a.dm i j = r
  dzg : ∀ i j, ∃ r : ℝ, a.dzg i j = r

/-- The rows: the sixteen in front, then the sequence. -/
def Raw.row (a : Raw) (i : Fin 4112) (j : Fin 1024) : EReal :=
  if e : i.val < 16 then a.head ⟨i.val, e⟩ j else a.x ⟨i.val - 16, by omega⟩ j

theorem Raw.row_real {a : Raw} (h : a.Finite) (i : Fin 4112) (j : Fin 1024) : ∃ r : ℝ, a.row i j = r := by
  unfold Raw.row; split
  · exact h.head _ _
  · exact h.x _ _

def Raw.args (a : Raw) : Args where
  h i j := (a.row i j).toReal
  g j := (a.g j).toReal
  w j c := (a.w j c).toReal
  wd k c := (a.wd k c).toReal
  dc i j := (a.dc i j).toReal
  dm i j := (a.dm i j).toReal
  dzg i j := (a.dzg i j).toReal
  dh := a.dh

/-! ## Sums -/

/-- A sum with one term marked. -/
theorem pick (f : ℕ → ℝ) (hf : ∀ r, r < 256 ∨ 4368 ≤ r → f r = 0) (p : Fin 4112 → Prop) [DecidablePred p] (m : ℕ)
    (hp : ∀ x, p x ↔ x.val + 256 = m) : ∑ x : Fin 4112, f (x.val + 256) * (if p x then 1 else 0) = f m := by
  simp only [hp, mul_ite, mul_one, mul_zero]
  by_cases hm : m < 256 ∨ 4368 ≤ m
  · rw [hf m hm]
    exact Finset.sum_eq_zero fun x _ => if_neg (by omega)
  · rw [Finset.sum_eq_single_of_mem (⟨m - 256, by omega⟩ : Fin 4112) (Finset.mem_univ _)]
    · rw [if_pos (by simp only; omega)]
      exact congrArg f (by simp only; omega)
    · intro x _ hx
      exact if_neg fun e => hx (Fin.ext (by simp only; omega))

/-- A sum with a run of terms marked. -/
theorem window (f : ℕ → ℝ) (hf : ∀ r, r < 256 ∨ 4368 ≤ r → f r = 0) (s u : ℕ) (hs : s < 4112) (hu : u ≤ 16) (p : Fin 4112 → Prop) [DecidablePred p]
    (hp : ∀ x, p x ↔ x.val ≤ s + u ∧ s < x.val + u) :
    ∑ x : Fin 4112, f (x.val + 256) * (if p x then 1 else 0) = ∑ d ∈ Finset.range (2 * u), f (s + 256 + 1 - u + d) := by
  have e1 : ∑ r ∈ Finset.range (256 + 4112 + 16), (if r ≤ s + 256 + u ∧ s + 256 < r + u then f r else 0)
      = ∑ x : Fin 4112, f (x.val + 256) * (if p x then 1 else 0) := by
    rw [Finset.sum_range_add, Finset.sum_range_add, Finset.sum_eq_zero, zero_add, Finset.sum_range, add_eq_left.mpr]
    · refine Finset.sum_congr rfl fun x _ => ?_
      rw [mul_ite, mul_one, mul_zero, Nat.add_comm 256]
      refine if_congr ?_ rfl rfl
      rw [hp]; omega
    · refine Finset.sum_eq_zero fun x _ => ?_
      rw [hf _ (.inr (by omega)), ite_self]
    · intro x hx
      have hx := Finset.mem_range.mp hx
      rw [hf _ (.inl hx), ite_self]
  rw [← e1, ← Finset.sum_filter]
  have e2 : (Finset.range (256 + 4112 + 16)).filter (fun r => r ≤ s + 256 + u ∧ s + 256 < r + u)
      = Finset.Ico (s + 256 + 1 - u) (s + 256 + 1 - u + 2 * u) := by
    ext r
    simp only [Finset.mem_filter, Finset.mem_range, Finset.mem_Ico]
    omega
  rw [e2, Finset.sum_Ico_eq_sum_range, Nat.add_sub_cancel_left]

/-- How many are marked. -/
theorem counted (s u : ℕ) (hs : s < 4112) (hu : 1 ≤ u ∧ u ≤ 16) (p : Fin 4112 → Prop) [DecidablePred p]
    (hp : ∀ x, p x ↔ s ≤ x.val + u ∧ x.val < s + u) : ∑ x : Fin 4112, (if p x then (1 : ℝ) else 0) = count u (s + 256) := by
  have e1 : ∑ x : Fin 4112, (if p x then (1 : ℝ) else 0) = ∑ r ∈ Finset.range 4112, (if s ≤ r + u ∧ r < s + u then (1 : ℝ) else 0) := by
    rw [Finset.sum_range]
    exact Finset.sum_congr rfl fun x _ => if_congr (hp x) rfl rfl
  have e2 : (Finset.range 4112).filter (fun r => s ≤ r + u ∧ r < s + u) = Finset.Ico (s - u) (min 4112 (s + u)) := by
    ext r
    simp only [Finset.mem_filter, Finset.mem_range, Finset.mem_Ico]
    omega
  rw [e1, ← Finset.sum_filter, e2, Finset.sum_const, Nat.card_Ico, nsmul_eq_mul, mul_one, count]
  congr 1
  omega

theorem count_ne {u r : ℕ} (hu : 1 ≤ u) (hr : 256 ≤ r ∧ r < 4368) : count u r ≠ 0 := by
  unfold count
  exact Nat.cast_ne_zero.mpr (by omega)

/-- Seventeen runs of 256 rows from row 16 on, of what is zero outside the arrays, are all the arrays' rows. -/
theorem sum_runs (f : ℕ → ℝ) (hf : ∀ r, r < 256 ∨ 4368 ≤ r → f r = 0) :
    ∑ q ∈ Finset.range 17, ∑ y ∈ Finset.range 256, f (256 * q + 16 + y) = ∑ i : Fin 4112, f (i.val + 256) := by
  have key : ∀ n : ℕ, ∑ q ∈ Finset.range n, ∑ y ∈ Finset.range 256, f (256 * q + 16 + y) = ∑ y ∈ Finset.range (256 * n), f (16 + y) := by
    intro n
    induction n with
    | zero => rfl
    | succ n ih =>
      rw [Finset.sum_range_succ, ih, Nat.mul_succ, Finset.sum_range_add]
      refine congrArg (_ + ·) (Finset.sum_congr rfl fun y _ => congrArg f ?_)
      omega
  rw [key]
  show ∑ y ∈ Finset.range (240 + 4112), f (16 + y) = _
  rw [Finset.sum_range_add, Finset.sum_eq_zero, zero_add, Finset.sum_range]
  · exact Finset.sum_congr rfl fun i _ => congrArg f (by omega)
  · intro x hx
    have hx := Finset.mem_range.mp hx
    exact hf _ (by omega)

/-- Rows taken eight apart are all rows. -/
theorem sum_eights (f : ℕ → ℝ) : ∑ p ∈ Finset.range 8, ∑ i ∈ Finset.range 32, f (8 * i + p) = ∑ y ∈ Finset.range 256, f y := by
  rw [Finset.sum_comm]
  have key : ∀ n : ℕ, ∑ i ∈ Finset.range n, ∑ p ∈ Finset.range 8, f (8 * i + p) = ∑ y ∈ Finset.range (8 * n), f y := by
    intro n
    induction n with
    | zero => rfl
    | succ n ih => rw [Finset.sum_range_succ, ih, Nat.mul_succ, Finset.sum_range_add]
  exact key 32

/-- Columns taken in four quarters are all columns. -/
theorem sum_quarters (f : ℕ → ℝ) :
    ((∑ c ∈ Finset.range 1280, f c) + (∑ c ∈ Finset.range 1280, f (1280 + c)) + (∑ c ∈ Finset.range 1280, f (2560 + c)))
      + (∑ c ∈ Finset.range 1280, f (3840 + c)) = ∑ c ∈ Finset.range 5120, f c := by
  show _ = ∑ c ∈ Finset.range (1280 + 1280 + 1280 + 1280), f c
  rw [Finset.sum_range_add, Finset.sum_range_add, Finset.sum_range_add]

end Cert.Mixer

end
-- ==== Proof.Halo.Values.lean ====
module

public import proofs.«01_k».proof.Proof.Halo.Spec
public import proofs.«01_k».proof.Proof.Halo.Step
public import Idealize.ShloMosaic.Lib.Pointwise
public import Idealize.ShloMosaic.Lib.Pipeline.ValueKit
public import Idealize.ShloMosaic.Lib.Tactic.CleanTypes

/-!
# What one point of the halo kernel computes, entry by entry

Point `q` stands on the 256 rows from row `256 * q + 16` on; its extended arrays begin 16 rows earlier.
-/

@[expose] public section

set_option maxRecDepth 16384

noncomputable section

namespace Cert.Halo

open Cert.Kernel3Ideal Cert.Kernel3Ideal.Gen Cert.Scalars Cert.Mixer
open Idealize.ShloMosaic Idealize.ShloMosaic.TcCoe Idealize.SL.Sem

/-- The blocks of point `q` hold the rows it stands on. -/
structure IsPoint (x : Ins Ideal) (i : BitVec 32) (q : ℕ) (a : Args) : Prop where
  le : q < 17
  word : i = BitVec.ofNat 32 q
  dcp : 0 < q → ∀ (y : Fin 16) j, x.dcp (ix2 y j) = ((lay a.dc (256 * q + y.val) j : ℝ) : EReal)
  dcc : ∀ (y : Fin 256) j, x.dcc (ix2 y j) = ((lay a.dc (256 * q + 16 + y.val) j : ℝ) : EReal)
  dcn : q < 16 → ∀ (y : Fin 16) j, x.dcn (ix2 y j) = ((lay a.dc (256 * q + 272 + y.val) j : ℝ) : EReal)
  dmp : 0 < q → ∀ (y : Fin 16) j, x.dmp (ix2 y j) = ((lay a.dm (256 * q + y.val) j : ℝ) : EReal)
  dmc : ∀ (y : Fin 256) j, x.dmc (ix2 y j) = ((lay a.dm (256 * q + 16 + y.val) j : ℝ) : EReal)
  dmn : q < 16 → ∀ (y : Fin 16) j, x.dmn (ix2 y j) = ((lay a.dm (256 * q + 272 + y.val) j : ℝ) : EReal)
  zp : 0 < q → ∀ (y : Fin 16) (k : Fin 2048), x.zp (ix2 y k) = ((a.z (256 * q + y.val) ⟨k.val, by omega⟩ : ℝ) : EReal)
  zc : ∀ (y : Fin 256) (k : Fin 2048), x.zc (ix2 y k) = ((a.z (256 * q + 16 + y.val) ⟨k.val, by omega⟩ : ℝ) : EReal)
  zn : q < 16 → ∀ (y : Fin 16) (k : Fin 2048), x.zn (ix2 y k) = ((a.z (256 * q + 272 + y.val) ⟨k.val, by omega⟩ : ℝ) : EReal)
  dzg : ∀ (y : Fin 256) k, x.dzg (ix2 y k) = ((lay a.dzg (256 * q + 16 + y.val) k : ℝ) : EReal)
  wdw : ∀ (k : Fin 31) j, x.wdw (ix2 (Fin.ofNat 32 k.val) j) = ((a.wd k j : ℝ) : EReal)
  head : q = 0 → ∀ (y : Fin 256) j, x.head (ix2 y j) = ((lay a.h (256 * q + 16 + y.val) j : ℝ) : EReal)
  body : 0 < q → ∀ (y : Fin 256) j, x.x (ix2 y j) = ((lay a.h (256 * q + 16 + y.val) j : ℝ) : EReal)
  g : ∀ j, x.g (ix2 0 j) = ((a.g j : ℝ) : EReal)
  dh1 : ∀ (y : Fin 256) j, x.dh1 (ix2 y j) = lay a.dh (256 * q + 16 + y.val) j
  w : ∀ (s : Fin 4) j (k : Fin 1280), x.w (ix3 s j k) = ((a.w j ⟨1280 * s.val + k.val, by omega⟩ : ℝ) : EReal)

/-! ## The point's number -/

theorem later : ∀ q < 17, Scalar.cmpi .sgt (BitVec.ofNat 32 q) 0#32 = if 0 < q then 1#1 else 0#1 := by decide
theorem sooner : ∀ q < 17, Scalar.cmpi .slt (BitVec.ofNat 32 q) 16#32 = if q < 16 then 1#1 else 0#1 := by decide
theorem opening : ∀ q < 17, Scalar.cmpi .eq (BitVec.ofNat 32 q) 0#32 = if q = 0 then 1#1 else 0#1 := by decide

/-! ## How many rows a window has -/

theorem most (x y : BitVec 32) : (IntOp.maxsi x y).toInt = max x.toInt y.toInt := by
  unfold IntOp.maxsi
  by_cases h : y.slt x
  · rw [if_pos h, max_eq_left]; exact le_of_lt (by simpa [BitVec.slt] using h)
  · rw [if_neg h, max_eq_right]; simpa [BitVec.slt] using h

theorem least (x y : BitVec 32) : (IntOp.minsi x y).toInt = min x.toInt y.toInt := by
  unfold IntOp.minsi
  by_cases h : x.slt y
  · rw [if_pos h, min_eq_left]; exact le_of_lt (by simpa [BitVec.slt] using h)
  · rw [if_neg h, min_eq_right]; simpa [BitVec.slt] using h

/-- The number of a row, counted from the first. -/
def at_row (q y : ℕ) : BitVec 32 :=
  IntOp.addi (BitVec.ofNat 32 y) (IntOp.subi (IntOp.addi (IntOp.muli (BitVec.ofNat 32 q) 256#32) 4294967280#32) 240#32)

theorem origin : ∀ q < 17, IntOp.subi (IntOp.addi (IntOp.muli (BitVec.ofNat 32 q) 256#32) 4294967280#32) 240#32 = BitVec.ofInt 32 (256 * q - 256) := by decide

theorem at_row_eq {q : ℕ} (hq : q < 17) (y : ℕ) : at_row q y = BitVec.ofInt 32 (256 * q + y - 256) := by
  unfold at_row
  rw [origin q hq]
  unfold IntOp.addi
  rw [← BitVec.ofInt_natCast, ← BitVec.ofInt_add]
  congr 1
  ring

/-- A small number added to a row's. -/
theorem shifted {q y : ℕ} (hq : q < 17) (hy : y < 288) (s : ℤ) (hs : -8 ≤ s ∧ s ≤ 8) :
    (BitVec.ofInt 32 (256 * q + y - 256 + s)).toInt = 256 * q + y - 256 + s := by
  rw [BitVec.toInt_ofInt, Int.bmod]
  omega

/-- The rows within reach, as the program counts them. -/
theorem tally (hi lo : BitVec 32) (p n : ℤ) (hp : hi.toInt = p) (hn : lo.toInt = n) (b : -10000 < p ∧ p < 10000) (b' : -10000 < n ∧ n < 10000) :
    (IntOp.maxsi (IntOp.subi (IntOp.minsi 4112#32 (IntOp.maxsi 0#32 hi)) (IntOp.minsi 4112#32 (IntOp.maxsi 0#32 lo))) 1#32).toInt
      = max (min 4112 (max 0 p) - min 4112 (max 0 n)) 1 := by
  have e1 : (IntOp.minsi 4112#32 (IntOp.maxsi 0#32 hi)).toInt = min 4112 (max 0 p) := by rw [least, most, hp]; rfl
  have e2 : (IntOp.minsi 4112#32 (IntOp.maxsi 0#32 lo)).toInt = min 4112 (max 0 n) := by rw [least, most, hn]; rfl
  rw [most]
  unfold IntOp.subi
  rw [BitVec.toInt_sub, e1, e2, Int.bmod]
  show max _ 1 = _
  omega

/-- A row's entry over the count is its share. -/
theorem share_of (a : Args) (u r : ℕ) (c : Fin 1024) (hu : 1 ≤ u ∧ u ≤ 8) (v : BitVec 32)
    (hv : v.toInt = max (min 4112 (max 0 ((r : ℤ) - 256 + u)) - min 4112 (max 0 ((r : ℤ) - 256 - u))) 1) :
    Ideal.div ((lay a.dm r c : ℝ) : EReal) (((v.toInt : ℤ) : ℝ) : EReal) = ((a.share r u c : ℝ) : EReal) := by
  have h1 : 1 ≤ v.toInt := by omega
  rw [div_real _ (by exact_mod_cast (by omega : v.toInt ≠ 0))]
  unfold Args.share
  by_cases hr : 256 ≤ r ∧ r < 4368
  · have e : ((v.toInt : ℤ) : ℝ) = Mixer.count u r := by
      unfold Mixer.count
      rw [hv]
      have : max (min 4112 (max 0 ((r : ℤ) - 256 + u)) - min 4112 (max 0 ((r : ℤ) - 256 - u))) 1 = ((min 4368 (r + u) - max 256 (r - u) : ℕ) : ℤ) := by omega
      rw [this, Int.cast_natCast]
    rw [e]
  · rw [lay_out _ (by omega), zero_div, zero_div]

section
variable {x : Ins Ideal} {i : BitVec 32} {q : ℕ} {a : Args} (P : IsPoint x i q a)
include P

theorem column (b : ℕ) (j : Fin 1024) (hb : b ≤ 1024) : (Fin.ofNat 2048 (b + j.val)).val = b + j.val :=
  Nat.mod_eq_of_lt (by omega)

theorem half_lo (y : Fin 256) (j : Fin 1024) : half 0 x.zc (ix2 y j) = ((a.z (256 * q + 16 + y.val) (lo j) : ℝ) : EReal) :=
  (P.zc y (Fin.ofNat 2048 (0 + j.val))).trans (congrArg (fun k => ((a.z (256 * q + 16 + y.val) k : ℝ) : EReal)) (Fin.ext ((column P 0 j (by omega)).trans (Nat.zero_add _))))

theorem half_hi (y : Fin 256) (j : Fin 1024) : half 1024 x.zc (ix2 y j) = ((a.z (256 * q + 16 + y.val) (hi j) : ℝ) : EReal) :=
  (P.zc y (Fin.ofNat 2048 (1024 + j.val))).trans (congrArg (fun k => ((a.z (256 * q + 16 + y.val) k : ℝ) : EReal)) (Fin.ext (column P 1024 j (by omega))))

theorem prev_lo (h : 0 < q) (y : Fin 16) (j : Fin 1024) : half16 0 x.zp (ix2 y j) = ((a.z (256 * q + y.val) (lo j) : ℝ) : EReal) :=
  (P.zp h y (Fin.ofNat 2048 (0 + j.val))).trans (congrArg (fun k => ((a.z (256 * q + y.val) k : ℝ) : EReal)) (Fin.ext ((column P 0 j (by omega)).trans (Nat.zero_add _))))

theorem prev_hi (h : 0 < q) (y : Fin 16) (j : Fin 1024) : half16 1024 x.zp (ix2 y j) = ((a.z (256 * q + y.val) (hi j) : ℝ) : EReal) :=
  (P.zp h y (Fin.ofNat 2048 (1024 + j.val))).trans (congrArg (fun k => ((a.z (256 * q + y.val) k : ℝ) : EReal)) (Fin.ext (column P 1024 j (by omega))))

theorem next_lo (h : q < 16) (y : Fin 16) (j : Fin 1024) : half16 0 x.zn (ix2 y j) = ((a.z (256 * q + 272 + y.val) (lo j) : ℝ) : EReal) :=
  (P.zn h y (Fin.ofNat 2048 (0 + j.val))).trans (congrArg (fun k => ((a.z (256 * q + 272 + y.val) k : ℝ) : EReal)) (Fin.ext ((column P 0 j (by omega)).trans (Nat.zero_add _))))

theorem next_hi (h : q < 16) (y : Fin 16) (j : Fin 1024) : half16 1024 x.zn (ix2 y j) = ((a.z (256 * q + 272 + y.val) (hi j) : ℝ) : EReal) :=
  (P.zn h y (Fin.ofNat 2048 (1024 + j.val))).trans (congrArg (fun k => ((a.z (256 * q + 272 + y.val) k : ℝ) : EReal)) (Fin.ext (column P 1024 j (by omega))))

theorem row_sig (y : Fin 256) (j : Fin 1024) : x.sig (ix2 y j) = ((a.gate (256 * q + 16 + y.val) j : ℝ) : EReal) := by
  have e := half_hi P y j
  unfold Ins.sig k0_pay73
  clean_types; pointwise
  rw [e, lit_half]
  exact half_tanh _

/-! ## The extended rows -/

/-- An array between its borders, when each is what the row number says. -/
theorem ext_of (u : Vec Ideal S16x1024 .f32) (v : Vec Ideal S256x1024 .f32) (n : Vec Ideal S16x1024 .f32) (f : ℕ → ℝ) (j : Fin 1024)
    (hu : ∀ y : Fin 16, u (ix2 y j) = ((f (256 * q + y.val) : ℝ) : EReal))
    (hv : ∀ y : Fin 256, v (ix2 y j) = ((f (256 * q + 16 + y.val) : ℝ) : EReal))
    (hn : ∀ y : Fin 16, n (ix2 y j) = ((f (256 * q + 272 + y.val) : ℝ) : EReal)) (y : Fin 288) :
    ext u v n (ix2 y j) = ((f (256 * q + y.val) : ℝ) : EReal) := by
  have hy : y.val < 288 := y.isLt
  unfold ext
  by_cases h1 : y.val < 16
  · refine (if_pos h1).trans ((hu (Fin.ofNat 16 y.val)).trans ?_)
    refine congrArg (fun r => ((f r : ℝ) : EReal)) ?_
    show 256 * q + y.val % 16 = _
    omega
  refine (if_neg h1).trans ?_
  by_cases h2 : y.val < 272
  · refine (if_pos h2).trans ((hv (Fin.ofNat 256 (y.val - 16))).trans ?_)
    refine congrArg (fun r => ((f r : ℝ) : EReal)) ?_
    show 256 * q + 16 + (y.val - 16) % 256 = _
    omega
  · refine (if_neg h2).trans ((hn (Fin.ofNat 16 (y.val - 272))).trans ?_)
    refine congrArg (fun r => ((f r : ℝ) : EReal)) ?_
    show 256 * q + 272 + (y.val - 272) % 16 = _
    omega

theorem row_dext (y : Fin 288) (j : Fin 1024) : x.dext i (ix2 y j) = ((lay a.dc (256 * q + y.val) j : ℝ) : EReal) := by
  have hq := P.le
  refine ext_of P _ _ _ (fun r => lay a.dc r j) j (fun y => ?_) (fun y => ?_) (fun y => ?_) y
  · unfold k0_pay82
    rw [P.word, later q hq]
    by_cases h : 0 < q
    · rw [if_pos h]; clean_types; pointwise; exact P.dcp h y j
    · rw [if_neg h, lay_out _ (by omega)]; clean_types; pointwise; rfl
  · unfold k0_pay83; clean_types; pointwise; exact P.dcc y j
  · unfold k0_pay84 k0_pay81
    rw [P.word, sooner q hq]
    by_cases h : q < 16
    · rw [if_pos h]; clean_types; pointwise; exact P.dcn h y j
    · rw [if_neg h, lay_out _ (by omega)]; clean_types; pointwise; rfl

theorem row_qext (y : Fin 288) (j : Fin 1024) : x.qext i (ix2 y j) = ((lay a.dm (256 * q + y.val) j : ℝ) : EReal) := by
  have hq := P.le
  refine ext_of P _ _ _ (fun r => lay a.dm r j) j (fun y => ?_) (fun y => ?_) (fun y => ?_) y
  · unfold k0_pay85
    rw [P.word, later q hq]
    by_cases h : 0 < q
    · rw [if_pos h]; clean_types; pointwise; exact P.dmp h y j
    · rw [if_neg h, lay_out _ (by omega)]; clean_types; pointwise; rfl
  · unfold k0_pay86; clean_types; pointwise; exact P.dmc y j
  · unfold k0_pay87
    rw [P.word, sooner q hq]
    by_cases h : q < 16
    · rw [if_pos h]; clean_types; pointwise; exact P.dmn h y j
    · rw [if_neg h, lay_out _ (by omega)]; clean_types; pointwise; rfl

theorem row_aext (y : Fin 288) (j : Fin 1024) : x.aext i (ix2 y j) = ((a.act (256 * q + y.val) j : ℝ) : EReal) := by
  have hq := P.le
  refine ext_of P _ _ _ (fun r => a.act r j) j (fun y => ?_) (fun y => ?_) (fun y => ?_) y
  · unfold k0_pay78
    rw [P.word, later q hq]
    by_cases h : 0 < q
    · have e := prev_lo P h y j
      have e' := prev_hi P h y j
      rw [if_pos h]; unfold k0_pay74; clean_types; pointwise
      rw [e, e', lit_half]
      erw [half_tanh]
      rw [← EReal.coe_mul]; rfl
    · rw [if_neg h, a.act_out (by omega)]; clean_types; pointwise; rfl
  · have e := half_lo P y j
    have e' := row_sig P y j
    unfold Ins.sig at e'
    unfold k0_pay79 k0_pay75; clean_types; pointwise
    rw [e, e', ← EReal.coe_mul]; rfl
  · unfold k0_pay80
    rw [P.word, sooner q hq]
    by_cases h : q < 16
    · have e := next_lo P h y j
      have e' := next_hi P h y j
      rw [if_pos h]; unfold k0_pay76 k0_pay77; clean_types; pointwise
      rw [e, e', lit_half]
      erw [half_tanh]
      rw [← EReal.coe_mul]; rfl
    · rw [if_neg h, a.act_out (by omega)]; clean_types; pointwise; rfl

end

end Cert.Halo
-- ==== Proof.Halo.Rows.lean ====
module

public import proofs.«01_k».proof.Proof.Halo.Values

/-!
# What one point of the halo kernel leaves, entry by entry
-/

@[expose] public section

set_option maxRecDepth 16384

noncomputable section

namespace Cert.Halo

open Cert.Kernel3Ideal Cert.Kernel3Ideal.Gen Cert.Scalars Cert.Mixer
open Idealize.ShloMosaic Idealize.ShloMosaic.TcCoe Idealize.SL.Sem

theorem tally_row {q y : ℕ} (hq : q < 17) (hy : y < 288) (u : ℕ) (hu : 1 ≤ u ∧ u ≤ 8) :
    (IntOp.maxsi (IntOp.subi (IntOp.minsi 4112#32 (IntOp.maxsi 0#32 (IntOp.addi (IntOp.addi (at_row q y) (BitVec.ofNat 32 (u - 1))) 1#32)))
        (IntOp.minsi 4112#32 (IntOp.maxsi 0#32 (IntOp.subi (at_row q y) (BitVec.ofNat 32 u))))) 1#32).toInt
      = max (min 4112 (max 0 (((256 * q + y : ℕ) : ℤ) - 256 + u)) - min 4112 (max 0 (((256 * q + y : ℕ) : ℤ) - 256 - u))) 1 := by
  have e1 : IntOp.addi (IntOp.addi (at_row q y) (BitVec.ofNat 32 (u - 1))) 1#32 = BitVec.ofInt 32 (256 * q + y - 256 + u) := by
    rw [at_row_eq hq]
    unfold IntOp.addi
    rw [← BitVec.ofInt_natCast, show (1#32) = BitVec.ofInt 32 1 from rfl, ← BitVec.ofInt_add, ← BitVec.ofInt_add]
    congr 1
    omega
  have e2 : IntOp.subi (at_row q y) (BitVec.ofNat 32 u) = BitVec.ofInt 32 (256 * q + y - 256 + -u) := by
    rw [at_row_eq hq]
    unfold IntOp.subi
    rw [← BitVec.ofInt_natCast, BitVec.ofInt_add, BitVec.ofInt_neg, BitVec.sub_eq_add_neg]
  rw [e1, e2]
  refine (tally _ _ _ _ (shifted hq hy u (by omega)) (shifted hq hy (-u) (by omega)) (by omega) (by omega)).trans ?_
  congr 2 <;> push_cast <;> rfl

section
variable {x : Ins Ideal} {i : BitVec 32} {q : ℕ} {a : Args} (P : IsPoint x i q a)
include P

theorem strip_at (b : ℕ) (y : Fin 288) (c : Fin 256) (col : Fin 1024) (e : col.val = b + c.val) :
    strip b (x.qext i) (ix2 y c) = ((lay a.dm (256 * q + y.val) col : ℝ) : EReal) :=
  (congrArg (fun k => x.qext i (ix2 y k)) (Fin.ext ((Nat.mod_eq_of_lt (by omega)).trans e.symm) : Fin.ofNat 1024 (b + c.val) = col)).trans (row_qext P y col)

theorem row_s0 (y : Fin 288) (c : Fin 256) (col : Fin 1024) (e : col.val = 0 + c.val) :
    x.s0 i (ix2 y c) = ((a.share (256 * q + y.val) 1 col : ℝ) : EReal) := by
  have e1 := strip_at P 0 y c col e
  have hq := P.le
  have hw := P.word
  subst hw
  unfold Ins.s0 k0_pay96 k0_pay93 k0_pay94 k0_pay95 k0_pay92; clean_types; pointwise
  rw [e1]
  exact share_of a 1 _ col (by decide) _ (tally_row hq y.isLt 1 (by decide))

theorem row_s1 (y : Fin 288) (c : Fin 256) (col : Fin 1024) (e : col.val = 256 + c.val) :
    x.s1 i (ix2 y c) = ((a.share (256 * q + y.val) 2 col : ℝ) : EReal) := by
  have e1 := strip_at P 256 y c col e
  have hq := P.le
  have hw := P.word
  subst hw
  unfold Ins.s1 k0_pay99 k0_pay98 k0_pay92; clean_types; pointwise
  rw [e1]
  exact share_of a 2 _ col (by decide) _ (tally_row hq y.isLt 2 (by decide))

theorem row_s2 (y : Fin 288) (c : Fin 256) (col : Fin 1024) (e : col.val = 512 + c.val) :
    x.s2 i (ix2 y c) = ((a.share (256 * q + y.val) 4 col : ℝ) : EReal) := by
  have e1 := strip_at P 512 y c col e
  have hq := P.le
  have hw := P.word
  subst hw
  unfold Ins.s2 k0_pay103 k0_pay101 k0_pay102 k0_pay92; clean_types; pointwise
  rw [e1]
  exact share_of a 4 _ col (by decide) _ (tally_row hq y.isLt 4 (by decide))

theorem row_s3 (y : Fin 288) (c : Fin 256) (col : Fin 1024) (e : col.val = 768 + c.val) :
    x.s3 i (ix2 y c) = ((a.share (256 * q + y.val) 8 col : ℝ) : EReal) := by
  have e1 := strip_at P 768 y c col e
  have hq := P.le
  have hw := P.word
  subst hw
  unfold Ins.s3 k0_pay107 k0_pay105 k0_pay106 k0_pay92; clean_types; pointwise
  rw [e1]
  exact share_of a 8 _ col (by decide) _ (tally_row hq y.isLt 8 (by decide))

/-- Rows of shares. -/
theorem rows_at (s : Vec Ideal S288x256 .f32) (u n : ℕ) (y c : Fin 256) (col : Fin 1024) (hn : n ≤ 32)
    (hs : ∀ y : Fin 288, s (ix2 y c) = ((a.share (256 * q + y.val) u col : ℝ) : EReal)) :
    rows n s (ix2 y c) = ((a.share (256 * q + n + y.val) u col : ℝ) : EReal) := by
  refine (hs (Fin.ofNat 288 (n + y.val))).trans (congrArg (fun r => ((a.share r u col : ℝ) : EReal)) ?_)
  show 256 * q + (n + y.val) % 288 = _
  omega

theorem group_at (b : ℕ) (y c : Fin 256) (col : Fin 1024) (e : col.val = b + c.val) :
    group b x.dmc (ix2 y c) = ((lay a.dm (256 * q + 16 + y.val) col : ℝ) : EReal) :=
  (congrArg (fun k => x.dmc (ix2 y k)) (Fin.ext ((Nat.mod_eq_of_lt (by omega)).trans e.symm) : Fin.ofNat 1024 (b + c.val) = col)).trans (P.dmc y col)

omit P in
/-- The window's transpose from the row in front of it. -/
theorem dpool_from (a : Args) (u q y : ℕ) (col : Fin 1024) (hu : 1 ≤ u ∧ u ≤ 8) (hr : reach col = u) :
    a.dpool (256 * q + 16 + y) col = (∑ d ∈ Finset.range (2 * u), a.share (256 * q + (17 - u + d) + y) u col) - lay a.dm (256 * q + 16 + y) col := by
  unfold Args.dpool
  rw [hr]
  refine congrArg (· - _) (Finset.sum_congr rfl fun d _ => congrArg (fun r => a.share r u col) ?_)
  omega

theorem row_p0 (y c : Fin 256) (col : Fin 1024) (e : col.val = 0 + c.val) :
    x.p0 i (ix2 y c) = ((a.dpool (256 * q + 16 + y.val) col : ℝ) : EReal) := by
  have hr : reach col = 1 := by unfold reach; rw [show col.val / 256 = 0 from by omega]; rfl
  have s := fun n hn => rows_at P (x.s0 i) 1 n y c col hn fun y => row_s0 P y c col e
  unfold Ins.p0 k0_pay97; clean_types; pointwise
  rw [s 16 (by decide), s 17 (by decide), group_at P 0 y c col e, dpool_from a 1 q y.val col (by decide) hr]
  simp only [← EReal.coe_add, ← EReal.coe_sub, Finset.sum_range_succ, Finset.sum_range_zero, zero_add, Nat.reduceMul, Nat.reduceAdd, Nat.reduceSub]

theorem row_p1 (y c : Fin 256) (col : Fin 1024) (e : col.val = 256 + c.val) :
    x.p1 i (ix2 y c) = ((a.dpool (256 * q + 16 + y.val) col : ℝ) : EReal) := by
  have hr : reach col = 2 := by unfold reach; rw [show col.val / 256 = 1 from by omega]; rfl
  have s := fun n hn => rows_at P (x.s1 i) 2 n y c col hn fun y => row_s1 P y c col e
  unfold Ins.p1 k0_pay100; clean_types; pointwise
  rw [s 15 (by decide), s 16 (by decide), s 17 (by decide), s 18 (by decide), group_at P 256 y c col e, dpool_from a 2 q y.val col (by decide) hr]
  simp only [← EReal.coe_add, ← EReal.coe_sub, Finset.sum_range_succ, Finset.sum_range_zero, zero_add, Nat.reduceMul, Nat.reduceAdd, Nat.reduceSub]

theorem row_p2 (y c : Fin 256) (col : Fin 1024) (e : col.val = 512 + c.val) :
    x.p2 i (ix2 y c) = ((a.dpool (256 * q + 16 + y.val) col : ℝ) : EReal) := by
  have hr : reach col = 4 := by unfold reach; rw [show col.val / 256 = 2 from by omega]; rfl
  have s := fun n hn => rows_at P (x.s2 i) 4 n y c col hn fun y => row_s2 P y c col e
  unfold Ins.p2 k0_pay104; clean_types; pointwise
  rw [s 13 (by decide), s 14 (by decide), s 15 (by decide), s 16 (by decide), s 17 (by decide), s 18 (by decide), s 19 (by decide), s 20 (by decide),
    group_at P 512 y c col e, dpool_from a 4 q y.val col (by decide) hr]
  simp only [← EReal.coe_add, ← EReal.coe_sub, Finset.sum_range_succ, Finset.sum_range_zero, zero_add, Nat.reduceMul, Nat.reduceAdd, Nat.reduceSub]

theorem row_p3 (y c : Fin 256) (col : Fin 1024) (e : col.val = 768 + c.val) :
    x.p3 i (ix2 y c) = ((a.dpool (256 * q + 16 + y.val) col : ℝ) : EReal) := by
  have hr : reach col = 8 := by unfold reach; rw [show col.val / 256 = 3 from by omega]; rfl
  have s := fun n hn => rows_at P (x.s3 i) 8 n y c col hn fun y => row_s3 P y c col e
  unfold Ins.p3 k0_pay109 k0_pay108; clean_types; pointwise
  rw [s 9 (by decide), s 10 (by decide), s 11 (by decide), s 12 (by decide), s 13 (by decide), s 14 (by decide), s 15 (by decide), s 16 (by decide),
    s 17 (by decide), s 18 (by decide), s 19 (by decide), s 20 (by decide), s 21 (by decide), s 22 (by decide), s 23 (by decide), s 24 (by decide),
    group_at P 768 y c col e, dpool_from a 8 q y.val col (by decide) hr]
  simp only [← EReal.coe_add, ← EReal.coe_sub, Finset.sum_range_succ, Finset.sum_range_zero, zero_add, Nat.reduceMul, Nat.reduceAdd, Nat.reduceSub]

/-! ## The filter's transpose -/

omit P in
/-- Coefficient `m` of column `j`. -/
def wdAt (a : Args) (j : Fin 1024) (m : ℕ) : ℝ := if h : m < 31 then a.wd ⟨m, h⟩ j else 0

omit P in
theorem strip_col (j : Fin 1024) : Fin.ofNat 1024 (128 * (j.val / 128) + (Fin.ofNat 128 j.val).val) = j :=
  Fin.ext (by show (128 * (j.val / 128) + j.val % 128) % 1024 = j.val; omega)

theorem coef_at (n : ℕ) (hn : n < 31) (j : Fin 1024) :
    coef x.wdw n (j.val / 128) (ix2 0 (Fin.ofNat 128 j.val)) = ((wdAt a j n : ℝ) : EReal) := by
  unfold wdAt
  rw [dif_pos hn]
  exact (congrArg (fun k => x.wdw (ix2 (Fin.ofNat 32 n) k)) (strip_col j)).trans (P.wdw ⟨n, hn⟩ j)

theorem tap_d (o : ℕ) (ho : o ≤ 32) (y : Fin 256) (j : Fin 1024) :
    tap (x.dext i) o (j.val / 128) (ix2 y (Fin.ofNat 128 j.val)) = ((lay a.dc (256 * q + o + y.val) j : ℝ) : EReal) := by
  refine (congrArg (fun k => x.dext i (ix2 (Fin.ofNat 288 (o + y.val)) k)) (strip_col j)).trans ((row_dext P _ j).trans ?_)
  refine congrArg (fun r => ((lay a.dc r j : ℝ) : EReal)) ?_
  show 256 * q + (o + y.val) % 288 = _
  omega

theorem tap_a (o : ℕ) (ho : o ≤ 32) (y : Fin 256) (j : Fin 1024) :
    tap (x.aext i) o (j.val / 128) (ix2 y (Fin.ofNat 128 j.val)) = ((a.act (256 * q + o + y.val) j : ℝ) : EReal) := by
  refine (congrArg (fun k => x.aext i (ix2 (Fin.ofNat 288 (o + y.val)) k)) (strip_col j)).trans ((row_aext P _ j).trans ?_)
  refine congrArg (fun r => ((a.act r j : ℝ) : EReal)) ?_
  show 256 * q + (o + y.val) % 288 = _
  omega

theorem acc_at (y : Fin 256) (j : Fin 1024) : ∀ n ≤ 31, acc x.wdw (x.dext i) (j.val / 128) n (ix2 y (Fin.ofNat 128 j.val))
    = ((∑ m ∈ Finset.range n, wdAt a j m * lay a.dc (256 * q + (31 - m) + y.val) j : ℝ) : EReal) := by
  intro n
  induction n with
  | zero => intro _; unfold acc; clean_types; pointwise; rfl
  | succ n ih =>
    intro hn
    have e0 := ih (by omega)
    have e1 := coef_at P n (by omega) j
    have e2 := tap_d P (31 - n) (by omega) y j
    unfold acc; clean_types; pointwise
    rw [e0, e1, e2, ← EReal.coe_mul, ← EReal.coe_add, Finset.sum_range_succ]

theorem row_da (y : Fin 256) (j : Fin 1024) : x.da i (ix2 y j) = ((a.da (256 * q + 16 + y.val) j : ℝ) : EReal) := by
  refine (acc_at P y j 31 le_rfl).trans (congrArg _ ?_)
  unfold Args.da
  rw [Finset.sum_range]
  refine Finset.sum_congr rfl fun k _ => ?_
  unfold wdAt
  rw [dif_pos k.isLt]
  refine congrArg (fun r => a.wd k j * lay a.dc r j) ?_
  omega

/-! ## The gradient at the projection -/

omit P in
theorem joined_a (a b : Vec Ideal S256x1024 .bf16) (p0 p1 p2 p3 : Vec Ideal S256x256 .bf16) (z : Vec Ideal S256x2048 .bf16) (y : Fin 256) (d : Fin 5120)
    (h : d.val < 1024) : joined a b p0 p1 p2 p3 z (ix2 y d) = a (ix2 y (Fin.ofNat 1024 d.val)) :=
  if_pos (show d.val < 1024 by omega)

omit P in
theorem joined_b (a b : Vec Ideal S256x1024 .bf16) (p0 p1 p2 p3 : Vec Ideal S256x256 .bf16) (z : Vec Ideal S256x2048 .bf16) (y : Fin 256) (d : Fin 5120)
    (h : 1024 ≤ d.val ∧ d.val < 2048) : joined a b p0 p1 p2 p3 z (ix2 y d) = b (ix2 y (Fin.ofNat 1024 (d.val - 1024))) :=
  (if_neg (show ¬d.val < 1024 by omega)).trans (if_pos (show d.val < 2048 by omega))

omit P in
theorem joined_p0 (a b : Vec Ideal S256x1024 .bf16) (p0 p1 p2 p3 : Vec Ideal S256x256 .bf16) (z : Vec Ideal S256x2048 .bf16) (y : Fin 256) (d : Fin 5120)
    (h : 2048 ≤ d.val ∧ d.val < 2304) : joined a b p0 p1 p2 p3 z (ix2 y d) = p0 (ix2 y (Fin.ofNat 256 (d.val - 2048))) :=
  (if_neg (show ¬d.val < 1024 by omega)).trans ((if_neg (show ¬d.val < 2048 by omega)).trans (if_pos (show d.val < 2304 by omega)))

omit P in
theorem joined_p1 (a b : Vec Ideal S256x1024 .bf16) (p0 p1 p2 p3 : Vec Ideal S256x256 .bf16) (z : Vec Ideal S256x2048 .bf16) (y : Fin 256) (d : Fin 5120)
    (h : 2304 ≤ d.val ∧ d.val < 2560) : joined a b p0 p1 p2 p3 z (ix2 y d) = p1 (ix2 y (Fin.ofNat 256 (d.val - 2304))) :=
  (if_neg (show ¬d.val < 1024 by omega)).trans ((if_neg (show ¬d.val < 2048 by omega)).trans ((if_neg (show ¬d.val < 2304 by omega)).trans (if_pos (show d.val < 2560 by omega))))

omit P in
theorem joined_p2 (a b : Vec Ideal S256x1024 .bf16) (p0 p1 p2 p3 : Vec Ideal S256x256 .bf16) (z : Vec Ideal S256x2048 .bf16) (y : Fin 256) (d : Fin 5120)
    (h : 2560 ≤ d.val ∧ d.val < 2816) : joined a b p0 p1 p2 p3 z (ix2 y d) = p2 (ix2 y (Fin.ofNat 256 (d.val - 2560))) :=
  (if_neg (show ¬d.val < 1024 by omega)).trans ((if_neg (show ¬d.val < 2048 by omega)).trans ((if_neg (show ¬d.val < 2304 by omega)).trans ((if_neg (show ¬d.val < 2560 by omega)).trans (if_pos (show d.val < 2816 by omega)))))

omit P in
theorem joined_p3 (a b : Vec Ideal S256x1024 .bf16) (p0 p1 p2 p3 : Vec Ideal S256x256 .bf16) (z : Vec Ideal S256x2048 .bf16) (y : Fin 256) (d : Fin 5120)
    (h : 2816 ≤ d.val ∧ d.val < 3072) : joined a b p0 p1 p2 p3 z (ix2 y d) = p3 (ix2 y (Fin.ofNat 256 (d.val - 2816))) :=
  (if_neg (show ¬d.val < 1024 by omega)).trans ((if_neg (show ¬d.val < 2048 by omega)).trans ((if_neg (show ¬d.val < 2304 by omega)).trans ((if_neg (show ¬d.val < 2560 by omega)).trans ((if_neg (show ¬d.val < 2816 by omega)).trans (if_pos (show d.val < 3072 by omega))))))

omit P in
theorem joined_z (a b : Vec Ideal S256x1024 .bf16) (p0 p1 p2 p3 : Vec Ideal S256x256 .bf16) (z : Vec Ideal S256x2048 .bf16) (y : Fin 256) (d : Fin 5120)
    (h : 3072 ≤ d.val ∧ d.val < 5120) : joined a b p0 p1 p2 p3 z (ix2 y d) = z (ix2 y (Fin.ofNat 2048 (d.val - 3072))) :=
  (if_neg (show ¬d.val < 1024 by omega)).trans ((if_neg (show ¬d.val < 2048 by omega)).trans ((if_neg (show ¬d.val < 2304 by omega)).trans ((if_neg (show ¬d.val < 2560 by omega)).trans ((if_neg (show ¬d.val < 2816 by omega)).trans ((if_neg (show ¬d.val < 3072 by omega)).trans (rfl))))))

theorem row_dz (y : Fin 256) (d : Fin 5120) : x.dz i (ix2 y d) = ((a.dz (256 * q + 16 + y.val) d : ℝ) : EReal) := by
  have hd := d.isLt
  by_cases h0 : d.val < 1024
  · have hc : (Fin.ofNat 1024 d.val : Fin 1024) = ⟨d.val, h0⟩ := Fin.ext (Nat.mod_eq_of_lt h0)
    have e1 := row_da P y ⟨d.val, h0⟩
    have e2 := row_sig P y ⟨d.val, h0⟩
    refine (joined_a _ _ _ _ _ _ _ y d h0).trans ?_
    rw [hc, Args.dz_lo _ _ h0]
    unfold k0_pay90; clean_types; pointwise
    rw [e1, e2, ← EReal.coe_mul]
  by_cases h1 : d.val < 2048
  · have hc : (Fin.ofNat 1024 (d.val - 1024) : Fin 1024) = ⟨d.val - 1024, by omega⟩ := Fin.ext (Nat.mod_eq_of_lt (by omega))
    have e1 := row_da P y ⟨d.val - 1024, by omega⟩
    have e2 := row_sig P y ⟨d.val - 1024, by omega⟩
    have e3 := half_lo P y ⟨d.val - 1024, by omega⟩
    refine (joined_b _ _ _ _ _ _ _ y d ⟨by omega, h1⟩).trans ?_
    rw [hc, Args.dz_hi _ _ ⟨by omega, by omega⟩]
    unfold k0_pay91; clean_types; pointwise
    rw [e1, e2, e3, one_sub_real]
    simp only [← EReal.coe_mul]
  by_cases h2 : d.val < 2304
  · refine (joined_p0 _ _ _ _ _ _ _ y d ⟨by omega, h2⟩).trans ?_
    rw [Args.dz_mid _ _ ⟨by omega, by omega⟩]
    exact row_p0 P y (Fin.ofNat 256 (d.val - 2048)) ⟨d.val - 2048, by omega⟩ (by show d.val - 2048 = 0 + (d.val - 2048) % 256; omega)
  by_cases h3 : d.val < 2560
  · refine (joined_p1 _ _ _ _ _ _ _ y d ⟨by omega, h3⟩).trans ?_
    rw [Args.dz_mid _ _ ⟨by omega, by omega⟩]
    exact row_p1 P y (Fin.ofNat 256 (d.val - 2304)) ⟨d.val - 2048, by omega⟩ (by show d.val - 2048 = 256 + (d.val - 2304) % 256; omega)
  by_cases h4 : d.val < 2816
  · refine (joined_p2 _ _ _ _ _ _ _ y d ⟨by omega, h4⟩).trans ?_
    rw [Args.dz_mid _ _ ⟨by omega, by omega⟩]
    exact row_p2 P y (Fin.ofNat 256 (d.val - 2560)) ⟨d.val - 2048, by omega⟩ (by show d.val - 2048 = 512 + (d.val - 2560) % 256; omega)
  by_cases h5 : d.val < 3072
  · refine (joined_p3 _ _ _ _ _ _ _ y d ⟨by omega, h5⟩).trans ?_
    rw [Args.dz_mid _ _ ⟨by omega, by omega⟩]
    exact row_p3 P y (Fin.ofNat 256 (d.val - 2816)) ⟨d.val - 2048, by omega⟩ (by show d.val - 2048 = 768 + (d.val - 2816) % 256; omega)
  have hc : (Fin.ofNat 2048 (d.val - 3072) : Fin 2048) = ⟨d.val - 3072, by omega⟩ := Fin.ext (Nat.mod_eq_of_lt (by omega))
  refine (joined_z _ _ _ _ _ _ _ y d ⟨by omega, hd⟩).trans ?_
  rw [hc, Args.dz_end _ _ ⟨by omega, by omega⟩]
  unfold k0_pay110; clean_types; pointwise
  exact P.dzg y _

omit P in
/-- A term of the product with the weight. -/
def term (a : Args) (r : ℕ) (j : Fin 1024) (n : ℕ) : ℝ := if h : n < 5120 then a.dz r ⟨n, h⟩ * a.w j ⟨n, h⟩ else 0

theorem term_at (s : Fin 4) (b : ℕ) (hb : b = 1280 * s.val) (y : Fin 256) (j : Fin 1024) (k : Fin 1280) :
    quarter b (x.dz i) (ix2 y k) * sheet s.val x.w (ix3 0 j k) = ((term a (256 * q + 16 + y.val) j (b + k.val) : ℝ) : EReal) := by
  have hk := k.isLt
  have hs := s.isLt
  have h : b + k.val < 5120 := by omega
  have e1 : quarter b (x.dz i) (ix2 y k) = ((a.dz (256 * q + 16 + y.val) ⟨b + k.val, h⟩ : ℝ) : EReal) :=
    (congrArg (fun k => x.dz i (ix2 y k)) (Fin.ext (Nat.mod_eq_of_lt h) : Fin.ofNat 5120 (b + k.val) = ⟨b + k.val, h⟩)).trans (row_dz P y _)
  have e2 : sheet s.val x.w (ix3 0 j k) = ((a.w j ⟨b + k.val, h⟩ : ℝ) : EReal) := by
    subst hb
    exact (congrArg (fun s => x.w (ix3 s j k)) (Fin.ext (Nat.mod_eq_of_lt hs) : Fin.ofNat 4 s.val = s)).trans (P.w s j k)
  unfold term
  rw [dif_pos h, e1, e2, ← EReal.coe_mul]

theorem row_du (y : Fin 256) (j : Fin 1024) : x.du i (ix2 y j) = ((a.du (256 * q + 16 + y.val) j : ℝ) : EReal) := by
  have e0 := term_at P 0 0 rfl y j
  have e1 := term_at P 1 1280 rfl y j
  have e2 := term_at P 2 2560 rfl y j
  have e3 := term_at P 3 3840 rfl y j
  simp only [Fin.val_zero, Fin.val_one, Fin.val_two, show (3 : Fin 4).val = 3 from rfl] at e0 e1 e2 e3
  unfold Ins.du k0_pay112 k0_pay111; clean_types; pointwise
  simp only [e0, e1, e2, e3]
  rw [sum_coe, sum_coe, sum_coe, sum_coe, ← EReal.coe_add, ← EReal.coe_add, ← EReal.coe_add]
  refine congrArg _ ?_
  have s := sum_quarters (term a (256 * q + 16 + y.val) j)
  simp only [Finset.sum_range] at s
  simp only [zero_add]
  rw [s]
  exact Finset.sum_congr rfl fun d _ => dif_pos d.isLt

/-! ## The row -/

theorem row_row (y : Fin 256) (j : Fin 1024) : k0_pay113 (F := Ideal) i x.head x.x (ix2 y j) = ((lay a.h (256 * q + 16 + y.val) j : ℝ) : EReal) := by
  unfold k0_pay113
  rw [P.word, opening q P.le]
  by_cases h : q = 0
  · rw [if_pos h]; clean_types; pointwise; exact P.head h y j
  · rw [if_neg h]; clean_types; pointwise; exact P.body (by omega) y j

theorem row_inv (y : Fin 256) : k0_pay114 (F := Ideal) i x.head x.x (ix2 y 0) = ((rrms (lay a.h (256 * q + 16 + y.val)) : ℝ) : EReal) := by
  have e := row_row P y
  unfold k0_pay114; clean_types; pointwise
  simp only [e, ← EReal.coe_mul]
  rw [sum_coe, lit_width, div_real _ (by norm_num), lit_rms_eps.1, ← EReal.coe_add]
  exact rsqrt_real (power_pos _)

theorem row_hat (y : Fin 256) (j : Fin 1024) : k0_pay115 (F := Ideal) i x.head x.x (ix2 y j) = ((unit (lay a.h (256 * q + 16 + y.val)) j : ℝ) : EReal) := by
  have e := row_row P y j
  have e' := row_inv P y
  unfold k0_pay115; clean_types; pointwise
  rw [e, e', ← EReal.coe_mul]; rfl

theorem row_dh0 (y : Fin 256) (j : Fin 1024) : x.dh0 i (ix2 y j) = a.dh0 (256 * q + 16 + y.val) j := by
  unfold Ins.dh0 k0_pay2; clean_types; pointwise
  simp only [row_du P, row_hat P, row_inv P, P.g, P.dh1, ← EReal.coe_mul]
  rw [sum_coe, lit_width, div_real _ (by norm_num)]
  simp only [← EReal.coe_mul, ← EReal.coe_sub, ← EReal.coe_add]; rfl

/-! ## The sums -/

theorem next_dg (s : Accs Ideal) (j : Fin 1024) : (x.next i s).dgmix (ix2 0 j)
    = s.dgmix (ix2 0 j) + ((∑ y : Fin 256, a.du (256 * q + 16 + y.val) j * unit (lay a.h (256 * q + 16 + y.val)) j : ℝ) : EReal) := by
  unfold Ins.next k0_pay1; clean_types; pointwise
  simp only [row_du P, row_hat P, ← EReal.coe_mul]
  rw [sum_coe]

theorem next_dw (s : Accs Ideal) (k : Fin 31) (p : Fin 8) (j : Fin 1024) : (x.next i s).dwp (ix3 (Fin.ofNat 32 k.val) p j)
    = s.dwp (ix3 (Fin.ofNat 32 k.val) p j)
      + ((∑ n : Fin 32, a.act (256 * q + (k.val + 1) + (8 * n.val + p.val)) j * lay a.dc (256 * q + 16 + (8 * n.val + p.val)) j : ℝ) : EReal) := by
  have hk := k.isLt
  have hj := j.isLt
  have e1 := fun y => tap_a P (k.val + 1) (by omega) y j
  have e2 := fun y => tap_d P 16 (by omega) y j
  have h32 : (Fin.ofNat 32 k.val).val = k.val := Nat.mod_eq_of_lt (by omega)
  unfold Ins.next dwUpto
  refine (if_pos (⟨by show j.val / 128 < 8; omega, by show k.val % 32 < 31; omega⟩ : _ ∧ _)).trans ?_
  show dwStrip (F := Ideal) (x.aext i) (x.dext i) s.dwp (Fin.ofNat 32 k.val).val (j.val / 128) (ix3 0 p (Fin.ofNat 128 j.val)) = _
  rw [h32]
  unfold dwStrip dwStep; clean_types; pointwise
  rw [strip_col]
  simp only [e1, e2, ← EReal.coe_mul]
  rw [sum_coe]
  simp only [Nat.mul_comm _ 8]

end

end Cert.Halo
-- ==== Proof.Halo.Entry.lean ====
module

public import proofs.«01_k».proof.Proof.Halo.Spec
public import proofs.«01_k».proof.Proof.Halo.Rows
public import proofs.«01_k».proof.Proof.Halo.Body
public import proofs.«01_k».proof.Proof.Rows.Padded
public import proofs.«01_k».proof.Proof.Step.Reduce
public import proofs.«01_k».proof.Proof.Gen.Kernel3Ideal.Frame
public import Idealize.ShloMosaic.Lib.Pointwise
public import Idealize.ShloMosaic.Lib.Pipeline.ValueKit
public import Idealize.ShloMosaic.Lib.Claim
public import Idealize.ShloMosaic.Lib.StableHlo.ReadAt
public import Idealize.ShloMosaic.Lib.Tactic.CleanTypes

/-!
# What the halo program is handed

Each array the host lines prepare, at an index, and each block of it a point reads.
-/

@[expose] public section

set_option maxRecDepth 16384

noncomputable section

namespace Cert.Halo

open Cert.Kernel3Ideal Cert.Kernel3Ideal.Gen Cert.Scalars Cert.Reduce Cert.Mixer
open Cert.Rows (padded padded_in padded_at)
open Idealize.ShloMosaic Idealize.ShloMosaic.TcCoe Idealize.SL.Sem Idealize.ShloMosaic.StableHlo

variable (m : (ℓ : Loc nD τ sig) → Buf (Elt Ideal) ℓ) (c : Dev nD) (t : Fin cfg0.N) (y : Fin 256) (j : Fin 1024) (r : Fin 4352)

/-- The arguments the program is launched with. -/
def raw : Raw where
  x i j := m ((c : Thread nD τ).loc main_arg0) (ix3 0 i j)
  head i j := m ((c : Thread nD τ).loc main_arg1) (ix2 i j)
  g j := m ((c : Thread nD τ).loc main_arg2) (ix2 0 j)
  w j d := m ((c : Thread nD τ).loc main_arg3) (ix3 0 j d)
  wd k j := m ((c : Thread nD τ).loc main_arg4) (ix3 0 k j)
  dc i j := m ((c : Thread nD τ).loc main_arg5) (ix3 0 i j)
  dm i j := m ((c : Thread nD τ).loc main_arg6) (ix3 0 i j)
  dzg i j := m ((c : Thread nD τ).loc main_arg7) (ix3 0 i j)
  dh i j := m ((c : Thread nD τ).loc main_arg8) (ix3 0 i j)

theorem point_lt : t.val < 17 := lt_of_lt_of_eq t.isLt (show cfg0.N = 17 from N_0)

/-- An array with zero rows in front, as `lay` has it. -/
theorem padded_lay {n : ℕ} (f : Fin 4112 → Fin n → EReal) (hf : ∀ i j, ∃ r : ℝ, f i j = r) (k : Fin n) :
    padded f r k = ((lay (fun i k => (f i k).toReal) (r.val + 16) k : ℝ) : EReal) := by
  by_cases h : r.val < 240
  · rw [padded_in f h, lay_out _ (.inl (by omega))]; rfl
  · rw [padded_at f h, lay_in _ ⟨r.val - 240, by omega⟩ (by simp only; omega)]
    exact back (hf _ k)

theorem padded_same {n : ℕ} (f : Fin 4112 → Fin n → EReal) (k : Fin n) : padded f r k = lay f (r.val + 16) k := by
  by_cases h : r.val < 240
  · rw [padded_in f h, lay_out _ (.inl (by omega))]
  · rw [padded_at f h, lay_in _ ⟨r.val - 240, by omega⟩ (by simp only; omega)]

/-! ## The arrays -/

theorem host_dc : V m c main_v26 (ix2 r j) = padded (raw m c).dc r j := by
  unfold V; after_reads_at
  unfold padded
  split
  · rfl
  · rfl

theorem host_dm : V m c main_v29 (ix2 r j) = padded (raw m c).dm r j := by
  unfold V; after_reads_at
  unfold padded
  split
  · rfl
  · rfl

theorem host_dzg (k : Fin 2048) : V m c main_v33 (ix2 r k) = padded (raw m c).dzg r k := by
  unfold V; after_reads_at
  unfold padded
  split
  · after_reads_at
  · after_reads_at
    rfl

theorem host_dh : V m c main_v40 (ix2 r j) = padded (raw m c).dh r j := by
  unfold V; after_reads_at
  unfold padded
  split
  · rfl
  · rfl

theorem host_wd (k : Fin 31) : V m c main_v36 (ix2 (Fin.ofNat 32 k.val) j) = (raw m c).wd k j := by
  have e : (Fin.ofNat 32 k.val).val = k.val := Nat.mod_eq_of_lt (by omega)
  unfold V; after_reads_at
  rw [dif_pos (lt_of_eq_of_lt e k.isLt)]
  exact congrArg (fun k' => m (c, Proc.tc.devRef main_arg4) (ix3 0 k' j)) (Fin.ext e)

theorem host_head (p : Fin 256) : V m c main_v1 (ix2 p j) = if e : p.val < 240 then (0 : EReal) else (raw m c).head ⟨p.val - 240, by omega⟩ j := by
  unfold V; after_reads_at
  split
  · rfl
  · rfl

theorem host_x (p : Fin 4096) : V m c main_v37 (ix2 p j) = (raw m c).x p j := by
  unfold V; after_reads_at
  rfl

theorem host_w (s : Fin 4) (k : Fin 1280) : V m c main_v23 (ix3 s j k) = (raw m c).w j ⟨1280 * s.val + k.val, by omega⟩ := by
  unfold V; after_reads_at
  exact congrArg (fun d => m (c, Proc.tc.devRef main_arg3) (ix3 0 j d)) (Fin.ext (congrArg (· + k.val) (Nat.mul_comm s.val 1280)))

theorem host_row : V m c main_v3 (ix2 r j) = padded (raw m c).row r j := by
  unfold V; after_reads_at
  unfold padded Raw.row
  by_cases h : r.val < 240
  · rw [dif_pos (show r.val < 256 by omega), dif_pos h, dif_pos h]
    after_reads_at
  · by_cases h' : r.val < 256
    · rw [dif_pos h', dif_neg h, dif_neg h, dif_pos (show r.val - 240 < 16 by omega)]; rfl
    · rw [dif_neg h', dif_neg h, dif_neg (show ¬ r.val - 240 < 16 by omega)]
      exact congrArg (fun i => m (c, Proc.tc.devRef main_arg0) (ix3 0 i j)) (Fin.ext (by simp only; omega))

/-- The rows as they lie. -/
def joinedRows (r : Fin 4352) (j : Fin 1024) : EReal := V m c main_v3 (ix2 r j)

/-- The product, over the rows as they lie. -/
theorem host_z_of (d : Fin 5120) : V m c main_v19 (ix2 r d)
    = (∑ j : Fin 1024, joinedRows m c r j * Ideal.rsqrt (Ideal.div (∑ j : Fin 1024, joinedRows m c r j * joinedRows m c r j) (Ideal.ofBits FTy.f32 1149239296#32) + Ideal.ofBits FTy.f32 897988541#32) * (raw m c).g j * (raw m c).w j d : EReal) := by
  unfold joinedRows V; after_reads_at
  by_cases h : r.val < 256
  · simp only [dif_pos h]
    after_reads_at
    rfl
  · simp only [dif_neg h]
    after_reads_at
    rfl

theorem host_z (hf : (raw m c).Finite) (d : Fin 5120) : V m c main_v19 (ix2 r d) = (((raw m c).args.z (r.val + 16) d : ℝ) : EReal) := by
  have e : ∀ j, joinedRows m c r j = ((lay (raw m c).args.h (r.val + 16) j : ℝ) : EReal) := fun j =>
    (host_row m c j r).trans (padded_lay r _ (Raw.row_real hf) j)
  have eg : ∀ j, (raw m c).g j = (((raw m c).args.g j : ℝ) : EReal) := fun j => back (hf.g j)
  have ew : ∀ j, (raw m c).w j d = (((raw m c).args.w j d : ℝ) : EReal) := fun j => back (hf.w j d)
  rw [host_z_of]
  simp only [e, eg, ew, ← EReal.coe_mul]
  rw [sum_coe, lit_width, div_real _ (by norm_num), lit_rms_eps.1, ← EReal.coe_add]
  rw [show Ideal.rsqrt ((((∑ k, lay (raw m c).args.h (r.val + 16) k * lay (raw m c).args.h (r.val + 16) k) / 1024 + rmsEps : ℝ)) : EReal)
    = ((rrms (lay (raw m c).args.h (r.val + 16)) : ℝ) : EReal) from rsqrt_real (power_pos (lay (raw m c).args.h (r.val + 16)))]
  simp only [← EReal.coe_mul]
  rw [sum_coe]
  rfl

/-! ## The blocks -/

theorem idx_0 : ∀ t : Fin cfg0.N, win0_0.index t 0 = 16 * t.val - 1 ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = min (16 * t.val + 16) 271 ∧ win0_2.index t 1 = 0 := by decide +kernel
theorem idx_3 : ∀ t : Fin cfg0.N, win0_3.index t 0 = 16 * t.val - 1 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = min (16 * t.val + 16) 271 ∧ win0_5.index t 1 = 0 := by decide +kernel
theorem idx_6 : ∀ t : Fin cfg0.N, win0_6.index t 0 = 16 * t.val - 1 ∧ win0_6.index t 1 = 0 := by decide +kernel
theorem idx_7 : ∀ t : Fin cfg0.N, win0_7.index t 0 = t.val ∧ win0_7.index t 1 = 0 := by decide +kernel
theorem idx_8 : ∀ t : Fin cfg0.N, win0_8.index t 0 = min (16 * t.val + 16) 271 ∧ win0_8.index t 1 = 0 := by decide +kernel
theorem idx_9 : ∀ t : Fin cfg0.N, win0_9.index t 0 = t.val ∧ win0_9.index t 1 = 0 := by decide +kernel
theorem idx_10 : ∀ t : Fin cfg0.N, win0_10.index t 0 = 0 ∧ win0_10.index t 1 = 0 := by decide +kernel
theorem idx_11 : ∀ t : Fin cfg0.N, win0_11.index t 0 = 0 ∧ win0_11.index t 1 = 0 := by decide +kernel
theorem idx_12 : ∀ t : Fin cfg0.N, win0_12.index t 0 = t.val - 1 ∧ win0_12.index t 1 = 0 := by decide +kernel
theorem idx_13 : ∀ t : Fin cfg0.N, win0_13.index t 0 = 0 ∧ win0_13.index t 1 = 0 := by decide +kernel
theorem idx_14 : ∀ t : Fin cfg0.N, win0_14.index t 0 = t.val ∧ win0_14.index t 1 = 0 := by decide +kernel

/-- The array's row that is row `y` of the block of point `t`; the rows before and after. -/
def at_ : Fin 4352 := ⟨256 * t.val + y.val, by have := point_lt t; omega⟩
def before_ (p : Fin 16) (h : 0 < t.val) : Fin 4352 := ⟨256 * t.val - 16 + p.val, by have := point_lt t; omega⟩
def after_ (p : Fin 16) (h : t.val < 16) : Fin 4352 := ⟨256 * t.val + 256 + p.val, by omega⟩

theorem blk_0 (p : Fin 16) (h : 0 < t.val) : iblk m c 0 t (ix2 p j) = V m c main_v26 (ix2 (before_ t p h) j) := by
  blk_ext [iblk, before_, idx_0 t]
theorem blk_1 : iblk m c 1 t (ix2 y j) = V m c main_v26 (ix2 (at_ t y) j) := by
  blk_ext [iblk, at_, idx_1 t]
theorem blk_2 (p : Fin 16) (h : t.val < 16) : iblk m c 2 t (ix2 p j) = V m c main_v26 (ix2 (after_ t p h) j) := by
  blk_ext [iblk, after_, idx_2 t]
theorem blk_3 (p : Fin 16) (h : 0 < t.val) : iblk m c 3 t (ix2 p j) = V m c main_v29 (ix2 (before_ t p h) j) := by
  blk_ext [iblk, before_, idx_3 t]
theorem blk_4 : iblk m c 4 t (ix2 y j) = V m c main_v29 (ix2 (at_ t y) j) := by
  blk_ext [iblk, at_, idx_4 t]
theorem blk_5 (p : Fin 16) (h : t.val < 16) : iblk m c 5 t (ix2 p j) = V m c main_v29 (ix2 (after_ t p h) j) := by
  blk_ext [iblk, after_, idx_5 t]
theorem blk_6 (p : Fin 16) (h : 0 < t.val) (k : Fin 2048) : X0_6 m c t (ix2 p k) = V m c main_v19 (ix2 (before_ t p h) ⟨k.val, by omega⟩) := by
  unfold X0_6 Pipeline.Window.fill
  rw [dif_pos (moved0_6 t _)]
  blk_ext [iblk, before_, idx_6 t]
theorem blk_7 (k : Fin 2048) : X0_7 m c t (ix2 y k) = V m c main_v19 (ix2 (at_ t y) ⟨k.val, by omega⟩) := by
  unfold X0_7 Pipeline.Window.fill
  rw [dif_pos (moved0_7 t _)]
  blk_ext [iblk, at_, idx_7 t]
theorem blk_8 (p : Fin 16) (h : t.val < 16) (k : Fin 2048) : X0_8 m c t (ix2 p k) = V m c main_v19 (ix2 (after_ t p h) ⟨k.val, by omega⟩) := by
  unfold X0_8 Pipeline.Window.fill
  rw [dif_pos (moved0_8 t _)]
  blk_ext [iblk, after_, idx_8 t]
theorem blk_9 (k : Fin 2048) : iblk m c 9 t (ix2 y k) = V m c main_v33 (ix2 (at_ t y) k) := by
  blk_ext [iblk, at_, idx_9 t]
theorem blk_10 (k : Fin 32) : iblk m c 10 t (ix2 k j) = V m c main_v36 (ix2 k j) := by
  blk_ext [iblk, idx_10 t]
theorem blk_11 : iblk m c 11 t (ix2 y j) = V m c main_v1 (ix2 y j) := by
  blk_ext [iblk, idx_11 t]
theorem blk_12 : iblk m c 12 t (ix2 y j) = V m c main_v37 (ix2 ⟨256 * (t.val - 1) + y.val, by have := point_lt t; omega⟩ j) := by
  blk_ext [iblk, idx_12 t]
theorem blk_13 : iblk m c 13 t (ix2 0 j) = V m c main_arg2 (ix2 0 j) := by
  blk_ext [iblk, idx_13 t]
theorem blk_14 : iblk m c 14 t (ix2 y j) = V m c main_v40 (ix2 (at_ t y) j) := by
  blk_ext [iblk, at_, idx_14 t]

/-! ## A point's inputs -/

theorem word_pt : word (grid0.coords t) = BitVec.ofNat 32 t.val := by
  have e0 : (grid0.coords t 0).val = t.val / 1 % 17 := Pipeline.Grid.coords_val t 0 (by decide) rfl
  have := point_lt t
  unfold word
  rw [e0, Nat.div_one, Nat.mod_eq_of_lt this]

set_option maxHeartbeats 4000000 in
theorem point_ins (hf : (raw m c).Finite) : IsPoint (ins m c t) (word (grid0.coords t)) t.val (raw m c).args where
  le := point_lt t
  word := word_pt t
  dcp h p j := (blk_0 m c t j p h).trans ((host_dc m c j _).trans ((padded_lay _ _ hf.dc j).trans (by
    rw [show (before_ t p h).val + 16 = 256 * t.val + p.val by simp only [before_]; omega]; rfl)))
  dcc y j := (blk_1 m c t y j).trans ((host_dc m c j _).trans ((padded_lay _ _ hf.dc j).trans (by
    rw [show (at_ t y).val + 16 = 256 * t.val + 16 + y.val by simp only [at_]; omega]; rfl)))
  dcn h p j := (blk_2 m c t j p h).trans ((host_dc m c j _).trans ((padded_lay _ _ hf.dc j).trans (by
    rw [show (after_ t p h).val + 16 = 256 * t.val + 272 + p.val by simp only [after_]; omega]; rfl)))
  dmp h p j := (blk_3 m c t j p h).trans ((host_dm m c j _).trans ((padded_lay _ _ hf.dm j).trans (by
    rw [show (before_ t p h).val + 16 = 256 * t.val + p.val by simp only [before_]; omega]; rfl)))
  dmc y j := (blk_4 m c t y j).trans ((host_dm m c j _).trans ((padded_lay _ _ hf.dm j).trans (by
    rw [show (at_ t y).val + 16 = 256 * t.val + 16 + y.val by simp only [at_]; omega]; rfl)))
  dmn h p j := (blk_5 m c t j p h).trans ((host_dm m c j _).trans ((padded_lay _ _ hf.dm j).trans (by
    rw [show (after_ t p h).val + 16 = 256 * t.val + 272 + p.val by simp only [after_]; omega]; rfl)))
  zp h p k := (blk_6 m c t p h k).trans ((host_z m c _ hf _).trans (by
    rw [show (before_ t p h).val + 16 = 256 * t.val + p.val by simp only [before_]; omega]))
  zc y k := (blk_7 m c t y k).trans ((host_z m c _ hf _).trans (by
    rw [show (at_ t y).val + 16 = 256 * t.val + 16 + y.val by simp only [at_]; omega]))
  zn h p k := (blk_8 m c t p h k).trans ((host_z m c _ hf _).trans (by
    rw [show (after_ t p h).val + 16 = 256 * t.val + 272 + p.val by simp only [after_]; omega]))
  dzg y k := (blk_9 m c t y k).trans ((host_dzg m c _ k).trans ((padded_lay _ _ hf.dzg k).trans (by
    rw [show (at_ t y).val + 16 = 256 * t.val + 16 + y.val by simp only [at_]; omega]; rfl)))
  wdw k j := (blk_10 m c t j _).trans ((host_wd m c j k).trans (back (hf.wd k j)))
  head h y j := by
    have ev : y.val + 16 = 256 * t.val + 16 + y.val := by omega
    refine (blk_11 m c t y j).trans ((host_head m c j y).trans ?_)
    by_cases e : y.val < 240
    · rw [dif_pos e, lay_out _ (.inl (by omega))]; rfl
    · rw [dif_neg e, lay_in _ ⟨y.val - 240, by omega⟩ (by simp only; omega)]
      have er : (raw m c).row ⟨y.val - 240, by omega⟩ j = (raw m c).head ⟨y.val - 240, by omega⟩ j :=
        dif_pos (show y.val - 240 < 16 by omega)
      rw [← er]
      exact back (Raw.row_real hf _ j)
  body h y j := by
    have ht := point_lt t
    refine (blk_12 m c t y j).trans ((host_x m c j _).trans ?_)
    rw [lay_in _ ⟨256 * (t.val - 1) + y.val + 16, by omega⟩ (by simp only; omega)]
    have er : (raw m c).row ⟨256 * (t.val - 1) + y.val + 16, by omega⟩ j = (raw m c).x ⟨256 * (t.val - 1) + y.val, by omega⟩ j :=
      dif_neg (show ¬ 256 * (t.val - 1) + y.val + 16 < 16 by omega)
    rw [← er]
    exact back (Raw.row_real hf _ j)
  g j := (blk_13 m c t j).trans ((congrFun (V_main_arg2 m c) _).trans (back (hf.g j)))
  dh1 y j := (blk_14 m c t y j).trans ((host_dh m c j _).trans ((padded_same _ _ j).trans (by
    rw [show (at_ t y).val + 16 = 256 * t.val + 16 + y.val by simp only [at_]; omega]; rfl)))
  w s j k := (host_w m c j s k).trans (back (hf.w j _))

end Cert.Halo

end
-- ==== Proof.Halo.Result.lean ====
module

public import proofs.«01_k».proof.Proof.Halo.Entry
public import proofs.«01_k».proof.Proof.Halo.Run

/-!
# What the halo program leaves

Its five results, index by index: the gradients at the projection, at the rows, at the rows in front, at the filter
and at the norm's scale.
-/

@[expose] public section

set_option maxRecDepth 16384

noncomputable section

namespace Cert.Halo

open Cert.Kernel3Ideal Cert.Kernel3Ideal.Gen Cert.Scalars Cert.Reduce Cert.Mixer
open Idealize.ShloMosaic Idealize.ShloMosaic.TcCoe Idealize.SL.Sem Idealize.ShloMosaic.StableHlo

variable (m : (ℓ : Loc nD τ sig) → Buf (Elt Ideal) ℓ) (c : Dev nD)

/-! ## The sums -/

section
variable (hf : (raw m c).Finite) (j : Fin 1024)
include hf

theorem point_at (n : ℕ) (hn : n < 17) : IsPoint (ins m c (pt n)) (word (grid0.coords (pt n))) n (raw m c).args := by
  have e : (pt n).val = n := Nat.mod_eq_of_lt hn
  have h := point_ins m c (pt n) hf
  rw [e] at h
  exact h

theorem upto_dg (n : ℕ) (hn : n < 17) : ((sums m c n).dgmix (ix2 0 j) : EReal)
    = ((∑ q ∈ Finset.range (n + 1), ∑ y : Fin 256, (raw m c).args.du (256 * q + 16 + y.val) j
        * unit (lay (raw m c).args.h (256 * q + 16 + y.val)) j : ℝ) : EReal) := by
  induction n with
  | zero =>
    refine (next_dg (point_at m c hf 0 hn) Accs.start j).trans ?_
    have e : (Accs.start : Accs Ideal).dgmix (ix2 0 j) = ((0 : ℝ) : EReal) := by unfold Accs.start k0_pay72; clean_types; pointwise; exact EReal.coe_zero.symm
    rw [e, ← EReal.coe_add, zero_add, Finset.sum_range_one]
  | succ n ih =>
    refine (next_dg (point_at m c hf (n + 1) hn) (sums m c n) j).trans ?_
    rw [ih (by omega), ← EReal.coe_add, Finset.sum_range_succ _ (n + 1)]

theorem upto_dw (k : Fin 31) (p : Fin 8) (n : ℕ) (hn : n < 17) : ((sums m c n).dwp (ix3 (Fin.ofNat 32 k.val) p j) : EReal)
    = ((∑ q ∈ Finset.range (n + 1), ∑ s : Fin 32, (raw m c).args.act (256 * q + (k.val + 1) + (8 * s.val + p.val)) j
        * lay (raw m c).args.dc (256 * q + 16 + (8 * s.val + p.val)) j : ℝ) : EReal) := by
  induction n with
  | zero =>
    refine (next_dw (point_at m c hf 0 hn) Accs.start k p j).trans ?_
    have e : (Accs.start : Accs Ideal).dwp (ix3 (Fin.ofNat 32 k.val) p j) = ((0 : ℝ) : EReal) := by unfold Accs.start k0_pay71; clean_types; pointwise; exact EReal.coe_zero.symm
    rw [e, ← EReal.coe_add, zero_add, Finset.sum_range_one]
  | succ n ih =>
    refine (next_dw (point_at m c hf (n + 1) hn) (sums m c n) k p j).trans ?_
    rw [ih (by omega), ← EReal.coe_add, Finset.sum_range_succ _ (n + 1)]

theorem last_dg : ((sums m c 16).dgmix (ix2 0 j) : EReal) = (((raw m c).args.dg j : ℝ) : EReal) := by
  rw [upto_dg m c hf j 16 (by decide)]
  congr 1
  have e := sum_runs (fun r => (raw m c).args.du r j * unit (lay (raw m c).args.h r) j)
    (fun r hr => by rw [Args.lay_void _ hr, unit_zero, mul_zero])
  simp only [Finset.sum_range (n := 256)] at e
  rw [e]
  exact Finset.sum_congr rfl fun i _ => by rw [Args.lay_row]

theorem last_dw (k : Fin 31) : ((sums m c 16).dwdw (ix2 (Fin.ofNat 32 k.val) j) : EReal) = (((raw m c).args.dw k j : ℝ) : EReal) := by
  have e1 : ((sums m c 16).dwdw (ix2 (Fin.ofNat 32 k.val) j) : EReal) = ∑ p : Fin 8, (sums m c 16).dwp (ix3 (Fin.ofNat 32 k.val) p j) := by
    unfold Accs.dwdw k0_pay89; clean_types; pointwise
  rw [e1]
  simp only [upto_dw m c hf j k _ 16 (by decide)]
  rw [sum_coe]
  congr 1
  rw [Finset.sum_comm]
  have hk := k.isLt
  have e2 : ∀ q, ∑ p : Fin 8, ∑ s : Fin 32, (raw m c).args.act (256 * q + (k.val + 1) + (8 * s.val + p.val)) j
        * lay (raw m c).args.dc (256 * q + 16 + (8 * s.val + p.val)) j
      = ∑ y ∈ Finset.range 256, (raw m c).args.act (256 * q + 16 + y + k.val - 15) j * lay (raw m c).args.dc (256 * q + 16 + y) j := by
    intro q
    rw [← sum_eights fun y => (raw m c).args.act (256 * q + 16 + y + k.val - 15) j * lay (raw m c).args.dc (256 * q + 16 + y) j,
      Finset.sum_range (n := 8)]
    refine Finset.sum_congr rfl fun p _ => ?_
    rw [Finset.sum_range (n := 32)]
    refine Finset.sum_congr rfl fun s _ => ?_
    rw [show 256 * q + 16 + (8 * s.val + p.val) + k.val - 15 = 256 * q + (k.val + 1) + (8 * s.val + p.val) by omega]
  simp only [e2]
  rw [sum_runs (fun r => (raw m c).args.act (r + k.val - 15) j * lay (raw m c).args.dc r j)
    (fun r hr => by rw [lay_out _ hr, mul_zero])]
  exact Finset.sum_congr rfl fun i _ => by rw [lay_in _ i rfl]

end

/-! ## The arrays -/

theorem idx_15 : ∀ t : Fin cfg0.N, win0_15.index t 0 = t.val ∧ win0_15.index t 1 = 0 := by decide +kernel
theorem idx_16 : ∀ t : Fin cfg0.N, win0_16.index t 0 = t.val - 1 ∧ win0_16.index t 1 = 0 := by decide +kernel
/-- The first point's block is not the one that stays: the second point writes it again. -/
theorem flush_16 : ∀ t : Fin cfg0.N, (cfg0.win 16).flush t = true → 0 < t.val := by decide +kernel

section
variable (t : Fin cfg0.N) (q : Fin 256)

theorem emb_15 (d : Fin 5120) : (win0_15.blk t).view.emb (ix2 q d) = ix2 (at_ t q) d := by blk_ext [at_, idx_15 t]
theorem emb_16 (j : Fin 1024) : (win0_16.blk t).view.emb (ix2 q j) = ix2 (⟨256 * (t.val - 1) + q.val, by have := point_lt t; omega⟩ : Fin 4096) j := by
  blk_ext [idx_16 t]

end

section
variable (hf : (raw m c).Finite)
include hf

theorem arr_dz : (dats m 0 c).arrAt 15 cfg0.N = fun y => (((raw m c).args.dz ((y 0).val + 16) (y 1) : ℝ) : EReal) := by
  refine (dats m 0 c).arrAt_eq_of_covers 15 _ (by decide +kernel) fun t _ y => ?_
  blk_simp
  obtain ⟨q, d, rfl⟩ := pair_ix2 y
  rw [after15, emb_15]
  refine (row_dz (point_ins m c t hf) q d).trans ?_
  have e : 256 * t.val + 16 + q.val = win0_15.index t 0 * 256 + q.val + 16 := by rw [(idx_15 t).1]; omega
  exact congrArg (fun r => (((raw m c).args.dz r d : ℝ) : EReal)) e

theorem arr_gx : (dats m 0 c).arrAt 16 cfg0.N = fun y => (raw m c).args.dh0 ((y 0).val + 272) (y 1) := by
  refine (dats m 0 c).arrAt_eq_of_covers 16 _ (by decide +kernel) fun t ht y => ?_
  blk_simp
  obtain ⟨q, j, rfl⟩ := pair_ix2 y
  have h0 := flush_16 t ht
  rw [after16, emb_16]
  refine (row_dh0 (point_ins m c t hf) q j).trans ?_
  have e : 256 * t.val + 16 + q.val = win0_16.index t 0 * 256 + q.val + 272 := by rw [(idx_16 t).1]; omega
  exact congrArg (fun r => (raw m c).args.dh0 r j) e

theorem arr_head : (dats m 0 c).arrAt 17 cfg0.N = fun y => (raw m c).args.dh0 ((y 0).val + 16) (y 1) := by
  refine (dats m 0 c).arrAt_eq_of_after_last 17 ⟨16, by decide +kernel⟩ (by decide +kernel) _ fun y => ?_
  obtain ⟨q, j, rfl⟩ := pair_ix2 y
  rw [after17]
  blk_simp
  refine (row_dh0 (point_at m c hf 0 (by decide)) q j).trans ?_
  rw [show 256 * 0 + 16 + q.val = q.val + 16 by omega]
  rfl

theorem arr_dg : (dats m 0 c).arrAt 19 cfg0.N = fun y => (((raw m c).args.dg (y 1) : ℝ) : EReal) := by
  refine (dats m 0 c).arrAt_eq_of_after_last 19 ⟨16, by decide +kernel⟩ (by decide +kernel) _ fun y => ?_
  obtain ⟨z, j, rfl⟩ := pair_ix2 y
  obtain rfl := Subsingleton.elim z 0
  rw [after19]
  blk_simp
  exact last_dg m c hf j

end

theorem arr_dw : (dats m 0 c).arrAt 18 cfg0.N = (sums m c 16).dwdw := by
  refine (dats m 0 c).arrAt_eq_of_after_last 18 ⟨16, by decide +kernel⟩ (by decide +kernel) _ fun y => ?_
  obtain ⟨z, j, rfl⟩ := pair_ix2 y
  rw [after18]
  blk_simp
  rfl

/-! ## The results -/

/-- After the region an array's buffer holds the array. -/
theorem held_array (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c _ _ ((dats m 0 c).arrAt_sharedIn (by decide) (V0 m c) (A_eq m c) cfg0.N) w

section
variable (hf : (raw m c).Finite) (j : Fin 1024)
include hf

theorem tail_dz (i : Fin 4112) (d : Fin 5120) : tail m c main_v43 (ix2 i d) = (((raw m c).args.dz (i.val + 256) d : ℝ) : EReal) := by
  unfold tail Pipeline.afterTail₀; after_reads_at
  refine (congrFun ((held_array m c 15).trans (arr_dz m c hf)) (ix2 (⟨240 + i.val, by omega⟩ : Fin 4352) d)).trans ?_
  rw [show i.val + 256 = 240 + i.val + 16 by omega]
  rfl

theorem tail_head (p : Fin 16) : tail m c main_v44 (ix2 p j) = (raw m c).args.dh0 (p.val + 256) j := by
  unfold tail Pipeline.afterTail₀; after_reads_at
  refine (congrFun ((held_array m c 17).trans (arr_head m c hf)) (ix2 (⟨240 + p.val, by omega⟩ : Fin 256) j)).trans ?_
  rw [show p.val + 256 = 240 + p.val + 16 by omega]
  rfl

theorem tail_dw (k : Fin 31) : tail m c main_v45 (ix2 k j) = (((raw m c).args.dw k j : ℝ) : EReal) := by
  unfold tail Pipeline.afterTail₀; after_reads_at
  refine (congrFun ((held_array m c 18).trans (arr_dw m c)) (ix2 (⟨k.val, by omega⟩ : Fin 32) j)).trans ?_
  have e : (⟨k.val, by omega⟩ : Fin 32) = Fin.ofNat 32 k.val := Fin.ext (Nat.mod_eq_of_lt (by omega)).symm
  rw [e]
  exact last_dw m c hf j k

end

end Cert.Halo

end
-- ==== Proof.Halo.Reference.lean ====
module

public import proofs.«01_k».proof.Proof.Halo.Spec
public import proofs.«01_k».proof.Proof.Step.Reduce
public import proofs.«01_k».proof.Proof.Gen.Reference3Ideal.Run
public import Idealize.ShloMosaic.Lib.Pointwise
public import Idealize.ShloMosaic.Lib.WordCmp
public import Idealize.ShloMosaic.Lib.Pipeline.ValueKit
public import Idealize.ShloMosaic.Lib.Tactic.CleanTypes

/-!
# The mixers' reference, entry by entry

Every stage of the reference's run at an index, as the formula of `Cert.Mixer.Args` it is.
-/

@[expose] public section

set_option maxRecDepth 16384

noncomputable section

namespace Cert.Mixer.Ref

open Cert.Reference3Ideal Cert.Reference3Ideal.Gen Cert.Reference3Ideal.Value Cert.Scalars Cert.Mixer Cert.Reduce
open Idealize.ShloMosaic Idealize.ShloMosaic.TcCoe Idealize.SL.Sem Idealize.ShloMosaic.StableHlo

variable (V : Valuation τ sig (Elt Ideal)) (i s : Fin 4112) (j c : Fin 1024) (d : Fin 5120)

/-- The arguments the reference is launched with. -/
def raw : Raw where
  x i j := V (Proc.devRef .tc main_arg0) (ix3 0 i j)
  head i j := V (Proc.devRef .tc main_arg1) (ix2 i j)
  g j := V (Proc.devRef .tc main_arg2) (ix2 0 j)
  w j c := V (Proc.devRef .tc main_arg3) (ix3 0 j c)
  wd k c := V (Proc.devRef .tc main_arg4) (ix3 0 k c)
  dc i j := V (Proc.devRef .tc main_arg5) (ix3 0 i j)
  dm i j := V (Proc.devRef .tc main_arg6) (ix3 0 i j)
  dzg i j := V (Proc.devRef .tc main_arg7) (ix3 0 i j)
  dh i j := V (Proc.devRef .tc main_arg8) (ix3 0 i j)

/-! ## The marks -/

theorem mark (p : Prop) [Decidable p] : (FloatOps.uitofp (F := Ideal) .f32 (BitVec.ofBool (decide p)) : EReal) = ((if p then 1 else 0 : ℝ) : EReal) := by
  by_cases h : p
  · simp [h, FloatOps.uitofp]
  · simp [h, FloatOps.uitofp]

theorem at_tap (k : Fin 31) : res_main_v42 V (ix3 k i s) = ((if s.val + 15 = i.val + k.val then 1 else 0 : ℝ) : EReal) := by
  have hk := k.isLt
  unfold res_main_v42; clean_types; pointwise
  rw [WordCmp.cmpi_eq_eq, mark]
  refine congrArg _ (if_congr ?_ rfl rfl)
  unfold IntOp.subi
  rw [← BitVec.toNat_inj]
  simp only [BitVec.toNat_sub, BitVec.toNat_ofNat]
  omega

theorem in_window (u w : ℕ) (hu : u ≤ 8) (hw : w = 2 * u) :
    (FloatOps.uitofp (F := Ideal) .f32 (IntOp.andi (IntOp.cmpi .sge (BitVec.ofNat 32 s.val) (IntOp.subi (BitVec.ofNat 32 i.val) (BitVec.ofNat 32 u)))
        (IntOp.cmpi .slt (BitVec.ofNat 32 s.val) (IntOp.subi (IntOp.addi (BitVec.ofNat 32 i.val) (BitVec.ofNat 32 w)) (BitVec.ofNat 32 u)))) : EReal)
      = ((if i.val ≤ s.val + u ∧ s.val < i.val + u then 1 else 0 : ℝ) : EReal) := by
  have e1 : ((IntOp.subi (BitVec.ofNat 32 i.val) (BitVec.ofNat 32 u)).toInt ≤ (BitVec.ofNat 32 s.val).toInt) ↔ i.val ≤ s.val + u := by
    unfold IntOp.subi
    simp only [BitVec.toInt_eq_toNat_bmod, BitVec.toNat_sub, BitVec.toNat_ofNat, Int.bmod]
    omega
  have e2 : ((BitVec.ofNat 32 s.val).toInt < (IntOp.subi (IntOp.addi (BitVec.ofNat 32 i.val) (BitVec.ofNat 32 w)) (BitVec.ofNat 32 u)).toInt) ↔ s.val < i.val + u := by
    unfold IntOp.subi IntOp.addi
    simp only [BitVec.toInt_eq_toNat_bmod, BitVec.toNat_sub, BitVec.toNat_add, BitVec.toNat_ofNat, Int.bmod]
    omega
  rw [WordCmp.cmpi_sge_eq, WordCmp.cmpi_slt_eq, WordCmp.andi_ofBool, ← Bool.decide_and, mark]
  exact congrArg _ (if_congr (and_congr e1 e2) rfl rfl)

theorem at_mask0 : res_main_v62 V (ix2 i s) = ((if i.val ≤ s.val + 1 ∧ s.val < i.val + 1 then 1 else 0 : ℝ) : EReal) := by
  unfold res_main_v62 res_main_v51 res_main_v52; clean_types; pointwise
  exact in_window i s 1 2 (by decide) rfl

theorem at_count0 : res_main_v65 V (ix2 i 0) = ((count 1 (i.val + 256) : ℝ) : EReal) := by
  unfold res_main_v65; clean_types; pointwise
  simp only [at_mask0]
  rw [sum_coe, counted i.val 1 i.isLt (by decide) _ fun x => Iff.rfl]

theorem at_mask1 : res_main_v82 V (ix2 i s) = ((if i.val ≤ s.val + 2 ∧ s.val < i.val + 2 then 1 else 0 : ℝ) : EReal) := by
  unfold res_main_v82 res_main_v71 res_main_v72; clean_types; pointwise
  exact in_window i s 2 4 (by decide) rfl

theorem at_count1 : res_main_v85 V (ix2 i 0) = ((count 2 (i.val + 256) : ℝ) : EReal) := by
  unfold res_main_v85; clean_types; pointwise
  simp only [at_mask1]
  rw [sum_coe, counted i.val 2 i.isLt (by decide) _ fun x => Iff.rfl]

theorem at_mask2 : res_main_v102 V (ix2 i s) = ((if i.val ≤ s.val + 4 ∧ s.val < i.val + 4 then 1 else 0 : ℝ) : EReal) := by
  unfold res_main_v102 res_main_v91 res_main_v92; clean_types; pointwise
  exact in_window i s 4 8 (by decide) rfl

theorem at_count2 : res_main_v105 V (ix2 i 0) = ((count 4 (i.val + 256) : ℝ) : EReal) := by
  unfold res_main_v105; clean_types; pointwise
  simp only [at_mask2]
  rw [sum_coe, counted i.val 4 i.isLt (by decide) _ fun x => Iff.rfl]

theorem at_mask3 : res_main_v122 V (ix2 i s) = ((if i.val ≤ s.val + 8 ∧ s.val < i.val + 8 then 1 else 0 : ℝ) : EReal) := by
  unfold res_main_v122 res_main_v111 res_main_v112; clean_types; pointwise
  exact in_window i s 8 16 (by decide) rfl

theorem at_count3 : res_main_v125 V (ix2 i 0) = ((count 8 (i.val + 256) : ℝ) : EReal) := by
  unfold res_main_v125; clean_types; pointwise
  simp only [at_mask3]
  rw [sum_coe, counted i.val 8 i.isLt (by decide) _ fun x => Iff.rfl]

section
variable {V} (h : (raw V).Finite)
include h

theorem at_h : res_main_v2 V (ix2 i j) = (((raw V).args.h i j : ℝ) : EReal) := by
  refine Eq.trans ?_ (back (Raw.row_real h i j))
  unfold res_main_v2; clean_types; pointwise
  rfl

theorem at_power : res_main_v10 V (ix2 i 0) = ((power ((raw V).args.h i) : ℝ) : EReal) := by
  unfold res_main_v10; clean_types; pointwise
  simp only [at_h _ _ h, ← EReal.coe_mul]
  rw [sum_coe, lit_width, div_real _ (by norm_num), lit_rms_eps.1, ← EReal.coe_add]; rfl

theorem at_rrms : res_main_v11 V (ix2 i 0) = ((rrms ((raw V).args.h i) : ℝ) : EReal) := by
  unfold res_main_v11; clean_types; pointwise
  rw [at_power _ h, rsqrt_real (power_pos _)]; rfl

theorem at_hat : res_main_v16 V (ix2 i j) = ((unit ((raw V).args.h i) j : ℝ) : EReal) := by
  unfold res_main_v16; clean_types; pointwise
  rw [at_rrms _ h, at_h _ _ h, ← EReal.coe_mul]; rfl

theorem at_g : res_main_v17 V (ix2 0 j) = (((raw V).args.g j : ℝ) : EReal) := by
  unfold res_main_v17; clean_types; pointwise
  exact back (h.g j)

theorem at_w : res_main_v20 V (ix2 j d) = (((raw V).args.w j d : ℝ) : EReal) := by
  unfold res_main_v20; clean_types; pointwise
  exact back (h.w j d)

theorem at_z : res_main_v22 V (ix2 i d) = (((raw V).args.z (i.val + 256) d : ℝ) : EReal) := by
  unfold res_main_v22; clean_types; pointwise
  simp only [at_hat _ _ h, at_g _ h, at_w _ _ h, ← EReal.coe_mul]
  rw [sum_coe]; unfold Args.z; rw [Args.lay_row]; try simp

theorem at_z0 : res_main_v23 V (ix2 i c) = (((raw V).args.z (i.val + 256) (lo c) : ℝ) : EReal) := by
  unfold res_main_v23; clean_types; pointwise
  exact at_z i (lo c) h

theorem at_gate : res_main_v30 V (ix2 i c) = (((raw V).args.gate (i.val + 256) c : ℝ) : EReal) := by
  unfold res_main_v30; clean_types; pointwise
  rw [show (⟨1024 + c.val, by omega⟩ : Fin 5120) = hi c from rfl, at_z _ _ h]
  exact sig_eq _

theorem at_taps (k : Fin 31) : res_main_v43 V (ix3 k i c) = (((raw V).args.act (i.val + 256 + k.val - 15) c : ℝ) : EReal) := by
  unfold res_main_v43; clean_types; pointwise
  simp only [at_tap, at_z0 _ _ h, at_gate _ _ h, ← EReal.coe_mul]
  rw [sum_coe]
  refine congrArg _ ?_
  rw [← pick (fun r => (raw V).args.act r c) (fun r hr => Args.act_out _ hr c) (fun x => x.val + 15 = i.val + k.val) _ fun x => by omega]
  exact Finset.sum_congr rfl fun x _ => mul_comm _ _

theorem at_wd (k : Fin 31) : res_main_v45 V (ix3 k 0 c) = (((raw V).args.wd k c : ℝ) : EReal) := by
  unfold res_main_v45; clean_types; pointwise
  exact back (h.wd k c)

theorem at_dc (k : Fin 31) : res_main_v178 V (ix3 k i c) = (((raw V).args.dc i c : ℝ) : EReal) := by
  unfold res_main_v178; clean_types; pointwise
  exact back (h.dc i c)

theorem at_dm : res_main_v133 V (ix2 i c) = (((raw V).args.dm i c : ℝ) : EReal) := by
  unfold res_main_v133; clean_types; pointwise
  exact back (h.dm i c)

theorem at_da : res_main_v187 V (ix2 i c) = (((raw V).args.da (i.val + 256) c : ℝ) : EReal) := by
  unfold res_main_v187; clean_types; pointwise
  simp only [at_tap, at_dc _ _ h, at_wd _ h, ← EReal.coe_mul]
  simp only [sum_coe]
  refine congrArg _ (Finset.sum_congr rfl fun k _ => ?_)
  have hk := k.isLt
  rw [← pick (fun r => lay (raw V).args.dc r c) (fun r hr => lay_out _ hr c) (fun x => i.val + 15 = x.val + k.val) _ fun x => by omega,
    Finset.mul_sum]
  refine Finset.sum_congr rfl fun x _ => ?_
  rw [lay_in _ x rfl]
  ring

theorem at_dm0 (q : Fin 256) (e : c.val = 0 + q.val) : res_main_v137 V (ix2 i q) = (((raw V).args.dm i c : ℝ) : EReal) := by
  unfold res_main_v137; clean_types; pointwise
  rw [← at_dm i c h]
  exact congrArg (fun c => res_main_v133 V (ix2 i c)) (Fin.ext (by simp only; omega))

theorem pooled0 (q : Fin 256) (e : c.val = 0 + q.val) :
    (∑ x, Ideal.div (res_main_v137 V (ix2 x q)) (res_main_v65 V (ix2 x 0)) * res_main_v62 V (ix2 x i) : EReal)
      = ((∑ d ∈ Finset.range (2 * reach c), (raw V).args.share (i.val + 256 + 1 - reach c + d) (reach c) c : ℝ) : EReal) := by
  have hr : reach c = 1 := by
    unfold reach
    rw [show c.val / 256 = 0 from by omega]
    rfl
  rw [hr]
  clean_types
  have hc : ∀ x : Fin 4112, count 1 (x.val + 256) ≠ 0 := fun x => count_ne (by decide) (by omega)
  simp only [at_dm0 _ c h q e, at_count0, at_mask0, div_real _ (hc _)]
  simp only [← EReal.coe_mul]
  rw [sum_coe, ← window (fun r => (raw V).args.share r 1 c) (fun r hr => by unfold Args.share; rw [lay_out _ hr, zero_div]) i.val 1 i.isLt (by decide)
    (fun x => x.val ≤ i.val + 1 ∧ i.val < x.val + 1) fun x => Iff.rfl]
  refine congrArg _ (Finset.sum_congr rfl fun x _ => ?_)
  unfold Args.share
  rw [lay_in _ x rfl]

theorem at_dm1 (q : Fin 256) (e : c.val = 256 + q.val) : res_main_v138 V (ix2 i q) = (((raw V).args.dm i c : ℝ) : EReal) := by
  unfold res_main_v138; clean_types; pointwise
  rw [← at_dm i c h]
  exact congrArg (fun c => res_main_v133 V (ix2 i c)) (Fin.ext (by simp only; omega))

theorem pooled1 (q : Fin 256) (e : c.val = 256 + q.val) :
    (∑ x, Ideal.div (res_main_v138 V (ix2 x q)) (res_main_v85 V (ix2 x 0)) * res_main_v82 V (ix2 x i) : EReal)
      = ((∑ d ∈ Finset.range (2 * reach c), (raw V).args.share (i.val + 256 + 1 - reach c + d) (reach c) c : ℝ) : EReal) := by
  have hr : reach c = 2 := by
    unfold reach
    rw [show c.val / 256 = 1 from by omega]
    rfl
  rw [hr]
  clean_types
  have hc : ∀ x : Fin 4112, count 2 (x.val + 256) ≠ 0 := fun x => count_ne (by decide) (by omega)
  simp only [at_dm1 _ c h q e, at_count1, at_mask1, div_real _ (hc _)]
  simp only [← EReal.coe_mul]
  rw [sum_coe, ← window (fun r => (raw V).args.share r 2 c) (fun r hr => by unfold Args.share; rw [lay_out _ hr, zero_div]) i.val 2 i.isLt (by decide)
    (fun x => x.val ≤ i.val + 2 ∧ i.val < x.val + 2) fun x => Iff.rfl]
  refine congrArg _ (Finset.sum_congr rfl fun x _ => ?_)
  unfold Args.share
  rw [lay_in _ x rfl]

theorem at_dm2 (q : Fin 256) (e : c.val = 512 + q.val) : res_main_v139 V (ix2 i q) = (((raw V).args.dm i c : ℝ) : EReal) := by
  unfold res_main_v139; clean_types; pointwise
  rw [← at_dm i c h]
  exact congrArg (fun c => res_main_v133 V (ix2 i c)) (Fin.ext (by simp only; omega))

theorem pooled2 (q : Fin 256) (e : c.val = 512 + q.val) :
    (∑ x, Ideal.div (res_main_v139 V (ix2 x q)) (res_main_v105 V (ix2 x 0)) * res_main_v102 V (ix2 x i) : EReal)
      = ((∑ d ∈ Finset.range (2 * reach c), (raw V).args.share (i.val + 256 + 1 - reach c + d) (reach c) c : ℝ) : EReal) := by
  have hr : reach c = 4 := by
    unfold reach
    rw [show c.val / 256 = 2 from by omega]
    rfl
  rw [hr]
  clean_types
  have hc : ∀ x : Fin 4112, count 4 (x.val + 256) ≠ 0 := fun x => count_ne (by decide) (by omega)
  simp only [at_dm2 _ c h q e, at_count2, at_mask2, div_real _ (hc _)]
  simp only [← EReal.coe_mul]
  rw [sum_coe, ← window (fun r => (raw V).args.share r 4 c) (fun r hr => by unfold Args.share; rw [lay_out _ hr, zero_div]) i.val 4 i.isLt (by decide)
    (fun x => x.val ≤ i.val + 4 ∧ i.val < x.val + 4) fun x => Iff.rfl]
  refine congrArg _ (Finset.sum_congr rfl fun x _ => ?_)
  unfold Args.share
  rw [lay_in _ x rfl]

theorem at_dm3 (q : Fin 256) (e : c.val = 768 + q.val) : res_main_v140 V (ix2 i q) = (((raw V).args.dm i c : ℝ) : EReal) := by
  unfold res_main_v140; clean_types; pointwise
  rw [← at_dm i c h]
  exact congrArg (fun c => res_main_v133 V (ix2 i c)) (Fin.ext (by simp only; omega))

theorem pooled3 (q : Fin 256) (e : c.val = 768 + q.val) :
    (∑ x, Ideal.div (res_main_v140 V (ix2 x q)) (res_main_v125 V (ix2 x 0)) * res_main_v122 V (ix2 x i) : EReal)
      = ((∑ d ∈ Finset.range (2 * reach c), (raw V).args.share (i.val + 256 + 1 - reach c + d) (reach c) c : ℝ) : EReal) := by
  have hr : reach c = 8 := by
    unfold reach
    rw [show c.val / 256 = 3 from by omega]
    rfl
  rw [hr]
  clean_types
  have hc : ∀ x : Fin 4112, count 8 (x.val + 256) ≠ 0 := fun x => count_ne (by decide) (by omega)
  simp only [at_dm3 _ c h q e, at_count3, at_mask3, div_real _ (hc _)]
  simp only [← EReal.coe_mul]
  rw [sum_coe, ← window (fun r => (raw V).args.share r 8 c) (fun r hr => by unfold Args.share; rw [lay_out _ hr, zero_div]) i.val 8 i.isLt (by decide)
    (fun x => x.val ≤ i.val + 8 ∧ i.val < x.val + 8) fun x => Iff.rfl]
  refine congrArg _ (Finset.sum_congr rfl fun x _ => ?_)
  unfold Args.share
  rw [lay_in _ x rfl]

end

end Cert.Mixer.Ref

end
-- ==== Proof.Halo.Gradient.lean ====
module

public import proofs.«01_k».proof.Proof.Halo.Reference
public import proofs.«01_k».proof.Proof.Step.Reduce
public import proofs.«01_k».proof.Proof.Gen.Reference3Ideal.Run
public import Idealize.ShloMosaic.Lib.Pointwise
public import Idealize.ShloMosaic.Lib.WordCmp
public import Idealize.ShloMosaic.Lib.Pipeline.ValueKit
public import Idealize.ShloMosaic.Lib.Tactic.CleanTypes

/-!
# The gradients of the mixers' reference, entry by entry
-/

@[expose] public section

set_option maxRecDepth 16384

noncomputable section

namespace Cert.Mixer.Ref

open Cert.Reference3Ideal Cert.Reference3Ideal.Gen Cert.Reference3Ideal.Value Cert.Scalars Cert.Mixer Cert.Reduce
open Idealize.ShloMosaic Idealize.ShloMosaic.TcCoe Idealize.SL.Sem Idealize.ShloMosaic.StableHlo

variable (V : Valuation τ sig (Elt Ideal)) (i s : Fin 4112) (j c : Fin 1024) (d : Fin 5120)

section
variable {V} (h : (raw V).Finite)
include h

set_option maxHeartbeats 4000000 in
theorem dz_first (h0 : d.val < 1024) : res_main_v194 V (ix2 i d) = (((raw V).args.dz (i.val + 256) d : ℝ) : EReal) := by
  have hd := d.isLt
  have n1 : ¬(1024 ≤ d.val ∧ d.val - 1024 < 1024) := by omega
  have n2 : ¬(2048 ≤ d.val ∧ d.val - 2048 < 1024) := by omega
  have n3 : ¬(3072 ≤ d.val ∧ d.val - 3072 < 2048) := by omega
  unfold res_main_v194; clean_types; pointwise
  rw [dif_neg n3, dif_neg n2, dif_neg n1, dif_pos h0, at_da _ _ h, at_gate _ _ h, ← EReal.coe_mul, Args.dz_lo _ _ h0]
  simp only [zero_add, add_zero]

set_option maxHeartbeats 4000000 in
theorem dz_second (h1 : 1024 ≤ d.val ∧ d.val - 1024 < 1024) : res_main_v194 V (ix2 i d) = (((raw V).args.dz (i.val + 256) d : ℝ) : EReal) := by
  have hd := d.isLt
  have h0 : ¬d.val < 1024 := by omega
  have n2 : ¬(2048 ≤ d.val ∧ d.val - 2048 < 1024) := by omega
  have n3 : ¬(3072 ≤ d.val ∧ d.val - 3072 < 2048) := by omega
  unfold res_main_v194; clean_types; pointwise
  rw [dif_neg n3, dif_neg n2, dif_pos h1, dif_neg h0, at_da _ _ h, at_gate _ _ h, at_z0 _ _ h, one_sub_real, Args.dz_hi _ _ h1]
  simp only [zero_add, add_zero, ← EReal.coe_mul]
  rw [mul_comm ((raw V).args.z _ _)]

set_option maxHeartbeats 4000000 in
theorem dz_pool0 (h2 : 2048 ≤ d.val ∧ d.val - 2048 < 1024) (g0 : d.val - 2048 < 256) : res_main_v194 V (ix2 i d) = (((raw V).args.dz (i.val + 256) d : ℝ) : EReal) := by
  have hd := d.isLt
  have h0 : ¬d.val < 1024 := by omega
  have n1 : ¬(1024 ≤ d.val ∧ d.val - 1024 < 1024) := by omega
  have n3 : ¬(3072 ≤ d.val ∧ d.val - 3072 < 2048) := by omega
  have g1 : ¬(256 ≤ d.val - 2048 ∧ d.val - 2048 - 256 < 256) := by omega
  have g2 : ¬(512 ≤ d.val - 2048 ∧ d.val - 2048 - 512 < 256) := by omega
  have g3 : ¬(768 ≤ d.val - 2048 ∧ d.val - 2048 - 768 < 256) := by omega
  have e1 := pooled0 i ⟨d.val - 2048, h2.2⟩ h ⟨d.val - 2048, by omega⟩ (by simp only; omega)
  have e2 := at_dm0 i ⟨d.val - 2048, h2.2⟩ h ⟨d.val - 2048, by omega⟩ (by simp only; omega)
  unfold res_main_v194; clean_types; pointwise
  rw [dif_neg n3, dif_pos h2, dif_neg n1, dif_neg h0, Args.dz_mid _ _ h2]
  simp only [dif_pos g0, dif_neg g1, dif_neg g2, dif_neg g3, e1, e2, zero_add, add_zero]
  unfold Args.dpool
  rw [lay_in _ i rfl, ← EReal.coe_neg, ← EReal.coe_add, neg_add_eq_sub]

set_option maxHeartbeats 4000000 in
theorem dz_pool1 (h2 : 2048 ≤ d.val ∧ d.val - 2048 < 1024) (g1 : 256 ≤ d.val - 2048 ∧ d.val - 2048 - 256 < 256) : res_main_v194 V (ix2 i d) = (((raw V).args.dz (i.val + 256) d : ℝ) : EReal) := by
  have hd := d.isLt
  have h0 : ¬d.val < 1024 := by omega
  have n1 : ¬(1024 ≤ d.val ∧ d.val - 1024 < 1024) := by omega
  have n3 : ¬(3072 ≤ d.val ∧ d.val - 3072 < 2048) := by omega
  have g0 : ¬(d.val - 2048 < 256) := by omega
  have g2 : ¬(512 ≤ d.val - 2048 ∧ d.val - 2048 - 512 < 256) := by omega
  have g3 : ¬(768 ≤ d.val - 2048 ∧ d.val - 2048 - 768 < 256) := by omega
  have e1 := pooled1 i ⟨d.val - 2048, h2.2⟩ h ⟨d.val - 2048 - 256, by omega⟩ (by simp only; omega)
  have e2 := at_dm1 i ⟨d.val - 2048, h2.2⟩ h ⟨d.val - 2048 - 256, by omega⟩ (by simp only; omega)
  unfold res_main_v194; clean_types; pointwise
  rw [dif_neg n3, dif_pos h2, dif_neg n1, dif_neg h0, Args.dz_mid _ _ h2]
  simp only [dif_neg g0, dif_pos g1, dif_neg g2, dif_neg g3, e1, e2, zero_add, add_zero]
  unfold Args.dpool
  rw [lay_in _ i rfl, ← EReal.coe_neg, ← EReal.coe_add, neg_add_eq_sub]

set_option maxHeartbeats 4000000 in
theorem dz_pool2 (h2 : 2048 ≤ d.val ∧ d.val - 2048 < 1024) (g2 : 512 ≤ d.val - 2048 ∧ d.val - 2048 - 512 < 256) : res_main_v194 V (ix2 i d) = (((raw V).args.dz (i.val + 256) d : ℝ) : EReal) := by
  have hd := d.isLt
  have h0 : ¬d.val < 1024 := by omega
  have n1 : ¬(1024 ≤ d.val ∧ d.val - 1024 < 1024) := by omega
  have n3 : ¬(3072 ≤ d.val ∧ d.val - 3072 < 2048) := by omega
  have g0 : ¬(d.val - 2048 < 256) := by omega
  have g1 : ¬(256 ≤ d.val - 2048 ∧ d.val - 2048 - 256 < 256) := by omega
  have g3 : ¬(768 ≤ d.val - 2048 ∧ d.val - 2048 - 768 < 256) := by omega
  have e1 := pooled2 i ⟨d.val - 2048, h2.2⟩ h ⟨d.val - 2048 - 512, by omega⟩ (by simp only; omega)
  have e2 := at_dm2 i ⟨d.val - 2048, h2.2⟩ h ⟨d.val - 2048 - 512, by omega⟩ (by simp only; omega)
  unfold res_main_v194; clean_types; pointwise
  rw [dif_neg n3, dif_pos h2, dif_neg n1, dif_neg h0, Args.dz_mid _ _ h2]
  simp only [dif_neg g0, dif_neg g1, dif_pos g2, dif_neg g3, e1, e2, zero_add, add_zero]
  unfold Args.dpool
  rw [lay_in _ i rfl, ← EReal.coe_neg, ← EReal.coe_add, neg_add_eq_sub]

set_option maxHeartbeats 4000000 in
theorem dz_pool3 (h2 : 2048 ≤ d.val ∧ d.val - 2048 < 1024) (g3 : 768 ≤ d.val - 2048 ∧ d.val - 2048 - 768 < 256) : res_main_v194 V (ix2 i d) = (((raw V).args.dz (i.val + 256) d : ℝ) : EReal) := by
  have hd := d.isLt
  have h0 : ¬d.val < 1024 := by omega
  have n1 : ¬(1024 ≤ d.val ∧ d.val - 1024 < 1024) := by omega
  have n3 : ¬(3072 ≤ d.val ∧ d.val - 3072 < 2048) := by omega
  have g0 : ¬(d.val - 2048 < 256) := by omega
  have g1 : ¬(256 ≤ d.val - 2048 ∧ d.val - 2048 - 256 < 256) := by omega
  have g2 : ¬(512 ≤ d.val - 2048 ∧ d.val - 2048 - 512 < 256) := by omega
  have e1 := pooled3 i ⟨d.val - 2048, h2.2⟩ h ⟨d.val - 2048 - 768, by omega⟩ (by simp only; omega)
  have e2 := at_dm3 i ⟨d.val - 2048, h2.2⟩ h ⟨d.val - 2048 - 768, by omega⟩ (by simp only; omega)
  unfold res_main_v194; clean_types; pointwise
  rw [dif_neg n3, dif_pos h2, dif_neg n1, dif_neg h0, Args.dz_mid _ _ h2]
  simp only [dif_neg g0, dif_neg g1, dif_neg g2, dif_pos g3, e1, e2, zero_add, add_zero]
  unfold Args.dpool
  rw [lay_in _ i rfl, ← EReal.coe_neg, ← EReal.coe_add, neg_add_eq_sub]

set_option maxHeartbeats 4000000 in
theorem dz_last (h3 : 3072 ≤ d.val ∧ d.val - 3072 < 2048) : res_main_v194 V (ix2 i d) = (((raw V).args.dz (i.val + 256) d : ℝ) : EReal) := by
  have hd := d.isLt
  have h0 : ¬d.val < 1024 := by omega
  have n1 : ¬(1024 ≤ d.val ∧ d.val - 1024 < 1024) := by omega
  have n2 : ¬(2048 ≤ d.val ∧ d.val - 2048 < 1024) := by omega
  unfold res_main_v194; clean_types; pointwise
  rw [dif_pos h3, dif_neg n2, dif_neg n1, dif_neg h0, Args.dz_end _ _ h3, lay_in _ i rfl]
  simp only [zero_add, add_zero]
  exact back (h.dzg i _)

theorem at_dz : res_main_v194 V (ix2 i d) = (((raw V).args.dz (i.val + 256) d : ℝ) : EReal) := by
  have hd := d.isLt
  by_cases h0 : d.val < 1024
  · exact dz_first i d h h0
  by_cases h1 : d.val < 2048
  · exact dz_second i d h ⟨by omega, by omega⟩
  by_cases h2 : d.val < 2304
  · exact dz_pool0 i d h ⟨by omega, by omega⟩ (by omega)
  by_cases h3 : d.val < 2560
  · exact dz_pool1 i d h ⟨by omega, by omega⟩ ⟨by omega, by omega⟩
  by_cases h4 : d.val < 2816
  · exact dz_pool2 i d h ⟨by omega, by omega⟩ ⟨by omega, by omega⟩
  by_cases h5 : d.val < 3072
  · exact dz_pool3 i d h ⟨by omega, by omega⟩ ⟨by omega, by omega⟩
  · exact dz_last i d h ⟨by omega, by omega⟩

theorem at_du : res_main_v195 V (ix2 i j) = (((raw V).args.du (i.val + 256) j : ℝ) : EReal) := by
  unfold res_main_v195; clean_types; pointwise
  simp only [at_dz _ _ h, at_w _ _ h, ← EReal.coe_mul]
  rw [sum_coe]; rfl

theorem at_dug : res_main_v200 V (ix2 i j) = (((raw V).args.du (i.val + 256) j * (raw V).args.g j : ℝ) : EReal) := by
  unfold res_main_v200; clean_types; pointwise
  rw [at_du _ _ h, at_g _ h, ← EReal.coe_mul]

theorem at_spill : res_main_v212 V (ix2 i j)
    = ((spill ((raw V).args.h i) (fun k => (raw V).args.du (i.val + 256) k * (raw V).args.g k) : ℝ) : EReal) := by
  unfold res_main_v212; clean_types; pointwise
  rw [Fintype.sum_eq_single (0 : Fin 1) fun x hx => absurd (Subsingleton.elim x 0) hx]
  simp only [at_h _ _ h, at_dug _ _ h, at_rrms _ h, at_power _ h]
  rw [lit_neg_half, lit_width, div_real _ (power_pos _).ne']
  simp only [← EReal.coe_mul]
  rw [sum_coe, ← EReal.coe_mul, div_real _ (by norm_num)]; rfl

theorem at_dh0 : res_main_v216 V (ix2 i j) = (raw V).args.dh0 (i.val + 256) j := by
  unfold res_main_v216; clean_types; pointwise
  rw [at_dug _ _ h, at_rrms _ h, at_h _ _ h, at_spill _ _ h]
  unfold Args.dh0
  rw [lay_in _ i rfl, Args.lay_row, ← dunit_chain]
  simp only [add_assoc, ← EReal.coe_mul, ← EReal.coe_add]
  refine congrArg ((raw V).args.dh i j + ·) (congrArg _ ?_)
  ring

/-! ## The results -/

theorem out_dz : (truncf .bf16 (res_main_v194 V) bitsLt_bf16_f32 : FVec Ideal S4112x5120 .bf16) (ix2 i d)
    = (((raw V).args.dz (i.val + 256) d : ℝ) : EReal) := by
  clean_types; pointwise
  exact at_dz i d h

theorem out_gx (p : Fin 4096) : (shapeCast S4096x1024 (broadcastInDim S1x4096x1024 ![1, 2] bcast_S4096x1024_S1x4096x1024_1_2
      (extractStridedSlice S4096x1024 ![16, 0] (res_main_v216 V) slices_S4112x1024_S4096x1024_16_0)) shapeCasts_S1x4096x1024_S4096x1024 : FVec Ideal S4096x1024 .f32) (ix2 p j)
    = (raw V).args.dh0 (p.val + 272) j := by
  clean_types; pointwise
  have e := at_dh0 (⟨16 + p.val, by omega⟩ : Fin 4112) j h
  simp only at e
  rw [show 16 + p.val + 256 = p.val + 272 from by omega] at e
  exact e

theorem out_head (p : Fin 16) : (extractStridedSlice S16x1024 ![0, 0] (res_main_v216 V) slices_S4112x1024_S16x1024_0_0 : FVec Ideal S16x1024 .f32) (ix2 p j)
    = (raw V).args.dh0 (p.val + 256) j := by
  clean_types; pointwise
  exact at_dh0 (⟨p.val, by omega⟩ : Fin 4112) j h

theorem out_dw (k : Fin 31) : (shapeCast S31x1024 (broadcastInDim S1x31x1024 ![1, 2] bcast_S31x1024_S1x31x1024_1_2
      (Host.reduceAdd (shapeCast S31x1x1024 (Host.reduceAdd (mulf (res_main_v43 V) (res_main_v178 V)) (constant S_ .f32 0x00000000#32) reducesTo_S31x4112x1024_S31x1024_d1 h_S_)
        shapeCasts_S31x1024_S31x1x1024) (constant S_ .f32 0x00000000#32) reducesTo_S31x1x1024_S31x1024_d1 h_S_)) shapeCasts_S1x31x1024_S31x1024 : FVec Ideal S31x1024 .f32) (ix2 k c)
    = (((raw V).args.dw k c : ℝ) : EReal) := by
  clean_types; pointwise
  rw [Fintype.sum_eq_single (0 : Fin 1) fun x hx => absurd (Subsingleton.elim x 0) hx]
  simp only [at_taps _ _ h, at_dc _ _ h, ← EReal.coe_mul]
  rw [sum_coe]; rfl

theorem out_dg : (broadcastInDim S1x1024 ![1] bcast_S1024_S1x1024_1
      (Host.reduceAdd (shapeCast S1x1024 (Host.reduceAdd (mulf (res_main_v16 V) (res_main_v195 V)) (constant S_ .f32 0x00000000#32) reducesTo_S4112x1024_S1024_d0 h_S_)
        shapeCasts_S1024_S1x1024) (constant S_ .f32 0x00000000#32) reducesTo_S1x1024_S1024_d0 h_S_) : FVec Ideal S1x1024 .f32) (ix2 0 j)
    = (((raw V).args.dg j : ℝ) : EReal) := by
  clean_types; pointwise
  rw [Fintype.sum_eq_single (0 : Fin 1) fun x hx => absurd (Subsingleton.elim x 0) hx]
  simp only [at_hat _ _ h, at_du _ _ h, ← EReal.coe_mul]
  rw [sum_coe]
  exact congrArg _ (Finset.sum_congr rfl fun x _ => mul_comm _ _)

end

end Cert.Mixer.Ref

end
-- ==== Proof.Halo.Claims.lean ====
module

public import proofs.«01_k».proof.Defs
public import proofs.«01_k».proof.Proof.Step.Bounds
public import proofs.«01_k».proof.Proof.Halo.Run
public import proofs.«01_k».proof.Proof.Halo.Result
public import proofs.«01_k».proof.Proof.Halo.Gradient
public import proofs.«01_k».proof.Proof.Gen.Kernel3
public import proofs.«01_k».proof.Proof.Gen.Pre_finite_halo

/-!
# The claims about the mixers' backward call

The frames of the three programs, and the equality of the call's five results with the gradients the reference takes,
where the arguments are finite.
-/

@[expose] public section

set_option maxRecDepth 16384

noncomputable section

namespace Cert.Halo

open Cert.Scalars Cert.Mixer Cert.Reduce
open Idealize.ShloMosaic Idealize.ShloMosaic.TcCoe Idealize.SL.Sem

theorem frame_kernel : Cert.quiescent_Kernel3 := fun m ρ _ => by
  refine Eq.mp ?_ (frame (F := Bits) m ρ)
  sl_kernel_rfl

theorem frame_ideal : Cert.quiescent_Kernel3Ideal := fun m ρ _ => frame (F := Ideal) m ρ

theorem frame_reference : Cert.quiescent_Reference3Ideal := fun m ρ _ =>
  (θ_run Cert.Reference3Ideal.defs _ _).mono (fun r h => ⟨fun c => (h c).2.2.2.2.2,
      sem_eq_zero_of_no_sems (by decide) r.2⟩)
    (Cert.Reference3Ideal.Value.run (F := Ideal) m ρ)

theorem finite_of_pre (m : (ℓ : Loc Cert.Kernel3Ideal.nD Cert.Kernel3Ideal.τ Cert.Kernel3Ideal.sig) → Buf (Elt Ideal) ℓ)
    (h : Cert.Pre_Kernel3Ideal_finite_halo m) (c : Dev Cert.Kernel3Ideal.nD) : (raw m c).Finite := by
  obtain ⟨h0, h1, h2, h3, h4, h5, h6, h7⟩ := h c
  exact {
    x := fun i j => real_of_below (infinity _) h0 (ix3 0 i j)
    head := fun i j => real_of_below (infinity _) h1 (ix2 i j)
    g := fun j => real_of_below (infinity _) h2 (ix2 0 j)
    w := fun j d => real_of_below (infinity _) h3 (ix3 0 j d)
    wd := fun k j => real_of_below (infinity _) h4 (ix3 0 k j)
    dc := fun i j => real_of_below (infinity _) h5 (ix3 0 i j)
    dm := fun i j => real_of_below (infinity _) h6 (ix3 0 i j)
    dzg := fun i j => real_of_below (infinity _) h7 (ix3 0 i j) }

theorem raw_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧
      m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧
      m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧
      m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧
      m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧
      m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5) ∧
      m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6) ∧
      m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7) ∧
      m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Ref.raw (StableHlo.launchContents m' c) = raw m c := by
  obtain ⟨e0, e1, e2, e3, e4, e5, e6, e7, e8⟩ := h
  unfold Ref.raw raw
  congr 1
  · exact funext fun i => funext fun j => congrFun e0 (ix3 0 i j)
  · exact funext fun i => funext fun j => congrFun e1 (ix2 i j)
  · exact funext fun j => congrFun e2 (ix2 0 j)
  · exact funext fun j => funext fun d => congrFun e3 (ix3 0 j d)
  · exact funext fun k => funext fun j => congrFun e4 (ix3 0 k j)
  · exact funext fun i => funext fun j => congrFun e5 (ix3 0 i j)
  · exact funext fun i => funext fun j => congrFun e6 (ix3 0 i j)
  · exact funext fun i => funext fun j => congrFun e7 (ix3 0 i j)
  · exact funext fun i => funext fun j => congrFun e8 (ix3 0 i j)

set_option maxHeartbeats 4000000 in
/-- The kernel's results and the reference's are the same formulas of the same arguments. -/
theorem algebraic : Cert.algebraic_Kernel3Ideal_Reference3Ideal_pre_finite_halo := by
  intro m g m' g' hpre hargs
  refine ⟨fun c => tail (F := Ideal) m c Cert.Kernel3Ideal.main_v43,
    fun c => (dats (F := Ideal) m 0 c).arrAt 16 Cert.Kernel3Ideal.cfg0.N,
    fun c => tail (F := Ideal) m c Cert.Kernel3Ideal.main_v44,
    fun c => tail (F := Ideal) m c Cert.Kernel3Ideal.main_v45,
    fun c => (dats (F := Ideal) m 0 c).arrAt 19 Cert.Kernel3Ideal.cfg0.N,
    ?_, ?_⟩
  · exact (θ_run Cert.Kernel3Ideal.defs _ _).mono
      (fun r h c => ⟨(h.1 c).2 _ (Pipeline.mem_restRefs_of Cert.Kernel3Ideal.main_v43 (by decide) (by decide)), (h.1 c).1 16,
        (h.1 c).2 _ (Pipeline.mem_restRefs_of Cert.Kernel3Ideal.main_v44 (by decide) (by decide)),
        (h.1 c).2 _ (Pipeline.mem_restRefs_of Cert.Kernel3Ideal.main_v45 (by decide) (by decide)), (h.1 c).1 19, h.2.1 c⟩)
      (θ_run_and (run_arrays m g) (frame m g))
  · refine (θ_run Cert.Reference3Ideal.defs _ _).mono (fun r k c => ?_) (Cert.Reference3Ideal.Value.run (F := Ideal) m' g')
    have e := raw_eq m m' c (hargs c)
    have hf := finite_of_pre m hpre c
    have h : (Ref.raw (StableHlo.launchContents m' c)).Finite := e ▸ hf
    obtain ⟨k0, k1, k2, k3, k4, rest⟩ := k c
    refine ⟨?_, ?_, ?_, ?_, ?_, rest⟩
    · refine k0.trans (funext fun y => ?_)
      obtain ⟨i, d, rfl⟩ := pair_ix2 y
      exact (Ref.out_dz i d h).trans ((congrArg (fun a : Raw => ((a.args.dz (i.val + 256) d : ℝ) : EReal)) e).trans (tail_dz m c hf i d).symm)
    · refine k1.trans (funext fun y => ?_)
      obtain ⟨p, j, rfl⟩ := pair_ix2 y
      exact (Ref.out_gx j h p).trans ((congrArg (fun a : Raw => a.args.dh0 (p.val + 272) j) e).trans (congrFun (arr_gx m c hf) (ix2 p j)).symm)
    · refine k2.trans (funext fun y => ?_)
      obtain ⟨p, j, rfl⟩ := pair_ix2 y
      exact (Ref.out_head j h p).trans ((congrArg (fun a : Raw => a.args.dh0 (p.val + 256) j) e).trans (tail_head m c hf j p).symm)
    · refine k3.trans (funext fun y => ?_)
      obtain ⟨k, j, rfl⟩ := pair_ix2 y
      exact (Ref.out_dw j h k).trans ((congrArg (fun a : Raw => ((a.args.dw k j : ℝ) : EReal)) e).trans (tail_dw m c hf j k).symm)
    · refine k4.trans (funext fun y => ?_)
      obtain ⟨z, j, rfl⟩ := pair_ix2 y
      obtain rfl := Subsingleton.elim z 0
      exact (Ref.out_dg j h).trans ((congrArg (fun a : Raw => ((a.args.dg j : ℝ) : EReal)) e).trans (congrFun (arr_dg m c hf) (ix2 0 j)).symm)

end Cert.Halo

end
-- ==== Proof.Norm.Entry.lean ====
module

public import proofs.«01_k».proof.Proof.Rows.Padded
public import proofs.«01_k».proof.Proof.Step.Reduce
public import proofs.«01_k».proof.Proof.Step.Scalars
public import proofs.«01_k».proof.Proof.Gen.Kernel4Ideal.Frame
public import proofs.«01_k».proof.Proof.Gen.Reference4Ideal.Run
public import Idealize.ShloMosaic.Lib.Pointwise
public import Idealize.ShloMosaic.Lib.Pipeline.ValueKit
public import Idealize.ShloMosaic.Lib.VecWindow
public import Idealize.ShloMosaic.Lib.Claim
public import Idealize.ShloMosaic.Lib.StableHlo.ReadAt
public import Idealize.ShloMosaic.Lib.Tactic.CleanTypes

/-!
# The first norm

The kernel's result and the reference's at an index: the row over the root of its mean square, times the scale. In front
are rows of zeros.
-/

@[expose] public section

set_option maxRecDepth 16384

noncomputable section

namespace Cert.Norm

open Cert.Kernel4Ideal Cert.Kernel4Ideal.Gen Cert.Scalars Cert.Reduce
open Cert.Rows (padded padded_in padded_at)
open Idealize.ShloMosaic Idealize.ShloMosaic.TcCoe Idealize.SL.Sem Idealize.ShloMosaic.StableHlo

variable (m : (ℓ : Loc nD τ sig) → Buf (Elt Ideal) ℓ) (c : Dev nD) (t : Fin cfg0.N) (q : Fin 256) (j : Fin 1024)

/-- The arguments: the sequence's rows, the sixteen in front of them, the scale. -/
structure Args where
  x : Fin 4096 → Fin 1024 → EReal
  head : Fin 16 → Fin 1024 → EReal
  g : Fin 1024 → EReal

/-- A row over the root of its mean square, times the scale. -/
def normed (h g : Fin 1024 → EReal) (j : Fin 1024) : EReal :=
  h j * Ideal.rsqrt (Ideal.div (∑ k, h k * h k) (Ideal.ofBits FTy.f32 1149239296#32) + Ideal.ofBits FTy.f32 897988541#32) * g j

/-- The rows: the sixteen in front, then the sequence. -/
def Args.row (a : Args) (i : Fin 4112) (j : Fin 1024) : EReal :=
  if e : i.val < 16 then a.head ⟨i.val, e⟩ j else a.x ⟨i.val - 16, by omega⟩ j

/-- The result at a row. -/
def Args.u (a : Args) (i : Fin 4112) (j : Fin 1024) : EReal := normed (a.row i) a.g j

/-- In front of the rows the result is zero as well. -/
theorem normed_padded (a : Args) (r : Fin 4352) (j : Fin 1024) : normed (fun k => padded a.row r k) a.g j = padded a.u r j := by
  by_cases h : r.val < 240
  · unfold normed
    simp only [padded_in _ h, zero_mul]
  · rw [padded_at _ h]
    unfold Args.u
    congr 1
    exact funext fun k => padded_at _ h k

/-! ## The kernel -/

variable (m : (ℓ : Loc nD τ sig) → Buf (Elt Ideal) ℓ) (c : Dev nD) (t : Fin cfg0.N) (q : Fin 256) (j : Fin 1024)

/-- The arguments the program is launched with. -/
def args : Args where
  x i j := m ((c : Thread nD τ).loc main_arg0) (ix3 0 i j)
  head i j := m ((c : Thread nD τ).loc main_arg1) (ix2 i j)
  g j := m ((c : Thread nD τ).loc main_arg2) (ix2 0 j)

theorem point_lt : t.val < 17 := lt_of_lt_of_eq t.isLt (show cfg0.N = 17 from N_0)

/-- The array's row that is row `q` of the block of point `t`. -/
def at_ : Fin 4352 := ⟨256 * t.val + q.val, by have := point_lt t; omega⟩

theorem host_head (p : Fin 256) : V m c main_v1 (ix2 p j) = if e : p.val < 240 then (0 : EReal) else (args m c).head ⟨p.val - 240, by omega⟩ j := by
  unfold V; after_reads_at
  split
  · rfl
  · rfl

theorem host_x (p : Fin 4096) : V m c main_v2 (ix2 p j) = (args m c).x p j := by
  unfold V; after_reads_at
  rfl

theorem idx_0 : ∀ t : Fin cfg0.N, win0_0.index t 0 = 0 ∧ win0_0.index t 1 = 0 := by decide +kernel
theorem idx_1 : ∀ t : Fin cfg0.N, win0_1.index t 0 = t.val - 1 ∧ win0_1.index t 1 = 0 := by decide +kernel
theorem idx_2 : ∀ t : Fin cfg0.N, win0_2.index t 0 = 0 ∧ win0_2.index t 1 = 0 := by decide +kernel
theorem idx_3 : ∀ t : Fin cfg0.N, win0_3.index t 0 = t.val ∧ win0_3.index t 1 = 0 := by decide +kernel

theorem blk_0 : iblk m c 0 t (ix2 q j) = V m c main_v1 (ix2 q j) := by blk_ext [iblk, idx_0 t]
theorem blk_1 : iblk m c 1 t (ix2 q j) = V m c main_v2 (ix2 ⟨256 * (t.val - 1) + q.val, by have := point_lt t; omega⟩ j) := by
  blk_ext [iblk, idx_1 t]
theorem blk_2 : iblk m c 2 t (ix2 0 j) = (args m c).g j := by
  have e : (args m c).g j = V m c main_arg2 (ix2 0 j) := by rw [V_main_arg2]; rfl
  rw [e]; blk_ext [iblk, idx_2 t]
theorem emb_3 : (win0_3.blk t).view.emb (ix2 q j) = ix2 (at_ t q) j := by blk_ext [at_, idx_3 t]

theorem opening : ∀ t : Fin cfg0.N, Scalar.cmpi .eq (BitVec.ofNat 32 (grid0.coords t 0).val) 0#32 = if t.val = 0 then 1#1 else 0#1 := by
  decide +kernel

/-- The rows a point reads. -/
theorem chosen : Scalar.select (Scalar.cmpi .eq (BitVec.ofNat 32 (grid0.coords t 0).val) 0#32) (iblk m c 0 t (ix2 q j)) (iblk m c 1 t (ix2 q j))
    = padded (args m c).row (at_ t q) j := by
  have ht := point_lt t
  rw [opening t]
  by_cases h : t.val = 0
  · rw [if_pos h]
    refine (blk_0 m c t q j).trans ((host_head m c j q).trans ?_)
    by_cases e : q.val < 240
    · rw [dif_pos e, padded_in _ (by simp only [at_]; omega)]
    · rw [dif_neg e, padded_at _ (by simp only [at_]; omega)]
      unfold Args.row
      rw [dif_pos (by simp only [at_]; omega)]
      exact congrArg (fun i => (args m c).head i j) (Fin.ext (by simp only [at_]; omega))
  · rw [if_neg h]
    refine (blk_1 m c t q j).trans ((host_x m c j _).trans ?_)
    rw [padded_at _ (by simp only [at_]; omega)]
    unfold Args.row
    rw [dif_neg (by simp only [at_]; omega)]
    exact congrArg (fun i => (args m c).x i j) (Fin.ext (by simp only [at_]; omega))

theorem point_u : k0_pay1 (grid0.coords t) (iblk m c 0 t) (iblk m c 1 t) (iblk m c 2 t) (ix2 q j) = padded (args m c).u (at_ t q) j := by
  unfold k0_pay1; clean_types; pointwise
  simp only [chosen m c t q, blk_2 m c t]
  exact normed_padded _ _ _

theorem out_eq (i : grid0.Coords) (a b : Vec Ideal S256x1024 .f32) (g : Vec Ideal S1x1024 .f32) : out0_3 i a b g = k0_pay1 i a b g := by
  unfold out0_3 r0_0 r0_1
  rw [View.canon_cons_unit_lit' _ _ _ (by decide), View.ld_unit_lit' _ _ (by decide), View.ld_unit_lit' _ _ (by decide), View.ld_unit_lit' _ _ (by decide)]

theorem arr_u : (dats m 0 c).arrAt 3 cfg0.N = fun y => padded (args m c).u (y 0) (y 1) := by
  refine (dats m 0 c).arrAt_eq_of_covers 3 _ (by decide +kernel) fun t _ y => ?_
  blk_simp
  obtain ⟨q, j, rfl⟩ := pair_ix2 y
  rw [after0_3, emb_3]
  exact (congrFun (out_eq _ _ _ _) _).trans (point_u m c t q j)

end Cert.Norm

/-! ## The reference -/

namespace Cert.Norm.Ref

open Cert.Reference4Ideal Cert.Reference4Ideal.Gen Cert.Reference4Ideal.Value Cert.Scalars Cert.Reduce
open Cert.Rows (padded padded_in padded_at)
open Idealize.ShloMosaic Idealize.ShloMosaic.TcCoe Idealize.SL.Sem Idealize.ShloMosaic.StableHlo

variable (V : Valuation τ sig (Elt Ideal))

def args : Args where
  x i j := V (Proc.devRef .tc main_arg0) (ix3 0 i j)
  head i j := V (Proc.devRef .tc main_arg1) (ix2 i j)
  g j := V (Proc.devRef .tc main_arg2) (ix2 0 j)

/-- What the run ends with. -/
theorem result (m : (ℓ : Loc nD τ sig) → Buf (Elt Ideal) ℓ) (ρ : Dev nD → PrngReg) :
    θ_run defs (onTc (τ := τ) (main (F := Ideal))) ⟨m, fun _ => 0, ρ⟩ fun s => ∀ c : Dev nD,
      s.2.mem ((c.tc : Thread nD τ).loc main_v19) = (fun y => padded (args (launchContents m c)).u (y 0) (y 1))
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2) := by
  refine (θ_run defs _ _).mono (fun s k c => ⟨(k c).1.trans (funext fun y => ?_), (k c).2⟩) (run (F := Ideal) m ρ)
  obtain ⟨r, j, rfl⟩ := pair_ix2 y
  clean_types; pointwise
  rfl

end Cert.Norm.Ref

end
-- ==== Proof.Norm.Claims.lean ====
module

public import proofs.«01_k».proof.Defs
public import proofs.«01_k».proof.Proof.Norm.Entry
public import proofs.«01_k».proof.Proof.Gen.Kernel4

/-!
# The claims about the first norm's call

The frames of the three programs, and the equality of the call's result with the reference's at any arguments.
-/

@[expose] public section

set_option maxRecDepth 16384

noncomputable section

namespace Cert.Norm

open Cert.Kernel4Ideal.Gen
open Cert.Rows (padded)
open Idealize.ShloMosaic Idealize.ShloMosaic.TcCoe Idealize.SL.Sem

theorem frame_kernel : Cert.quiescent_Kernel4 := fun m ρ _ => by
  refine Eq.mp ?_ (frame (F := Bits) m ρ)
  sl_kernel_rfl

theorem frame_ideal : Cert.quiescent_Kernel4Ideal := fun m ρ _ => frame (F := Ideal) m ρ

theorem frame_reference : Cert.quiescent_Reference4Ideal := fun m ρ _ =>
  (θ_run Cert.Reference4Ideal.defs _ _).mono (fun r h => ⟨fun c => (h c).2,
      sem_eq_zero_of_no_sems (by decide) r.2⟩)
    (Ref.result m ρ)

/-- The kernel's result and the reference's are the same formula of the same arguments. -/
theorem algebraic : Cert.algebraic_Kernel4Ideal_Reference4Ideal := by
  intro m g m' g' _ hargs
  refine ⟨fun c => (dats (F := Ideal) m 0 c).arrAt 3 Cert.Kernel4Ideal.cfg0.N, ?_, ?_⟩
  · exact (θ_run Cert.Kernel4Ideal.defs _ _).mono (fun r h c => ⟨(h.1 c).1 3, h.2.1 c⟩) (θ_run_and (run_main m g) (frame m g))
  · refine (θ_run Cert.Reference4Ideal.defs _ _).mono (fun r k c => ⟨(k c).1.trans ?_, (k c).2⟩) (Ref.result m' g')
    obtain ⟨e0, e1, e2⟩ := hargs c
    have e : Ref.args (StableHlo.launchContents m' c) = args m c := by
      unfold Ref.args args
      congr 1
      · exact funext fun i => funext fun j => congrFun e0 (ix3 0 i j)
      · exact funext fun i => funext fun j => congrFun e1 (ix2 i j)
      · exact funext fun j => congrFun e2 (ix2 0 j)
    exact (congrArg (fun a : Args => fun y : (⟨2, ![4352, 1024]⟩ : Shape).Idx => padded a.u (y 0) (y 1)) e).trans (arr_u m c).symm

end Cert.Norm

end
-- ==== Proof.Mix.Spec.lean ====
module

public import proofs.«01_k».proof.Proof.Halo.Spec

/-!
# The mixers' forward pass

Rows are counted from 256 rows in front of the first, as in the backward pass: row `256 + i` is row `i` of the arguments,
and every array is zero at the other rows. No argument needs to be finite: both programs sum the same numbers.
-/

@[expose] public section

noncomputable section

namespace Cert.Mix

open Idealize.ShloMosaic Cert.Scalars Cert.Mixer

/-- The arguments. -/
structure Args where
  z : Fin 4112 → Fin 5120 → EReal
  x : Fin 4096 → Fin 1024 → EReal
  head : Fin 16 → Fin 1024 → EReal
  bg : Fin 2048 → EReal
  wd : Fin 31 → Fin 1024 → EReal
  bd : Fin 1024 → EReal
  lng : Fin 1024 → EReal
  lnb : Fin 1024 → EReal
  ps : Fin 1024 → EReal
  wco : Fin 1024 → Fin 1024 → EReal
  wpool : Fin 4 → Fin 256 → Fin 256 → EReal
  wpo : Fin 1024 → Fin 1024 → EReal
  wo : Fin 1024 → Fin 1024 → EReal

/-- A column of the projection, of the gates' bias, and of a column's group. -/
def part (b : ℕ) (j : Fin 1024) : Fin 5120 := Fin.ofNat 5120 (b + j.val)
def side (b : ℕ) (j : Fin 1024) : Fin 2048 := Fin.ofNat 2048 (b + j.val)
def mate (j : Fin 1024) (k : Fin 256) : Fin 1024 := Fin.ofNat 1024 (256 * (j.val / 256) + k.val)

/-- How many of the rows `r - u` up to `r + u - 1` there are, one where there is none. -/
def size (u r : ℕ) : ℕ := max 1 (min 4368 (r + u) - max 256 (r - u))

namespace Args

variable (a : Args) (r : ℕ)

/-- The rows: the sixteen in front, then the sequence. -/
def row (i : Fin 4112) (j : Fin 1024) : EReal :=
  if e : i.val < 16 then a.head ⟨i.val, e⟩ j else a.x ⟨i.val - 16, by omega⟩ j

/-- The gated rows, and the filter. -/
def act (c : Fin 1024) : EReal := lay a.z r (part 0 c) * ((sgr (lay a.z r (part 1024 c)) : ℝ) : EReal)
def cpre (c : Fin 1024) : EReal := (∑ k : Fin 31, a.act (r + k.val - 15) c * a.wd k c) + a.bd c

/-- The layer norm, its activation, and the convolution branch. -/
def cen (c : Fin 1024) : EReal := a.cpre r c - Ideal.div (∑ k, a.cpre r k) (Ideal.ofBits .f32 0x44800000#32)
def ln (c : Fin 1024) : EReal :=
  a.cen r c * Ideal.rsqrt (Ideal.div (∑ k, a.cen r k * a.cen r k) (Ideal.ofBits .f32 0x44800000#32) + Ideal.ofBits .f32 0x3727C5AC#32) * a.lng c + a.lnb c
def ca (c : Fin 1024) : EReal := a.ln r c * ((sgr (a.ln r c) : ℝ) : EReal)
def yc (j : Fin 1024) : EReal := ∑ k, a.ca r k * a.wco k j

/-- The averages over the windows less the rows, the groups' products, their scaled mix, and the pool branch. -/
def m (c : Fin 1024) : EReal :=
  Ideal.div (∑ d ∈ Finset.range (2 * reach c), lay a.z (r - reach c + d) (part 2048 c)) (((size (reach c) r : ℕ) : ℝ) : EReal) - lay a.z r (part 2048 c)
def mw (j : Fin 1024) : EReal := ∑ k : Fin 256, a.m r (mate j k) * a.wpool (Fin.ofNat 4 (j.val / 256)) k (Fin.ofNat 256 j.val)
def m2 (j : Fin 1024) : EReal := a.mw r j * a.ps j
def yp (j : Fin 1024) : EReal := ∑ k, a.m2 r k * a.wpo k j

/-- The gated sum of the branches, and the rows it is added to. -/
def mg (j : Fin 1024) : EReal :=
  ((sgr (lay a.z r (part 3072 j) + a.bg (side 0 j)) : ℝ) : EReal) * a.yc r j
    + ((sgr (lay a.z r (part 4096 j) + a.bg (side 1024 j)) : ℝ) : EReal) * a.yp r j
def h1 (j : Fin 1024) : EReal := lay a.row r j + ∑ k, a.mg r k * a.wo k j

variable {r}

theorem act_out (hr : r < 256 ∨ 4368 ≤ r) (c : Fin 1024) : a.act r c = 0 := by
  unfold act; rw [lay_out _ hr, zero_mul]

end Args

/-! ## Sums -/

theorem marked (p : Prop) [Decidable p] (y : EReal) : ((if p then 1 else 0 : ℝ) : EReal) * y = if p then y else 0 := by
  by_cases h : p
  · rw [if_pos h, if_pos h, EReal.coe_one, one_mul]
  · rw [if_neg h, if_neg h, EReal.coe_zero, zero_mul]

/-- A sum with one term marked. -/
theorem pick_one (f : ℕ → EReal) (hf : ∀ r, r < 256 ∨ 4368 ≤ r → f r = 0) (p : Fin 4112 → Prop) [DecidablePred p] (m : ℕ)
    (hp : ∀ x, p x ↔ x.val + 256 = m) : ∑ x : Fin 4112, ((if p x then 1 else 0 : ℝ) : EReal) * f (x.val + 256) = f m := by
  simp only [marked, hp]
  by_cases hm : m < 256 ∨ 4368 ≤ m
  · rw [hf m hm]
    exact Finset.sum_eq_zero fun x _ => if_neg (by omega)
  · rw [Finset.sum_eq_single_of_mem (⟨m - 256, by omega⟩ : Fin 4112) (Finset.mem_univ _)]
    · rw [if_pos (by simp only; omega)]
      exact congrArg f (by simp only; omega)
    · intro x _ hx
      exact if_neg fun e => hx (Fin.ext (by simp only; omega))

/-- A sum with a run of terms marked. -/
theorem pick_run (f : ℕ → EReal) (hf : ∀ r, r < 256 ∨ 4368 ≤ r → f r = 0) (s u : ℕ) (hs : s < 4112) (hu : u ≤ 16) (p : Fin 4112 → Prop) [DecidablePred p]
    (hp : ∀ x, p x ↔ s ≤ x.val + u ∧ x.val < s + u) :
    ∑ x : Fin 4112, ((if p x then 1 else 0 : ℝ) : EReal) * f (x.val + 256) = ∑ d ∈ Finset.range (2 * u), f (s + 256 - u + d) := by
  have e1 : ∑ r ∈ Finset.range (256 + 4112 + 16), (if s + 256 ≤ r + u ∧ r < s + 256 + u then f r else 0)
      = ∑ x : Fin 4112, ((if p x then 1 else 0 : ℝ) : EReal) * f (x.val + 256) := by
    have t1 : ∑ r ∈ Finset.range 256, (if s + 256 ≤ r + u ∧ r < s + 256 + u then f r else 0) = 0 :=
      Finset.sum_eq_zero fun x hx => by rw [hf _ (.inl (Finset.mem_range.mp hx)), ite_self]
    have t2 : ∑ r ∈ Finset.range 16, (if s + 256 ≤ 256 + 4112 + r + u ∧ 256 + 4112 + r < s + 256 + u then f (256 + 4112 + r) else 0) = 0 :=
      Finset.sum_eq_zero fun x _ => by rw [hf _ (.inr (by omega)), ite_self]
    rw [Finset.sum_range_add, Finset.sum_range_add, t1, t2, zero_add, add_zero, Finset.sum_range]
    refine Finset.sum_congr rfl fun x _ => ?_
    rw [marked, Nat.add_comm 256]
    refine if_congr ?_ rfl rfl
    rw [hp]; omega
  rw [← e1, ← Finset.sum_filter]
  have e2 : (Finset.range (256 + 4112 + 16)).filter (fun r => s + 256 ≤ r + u ∧ r < s + 256 + u)
      = Finset.Ico (s + 256 - u) (s + 256 - u + 2 * u) := by
    ext r
    simp only [Finset.mem_filter, Finset.mem_range, Finset.mem_Ico]
    omega
  rw [e2, Finset.sum_Ico_eq_sum_range, Nat.add_sub_cancel_left]

/-- At a row that is there the window's size is the count. -/
theorem size_count {u r : ℕ} (hu : 1 ≤ u) (hr : 256 ≤ r ∧ r < 4368) : ((size u r : ℕ) : ℝ) = Cert.Mixer.count u r := by
  unfold size Cert.Mixer.count
  exact congrArg _ (max_eq_right (by omega))

end Cert.Mix

end
-- ==== Proof.Mix.Taps.lean ====
module

public import proofs.«01_k».proof.Proof.Gen.Kernel5Ideal.Skeleton
public import Idealize.ShloMosaic.Lib.Pointwise
public import Idealize.ShloMosaic.Lib.Pipeline.ValueKit
public import Idealize.ShloMosaic.Lib.Pipeline.ReadBack
public import Idealize.ShloMosaic.Lib.WritesUnit

/-!
# The taps of the depthwise filter

What one strip of 128 columns of the mixers' kernel computes: the filter on the extended rows.  The kernel keeps seven copies of the rows, each moved by one row, so that every load starts at a multiple of eight; the lemmas here
read such a copy as the rows themselves.
-/

@[expose] public section

set_option maxRecDepth 16384

noncomputable section

namespace Cert.Mix

open Cert.Kernel5Ideal Cert.Kernel5Ideal.Gen
open Idealize.ShloMosaic Idealize.ShloMosaic.TcCoe Idealize.SL.Sem

variable {F : FTy → Type} [FloatOps F]

/-- Row `n` of the filter on strip `k`. -/
def coef (w : Vec F S32x1024 .f32) (n k : ℕ) : Vec F S1x128 .f32 :=
  fun y => w (ix2 (Fin.ofNat 32 n) (Fin.ofNat 1024 (128 * k + (y 1).val)))

/-- 256 rows of an extended array from row `o` on, on strip `k`. -/
def tap (a : Vec F S288x1024 .f32) (o k : ℕ) : Vec F S256x128 .f32 :=
  fun y => a (ix2 (Fin.ofNat 288 (o + (y 0).val)) (Fin.ofNat 1024 (128 * k + (y 1).val)))

/-- 280 rows of an extended array from row `o` on, on strip `k`. -/
def band (a : Vec F S288x1024 .f32) (o k : ℕ) : Vec F S280x128 .f32 :=
  fun y => a (ix2 (Fin.ofNat 288 (o + (y 0).val)) (Fin.ofNat 1024 (128 * k + (y 1).val)))

/-- Rows `o` on of one of the moved copies. -/
def slab (w : Vec F S1x280x128 .f32) (o : ℕ) : Vec F S1x256x128 .f32 :=
  fun y => w (ix3 0 (Fin.ofNat 280 (o + (y 1).val)) (y 2))

/-- Strip `k` of the filter's bias. -/
def bias (b : Vec F S1x1024 .f32) (k : ℕ) : Vec F S1x128 .f32 := fun y => b (ix2 0 (Fin.ofNat 1024 (128 * k + (y 1).val)))

/-- The filter after `n` taps. -/
def acc (w : Vec F S32x1024 .f32) (b : Vec F S1x1024 .f32) (d : Vec F S288x1024 .f32) (k : ℕ) : ℕ → Vec F S256x128 .f32
  | 0 => broadcastTo S256x128 (bias b k) broadcasts_S1x128_S256x128
  | n + 1 => addf (acc w b d k n) (mulf (broadcastTo S256x128 (coef w n k) broadcasts_S1x128_S256x128) (tap d (1 + n) k))

/-! ## Loads -/

variable {sig' : RefSig} {κ : Kind} {sp : Space}

theorem readAt_coef {off : Fin 2 → ℕ} {n k : ℕ} (e : off = ![n, 128 * k]) (hn : n < 32) (hk : k < 8)
    (v : View sig' κ sp S32x1024 .f32) (h : ∀ a, off a + S1x128.size a ≤ S32x1024.size a) (f : v.ty.Contents (Elt F)) :
    v.readAt (Elt F) (Rect.unit (s := S32x1024) off S1x128.size h).toLoadRect f = coef (v.read (Elt F) f) n k := by
  subst e
  funext y
  refine congrArg (v.read (Elt F) f) (Shape.idx_ext₂ ?_ ?_)
  · have h0 : (y 0).val < 1 := (y 0).isLt
    show n + 1 * (y 0).val = n % 32
    omega
  · have h1 : (y 1).val < 128 := (y 1).isLt
    show 128 * k + 1 * (y 1).val = (128 * k + (y 1).val) % 1024
    omega

theorem readAt_bias {off : Fin 2 → ℕ} {k : ℕ} (e : off = ![0, 128 * k]) (hk : k < 8)
    (v : View sig' κ sp S1x1024 .f32) (h : ∀ a, off a + S1x128.size a ≤ S1x1024.size a) (f : v.ty.Contents (Elt F)) :
    v.readAt (Elt F) (Rect.unit (s := S1x1024) off S1x128.size h).toLoadRect f = bias (v.read (Elt F) f) k := by
  subst e
  funext y
  refine congrArg (v.read (Elt F) f) (Shape.idx_ext₂ ?_ ?_)
  · have h0 : (y 0).val < 1 := (y 0).isLt
    show 0 + 1 * (y 0).val = 0
    omega
  · have h1 : (y 1).val < 128 := (y 1).isLt
    show 128 * k + 1 * (y 1).val = (128 * k + (y 1).val) % 1024
    omega

theorem readAt_tap {off : Fin 2 → ℕ} {n k : ℕ} (e : off = ![n, 128 * k]) (hn : n ≤ 32) (hk : k < 8)
    (v : View sig' κ sp S288x1024 .f32) (h : ∀ a, off a + S256x128.size a ≤ S288x1024.size a) (f : v.ty.Contents (Elt F)) :
    v.readAt (Elt F) (Rect.unit (s := S288x1024) off S256x128.size h).toLoadRect f = tap (v.read (Elt F) f) n k := by
  subst e
  funext y
  refine congrArg (v.read (Elt F) f) (Shape.idx_ext₂ ?_ ?_)
  · have h0 : (y 0).val < 256 := (y 0).isLt
    show n + 1 * (y 0).val = (n + (y 0).val) % 288
    omega
  · have h1 : (y 1).val < 128 := (y 1).isLt
    show 128 * k + 1 * (y 1).val = (128 * k + (y 1).val) % 1024
    omega

theorem readAt_band {off : Fin 2 → ℕ} {n k : ℕ} (e : off = ![n, 128 * k]) (hn : n ≤ 8) (hk : k < 8)
    (v : View sig' κ sp S288x1024 .f32) (h : ∀ a, off a + S280x128.size a ≤ S288x1024.size a) (f : v.ty.Contents (Elt F)) :
    v.readAt (Elt F) (Rect.unit (s := S288x1024) off S280x128.size h).toLoadRect f = band (v.read (Elt F) f) n k := by
  subst e
  funext y
  refine congrArg (v.read (Elt F) f) (Shape.idx_ext₂ ?_ ?_)
  · have h0 : (y 0).val < 280 := (y 0).isLt
    show n + 1 * (y 0).val = (n + (y 0).val) % 288
    omega
  · have h1 : (y 1).val < 128 := (y 1).isLt
    show 128 * k + 1 * (y 1).val = (128 * k + (y 1).val) % 1024
    omega

/-- The copy a load names, when it is the one written last. -/
theorem cov_hit (v : View sig' κ sp S8x280x128 .f32) {a o : ℕ} (h : ∀ b, (![a, 0, 0] : Fin 3 → ℕ) b + (![1, 280, 128] : Fin 3 → ℕ) b ≤ S8x280x128.size b)
    (w : Vec F S1x280x128 .f32) (L : List (View.Piece (Elt F) S8x280x128 .f32))
    (h' : ∀ b, (![a, o, 0] : Fin 3 → ℕ) b + (![1, 256, 128] : Fin 3 → ℕ) b ≤ S8x280x128.size b) :
    v.readCov ((⟨Rect.unit (s := S8x280x128) ![a, 0, 0] ![1, 280, 128] h, w⟩ : View.Piece (Elt F) S8x280x128 .f32) :: L)
      (Rect.unit (s := S8x280x128) ![a, o, 0] ![1, 256, 128] h').toLoadRect = slab w o := by
  have ho : o + 256 ≤ 280 := h' 1
  rw [View.readCov_eq_canon']
  funext y
  have h0 : (y 0).val < 1 := (y 0).isLt
  have h1 : (y 1).val < 256 := (y 1).isLt
  have e : (Rect.unit (s := S8x280x128) ![a, o, 0] ![1, 256, 128] h').toLoadRect.idx y
      = (Rect.unit (s := S8x280x128) ![a, 0, 0] ![1, 280, 128] h).emb (ix3 0 (Fin.ofNat 280 (o + (y 1).val)) (y 2)) := by
    funext b
    refine Fin.ext ?_
    match b with
    | ⟨0, _⟩ => show a + 1 * (y 0).val = a + 1 * 0; omega
    | ⟨1, _⟩ => show o + 1 * (y 1).val = 0 + 1 * ((o + (y 1).val) % 280); omega
    | ⟨2, _⟩ => rfl
  rw [e, View.canon_cons_emb]
  rfl

/-- And when it is another. -/
theorem cov_skip (v : View sig' κ sp S8x280x128 .f32) {a b o : ℕ} (hab : a ≠ b)
    (h : ∀ c, (![b, 0, 0] : Fin 3 → ℕ) c + (![1, 280, 128] : Fin 3 → ℕ) c ≤ S8x280x128.size c)
    (w : Vec F S1x280x128 .f32) (L : List (View.Piece (Elt F) S8x280x128 .f32))
    (h' : ∀ c, (![a, o, 0] : Fin 3 → ℕ) c + (![1, 256, 128] : Fin 3 → ℕ) c ≤ S8x280x128.size c) :
    v.readCov ((⟨Rect.unit (s := S8x280x128) ![b, 0, 0] ![1, 280, 128] h, w⟩ : View.Piece (Elt F) S8x280x128 .f32) :: L)
      (Rect.unit (s := S8x280x128) ![a, o, 0] ![1, 256, 128] h').toLoadRect
      = v.readCov L (Rect.unit (s := S8x280x128) ![a, o, 0] ![1, 256, 128] h').toLoadRect := by
  rw [View.readCov_eq_canon', View.readCov_eq_canon']
  funext y
  refine View.canon_cons_of_not_mem _ _ fun hm => ?_
  have h0 : (y 0).val < 1 := (y 0).isLt
  have hm' := (Rect.mem_set_unit (inb := h)).mp hm 0
  have e1 : b ≤ a + 1 * (y 0).val := hm'.1
  have e2 : a + 1 * (y 0).val < b + 1 := hm'.2
  omega

/-- A copy moved by `r` rows, read from row `o` on, is the rows from `r + o` on. -/
theorem slab_band (a : Vec F S288x1024 .f32) (r o k : ℕ) (ho : o ≤ 24) (hr : r ≤ 8) :
    shapeCast (α := F .f32) S256x128 (slab (F := F) (shapeCast (α := F .f32) S1x280x128 (band a r k) shapeCasts_S280x128_S1x280x128) o)
      shapeCasts_S1x256x128_S256x128 = tap a (r + o) k := by
  funext y
  have h0 : (y 0).val < 256 := (y 0).isLt
  refine (shapeCast_dropUnit_apply _ _ _ y).trans ?_
  refine (shapeCast_addUnit_apply _ _ _ _).trans ?_
  refine congrArg a (Shape.idx_ext₂ ?_ rfl)
  show (r + (o + (y 0).val) % 280) % 288 = (r + o + (y 0).val) % 288
  omega

end Cert.Mix

end
-- ==== Proof.Mix.Trip.lean ====
module

public import proofs.«01_k».proof.Proof.Mix.Taps
public import Idealize.ShloMosaic.Lib.Exec
public import Idealize.ShloMosaic.Lib.Tactic
public import Idealize.ShloMosaic.Lib.Pipeline.Frame

/-!
# The loop over strips of columns

One trip takes 128 columns and leaves the filter's output on them.
-/

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rows of the filter's output after `n` trips, from what was there. -/
def convUpto (w : Vec F S32x1024 .f32) (b : Vec F S1x1024 .f32) (d : Vec F S288x1024 .f32) (g : Vec F S256x1024 .f32) (n : ℕ) : Vec F S256x1024 .f32 :=
  fun y => if (y 1).val / 128 < n then acc w b d ((y 1).val / 128) 31 (ix2 (y 0) (Fin.ofNat 128 (y 1).val)) else g y

/-- The same, `g` itself before the first trip. -/
@[reducible] def convAfter (w : Vec F S32x1024 .f32) (b : Vec F S1x1024 .f32) (d : Vec F S288x1024 .f32) (g : Vec F S256x1024 .f32) : ℕ → Vec F S256x1024 .f32
  | 0 => g
  | n + 1 => convUpto w b d g (n + 1)

theorem convAfter_eq (w : Vec F S32x1024 .f32) (b : Vec F S1x1024 .f32) (d : Vec F S288x1024 .f32) (g : Vec F S256x1024 .f32) (n : ℕ) :
    convAfter w b d g n = convUpto w b d g n := by
  cases n with
  | zero => funext y; exact (if_neg (Nat.not_lt_zero _)).symm
  | succ n => rfl

variable {sig' : RefSig} {κ : Kind} {sp : Space}

/-- One trip's store of the filter's output. -/
theorem convAfter_succ {w : Vec F S32x1024 .f32} {b : Vec F S1x1024 .f32} {d : Vec F S288x1024 .f32} {g : Vec F S256x1024 .f32} {k : ℕ}
    (v : View sig' κ sp S256x1024 .f32) {f : v.ty.Contents (Elt F)} (hf : v.read (Elt F) f = convAfter w b d g k)
    {off : Fin 2 → ℕ} (e : off = ![0, 128 * k]) (h : ∀ a, off a + S256x128.size a ≤ S256x1024.size a)
    {u : Vec F S256x128 .f32} (hu : u = acc w b d k 31) :
    v.read (Elt F) (v.writes (Elt F) f [(⟨Rect.unit (s := S256x1024) off S256x128.size h, u⟩ : View.Piece (Elt F) S256x1024 .f32)])
      = convAfter w b d g (k + 1) := by
  rw [convAfter_eq] at hf ⊢
  funext y
  have h0 : (y 0).val < 256 := (y 0).isLt
  rw [View.read_writes_cons_unit v f h u [] y e]
  by_cases hy : (y 1).val / 128 = k
  · have hin : ∀ a : Fin 2, (![0, 128 * k] : Fin 2 → ℕ) a ≤ (y a).val ∧ (y a).val < (![0, 128 * k] : Fin 2 → ℕ) a + S256x128.size a := by
      intro a
      match a with
      | ⟨0, _⟩ => exact ⟨Nat.zero_le _, by show (y 0).val < 0 + 256; omega⟩
      | ⟨1, _⟩ => exact ⟨by show 128 * k ≤ (y 1).val; omega, by show (y 1).val < 128 * k + 128; omega⟩
    rw [dif_pos hin]
    unfold convUpto
    rw [if_pos (by omega), hu, hy]
    refine congrArg (acc w b d k 31) (Shape.idx_ext₂ ?_ ?_)
    · show (y 0).val - 0 = (y 0).val; omega
    · show (y 1).val - 128 * k = (y 1).val % 128; omega
  · have hout : ¬ ∀ a : Fin 2, (![0, 128 * k] : Fin 2 → ℕ) a ≤ (y a).val ∧ (y a).val < (![0, 128 * k] : Fin 2 → ℕ) a + S256x128.size a := by
      intro hin
      have a1 : 128 * k ≤ (y 1).val := (hin 1).1
      have a2 : (y 1).val < 128 * k + 128 := (hin 1).2
      omega
    rw [dif_neg hout]
    show v.read (Elt F) f y = _
    rw [hf]
    unfold convUpto
    by_cases hlt : (y 1).val / 128 < k
    · rw [if_pos hlt, if_pos (by omega)]
    · rw [if_neg hlt, if_neg (by omega)]

set_option warn.classDefReducibility false in
set_option maxHeartbeats 4000000 in
/-- The loop by what the trips before leave. -/
@[sl_loop] def strips (𝒱 : Variants) (c : Dev nD) (bd : Option 𝒱.V) (E : Set ℕ)
    (i : grid0.Coords) (arg1 : Memref sig .tc .vmem S16x3072 .f32) (harg1 : arg1.IsWhole) (arg2 : Memref sig .tc
    .vmem S256x5120 .f32) (harg2 : arg2.IsWhole) (arg3 : Memref sig .tc .vmem S16x3072 .f32) (harg3 : arg3.IsWhole)
    (arg4 : Memref sig .tc .vmem S256x1024 .f32) (harg4 : arg4.IsWhole) (arg5 : Memref sig .tc .vmem S256x1024 .f32)
    (harg5 : arg5.IsWhole) (arg6 : Memref sig .tc .vmem S1x2048 .f32) (harg6 : arg6.IsWhole) (arg7 : Memref sig .tc
    .vmem S32x1024 .f32) (harg7 : arg7.IsWhole) (arg8 : Memref sig .tc .vmem S1x1024 .f32) (harg8 : arg8.IsWhole)
    (arg9 : Memref sig .tc .vmem S1x1024 .f32) (harg9 : arg9.IsWhole) (arg10 : Memref sig .tc .vmem S1x1024 .f32)
    (harg10 : arg10.IsWhole) (arg11 : Memref sig .tc .vmem S1x1024 .f32) (harg11 : arg11.IsWhole) (arg12 : Memref
    sig .tc .vmem S1024x1024 .bf16) (harg12 : arg12.IsWhole) (arg13 : Memref sig .tc .vmem S4x256x256 .bf16) (harg13
    : arg13.IsWhole) (arg14 : Memref sig .tc .vmem S1024x1024 .bf16) (harg14 : arg14.IsWhole) (arg15 : Memref sig
    .tc .vmem S1024x1024 .bf16) (harg15 : arg15.IsWhole) (arg16 : Memref sig .tc .vmem S256x1024 .f32) (harg16 :
    arg16.IsWhole) (arg17 : Memref sig .tc .vmem S256x1024 .f32) (harg17 : arg17.IsWhole) (arg18 : Memref sig .tc
    .vmem S256x1024 .f32) (harg18 : arg18.IsWhole) (arg19 : Memref sig .tc .vmem S256x1024 .bf16) (harg19 :
    arg19.IsWhole) (arg20 : Memref sig .tc .vmem S256x1024 .bf16) (harg20 : arg20.IsWhole) (arg21 : Memref sig .tc
    .vmem S256x1024 .f32) (harg21 : arg21.IsWhole) (arg22 : Memref sig .tc .vmem S256x1024 .bf16) (harg22 :
    arg22.IsWhole) (arg23 : Memref sig .tc .vmem S256x1024 .f32) (harg23 : arg23.IsWhole) (arg24 : Memref sig .tc
    .vmem S256x1024 .bf16) (harg24 : arg24.IsWhole) (arg25 : Memref sig .tc .vmem S288x1024 .f32) (harg25 :
    arg25.IsWhole) (arg26 : Memref sig .tc .vmem S288x1024 .f32) (harg26 : arg26.IsWhole) (arg27 : Memref sig .tc
    .vmem S8x280x128 .f32) (harg27 : arg27.IsWhole)
    (v68 : FVec F S16x1024 .f32) {X_arg7 : BufTy.Contents (Elt F) arg7.view.ty} {X_arg8 : BufTy.Contents (Elt F) arg8.view.ty}
    {X_arg25 : BufTy.Contents (Elt F) arg25.view.ty} {G_arg21 : BufTy.Contents (Elt F) arg21.view.ty} :
    Idealize.ShloMosaic.LoopInv (M := MT nD τ sig Unit (Elt F) ℕ (UR sig nD τ) ℕ) Idealize.ShloMosaic.frame
    (wpE (defs₀ (F := F)) 𝒱 (c : Thread nD τ) bd) E k0_t1_loop.lb k0_t1_loop.ub k0_t1_loop.st k0_t1_ok ()
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v68) where
  inv n _ := iprop((arg7.view.loc (c : Thread nD τ) ↦[arg7.view.set]{fullShare} X_arg7)
    ∗ (arg8.view.loc (c : Thread nD τ) ↦[arg8.view.set]{fullShare} X_arg8)
    ∗ (∃ f, (arg21.view.loc (c : Thread nD τ) ↦[arg21.view.set]{fullShare} f)
        ∗ ⌜arg21.view.read (Elt F) f = convAfter (arg7.view.read (Elt F) X_arg7) (arg8.view.read (Elt F) X_arg8) (arg25.view.read (Elt F) X_arg25) (arg21.view.read (Elt F) G_arg21) n⌝)
    ∗ (arg25.view.loc (c : Thread nD τ) ↦[arg25.view.set]{fullShare} X_arg25)
    ∗ (∃ f, (arg27.view.loc (c : Thread nD τ) ↦[arg27.view.set]{fullShare} f)))
  step k acc := by
    have hk : k.val < 8 := Nat.lt_of_lt_of_le k.isLt k0_t1_abs.2.1
    unfold k0_t1_body
    iintro ⟨HR_arg7, HR_arg8, ⟨%f_arg21, HW_arg21, %h_arg21⟩, HR_arg25, ⟨%f_arg27, HW_arg27⟩⟩
    sl_exec
    sl_step
    sl_unfold_run_names
    isplitl [HR_arg7]; · iexact HR_arg7
    isplitl [HR_arg8]; · iexact HR_arg8
    isplitl [HW_arg21]
    · iexists _; isplitl [HW_arg21]; · iexact HW_arg21
      ipureintro
      refine convAfter_succ _ h_arg21 (k0_off43_eq k) _ ?_
      simp (disch := decide) only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay31, shapeCast_self, cov_hit, cov_skip,
        readAt_band (k0_off1_eq k) (by decide) hk,
        readAt_band (k0_off2_eq k) (by decide) hk,
        readAt_band (k0_off3_eq k) (by decide) hk,
        readAt_band (k0_off4_eq k) (by decide) hk,
        readAt_band (k0_off5_eq k) (by decide) hk,
        readAt_band (k0_off6_eq k) (by decide) hk,
        readAt_band (k0_off7_eq k) (by decide) hk,
        readAt_bias (k0_off8_eq k) hk,
        readAt_coef (k0_off9_eq k) (by decide) hk,
        readAt_coef (k0_off10_eq k) (by decide) hk,
        readAt_coef (k0_off11_eq k) (by decide) hk,
        readAt_coef (k0_off12_eq k) (by decide) hk,
        readAt_coef (k0_off13_eq k) (by decide) hk,
        readAt_coef (k0_off14_eq k) (by decide) hk,
        readAt_coef (k0_off15_eq k) (by decide) hk,
        readAt_coef (k0_off16_eq k) (by decide) hk,
        readAt_coef (k0_off18_eq k) (by decide) hk,
        readAt_coef (k0_off19_eq k) (by decide) hk,
        readAt_coef (k0_off20_eq k) (by decide) hk,
        readAt_coef (k0_off21_eq k) (by decide) hk,
        readAt_coef (k0_off22_eq k) (by decide) hk,
        readAt_coef (k0_off23_eq k) (by decide) hk,
        readAt_coef (k0_off24_eq k) (by decide) hk,
        readAt_coef (k0_off25_eq k) (by decide) hk,
        readAt_coef (k0_off27_eq k) (by decide) hk,
        readAt_coef (k0_off28_eq k) (by decide) hk,
        readAt_coef (k0_off29_eq k) (by decide) hk,
        readAt_coef (k0_off30_eq k) (by decide) hk,
        readAt_coef (k0_off31_eq k) (by decide) hk,
        readAt_coef (k0_off32_eq k) (by decide) hk,
        readAt_coef (k0_off33_eq k) (by decide) hk,
        readAt_coef (k0_off34_eq k) (by decide) hk,
        readAt_coef (k0_off36_eq k) (by decide) hk,
        readAt_coef (k0_off37_eq k) (by decide) hk,
        readAt_coef (k0_off38_eq k) (by decide) hk,
        readAt_coef (k0_off39_eq k) (by decide) hk,
        readAt_coef (k0_off40_eq k) (by decide) hk,
        readAt_coef (k0_off41_eq k) (by decide) hk,
        readAt_coef (k0_off42_eq k) (by decide) hk,
        readAt_tap (k0_off17_eq k) (by decide) hk,
        readAt_tap (k0_off26_eq k) (by decide) hk,
        readAt_tap (k0_off35_eq k) (by decide) hk,
        slab_band]
      rfl
    isplitl [HR_arg25]; · iexact HR_arg25
    iexists _; iexact HW_arg27

end Cert.Mix

end
-- ==== Proof.Mix.Boxes.lean ====
module

public import proofs.«01_k».proof.Proof.Mix.Taps
public import Idealize.ShloMosaic.Lib.VecWindow

/-! # Loads and stores of the mixers' body beside the loop -/

@[expose] public section

set_option maxRecDepth 16384

noncomputable section

namespace Cert.Mix

open Cert.Kernel5Ideal Cert.Kernel5Ideal.Gen
open Idealize.ShloMosaic Idealize.ShloMosaic.TcCoe Idealize.ShloMosaic.Tactic

variable {F : FTy → Type} [FloatOps F]

/-! ## Boxes of an array -/

/-- The columns of a border. -/
def border (b : ℕ) (a : Vec F S16x3072 .f32) : Vec F S16x1024 .f32 := fun y => a (ix2 (y 0) (Fin.ofNat 3072 (b + (y 1).val)))
/-- The columns of a block. -/
def cols (b : ℕ) (a : Vec F S256x5120 .f32) : Vec F S256x1024 .f32 := fun y => a (ix2 (y 0) (Fin.ofNat 5120 (b + (y 1).val)))
/-- The columns of the gates' bias. -/
def lane (b : ℕ) (a : Vec F S1x2048 .f32) : Vec F S1x1024 .f32 := fun y => a (ix2 0 (Fin.ofNat 2048 (b + (y 1).val)))
/-- 256 rows and columns of an extended array. -/
def box (r b : ℕ) (a : Vec F S288x1024 .f32) : Vec F S256x256 .f32 := fun y => a (ix2 (Fin.ofNat 288 (r + (y 0).val)) (Fin.ofNat 1024 (b + (y 1).val)))
/-- One group's pool matrix. -/
def sheet (s : ℕ) (a : Vec F S4x256x256 .bf16) : Vec F S1x256x256 .bf16 := fun y => a (ix3 (Fin.ofNat 4 s) (y 1) (y 2))

/-- A block between its borders. -/
def ext (a : Vec F S16x1024 .f32) (b : Vec F S256x1024 .f32) (c : Vec F S16x1024 .f32) : Vec F S288x1024 .f32 := fun y =>
  if (y 0).val < 16 then a (ix2 (Fin.ofNat 16 (y 0).val) (y 1))
  else if (y 0).val < 272 then b (ix2 (Fin.ofNat 256 ((y 0).val - 16)) (y 1))
  else c (ix2 (Fin.ofNat 16 ((y 0).val - 272)) (y 1))

/-- A block, from what is stored in its four groups of columns. -/
def quad {e : EltTy} (p0 p1 p2 p3 : Vec F S256x256 e) : Vec F S256x1024 e := fun y =>
  if (y 1).val < 256 then p0 (ix2 (y 0) (Fin.ofNat 256 (y 1).val))
  else if (y 1).val < 512 then p1 (ix2 (y 0) (Fin.ofNat 256 ((y 1).val - 256)))
  else if (y 1).val < 768 then p2 (ix2 (y 0) (Fin.ofNat 256 ((y 1).val - 512)))
  else p3 (ix2 (y 0) (Fin.ofNat 256 ((y 1).val - 768)))

/-! ## Loads -/

variable {sig' : RefSig} {κ : Kind} {sp : Space}

theorem readAt_border {b : ℕ} (v : View sig' κ sp S16x3072 .f32) (h : ∀ a, (![0, b] : Fin 2 → ℕ) a + (![16, 1024] : Fin 2 → ℕ) a ≤ S16x3072.size a) (f : v.ty.Contents (Elt F)) :
    v.readAt (Elt F) (Rect.unit (s := S16x3072) ![0, b] ![16, 1024] h).toLoadRect f = border b (v.read (Elt F) f) := by
  have hb : b + 1024 ≤ 3072 := h 1
  funext y
  have h0 : (y 0).val < 16 := (y 0).isLt
  have h1 : (y 1).val < 1024 := (y 1).isLt
  refine congrArg (v.read (Elt F) f) (Shape.idx_ext₂ ?_ ?_)
  · show 0 + 1 * (y 0).val = (y 0).val
    omega
  · show b + 1 * (y 1).val = (b + (y 1).val) % 3072
    omega

theorem readAt_cols {b : ℕ} (v : View sig' κ sp S256x5120 .f32) (h : ∀ a, (![0, b] : Fin 2 → ℕ) a + (![256, 1024] : Fin 2 → ℕ) a ≤ S256x5120.size a) (f : v.ty.Contents (Elt F)) :
    v.readAt (Elt F) (Rect.unit (s := S256x5120) ![0, b] ![256, 1024] h).toLoadRect f = cols b (v.read (Elt F) f) := by
  have hb : b + 1024 ≤ 5120 := h 1
  funext y
  have h0 : (y 0).val < 256 := (y 0).isLt
  have h1 : (y 1).val < 1024 := (y 1).isLt
  refine congrArg (v.read (Elt F) f) (Shape.idx_ext₂ ?_ ?_)
  · show 0 + 1 * (y 0).val = (y 0).val
    omega
  · show b + 1 * (y 1).val = (b + (y 1).val) % 5120
    omega

theorem readAt_lane {b : ℕ} (v : View sig' κ sp S1x2048 .f32) (h : ∀ a, (![0, b] : Fin 2 → ℕ) a + (![1, 1024] : Fin 2 → ℕ) a ≤ S1x2048.size a) (f : v.ty.Contents (Elt F)) :
    v.readAt (Elt F) (Rect.unit (s := S1x2048) ![0, b] ![1, 1024] h).toLoadRect f = lane b (v.read (Elt F) f) := by
  have hb : b + 1024 ≤ 2048 := h 1
  funext y
  have h0 : (y 0).val < 1 := (y 0).isLt
  have h1 : (y 1).val < 1024 := (y 1).isLt
  refine congrArg (v.read (Elt F) f) (Shape.idx_ext₂ ?_ ?_)
  · show 0 + 1 * (y 0).val = 0
    omega
  · show b + 1 * (y 1).val = (b + (y 1).val) % 2048
    omega

theorem readAt_box {r b : ℕ} (v : View sig' κ sp S288x1024 .f32) (h : ∀ a, (![r, b] : Fin 2 → ℕ) a + (![256, 256] : Fin 2 → ℕ) a ≤ S288x1024.size a) (f : v.ty.Contents (Elt F)) :
    v.readAt (Elt F) (Rect.unit (s := S288x1024) ![r, b] ![256, 256] h).toLoadRect f = box r b (v.read (Elt F) f) := by
  have hb : b + 256 ≤ 1024 := h 1
  have hr : r + 256 ≤ 288 := h 0
  funext y
  have h0 : (y 0).val < 256 := (y 0).isLt
  have h1 : (y 1).val < 256 := (y 1).isLt
  refine congrArg (v.read (Elt F) f) (Shape.idx_ext₂ ?_ ?_)
  · show r + 1 * (y 0).val = (r + (y 0).val) % 288
    omega
  · show b + 1 * (y 1).val = (b + (y 1).val) % 1024
    omega

theorem readCov_box {r b : ℕ} (v : View sig' κ sp S288x1024 .f32) (h : ∀ a, (![r, b] : Fin 2 → ℕ) a + (![256, 256] : Fin 2 → ℕ) a ≤ S288x1024.size a) (L : List (View.Piece (Elt F) S288x1024 .f32)) :
    v.readCov L (Rect.unit (s := S288x1024) ![r, b] ![256, 256] h).toLoadRect = box r b (v.read (Elt F) (v.writes (Elt F) v.junk L)) :=
  readAt_box v h _

theorem readAt_sheet {s : ℕ} (v : View sig' κ sp S4x256x256 .bf16)
    (h : ∀ a, (![s, 0, 0] : Fin 3 → ℕ) a + (![1, 256, 256] : Fin 3 → ℕ) a ≤ S4x256x256.size a) (f : v.ty.Contents (Elt F)) :
    v.readAt (Elt F) (Rect.unit (s := S4x256x256) ![s, 0, 0] ![1, 256, 256] h).toLoadRect f = sheet s (v.read (Elt F) f) := by
  have hs : s + 1 ≤ 4 := h 0
  funext y
  have h0 : (y 0).val < 1 := (y 0).isLt
  refine congrArg (v.read (Elt F) f) (funext fun b => Fin.ext ?_)
  match b with
  | ⟨0, _⟩ => show s + 1 * (y 0).val = s % 4; omega
  | ⟨1, _⟩ => show 0 + 1 * (y 1).val = (y 1).val; omega
  | ⟨2, _⟩ => show 0 + 1 * (y 2).val = (y 2).val; omega

/-! ## Stores -/

/-- One more store of whole rows, and one of whole columns, at a point inside it and at one beside it. -/
theorem read_box_in {s : Shape} {e : EltTy} (v : View sig' κ sp s e) (f : v.ty.Contents (Elt F)) {off size : Fin s.rank → ℕ}
    (h : ∀ a, off a + size a ≤ s.size a) (u : (Rect.unit off size h).shape.Idx → Elt F e) (L : List (View.Piece (Elt F) s e))
    (y : s.Idx) (x : (Rect.unit off size h).shape.Idx) (hx : ∀ a, (y a).val = off a + (x a).val) :
    v.read (Elt F) (v.writes (Elt F) f ((⟨Rect.unit off size h, u⟩ : View.Piece (Elt F) s e) :: L)) y = u x :=
  View.read_writes_cons_unit_of_mem v f h u L y x rfl hx

theorem read_box_out {s : Shape} {e : EltTy} (v : View sig' κ sp s e) (f : v.ty.Contents (Elt F)) {off size : Fin s.rank → ℕ}
    (h : ∀ a, off a + size a ≤ s.size a) (u : (Rect.unit off size h).shape.Idx → Elt F e) (L : List (View.Piece (Elt F) s e))
    (y : s.Idx) (a : Fin s.rank) (ha : (y a).val < off a ∨ off a + size a ≤ (y a).val) :
    v.read (Elt F) (v.writes (Elt F) f ((⟨Rect.unit off size h, u⟩ : View.Piece (Elt F) s e) :: L)) y
      = v.read (Elt F) (v.writes (Elt F) f L) y :=
  View.read_writes_cons_unit_of_not_mem v f h u L y rfl a ha

/-- The three stores of an extended array. -/
theorem read_ext (v : View sig' κ sp S288x1024 .f32) (f : v.ty.Contents (Elt F))
    (h3 : ∀ a, (![272, 0] : Fin 2 → ℕ) a + (![16, 1024] : Fin 2 → ℕ) a ≤ S288x1024.size a)
    (h2 : ∀ a, (![16, 0] : Fin 2 → ℕ) a + (![256, 1024] : Fin 2 → ℕ) a ≤ S288x1024.size a)
    (h1 : ∀ a, (![0, 0] : Fin 2 → ℕ) a + (![16, 1024] : Fin 2 → ℕ) a ≤ S288x1024.size a)
    (a : Vec F S16x1024 .f32) (b : Vec F S256x1024 .f32) (c : Vec F S16x1024 .f32) :
    v.read (Elt F) (v.writes (Elt F) f [(⟨Rect.unit (s := S288x1024) ![272, 0] ![16, 1024] h3, c⟩ : View.Piece (Elt F) S288x1024 .f32),
      (⟨Rect.unit (s := S288x1024) ![16, 0] ![256, 1024] h2, b⟩ : View.Piece (Elt F) S288x1024 .f32),
      (⟨Rect.unit (s := S288x1024) ![0, 0] ![16, 1024] h1, a⟩ : View.Piece (Elt F) S288x1024 .f32)])
      = ext a b c := by
  funext y
  have h0 : (y 0).val < 288 := (y 0).isLt
  unfold ext
  by_cases k1 : (y 0).val < 16
  · rw [if_pos k1]
    refine (read_box_out v f h3 _ _ y 0 (.inl ?_)).trans ((read_box_out v f h2 _ _ y 0 (.inl ?_)).trans
      (read_box_in v f h1 _ _ y (ix2 (Fin.ofNat 16 (y 0).val) (y 1)) fun d => ?_))
    · show (y 0).val < 272; omega
    · show (y 0).val < 16; omega
    · match d with
      | ⟨0, _⟩ => show (y 0).val = 0 + (y 0).val % 16; omega
      | ⟨1, _⟩ => show (y 1).val = 0 + (y 1).val; omega
  · rw [if_neg k1]
    by_cases k2 : (y 0).val < 272
    · rw [if_pos k2]
      refine (read_box_out v f h3 _ _ y 0 (.inl ?_)).trans
        (read_box_in v f h2 _ _ y (ix2 (Fin.ofNat 256 ((y 0).val - 16)) (y 1)) fun d => ?_)
      · show (y 0).val < 272; omega
      · match d with
        | ⟨0, _⟩ => show (y 0).val = 16 + ((y 0).val - 16) % 256; omega
        | ⟨1, _⟩ => show (y 1).val = 0 + (y 1).val; omega
    · rw [if_neg k2]
      refine read_box_in v f h3 _ _ y (ix2 (Fin.ofNat 16 ((y 0).val - 272)) (y 1)) fun d => ?_
      match d with
      | ⟨0, _⟩ => show (y 0).val = 272 + ((y 0).val - 272) % 16; omega
      | ⟨1, _⟩ => show (y 1).val = 0 + (y 1).val; omega

/-- The four stores of a block. -/
theorem read_quad {e : EltTy} (v : View sig' κ sp S256x1024 e) (f : v.ty.Contents (Elt F))
    (h4 : ∀ a, (![0, 768] : Fin 2 → ℕ) a + (![256, 256] : Fin 2 → ℕ) a ≤ S256x1024.size a)
    (h3 : ∀ a, (![0, 512] : Fin 2 → ℕ) a + (![256, 256] : Fin 2 → ℕ) a ≤ S256x1024.size a)
    (h2 : ∀ a, (![0, 256] : Fin 2 → ℕ) a + (![256, 256] : Fin 2 → ℕ) a ≤ S256x1024.size a)
    (h1 : ∀ a, (![0, 0] : Fin 2 → ℕ) a + (![256, 256] : Fin 2 → ℕ) a ≤ S256x1024.size a)
    (p0 p1 p2 p3 : Vec F S256x256 e) :
    v.read (Elt F) (v.writes (Elt F) f [(⟨Rect.unit (s := S256x1024) ![0, 768] ![256, 256] h4, p3⟩ : View.Piece (Elt F) S256x1024 e),
      (⟨Rect.unit (s := S256x1024) ![0, 512] ![256, 256] h3, p2⟩ : View.Piece (Elt F) S256x1024 e),
      (⟨Rect.unit (s := S256x1024) ![0, 256] ![256, 256] h2, p1⟩ : View.Piece (Elt F) S256x1024 e),
      (⟨Rect.unit (s := S256x1024) ![0, 0] ![256, 256] h1, p0⟩ : View.Piece (Elt F) S256x1024 e)])
      = quad p0 p1 p2 p3 := by
  funext y
  have h0 : (y 1).val < 1024 := (y 1).isLt
  unfold quad
  by_cases k0 : (y 1).val < 256
  · rw [if_pos k0]
    refine (read_box_out v f h4 _ _ y 1 (.inl (by show (y 1).val < 768; omega))).trans ((read_box_out v f h3 _ _ y 1 (.inl (by show (y 1).val < 512; omega))).trans ((read_box_out v f h2 _ _ y 1 (.inl (by show (y 1).val < 256; omega))).trans (read_box_in v f h1 _ _ y (ix2 (y 0) (Fin.ofNat 256 (y 1).val)) fun d => ?_)))
    match d with
    | ⟨0, _⟩ => show (y 0).val = 0 + (y 0).val; omega
    | ⟨1, _⟩ => show (y 1).val = 0 + (y 1).val % 256; omega
  · rw [if_neg k0]
    by_cases k1 : (y 1).val < 512
    · rw [if_pos k1]
      refine (read_box_out v f h4 _ _ y 1 (.inl (by show (y 1).val < 768; omega))).trans ((read_box_out v f h3 _ _ y 1 (.inl (by show (y 1).val < 512; omega))).trans (read_box_in v f h2 _ _ y (ix2 (y 0) (Fin.ofNat 256 ((y 1).val - 256))) fun d => ?_))
      match d with
      | ⟨0, _⟩ => show (y 0).val = 0 + (y 0).val; omega
      | ⟨1, _⟩ => show (y 1).val = 256 + ((y 1).val - 256) % 256; omega
    · rw [if_neg k1]
      by_cases k2 : (y 1).val < 768
      · rw [if_pos k2]
        refine (read_box_out v f h4 _ _ y 1 (.inl (by show (y 1).val < 768; omega))).trans (read_box_in v f h3 _ _ y (ix2 (y 0) (Fin.ofNat 256 ((y 1).val - 512))) fun d => ?_)
        match d with
        | ⟨0, _⟩ => show (y 0).val = 0 + (y 0).val; omega
        | ⟨1, _⟩ => show (y 1).val = 512 + ((y 1).val - 512) % 256; omega
      · rw [if_neg k2]
        refine read_box_in v f h4 _ _ y (ix2 (y 0) (Fin.ofNat 256 ((y 1).val - 768))) fun d => ?_
        match d with
        | ⟨0, _⟩ => show (y 0).val = 0 + (y 0).val; omega
        | ⟨1, _⟩ => show (y 1).val = 768 + ((y 1).val - 768) % 256; omega

theorem readCov_quad {e : EltTy} (v : View sig' κ sp S256x1024 e)
    (h : ∀ a, (![0, 0] : Fin 2 → ℕ) a + (![256, 1024] : Fin 2 → ℕ) a ≤ S256x1024.size a) (L : List (View.Piece (Elt F) S256x1024 e)) :
    v.readCov L (Rect.unit (s := S256x1024) ![0, 0] ![256, 1024] h).toLoadRect = v.read (Elt F) (v.writes (Elt F) v.junk L) := by
  funext y
  refine congrArg (v.read (Elt F) (v.writes (Elt F) v.junk L)) (Shape.idx_ext₂ ?_ ?_)
  · show 0 + 1 * (y 0).val = (y 0).val
    omega
  · show 0 + 1 * (y 1).val = (y 1).val
    omega

end Cert.Mix

end
-- ==== Proof.Mix.Step.lean ====
module

public import proofs.«01_k».proof.Proof.Mix.Trip
public import proofs.«01_k».proof.Proof.Mix.Boxes

/-! # What the mixers' body stores at a point -/

@[expose] public section

set_option maxRecDepth 16384

noncomputable section

namespace Cert.Mix

open Cert.Kernel5Ideal Cert.Kernel5Ideal.Gen
open Idealize.ShloMosaic Idealize.ShloMosaic.TcCoe Idealize.ShloMosaic.Tactic

variable {F : FTy → Type} [FloatOps F]

/-- The blocks a point reads. -/
structure Ins (F : FTy → Type) where
  zp : Vec F S16x3072 .f32
  zc : Vec F S256x5120 .f32
  zn : Vec F S16x3072 .f32
  head : Vec F S256x1024 .f32
  x : Vec F S256x1024 .f32
  bg : Vec F S1x2048 .f32
  wdw : Vec F S32x1024 .f32
  bdw : Vec F S1x1024 .f32
  lng : Vec F S1x1024 .f32
  lnb : Vec F S1x1024 .f32
  ps : Vec F S1x1024 .f32
  wco : Vec F S1024x1024 .bf16
  wpool : Vec F S4x256x256 .bf16
  wpo : Vec F S1024x1024 .bf16
  wo : Vec F S1024x1024 .bf16

/-- The grid's coordinate as the body's word. -/
abbrev word (i : grid0.Coords) : BitVec 32 := BitVec.ofNat 32 (i 0).val

namespace Ins

variable (x : Ins F) (i : BitVec 32)

/-- The gated rows, and the rows the pool means, each with 16 rows of either neighbour. -/
def aext : Vec F S288x1024 .f32 := ext (k0_pay24 (k0_pay21 (border 0 x.zp) (border 1024 x.zp)) (Scalar.cmpi .sgt i 0#32))
  (k0_pay25 (k0_pay22 (cols 0 x.zc) (cols 1024 x.zc))) (k0_pay26 i (k0_pay23 (border 0 x.zn) (border 1024 x.zn)))
def pext : Vec F S288x1024 .f32 := ext (k0_pay27 i (border 2048 x.zp)) (k0_pay28 (cols 2048 x.zc)) (k0_pay30 (k0_pay29 i (border 2048 x.zn)))
/-- The filter's output, its activation, and the convolution branch. -/
def cpre : Vec F S256x1024 .f32 := fun y => acc x.wdw x.bdw (x.aext i) ((y 1).val / 128) 31 (ix2 (y 0) (Fin.ofNat 128 (y 1).val))
def ca : Vec F S256x1024 .bf16 := k0_pay32 (x.cpre i) x.lng x.lnb
def yc : Vec F S256x1024 .f32 := k0_pay33 (x.ca i) x.wco
/-- The four groups' means. -/
def a0 : Vec F S256x256 .f32 := k0_pay35 i (box 15 0 (x.pext i)) (box 16 0 (x.pext i))
def a1 : Vec F S256x256 .f32 := k0_pay38 (k0_pay34 i) (box 14 256 (x.pext i)) (box 15 256 (x.pext i)) (box 16 256 (x.pext i)) (box 17 256 (x.pext i))
def a2 : Vec F S256x256 .f32 := k0_pay41 (box 12 512 (x.pext i)) (box 13 512 (x.pext i)) (box 14 512 (x.pext i)) (box 15 512 (x.pext i))
  (box 16 512 (x.pext i)) (box 17 512 (x.pext i)) (box 18 512 (x.pext i)) (box 19 512 (x.pext i))
def a3 : Vec F S256x256 .f32 := k0_pay46 (k0_pay45 (box 8 768 (x.pext i)) (box 9 768 (x.pext i)) (box 10 768 (x.pext i)) (box 11 768 (x.pext i)) (box 12 768 (x.pext i)))
  (box 13 768 (x.pext i)) (box 14 768 (x.pext i)) (box 15 768 (x.pext i)) (box 16 768 (x.pext i)) (box 17 768 (x.pext i))
  (box 18 768 (x.pext i)) (box 19 768 (x.pext i)) (box 20 768 (x.pext i)) (box 21 768 (x.pext i)) (box 22 768 (x.pext i)) (box 23 768 (x.pext i))
/-- The groups less their means, and their products with the groups' matrices. -/
def m : Vec F S256x1024 .bf16 := quad (k0_pay36 (x.a0 i) (box 16 0 (x.pext i))) (k0_pay39 (x.a1 i) (box 16 256 (x.pext i)))
  (k0_pay43 (k0_pay34 i) (x.a2 i) (k0_pay42 (k0_pay34 i)) (box 16 512 (x.pext i)))
  (k0_pay50 (x.a3 i) (k0_pay47 (k0_pay34 i)) (k0_pay48 (k0_pay34 i)) 4112#32 k0_pay49 (box 16 768 (x.pext i)))
def mw : Vec F S256x1024 .f32 := quad (k0_pay37 (x.a0 i) (box 16 0 (x.pext i)) (sheet 0 x.wpool))
  (k0_pay40 (x.a1 i) (box 16 256 (x.pext i)) (sheet 1 x.wpool))
  (k0_pay44 (k0_pay34 i) (x.a2 i) (k0_pay42 (k0_pay34 i)) (box 16 512 (x.pext i)) (sheet 2 x.wpool))
  (k0_pay51 (x.a3 i) (k0_pay47 (k0_pay34 i)) (k0_pay48 (k0_pay34 i)) 4112#32 k0_pay49 (box 16 768 (x.pext i)) (sheet 3 x.wpool))
/-- Their scaled mix, and the pool branch. -/
def m2 : Vec F S256x1024 .bf16 := k0_pay52 (x.mw i) x.ps
def yp : Vec F S256x1024 .f32 := k0_pay53 (x.mw i) x.ps x.wpo
/-- The gated sum of the branches, and the rows it is added to. -/
def mg : Vec F S256x1024 .bf16 := k0_pay55 (x.yc i) (x.yp i) (k0_pay54 (cols 3072 x.zc)) (lane 0 x.bg) (cols 4096 x.zc) (lane 1024 x.bg)
def h1 : Vec F S256x1024 .f32 :=
  k0_pay56 i (x.yc i) (x.yp i) (k0_pay54 (cols 3072 x.zc)) (lane 0 x.bg) (cols 4096 x.zc) (lane 1024 x.bg) x.head x.x x.wo

theorem cpre_of_trips (g : Vec F S256x1024 .f32) : convUpto x.wdw x.bdw (x.aext i) g 8 = x.cpre i := by
  funext y
  have h1 : (y 1).val < 1024 := (y 1).isLt
  exact if_pos (by omega)

end Ins

theorem trips_eq : Scf.trips k0_t1_loop.lb k0_t1_loop.ub k0_t1_loop.st = 8 := by decide

end Cert.Mix

end
-- ==== Proof.Mix.Values.lean ====
module

public import proofs.«01_k».proof.Proof.Mix.Spec
public import proofs.«01_k».proof.Proof.Mix.Step
public import proofs.«01_k».proof.Proof.Halo.Values
public import Idealize.ShloMosaic.Lib.Pointwise
public import Idealize.ShloMosaic.Lib.Pipeline.ValueKit
public import Idealize.ShloMosaic.Lib.Tactic.CleanTypes

/-!
# What one point of the mixers' kernel computes, entry by entry

Point `q` stands on the 256 rows from row `256 * q + 16` on; its extended arrays begin 16 rows earlier.
-/

@[expose] public section

set_option maxRecDepth 16384

noncomputable section

namespace Cert.Mix

open Cert.Kernel5Ideal Cert.Kernel5Ideal.Gen Cert.Scalars Cert.Mixer
open Cert.Halo (later sooner opening shifted tally)
open Idealize.ShloMosaic Idealize.ShloMosaic.TcCoe Idealize.SL.Sem

/-- The blocks of point `q` hold the rows it stands on. -/
structure IsPoint (x : Ins Ideal) (i : BitVec 32) (q : ℕ) (a : Args) : Prop where
  le : q < 17
  word : i = BitVec.ofNat 32 q
  zp : 0 < q → ∀ (y : Fin 16) (k : Fin 3072), x.zp (ix2 y k) = lay a.z (256 * q + y.val) ⟨k.val, by omega⟩
  zc : ∀ (y : Fin 256) (k : Fin 5120), x.zc (ix2 y k) = lay a.z (256 * q + 16 + y.val) k
  zn : q < 16 → ∀ (y : Fin 16) (k : Fin 3072), x.zn (ix2 y k) = lay a.z (256 * q + 272 + y.val) ⟨k.val, by omega⟩
  head : q = 0 → ∀ (y : Fin 256) j, x.head (ix2 y j) = lay a.row (256 * q + 16 + y.val) j
  body : 0 < q → ∀ (y : Fin 256) j, x.x (ix2 y j) = lay a.row (256 * q + 16 + y.val) j
  bg : ∀ k, x.bg (ix2 0 k) = a.bg k
  wdw : ∀ (k : Fin 31) j, x.wdw (ix2 (Fin.ofNat 32 k.val) j) = a.wd k j
  bdw : ∀ j, x.bdw (ix2 0 j) = a.bd j
  lng : ∀ j, x.lng (ix2 0 j) = a.lng j
  lnb : ∀ j, x.lnb (ix2 0 j) = a.lnb j
  ps : ∀ j, x.ps (ix2 0 j) = a.ps j
  wco : ∀ k j, x.wco (ix2 k j) = a.wco k j
  wpool : ∀ s k j, x.wpool (ix3 s k j) = a.wpool s k j
  wpo : ∀ k j, x.wpo (ix2 k j) = a.wpo k j
  wo : ∀ k j, x.wo (ix2 k j) = a.wo k j

/-! ## How many rows a window has -/

/-- The number of a row, counted from the first. -/
def at_row (q y : ℕ) : BitVec 32 :=
  IntOp.addi (BitVec.ofNat 32 y) (IntOp.subi (IntOp.addi (IntOp.muli (BitVec.ofNat 32 q) 256#32) 0#32) 240#32)

theorem origin : ∀ q < 17, IntOp.subi (IntOp.addi (IntOp.muli (BitVec.ofNat 32 q) 256#32) 0#32) 240#32 = BitVec.ofInt 32 (256 * q - 240) := by decide

theorem at_row_eq {q : ℕ} (hq : q < 17) (y : ℕ) : at_row q y = BitVec.ofInt 32 (256 * q + ((16 + y : ℕ) : ℤ) - 256) := by
  unfold at_row
  rw [origin q hq]
  unfold IntOp.addi
  rw [← BitVec.ofInt_natCast, ← BitVec.ofInt_add]
  congr 1
  push_cast
  ring

theorem tally_row {q y : ℕ} (hq : q < 17) (hy : y < 256) (u : ℕ) (hu : 1 ≤ u ∧ u ≤ 8) :
    (IntOp.maxsi (IntOp.subi (IntOp.minsi 4112#32 (IntOp.maxsi 0#32 (IntOp.addi (IntOp.addi (at_row q y) (BitVec.ofNat 32 (u - 1))) 1#32)))
        (IntOp.minsi 4112#32 (IntOp.maxsi 0#32 (IntOp.subi (at_row q y) (BitVec.ofNat 32 u))))) 1#32).toInt
      = ((size u (256 * q + 16 + y) : ℕ) : ℤ) := by
  have e1 : IntOp.addi (IntOp.addi (at_row q y) (BitVec.ofNat 32 (u - 1))) 1#32 = BitVec.ofInt 32 (256 * q + ((16 + y : ℕ) : ℤ) - 256 + u) := by
    rw [at_row_eq hq]
    unfold IntOp.addi
    rw [← BitVec.ofInt_natCast, show (1#32) = BitVec.ofInt 32 1 from rfl, ← BitVec.ofInt_add, ← BitVec.ofInt_add]
    congr 1
    omega
  have e2 : IntOp.subi (at_row q y) (BitVec.ofNat 32 u) = BitVec.ofInt 32 (256 * q + ((16 + y : ℕ) : ℤ) - 256 + -u) := by
    rw [at_row_eq hq]
    unfold IntOp.subi
    rw [← BitVec.ofInt_natCast, BitVec.ofInt_add, BitVec.ofInt_neg, BitVec.sub_eq_add_neg]
  rw [e1, e2]
  refine (tally _ _ _ _ (shifted hq (by omega) u (by omega)) (shifted hq (by omega) (-u) (by omega)) (by omega) (by omega)).trans ?_
  unfold size
  omega

/-- A sum over the count is the window's mean. -/
theorem mean_of {s s' : EReal} (e : s = s') (v : BitVec 32) (n : ℕ) (hv : v.toInt = (n : ℤ)) :
    Ideal.div s (((v.toInt : ℤ) : ℝ) : EReal) = Ideal.div s' (((n : ℕ) : ℝ) : EReal) := by
  rw [e, hv, Int.cast_natCast]

section
variable {x : Ins Ideal} {i : BitVec 32} {q : ℕ} {a : Args} (P : IsPoint x i q a)
include P

theorem cols_at (b : ℕ) (y : Fin 256) (j : Fin 1024) : cols b x.zc (ix2 y j) = lay a.z (256 * q + 16 + y.val) (part b j) := P.zc y (part b j)

theorem prev_at (h : 0 < q) (b : ℕ) (hb : b ≤ 2048) (y : Fin 16) (j : Fin 1024) : border b x.zp (ix2 y j) = lay a.z (256 * q + y.val) (part b j) :=
  (P.zp h y (Fin.ofNat 3072 (b + j.val))).trans (congrArg (lay a.z (256 * q + y.val)) (Fin.ext (by
    show (b + j.val) % 3072 = (b + j.val) % 5120
    omega)))

theorem next_at (h : q < 16) (b : ℕ) (hb : b ≤ 2048) (y : Fin 16) (j : Fin 1024) : border b x.zn (ix2 y j) = lay a.z (256 * q + 272 + y.val) (part b j) :=
  (P.zn h y (Fin.ofNat 3072 (b + j.val))).trans (congrArg (lay a.z (256 * q + 272 + y.val)) (Fin.ext (by
    show (b + j.val) % 3072 = (b + j.val) % 5120
    omega)))

/-! ## The extended rows -/

/-- An array between its borders, when each is what the row number says. -/
theorem ext_of (u : Vec Ideal S16x1024 .f32) (v : Vec Ideal S256x1024 .f32) (n : Vec Ideal S16x1024 .f32) (f : ℕ → EReal) (j : Fin 1024)
    (hu : ∀ y : Fin 16, u (ix2 y j) = f (256 * q + y.val))
    (hv : ∀ y : Fin 256, v (ix2 y j) = f (256 * q + 16 + y.val))
    (hn : ∀ y : Fin 16, n (ix2 y j) = f (256 * q + 272 + y.val)) (y : Fin 288) :
    ext u v n (ix2 y j) = f (256 * q + y.val) := by
  have hy : y.val < 288 := y.isLt
  unfold ext
  by_cases h1 : y.val < 16
  · refine (if_pos h1).trans ((hu (Fin.ofNat 16 y.val)).trans ?_)
    refine congrArg f ?_
    show 256 * q + y.val % 16 = _
    omega
  refine (if_neg h1).trans ?_
  by_cases h2 : y.val < 272
  · refine (if_pos h2).trans ((hv (Fin.ofNat 256 (y.val - 16))).trans ?_)
    refine congrArg f ?_
    show 256 * q + 16 + (y.val - 16) % 256 = _
    omega
  · refine (if_neg h2).trans ((hn (Fin.ofNat 16 (y.val - 272))).trans ?_)
    refine congrArg f ?_
    show 256 * q + 272 + (y.val - 272) % 16 = _
    omega

theorem row_aext (y : Fin 288) (j : Fin 1024) : x.aext i (ix2 y j) = a.act (256 * q + y.val) j := by
  have hq := P.le
  refine ext_of P _ _ _ (fun r => a.act r j) j (fun y => ?_) (fun y => ?_) (fun y => ?_) y
  · unfold k0_pay24
    rw [P.word, later q hq]
    by_cases h : 0 < q
    · have e := prev_at P h 0 (by decide) y j
      have e' := prev_at P h 1024 (by decide) y j
      rw [if_pos h]; unfold k0_pay21; clean_types; pointwise
      rw [e, e', lit_half]
      erw [half_tanh]
      rfl
    · rw [if_neg h, a.act_out (by omega)]; clean_types; pointwise
  · have e := cols_at P 0 y j
    have e' := cols_at P 1024 y j
    unfold k0_pay25 k0_pay22; clean_types; pointwise
    rw [e, e', lit_half]
    erw [half_tanh]
    rfl
  · unfold k0_pay26
    rw [P.word, sooner q hq]
    by_cases h : q < 16
    · have e := next_at P h 0 (by decide) y j
      have e' := next_at P h 1024 (by decide) y j
      rw [if_pos h]; unfold k0_pay23; clean_types; pointwise
      rw [e, e', lit_half]
      erw [half_tanh]
      rfl
    · rw [if_neg h, a.act_out (by omega)]; clean_types; pointwise

theorem row_pext (y : Fin 288) (j : Fin 1024) : x.pext i (ix2 y j) = lay a.z (256 * q + y.val) (part 2048 j) := by
  have hq := P.le
  refine ext_of P _ _ _ (fun r => lay a.z r (part 2048 j)) j (fun y => ?_) (fun y => ?_) (fun y => ?_) y
  · unfold k0_pay27
    rw [P.word, later q hq]
    by_cases h : 0 < q
    · rw [if_pos h]; clean_types; pointwise; exact prev_at P h 2048 (by decide) y j
    · rw [if_neg h, lay_out _ (by omega)]; clean_types; pointwise
  · unfold k0_pay28; clean_types; pointwise; exact cols_at P 2048 y j
  · unfold k0_pay30 k0_pay29
    rw [P.word, sooner q hq]
    by_cases h : q < 16
    · rw [if_pos h]; clean_types; pointwise; exact next_at P h 2048 (by decide) y j
    · rw [if_neg h, lay_out _ (by omega)]; clean_types; pointwise

/-! ## The convolution branch -/

omit P in
theorem strip_col (j : Fin 1024) : Fin.ofNat 1024 (128 * (j.val / 128) + (Fin.ofNat 128 j.val).val) = j :=
  Fin.ext (by show (128 * (j.val / 128) + j.val % 128) % 1024 = j.val; omega)

omit P in
/-- Coefficient `n` of column `j`. -/
def wdAt (a : Args) (j : Fin 1024) (n : ℕ) : EReal := if h : n < 31 then a.wd ⟨n, h⟩ j else 0

theorem coef_at (n : ℕ) (hn : n < 31) (j : Fin 1024) : coef x.wdw n (j.val / 128) (ix2 0 (Fin.ofNat 128 j.val)) = wdAt a j n := by
  unfold wdAt
  rw [dif_pos hn]
  exact (congrArg (fun k => x.wdw (ix2 (Fin.ofNat 32 n) k)) (strip_col j)).trans (P.wdw ⟨n, hn⟩ j)

theorem bias_at (j : Fin 1024) : bias x.bdw (j.val / 128) (ix2 0 (Fin.ofNat 128 j.val)) = a.bd j :=
  (congrArg (fun k => x.bdw (ix2 0 k)) (strip_col j)).trans (P.bdw j)

theorem tap_at (o : ℕ) (ho : o ≤ 32) (y : Fin 256) (j : Fin 1024) :
    tap (x.aext i) o (j.val / 128) (ix2 y (Fin.ofNat 128 j.val)) = a.act (256 * q + o + y.val) j := by
  refine (congrArg (fun k => x.aext i (ix2 (Fin.ofNat 288 (o + y.val)) k)) (strip_col j)).trans ((row_aext P _ j).trans ?_)
  refine congrArg (fun r => a.act r j) ?_
  show 256 * q + (o + y.val) % 288 = _
  omega

theorem acc_at (y : Fin 256) (j : Fin 1024) : ∀ n ≤ 31, acc x.wdw x.bdw (x.aext i) (j.val / 128) n (ix2 y (Fin.ofNat 128 j.val))
    = a.bd j + ∑ m ∈ Finset.range n, wdAt a j m * a.act (256 * q + (1 + m) + y.val) j := by
  intro n
  induction n with
  | zero =>
    intro _
    have e := bias_at P j
    unfold acc; clean_types; pointwise
    rw [Finset.sum_range_zero, add_zero]
    exact e
  | succ n ih =>
    intro hn
    have e0 := ih (by omega)
    have e1 := coef_at P n (by omega) j
    have e2 := tap_at P (1 + n) (by omega) y j
    unfold acc; clean_types; pointwise
    rw [e0, e1, e2, Finset.sum_range_succ, add_assoc]

theorem row_cpre (y : Fin 256) (j : Fin 1024) : x.cpre i (ix2 y j) = a.cpre (256 * q + 16 + y.val) j := by
  refine (acc_at P y j 31 le_rfl).trans ?_
  unfold Args.cpre
  rw [add_comm, Finset.sum_range]
  refine congrArg (· + a.bd j) (Finset.sum_congr rfl fun k _ => ?_)
  unfold wdAt
  rw [dif_pos k.isLt, mul_comm]
  refine congrArg (fun r => a.act r j * a.wd k j) ?_
  omega

theorem row_ca (y : Fin 256) (j : Fin 1024) : x.ca i (ix2 y j) = a.ca (256 * q + 16 + y.val) j := by
  have e := row_cpre P y
  unfold Ins.ca k0_pay32; clean_types; pointwise
  simp only [e, P.lng, P.lnb]
  rw [lit_half]
  erw [half_tanh]
  rfl

theorem row_yc (y : Fin 256) (j : Fin 1024) : x.yc i (ix2 y j) = a.yc (256 * q + 16 + y.val) j := by
  have e := row_ca P y
  unfold Ins.yc k0_pay33; clean_types; pointwise
  simp only [e, P.wco]
  first | rfl | exact zero_add _

/-! ## The pool branch -/

theorem box_at (r b : ℕ) (hr : r ≤ 32) (y c : Fin 256) (col : Fin 1024) (e : col.val = b + c.val) :
    box r b (x.pext i) (ix2 y c) = lay a.z (256 * q + r + y.val) (part 2048 col) := by
  have hc : Fin.ofNat 1024 (b + c.val) = col := Fin.ext ((Nat.mod_eq_of_lt (by omega)).trans e.symm)
  refine (congrArg (fun k => x.pext i (ix2 (Fin.ofNat 288 (r + y.val)) k)) hc).trans ((row_pext P _ col).trans ?_)
  refine congrArg (fun r => lay a.z r (part 2048 col)) ?_
  show 256 * q + (r + y.val) % 288 = _
  omega

omit P in
/-- The window from the row in front of it. -/
theorem m_from (a : Args) (u q y : ℕ) (col : Fin 1024) (hu : 1 ≤ u ∧ u ≤ 8) (hr : reach col = u) :
    a.m (256 * q + 16 + y) col = Ideal.div (∑ d ∈ Finset.range (2 * u), lay a.z (256 * q + (16 - u + d) + y) (part 2048 col))
      (((size u (256 * q + 16 + y) : ℕ) : ℝ) : EReal) - lay a.z (256 * q + 16 + y) (part 2048 col) := by
  unfold Args.m
  rw [hr]
  refine congrArg (fun s => Ideal.div s _ - _) (Finset.sum_congr rfl fun d _ => congrArg (fun r => lay a.z r (part 2048 col)) ?_)
  omega

theorem row_m0 (y c : Fin 256) (col : Fin 1024) (e : col.val = 0 + c.val) :
    k0_pay36 (F := Ideal) (x.a0 i) (box 16 0 (x.pext i)) (ix2 y c) = a.m (256 * q + 16 + y.val) col := by
  have hr : reach col = 1 := by unfold reach; rw [show col.val / 256 = 0 from by omega]; rfl
  have s := fun n hn => box_at P n 0 hn y c col e
  have hq := P.le
  have hw := P.word
  subst hw
  rw [m_from a 1 q y.val col (by decide) hr]
  unfold k0_pay36 Ins.a0 k0_pay35 k0_pay34; clean_types; pointwise
  rw [s 15 (by decide), s 16 (by decide)]
  refine congrArg (· - _) (mean_of ?_ _ _ (tally_row hq y.isLt 1 (by decide)))
  simp only [Finset.sum_range_succ, Finset.sum_range_zero, zero_add, Nat.reduceMul, Nat.reduceAdd, Nat.reduceSub]

theorem row_m1 (y c : Fin 256) (col : Fin 1024) (e : col.val = 256 + c.val) :
    k0_pay39 (F := Ideal) (x.a1 i) (box 16 256 (x.pext i)) (ix2 y c) = a.m (256 * q + 16 + y.val) col := by
  have hr : reach col = 2 := by unfold reach; rw [show col.val / 256 = 1 from by omega]; rfl
  have s := fun n hn => box_at P n 256 hn y c col e
  have hq := P.le
  have hw := P.word
  subst hw
  rw [m_from a 2 q y.val col (by decide) hr]
  unfold k0_pay39 Ins.a1 k0_pay38 k0_pay34; clean_types; pointwise
  rw [s 14 (by decide), s 15 (by decide), s 16 (by decide), s 17 (by decide)]
  refine congrArg (· - _) (mean_of ?_ _ _ (tally_row hq y.isLt 2 (by decide)))
  simp only [Finset.sum_range_succ, Finset.sum_range_zero, zero_add, Nat.reduceMul, Nat.reduceAdd, Nat.reduceSub]

theorem row_m2 (y c : Fin 256) (col : Fin 1024) (e : col.val = 512 + c.val) :
    k0_pay43 (F := Ideal) (k0_pay34 i) (x.a2 i) (k0_pay42 (k0_pay34 i)) (box 16 512 (x.pext i)) (ix2 y c) = a.m (256 * q + 16 + y.val) col := by
  have hr : reach col = 4 := by unfold reach; rw [show col.val / 256 = 2 from by omega]; rfl
  have s := fun n hn => box_at P n 512 hn y c col e
  have hq := P.le
  have hw := P.word
  subst hw
  rw [m_from a 4 q y.val col (by decide) hr]
  unfold k0_pay43 k0_pay42 Ins.a2 k0_pay41 k0_pay34; clean_types; pointwise
  rw [s 12 (by decide), s 13 (by decide), s 14 (by decide), s 15 (by decide), s 16 (by decide), s 17 (by decide), s 18 (by decide), s 19 (by decide)]
  refine congrArg (· - _) (mean_of ?_ _ _ (tally_row hq y.isLt 4 (by decide)))
  simp only [Finset.sum_range_succ, Finset.sum_range_zero, zero_add, Nat.reduceMul, Nat.reduceAdd, Nat.reduceSub]

theorem row_m3 (y c : Fin 256) (col : Fin 1024) (e : col.val = 768 + c.val) :
    k0_pay50 (F := Ideal) (x.a3 i) (k0_pay47 (k0_pay34 i)) (k0_pay48 (k0_pay34 i)) 4112#32 k0_pay49 (box 16 768 (x.pext i)) (ix2 y c)
      = a.m (256 * q + 16 + y.val) col := by
  have hr : reach col = 8 := by unfold reach; rw [show col.val / 256 = 3 from by omega]; rfl
  have s := fun n hn => box_at P n 768 hn y c col e
  have hq := P.le
  have hw := P.word
  subst hw
  rw [m_from a 8 q y.val col (by decide) hr]
  unfold k0_pay50 k0_pay47 k0_pay48 k0_pay49 Ins.a3 k0_pay46 k0_pay45 k0_pay34; clean_types; pointwise
  rw [s 8 (by decide), s 9 (by decide), s 10 (by decide), s 11 (by decide), s 12 (by decide), s 13 (by decide), s 14 (by decide), s 15 (by decide),
    s 16 (by decide), s 17 (by decide), s 18 (by decide), s 19 (by decide), s 20 (by decide), s 21 (by decide), s 22 (by decide), s 23 (by decide)]
  refine congrArg (· - _) (mean_of ?_ _ _ (tally_row hq y.isLt 8 (by decide)))
  simp only [Finset.sum_range_succ, Finset.sum_range_zero, zero_add, Nat.reduceMul, Nat.reduceAdd, Nat.reduceSub]

omit P in
/-- What a block of four groups holds, from each group. -/
theorem quad_of {e : EltTy} (p0 p1 p2 p3 : Vec Ideal S256x256 e) (y : Fin 256) (j : Fin 1024) (g : Elt Ideal e)
    (h0 : j.val < 256 → p0 (ix2 y (Fin.ofNat 256 j.val)) = g)
    (h1 : 256 ≤ j.val ∧ j.val < 512 → p1 (ix2 y (Fin.ofNat 256 j.val)) = g)
    (h2 : 512 ≤ j.val ∧ j.val < 768 → p2 (ix2 y (Fin.ofNat 256 j.val)) = g)
    (h3 : 768 ≤ j.val → p3 (ix2 y (Fin.ofNat 256 j.val)) = g) : quad p0 p1 p2 p3 (ix2 y j) = g := by
  have hj := j.isLt
  have w : ∀ b, b = 256 ∨ b = 512 ∨ b = 768 → b ≤ j.val → (Fin.ofNat 256 (j.val - b) : Fin 256) = Fin.ofNat 256 j.val := fun b hb hle =>
    Fin.ext (by show (j.val - b) % 256 = j.val % 256; omega)
  unfold quad
  by_cases c0 : j.val < 256
  · exact (if_pos c0).trans (h0 c0)
  refine (if_neg c0).trans ?_
  by_cases c1 : j.val < 512
  · exact (if_pos c1).trans ((congrArg (fun k => p1 (ix2 y k)) (w 256 (by omega) (by omega))).trans (h1 ⟨by omega, c1⟩))
  refine (if_neg c1).trans ?_
  by_cases c2 : j.val < 768
  · exact (if_pos c2).trans ((congrArg (fun k => p2 (ix2 y k)) (w 512 (by omega) (by omega))).trans (h2 ⟨by omega, c2⟩))
  · exact (if_neg c2).trans ((congrArg (fun k => p3 (ix2 y k)) (w 768 (by omega) (by omega))).trans (h3 (by omega)))

theorem row_m (y : Fin 256) (j : Fin 1024) : x.m i (ix2 y j) = a.m (256 * q + 16 + y.val) j := by
  have hj := j.isLt
  refine quad_of _ _ _ _ y j _ (fun h => ?_) (fun h => ?_) (fun h => ?_) (fun h => ?_)
  · exact row_m0 P y _ j (by show j.val = 0 + j.val % 256; omega)
  · exact row_m1 P y _ j (by show j.val = 256 + j.val % 256; omega)
  · exact row_m2 P y _ j (by show j.val = 512 + j.val % 256; omega)
  · exact row_m3 P y _ j (by show j.val = 768 + j.val % 256; omega)

theorem sheet_at (s : ℕ) (j : Fin 1024) (hs : j.val / 256 = s) (k c : Fin 256) : sheet s x.wpool (ix3 0 k c) = a.wpool (Fin.ofNat 4 (j.val / 256)) k c := by
  subst hs
  exact P.wpool _ k c

omit P in
theorem mate_val (s : ℕ) (j : Fin 1024) (hs : j.val / 256 = s) (k : Fin 256) : (mate j k).val = 256 * s + k.val := by
  have hj := j.isLt
  have hk := k.isLt
  show (256 * (j.val / 256) + k.val) % 1024 = _
  omega

theorem row_mw (y : Fin 256) (j : Fin 1024) : x.mw i (ix2 y j) = a.mw (256 * q + 16 + y.val) j := by
  have hj := j.isLt
  refine quad_of _ _ _ _ y j _ (fun h => ?_) (fun h => ?_) (fun h => ?_) (fun h => ?_)
  · have hs : j.val / 256 = 0 := by omega
    have e := fun k => row_m0 P y k (mate j k) (by rw [mate_val 0 j hs k])
    have e' := sheet_at P 0 j hs
    unfold k0_pay37; clean_types; pointwise
    simp only [e, e']
    first | rfl | exact zero_add _
  · have hs : j.val / 256 = 1 := by omega
    have e := fun k => row_m1 P y k (mate j k) (by rw [mate_val 1 j hs k])
    have e' := sheet_at P 1 j hs
    unfold k0_pay40; clean_types; pointwise
    simp only [e, e']
    first | rfl | exact zero_add _
  · have hs : j.val / 256 = 2 := by omega
    have e := fun k => row_m2 P y k (mate j k) (by rw [mate_val 2 j hs k])
    have e' := sheet_at P 2 j hs
    unfold k0_pay44; clean_types; pointwise
    simp only [e, e']
    first | rfl | exact zero_add _
  · have hs : j.val / 256 = 3 := by omega
    have e := fun k => row_m3 P y k (mate j k) (by rw [mate_val 3 j hs k])
    have e' := sheet_at P 3 j hs
    unfold k0_pay51; clean_types; pointwise
    simp only [e, e']
    first | rfl | exact zero_add _

theorem row_mix (y : Fin 256) (j : Fin 1024) : x.m2 i (ix2 y j) = a.m2 (256 * q + 16 + y.val) j := by
  have e := row_mw P y j
  unfold Ins.m2 k0_pay52; clean_types; pointwise
  rw [e, P.ps]; rfl

theorem row_yp (y : Fin 256) (j : Fin 1024) : x.yp i (ix2 y j) = a.yp (256 * q + 16 + y.val) j := by
  have e := row_mix P y
  unfold Ins.m2 at e
  unfold Ins.yp k0_pay53; clean_types; pointwise
  simp only [e, P.wpo]
  first | rfl | exact zero_add _

/-! ## The branches joined -/

theorem lane_at (b : ℕ) (j : Fin 1024) : lane b x.bg (ix2 0 j) = a.bg (side b j) := P.bg (side b j)

theorem row_mg (y : Fin 256) (j : Fin 1024) : x.mg i (ix2 y j) = a.mg (256 * q + 16 + y.val) j := by
  have e1 := row_yc P y j
  have e2 := row_yp P y j
  have e3 := cols_at P 3072 y j
  have e4 := cols_at P 4096 y j
  have e5 := lane_at P 0 j
  have e6 := lane_at P 1024 j
  unfold Ins.mg k0_pay55 k0_pay54; clean_types; pointwise
  rw [e1, e2, e3, e4, e5, e6, lit_half]
  erw [half_tanh, half_tanh]
  rfl

theorem row_h1 (y : Fin 256) (j : Fin 1024) : x.h1 i (ix2 y j) = a.h1 (256 * q + 16 + y.val) j := by
  have e := row_mg P y
  unfold Ins.mg at e
  unfold Ins.h1 k0_pay56
  rw [P.word, opening q P.le]
  rw [P.word] at e
  by_cases h : q = 0
  · have e' := P.head h y j
    rw [if_pos h]; clean_types; pointwise
    simp only [e, P.wo, e']
    first | rfl | (rw [zero_add]; rfl)
  · have e' := P.body (by omega) y j
    rw [if_neg h]; clean_types; pointwise
    simp only [e, P.wo, e']
    first | rfl | (rw [zero_add]; rfl)

end

end Cert.Mix

end
-- ==== Proof.Mix.Point.lean ====
module

public import proofs.«01_k».proof.Proof.Mix.Step
public import proofs.«01_k».proof.Proof.Gen.Kernel5Ideal.Frame

/-! # The run of the mixers' body -/

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The body at a point. -/
theorem run_body (c : Dev nD) (i : grid0.Coords)
    (arg1 : Memref sig .tc .vmem S16x3072 .f32) (harg1 : arg1.IsWhole) (arg2 : Memref sig .tc .vmem S256x5120 .f32)
    (harg2 : arg2.IsWhole) (arg3 : Memref sig .tc .vmem S16x3072 .f32) (harg3 : arg3.IsWhole) (arg4 : Memref sig .tc
    .vmem S256x1024 .f32) (harg4 : arg4.IsWhole) (arg5 : Memref sig .tc .vmem S256x1024 .f32) (harg5 : arg5.IsWhole)
    (arg6 : Memref sig .tc .vmem S1x2048 .f32) (harg6 : arg6.IsWhole) (arg7 : Memref sig .tc .vmem S32x1024 .f32)
    (harg7 : arg7.IsWhole) (arg8 : Memref sig .tc .vmem S1x1024 .f32) (harg8 : arg8.IsWhole) (arg9 : Memref sig .tc
    .vmem S1x1024 .f32) (harg9 : arg9.IsWhole) (arg10 : Memref sig .tc .vmem S1x1024 .f32) (harg10 : arg10.IsWhole)
    (arg11 : Memref sig .tc .vmem S1x1024 .f32) (harg11 : arg11.IsWhole) (arg12 : Memref sig .tc .vmem S1024x1024
    .bf16) (harg12 : arg12.IsWhole) (arg13 : Memref sig .tc .vmem S4x256x256 .bf16) (harg13 : arg13.IsWhole) (arg14
    : Memref sig .tc .vmem S1024x1024 .bf16) (harg14 : arg14.IsWhole) (arg15 : Memref sig .tc .vmem S1024x1024
    .bf16) (harg15 : arg15.IsWhole) (arg16 : Memref sig .tc .vmem S256x1024 .f32) (harg16 : arg16.IsWhole) (arg17 :
    Memref sig .tc .vmem S256x1024 .f32) (harg17 : arg17.IsWhole) (arg18 : Memref sig .tc .vmem S256x1024 .f32)
    (harg18 : arg18.IsWhole) (arg19 : Memref sig .tc .vmem S256x1024 .bf16) (harg19 : arg19.IsWhole) (arg20 : Memref
    sig .tc .vmem S256x1024 .bf16) (harg20 : arg20.IsWhole) (arg21 : Memref sig .tc .vmem S256x1024 .f32) (harg21 :
    arg21.IsWhole) (arg22 : Memref sig .tc .vmem S256x1024 .bf16) (harg22 : arg22.IsWhole) (arg23 : Memref sig .tc
    .vmem S256x1024 .f32) (harg23 : arg23.IsWhole) (arg24 : Memref sig .tc .vmem S256x1024 .bf16) (harg24 :
    arg24.IsWhole) (arg25 : Memref sig .tc .vmem S288x1024 .f32) (harg25 : arg25.IsWhole) (arg26 : Memref sig .tc
    .vmem S288x1024 .f32) (harg26 : arg26.IsWhole) (arg27 : Memref sig .tc .vmem S8x280x128 .f32) (harg27 :
    arg27.IsWhole)
    (x : Ins F) (K : PUnit → sProp 𝕄) :
    iprop(owns (c : Thread nD τ) arg1 fullShare x.zp ∗ owns (c : Thread nD τ) arg2 fullShare x.zc ∗ owns (c : Thread
    nD τ) arg3 fullShare x.zn ∗ owns (c : Thread nD τ) arg4 fullShare x.head ∗ owns (c : Thread nD τ) arg5 fullShare
    x.x ∗ owns (c : Thread nD τ) arg6 fullShare x.bg ∗ owns (c : Thread nD τ) arg7 fullShare x.wdw ∗ owns (c :
    Thread nD τ) arg8 fullShare x.bdw ∗ owns (c : Thread nD τ) arg9 fullShare x.lng ∗ owns (c : Thread nD τ) arg10
    fullShare x.lnb ∗ owns (c : Thread nD τ) arg11 fullShare x.ps ∗ owns (c : Thread nD τ) arg12 fullShare x.wco ∗
    owns (c : Thread nD τ) arg13 fullShare x.wpool ∗ owns (c : Thread nD τ) arg14 fullShare x.wpo ∗ owns (c : Thread
    nD τ) arg15 fullShare x.wo ∗ (∃ d, owns (c : Thread nD τ) arg16 fullShare d) ∗ (∃ d, owns (c : Thread nD τ)
    arg17 fullShare d) ∗ (∃ d, owns (c : Thread nD τ) arg18 fullShare d) ∗ (∃ d, owns (c : Thread nD τ) arg19
    fullShare d) ∗ (∃ d, owns (c : Thread nD τ) arg20 fullShare d) ∗ (∃ d, owns (c : Thread nD τ) arg21 fullShare d)
    ∗ (∃ d, owns (c : Thread nD τ) arg22 fullShare d) ∗ (∃ d, owns (c : Thread nD τ) arg23 fullShare d) ∗ (∃ d, owns
    (c : Thread nD τ) arg24 fullShare d) ∗ (∃ d, owns (c : Thread nD τ) arg25 fullShare d) ∗ (∃ d, owns (c : Thread
    nD τ) arg26 fullShare d) ∗ (∃ d, owns (c : Thread nD τ) arg27 fullShare d) ∗ (iprop(owns (c : Thread nD τ) arg1
    fullShare x.zp ∗ owns (c : Thread nD τ) arg2 fullShare x.zc ∗ owns (c : Thread nD τ) arg3 fullShare x.zn ∗ owns
    (c : Thread nD τ) arg4 fullShare x.head ∗ owns (c : Thread nD τ) arg5 fullShare x.x ∗ owns (c : Thread nD τ)
    arg6 fullShare x.bg ∗ owns (c : Thread nD τ) arg7 fullShare x.wdw ∗ owns (c : Thread nD τ) arg8 fullShare x.bdw
    ∗ owns (c : Thread nD τ) arg9 fullShare x.lng ∗ owns (c : Thread nD τ) arg10 fullShare x.lnb ∗ owns (c : Thread
    nD τ) arg11 fullShare x.ps ∗ owns (c : Thread nD τ) arg12 fullShare x.wco ∗ owns (c : Thread nD τ) arg13
    fullShare x.wpool ∗ owns (c : Thread nD τ) arg14 fullShare x.wpo ∗ owns (c : Thread nD τ) arg15 fullShare x.wo ∗
    owns (c : Thread nD τ) arg16 fullShare (x.h1 (word i)) ∗ owns (c : Thread nD τ) arg17 fullShare (x.yc (word i))
    ∗ owns (c : Thread nD τ) arg18 fullShare (x.yp (word i)) ∗ owns (c : Thread nD τ) arg19 fullShare (x.mg (word
    i)) ∗ owns (c : Thread nD τ) arg20 fullShare (x.ca (word i)) ∗ owns (c : Thread nD τ) arg21 fullShare (x.cpre
    (word i)) ∗ owns (c : Thread nD τ) arg22 fullShare (x.m (word i)) ∗ owns (c : Thread nD τ) arg23 fullShare (x.mw
    (word i)) ∗ owns (c : Thread nD τ) arg24 fullShare (x.m2 (word i)) ∗ (∃ d, owns (c : Thread nD τ) arg25
    fullShare d) ∗ (∃ d, owns (c : Thread nD τ) arg26 fullShare d) ∗ (∃ d, owns (c : Thread nD τ) arg27 fullShare
    d)) -∗ K ⟨⟩))
      ⊢ wp frame (wpE (defs₀ (F := F)) Variants.none c none) Set.univ (cc0_mixers_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_mixers_fwd_eq_skeleton]; unfold cc0_mixers_fwd_skel
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
  ⟨%f7, %hf7, H7⟩, ⟨%f8, %hf8, H8⟩, ⟨%f9, %hf9, H9⟩, ⟨%f10, %hf10, H10⟩, ⟨%f11, %hf11, H11⟩, ⟨%f12, %hf12, H12⟩,
  ⟨%f13, %hf13, H13⟩, ⟨%f14, %hf14, H14⟩, ⟨%f15, %hf15, H15⟩, ⟨%d16, %f16, -, H16⟩, ⟨%d17, %f17, -, H17⟩, ⟨%d18,
  %f18, -, H18⟩, ⟨%d19, %f19, -, H19⟩, ⟨%d20, %f20, -, H20⟩, ⟨%d21, %f21, -, H21⟩, ⟨%d22, %f22, -, H22⟩, ⟨%d23,
  %f23, -, H23⟩, ⟨%d24, %f24, -, H24⟩, ⟨%d25, %f25, -, H25⟩, ⟨%d26, %f26, -, H26⟩, ⟨%d27, %f27, -, H27⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec
  sl_step
  have hc : View.read (Elt F) arg21.view fL0 = x.cpre (word i) := by
    refine hL3.trans ?_
    frame_open
    simp (disch := decide) only [readAt_border, readAt_cols, readAt_lane, readAt_box, readAt_sheet, readCov_box, readCov_quad,
      Memref.IsWhole.read_unread, read_ext, read_quad]
    rw [trips_eq, convAfter_eq]
    exact x.cpre_of_trips (word i) _
  iapply Hk
  isplitl [H1]; · iexists _; isplitr; swap; (iexact H1); ipureintro; exact harg1.read_unread _
  isplitl [H2]; · iexists _; isplitr; swap; (iexact H2); ipureintro; exact harg2.read_unread _
  isplitl [H3]; · iexists _; isplitr; swap; (iexact H3); ipureintro; exact harg3.read_unread _
  isplitl [H4]; · iexists _; isplitr; swap; (iexact H4); ipureintro; exact harg4.read_unread _
  isplitl [H5]; · iexists _; isplitr; swap; (iexact H5); ipureintro; exact harg5.read_unread _
  isplitl [H6]; · iexists _; isplitr; swap; (iexact H6); ipureintro; exact harg6.read_unread _
  isplitl [H7]; · iexists _; isplitr; swap; (iexact H7); ipureintro; exact harg7.read_unread _
  isplitl [H8]; · iexists _; isplitr; swap; (iexact H8); ipureintro; exact harg8.read_unread _
  isplitl [H9]; · iexists _; isplitr; swap; (iexact H9); ipureintro; exact harg9.read_unread _
  isplitl [H10]; · iexists _; isplitr; swap; (iexact H10); ipureintro; exact harg10.read_unread _
  isplitl [H11]; · iexists _; isplitr; swap; (iexact H11); ipureintro; exact harg11.read_unread _
  isplitl [H12]; · iexists _; isplitr; swap; (iexact H12); ipureintro; exact harg12.read_unread _
  isplitl [H13]; · iexists _; isplitr; swap; (iexact H13); ipureintro; exact harg13.read_unread _
  isplitl [H14]; · iexists _; isplitr; swap; (iexact H14); ipureintro; exact harg14.read_unread _
  isplitl [H15]; · iexists _; isplitr; swap; (iexact H15); ipureintro; exact harg15.read_unread _
  isplitl [H16]
  · iexists _; isplitr
    swap; · iexact H16
    ipureintro
    refine (View.read_writes_full _ _ _ _ _).trans ?_
    frame_open
    simp (disch := decide) only [readAt_border, readAt_cols, readAt_lane, readAt_box, readAt_sheet, readCov_box, readCov_quad,
      Memref.IsWhole.read_unread, read_ext, read_quad]
    simp (disch := decide) only [View.read_writes_whole, View.ld_unit_lit', View.readCov_unit_lit',
      View.readCov_cons_unit_lit', View.readAt_eq_ld, Memref.IsWhole.read_unread, read_quad, hc]
    rfl
  isplitl [H17]
  · iexists _; isplitr
    swap; · iexact H17
    ipureintro
    refine (View.read_writes_full _ _ _ _ _).trans ?_
    frame_open
    simp (disch := decide) only [readAt_border, readAt_cols, readAt_lane, readAt_box, readAt_sheet, readCov_box, readCov_quad,
      Memref.IsWhole.read_unread, read_ext, read_quad]
    simp (disch := decide) only [View.read_writes_whole, View.ld_unit_lit', View.readCov_unit_lit',
      View.readCov_cons_unit_lit', View.readAt_eq_ld, Memref.IsWhole.read_unread, read_quad, hc]
    rfl
  isplitl [H18]
  · iexists _; isplitr
    swap; · iexact H18
    ipureintro
    refine (View.read_writes_full _ _ _ _ _).trans ?_
    frame_open
    simp (disch := decide) only [readAt_border, readAt_cols, readAt_lane, readAt_box, readAt_sheet, readCov_box, readCov_quad,
      Memref.IsWhole.read_unread, read_ext, read_quad]
    simp (disch := decide) only [View.read_writes_whole, View.ld_unit_lit', View.readCov_unit_lit',
      View.readCov_cons_unit_lit', View.readAt_eq_ld, Memref.IsWhole.read_unread, read_quad, hc]
    rfl
  isplitl [H19]
  · iexists _; isplitr
    swap; · iexact H19
    ipureintro
    refine (View.read_writes_full _ _ _ _ _).trans ?_
    frame_open
    simp (disch := decide) only [readAt_border, readAt_cols, readAt_lane, readAt_box, readAt_sheet, readCov_box, readCov_quad,
      Memref.IsWhole.read_unread, read_ext, read_quad]
    simp (disch := decide) only [View.read_writes_whole, View.ld_unit_lit', View.readCov_unit_lit',
      View.readCov_cons_unit_lit', View.readAt_eq_ld, Memref.IsWhole.read_unread, read_quad, hc]
    rfl
  isplitl [H20]
  · iexists _; isplitr
    swap; · iexact H20
    ipureintro
    refine (View.read_writes_full _ _ _ _ _).trans ?_
    frame_open
    simp (disch := decide) only [readAt_border, readAt_cols, readAt_lane, readAt_box, readAt_sheet, readCov_box, readCov_quad,
      Memref.IsWhole.read_unread, read_ext, read_quad]
    simp (disch := decide) only [View.read_writes_whole, View.ld_unit_lit', View.readCov_unit_lit',
      View.readCov_cons_unit_lit', View.readAt_eq_ld, Memref.IsWhole.read_unread, read_quad, hc]
    rfl
  isplitl [H21]
  · iexists _; isplitr
    swap; · iexact H21
    ipureintro
    exact hc
  isplitl [H22]
  · iexists _; isplitr
    swap; · iexact H22
    ipureintro
    frame_open
    simp (disch := decide) only [readAt_border, readAt_cols, readAt_lane, readAt_box, readAt_sheet, readCov_box, readCov_quad,
      Memref.IsWhole.read_unread, read_ext, read_quad]
    rfl
  isplitl [H23]
  · iexists _; isplitr
    swap; · iexact H23
    ipureintro
    frame_open
    simp (disch := decide) only [readAt_border, readAt_cols, readAt_lane, readAt_box, readAt_sheet, readCov_box, readCov_quad,
      Memref.IsWhole.read_unread, read_ext, read_quad]
    rfl
  isplitl [H24]
  · iexists _; isplitr
    swap; · iexact H24
    ipureintro
    refine (View.read_writes_full _ _ _ _ _).trans ?_
    frame_open
    simp (disch := decide) only [readAt_border, readAt_cols, readAt_lane, readAt_box, readAt_sheet, readCov_box, readCov_quad,
      Memref.IsWhole.read_unread, read_ext, read_quad]
    simp (disch := decide) only [View.read_writes_whole, View.ld_unit_lit', View.readCov_unit_lit',
      View.readCov_cons_unit_lit', View.readAt_eq_ld, Memref.IsWhole.read_unread, read_quad, hc]
    rfl
  isplitl [H25]; · iexists _; iexists _; isplitr; swap; (iexact H25); ipureintro; rfl
  isplitl [H26]; · iexists _; iexists _; isplitr; swap; (iexact H26); ipureintro; rfl
  iexists _; iexists _; isplitr; swap; (iexact H27); ipureintro; rfl

end Cert.Mix

end
-- ==== Proof.Mix.Body.lean ====
module

public import proofs.«01_k».proof.Proof.Mix.Point

/-! # The mixers' body at every point, and the program's run -/

@[expose] public section

set_option maxRecDepth 16384

noncomputable section

namespace Cert.Mix

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The blocks of point `t`. -/
def ins (c : Dev nD) (t : Fin cfg0.N) : Ins F where
  zp := X0_0 m c t
  zc := iblk m c 1 t
  zn := X0_2 m c t
  head := iblk m c 3 t
  x := iblk m c 4 t
  bg := iblk m c 5 t
  wdw := iblk m c 6 t
  bdw := iblk m c 7 t
  lng := iblk m c 8 t
  lnb := iblk m c 9 t
  ps := iblk m c 10 t
  wco := iblk m c 11 t
  wpool := iblk m c 12 t
  wpo := iblk m c 13 t
  wo := iblk m c 14 t

/-- The point's coordinate. -/
abbrev at' (t : Fin cfg0.N) : BitVec 32 := word (grid0.coords t)

/-- The contents the proof goes by: the arrays as the region finds them; after a point each input's buffer at its block,
    each result's at what the body stored. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (ins m c t).h1 (at' t)
    | ⟨16, _⟩ => (ins m c t).yc (at' t)
    | ⟨17, _⟩ => (ins m c t).yp (at' t)
    | ⟨18, _⟩ => (ins m c t).mg (at' t)
    | ⟨19, _⟩ => (ins m c t).ca (at' t)
    | ⟨20, _⟩ => (ins m c t).cpre (at' t)
    | ⟨21, _⟩ => (ins m c t).m (at' t)
    | ⟨22, _⟩ => (ins m c t).mw (at' t)
    | ⟨23, _⟩ => (ins m c t).m2 (at' t)
    | ⟨_ + 24, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = X0_0 m c t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = (ins m c t).h1 (at' t) := by dsimp only [dats]
theorem after16 (c : Dev nD) (t : Fin cfg0.N) : (dats m 0 c).after 16 t = (ins m c t).yc (at' t) := by dsimp only [dats]
theorem after17 (c : Dev nD) (t : Fin cfg0.N) : (dats m 0 c).after 17 t = (ins m c t).yp (at' t) := by dsimp only [dats]
theorem after18 (c : Dev nD) (t : Fin cfg0.N) : (dats m 0 c).after 18 t = (ins m c t).mg (at' t) := by dsimp only [dats]
theorem after19 (c : Dev nD) (t : Fin cfg0.N) : (dats m 0 c).after 19 t = (ins m c t).ca (at' t) := by dsimp only [dats]
theorem after20 (c : Dev nD) (t : Fin cfg0.N) : (dats m 0 c).after 20 t = (ins m c t).cpre (at' t) := by dsimp only [dats]
theorem after21 (c : Dev nD) (t : Fin cfg0.N) : (dats m 0 c).after 21 t = (ins m c t).m (at' t) := by dsimp only [dats]
theorem after22 (c : Dev nD) (t : Fin cfg0.N) : (dats m 0 c).after 22 t = (ins m c t).mw (at' t) := by dsimp only [dats]
theorem after23 (c : Dev nD) (t : Fin cfg0.N) : (dats m 0 c).after 23 t = (ins m c t).m2 (at' t) := by dsimp only [dats]

/-- An input's buffer holds its block at every point. -/
theorem before0 (c : Dev nD) (t : Fin cfg0.N) (d) : (dats m 0 c).before 0 t d = X0_0 m c t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = X0_2 m c t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- The launch hands the body its scratch. -/
theorem PhiA_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- A window's buffer at a point. -/
abbrev stage' (w : Fin cfg0.W) (t : Fin cfg0.N) := (cfg0.win w).stage (cfg0.slots t w)

/-- What the body is called with at point `t`, and what it returns. -/
def bodyPre (c : Dev nD) (t : Fin cfg0.N) : sProp 𝕄 :=
  iprop((dats m 0 c).Φ t.castSucc ∗ (dats m 0 c).owesAt () t.castSucc ∗ (∃ d, owns (c : Thread nD τ) (stage' 0 t)
  fullShare ((dats m 0 c).before 0 t d)) ∗ (∃ d, owns (c : Thread nD τ) (stage' 1 t) fullShare ((dats m 0 c).before
  1 t d)) ∗ (∃ d, owns (c : Thread nD τ) (stage' 2 t) fullShare ((dats m 0 c).before 2 t d)) ∗ (∃ d, owns (c :
  Thread nD τ) (stage' 3 t) fullShare ((dats m 0 c).before 3 t d)) ∗ (∃ d, owns (c : Thread nD τ) (stage' 4 t)
  fullShare ((dats m 0 c).before 4 t d)) ∗ (∃ d, owns (c : Thread nD τ) (stage' 5 t) fullShare ((dats m 0 c).before
  5 t d)) ∗ (∃ d, owns (c : Thread nD τ) (stage' 6 t) fullShare ((dats m 0 c).before 6 t d)) ∗ (∃ d, owns (c :
  Thread nD τ) (stage' 7 t) fullShare ((dats m 0 c).before 7 t d)) ∗ (∃ d, owns (c : Thread nD τ) (stage' 8 t)
  fullShare ((dats m 0 c).before 8 t d)) ∗ (∃ d, owns (c : Thread nD τ) (stage' 9 t) fullShare ((dats m 0 c).before
  9 t d)) ∗ (∃ d, owns (c : Thread nD τ) (stage' 10 t) fullShare ((dats m 0 c).before 10 t d)) ∗ (∃ d, owns (c :
  Thread nD τ) (stage' 11 t) fullShare ((dats m 0 c).before 11 t d)) ∗ (∃ d, owns (c : Thread nD τ) (stage' 12 t)
  fullShare ((dats m 0 c).before 12 t d)) ∗ (∃ d, owns (c : Thread nD τ) (stage' 13 t) fullShare ((dats m 0
  c).before 13 t d)) ∗ (∃ d, owns (c : Thread nD τ) (stage' 14 t) fullShare ((dats m 0 c).before 14 t d)) ∗ (∃ d,
  owns (c : Thread nD τ) (stage' 15 t) fullShare ((dats m 0 c).before 15 t d)) ∗ (∃ d, owns (c : Thread nD τ)
  (stage' 16 t) fullShare ((dats m 0 c).before 16 t d)) ∗ (∃ d, owns (c : Thread nD τ) (stage' 17 t) fullShare
  ((dats m 0 c).before 17 t d)) ∗ (∃ d, owns (c : Thread nD τ) (stage' 18 t) fullShare ((dats m 0 c).before 18 t d))
  ∗ (∃ d, owns (c : Thread nD τ) (stage' 19 t) fullShare ((dats m 0 c).before 19 t d)) ∗ (∃ d, owns (c : Thread nD
  τ) (stage' 20 t) fullShare ((dats m 0 c).before 20 t d)) ∗ (∃ d, owns (c : Thread nD τ) (stage' 21 t) fullShare
  ((dats m 0 c).before 21 t d)) ∗ (∃ d, owns (c : Thread nD τ) (stage' 22 t) fullShare ((dats m 0 c).before 22 t d))
  ∗ (∃ d, owns (c : Thread nD τ) (stage' 23 t) fullShare ((dats m 0 c).before 23 t d)))

def bodyPost (c : Dev nD) (t : Fin cfg0.N) : sProp 𝕄 :=
  iprop((dats m 0 c).Φ t.succ ∗ (dats m 0 c).owesAt () t.succ ∗ owns (c : Thread nD τ) (stage' 0 t) fullShare ((dats
  m 0 c).after 0 t) ∗ owns (c : Thread nD τ) (stage' 1 t) fullShare ((dats m 0 c).after 1 t) ∗ owns (c : Thread nD
  τ) (stage' 2 t) fullShare ((dats m 0 c).after 2 t) ∗ owns (c : Thread nD τ) (stage' 3 t) fullShare ((dats m 0
  c).after 3 t) ∗ owns (c : Thread nD τ) (stage' 4 t) fullShare ((dats m 0 c).after 4 t) ∗ owns (c : Thread nD τ)
  (stage' 5 t) fullShare ((dats m 0 c).after 5 t) ∗ owns (c : Thread nD τ) (stage' 6 t) fullShare ((dats m 0
  c).after 6 t) ∗ owns (c : Thread nD τ) (stage' 7 t) fullShare ((dats m 0 c).after 7 t) ∗ owns (c : Thread nD τ)
  (stage' 8 t) fullShare ((dats m 0 c).after 8 t) ∗ owns (c : Thread nD τ) (stage' 9 t) fullShare ((dats m 0
  c).after 9 t) ∗ owns (c : Thread nD τ) (stage' 10 t) fullShare ((dats m 0 c).after 10 t) ∗ owns (c : Thread nD τ)
  (stage' 11 t) fullShare ((dats m 0 c).after 11 t) ∗ owns (c : Thread nD τ) (stage' 12 t) fullShare ((dats m 0
  c).after 12 t) ∗ owns (c : Thread nD τ) (stage' 13 t) fullShare ((dats m 0 c).after 13 t) ∗ owns (c : Thread nD τ)
  (stage' 14 t) fullShare ((dats m 0 c).after 14 t) ∗ owns (c : Thread nD τ) (stage' 15 t) fullShare ((dats m 0
  c).after 15 t) ∗ owns (c : Thread nD τ) (stage' 16 t) fullShare ((dats m 0 c).after 16 t) ∗ owns (c : Thread nD τ)
  (stage' 17 t) fullShare ((dats m 0 c).after 17 t) ∗ owns (c : Thread nD τ) (stage' 18 t) fullShare ((dats m 0
  c).after 18 t) ∗ owns (c : Thread nD τ) (stage' 19 t) fullShare ((dats m 0 c).after 19 t) ∗ owns (c : Thread nD τ)
  (stage' 20 t) fullShare ((dats m 0 c).after 20 t) ∗ owns (c : Thread nD τ) (stage' 21 t) fullShare ((dats m 0
  c).after 21 t) ∗ owns (c : Thread nD τ) (stage' 22 t) fullShare ((dats m 0 c).after 22 t) ∗ owns (c : Thread nD τ)
  (stage' 23 t) fullShare ((dats m 0 c).after 23 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10,
  before11, before12, before13, before14]
  rw [show (dats m 0 c).Φ t.succ = (Pipeline.ΦA spec0 c : sProp 𝕄) from rfl,
    show (dats m 0 c).Φ t.castSucc = (Pipeline.ΦA spec0 c : sProp 𝕄) from rfl, PhiA_eq,
    show (dats m 0 c).owesAt () t.succ = (dats m 0 c).owesAt () t.castSucc from rfl,
    after0, after1, after2, after3, after4, after5, after6, after7, after8, after9, after10, after11, after12,
    after13, after14, after15, after16, after17, after18, after19, after20, after21, after22, after23]
  iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, H6⟩, ⟨%d7,
  H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16,
  H16⟩, ⟨%d17, H17⟩, ⟨%d18, H18⟩, ⟨%d19, H19⟩, ⟨%d20, H20⟩, ⟨%d21, H21⟩, ⟨%d22, H22⟩, ⟨%d23, H23⟩⟩
  iapply (run_body c (grid0.coords t) _ _ _ _ _ _ _ _ _ _ _ _ _ _ _ _ _ _ _ _ _ _ _ _ _ _ _ _ _ _ _ _ _ _ _ _ _ _ _ _ _ _ _ _ _ _ _ _ _ _ _ _ _ _ (ins m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [S0]; · iexact S0
  isplitl [S1]; · iexact S1
  isplitl [S2]; · iexact S2
  iintro ⟨H0, H1, H2, H3, H4, H5, H6, H7, H8, H9, H10, H11, H12, H13, H14, H15, H16, H17, H18, H19, H20, H21, H22,
  H23, S0, S1, S2⟩
  isplitl [S0 S1 S2 Hg]
  · isplitr [Hg]
    · isplitl [S0]; · iexact S0
      isplitl [S1]; · iexact S1
      iexact S2
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program's run: every final state holds the arrays the points wrote and no counter raised. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame of the program at any values: the arguments unchanged, no counter raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_arrays m ρ)) ((θ_run defs _ _).mono (fun _ h => h.2) (run_quiescent m ρ))

end Cert.Mix

end
-- ==== Proof.Mix.Entry.lean ====
module

public import proofs.«01_k».proof.Proof.Mix.Values
public import proofs.«01_k».proof.Proof.Mix.Body
public import proofs.«01_k».proof.Proof.Rows.Padded
public import proofs.«01_k».proof.Proof.Gen.Kernel5Ideal.Frame
public import Idealize.ShloMosaic.Lib.Pointwise
public import Idealize.ShloMosaic.Lib.Pipeline.ValueKit
public import Idealize.ShloMosaic.Lib.Claim
public import Idealize.ShloMosaic.Lib.StableHlo.ReadAt
public import Idealize.ShloMosaic.Lib.Tactic.CleanTypes

/-!
# What the mixers' program is handed

Each array the host lines prepare, at an index, and each block of it a point reads.
-/

@[expose] public section

set_option maxRecDepth 16384

noncomputable section

namespace Cert.Mix

open Cert.Kernel5Ideal Cert.Kernel5Ideal.Gen Cert.Scalars Cert.Mixer
open Cert.Rows (padded padded_in padded_at)
open Idealize.ShloMosaic Idealize.ShloMosaic.TcCoe Idealize.SL.Sem Idealize.ShloMosaic.StableHlo

variable (m : (ℓ : Loc nD τ sig) → Buf (Elt Ideal) ℓ) (c : Dev nD) (t : Fin cfg0.N) (y : Fin 256) (j : Fin 1024) (r : Fin 4352)

/-- The arguments the program is launched with. -/
def raw : Args where
  z i k := m ((c : Thread nD τ).loc main_arg0) (ix3 0 i k)
  x i j := m ((c : Thread nD τ).loc main_arg1) (ix3 0 i j)
  head i j := m ((c : Thread nD τ).loc main_arg2) (ix2 i j)
  bg k := m ((c : Thread nD τ).loc main_arg3) (ix2 0 k)
  wd k j := m ((c : Thread nD τ).loc main_arg4) (ix3 0 k j)
  bd j := m ((c : Thread nD τ).loc main_arg5) (ix2 0 j)
  lng j := m ((c : Thread nD τ).loc main_arg6) (ix2 0 j)
  lnb j := m ((c : Thread nD τ).loc main_arg7) (ix2 0 j)
  ps j := m ((c : Thread nD τ).loc main_arg8) (ix2 0 j)
  wco k j := m ((c : Thread nD τ).loc main_arg9) (ix3 0 k j)
  wpool s k j := m ((c : Thread nD τ).loc main_arg10) (ix4 0 s k j)
  wpo k j := m ((c : Thread nD τ).loc main_arg11) (ix3 0 k j)
  wo k j := m ((c : Thread nD τ).loc main_arg12) (ix3 0 k j)

theorem point_lt : t.val < 17 := lt_of_lt_of_eq t.isLt (show cfg0.N = 17 from N_0)

/-- An array with zero rows in front, as `lay` has it. -/
theorem padded_same {n : ℕ} (f : Fin 4112 → Fin n → EReal) (k : Fin n) : padded f r k = lay f (r.val + 16) k := by
  by_cases h : r.val < 240
  · rw [padded_in f h, lay_out _ (.inl (by omega))]
  · rw [padded_at f h, lay_in _ ⟨r.val - 240, by omega⟩ (by simp only; omega)]

/-! ## The arrays -/

theorem host_z (k : Fin 5120) : V m c main_v4 (ix2 r k) = padded (raw m c).z r k := by
  unfold V; after_reads_at
  unfold padded
  split
  · rfl
  · rfl

theorem host_head (p : Fin 256) : V m c main_v1 (ix2 p j) = if e : p.val < 240 then (0 : EReal) else (raw m c).head ⟨p.val - 240, by omega⟩ j := by
  unfold V; after_reads_at
  split
  · rfl
  · rfl

theorem host_x (p : Fin 4096) : V m c main_v5 (ix2 p j) = (raw m c).x p j := by
  unfold V; after_reads_at
  rfl

theorem host_wd (k : Fin 31) : V m c main_v8 (ix2 (Fin.ofNat 32 k.val) j) = (raw m c).wd k j := by
  have e : (Fin.ofNat 32 k.val).val = k.val := Nat.mod_eq_of_lt (by omega)
  unfold V; after_reads_at
  rw [dif_pos (lt_of_eq_of_lt e k.isLt)]
  exact congrArg (fun k' => m (c, Proc.tc.devRef main_arg4) (ix3 0 k' j)) (Fin.ext e)

theorem host_wco (k : Fin 1024) : V m c main_v10 (ix2 k j) = (raw m c).wco k j := by
  unfold V; after_reads_at
  rfl

theorem host_wpool (s : Fin 4) (k d : Fin 256) : V m c main_v12 (ix3 s k d) = (raw m c).wpool s k d := by
  unfold V; after_reads_at
  rfl

theorem host_wpo (k : Fin 1024) : V m c main_v14 (ix2 k j) = (raw m c).wpo k j := by
  unfold V; after_reads_at
  rfl

theorem host_wo (k : Fin 1024) : V m c main_v16 (ix2 k j) = (raw m c).wo k j := by
  unfold V; after_reads_at
  rfl

/-! ## The blocks -/

theorem idx_0 : ∀ t : Fin cfg0.N, win0_0.index t 0 = 16 * t.val - 1 ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = min (16 * t.val + 16) 271 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val - 1 ∧ win0_4.index t 1 = 0 := by decide +kernel
theorem idx_5 : ∀ t : Fin cfg0.N, win0_5.index t 0 = 0 ∧ win0_5.index t 1 = 0 := by decide +kernel
theorem idx_6 : ∀ t : Fin cfg0.N, win0_6.index t 0 = 0 ∧ win0_6.index t 1 = 0 := by decide +kernel
theorem idx_7 : ∀ t : Fin cfg0.N, win0_7.index t 0 = 0 ∧ win0_7.index t 1 = 0 := by decide +kernel
theorem idx_8 : ∀ t : Fin cfg0.N, win0_8.index t 0 = 0 ∧ win0_8.index t 1 = 0 := by decide +kernel
theorem idx_9 : ∀ t : Fin cfg0.N, win0_9.index t 0 = 0 ∧ win0_9.index t 1 = 0 := by decide +kernel
theorem idx_10 : ∀ t : Fin cfg0.N, win0_10.index t 0 = 0 ∧ win0_10.index t 1 = 0 := by decide +kernel
theorem idx_11 : ∀ t : Fin cfg0.N, win0_11.index t 0 = 0 ∧ win0_11.index t 1 = 0 := by decide +kernel
theorem idx_12 : ∀ t : Fin cfg0.N, win0_12.index t 0 = 0 ∧ win0_12.index t 1 = 0 ∧ win0_12.index t 2 = 0 := by decide +kernel
theorem idx_13 : ∀ t : Fin cfg0.N, win0_13.index t 0 = 0 ∧ win0_13.index t 1 = 0 := by decide +kernel
theorem idx_14 : ∀ t : Fin cfg0.N, win0_14.index t 0 = 0 ∧ win0_14.index t 1 = 0 := by decide +kernel

/-- The array's row that is row `y` of the block of point `t`; the rows before and after. -/
def at_ : Fin 4352 := ⟨256 * t.val + y.val, by have := point_lt t; omega⟩
def before_ (p : Fin 16) (h : 0 < t.val) : Fin 4352 := ⟨256 * t.val - 16 + p.val, by have := point_lt t; omega⟩
def after_ (p : Fin 16) (h : t.val < 16) : Fin 4352 := ⟨256 * t.val + 256 + p.val, by omega⟩

theorem blk_0 (p : Fin 16) (h : 0 < t.val) (k : Fin 3072) : X0_0 m c t (ix2 p k) = V m c main_v4 (ix2 (before_ t p h) ⟨k.val, by omega⟩) := by
  unfold X0_0 Pipeline.Window.fill
  rw [dif_pos (moved0_0 t _)]
  blk_ext [iblk, before_, idx_0 t]
theorem blk_1 (k : Fin 5120) : iblk m c 1 t (ix2 y k) = V m c main_v4 (ix2 (at_ t y) k) := by
  blk_ext [iblk, at_, idx_1 t]
theorem blk_2 (p : Fin 16) (h : t.val < 16) (k : Fin 3072) : X0_2 m c t (ix2 p k) = V m c main_v4 (ix2 (after_ t p h) ⟨k.val, by omega⟩) := by
  unfold X0_2 Pipeline.Window.fill
  rw [dif_pos (moved0_2 t _)]
  blk_ext [iblk, after_, idx_2 t]
theorem blk_3 : iblk m c 3 t (ix2 y j) = V m c main_v1 (ix2 y j) := by
  blk_ext [iblk, idx_3 t]
theorem blk_4 : iblk m c 4 t (ix2 y j) = V m c main_v5 (ix2 ⟨256 * (t.val - 1) + y.val, by have := point_lt t; omega⟩ j) := by
  blk_ext [iblk, idx_4 t]
theorem blk_5 (k : Fin 2048) : iblk m c 5 t (ix2 0 k) = V m c main_arg3 (ix2 0 k) := by
  blk_ext [iblk, idx_5 t]
theorem blk_6 (k : Fin 32) : iblk m c 6 t (ix2 k j) = V m c main_v8 (ix2 k j) := by
  blk_ext [iblk, idx_6 t]
theorem blk_7 : iblk m c 7 t (ix2 0 j) = V m c main_arg5 (ix2 0 j) := by
  blk_ext [iblk, idx_7 t]
theorem blk_8 : iblk m c 8 t (ix2 0 j) = V m c main_arg6 (ix2 0 j) := by
  blk_ext [iblk, idx_8 t]
theorem blk_9 : iblk m c 9 t (ix2 0 j) = V m c main_arg7 (ix2 0 j) := by
  blk_ext [iblk, idx_9 t]
theorem blk_10 : iblk m c 10 t (ix2 0 j) = V m c main_arg8 (ix2 0 j) := by
  blk_ext [iblk, idx_10 t]
theorem blk_11 (k : Fin 1024) : iblk m c 11 t (ix2 k j) = V m c main_v10 (ix2 k j) := by
  blk_ext [iblk, idx_11 t]
theorem blk_12 (s : Fin 4) (k d : Fin 256) : iblk m c 12 t (ix3 s k d) = V m c main_v12 (ix3 s k d) := by
  blk_ext [iblk, idx_12 t]
theorem blk_13 (k : Fin 1024) : iblk m c 13 t (ix2 k j) = V m c main_v14 (ix2 k j) := by
  blk_ext [iblk, idx_13 t]
theorem blk_14 (k : Fin 1024) : iblk m c 14 t (ix2 k j) = V m c main_v16 (ix2 k j) := by
  blk_ext [iblk, idx_14 t]

/-! ## A point's inputs -/

theorem word_pt : word (grid0.coords t) = BitVec.ofNat 32 t.val := by
  have e0 : (grid0.coords t 0).val = t.val / 1 % 17 := Pipeline.Grid.coords_val t 0 (by decide) rfl
  have := point_lt t
  unfold word
  rw [e0, Nat.div_one, Nat.mod_eq_of_lt this]

set_option maxHeartbeats 4000000 in
theorem point_ins : IsPoint (ins m c t) (word (grid0.coords t)) t.val (raw m c) where
  le := point_lt t
  word := word_pt t
  zp h p k := (blk_0 m c t p h k).trans ((host_z m c _ _).trans ((padded_same _ _ _).trans (by
    rw [show (before_ t p h).val + 16 = 256 * t.val + p.val by simp only [before_]; omega])))
  zc y k := (blk_1 m c t y k).trans ((host_z m c _ _).trans ((padded_same _ _ _).trans (by
    rw [show (at_ t y).val + 16 = 256 * t.val + 16 + y.val by simp only [at_]; omega])))
  zn h p k := (blk_2 m c t p h k).trans ((host_z m c _ _).trans ((padded_same _ _ _).trans (by
    rw [show (after_ t p h).val + 16 = 256 * t.val + 272 + p.val by simp only [after_]; omega])))
  head h y j := by
    have ev : y.val + 16 = 256 * t.val + 16 + y.val := by omega
    refine (blk_3 m c t y j).trans ((host_head m c j y).trans ?_)
    by_cases e : y.val < 240
    · rw [dif_pos e, lay_out _ (.inl (by omega))]
    · rw [dif_neg e, lay_in _ ⟨y.val - 240, by omega⟩ (by simp only; omega)]
      have er : (raw m c).row ⟨y.val - 240, by omega⟩ j = (raw m c).head ⟨y.val - 240, by omega⟩ j :=
        dif_pos (show y.val - 240 < 16 by omega)
      exact er.symm
  body h y j := by
    have ht := point_lt t
    refine (blk_4 m c t y j).trans ((host_x m c j _).trans ?_)
    rw [lay_in _ ⟨256 * (t.val - 1) + y.val + 16, by omega⟩ (by simp only; omega)]
    have er : (raw m c).row ⟨256 * (t.val - 1) + y.val + 16, by omega⟩ j = (raw m c).x ⟨256 * (t.val - 1) + y.val, by omega⟩ j :=
      dif_neg (show ¬ 256 * (t.val - 1) + y.val + 16 < 16 by omega)
    exact er.symm
  bg k := (blk_5 m c t k).trans (congrFun (V_main_arg3 m c) _)
  wdw k j := (blk_6 m c t j _).trans (host_wd m c j k)
  bdw j := (blk_7 m c t j).trans (congrFun (V_main_arg5 m c) _)
  lng j := (blk_8 m c t j).trans (congrFun (V_main_arg6 m c) _)
  lnb j := (blk_9 m c t j).trans (congrFun (V_main_arg7 m c) _)
  ps j := (blk_10 m c t j).trans (congrFun (V_main_arg8 m c) _)
  wco k j := (blk_11 m c t j k).trans (host_wco m c j k)
  wpool s k d := (blk_12 m c t s k d).trans (host_wpool m c s k d)
  wpo k j := (blk_13 m c t j k).trans (host_wpo m c j k)
  wo k j := (blk_14 m c t j k).trans (host_wo m c j k)

end Cert.Mix

end
-- ==== Proof.Mix.Result.lean ====
module

public import proofs.«01_k».proof.Proof.Mix.Entry
public import proofs.«01_k».proof.Proof.Step.Reduce

/-!
# What the mixers' program leaves

Its nine results, index by index. The arrays have 240 rows in front, which the host lines drop.
-/

@[expose] public section

set_option maxRecDepth 16384

noncomputable section

namespace Cert.Mix

open Cert.Kernel5Ideal Cert.Kernel5Ideal.Gen Cert.Mixer
open Cert.Reduce (pair_ix2)
open Idealize.ShloMosaic Idealize.ShloMosaic.TcCoe Idealize.SL.Sem Idealize.ShloMosaic.StableHlo

variable (m : (ℓ : Loc nD τ sig) → Buf (Elt Ideal) ℓ) (c : Dev nD) (t : Fin cfg0.N) (q : Fin 256) (i : Fin 4112) (j : Fin 1024)

/-- The contents after the host lines that follow the region. -/
abbrev tail (b : Ref sig .tc) : Buf (Elt Ideal) ((c : Thread nD τ).loc b) :=
  Pipeline.afterTail₀ cfgs (dats m) 0 (V0 m) [hostOps1] c b

/-! ## The arrays -/

theorem idx_15 : ∀ t : Fin cfg0.N, win0_15.index t 0 = t.val ∧ win0_15.index t 1 = 0 := by decide +kernel
theorem idx_16 : ∀ t : Fin cfg0.N, win0_16.index t 0 = t.val ∧ win0_16.index t 1 = 0 := by decide +kernel
theorem idx_17 : ∀ t : Fin cfg0.N, win0_17.index t 0 = t.val ∧ win0_17.index t 1 = 0 := by decide +kernel
theorem idx_18 : ∀ t : Fin cfg0.N, win0_18.index t 0 = t.val ∧ win0_18.index t 1 = 0 := by decide +kernel
theorem idx_19 : ∀ t : Fin cfg0.N, win0_19.index t 0 = t.val ∧ win0_19.index t 1 = 0 := by decide +kernel
theorem idx_20 : ∀ t : Fin cfg0.N, win0_20.index t 0 = t.val ∧ win0_20.index t 1 = 0 := by decide +kernel
theorem idx_21 : ∀ t : Fin cfg0.N, win0_21.index t 0 = t.val ∧ win0_21.index t 1 = 0 := by decide +kernel
theorem idx_22 : ∀ t : Fin cfg0.N, win0_22.index t 0 = t.val ∧ win0_22.index t 1 = 0 := by decide +kernel
theorem idx_23 : ∀ t : Fin cfg0.N, win0_23.index t 0 = t.val ∧ win0_23.index t 1 = 0 := by decide +kernel

theorem emb_15 : (win0_15.blk t).view.emb (ix2 q j) = ix2 (at_ t q) j := by blk_ext [at_, idx_15 t]
theorem emb_16 : (win0_16.blk t).view.emb (ix2 q j) = ix2 (at_ t q) j := by blk_ext [at_, idx_16 t]
theorem emb_17 : (win0_17.blk t).view.emb (ix2 q j) = ix2 (at_ t q) j := by blk_ext [at_, idx_17 t]
theorem emb_18 : (win0_18.blk t).view.emb (ix2 q j) = ix2 (at_ t q) j := by blk_ext [at_, idx_18 t]
theorem emb_19 : (win0_19.blk t).view.emb (ix2 q j) = ix2 (at_ t q) j := by blk_ext [at_, idx_19 t]
theorem emb_20 : (win0_20.blk t).view.emb (ix2 q j) = ix2 (at_ t q) j := by blk_ext [at_, idx_20 t]
theorem emb_21 : (win0_21.blk t).view.emb (ix2 q j) = ix2 (at_ t q) j := by blk_ext [at_, idx_21 t]
theorem emb_22 : (win0_22.blk t).view.emb (ix2 q j) = ix2 (at_ t q) j := by blk_ext [at_, idx_22 t]
theorem emb_23 : (win0_23.blk t).view.emb (ix2 q j) = ix2 (at_ t q) j := by blk_ext [at_, idx_23 t]

theorem arr_h1 : (dats m 0 c).arrAt 15 cfg0.N = fun y => (raw m c).h1 ((y 0).val + 16) (y 1) := by
  refine (dats m 0 c).arrAt_eq_of_covers 15 _ (by decide +kernel) fun t _ y => ?_
  blk_simp
  obtain ⟨q, j, rfl⟩ := pair_ix2 y
  rw [after15, emb_15]
  refine (row_h1 (point_ins m c t) q j).trans ?_
  have e : 256 * t.val + 16 + q.val = win0_15.index t 0 * 256 + q.val + 16 := by rw [(idx_15 t).1]; omega
  exact congrArg (fun r => (raw m c).h1 r j) e

theorem arr_yc : (dats m 0 c).arrAt 16 cfg0.N = fun y => (raw m c).yc ((y 0).val + 16) (y 1) := by
  refine (dats m 0 c).arrAt_eq_of_covers 16 _ (by decide +kernel) fun t _ y => ?_
  blk_simp
  obtain ⟨q, j, rfl⟩ := pair_ix2 y
  rw [after16, emb_16]
  refine (row_yc (point_ins m c t) q j).trans ?_
  have e : 256 * t.val + 16 + q.val = win0_16.index t 0 * 256 + q.val + 16 := by rw [(idx_16 t).1]; omega
  exact congrArg (fun r => (raw m c).yc r j) e

theorem arr_yp : (dats m 0 c).arrAt 17 cfg0.N = fun y => (raw m c).yp ((y 0).val + 16) (y 1) := by
  refine (dats m 0 c).arrAt_eq_of_covers 17 _ (by decide +kernel) fun t _ y => ?_
  blk_simp
  obtain ⟨q, j, rfl⟩ := pair_ix2 y
  rw [after17, emb_17]
  refine (row_yp (point_ins m c t) q j).trans ?_
  have e : 256 * t.val + 16 + q.val = win0_17.index t 0 * 256 + q.val + 16 := by rw [(idx_17 t).1]; omega
  exact congrArg (fun r => (raw m c).yp r j) e

theorem arr_mg : (dats m 0 c).arrAt 18 cfg0.N = fun y => (raw m c).mg ((y 0).val + 16) (y 1) := by
  refine (dats m 0 c).arrAt_eq_of_covers 18 _ (by decide +kernel) fun t _ y => ?_
  blk_simp
  obtain ⟨q, j, rfl⟩ := pair_ix2 y
  rw [after18, emb_18]
  refine (row_mg (point_ins m c t) q j).trans ?_
  have e : 256 * t.val + 16 + q.val = win0_18.index t 0 * 256 + q.val + 16 := by rw [(idx_18 t).1]; omega
  exact congrArg (fun r => (raw m c).mg r j) e

theorem arr_ca : (dats m 0 c).arrAt 19 cfg0.N = fun y => (raw m c).ca ((y 0).val + 16) (y 1) := by
  refine (dats m 0 c).arrAt_eq_of_covers 19 _ (by decide +kernel) fun t _ y => ?_
  blk_simp
  obtain ⟨q, j, rfl⟩ := pair_ix2 y
  rw [after19, emb_19]
  refine (row_ca (point_ins m c t) q j).trans ?_
  have e : 256 * t.val + 16 + q.val = win0_19.index t 0 * 256 + q.val + 16 := by rw [(idx_19 t).1]; omega
  exact congrArg (fun r => (raw m c).ca r j) e

theorem arr_cpre : (dats m 0 c).arrAt 20 cfg0.N = fun y => (raw m c).cpre ((y 0).val + 16) (y 1) := by
  refine (dats m 0 c).arrAt_eq_of_covers 20 _ (by decide +kernel) fun t _ y => ?_
  blk_simp
  obtain ⟨q, j, rfl⟩ := pair_ix2 y
  rw [after20, emb_20]
  refine (row_cpre (point_ins m c t) q j).trans ?_
  have e : 256 * t.val + 16 + q.val = win0_20.index t 0 * 256 + q.val + 16 := by rw [(idx_20 t).1]; omega
  exact congrArg (fun r => (raw m c).cpre r j) e

theorem arr_m : (dats m 0 c).arrAt 21 cfg0.N = fun y => (raw m c).m ((y 0).val + 16) (y 1) := by
  refine (dats m 0 c).arrAt_eq_of_covers 21 _ (by decide +kernel) fun t _ y => ?_
  blk_simp
  obtain ⟨q, j, rfl⟩ := pair_ix2 y
  rw [after21, emb_21]
  refine (row_m (point_ins m c t) q j).trans ?_
  have e : 256 * t.val + 16 + q.val = win0_21.index t 0 * 256 + q.val + 16 := by rw [(idx_21 t).1]; omega
  exact congrArg (fun r => (raw m c).m r j) e

theorem arr_mw : (dats m 0 c).arrAt 22 cfg0.N = fun y => (raw m c).mw ((y 0).val + 16) (y 1) := by
  refine (dats m 0 c).arrAt_eq_of_covers 22 _ (by decide +kernel) fun t _ y => ?_
  blk_simp
  obtain ⟨q, j, rfl⟩ := pair_ix2 y
  rw [after22, emb_22]
  refine (row_mw (point_ins m c t) q j).trans ?_
  have e : 256 * t.val + 16 + q.val = win0_22.index t 0 * 256 + q.val + 16 := by rw [(idx_22 t).1]; omega
  exact congrArg (fun r => (raw m c).mw r j) e

theorem arr_m2 : (dats m 0 c).arrAt 23 cfg0.N = fun y => (raw m c).m2 ((y 0).val + 16) (y 1) := by
  refine (dats m 0 c).arrAt_eq_of_covers 23 _ (by decide +kernel) fun t _ y => ?_
  blk_simp
  obtain ⟨q, j, rfl⟩ := pair_ix2 y
  rw [after23, emb_23]
  refine (row_mix (point_ins m c t) q j).trans ?_
  have e : 256 * t.val + 16 + q.val = win0_23.index t 0 * 256 + q.val + 16 := by rw [(idx_23 t).1]; omega
  exact congrArg (fun r => (raw m c).m2 r j) e

/-! ## The results -/

/-- After the region an array's buffer holds the array. -/
theorem held_array (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr_shared spec0 c _ _ ((dats m 0 c).arrAt_sharedIn (by decide) (V0 m c) (A_eq m c) cfg0.N) w

theorem tail_h1 : tail m c main_v18 (ix2 i j) = (raw m c).h1 (i.val + 256) j := by
  unfold tail Pipeline.afterTail₀; after_reads_at
  refine (congrFun ((held_array m c 15).trans (arr_h1 m c)) (ix2 (⟨240 + i.val, by omega⟩ : Fin 4352) j)).trans ?_
  rw [show i.val + 256 = 240 + i.val + 16 by omega]
  rfl

theorem tail_yc : tail m c main_v19 (ix2 i j) = (raw m c).yc (i.val + 256) j := by
  unfold tail Pipeline.afterTail₀; after_reads_at
  refine (congrFun ((held_array m c 16).trans (arr_yc m c)) (ix2 (⟨240 + i.val, by omega⟩ : Fin 4352) j)).trans ?_
  rw [show i.val + 256 = 240 + i.val + 16 by omega]
  rfl

theorem tail_yp : tail m c main_v20 (ix2 i j) = (raw m c).yp (i.val + 256) j := by
  unfold tail Pipeline.afterTail₀; after_reads_at
  refine (congrFun ((held_array m c 17).trans (arr_yp m c)) (ix2 (⟨240 + i.val, by omega⟩ : Fin 4352) j)).trans ?_
  rw [show i.val + 256 = 240 + i.val + 16 by omega]
  rfl

theorem tail_mg : tail m c main_v21 (ix2 i j) = (raw m c).mg (i.val + 256) j := by
  unfold tail Pipeline.afterTail₀; after_reads_at
  refine (congrFun ((held_array m c 18).trans (arr_mg m c)) (ix2 (⟨240 + i.val, by omega⟩ : Fin 4352) j)).trans ?_
  rw [show i.val + 256 = 240 + i.val + 16 by omega]
  rfl

theorem tail_ca : tail m c main_v22 (ix2 i j) = (raw m c).ca (i.val + 256) j := by
  unfold tail Pipeline.afterTail₀; after_reads_at
  refine (congrFun ((held_array m c 19).trans (arr_ca m c)) (ix2 (⟨240 + i.val, by omega⟩ : Fin 4352) j)).trans ?_
  rw [show i.val + 256 = 240 + i.val + 16 by omega]
  rfl

theorem tail_cpre : tail m c main_v23 (ix2 i j) = (raw m c).cpre (i.val + 256) j := by
  unfold tail Pipeline.afterTail₀; after_reads_at
  refine (congrFun ((held_array m c 20).trans (arr_cpre m c)) (ix2 (⟨240 + i.val, by omega⟩ : Fin 4352) j)).trans ?_
  rw [show i.val + 256 = 240 + i.val + 16 by omega]
  rfl

theorem tail_m : tail m c main_v24 (ix2 i j) = (raw m c).m (i.val + 256) j := by
  unfold tail Pipeline.afterTail₀; after_reads_at
  refine (congrFun ((held_array m c 21).trans (arr_m m c)) (ix2 (⟨240 + i.val, by omega⟩ : Fin 4352) j)).trans ?_
  rw [show i.val + 256 = 240 + i.val + 16 by omega]
  rfl

theorem tail_mw : tail m c main_v25 (ix2 i j) = (raw m c).mw (i.val + 256) j := by
  unfold tail Pipeline.afterTail₀; after_reads_at
  refine (congrFun ((held_array m c 22).trans (arr_mw m c)) (ix2 (⟨240 + i.val, by omega⟩ : Fin 4352) j)).trans ?_
  rw [show i.val + 256 = 240 + i.val + 16 by omega]
  rfl

theorem tail_m2 : tail m c main_v26 (ix2 i j) = (raw m c).m2 (i.val + 256) j := by
  unfold tail Pipeline.afterTail₀; after_reads_at
  refine (congrFun ((held_array m c 23).trans (arr_m2 m c)) (ix2 (⟨240 + i.val, by omega⟩ : Fin 4352) j)).trans ?_
  rw [show i.val + 256 = 240 + i.val + 16 by omega]
  rfl

end Cert.Mix

end
-- ==== Proof.Mix.Reference.lean ====
module

public import proofs.«01_k».proof.Proof.Mix.Spec
public import proofs.«01_k».proof.Proof.Halo.Reference
public import proofs.«01_k».proof.Proof.Gen.Reference5Ideal.Run
public import Idealize.ShloMosaic.Lib.Pointwise
public import Idealize.ShloMosaic.Lib.WordCmp
public import Idealize.ShloMosaic.Lib.Pipeline.ValueKit
public import Idealize.ShloMosaic.Lib.Tactic.CleanTypes

/-!
# The mixers' forward reference, entry by entry

Every stage of the reference's run at an index, as the formula of `Cert.Mix.Args` it is.
-/

@[expose] public section

set_option maxRecDepth 16384

noncomputable section

namespace Cert.Mix.Ref

open Cert.Reference5Ideal Cert.Reference5Ideal.Gen Cert.Reference5Ideal.Value Cert.Scalars Cert.Mix
open Cert.Mixer (lay lay_in lay_out reach count_ne counted)
open Cert.Mixer.Ref (mark in_window)
open Idealize.ShloMosaic Idealize.ShloMosaic.TcCoe Idealize.SL.Sem Idealize.ShloMosaic.StableHlo

variable (V : Valuation τ sig (Elt Ideal)) (i s : Fin 4112) (j c : Fin 1024) (d : Fin 5120)

/-- The arguments the reference is launched with. -/
def raw : Args where
  z i k := V (Proc.devRef .tc main_arg0) (ix3 0 i k)
  x i j := V (Proc.devRef .tc main_arg1) (ix3 0 i j)
  head i j := V (Proc.devRef .tc main_arg2) (ix2 i j)
  bg k := V (Proc.devRef .tc main_arg3) (ix2 0 k)
  wd k j := V (Proc.devRef .tc main_arg4) (ix3 0 k j)
  bd j := V (Proc.devRef .tc main_arg5) (ix2 0 j)
  lng j := V (Proc.devRef .tc main_arg6) (ix2 0 j)
  lnb j := V (Proc.devRef .tc main_arg7) (ix2 0 j)
  ps j := V (Proc.devRef .tc main_arg8) (ix2 0 j)
  wco k j := V (Proc.devRef .tc main_arg9) (ix3 0 k j)
  wpool s k j := V (Proc.devRef .tc main_arg10) (ix4 0 s k j)
  wpo k j := V (Proc.devRef .tc main_arg11) (ix3 0 k j)
  wo k j := V (Proc.devRef .tc main_arg12) (ix3 0 k j)

/-! ## The convolution branch -/

theorem at_z : res_main_v0 V (ix2 i d) = lay (raw V).z (i.val + 256) d := by
  rw [lay_in _ i rfl]
  unfold res_main_v0; clean_types; pointwise
  rfl

theorem part_of (b : ℕ) (hb : b + 1024 ≤ 5120) (h : b + j.val < 5120) : (⟨b + j.val, h⟩ : Fin 5120) = part b j :=
  Fin.ext (Nat.mod_eq_of_lt h).symm

theorem at_part (b : ℕ) (hb : b + 1024 ≤ 5120) (h : b + j.val < 5120) :
    res_main_v0 V (ix2 i ⟨b + j.val, h⟩) = lay (raw V).z (i.val + 256) (part b j) := by
  rw [part_of j b hb h, at_z]

theorem at_mark (k : Fin 31) (s : Fin 4112) :
    (FloatOps.uitofp (F := Ideal) .f32 (IntOp.cmpi .eq (IntOp.subi (BitVec.ofNat 32 s.val) (BitVec.ofNat 32 i.val)) (IntOp.subi (BitVec.ofNat 32 k.val) 15#32)) : EReal)
      = ((if s.val + 15 = i.val + k.val then 1 else 0 : ℝ) : EReal) := by
  have hk := k.isLt
  rw [WordCmp.cmpi_eq_eq, mark]
  refine congrArg _ (if_congr ?_ rfl rfl)
  unfold IntOp.subi
  rw [← BitVec.toNat_inj]
  simp only [BitVec.toNat_sub, BitVec.toNat_ofNat]
  omega

theorem taps (k : Fin 31) : ∑ s : Fin 4112, ((if s.val + 15 = i.val + k.val then 1 else 0 : ℝ) : EReal) * (raw V).act (s.val + 256) c
    = (raw V).act (i.val + 256 + k.val - 15) c :=
  pick_one (fun r => (raw V).act r c) (fun r hr => Args.act_out _ hr c) (fun x => x.val + 15 = i.val + k.val) _ fun x => by omega

theorem at_cpre : res_main_v27 V (ix2 i c) = (raw V).cpre (i.val + 256) c := by
  have hs : ∀ (x : Fin 4112) (h : c.val < 5120), res_main_v0 V (ix2 x ⟨c.val, h⟩) = lay (raw V).z (x.val + 256) (part 0 c) := fun x h =>
    (at_z V x _).trans (congrArg (lay (raw V).z (x.val + 256)) (Fin.ext (by show c.val = (0 + c.val) % 5120; omega)))
  have hg : ∀ (x : Fin 4112) (h : 1024 + c.val < 5120), res_main_v0 V (ix2 x ⟨1024 + c.val, h⟩) = lay (raw V).z (x.val + 256) (part 1024 c) := fun x h =>
    at_part V x c 1024 (by decide) h
  unfold res_main_v27; clean_types; pointwise
  simp only [at_mark, hs, hg]
  exact congrArg (· + _) (Finset.sum_congr rfl fun k _ => congrArg (· * _)
    ((Finset.sum_congr rfl fun s _ => congrArg (_ * ·) (congrArg (_ * ·) (sig_eq _))).trans (taps V i c k)))

theorem at_cen : res_main_v35 V (ix2 i c) = (raw V).cen (i.val + 256) c := by
  unfold res_main_v35; clean_types; pointwise
  simp only [at_cpre]
  first | rfl | (rw [zero_add]; rfl)

theorem at_ln : res_main_v51 V (ix2 i c) = (raw V).ln (i.val + 256) c := by
  unfold res_main_v51; clean_types; pointwise
  simp only [at_cen]
  first | rfl | (rw [zero_add]; rfl)

theorem at_ca : res_main_v52 V (ix2 i c) = (raw V).ca (i.val + 256) c := by
  unfold res_main_v52; clean_types; pointwise
  rw [at_ln]
  exact congrArg _ (sig_eq _)

/-- The convolution branch's product, as the run has it. -/
def resYc : (Proc.devRef .tc main_v54 : DevRef τ sig).ty.Contents (Elt Ideal) :=
  Host.dotGeneral (φ₁ := .f32) (φ₂ := .f32) dot_S4112x1024_S1024x1024_S4112x1024_1_0_0_1_n_n none (res_main_v52 V) (shapeCast _ (V (Proc.devRef .tc main_arg9)) shapeCasts_S1x1024x1024_S1024x1024)

theorem at_yc : resYc V (ix2 i j) = (raw V).yc (i.val + 256) j := by
  unfold resYc; clean_types; pointwise
  simp only [at_ca]
  rfl

/-! ## The pool branch -/

theorem at_mask0 : res_main_v68 V (ix2 i s) = ((if i.val ≤ s.val + 1 ∧ s.val < i.val + 1 then 1 else 0 : ℝ) : EReal) := by
  unfold res_main_v68 res_main_v57 res_main_v58; clean_types; pointwise
  exact in_window i s 1 2 (by decide) rfl
theorem at_mask1 : res_main_v88 V (ix2 i s) = ((if i.val ≤ s.val + 2 ∧ s.val < i.val + 2 then 1 else 0 : ℝ) : EReal) := by
  unfold res_main_v88 res_main_v77 res_main_v78; clean_types; pointwise
  exact in_window i s 2 4 (by decide) rfl
theorem at_mask2 : res_main_v108 V (ix2 i s) = ((if i.val ≤ s.val + 4 ∧ s.val < i.val + 4 then 1 else 0 : ℝ) : EReal) := by
  unfold res_main_v108 res_main_v97 res_main_v98; clean_types; pointwise
  exact in_window i s 4 8 (by decide) rfl
theorem at_mask3 : res_main_v128 V (ix2 i s) = ((if i.val ≤ s.val + 8 ∧ s.val < i.val + 8 then 1 else 0 : ℝ) : EReal) := by
  unfold res_main_v128 res_main_v117 res_main_v118; clean_types; pointwise
  exact in_window i s 8 16 (by decide) rfl

/-- The average over a window less the row, from the marks. -/
theorem mean (u : ℕ) (hu : 1 ≤ u ∧ u ≤ 8) (hr : reach c = u) :
    (Ideal.div (∑ s : Fin 4112, ((if i.val ≤ s.val + u ∧ s.val < i.val + u then 1 else 0 : ℝ) : EReal) * lay (raw V).z (s.val + 256) (part 2048 c))
        (∑ s : Fin 4112, ((if i.val ≤ s.val + u ∧ s.val < i.val + u then 1 else 0 : ℝ) : EReal)) - lay (raw V).z (i.val + 256) (part 2048 c) : EReal)
      = (raw V).m (i.val + 256) c := by
  have hi := i.isLt
  unfold Args.m
  rw [hr, pick_run (fun r => lay (raw V).z r (part 2048 c)) (fun r h => lay_out _ h _) i.val u i.isLt (by omega) _ fun x => Iff.rfl,
    sum_coe, counted i.val u i.isLt ⟨hu.1, by omega⟩ _ fun x => Iff.rfl, size_count hu.1 (by omega)]

theorem at_pool (h : 2048 + c.val < 5120) : res_main_v0 V (ix2 i ⟨2048 + c.val, h⟩) = lay (raw V).z (i.val + 256) (part 2048 c) :=
  at_part V i c 2048 (by decide) h

theorem at_v55 : res_main_v55 V (ix2 i c) = lay (raw V).z (i.val + 256) (part 2048 c) := by
  unfold res_main_v55; clean_types; pointwise
  exact at_pool V i c _

theorem at_m : res_main_v136 V (ix2 i c) = (raw V).m (i.val + 256) c := by
  have hc := c.isLt
  unfold res_main_v136; clean_types; pointwise
  by_cases h0 : c.val < 256
  · rw [dif_pos h0]
    simp only [at_mask0, at_v55]
    exact mean V i c 1 (by decide) (by unfold reach; rw [show c.val / 256 = 0 from by omega]; rfl)
  rw [dif_neg h0]
  by_cases h1 : c.val - 256 < 256
  · rw [dif_pos h1]
    simp only [show 256 + (c.val - 256) = c.val by omega, Fin.eta, at_mask1, at_v55]
    exact mean V i c 2 (by decide) (by unfold reach; rw [show c.val / 256 = 1 from by omega]; rfl)
  rw [dif_neg h1]
  by_cases h2 : c.val - 256 - 256 < 256
  · rw [dif_pos h2]
    simp only [show 512 + (c.val - 256 - 256) = c.val by omega, Fin.eta, at_mask2, at_v55]
    exact mean V i c 4 (by decide) (by unfold reach; rw [show c.val / 256 = 2 from by omega]; rfl)
  · rw [dif_neg h2]
    simp only [show 768 + (c.val - 256 - 256 - 256) = c.val by omega, Fin.eta, at_mask3, at_v55]
    exact mean V i c 8 (by decide) (by unfold reach; rw [show c.val / 256 = 3 from by omega]; rfl)

/-- The groups' products, as the run has them. -/
def resMw : (Proc.devRef .tc main_v141 : DevRef τ sig).ty.Contents (Elt Ideal) :=
  shapeCast _ (transpose S4112x4x256 [2, 0, 1] (Host.dotGeneral (φ₁ := .f32) (φ₂ := .f32) dot_S4x256x256_S4112x4x256_S4x256x4112_1_2_2_0_0_1 none (shapeCast _ (V (Proc.devRef .tc main_arg10)) shapeCasts_S1x4x256x256_S4x256x256) (shapeCast _ (res_main_v136 V) shapeCasts_S4112x1024_S4112x4x256)) transposes_S4x256x4112_S4112x4x256_2_0_1) shapeCasts_S4112x4x256_S4112x1024

theorem at_mw : resMw V (ix2 i j) = (raw V).mw (i.val + 256) j := by
  unfold resMw; clean_types; pointwise
  simp only [at_m]
  have hj := j.isLt
  unfold Args.mw
  refine Finset.sum_congr rfl fun k _ => (mul_comm _ _).trans (congrArg₂ (· * ·) (congrArg ((raw V).m (i.val + 256)) (Fin.ext ?_)) ?_)
  · show j.val / 256 * 256 + k.val = (256 * (j.val / 256) + k.val) % 1024
    have hk := k.isLt
    omega
  · refine congrArg (fun s => V (Proc.devRef .tc main_arg10) (ix4 0 s k ⟨j.val % 256, Nat.mod_lt _ (by decide)⟩)) (Fin.ext ?_)
    show j.val / 256 = j.val / 256 % 4
    omega

theorem at_m2 : res_main_v145 V (ix2 i j) = (raw V).m2 (i.val + 256) j := by
  have e := at_mw V i j
  unfold Args.m2
  rw [← e]
  unfold res_main_v145 resMw; clean_types; pointwise
  rfl

/-- The pool branch's product, as the run has it. -/
def resYp : (Proc.devRef .tc main_v147 : DevRef τ sig).ty.Contents (Elt Ideal) :=
  Host.dotGeneral (φ₁ := .f32) (φ₂ := .f32) dot_S4112x1024_S1024x1024_S4112x1024_1_0_0_1_n_n none (res_main_v145 V) (shapeCast _ (V (Proc.devRef .tc main_arg11)) shapeCasts_S1x1024x1024_S1024x1024)

theorem at_yp : resYp V (ix2 i j) = (raw V).yp (i.val + 256) j := by
  unfold resYp; clean_types; pointwise
  simp only [at_m2]
  rfl

/-! ## The branches joined -/

theorem at_gate (b : ℕ) (hb : b = 0 ∨ b = 1024) (h : b + j.val < 2048) : res_main_v158 V (ix2 i ⟨b + j.val, h⟩)
    = ((sgr (lay (raw V).z (i.val + 256) (part (3072 + b) j) + (raw V).bg (side b j)) : ℝ) : EReal) := by
  unfold res_main_v158; clean_types; pointwise
  have e : (⟨3072 + (b + j.val), by omega⟩ : Fin 5120) = part (3072 + b) j := Fin.ext (by
    show 3072 + (b + j.val) = (3072 + b + j.val) % 5120
    omega)
  have e' : (⟨b + j.val, h⟩ : Fin 2048) = side b j := Fin.ext (Nat.mod_eq_of_lt h).symm
  rw [e, e', at_z]
  exact sig_eq _

theorem at_mg : res_main_v163 V (ix2 i j) = (raw V).mg (i.val + 256) j := by
  have e1 := at_yc V i j
  have e2 := at_yp V i j
  have g0 := at_gate V i j 0 (.inl rfl) (by omega)
  have g1 := at_gate V i j 1024 (.inr rfl) (by omega)
  simp only [Nat.zero_add, Nat.add_zero, Nat.reduceAdd] at g0 g1
  unfold Args.mg
  rw [← e1, ← e2]
  unfold res_main_v163 resYc resYp; clean_types; pointwise
  rw [g0, g1]

/-- The rows with the branches added, as the run has them. -/
def resH1 : (Proc.devRef .tc main_v168 : DevRef τ sig).ty.Contents (Elt Ideal) :=
  addf (concatenate S4112x1024 0 [⟨S16x1024, (V (Proc.devRef .tc main_arg2))⟩, ⟨S4096x1024, (shapeCast _ (V (Proc.devRef .tc main_arg1)) shapeCasts_S1x4096x1024_S4096x1024)⟩] concatenates_S16x1024_S4096x1024_S4112x1024_d0) (Host.dotGeneral (φ₁ := .f32) (φ₂ := .f32) dot_S4112x1024_S1024x1024_S4112x1024_1_0_0_1_n_n none (res_main_v163 V) (shapeCast _ (V (Proc.devRef .tc main_arg12)) shapeCasts_S1x1024x1024_S1024x1024))

theorem at_h1 : resH1 V (ix2 i j) = (raw V).h1 (i.val + 256) j := by
  unfold resH1; clean_types; pointwise
  simp only [at_mg]
  unfold Args.h1
  rw [lay_in _ i rfl]
  rfl

end Cert.Mix.Ref

end
-- ==== Proof.Mix.Claims.lean ====
module

public import proofs.«01_k».proof.Defs
public import proofs.«01_k».proof.Proof.Mix.Result
public import proofs.«01_k».proof.Proof.Mix.Reference
public import proofs.«01_k».proof.Proof.Gen.Kernel5

/-!
# The claims about the mixers' forward call

The frames of the three programs, and the equality of the call's nine results with the reference's at any arguments.
-/

@[expose] public section

set_option maxRecDepth 16384

noncomputable section

namespace Cert.Mix

open Cert.Reduce (pair_ix2)
open Idealize.ShloMosaic Idealize.ShloMosaic.TcCoe Idealize.SL.Sem

theorem frame_kernel : Cert.quiescent_Kernel5 := fun m ρ _ => by
  refine Eq.mp ?_ (frame (F := Bits) m ρ)
  sl_kernel_rfl

theorem frame_ideal : Cert.quiescent_Kernel5Ideal := fun m ρ _ => frame (F := Ideal) m ρ

theorem frame_reference : Cert.quiescent_Reference5Ideal := fun m ρ _ =>
  (θ_run Cert.Reference5Ideal.defs _ _).mono (fun r h => ⟨fun c => (h c).2.2.2.2.2.2.2.2.2,
      sem_eq_zero_of_no_sems (by decide) r.2⟩)
    (Cert.Reference5Ideal.Value.run (F := Ideal) m ρ)

theorem raw_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ)
    (c : Dev Cert.Kernel5Ideal.nD)
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0) ∧
      m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1) ∧
      m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2) ∧
      m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3) ∧
      m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4) ∧
      m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5) ∧
      m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6) ∧
      m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7) ∧
      m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8) ∧
      m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9) ∧
      m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10) ∧
      m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11) ∧
      m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) :
    Ref.raw (StableHlo.launchContents m' c) = raw m c := by
  obtain ⟨e0, e1, e2, e3, e4, e5, e6, e7, e8, e9, e10, e11, e12⟩ := h
  unfold Ref.raw raw
  congr 1
  · exact funext fun i => funext fun k => congrFun e0 (ix3 0 i k)
  · exact funext fun i => funext fun j => congrFun e1 (ix3 0 i j)
  · exact funext fun i => funext fun j => congrFun e2 (ix2 i j)
  · exact funext fun j => congrFun e3 (ix2 0 j)
  · exact funext fun k => funext fun j => congrFun e4 (ix3 0 k j)
  · exact funext fun j => congrFun e5 (ix2 0 j)
  · exact funext fun j => congrFun e6 (ix2 0 j)
  · exact funext fun j => congrFun e7 (ix2 0 j)
  · exact funext fun j => congrFun e8 (ix2 0 j)
  · exact funext fun k => funext fun j => congrFun e9 (ix3 0 k j)
  · exact funext fun s => funext fun k => funext fun j => congrFun e10 (ix4 0 s k j)
  · exact funext fun k => funext fun j => congrFun e11 (ix3 0 k j)
  · exact funext fun k => funext fun j => congrFun e12 (ix3 0 k j)

set_option maxHeartbeats 4000000 in
/-- The kernel's results and the reference's are the same formulas of the same arguments. -/
theorem algebraic : Cert.algebraic_Kernel5Ideal_Reference5Ideal := by
  intro m g m' g' _ hargs
  refine ⟨fun c => tail m c Cert.Kernel5Ideal.main_v18,
    fun c => tail m c Cert.Kernel5Ideal.main_v19,
    fun c => tail m c Cert.Kernel5Ideal.main_v20,
    fun c => tail m c Cert.Kernel5Ideal.main_v21,
    fun c => tail m c Cert.Kernel5Ideal.main_v22,
    fun c => tail m c Cert.Kernel5Ideal.main_v23,
    fun c => tail m c Cert.Kernel5Ideal.main_v24,
    fun c => tail m c Cert.Kernel5Ideal.main_v25,
    fun c => tail m c Cert.Kernel5Ideal.main_v26,
    ?_, ?_⟩
  · exact (θ_run Cert.Kernel5Ideal.defs _ _).mono
      (fun r h c => ⟨(h.1 c).2 _ (Pipeline.mem_restRefs_of Cert.Kernel5Ideal.main_v18 (by decide) (by decide)),
        (h.1 c).2 _ (Pipeline.mem_restRefs_of Cert.Kernel5Ideal.main_v19 (by decide) (by decide)),
        (h.1 c).2 _ (Pipeline.mem_restRefs_of Cert.Kernel5Ideal.main_v20 (by decide) (by decide)),
        (h.1 c).2 _ (Pipeline.mem_restRefs_of Cert.Kernel5Ideal.main_v21 (by decide) (by decide)),
        (h.1 c).2 _ (Pipeline.mem_restRefs_of Cert.Kernel5Ideal.main_v22 (by decide) (by decide)),
        (h.1 c).2 _ (Pipeline.mem_restRefs_of Cert.Kernel5Ideal.main_v23 (by decide) (by decide)),
        (h.1 c).2 _ (Pipeline.mem_restRefs_of Cert.Kernel5Ideal.main_v24 (by decide) (by decide)),
        (h.1 c).2 _ (Pipeline.mem_restRefs_of Cert.Kernel5Ideal.main_v25 (by decide) (by decide)),
        (h.1 c).2 _ (Pipeline.mem_restRefs_of Cert.Kernel5Ideal.main_v26 (by decide) (by decide)), h.2.1 c⟩)
      (θ_run_and (run_arrays m g) (frame m g))
  · refine (θ_run Cert.Reference5Ideal.defs _ _).mono (fun r k c => ?_) (Cert.Reference5Ideal.Value.run (F := Ideal) m' g')
    have e := raw_eq m m' c (hargs c)
    obtain ⟨k0, k1, k2, k3, k4, k5, k6, k7, k8, rest⟩ := k c
    refine ⟨?_, ?_, ?_, ?_, ?_, ?_, ?_, ?_, ?_, rest⟩
    · refine k0.trans (funext fun y => ?_)
      obtain ⟨i, j, rfl⟩ := pair_ix2 y
      exact (Ref.at_h1 (StableHlo.launchContents m' c) i j).trans ((congrArg (fun a : Args => a.h1 (i.val + 256) j) e).trans (tail_h1 m c i j).symm)
    · refine k1.trans (funext fun y => ?_)
      obtain ⟨i, j, rfl⟩ := pair_ix2 y
      exact (Ref.at_yc (StableHlo.launchContents m' c) i j).trans ((congrArg (fun a : Args => a.yc (i.val + 256) j) e).trans (tail_yc m c i j).symm)
    · refine k2.trans (funext fun y => ?_)
      obtain ⟨i, j, rfl⟩ := pair_ix2 y
      exact (Ref.at_yp (StableHlo.launchContents m' c) i j).trans ((congrArg (fun a : Args => a.yp (i.val + 256) j) e).trans (tail_yp m c i j).symm)
    · refine k3.trans (funext fun y => ?_)
      obtain ⟨i, j, rfl⟩ := pair_ix2 y
      exact (Ref.at_mg (StableHlo.launchContents m' c) i j).trans ((congrArg (fun a : Args => a.mg (i.val + 256) j) e).trans (tail_mg m c i j).symm)
    · refine k4.trans (funext fun y => ?_)
      obtain ⟨i, j, rfl⟩ := pair_ix2 y
      exact (Ref.at_ca (StableHlo.launchContents m' c) i j).trans ((congrArg (fun a : Args => a.ca (i.val + 256) j) e).trans (tail_ca m c i j).symm)
    · refine k5.trans (funext fun y => ?_)
      obtain ⟨i, j, rfl⟩ := pair_ix2 y
      exact (Ref.at_cpre (StableHlo.launchContents m' c) i j).trans ((congrArg (fun a : Args => a.cpre (i.val + 256) j) e).trans (tail_cpre m c i j).symm)
    · refine k6.trans (funext fun y => ?_)
      obtain ⟨i, j, rfl⟩ := pair_ix2 y
      exact (Ref.at_m (StableHlo.launchContents m' c) i j).trans ((congrArg (fun a : Args => a.m (i.val + 256) j) e).trans (tail_m m c i j).symm)
    · refine k7.trans (funext fun y => ?_)
      obtain ⟨i, j, rfl⟩ := pair_ix2 y
      exact (Ref.at_mw (StableHlo.launchContents m' c) i j).trans ((congrArg (fun a : Args => a.mw (i.val + 256) j) e).trans (tail_mw m c i j).symm)
    · refine k8.trans (funext fun y => ?_)
      obtain ⟨i, j, rfl⟩ := pair_ix2 y
      exact (Ref.at_m2 (StableHlo.launchContents m' c) i j).trans ((congrArg (fun a : Args => a.m2 (i.val + 256) j) e).trans (tail_m2 m c i j).symm)

end Cert.Mix

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame.Runs
public import proofs.«01_k».proof.Proof.Gen.Reference2Ideal
public import proofs.«01_k».proof.Proof.Gen.Reference2Ideal.Run
public import proofs.«01_k».proof.Proof.Gen.Pre_finite_ffn
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite_halo
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Rows.Claims
public import proofs.«01_k».proof.Proof.Ffn.Claims
public import proofs.«01_k».proof.Proof.Halo.Claims
public import proofs.«01_k».proof.Proof.Norm.Claims
public import proofs.«01_k».proof.Proof.Mix.Claims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.Gen.facts, Cert.Pre_finite_ffn.Gen.facts, Cert.Pre_finite_halo.Gen.facts,
    Cert.Rows.frame_kernel, Cert.Rows.frame_ideal, fun m ρ _ => Cert.Rows.frame_ideal m ρ trivial,
    Cert.Rows.frame_reference, fun m ρ _ => Cert.Rows.frame_reference m ρ trivial,
    Cert.Ffn.frame_kernel, Cert.Ffn.frame_ideal, fun m ρ _ => Cert.Ffn.frame_ideal m ρ trivial,
    Cert.Ffn.frame_reference, fun m ρ _ => Cert.Ffn.frame_reference m ρ trivial,
    Cert.Halo.frame_kernel, Cert.Halo.frame_ideal, fun m ρ _ => Cert.Halo.frame_ideal m ρ trivial,
    Cert.Halo.frame_reference, fun m ρ _ => Cert.Halo.frame_reference m ρ trivial,
    Cert.Norm.frame_kernel, Cert.Norm.frame_ideal, Cert.Norm.frame_reference,
    Cert.Mix.frame_kernel, Cert.Mix.frame_ideal, Cert.Mix.frame_reference,
    trivial, Cert.Rows.algebraic, trivial, Cert.Ffn.algebraic, trivial, Cert.Halo.algebraic,
    trivial, Cert.Norm.algebraic, trivial, Cert.Mix.algebraic⟩

end Cert.Proof

end
